-- ==== Defs.lean ====
def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_gate_finite [hPre_gate_finite : Cert.Pre_gate_finite.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_gate_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).1 = (fun _ => 1#1)
    ∧ (Cert.Pre_gate_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2.1 = (fun _ => 1#1)
    ∧ (Cert.Pre_gate_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2.2.1 = (fun _ => 1#1)
    ∧ (Cert.Pre_gate_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2.2.2 = (fun _ => 1#1)

def Pre_GateGradIdeal (m : (ℓ : Loc Cert.GateGradIdeal.nD Cert.GateGradIdeal.τ Cert.GateGradIdeal.sig) → Buf (Elt Ideal) ℓ) : Prop :=
  True

def Pre_GateGradIdeal_gate_finite [hPre_gate_finite : Cert.Pre_gate_finite.Facts] (m : (ℓ : Loc Cert.GateGradIdeal.nD Cert.GateGradIdeal.τ Cert.GateGradIdeal.sig) → Buf (Elt Ideal) ℓ) : Prop :=
  ∀ c : Dev Cert.GateGradIdeal.nD,
    (Cert.Pre_gate_finite.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))).1 = (fun _ => 1#1)
    ∧ (Cert.Pre_gate_finite.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))).2.1 = (fun _ => 1#1)
    ∧ (Cert.Pre_gate_finite.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))).2.2.1 = (fun _ => 1#1)
    ∧ (Cert.Pre_gate_finite.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))).2.2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.2 = (fun _ => 1#1)

def Pre_AttnGradIdeal (m : (ℓ : Loc Cert.AttnGradIdeal.nD Cert.AttnGradIdeal.τ Cert.AttnGradIdeal.sig) → Buf (Elt Ideal) ℓ) : Prop :=
  True

def Pre_AttnGradIdeal_attn_finite [hPre_attn_finite : Cert.Pre_attn_finite.Facts] (m : (ℓ : Loc Cert.AttnGradIdeal.nD Cert.AttnGradIdeal.τ Cert.AttnGradIdeal.sig) → Buf (Elt Ideal) ℓ) : Prop :=
  ∀ c : Dev Cert.AttnGradIdeal.nD,
    (Cert.Pre_attn_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2))).1 = (fun _ => 1#1)
    ∧ (Cert.Pre_attn_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2))).2.1 = (fun _ => 1#1)
    ∧ (Cert.Pre_attn_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2))).2.2 = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolGradIdeal (m : (ℓ : Loc Cert.PoolGradIdeal.nD Cert.PoolGradIdeal.τ Cert.PoolGradIdeal.sig) → Buf (Elt Ideal) ℓ) : Prop :=
  True

def Pre_CrossBwd (m : (ℓ : Loc Cert.CrossBwd.nD Cert.CrossBwd.τ Cert.CrossBwd.sig) → Buf (Elt Bits) ℓ) : Prop :=
  True

def Pre_CrossBwdIdeal (m : (ℓ : Loc Cert.CrossBwdIdeal.nD Cert.CrossBwdIdeal.τ Cert.CrossBwdIdeal.sig) → Buf (Elt Ideal) ℓ) : Prop :=
  True

def Pre_CrossBwdIdeal_cross_finite [hPre_cross_finite : Cert.Pre_cross_finite.Facts] (m : (ℓ : Loc Cert.CrossBwdIdeal.nD Cert.CrossBwdIdeal.τ Cert.CrossBwdIdeal.sig) → Buf (Elt Ideal) ℓ) : Prop :=
  ∀ c : Dev Cert.CrossBwdIdeal.nD,
    (Cert.Pre_cross_finite.fn (F := Ideal) (m ((c.tc : Thread Cert.CrossBwdIdeal.nD Cert.CrossBwdIdeal.τ).loc Cert.CrossBwdIdeal.main_arg0)) (m ((c.tc : Thread Cert.CrossBwdIdeal.nD Cert.CrossBwdIdeal.τ).loc Cert.CrossBwdIdeal.main_arg1)) (m ((c.tc : Thread Cert.CrossBwdIdeal.nD Cert.CrossBwdIdeal.τ).loc Cert.CrossBwdIdeal.main_arg2))).1 = (fun _ => 1#1)
    ∧ (Cert.Pre_cross_finite.fn (F := Ideal) (m ((c.tc : Thread Cert.CrossBwdIdeal.nD Cert.CrossBwdIdeal.τ).loc Cert.CrossBwdIdeal.main_arg0)) (m ((c.tc : Thread Cert.CrossBwdIdeal.nD Cert.CrossBwdIdeal.τ).loc Cert.CrossBwdIdeal.main_arg1)) (m ((c.tc : Thread Cert.CrossBwdIdeal.nD Cert.CrossBwdIdeal.τ).loc Cert.CrossBwdIdeal.main_arg2))).2.1 = (fun _ => 1#1)
    ∧ (Cert.Pre_cross_finite.fn (F := Ideal) (m ((c.tc : Thread Cert.CrossBwdIdeal.nD Cert.CrossBwdIdeal.τ).loc Cert.CrossBwdIdeal.main_arg0)) (m ((c.tc : Thread Cert.CrossBwdIdeal.nD Cert.CrossBwdIdeal.τ).loc Cert.CrossBwdIdeal.main_arg1)) (m ((c.tc : Thread Cert.CrossBwdIdeal.nD Cert.CrossBwdIdeal.τ).loc Cert.CrossBwdIdeal.main_arg2))).2.2 = (fun _ => 1#1)

def Pre_CrossGradIdeal (m : (ℓ : Loc Cert.CrossGradIdeal.nD Cert.CrossGradIdeal.τ Cert.CrossGradIdeal.sig) → Buf (Elt Ideal) ℓ) : Prop :=
  True

def Pre_CrossGradIdeal_cross_finite [hPre_cross_finite : Cert.Pre_cross_finite.Facts] (m : (ℓ : Loc Cert.CrossGradIdeal.nD Cert.CrossGradIdeal.τ Cert.CrossGradIdeal.sig) → Buf (Elt Ideal) ℓ) : Prop :=
  ∀ c : Dev Cert.CrossGradIdeal.nD,
    (Cert.Pre_cross_finite.fn (F := Ideal) (m ((c.tc : Thread Cert.CrossGradIdeal.nD Cert.CrossGradIdeal.τ).loc Cert.CrossGradIdeal.main_arg0)) (m ((c.tc : Thread Cert.CrossGradIdeal.nD Cert.CrossGradIdeal.τ).loc Cert.CrossGradIdeal.main_arg1)) (m ((c.tc : Thread Cert.CrossGradIdeal.nD Cert.CrossGradIdeal.τ).loc Cert.CrossGradIdeal.main_arg2))).1 = (fun _ => 1#1)
    ∧ (Cert.Pre_cross_finite.fn (F := Ideal) (m ((c.tc : Thread Cert.CrossGradIdeal.nD Cert.CrossGradIdeal.τ).loc Cert.CrossGradIdeal.main_arg0)) (m ((c.tc : Thread Cert.CrossGradIdeal.nD Cert.CrossGradIdeal.τ).loc Cert.CrossGradIdeal.main_arg1)) (m ((c.tc : Thread Cert.CrossGradIdeal.nD Cert.CrossGradIdeal.τ).loc Cert.CrossGradIdeal.main_arg2))).2.1 = (fun _ => 1#1)
    ∧ (Cert.Pre_cross_finite.fn (F := Ideal) (m ((c.tc : Thread Cert.CrossGradIdeal.nD Cert.CrossGradIdeal.τ).loc Cert.CrossGradIdeal.main_arg0)) (m ((c.tc : Thread Cert.CrossGradIdeal.nD Cert.CrossGradIdeal.τ).loc Cert.CrossGradIdeal.main_arg1)) (m ((c.tc : Thread Cert.CrossGradIdeal.nD Cert.CrossGradIdeal.τ).loc Cert.CrossGradIdeal.main_arg2))).2.2 = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_norm_finite [hPre_norm_finite : Cert.Pre_norm_finite.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3))).1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3))).2.1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3))).2.2 = (fun _ => 1#1)

def Pre_NormGradIdeal (m : (ℓ : Loc Cert.NormGradIdeal.nD Cert.NormGradIdeal.τ Cert.NormGradIdeal.sig) → Buf (Elt Ideal) ℓ) : Prop :=
  True

def Pre_NormGradIdeal_norm_finite [hPre_norm_finite : Cert.Pre_norm_finite.Facts] (m : (ℓ : Loc Cert.NormGradIdeal.nD Cert.NormGradIdeal.τ Cert.NormGradIdeal.sig) → Buf (Elt Ideal) ℓ) : Prop :=
  ∀ c : Dev Cert.NormGradIdeal.nD,
    (Cert.Pre_norm_finite.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3))).1 = (fun _ => 1#1)
    ∧ (Cert.Pre_norm_finite.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3))).2.1 = (fun _ => 1#1)
    ∧ (Cert.Pre_norm_finite.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3))).2.2 = (fun _ => 1#1)

def Pre_FirstBwd (m : (ℓ : Loc Cert.FirstBwd.nD Cert.FirstBwd.τ Cert.FirstBwd.sig) → Buf (Elt Bits) ℓ) : Prop :=
  True

def Pre_FirstBwdIdeal (m : (ℓ : Loc Cert.FirstBwdIdeal.nD Cert.FirstBwdIdeal.τ Cert.FirstBwdIdeal.sig) → Buf (Elt Ideal) ℓ) : Prop :=
  True

def Pre_FirstBwdIdeal_norm_finite [hPre_norm_finite : Cert.Pre_norm_finite.Facts] (m : (ℓ : Loc Cert.FirstBwdIdeal.nD Cert.FirstBwdIdeal.τ Cert.FirstBwdIdeal.sig) → Buf (Elt Ideal) ℓ) : Prop :=
  ∀ c : Dev Cert.FirstBwdIdeal.nD,
    (Cert.Pre_norm_finite.fn (F := Ideal) (m ((c.tc : Thread Cert.FirstBwdIdeal.nD Cert.FirstBwdIdeal.τ).loc Cert.FirstBwdIdeal.main_arg0)) (m ((c.tc : Thread Cert.FirstBwdIdeal.nD Cert.FirstBwdIdeal.τ).loc Cert.FirstBwdIdeal.main_arg1)) (m ((c.tc : Thread Cert.FirstBwdIdeal.nD Cert.FirstBwdIdeal.τ).loc Cert.FirstBwdIdeal.main_arg2)) (m ((c.tc : Thread Cert.FirstBwdIdeal.nD Cert.FirstBwdIdeal.τ).loc Cert.FirstBwdIdeal.main_arg3))).1 = (fun _ => 1#1)
    ∧ (Cert.Pre_norm_finite.fn (F := Ideal) (m ((c.tc : Thread Cert.FirstBwdIdeal.nD Cert.FirstBwdIdeal.τ).loc Cert.FirstBwdIdeal.main_arg0)) (m ((c.tc : Thread Cert.FirstBwdIdeal.nD Cert.FirstBwdIdeal.τ).loc Cert.FirstBwdIdeal.main_arg1)) (m ((c.tc : Thread Cert.FirstBwdIdeal.nD Cert.FirstBwdIdeal.τ).loc Cert.FirstBwdIdeal.main_arg2)) (m ((c.tc : Thread Cert.FirstBwdIdeal.nD Cert.FirstBwdIdeal.τ).loc Cert.FirstBwdIdeal.main_arg3))).2.1 = (fun _ => 1#1)
    ∧ (Cert.Pre_norm_finite.fn (F := Ideal) (m ((c.tc : Thread Cert.FirstBwdIdeal.nD Cert.FirstBwdIdeal.τ).loc Cert.FirstBwdIdeal.main_arg0)) (m ((c.tc : Thread Cert.FirstBwdIdeal.nD Cert.FirstBwdIdeal.τ).loc Cert.FirstBwdIdeal.main_arg1)) (m ((c.tc : Thread Cert.FirstBwdIdeal.nD Cert.FirstBwdIdeal.τ).loc Cert.FirstBwdIdeal.main_arg2)) (m ((c.tc : Thread Cert.FirstBwdIdeal.nD Cert.FirstBwdIdeal.τ).loc Cert.FirstBwdIdeal.main_arg3))).2.2 = (fun _ => 1#1)

def Pre_FirstGradIdeal (m : (ℓ : Loc Cert.FirstGradIdeal.nD Cert.FirstGradIdeal.τ Cert.FirstGradIdeal.sig) → Buf (Elt Ideal) ℓ) : Prop :=
  True

def Pre_FirstGradIdeal_norm_finite [hPre_norm_finite : Cert.Pre_norm_finite.Facts] (m : (ℓ : Loc Cert.FirstGradIdeal.nD Cert.FirstGradIdeal.τ Cert.FirstGradIdeal.sig) → Buf (Elt Ideal) ℓ) : Prop :=
  ∀ c : Dev Cert.FirstGradIdeal.nD,
    (Cert.Pre_norm_finite.fn (F := Ideal) (m ((c.tc : Thread Cert.FirstGradIdeal.nD Cert.FirstGradIdeal.τ).loc Cert.FirstGradIdeal.main_arg0)) (m ((c.tc : Thread Cert.FirstGradIdeal.nD Cert.FirstGradIdeal.τ).loc Cert.FirstGradIdeal.main_arg1)) (m ((c.tc : Thread Cert.FirstGradIdeal.nD Cert.FirstGradIdeal.τ).loc Cert.FirstGradIdeal.main_arg2)) (m ((c.tc : Thread Cert.FirstGradIdeal.nD Cert.FirstGradIdeal.τ).loc Cert.FirstGradIdeal.main_arg3))).1 = (fun _ => 1#1)
    ∧ (Cert.Pre_norm_finite.fn (F := Ideal) (m ((c.tc : Thread Cert.FirstGradIdeal.nD Cert.FirstGradIdeal.τ).loc Cert.FirstGradIdeal.main_arg0)) (m ((c.tc : Thread Cert.FirstGradIdeal.nD Cert.FirstGradIdeal.τ).loc Cert.FirstGradIdeal.main_arg1)) (m ((c.tc : Thread Cert.FirstGradIdeal.nD Cert.FirstGradIdeal.τ).loc Cert.FirstGradIdeal.main_arg2)) (m ((c.tc : Thread Cert.FirstGradIdeal.nD Cert.FirstGradIdeal.τ).loc Cert.FirstGradIdeal.main_arg3))).2.1 = (fun _ => 1#1)
    ∧ (Cert.Pre_norm_finite.fn (F := Ideal) (m ((c.tc : Thread Cert.FirstGradIdeal.nD Cert.FirstGradIdeal.τ).loc Cert.FirstGradIdeal.main_arg0)) (m ((c.tc : Thread Cert.FirstGradIdeal.nD Cert.FirstGradIdeal.τ).loc Cert.FirstGradIdeal.main_arg1)) (m ((c.tc : Thread Cert.FirstGradIdeal.nD Cert.FirstGradIdeal.τ).loc Cert.FirstGradIdeal.main_arg2)) (m ((c.tc : Thread Cert.FirstGradIdeal.nD Cert.FirstGradIdeal.τ).loc Cert.FirstGradIdeal.main_arg3))).2.2 = (fun _ => 1#1)

def Pre_MemoryBwd (m : (ℓ : Loc Cert.MemoryBwd.nD Cert.MemoryBwd.τ Cert.MemoryBwd.sig) → Buf (Elt Bits) ℓ) : Prop :=
  True

def Pre_MemoryBwdIdeal (m : (ℓ : Loc Cert.MemoryBwdIdeal.nD Cert.MemoryBwdIdeal.τ Cert.MemoryBwdIdeal.sig) → Buf (Elt Ideal) ℓ) : Prop :=
  True

def Pre_MemoryBwdIdeal_memory_finite [hPre_memory_finite : Cert.Pre_memory_finite.Facts] (m : (ℓ : Loc Cert.MemoryBwdIdeal.nD Cert.MemoryBwdIdeal.τ Cert.MemoryBwdIdeal.sig) → Buf (Elt Ideal) ℓ) : Prop :=
  ∀ c : Dev Cert.MemoryBwdIdeal.nD,
    (Cert.Pre_memory_finite.fn (F := Ideal) (m ((c.tc : Thread Cert.MemoryBwdIdeal.nD Cert.MemoryBwdIdeal.τ).loc Cert.MemoryBwdIdeal.main_arg0)) (m ((c.tc : Thread Cert.MemoryBwdIdeal.nD Cert.MemoryBwdIdeal.τ).loc Cert.MemoryBwdIdeal.main_arg1)) (m ((c.tc : Thread Cert.MemoryBwdIdeal.nD Cert.MemoryBwdIdeal.τ).loc Cert.MemoryBwdIdeal.main_arg2))).1 = (fun _ => 1#1)
    ∧ (Cert.Pre_memory_finite.fn (F := Ideal) (m ((c.tc : Thread Cert.MemoryBwdIdeal.nD Cert.MemoryBwdIdeal.τ).loc Cert.MemoryBwdIdeal.main_arg0)) (m ((c.tc : Thread Cert.MemoryBwdIdeal.nD Cert.MemoryBwdIdeal.τ).loc Cert.MemoryBwdIdeal.main_arg1)) (m ((c.tc : Thread Cert.MemoryBwdIdeal.nD Cert.MemoryBwdIdeal.τ).loc Cert.MemoryBwdIdeal.main_arg2))).2.1 = (fun _ => 1#1)
    ∧ (Cert.Pre_memory_finite.fn (F := Ideal) (m ((c.tc : Thread Cert.MemoryBwdIdeal.nD Cert.MemoryBwdIdeal.τ).loc Cert.MemoryBwdIdeal.main_arg0)) (m ((c.tc : Thread Cert.MemoryBwdIdeal.nD Cert.MemoryBwdIdeal.τ).loc Cert.MemoryBwdIdeal.main_arg1)) (m ((c.tc : Thread Cert.MemoryBwdIdeal.nD Cert.MemoryBwdIdeal.τ).loc Cert.MemoryBwdIdeal.main_arg2))).2.2 = (fun _ => 1#1)

def Pre_MemoryGradIdeal (m : (ℓ : Loc Cert.MemoryGradIdeal.nD Cert.MemoryGradIdeal.τ Cert.MemoryGradIdeal.sig) → Buf (Elt Ideal) ℓ) : Prop :=
  True

def Pre_MemoryGradIdeal_memory_finite [hPre_memory_finite : Cert.Pre_memory_finite.Facts] (m : (ℓ : Loc Cert.MemoryGradIdeal.nD Cert.MemoryGradIdeal.τ Cert.MemoryGradIdeal.sig) → Buf (Elt Ideal) ℓ) : Prop :=
  ∀ c : Dev Cert.MemoryGradIdeal.nD,
    (Cert.Pre_memory_finite.fn (F := Ideal) (m ((c.tc : Thread Cert.MemoryGradIdeal.nD Cert.MemoryGradIdeal.τ).loc Cert.MemoryGradIdeal.main_arg0)) (m ((c.tc : Thread Cert.MemoryGradIdeal.nD Cert.MemoryGradIdeal.τ).loc Cert.MemoryGradIdeal.main_arg1)) (m ((c.tc : Thread Cert.MemoryGradIdeal.nD Cert.MemoryGradIdeal.τ).loc Cert.MemoryGradIdeal.main_arg2))).1 = (fun _ => 1#1)
    ∧ (Cert.Pre_memory_finite.fn (F := Ideal) (m ((c.tc : Thread Cert.MemoryGradIdeal.nD Cert.MemoryGradIdeal.τ).loc Cert.MemoryGradIdeal.main_arg0)) (m ((c.tc : Thread Cert.MemoryGradIdeal.nD Cert.MemoryGradIdeal.τ).loc Cert.MemoryGradIdeal.main_arg1)) (m ((c.tc : Thread Cert.MemoryGradIdeal.nD Cert.MemoryGradIdeal.τ).loc Cert.MemoryGradIdeal.main_arg2))).2.1 = (fun _ => 1#1)
    ∧ (Cert.Pre_memory_finite.fn (F := Ideal) (m ((c.tc : Thread Cert.MemoryGradIdeal.nD Cert.MemoryGradIdeal.τ).loc Cert.MemoryGradIdeal.main_arg0)) (m ((c.tc : Thread Cert.MemoryGradIdeal.nD Cert.MemoryGradIdeal.τ).loc Cert.MemoryGradIdeal.main_arg1)) (m ((c.tc : Thread Cert.MemoryGradIdeal.nD Cert.MemoryGradIdeal.τ).loc Cert.MemoryGradIdeal.main_arg2))).2.2 = (fun _ => 1#1)

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdIdeal_loss_finite [hPre_loss_finite : Cert.Pre_loss_finite.Facts] (m : (ℓ : Loc Cert.LossBwdIdeal.nD Cert.LossBwdIdeal.τ Cert.LossBwdIdeal.sig) → Buf (Elt Ideal) ℓ) : Prop :=
  ∀ c : Dev Cert.LossBwdIdeal.nD,
    (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2))).1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2))).2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2))).2.2 = (fun _ => 1#1)

def Pre_LossGradIdeal (m : (ℓ : Loc Cert.LossGradIdeal.nD Cert.LossGradIdeal.τ Cert.LossGradIdeal.sig) → Buf (Elt Ideal) ℓ) : Prop :=
  True

def Pre_LossGradIdeal_loss_finite [hPre_loss_finite : Cert.Pre_loss_finite.Facts] (m : (ℓ : Loc Cert.LossGradIdeal.nD Cert.LossGradIdeal.τ Cert.LossGradIdeal.sig) → Buf (Elt Ideal) ℓ) : Prop :=
  ∀ c : Dev Cert.LossGradIdeal.nD,
    (Cert.Pre_loss_finite.fn (F := Ideal) (m ((c.tc : Thread Cert.LossGradIdeal.nD Cert.LossGradIdeal.τ).loc Cert.LossGradIdeal.main_arg0)) (m ((c.tc : Thread Cert.LossGradIdeal.nD Cert.LossGradIdeal.τ).loc Cert.LossGradIdeal.main_arg1)) (m ((c.tc : Thread Cert.LossGradIdeal.nD Cert.LossGradIdeal.τ).loc Cert.LossGradIdeal.main_arg2))).1 = (fun _ => 1#1)
    ∧ (Cert.Pre_loss_finite.fn (F := Ideal) (m ((c.tc : Thread Cert.LossGradIdeal.nD Cert.LossGradIdeal.τ).loc Cert.LossGradIdeal.main_arg0)) (m ((c.tc : Thread Cert.LossGradIdeal.nD Cert.LossGradIdeal.τ).loc Cert.LossGradIdeal.main_arg1)) (m ((c.tc : Thread Cert.LossGradIdeal.nD Cert.LossGradIdeal.τ).loc Cert.LossGradIdeal.main_arg2))).2.1 = (fun _ => 1#1)
    ∧ (Cert.Pre_loss_finite.fn (F := Ideal) (m ((c.tc : Thread Cert.LossGradIdeal.nD Cert.LossGradIdeal.τ).loc Cert.LossGradIdeal.main_arg0)) (m ((c.tc : Thread Cert.LossGradIdeal.nD Cert.LossGradIdeal.τ).loc Cert.LossGradIdeal.main_arg1)) (m ((c.tc : Thread Cert.LossGradIdeal.nD Cert.LossGradIdeal.τ).loc Cert.LossGradIdeal.main_arg2))).2.2 = (fun _ => 1#1)

def Pre_BiasBwd (m : (ℓ : Loc Cert.BiasBwd.nD Cert.BiasBwd.τ Cert.BiasBwd.sig) → Buf (Elt Bits) ℓ) : Prop :=
  True

def Pre_BiasBwdIdeal (m : (ℓ : Loc Cert.BiasBwdIdeal.nD Cert.BiasBwdIdeal.τ Cert.BiasBwdIdeal.sig) → Buf (Elt Ideal) ℓ) : Prop :=
  True

def Pre_BiasGradIdeal (m : (ℓ : Loc Cert.BiasGradIdeal.nD Cert.BiasGradIdeal.τ Cert.BiasGradIdeal.sig) → Buf (Elt Ideal) ℓ) : Prop :=
  True

def Pre_CrossFwd (m : (ℓ : Loc Cert.CrossFwd.nD Cert.CrossFwd.τ Cert.CrossFwd.sig) → Buf (Elt Bits) ℓ) : Prop :=
  True

def Pre_CrossFwdIdeal (m : (ℓ : Loc Cert.CrossFwdIdeal.nD Cert.CrossFwdIdeal.τ Cert.CrossFwdIdeal.sig) → Buf (Elt Ideal) ℓ) : Prop :=
  True

def Pre_CrossFwdIdeal_cross_forward_finite [hPre_cross_forward_finite : Cert.Pre_cross_forward_finite.Facts] (m : (ℓ : Loc Cert.CrossFwdIdeal.nD Cert.CrossFwdIdeal.τ Cert.CrossFwdIdeal.sig) → Buf (Elt Ideal) ℓ) : Prop :=
  ∀ c : Dev Cert.CrossFwdIdeal.nD,
    (Cert.Pre_cross_forward_finite.fn (F := Ideal) (m ((c.tc : Thread Cert.CrossFwdIdeal.nD Cert.CrossFwdIdeal.τ).loc Cert.CrossFwdIdeal.main_arg0)) (m ((c.tc : Thread Cert.CrossFwdIdeal.nD Cert.CrossFwdIdeal.τ).loc Cert.CrossFwdIdeal.main_arg1))).1 = (fun _ => 1#1)
    ∧ (Cert.Pre_cross_forward_finite.fn (F := Ideal) (m ((c.tc : Thread Cert.CrossFwdIdeal.nD Cert.CrossFwdIdeal.τ).loc Cert.CrossFwdIdeal.main_arg0)) (m ((c.tc : Thread Cert.CrossFwdIdeal.nD Cert.CrossFwdIdeal.τ).loc Cert.CrossFwdIdeal.main_arg1))).2 = (fun _ => 1#1)

def Pre_CrossPlainIdeal (m : (ℓ : Loc Cert.CrossPlainIdeal.nD Cert.CrossPlainIdeal.τ Cert.CrossPlainIdeal.sig) → Buf (Elt Ideal) ℓ) : Prop :=
  True

def Pre_CrossPlainIdeal_cross_forward_finite [hPre_cross_forward_finite : Cert.Pre_cross_forward_finite.Facts] (m : (ℓ : Loc Cert.CrossPlainIdeal.nD Cert.CrossPlainIdeal.τ Cert.CrossPlainIdeal.sig) → Buf (Elt Ideal) ℓ) : Prop :=
  ∀ c : Dev Cert.CrossPlainIdeal.nD,
    (Cert.Pre_cross_forward_finite.fn (F := Ideal) (m ((c.tc : Thread Cert.CrossPlainIdeal.nD Cert.CrossPlainIdeal.τ).loc Cert.CrossPlainIdeal.main_arg0)) (m ((c.tc : Thread Cert.CrossPlainIdeal.nD Cert.CrossPlainIdeal.τ).loc Cert.CrossPlainIdeal.main_arg1))).1 = (fun _ => 1#1)
    ∧ (Cert.Pre_cross_forward_finite.fn (F := Ideal) (m ((c.tc : Thread Cert.CrossPlainIdeal.nD Cert.CrossPlainIdeal.τ).loc Cert.CrossPlainIdeal.main_arg0)) (m ((c.tc : Thread Cert.CrossPlainIdeal.nD Cert.CrossPlainIdeal.τ).loc Cert.CrossPlainIdeal.main_arg1))).2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_forward_finite [hPre_attn_forward_finite : Cert.Pre_attn_forward_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_forward_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).1 = (fun _ => 1#1)
    ∧ (Cert.Pre_attn_forward_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).2 = (fun _ => 1#1)

def Pre_AttnPlainIdeal (m : (ℓ : Loc Cert.AttnPlainIdeal.nD Cert.AttnPlainIdeal.τ Cert.AttnPlainIdeal.sig) → Buf (Elt Ideal) ℓ) : Prop :=
  True

def Pre_AttnPlainIdeal_attn_forward_finite [hPre_attn_forward_finite : Cert.Pre_attn_forward_finite.Facts] (m : (ℓ : Loc Cert.AttnPlainIdeal.nD Cert.AttnPlainIdeal.τ Cert.AttnPlainIdeal.sig) → Buf (Elt Ideal) ℓ) : Prop :=
  ∀ c : Dev Cert.AttnPlainIdeal.nD,
    (Cert.Pre_attn_forward_finite.fn (F := Ideal) (m ((c.tc : Thread Cert.AttnPlainIdeal.nD Cert.AttnPlainIdeal.τ).loc Cert.AttnPlainIdeal.main_arg0)) (m ((c.tc : Thread Cert.AttnPlainIdeal.nD Cert.AttnPlainIdeal.τ).loc Cert.AttnPlainIdeal.main_arg1))).1 = (fun _ => 1#1)
    ∧ (Cert.Pre_attn_forward_finite.fn (F := Ideal) (m ((c.tc : Thread Cert.AttnPlainIdeal.nD Cert.AttnPlainIdeal.τ).loc Cert.AttnPlainIdeal.main_arg0)) (m ((c.tc : Thread Cert.AttnPlainIdeal.nD Cert.AttnPlainIdeal.τ).loc Cert.AttnPlainIdeal.main_arg1))).2 = (fun _ => 1#1)

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolPlainIdeal (m : (ℓ : Loc Cert.PoolPlainIdeal.nD Cert.PoolPlainIdeal.τ Cert.PoolPlainIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormPlainIdeal (m : (ℓ : Loc Cert.NormPlainIdeal.nD Cert.NormPlainIdeal.τ Cert.NormPlainIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GatePlainIdeal (m : (ℓ : Loc Cert.GatePlainIdeal.nD Cert.GatePlainIdeal.τ Cert.GatePlainIdeal.sig) → Buf (Elt Ideal) ℓ) : Prop :=
  True

def Pre_QueryFwd (m : (ℓ : Loc Cert.QueryFwd.nD Cert.QueryFwd.τ Cert.QueryFwd.sig) → Buf (Elt Bits) ℓ) : Prop :=
  True

def Pre_QueryFwdIdeal (m : (ℓ : Loc Cert.QueryFwdIdeal.nD Cert.QueryFwdIdeal.τ Cert.QueryFwdIdeal.sig) → Buf (Elt Ideal) ℓ) : Prop :=
  True

def Pre_QueryPlainIdeal (m : (ℓ : Loc Cert.QueryPlainIdeal.nD Cert.QueryPlainIdeal.τ Cert.QueryPlainIdeal.sig) → Buf (Elt Ideal) ℓ) : Prop :=
  True

def Pre_TileFwd (m : (ℓ : Loc Cert.TileFwd.nD Cert.TileFwd.τ Cert.TileFwd.sig) → Buf (Elt Bits) ℓ) : Prop :=
  True

def Pre_TileFwdIdeal (m : (ℓ : Loc Cert.TileFwdIdeal.nD Cert.TileFwdIdeal.τ Cert.TileFwdIdeal.sig) → Buf (Elt Ideal) ℓ) : Prop :=
  True

def Pre_TilePlainIdeal (m : (ℓ : Loc Cert.TilePlainIdeal.nD Cert.TilePlainIdeal.τ Cert.TilePlainIdeal.sig) → Buf (Elt Ideal) ℓ) : Prop :=
  True

def Pre_OutMul (m : (ℓ : Loc Cert.OutMul.nD Cert.OutMul.τ Cert.OutMul.sig) → Buf (Elt Bits) ℓ) : Prop :=
  True

def Pre_OutMulIdeal (m : (ℓ : Loc Cert.OutMulIdeal.nD Cert.OutMulIdeal.τ Cert.OutMulIdeal.sig) → Buf (Elt Ideal) ℓ) : Prop :=
  True

def Pre_OutPlainIdeal (m : (ℓ : Loc Cert.OutPlainIdeal.nD Cert.OutPlainIdeal.τ Cert.OutPlainIdeal.sig) → Buf (Elt Ideal) ℓ) : Prop :=
  True

def Pre_InMul (m : (ℓ : Loc Cert.InMul.nD Cert.InMul.τ Cert.InMul.sig) → Buf (Elt Bits) ℓ) : Prop :=
  True

def Pre_InMulIdeal (m : (ℓ : Loc Cert.InMulIdeal.nD Cert.InMulIdeal.τ Cert.InMulIdeal.sig) → Buf (Elt Ideal) ℓ) : Prop :=
  True

def Pre_InPlainIdeal (m : (ℓ : Loc Cert.InPlainIdeal.nD Cert.InPlainIdeal.τ Cert.InPlainIdeal.sig) → Buf (Elt Ideal) ℓ) : Prop :=
  True

def Pre_BackMul (m : (ℓ : Loc Cert.BackMul.nD Cert.BackMul.τ Cert.BackMul.sig) → Buf (Elt Bits) ℓ) : Prop :=
  True

def Pre_BackMulIdeal (m : (ℓ : Loc Cert.BackMulIdeal.nD Cert.BackMulIdeal.τ Cert.BackMulIdeal.sig) → Buf (Elt Ideal) ℓ) : Prop :=
  True

def Pre_BackPlainIdeal (m : (ℓ : Loc Cert.BackPlainIdeal.nD Cert.BackPlainIdeal.τ Cert.BackPlainIdeal.sig) → Buf (Elt Ideal) ℓ) : Prop :=
  True

def Pre_ColumnsMul (m : (ℓ : Loc Cert.ColumnsMul.nD Cert.ColumnsMul.τ Cert.ColumnsMul.sig) → Buf (Elt Bits) ℓ) : Prop :=
  True

def Pre_ColumnsMulIdeal (m : (ℓ : Loc Cert.ColumnsMulIdeal.nD Cert.ColumnsMulIdeal.τ Cert.ColumnsMulIdeal.sig) → Buf (Elt Ideal) ℓ) : Prop :=
  True

def Pre_ColumnsPlainIdeal (m : (ℓ : Loc Cert.ColumnsPlainIdeal.nD Cert.ColumnsPlainIdeal.τ Cert.ColumnsPlainIdeal.sig) → Buf (Elt Ideal) ℓ) : Prop :=
  True

def Pre_WeightMul (m : (ℓ : Loc Cert.WeightMul.nD Cert.WeightMul.τ Cert.WeightMul.sig) → Buf (Elt Bits) ℓ) : Prop :=
  True

def Pre_WeightMulIdeal (m : (ℓ : Loc Cert.WeightMulIdeal.nD Cert.WeightMulIdeal.τ Cert.WeightMulIdeal.sig) → Buf (Elt Ideal) ℓ) : Prop :=
  True

def Pre_WeightPlainIdeal (m : (ℓ : Loc Cert.WeightPlainIdeal.nD Cert.WeightPlainIdeal.τ Cert.WeightPlainIdeal.sig) → Buf (Elt Ideal) ℓ) : Prop :=
  True

def Pre_DownMul (m : (ℓ : Loc Cert.DownMul.nD Cert.DownMul.τ Cert.DownMul.sig) → Buf (Elt Bits) ℓ) : Prop :=
  True

def Pre_DownMulIdeal (m : (ℓ : Loc Cert.DownMulIdeal.nD Cert.DownMulIdeal.τ Cert.DownMulIdeal.sig) → Buf (Elt Ideal) ℓ) : Prop :=
  True

def Pre_DownPlainIdeal (m : (ℓ : Loc Cert.DownPlainIdeal.nD Cert.DownPlainIdeal.τ Cert.DownPlainIdeal.sig) → Buf (Elt Ideal) ℓ) : Prop :=
  True

def Pre_HiddenMul (m : (ℓ : Loc Cert.HiddenMul.nD Cert.HiddenMul.τ Cert.HiddenMul.sig) → Buf (Elt Bits) ℓ) : Prop :=
  True

def Pre_HiddenMulIdeal (m : (ℓ : Loc Cert.HiddenMulIdeal.nD Cert.HiddenMulIdeal.τ Cert.HiddenMulIdeal.sig) → Buf (Elt Ideal) ℓ) : Prop :=
  True

def Pre_HiddenPlainIdeal (m : (ℓ : Loc Cert.HiddenPlainIdeal.nD Cert.HiddenPlainIdeal.τ Cert.HiddenPlainIdeal.sig) → Buf (Elt Ideal) ℓ) : Prop :=
  True

def Pre_IntoMul (m : (ℓ : Loc Cert.IntoMul.nD Cert.IntoMul.τ Cert.IntoMul.sig) → Buf (Elt Bits) ℓ) : Prop :=
  True

def Pre_IntoMulIdeal (m : (ℓ : Loc Cert.IntoMulIdeal.nD Cert.IntoMulIdeal.τ Cert.IntoMulIdeal.sig) → Buf (Elt Ideal) ℓ) : Prop :=
  True

def Pre_IntoPlainIdeal (m : (ℓ : Loc Cert.IntoPlainIdeal.nD Cert.IntoPlainIdeal.τ Cert.IntoPlainIdeal.sig) → Buf (Elt Ideal) ℓ) : Prop :=
  True

def Pre_AdamStep (m : (ℓ : Loc Cert.AdamStep.nD Cert.AdamStep.τ Cert.AdamStep.sig) → Buf (Elt Bits) ℓ) : Prop :=
  True

def Pre_AdamStepIdeal (m : (ℓ : Loc Cert.AdamStepIdeal.nD Cert.AdamStepIdeal.τ Cert.AdamStepIdeal.sig) → Buf (Elt Ideal) ℓ) : Prop :=
  True

def Pre_AdamPlainIdeal (m : (ℓ : Loc Cert.AdamPlainIdeal.nD Cert.AdamPlainIdeal.τ Cert.AdamPlainIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpPlainIdeal (m : (ℓ : Loc Cert.UpPlainIdeal.nD Cert.UpPlainIdeal.τ Cert.UpPlainIdeal.sig) → Buf (Elt Ideal) ℓ) : Prop :=
  True

def Pre_PackAll (m : (ℓ : Loc Cert.PackAll.nD Cert.PackAll.τ Cert.PackAll.sig) → Buf (Elt Bits) ℓ) : Prop :=
  True

def Pre_PackAllIdeal (m : (ℓ : Loc Cert.PackAllIdeal.nD Cert.PackAllIdeal.τ Cert.PackAllIdeal.sig) → Buf (Elt Ideal) ℓ) : Prop :=
  True

def Pre_PackPlainIdeal (m : (ℓ : Loc Cert.PackPlainIdeal.nD Cert.PackPlainIdeal.τ Cert.PackPlainIdeal.sig) → Buf (Elt Ideal) ℓ) : Prop :=
  True

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdIdeal_pre_gate_finite [hGateBwdIdeal : Cert.GateBwdIdeal.Facts] [hPre_gate_finite : Cert.Pre_gate_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_gate_finite m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3))
      ∧ r.2.sem = fun _ => 0)

def quiescent_GateGradIdeal_pre_gate_finite [hGateGradIdeal : Cert.GateGradIdeal.Facts] [hPre_gate_finite : Cert.Pre_gate_finite.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal_gate_finite m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnGradIdeal [hAttnGradIdeal : Cert.AttnGradIdeal.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2))
      ∧ r.2.sem = fun _ => 0)

def quiescent_AttnGradIdeal_pre_attn_finite [hAttnGradIdeal : Cert.AttnGradIdeal.Facts] [hPre_attn_finite : Cert.Pre_attn_finite.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal_attn_finite m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3)
      ∧ r.2.mem ((c.tc : Thread Cert.PoolBwd.nD Cert.PoolBwd.τ).loc Cert.PoolBwd.main_arg4) = m ((c.tc : Thread Cert.PoolBwd.nD Cert.PoolBwd.τ).loc Cert.PoolBwd.main_arg4))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ r.2.sem = fun _ => 0)

def quiescent_PoolGradIdeal [hPoolGradIdeal : Cert.PoolGradIdeal.Facts] : Prop :=
  ∀ (m : (ℓ : Loc Cert.PoolGradIdeal.nD Cert.PoolGradIdeal.τ Cert.PoolGradIdeal.sig) → Buf (Elt Ideal) ℓ) (g : Dev Cert.PoolGradIdeal.nD → PrngReg), Pre_PoolGradIdeal m →
    θ_run (Cert.PoolGradIdeal.defs (F := Ideal)) (onTc (τ := Cert.PoolGradIdeal.τ) (Cert.PoolGradIdeal.main (F := Ideal))) ⟨m, fun _ => 0, g⟩ (fun r => (∀ c : Dev Cert.PoolGradIdeal.nD,
      r.2.mem ((c.tc : Thread Cert.PoolGradIdeal.nD Cert.PoolGradIdeal.τ).loc Cert.PoolGradIdeal.main_arg0) = m ((c.tc : Thread Cert.PoolGradIdeal.nD Cert.PoolGradIdeal.τ).loc Cert.PoolGradIdeal.main_arg0)
      ∧ r.2.mem ((c.tc : Thread Cert.PoolGradIdeal.nD Cert.PoolGradIdeal.τ).loc Cert.PoolGradIdeal.main_arg1) = m ((c.tc : Thread Cert.PoolGradIdeal.nD Cert.PoolGradIdeal.τ).loc Cert.PoolGradIdeal.main_arg1)
      ∧ r.2.mem ((c.tc : Thread Cert.PoolGradIdeal.nD Cert.PoolGradIdeal.τ).loc Cert.PoolGradIdeal.main_arg2) = m ((c.tc : Thread Cert.PoolGradIdeal.nD Cert.PoolGradIdeal.τ).loc Cert.PoolGradIdeal.main_arg2)
      ∧ r.2.mem ((c.tc : Thread Cert.PoolGradIdeal.nD Cert.PoolGradIdeal.τ).loc Cert.PoolGradIdeal.main_arg3) = m ((c.tc : Thread Cert.PoolGradIdeal.nD Cert.PoolGradIdeal.τ).loc Cert.PoolGradIdeal.main_arg3)
      ∧ r.2.mem ((c.tc : Thread Cert.PoolGradIdeal.nD Cert.PoolGradIdeal.τ).loc Cert.PoolGradIdeal.main_arg4) = m ((c.tc : Thread Cert.PoolGradIdeal.nD Cert.PoolGradIdeal.τ).loc Cert.PoolGradIdeal.main_arg4))
      ∧ r.2.sem = fun _ => 0)

def quiescent_CrossBwd [hCrossBwd : Cert.CrossBwd.Facts] : Prop :=
  ∀ (m : (ℓ : Loc Cert.CrossBwd.nD Cert.CrossBwd.τ Cert.CrossBwd.sig) → Buf (Elt Bits) ℓ) (g : Dev Cert.CrossBwd.nD → PrngReg), Pre_CrossBwd m →
    θ_run (Cert.CrossBwd.defs (F := Bits)) (onTc (τ := Cert.CrossBwd.τ) (Cert.CrossBwd.main (F := Bits))) ⟨m, fun _ => 0, g⟩ (fun r => (∀ c : Dev Cert.CrossBwd.nD,
      r.2.mem ((c.tc : Thread Cert.CrossBwd.nD Cert.CrossBwd.τ).loc Cert.CrossBwd.main_arg0) = m ((c.tc : Thread Cert.CrossBwd.nD Cert.CrossBwd.τ).loc Cert.CrossBwd.main_arg0)
      ∧ r.2.mem ((c.tc : Thread Cert.CrossBwd.nD Cert.CrossBwd.τ).loc Cert.CrossBwd.main_arg1) = m ((c.tc : Thread Cert.CrossBwd.nD Cert.CrossBwd.τ).loc Cert.CrossBwd.main_arg1)
      ∧ r.2.mem ((c.tc : Thread Cert.CrossBwd.nD Cert.CrossBwd.τ).loc Cert.CrossBwd.main_arg2) = m ((c.tc : Thread Cert.CrossBwd.nD Cert.CrossBwd.τ).loc Cert.CrossBwd.main_arg2))
      ∧ r.2.sem = fun _ => 0)

def quiescent_CrossBwdIdeal [hCrossBwdIdeal : Cert.CrossBwdIdeal.Facts] : Prop :=
  ∀ (m : (ℓ : Loc Cert.CrossBwdIdeal.nD Cert.CrossBwdIdeal.τ Cert.CrossBwdIdeal.sig) → Buf (Elt Ideal) ℓ) (g : Dev Cert.CrossBwdIdeal.nD → PrngReg), Pre_CrossBwdIdeal m →
    θ_run (Cert.CrossBwdIdeal.defs (F := Ideal)) (onTc (τ := Cert.CrossBwdIdeal.τ) (Cert.CrossBwdIdeal.main (F := Ideal))) ⟨m, fun _ => 0, g⟩ (fun r => (∀ c : Dev Cert.CrossBwdIdeal.nD,
      r.2.mem ((c.tc : Thread Cert.CrossBwdIdeal.nD Cert.CrossBwdIdeal.τ).loc Cert.CrossBwdIdeal.main_arg0) = m ((c.tc : Thread Cert.CrossBwdIdeal.nD Cert.CrossBwdIdeal.τ).loc Cert.CrossBwdIdeal.main_arg0)
      ∧ r.2.mem ((c.tc : Thread Cert.CrossBwdIdeal.nD Cert.CrossBwdIdeal.τ).loc Cert.CrossBwdIdeal.main_arg1) = m ((c.tc : Thread Cert.CrossBwdIdeal.nD Cert.CrossBwdIdeal.τ).loc Cert.CrossBwdIdeal.main_arg1)
      ∧ r.2.mem ((c.tc : Thread Cert.CrossBwdIdeal.nD Cert.CrossBwdIdeal.τ).loc Cert.CrossBwdIdeal.main_arg2) = m ((c.tc : Thread Cert.CrossBwdIdeal.nD Cert.CrossBwdIdeal.τ).loc Cert.CrossBwdIdeal.main_arg2))
      ∧ r.2.sem = fun _ => 0)

def quiescent_CrossBwdIdeal_pre_cross_finite [hCrossBwdIdeal : Cert.CrossBwdIdeal.Facts] [hPre_cross_finite : Cert.Pre_cross_finite.Facts] : Prop :=
  ∀ (m : (ℓ : Loc Cert.CrossBwdIdeal.nD Cert.CrossBwdIdeal.τ Cert.CrossBwdIdeal.sig) → Buf (Elt Ideal) ℓ) (g : Dev Cert.CrossBwdIdeal.nD → PrngReg), Pre_CrossBwdIdeal_cross_finite m →
    θ_run (Cert.CrossBwdIdeal.defs (F := Ideal)) (onTc (τ := Cert.CrossBwdIdeal.τ) (Cert.CrossBwdIdeal.main (F := Ideal))) ⟨m, fun _ => 0, g⟩ (fun r => (∀ c : Dev Cert.CrossBwdIdeal.nD,
      r.2.mem ((c.tc : Thread Cert.CrossBwdIdeal.nD Cert.CrossBwdIdeal.τ).loc Cert.CrossBwdIdeal.main_arg0) = m ((c.tc : Thread Cert.CrossBwdIdeal.nD Cert.CrossBwdIdeal.τ).loc Cert.CrossBwdIdeal.main_arg0)
      ∧ r.2.mem ((c.tc : Thread Cert.CrossBwdIdeal.nD Cert.CrossBwdIdeal.τ).loc Cert.CrossBwdIdeal.main_arg1) = m ((c.tc : Thread Cert.CrossBwdIdeal.nD Cert.CrossBwdIdeal.τ).loc Cert.CrossBwdIdeal.main_arg1)
      ∧ r.2.mem ((c.tc : Thread Cert.CrossBwdIdeal.nD Cert.CrossBwdIdeal.τ).loc Cert.CrossBwdIdeal.main_arg2) = m ((c.tc : Thread Cert.CrossBwdIdeal.nD Cert.CrossBwdIdeal.τ).loc Cert.CrossBwdIdeal.main_arg2))
      ∧ r.2.sem = fun _ => 0)

def quiescent_CrossGradIdeal [hCrossGradIdeal : Cert.CrossGradIdeal.Facts] : Prop :=
  ∀ (m : (ℓ : Loc Cert.CrossGradIdeal.nD Cert.CrossGradIdeal.τ Cert.CrossGradIdeal.sig) → Buf (Elt Ideal) ℓ) (g : Dev Cert.CrossGradIdeal.nD → PrngReg), Pre_CrossGradIdeal m →
    θ_run (Cert.CrossGradIdeal.defs (F := Ideal)) (onTc (τ := Cert.CrossGradIdeal.τ) (Cert.CrossGradIdeal.main (F := Ideal))) ⟨m, fun _ => 0, g⟩ (fun r => (∀ c : Dev Cert.CrossGradIdeal.nD,
      r.2.mem ((c.tc : Thread Cert.CrossGradIdeal.nD Cert.CrossGradIdeal.τ).loc Cert.CrossGradIdeal.main_arg0) = m ((c.tc : Thread Cert.CrossGradIdeal.nD Cert.CrossGradIdeal.τ).loc Cert.CrossGradIdeal.main_arg0)
      ∧ r.2.mem ((c.tc : Thread Cert.CrossGradIdeal.nD Cert.CrossGradIdeal.τ).loc Cert.CrossGradIdeal.main_arg1) = m ((c.tc : Thread Cert.CrossGradIdeal.nD Cert.CrossGradIdeal.τ).loc Cert.CrossGradIdeal.main_arg1)
      ∧ r.2.mem ((c.tc : Thread Cert.CrossGradIdeal.nD Cert.CrossGradIdeal.τ).loc Cert.CrossGradIdeal.main_arg2) = m ((c.tc : Thread Cert.CrossGradIdeal.nD Cert.CrossGradIdeal.τ).loc Cert.CrossGradIdeal.main_arg2))
      ∧ r.2.sem = fun _ => 0)

def quiescent_CrossGradIdeal_pre_cross_finite [hCrossGradIdeal : Cert.CrossGradIdeal.Facts] [hPre_cross_finite : Cert.Pre_cross_finite.Facts] : Prop :=
  ∀ (m : (ℓ : Loc Cert.CrossGradIdeal.nD Cert.CrossGradIdeal.τ Cert.CrossGradIdeal.sig) → Buf (Elt Ideal) ℓ) (g : Dev Cert.CrossGradIdeal.nD → PrngReg), Pre_CrossGradIdeal_cross_finite m →
    θ_run (Cert.CrossGradIdeal.defs (F := Ideal)) (onTc (τ := Cert.CrossGradIdeal.τ) (Cert.CrossGradIdeal.main (F := Ideal))) ⟨m, fun _ => 0, g⟩ (fun r => (∀ c : Dev Cert.CrossGradIdeal.nD,
      r.2.mem ((c.tc : Thread Cert.CrossGradIdeal.nD Cert.CrossGradIdeal.τ).loc Cert.CrossGradIdeal.main_arg0) = m ((c.tc : Thread Cert.CrossGradIdeal.nD Cert.CrossGradIdeal.τ).loc Cert.CrossGradIdeal.main_arg0)
      ∧ r.2.mem ((c.tc : Thread Cert.CrossGradIdeal.nD Cert.CrossGradIdeal.τ).loc Cert.CrossGradIdeal.main_arg1) = m ((c.tc : Thread Cert.CrossGradIdeal.nD Cert.CrossGradIdeal.τ).loc Cert.CrossGradIdeal.main_arg1)
      ∧ r.2.mem ((c.tc : Thread Cert.CrossGradIdeal.nD Cert.CrossGradIdeal.τ).loc Cert.CrossGradIdeal.main_arg2) = m ((c.tc : Thread Cert.CrossGradIdeal.nD Cert.CrossGradIdeal.τ).loc Cert.CrossGradIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdIdeal_pre_norm_finite [hNormBwdIdeal : Cert.NormBwdIdeal.Facts] [hPre_norm_finite : Cert.Pre_norm_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_norm_finite m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_NormGradIdeal_pre_norm_finite [hNormGradIdeal : Cert.NormGradIdeal.Facts] [hPre_norm_finite : Cert.Pre_norm_finite.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal_norm_finite m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_FirstBwd [hFirstBwd : Cert.FirstBwd.Facts] : Prop :=
  ∀ (m : (ℓ : Loc Cert.FirstBwd.nD Cert.FirstBwd.τ Cert.FirstBwd.sig) → Buf (Elt Bits) ℓ) (g : Dev Cert.FirstBwd.nD → PrngReg), Pre_FirstBwd m →
    θ_run (Cert.FirstBwd.defs (F := Bits)) (onTc (τ := Cert.FirstBwd.τ) (Cert.FirstBwd.main (F := Bits))) ⟨m, fun _ => 0, g⟩ (fun r => (∀ c : Dev Cert.FirstBwd.nD,
      r.2.mem ((c.tc : Thread Cert.FirstBwd.nD Cert.FirstBwd.τ).loc Cert.FirstBwd.main_arg0) = m ((c.tc : Thread Cert.FirstBwd.nD Cert.FirstBwd.τ).loc Cert.FirstBwd.main_arg0)
      ∧ r.2.mem ((c.tc : Thread Cert.FirstBwd.nD Cert.FirstBwd.τ).loc Cert.FirstBwd.main_arg1) = m ((c.tc : Thread Cert.FirstBwd.nD Cert.FirstBwd.τ).loc Cert.FirstBwd.main_arg1)
      ∧ r.2.mem ((c.tc : Thread Cert.FirstBwd.nD Cert.FirstBwd.τ).loc Cert.FirstBwd.main_arg2) = m ((c.tc : Thread Cert.FirstBwd.nD Cert.FirstBwd.τ).loc Cert.FirstBwd.main_arg2)
      ∧ r.2.mem ((c.tc : Thread Cert.FirstBwd.nD Cert.FirstBwd.τ).loc Cert.FirstBwd.main_arg3) = m ((c.tc : Thread Cert.FirstBwd.nD Cert.FirstBwd.τ).loc Cert.FirstBwd.main_arg3))
      ∧ r.2.sem = fun _ => 0)

def quiescent_FirstBwdIdeal [hFirstBwdIdeal : Cert.FirstBwdIdeal.Facts] : Prop :=
  ∀ (m : (ℓ : Loc Cert.FirstBwdIdeal.nD Cert.FirstBwdIdeal.τ Cert.FirstBwdIdeal.sig) → Buf (Elt Ideal) ℓ) (g : Dev Cert.FirstBwdIdeal.nD → PrngReg), Pre_FirstBwdIdeal m →
    θ_run (Cert.FirstBwdIdeal.defs (F := Ideal)) (onTc (τ := Cert.FirstBwdIdeal.τ) (Cert.FirstBwdIdeal.main (F := Ideal))) ⟨m, fun _ => 0, g⟩ (fun r => (∀ c : Dev Cert.FirstBwdIdeal.nD,
      r.2.mem ((c.tc : Thread Cert.FirstBwdIdeal.nD Cert.FirstBwdIdeal.τ).loc Cert.FirstBwdIdeal.main_arg0) = m ((c.tc : Thread Cert.FirstBwdIdeal.nD Cert.FirstBwdIdeal.τ).loc Cert.FirstBwdIdeal.main_arg0)
      ∧ r.2.mem ((c.tc : Thread Cert.FirstBwdIdeal.nD Cert.FirstBwdIdeal.τ).loc Cert.FirstBwdIdeal.main_arg1) = m ((c.tc : Thread Cert.FirstBwdIdeal.nD Cert.FirstBwdIdeal.τ).loc Cert.FirstBwdIdeal.main_arg1)
      ∧ r.2.mem ((c.tc : Thread Cert.FirstBwdIdeal.nD Cert.FirstBwdIdeal.τ).loc Cert.FirstBwdIdeal.main_arg2) = m ((c.tc : Thread Cert.FirstBwdIdeal.nD Cert.FirstBwdIdeal.τ).loc Cert.FirstBwdIdeal.main_arg2)
      ∧ r.2.mem ((c.tc : Thread Cert.FirstBwdIdeal.nD Cert.FirstBwdIdeal.τ).loc Cert.FirstBwdIdeal.main_arg3) = m ((c.tc : Thread Cert.FirstBwdIdeal.nD Cert.FirstBwdIdeal.τ).loc Cert.FirstBwdIdeal.main_arg3))
      ∧ r.2.sem = fun _ => 0)

def quiescent_FirstBwdIdeal_pre_norm_finite [hFirstBwdIdeal : Cert.FirstBwdIdeal.Facts] [hPre_norm_finite : Cert.Pre_norm_finite.Facts] : Prop :=
  ∀ (m : (ℓ : Loc Cert.FirstBwdIdeal.nD Cert.FirstBwdIdeal.τ Cert.FirstBwdIdeal.sig) → Buf (Elt Ideal) ℓ) (g : Dev Cert.FirstBwdIdeal.nD → PrngReg), Pre_FirstBwdIdeal_norm_finite m →
    θ_run (Cert.FirstBwdIdeal.defs (F := Ideal)) (onTc (τ := Cert.FirstBwdIdeal.τ) (Cert.FirstBwdIdeal.main (F := Ideal))) ⟨m, fun _ => 0, g⟩ (fun r => (∀ c : Dev Cert.FirstBwdIdeal.nD,
      r.2.mem ((c.tc : Thread Cert.FirstBwdIdeal.nD Cert.FirstBwdIdeal.τ).loc Cert.FirstBwdIdeal.main_arg0) = m ((c.tc : Thread Cert.FirstBwdIdeal.nD Cert.FirstBwdIdeal.τ).loc Cert.FirstBwdIdeal.main_arg0)
      ∧ r.2.mem ((c.tc : Thread Cert.FirstBwdIdeal.nD Cert.FirstBwdIdeal.τ).loc Cert.FirstBwdIdeal.main_arg1) = m ((c.tc : Thread Cert.FirstBwdIdeal.nD Cert.FirstBwdIdeal.τ).loc Cert.FirstBwdIdeal.main_arg1)
      ∧ r.2.mem ((c.tc : Thread Cert.FirstBwdIdeal.nD Cert.FirstBwdIdeal.τ).loc Cert.FirstBwdIdeal.main_arg2) = m ((c.tc : Thread Cert.FirstBwdIdeal.nD Cert.FirstBwdIdeal.τ).loc Cert.FirstBwdIdeal.main_arg2)
      ∧ r.2.mem ((c.tc : Thread Cert.FirstBwdIdeal.nD Cert.FirstBwdIdeal.τ).loc Cert.FirstBwdIdeal.main_arg3) = m ((c.tc : Thread Cert.FirstBwdIdeal.nD Cert.FirstBwdIdeal.τ).loc Cert.FirstBwdIdeal.main_arg3))
      ∧ r.2.sem = fun _ => 0)

def quiescent_FirstGradIdeal [hFirstGradIdeal : Cert.FirstGradIdeal.Facts] : Prop :=
  ∀ (m : (ℓ : Loc Cert.FirstGradIdeal.nD Cert.FirstGradIdeal.τ Cert.FirstGradIdeal.sig) → Buf (Elt Ideal) ℓ) (g : Dev Cert.FirstGradIdeal.nD → PrngReg), Pre_FirstGradIdeal m →
    θ_run (Cert.FirstGradIdeal.defs (F := Ideal)) (onTc (τ := Cert.FirstGradIdeal.τ) (Cert.FirstGradIdeal.main (F := Ideal))) ⟨m, fun _ => 0, g⟩ (fun r => (∀ c : Dev Cert.FirstGradIdeal.nD,
      r.2.mem ((c.tc : Thread Cert.FirstGradIdeal.nD Cert.FirstGradIdeal.τ).loc Cert.FirstGradIdeal.main_arg0) = m ((c.tc : Thread Cert.FirstGradIdeal.nD Cert.FirstGradIdeal.τ).loc Cert.FirstGradIdeal.main_arg0)
      ∧ r.2.mem ((c.tc : Thread Cert.FirstGradIdeal.nD Cert.FirstGradIdeal.τ).loc Cert.FirstGradIdeal.main_arg1) = m ((c.tc : Thread Cert.FirstGradIdeal.nD Cert.FirstGradIdeal.τ).loc Cert.FirstGradIdeal.main_arg1)
      ∧ r.2.mem ((c.tc : Thread Cert.FirstGradIdeal.nD Cert.FirstGradIdeal.τ).loc Cert.FirstGradIdeal.main_arg2) = m ((c.tc : Thread Cert.FirstGradIdeal.nD Cert.FirstGradIdeal.τ).loc Cert.FirstGradIdeal.main_arg2)
      ∧ r.2.mem ((c.tc : Thread Cert.FirstGradIdeal.nD Cert.FirstGradIdeal.τ).loc Cert.FirstGradIdeal.main_arg3) = m ((c.tc : Thread Cert.FirstGradIdeal.nD Cert.FirstGradIdeal.τ).loc Cert.FirstGradIdeal.main_arg3))
      ∧ r.2.sem = fun _ => 0)

def quiescent_FirstGradIdeal_pre_norm_finite [hFirstGradIdeal : Cert.FirstGradIdeal.Facts] [hPre_norm_finite : Cert.Pre_norm_finite.Facts] : Prop :=
  ∀ (m : (ℓ : Loc Cert.FirstGradIdeal.nD Cert.FirstGradIdeal.τ Cert.FirstGradIdeal.sig) → Buf (Elt Ideal) ℓ) (g : Dev Cert.FirstGradIdeal.nD → PrngReg), Pre_FirstGradIdeal_norm_finite m →
    θ_run (Cert.FirstGradIdeal.defs (F := Ideal)) (onTc (τ := Cert.FirstGradIdeal.τ) (Cert.FirstGradIdeal.main (F := Ideal))) ⟨m, fun _ => 0, g⟩ (fun r => (∀ c : Dev Cert.FirstGradIdeal.nD,
      r.2.mem ((c.tc : Thread Cert.FirstGradIdeal.nD Cert.FirstGradIdeal.τ).loc Cert.FirstGradIdeal.main_arg0) = m ((c.tc : Thread Cert.FirstGradIdeal.nD Cert.FirstGradIdeal.τ).loc Cert.FirstGradIdeal.main_arg0)
      ∧ r.2.mem ((c.tc : Thread Cert.FirstGradIdeal.nD Cert.FirstGradIdeal.τ).loc Cert.FirstGradIdeal.main_arg1) = m ((c.tc : Thread Cert.FirstGradIdeal.nD Cert.FirstGradIdeal.τ).loc Cert.FirstGradIdeal.main_arg1)
      ∧ r.2.mem ((c.tc : Thread Cert.FirstGradIdeal.nD Cert.FirstGradIdeal.τ).loc Cert.FirstGradIdeal.main_arg2) = m ((c.tc : Thread Cert.FirstGradIdeal.nD Cert.FirstGradIdeal.τ).loc Cert.FirstGradIdeal.main_arg2)
      ∧ r.2.mem ((c.tc : Thread Cert.FirstGradIdeal.nD Cert.FirstGradIdeal.τ).loc Cert.FirstGradIdeal.main_arg3) = m ((c.tc : Thread Cert.FirstGradIdeal.nD Cert.FirstGradIdeal.τ).loc Cert.FirstGradIdeal.main_arg3))
      ∧ r.2.sem = fun _ => 0)

def quiescent_MemoryBwd [hMemoryBwd : Cert.MemoryBwd.Facts] : Prop :=
  ∀ (m : (ℓ : Loc Cert.MemoryBwd.nD Cert.MemoryBwd.τ Cert.MemoryBwd.sig) → Buf (Elt Bits) ℓ) (g : Dev Cert.MemoryBwd.nD → PrngReg), Pre_MemoryBwd m →
    θ_run (Cert.MemoryBwd.defs (F := Bits)) (onTc (τ := Cert.MemoryBwd.τ) (Cert.MemoryBwd.main (F := Bits))) ⟨m, fun _ => 0, g⟩ (fun r => (∀ c : Dev Cert.MemoryBwd.nD,
      r.2.mem ((c.tc : Thread Cert.MemoryBwd.nD Cert.MemoryBwd.τ).loc Cert.MemoryBwd.main_arg0) = m ((c.tc : Thread Cert.MemoryBwd.nD Cert.MemoryBwd.τ).loc Cert.MemoryBwd.main_arg0)
      ∧ r.2.mem ((c.tc : Thread Cert.MemoryBwd.nD Cert.MemoryBwd.τ).loc Cert.MemoryBwd.main_arg1) = m ((c.tc : Thread Cert.MemoryBwd.nD Cert.MemoryBwd.τ).loc Cert.MemoryBwd.main_arg1)
      ∧ r.2.mem ((c.tc : Thread Cert.MemoryBwd.nD Cert.MemoryBwd.τ).loc Cert.MemoryBwd.main_arg2) = m ((c.tc : Thread Cert.MemoryBwd.nD Cert.MemoryBwd.τ).loc Cert.MemoryBwd.main_arg2))
      ∧ r.2.sem = fun _ => 0)

def quiescent_MemoryBwdIdeal [hMemoryBwdIdeal : Cert.MemoryBwdIdeal.Facts] : Prop :=
  ∀ (m : (ℓ : Loc Cert.MemoryBwdIdeal.nD Cert.MemoryBwdIdeal.τ Cert.MemoryBwdIdeal.sig) → Buf (Elt Ideal) ℓ) (g : Dev Cert.MemoryBwdIdeal.nD → PrngReg), Pre_MemoryBwdIdeal m →
    θ_run (Cert.MemoryBwdIdeal.defs (F := Ideal)) (onTc (τ := Cert.MemoryBwdIdeal.τ) (Cert.MemoryBwdIdeal.main (F := Ideal))) ⟨m, fun _ => 0, g⟩ (fun r => (∀ c : Dev Cert.MemoryBwdIdeal.nD,
      r.2.mem ((c.tc : Thread Cert.MemoryBwdIdeal.nD Cert.MemoryBwdIdeal.τ).loc Cert.MemoryBwdIdeal.main_arg0) = m ((c.tc : Thread Cert.MemoryBwdIdeal.nD Cert.MemoryBwdIdeal.τ).loc Cert.MemoryBwdIdeal.main_arg0)
      ∧ r.2.mem ((c.tc : Thread Cert.MemoryBwdIdeal.nD Cert.MemoryBwdIdeal.τ).loc Cert.MemoryBwdIdeal.main_arg1) = m ((c.tc : Thread Cert.MemoryBwdIdeal.nD Cert.MemoryBwdIdeal.τ).loc Cert.MemoryBwdIdeal.main_arg1)
      ∧ r.2.mem ((c.tc : Thread Cert.MemoryBwdIdeal.nD Cert.MemoryBwdIdeal.τ).loc Cert.MemoryBwdIdeal.main_arg2) = m ((c.tc : Thread Cert.MemoryBwdIdeal.nD Cert.MemoryBwdIdeal.τ).loc Cert.MemoryBwdIdeal.main_arg2))
      ∧ r.2.sem = fun _ => 0)

def quiescent_MemoryBwdIdeal_pre_memory_finite [hMemoryBwdIdeal : Cert.MemoryBwdIdeal.Facts] [hPre_memory_finite : Cert.Pre_memory_finite.Facts] : Prop :=
  ∀ (m : (ℓ : Loc Cert.MemoryBwdIdeal.nD Cert.MemoryBwdIdeal.τ Cert.MemoryBwdIdeal.sig) → Buf (Elt Ideal) ℓ) (g : Dev Cert.MemoryBwdIdeal.nD → PrngReg), Pre_MemoryBwdIdeal_memory_finite m →
    θ_run (Cert.MemoryBwdIdeal.defs (F := Ideal)) (onTc (τ := Cert.MemoryBwdIdeal.τ) (Cert.MemoryBwdIdeal.main (F := Ideal))) ⟨m, fun _ => 0, g⟩ (fun r => (∀ c : Dev Cert.MemoryBwdIdeal.nD,
      r.2.mem ((c.tc : Thread Cert.MemoryBwdIdeal.nD Cert.MemoryBwdIdeal.τ).loc Cert.MemoryBwdIdeal.main_arg0) = m ((c.tc : Thread Cert.MemoryBwdIdeal.nD Cert.MemoryBwdIdeal.τ).loc Cert.MemoryBwdIdeal.main_arg0)
      ∧ r.2.mem ((c.tc : Thread Cert.MemoryBwdIdeal.nD Cert.MemoryBwdIdeal.τ).loc Cert.MemoryBwdIdeal.main_arg1) = m ((c.tc : Thread Cert.MemoryBwdIdeal.nD Cert.MemoryBwdIdeal.τ).loc Cert.MemoryBwdIdeal.main_arg1)
      ∧ r.2.mem ((c.tc : Thread Cert.MemoryBwdIdeal.nD Cert.MemoryBwdIdeal.τ).loc Cert.MemoryBwdIdeal.main_arg2) = m ((c.tc : Thread Cert.MemoryBwdIdeal.nD Cert.MemoryBwdIdeal.τ).loc Cert.MemoryBwdIdeal.main_arg2))
      ∧ r.2.sem = fun _ => 0)

def quiescent_MemoryGradIdeal [hMemoryGradIdeal : Cert.MemoryGradIdeal.Facts] : Prop :=
  ∀ (m : (ℓ : Loc Cert.MemoryGradIdeal.nD Cert.MemoryGradIdeal.τ Cert.MemoryGradIdeal.sig) → Buf (Elt Ideal) ℓ) (g : Dev Cert.MemoryGradIdeal.nD → PrngReg), Pre_MemoryGradIdeal m →
    θ_run (Cert.MemoryGradIdeal.defs (F := Ideal)) (onTc (τ := Cert.MemoryGradIdeal.τ) (Cert.MemoryGradIdeal.main (F := Ideal))) ⟨m, fun _ => 0, g⟩ (fun r => (∀ c : Dev Cert.MemoryGradIdeal.nD,
      r.2.mem ((c.tc : Thread Cert.MemoryGradIdeal.nD Cert.MemoryGradIdeal.τ).loc Cert.MemoryGradIdeal.main_arg0) = m ((c.tc : Thread Cert.MemoryGradIdeal.nD Cert.MemoryGradIdeal.τ).loc Cert.MemoryGradIdeal.main_arg0)
      ∧ r.2.mem ((c.tc : Thread Cert.MemoryGradIdeal.nD Cert.MemoryGradIdeal.τ).loc Cert.MemoryGradIdeal.main_arg1) = m ((c.tc : Thread Cert.MemoryGradIdeal.nD Cert.MemoryGradIdeal.τ).loc Cert.MemoryGradIdeal.main_arg1)
      ∧ r.2.mem ((c.tc : Thread Cert.MemoryGradIdeal.nD Cert.MemoryGradIdeal.τ).loc Cert.MemoryGradIdeal.main_arg2) = m ((c.tc : Thread Cert.MemoryGradIdeal.nD Cert.MemoryGradIdeal.τ).loc Cert.MemoryGradIdeal.main_arg2))
      ∧ r.2.sem = fun _ => 0)

def quiescent_MemoryGradIdeal_pre_memory_finite [hMemoryGradIdeal : Cert.MemoryGradIdeal.Facts] [hPre_memory_finite : Cert.Pre_memory_finite.Facts] : Prop :=
  ∀ (m : (ℓ : Loc Cert.MemoryGradIdeal.nD Cert.MemoryGradIdeal.τ Cert.MemoryGradIdeal.sig) → Buf (Elt Ideal) ℓ) (g : Dev Cert.MemoryGradIdeal.nD → PrngReg), Pre_MemoryGradIdeal_memory_finite m →
    θ_run (Cert.MemoryGradIdeal.defs (F := Ideal)) (onTc (τ := Cert.MemoryGradIdeal.τ) (Cert.MemoryGradIdeal.main (F := Ideal))) ⟨m, fun _ => 0, g⟩ (fun r => (∀ c : Dev Cert.MemoryGradIdeal.nD,
      r.2.mem ((c.tc : Thread Cert.MemoryGradIdeal.nD Cert.MemoryGradIdeal.τ).loc Cert.MemoryGradIdeal.main_arg0) = m ((c.tc : Thread Cert.MemoryGradIdeal.nD Cert.MemoryGradIdeal.τ).loc Cert.MemoryGradIdeal.main_arg0)
      ∧ r.2.mem ((c.tc : Thread Cert.MemoryGradIdeal.nD Cert.MemoryGradIdeal.τ).loc Cert.MemoryGradIdeal.main_arg1) = m ((c.tc : Thread Cert.MemoryGradIdeal.nD Cert.MemoryGradIdeal.τ).loc Cert.MemoryGradIdeal.main_arg1)
      ∧ r.2.mem ((c.tc : Thread Cert.MemoryGradIdeal.nD Cert.MemoryGradIdeal.τ).loc Cert.MemoryGradIdeal.main_arg2) = m ((c.tc : Thread Cert.MemoryGradIdeal.nD Cert.MemoryGradIdeal.τ).loc Cert.MemoryGradIdeal.main_arg2))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ r.2.sem = fun _ => 0)

def quiescent_LossBwdIdeal_pre_loss_finite [hLossBwdIdeal : Cert.LossBwdIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal_loss_finite m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2))
      ∧ r.2.sem = fun _ => 0)

def quiescent_LossGradIdeal_pre_loss_finite [hLossGradIdeal : Cert.LossGradIdeal.Facts] [hPre_loss_finite : Cert.Pre_loss_finite.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal_loss_finite m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2))
      ∧ r.2.sem = fun _ => 0)

def quiescent_BiasBwd [hBiasBwd : Cert.BiasBwd.Facts] : Prop :=
  ∀ (m : (ℓ : Loc Cert.BiasBwd.nD Cert.BiasBwd.τ Cert.BiasBwd.sig) → Buf (Elt Bits) ℓ) (g : Dev Cert.BiasBwd.nD → PrngReg), Pre_BiasBwd m →
    θ_run (Cert.BiasBwd.defs (F := Bits)) (onTc (τ := Cert.BiasBwd.τ) (Cert.BiasBwd.main (F := Bits))) ⟨m, fun _ => 0, g⟩ (fun r => (∀ c : Dev Cert.BiasBwd.nD,
      r.2.mem ((c.tc : Thread Cert.BiasBwd.nD Cert.BiasBwd.τ).loc Cert.BiasBwd.main_arg0) = m ((c.tc : Thread Cert.BiasBwd.nD Cert.BiasBwd.τ).loc Cert.BiasBwd.main_arg0)
      ∧ r.2.mem ((c.tc : Thread Cert.BiasBwd.nD Cert.BiasBwd.τ).loc Cert.BiasBwd.main_arg1) = m ((c.tc : Thread Cert.BiasBwd.nD Cert.BiasBwd.τ).loc Cert.BiasBwd.main_arg1))
      ∧ r.2.sem = fun _ => 0)

def quiescent_BiasBwdIdeal [hBiasBwdIdeal : Cert.BiasBwdIdeal.Facts] : Prop :=
  ∀ (m : (ℓ : Loc Cert.BiasBwdIdeal.nD Cert.BiasBwdIdeal.τ Cert.BiasBwdIdeal.sig) → Buf (Elt Ideal) ℓ) (g : Dev Cert.BiasBwdIdeal.nD → PrngReg), Pre_BiasBwdIdeal m →
    θ_run (Cert.BiasBwdIdeal.defs (F := Ideal)) (onTc (τ := Cert.BiasBwdIdeal.τ) (Cert.BiasBwdIdeal.main (F := Ideal))) ⟨m, fun _ => 0, g⟩ (fun r => (∀ c : Dev Cert.BiasBwdIdeal.nD,
      r.2.mem ((c.tc : Thread Cert.BiasBwdIdeal.nD Cert.BiasBwdIdeal.τ).loc Cert.BiasBwdIdeal.main_arg0) = m ((c.tc : Thread Cert.BiasBwdIdeal.nD Cert.BiasBwdIdeal.τ).loc Cert.BiasBwdIdeal.main_arg0)
      ∧ r.2.mem ((c.tc : Thread Cert.BiasBwdIdeal.nD Cert.BiasBwdIdeal.τ).loc Cert.BiasBwdIdeal.main_arg1) = m ((c.tc : Thread Cert.BiasBwdIdeal.nD Cert.BiasBwdIdeal.τ).loc Cert.BiasBwdIdeal.main_arg1))
      ∧ r.2.sem = fun _ => 0)

def quiescent_BiasGradIdeal [hBiasGradIdeal : Cert.BiasGradIdeal.Facts] : Prop :=
  ∀ (m : (ℓ : Loc Cert.BiasGradIdeal.nD Cert.BiasGradIdeal.τ Cert.BiasGradIdeal.sig) → Buf (Elt Ideal) ℓ) (g : Dev Cert.BiasGradIdeal.nD → PrngReg), Pre_BiasGradIdeal m →
    θ_run (Cert.BiasGradIdeal.defs (F := Ideal)) (onTc (τ := Cert.BiasGradIdeal.τ) (Cert.BiasGradIdeal.main (F := Ideal))) ⟨m, fun _ => 0, g⟩ (fun r => (∀ c : Dev Cert.BiasGradIdeal.nD,
      r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0)
      ∧ r.2.mem ((c.tc : Thread Cert.BiasGradIdeal.nD Cert.BiasGradIdeal.τ).loc Cert.BiasGradIdeal.main_arg1) = m ((c.tc : Thread Cert.BiasGradIdeal.nD Cert.BiasGradIdeal.τ).loc Cert.BiasGradIdeal.main_arg1))
      ∧ r.2.sem = fun _ => 0)

def quiescent_CrossFwd [hCrossFwd : Cert.CrossFwd.Facts] : Prop :=
  ∀ (m : (ℓ : Loc Cert.CrossFwd.nD Cert.CrossFwd.τ Cert.CrossFwd.sig) → Buf (Elt Bits) ℓ) (g : Dev Cert.CrossFwd.nD → PrngReg), Pre_CrossFwd m →
    θ_run (Cert.CrossFwd.defs (F := Bits)) (onTc (τ := Cert.CrossFwd.τ) (Cert.CrossFwd.main (F := Bits))) ⟨m, fun _ => 0, g⟩ (fun r => (∀ c : Dev Cert.CrossFwd.nD,
      r.2.mem ((c.tc : Thread Cert.CrossFwd.nD Cert.CrossFwd.τ).loc Cert.CrossFwd.main_arg0) = m ((c.tc : Thread Cert.CrossFwd.nD Cert.CrossFwd.τ).loc Cert.CrossFwd.main_arg0)
      ∧ r.2.mem ((c.tc : Thread Cert.CrossFwd.nD Cert.CrossFwd.τ).loc Cert.CrossFwd.main_arg1) = m ((c.tc : Thread Cert.CrossFwd.nD Cert.CrossFwd.τ).loc Cert.CrossFwd.main_arg1))
      ∧ r.2.sem = fun _ => 0)

def quiescent_CrossFwdIdeal [hCrossFwdIdeal : Cert.CrossFwdIdeal.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg), Pre_CrossFwdIdeal m →
    θ_run (Cert.CrossFwdIdeal.defs (F := Ideal)) (onTc (τ := Cert.CrossFwdIdeal.τ) (Cert.CrossFwdIdeal.main (F := Ideal))) ⟨m, fun _ => 0, g⟩ (fun r => (∀ c : Dev Cert.CrossFwdIdeal.nD,
      r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
      ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1))
      ∧ r.2.sem = fun _ => 0)

def quiescent_CrossFwdIdeal_pre_cross_forward_finite [hCrossFwdIdeal : Cert.CrossFwdIdeal.Facts] [hPre_cross_forward_finite : Cert.Pre_cross_forward_finite.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg), Pre_CrossFwdIdeal_cross_forward_finite m →
    θ_run (Cert.CrossFwdIdeal.defs (F := Ideal)) (onTc (τ := Cert.CrossFwdIdeal.τ) (Cert.CrossFwdIdeal.main (F := Ideal))) ⟨m, fun _ => 0, g⟩ (fun r => (∀ c : Dev Cert.CrossFwdIdeal.nD,
      r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
      ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1))
      ∧ r.2.sem = fun _ => 0)

def quiescent_CrossPlainIdeal [hCrossPlainIdeal : Cert.CrossPlainIdeal.Facts] : Prop :=
  ∀ (m : (ℓ : Loc Cert.CrossPlainIdeal.nD Cert.CrossPlainIdeal.τ Cert.CrossPlainIdeal.sig) → Buf (Elt Ideal) ℓ) (g : Dev Cert.CrossPlainIdeal.nD → PrngReg), Pre_CrossPlainIdeal m →
    θ_run (Cert.CrossPlainIdeal.defs (F := Ideal)) (onTc (τ := Cert.CrossPlainIdeal.τ) (Cert.CrossPlainIdeal.main (F := Ideal))) ⟨m, fun _ => 0, g⟩ (fun r => (∀ c : Dev Cert.CrossPlainIdeal.nD,
      r.2.mem ((c.tc : Thread Cert.CrossPlainIdeal.nD Cert.CrossPlainIdeal.τ).loc Cert.CrossPlainIdeal.main_arg0) = m ((c.tc : Thread Cert.CrossPlainIdeal.nD Cert.CrossPlainIdeal.τ).loc Cert.CrossPlainIdeal.main_arg0)
      ∧ r.2.mem ((c.tc : Thread Cert.CrossPlainIdeal.nD Cert.CrossPlainIdeal.τ).loc Cert.CrossPlainIdeal.main_arg1) = m ((c.tc : Thread Cert.CrossPlainIdeal.nD Cert.CrossPlainIdeal.τ).loc Cert.CrossPlainIdeal.main_arg1))
      ∧ r.2.sem = fun _ => 0)

def quiescent_CrossPlainIdeal_pre_cross_forward_finite [hCrossPlainIdeal : Cert.CrossPlainIdeal.Facts] [hPre_cross_forward_finite : Cert.Pre_cross_forward_finite.Facts] : Prop :=
  ∀ (m : (ℓ : Loc Cert.CrossPlainIdeal.nD Cert.CrossPlainIdeal.τ Cert.CrossPlainIdeal.sig) → Buf (Elt Ideal) ℓ) (g : Dev Cert.CrossPlainIdeal.nD → PrngReg), Pre_CrossPlainIdeal_cross_forward_finite m →
    θ_run (Cert.CrossPlainIdeal.defs (F := Ideal)) (onTc (τ := Cert.CrossPlainIdeal.τ) (Cert.CrossPlainIdeal.main (F := Ideal))) ⟨m, fun _ => 0, g⟩ (fun r => (∀ c : Dev Cert.CrossPlainIdeal.nD,
      r.2.mem ((c.tc : Thread Cert.CrossPlainIdeal.nD Cert.CrossPlainIdeal.τ).loc Cert.CrossPlainIdeal.main_arg0) = m ((c.tc : Thread Cert.CrossPlainIdeal.nD Cert.CrossPlainIdeal.τ).loc Cert.CrossPlainIdeal.main_arg0)
      ∧ r.2.mem ((c.tc : Thread Cert.CrossPlainIdeal.nD Cert.CrossPlainIdeal.τ).loc Cert.CrossPlainIdeal.main_arg1) = m ((c.tc : Thread Cert.CrossPlainIdeal.nD Cert.CrossPlainIdeal.τ).loc Cert.CrossPlainIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_attn_forward_finite [hAttnFwdIdeal : Cert.AttnFwdIdeal.Facts] [hPre_attn_forward_finite : Cert.Pre_attn_forward_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_forward_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnPlainIdeal [hAttnPlainIdeal : Cert.AttnPlainIdeal.Facts] : Prop :=
  ∀ (m : (ℓ : Loc Cert.AttnPlainIdeal.nD Cert.AttnPlainIdeal.τ Cert.AttnPlainIdeal.sig) → Buf (Elt Ideal) ℓ) (g : Dev Cert.AttnPlainIdeal.nD → PrngReg), Pre_AttnPlainIdeal m →
    θ_run (Cert.AttnPlainIdeal.defs (F := Ideal)) (onTc (τ := Cert.AttnPlainIdeal.τ) (Cert.AttnPlainIdeal.main (F := Ideal))) ⟨m, fun _ => 0, g⟩ (fun r => (∀ c : Dev Cert.AttnPlainIdeal.nD,
      r.2.mem ((c.tc : Thread Cert.AttnPlainIdeal.nD Cert.AttnPlainIdeal.τ).loc Cert.AttnPlainIdeal.main_arg0) = m ((c.tc : Thread Cert.AttnPlainIdeal.nD Cert.AttnPlainIdeal.τ).loc Cert.AttnPlainIdeal.main_arg0)
      ∧ r.2.mem ((c.tc : Thread Cert.AttnPlainIdeal.nD Cert.AttnPlainIdeal.τ).loc Cert.AttnPlainIdeal.main_arg1) = m ((c.tc : Thread Cert.AttnPlainIdeal.nD Cert.AttnPlainIdeal.τ).loc Cert.AttnPlainIdeal.main_arg1))
      ∧ r.2.sem = fun _ => 0)

def quiescent_AttnPlainIdeal_pre_attn_forward_finite [hAttnPlainIdeal : Cert.AttnPlainIdeal.Facts] [hPre_attn_forward_finite : Cert.Pre_attn_forward_finite.Facts] : Prop :=
  ∀ (m : (ℓ : Loc Cert.AttnPlainIdeal.nD Cert.AttnPlainIdeal.τ Cert.AttnPlainIdeal.sig) → Buf (Elt Ideal) ℓ) (g : Dev Cert.AttnPlainIdeal.nD → PrngReg), Pre_AttnPlainIdeal_attn_forward_finite m →
    θ_run (Cert.AttnPlainIdeal.defs (F := Ideal)) (onTc (τ := Cert.AttnPlainIdeal.τ) (Cert.AttnPlainIdeal.main (F := Ideal))) ⟨m, fun _ => 0, g⟩ (fun r => (∀ c : Dev Cert.AttnPlainIdeal.nD,
      r.2.mem ((c.tc : Thread Cert.AttnPlainIdeal.nD Cert.AttnPlainIdeal.τ).loc Cert.AttnPlainIdeal.main_arg0) = m ((c.tc : Thread Cert.AttnPlainIdeal.nD Cert.AttnPlainIdeal.τ).loc Cert.AttnPlainIdeal.main_arg0)
      ∧ r.2.mem ((c.tc : Thread Cert.AttnPlainIdeal.nD Cert.AttnPlainIdeal.τ).loc Cert.AttnPlainIdeal.main_arg1) = m ((c.tc : Thread Cert.AttnPlainIdeal.nD Cert.AttnPlainIdeal.τ).loc Cert.AttnPlainIdeal.main_arg1))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2)
      ∧ r.2.mem ((c.tc : Thread Cert.PoolFwd.nD Cert.PoolFwd.τ).loc Cert.PoolFwd.main_arg3) = m ((c.tc : Thread Cert.PoolFwd.nD Cert.PoolFwd.τ).loc Cert.PoolFwd.main_arg3))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
      ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3))
      ∧ r.2.sem = fun _ => 0)

def quiescent_PoolPlainIdeal [hPoolPlainIdeal : Cert.PoolPlainIdeal.Facts] : Prop :=
  ∀ (m : (ℓ : Loc Cert.PoolPlainIdeal.nD Cert.PoolPlainIdeal.τ Cert.PoolPlainIdeal.sig) → Buf (Elt Ideal) ℓ) (g : Dev Cert.PoolPlainIdeal.nD → PrngReg), Pre_PoolPlainIdeal m →
    θ_run (Cert.PoolPlainIdeal.defs (F := Ideal)) (onTc (τ := Cert.PoolPlainIdeal.τ) (Cert.PoolPlainIdeal.main (F := Ideal))) ⟨m, fun _ => 0, g⟩ (fun r => (∀ c : Dev Cert.PoolPlainIdeal.nD,
      r.2.mem ((c.tc : Thread Cert.PoolPlainIdeal.nD Cert.PoolPlainIdeal.τ).loc Cert.PoolPlainIdeal.main_arg0) = m ((c.tc : Thread Cert.PoolPlainIdeal.nD Cert.PoolPlainIdeal.τ).loc Cert.PoolPlainIdeal.main_arg0)
      ∧ r.2.mem ((c.tc : Thread Cert.PoolPlainIdeal.nD Cert.PoolPlainIdeal.τ).loc Cert.PoolPlainIdeal.main_arg1) = m ((c.tc : Thread Cert.PoolPlainIdeal.nD Cert.PoolPlainIdeal.τ).loc Cert.PoolPlainIdeal.main_arg1)
      ∧ r.2.mem ((c.tc : Thread Cert.PoolPlainIdeal.nD Cert.PoolPlainIdeal.τ).loc Cert.PoolPlainIdeal.main_arg2) = m ((c.tc : Thread Cert.PoolPlainIdeal.nD Cert.PoolPlainIdeal.τ).loc Cert.PoolPlainIdeal.main_arg2)
      ∧ r.2.mem ((c.tc : Thread Cert.PoolPlainIdeal.nD Cert.PoolPlainIdeal.τ).loc Cert.PoolPlainIdeal.main_arg3) = m ((c.tc : Thread Cert.PoolPlainIdeal.nD Cert.PoolPlainIdeal.τ).loc Cert.PoolPlainIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormPlainIdeal [hNormPlainIdeal : Cert.NormPlainIdeal.Facts] : Prop :=
  ∀ (m : (ℓ : Loc Cert.NormPlainIdeal.nD Cert.NormPlainIdeal.τ Cert.NormPlainIdeal.sig) → Buf (Elt Ideal) ℓ) (g : Dev Cert.NormPlainIdeal.nD → PrngReg), Pre_NormPlainIdeal m →
    θ_run (Cert.NormPlainIdeal.defs (F := Ideal)) (onTc (τ := Cert.NormPlainIdeal.τ) (Cert.NormPlainIdeal.main (F := Ideal))) ⟨m, fun _ => 0, g⟩ (fun r => (∀ c : Dev Cert.NormPlainIdeal.nD,
      r.2.mem ((c.tc : Thread Cert.NormPlainIdeal.nD Cert.NormPlainIdeal.τ).loc Cert.NormPlainIdeal.main_arg0) = m ((c.tc : Thread Cert.NormPlainIdeal.nD Cert.NormPlainIdeal.τ).loc Cert.NormPlainIdeal.main_arg0)
      ∧ r.2.mem ((c.tc : Thread Cert.NormPlainIdeal.nD Cert.NormPlainIdeal.τ).loc Cert.NormPlainIdeal.main_arg1) = m ((c.tc : Thread Cert.NormPlainIdeal.nD Cert.NormPlainIdeal.τ).loc Cert.NormPlainIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ r.2.sem = fun _ => 0)

def quiescent_GatePlainIdeal [hGatePlainIdeal : Cert.GatePlainIdeal.Facts] : Prop :=
  ∀ (m : (ℓ : Loc Cert.GatePlainIdeal.nD Cert.GatePlainIdeal.τ Cert.GatePlainIdeal.sig) → Buf (Elt Ideal) ℓ) (g : Dev Cert.GatePlainIdeal.nD → PrngReg), Pre_GatePlainIdeal m →
    θ_run (Cert.GatePlainIdeal.defs (F := Ideal)) (onTc (τ := Cert.GatePlainIdeal.τ) (Cert.GatePlainIdeal.main (F := Ideal))) ⟨m, fun _ => 0, g⟩ (fun r => (∀ c : Dev Cert.GatePlainIdeal.nD,
      r.2.mem ((c.tc : Thread Cert.GatePlainIdeal.nD Cert.GatePlainIdeal.τ).loc Cert.GatePlainIdeal.main_arg0) = m ((c.tc : Thread Cert.GatePlainIdeal.nD Cert.GatePlainIdeal.τ).loc Cert.GatePlainIdeal.main_arg0)
      ∧ r.2.mem ((c.tc : Thread Cert.GatePlainIdeal.nD Cert.GatePlainIdeal.τ).loc Cert.GatePlainIdeal.main_arg1) = m ((c.tc : Thread Cert.GatePlainIdeal.nD Cert.GatePlainIdeal.τ).loc Cert.GatePlainIdeal.main_arg1)
      ∧ r.2.mem ((c.tc : Thread Cert.GatePlainIdeal.nD Cert.GatePlainIdeal.τ).loc Cert.GatePlainIdeal.main_arg2) = m ((c.tc : Thread Cert.GatePlainIdeal.nD Cert.GatePlainIdeal.τ).loc Cert.GatePlainIdeal.main_arg2))
      ∧ r.2.sem = fun _ => 0)

def quiescent_QueryFwd [hQueryFwd : Cert.QueryFwd.Facts] : Prop :=
  ∀ (m : (ℓ : Loc Cert.QueryFwd.nD Cert.QueryFwd.τ Cert.QueryFwd.sig) → Buf (Elt Bits) ℓ) (g : Dev Cert.QueryFwd.nD → PrngReg), Pre_QueryFwd m →
    θ_run (Cert.QueryFwd.defs (F := Bits)) (onTc (τ := Cert.QueryFwd.τ) (Cert.QueryFwd.main (F := Bits))) ⟨m, fun _ => 0, g⟩ (fun r => (∀ c : Dev Cert.QueryFwd.nD,
      r.2.mem ((c.tc : Thread Cert.QueryFwd.nD Cert.QueryFwd.τ).loc Cert.QueryFwd.main_arg0) = m ((c.tc : Thread Cert.QueryFwd.nD Cert.QueryFwd.τ).loc Cert.QueryFwd.main_arg0)
      ∧ r.2.mem ((c.tc : Thread Cert.QueryFwd.nD Cert.QueryFwd.τ).loc Cert.QueryFwd.main_arg1) = m ((c.tc : Thread Cert.QueryFwd.nD Cert.QueryFwd.τ).loc Cert.QueryFwd.main_arg1)
      ∧ r.2.mem ((c.tc : Thread Cert.QueryFwd.nD Cert.QueryFwd.τ).loc Cert.QueryFwd.main_arg2) = m ((c.tc : Thread Cert.QueryFwd.nD Cert.QueryFwd.τ).loc Cert.QueryFwd.main_arg2))
      ∧ r.2.sem = fun _ => 0)

def quiescent_QueryFwdIdeal [hQueryFwdIdeal : Cert.QueryFwdIdeal.Facts] : Prop :=
  ∀ (m : (ℓ : Loc Cert.QueryFwdIdeal.nD Cert.QueryFwdIdeal.τ Cert.QueryFwdIdeal.sig) → Buf (Elt Ideal) ℓ) (g : Dev Cert.QueryFwdIdeal.nD → PrngReg), Pre_QueryFwdIdeal m →
    θ_run (Cert.QueryFwdIdeal.defs (F := Ideal)) (onTc (τ := Cert.QueryFwdIdeal.τ) (Cert.QueryFwdIdeal.main (F := Ideal))) ⟨m, fun _ => 0, g⟩ (fun r => (∀ c : Dev Cert.QueryFwdIdeal.nD,
      r.2.mem ((c.tc : Thread Cert.QueryFwdIdeal.nD Cert.QueryFwdIdeal.τ).loc Cert.QueryFwdIdeal.main_arg0) = m ((c.tc : Thread Cert.QueryFwdIdeal.nD Cert.QueryFwdIdeal.τ).loc Cert.QueryFwdIdeal.main_arg0)
      ∧ r.2.mem ((c.tc : Thread Cert.QueryFwdIdeal.nD Cert.QueryFwdIdeal.τ).loc Cert.QueryFwdIdeal.main_arg1) = m ((c.tc : Thread Cert.QueryFwdIdeal.nD Cert.QueryFwdIdeal.τ).loc Cert.QueryFwdIdeal.main_arg1)
      ∧ r.2.mem ((c.tc : Thread Cert.QueryFwdIdeal.nD Cert.QueryFwdIdeal.τ).loc Cert.QueryFwdIdeal.main_arg2) = m ((c.tc : Thread Cert.QueryFwdIdeal.nD Cert.QueryFwdIdeal.τ).loc Cert.QueryFwdIdeal.main_arg2))
      ∧ r.2.sem = fun _ => 0)

def quiescent_QueryPlainIdeal [hQueryPlainIdeal : Cert.QueryPlainIdeal.Facts] : Prop :=
  ∀ (m : (ℓ : Loc Cert.QueryPlainIdeal.nD Cert.QueryPlainIdeal.τ Cert.QueryPlainIdeal.sig) → Buf (Elt Ideal) ℓ) (g : Dev Cert.QueryPlainIdeal.nD → PrngReg), Pre_QueryPlainIdeal m →
    θ_run (Cert.QueryPlainIdeal.defs (F := Ideal)) (onTc (τ := Cert.QueryPlainIdeal.τ) (Cert.QueryPlainIdeal.main (F := Ideal))) ⟨m, fun _ => 0, g⟩ (fun r => (∀ c : Dev Cert.QueryPlainIdeal.nD,
      r.2.mem ((c.tc : Thread Cert.QueryPlainIdeal.nD Cert.QueryPlainIdeal.τ).loc Cert.QueryPlainIdeal.main_arg0) = m ((c.tc : Thread Cert.QueryPlainIdeal.nD Cert.QueryPlainIdeal.τ).loc Cert.QueryPlainIdeal.main_arg0)
      ∧ r.2.mem ((c.tc : Thread Cert.QueryPlainIdeal.nD Cert.QueryPlainIdeal.τ).loc Cert.QueryPlainIdeal.main_arg1) = m ((c.tc : Thread Cert.QueryPlainIdeal.nD Cert.QueryPlainIdeal.τ).loc Cert.QueryPlainIdeal.main_arg1)
      ∧ r.2.mem ((c.tc : Thread Cert.QueryPlainIdeal.nD Cert.QueryPlainIdeal.τ).loc Cert.QueryPlainIdeal.main_arg2) = m ((c.tc : Thread Cert.QueryPlainIdeal.nD Cert.QueryPlainIdeal.τ).loc Cert.QueryPlainIdeal.main_arg2))
      ∧ r.2.sem = fun _ => 0)

def quiescent_TileFwd [hTileFwd : Cert.TileFwd.Facts] : Prop :=
  ∀ (m : (ℓ : Loc Cert.TileFwd.nD Cert.TileFwd.τ Cert.TileFwd.sig) → Buf (Elt Bits) ℓ) (g : Dev Cert.TileFwd.nD → PrngReg), Pre_TileFwd m →
    θ_run (Cert.TileFwd.defs (F := Bits)) (onTc (τ := Cert.TileFwd.τ) (Cert.TileFwd.main (F := Bits))) ⟨m, fun _ => 0, g⟩ (fun r => (∀ c : Dev Cert.TileFwd.nD,
      r.2.mem ((c.tc : Thread Cert.TileFwd.nD Cert.TileFwd.τ).loc Cert.TileFwd.main_arg0) = m ((c.tc : Thread Cert.TileFwd.nD Cert.TileFwd.τ).loc Cert.TileFwd.main_arg0))
      ∧ r.2.sem = fun _ => 0)

def quiescent_TileFwdIdeal [hTileFwdIdeal : Cert.TileFwdIdeal.Facts] : Prop :=
  ∀ (m : (ℓ : Loc Cert.TileFwdIdeal.nD Cert.TileFwdIdeal.τ Cert.TileFwdIdeal.sig) → Buf (Elt Ideal) ℓ) (g : Dev Cert.TileFwdIdeal.nD → PrngReg), Pre_TileFwdIdeal m →
    θ_run (Cert.TileFwdIdeal.defs (F := Ideal)) (onTc (τ := Cert.TileFwdIdeal.τ) (Cert.TileFwdIdeal.main (F := Ideal))) ⟨m, fun _ => 0, g⟩ (fun r => (∀ c : Dev Cert.TileFwdIdeal.nD,
      r.2.mem ((c.tc : Thread Cert.TileFwdIdeal.nD Cert.TileFwdIdeal.τ).loc Cert.TileFwdIdeal.main_arg0) = m ((c.tc : Thread Cert.TileFwdIdeal.nD Cert.TileFwdIdeal.τ).loc Cert.TileFwdIdeal.main_arg0))
      ∧ r.2.sem = fun _ => 0)

def quiescent_TilePlainIdeal [hTilePlainIdeal : Cert.TilePlainIdeal.Facts] : Prop :=
  ∀ (m : (ℓ : Loc Cert.TilePlainIdeal.nD Cert.TilePlainIdeal.τ Cert.TilePlainIdeal.sig) → Buf (Elt Ideal) ℓ) (g : Dev Cert.TilePlainIdeal.nD → PrngReg), Pre_TilePlainIdeal m →
    θ_run (Cert.TilePlainIdeal.defs (F := Ideal)) (onTc (τ := Cert.TilePlainIdeal.τ) (Cert.TilePlainIdeal.main (F := Ideal))) ⟨m, fun _ => 0, g⟩ (fun r => (∀ c : Dev Cert.TilePlainIdeal.nD,
      r.2.mem ((c.tc : Thread Cert.TilePlainIdeal.nD Cert.TilePlainIdeal.τ).loc Cert.TilePlainIdeal.main_arg0) = m ((c.tc : Thread Cert.TilePlainIdeal.nD Cert.TilePlainIdeal.τ).loc Cert.TilePlainIdeal.main_arg0))
      ∧ r.2.sem = fun _ => 0)

def quiescent_OutMul [hOutMul : Cert.OutMul.Facts] : Prop :=
  ∀ (m : (ℓ : Loc Cert.OutMul.nD Cert.OutMul.τ Cert.OutMul.sig) → Buf (Elt Bits) ℓ) (g : Dev Cert.OutMul.nD → PrngReg), Pre_OutMul m →
    θ_run (Cert.OutMul.defs (F := Bits)) (onTc (τ := Cert.OutMul.τ) (Cert.OutMul.main (F := Bits))) ⟨m, fun _ => 0, g⟩ (fun r => (∀ c : Dev Cert.OutMul.nD,
      r.2.mem ((c.tc : Thread Cert.OutMul.nD Cert.OutMul.τ).loc Cert.OutMul.main_arg0) = m ((c.tc : Thread Cert.OutMul.nD Cert.OutMul.τ).loc Cert.OutMul.main_arg0)
      ∧ r.2.mem ((c.tc : Thread Cert.OutMul.nD Cert.OutMul.τ).loc Cert.OutMul.main_arg1) = m ((c.tc : Thread Cert.OutMul.nD Cert.OutMul.τ).loc Cert.OutMul.main_arg1)
      ∧ r.2.mem ((c.tc : Thread Cert.OutMul.nD Cert.OutMul.τ).loc Cert.OutMul.main_arg2) = m ((c.tc : Thread Cert.OutMul.nD Cert.OutMul.τ).loc Cert.OutMul.main_arg2))
      ∧ r.2.sem = fun _ => 0)

def quiescent_OutMulIdeal [hOutMulIdeal : Cert.OutMulIdeal.Facts] : Prop :=
  ∀ (m : (ℓ : Loc Cert.OutMulIdeal.nD Cert.OutMulIdeal.τ Cert.OutMulIdeal.sig) → Buf (Elt Ideal) ℓ) (g : Dev Cert.OutMulIdeal.nD → PrngReg), Pre_OutMulIdeal m →
    θ_run (Cert.OutMulIdeal.defs (F := Ideal)) (onTc (τ := Cert.OutMulIdeal.τ) (Cert.OutMulIdeal.main (F := Ideal))) ⟨m, fun _ => 0, g⟩ (fun r => (∀ c : Dev Cert.OutMulIdeal.nD,
      r.2.mem ((c.tc : Thread Cert.OutMulIdeal.nD Cert.OutMulIdeal.τ).loc Cert.OutMulIdeal.main_arg0) = m ((c.tc : Thread Cert.OutMulIdeal.nD Cert.OutMulIdeal.τ).loc Cert.OutMulIdeal.main_arg0)
      ∧ r.2.mem ((c.tc : Thread Cert.OutMulIdeal.nD Cert.OutMulIdeal.τ).loc Cert.OutMulIdeal.main_arg1) = m ((c.tc : Thread Cert.OutMulIdeal.nD Cert.OutMulIdeal.τ).loc Cert.OutMulIdeal.main_arg1)
      ∧ r.2.mem ((c.tc : Thread Cert.OutMulIdeal.nD Cert.OutMulIdeal.τ).loc Cert.OutMulIdeal.main_arg2) = m ((c.tc : Thread Cert.OutMulIdeal.nD Cert.OutMulIdeal.τ).loc Cert.OutMulIdeal.main_arg2))
      ∧ r.2.sem = fun _ => 0)

def quiescent_OutPlainIdeal [hOutPlainIdeal : Cert.OutPlainIdeal.Facts] : Prop :=
  ∀ (m : (ℓ : Loc Cert.OutPlainIdeal.nD Cert.OutPlainIdeal.τ Cert.OutPlainIdeal.sig) → Buf (Elt Ideal) ℓ) (g : Dev Cert.OutPlainIdeal.nD → PrngReg), Pre_OutPlainIdeal m →
    θ_run (Cert.OutPlainIdeal.defs (F := Ideal)) (onTc (τ := Cert.OutPlainIdeal.τ) (Cert.OutPlainIdeal.main (F := Ideal))) ⟨m, fun _ => 0, g⟩ (fun r => (∀ c : Dev Cert.OutPlainIdeal.nD,
      r.2.mem ((c.tc : Thread Cert.OutPlainIdeal.nD Cert.OutPlainIdeal.τ).loc Cert.OutPlainIdeal.main_arg0) = m ((c.tc : Thread Cert.OutPlainIdeal.nD Cert.OutPlainIdeal.τ).loc Cert.OutPlainIdeal.main_arg0)
      ∧ r.2.mem ((c.tc : Thread Cert.OutPlainIdeal.nD Cert.OutPlainIdeal.τ).loc Cert.OutPlainIdeal.main_arg1) = m ((c.tc : Thread Cert.OutPlainIdeal.nD Cert.OutPlainIdeal.τ).loc Cert.OutPlainIdeal.main_arg1)
      ∧ r.2.mem ((c.tc : Thread Cert.OutPlainIdeal.nD Cert.OutPlainIdeal.τ).loc Cert.OutPlainIdeal.main_arg2) = m ((c.tc : Thread Cert.OutPlainIdeal.nD Cert.OutPlainIdeal.τ).loc Cert.OutPlainIdeal.main_arg2))
      ∧ r.2.sem = fun _ => 0)

def quiescent_InMul [hInMul : Cert.InMul.Facts] : Prop :=
  ∀ (m : (ℓ : Loc Cert.InMul.nD Cert.InMul.τ Cert.InMul.sig) → Buf (Elt Bits) ℓ) (g : Dev Cert.InMul.nD → PrngReg), Pre_InMul m →
    θ_run (Cert.InMul.defs (F := Bits)) (onTc (τ := Cert.InMul.τ) (Cert.InMul.main (F := Bits))) ⟨m, fun _ => 0, g⟩ (fun r => (∀ c : Dev Cert.InMul.nD,
      r.2.mem ((c.tc : Thread Cert.InMul.nD Cert.InMul.τ).loc Cert.InMul.main_arg0) = m ((c.tc : Thread Cert.InMul.nD Cert.InMul.τ).loc Cert.InMul.main_arg0)
      ∧ r.2.mem ((c.tc : Thread Cert.InMul.nD Cert.InMul.τ).loc Cert.InMul.main_arg1) = m ((c.tc : Thread Cert.InMul.nD Cert.InMul.τ).loc Cert.InMul.main_arg1))
      ∧ r.2.sem = fun _ => 0)

def quiescent_InMulIdeal [hInMulIdeal : Cert.InMulIdeal.Facts] : Prop :=
  ∀ (m : (ℓ : Loc Cert.InMulIdeal.nD Cert.InMulIdeal.τ Cert.InMulIdeal.sig) → Buf (Elt Ideal) ℓ) (g : Dev Cert.InMulIdeal.nD → PrngReg), Pre_InMulIdeal m →
    θ_run (Cert.InMulIdeal.defs (F := Ideal)) (onTc (τ := Cert.InMulIdeal.τ) (Cert.InMulIdeal.main (F := Ideal))) ⟨m, fun _ => 0, g⟩ (fun r => (∀ c : Dev Cert.InMulIdeal.nD,
      r.2.mem ((c.tc : Thread Cert.InMulIdeal.nD Cert.InMulIdeal.τ).loc Cert.InMulIdeal.main_arg0) = m ((c.tc : Thread Cert.InMulIdeal.nD Cert.InMulIdeal.τ).loc Cert.InMulIdeal.main_arg0)
      ∧ r.2.mem ((c.tc : Thread Cert.InMulIdeal.nD Cert.InMulIdeal.τ).loc Cert.InMulIdeal.main_arg1) = m ((c.tc : Thread Cert.InMulIdeal.nD Cert.InMulIdeal.τ).loc Cert.InMulIdeal.main_arg1))
      ∧ r.2.sem = fun _ => 0)

def quiescent_InPlainIdeal [hInPlainIdeal : Cert.InPlainIdeal.Facts] : Prop :=
  ∀ (m : (ℓ : Loc Cert.InPlainIdeal.nD Cert.InPlainIdeal.τ Cert.InPlainIdeal.sig) → Buf (Elt Ideal) ℓ) (g : Dev Cert.InPlainIdeal.nD → PrngReg), Pre_InPlainIdeal m →
    θ_run (Cert.InPlainIdeal.defs (F := Ideal)) (onTc (τ := Cert.InPlainIdeal.τ) (Cert.InPlainIdeal.main (F := Ideal))) ⟨m, fun _ => 0, g⟩ (fun r => (∀ c : Dev Cert.InPlainIdeal.nD,
      r.2.mem ((c.tc : Thread Cert.InPlainIdeal.nD Cert.InPlainIdeal.τ).loc Cert.InPlainIdeal.main_arg0) = m ((c.tc : Thread Cert.InPlainIdeal.nD Cert.InPlainIdeal.τ).loc Cert.InPlainIdeal.main_arg0)
      ∧ r.2.mem ((c.tc : Thread Cert.InPlainIdeal.nD Cert.InPlainIdeal.τ).loc Cert.InPlainIdeal.main_arg1) = m ((c.tc : Thread Cert.InPlainIdeal.nD Cert.InPlainIdeal.τ).loc Cert.InPlainIdeal.main_arg1))
      ∧ r.2.sem = fun _ => 0)

def quiescent_BackMul [hBackMul : Cert.BackMul.Facts] : Prop :=
  ∀ (m : (ℓ : Loc Cert.BackMul.nD Cert.BackMul.τ Cert.BackMul.sig) → Buf (Elt Bits) ℓ) (g : Dev Cert.BackMul.nD → PrngReg), Pre_BackMul m →
    θ_run (Cert.BackMul.defs (F := Bits)) (onTc (τ := Cert.BackMul.τ) (Cert.BackMul.main (F := Bits))) ⟨m, fun _ => 0, g⟩ (fun r => (∀ c : Dev Cert.BackMul.nD,
      r.2.mem ((c.tc : Thread Cert.BackMul.nD Cert.BackMul.τ).loc Cert.BackMul.main_arg0) = m ((c.tc : Thread Cert.BackMul.nD Cert.BackMul.τ).loc Cert.BackMul.main_arg0)
      ∧ r.2.mem ((c.tc : Thread Cert.BackMul.nD Cert.BackMul.τ).loc Cert.BackMul.main_arg1) = m ((c.tc : Thread Cert.BackMul.nD Cert.BackMul.τ).loc Cert.BackMul.main_arg1))
      ∧ r.2.sem = fun _ => 0)

def quiescent_BackMulIdeal [hBackMulIdeal : Cert.BackMulIdeal.Facts] : Prop :=
  ∀ (m : (ℓ : Loc Cert.BackMulIdeal.nD Cert.BackMulIdeal.τ Cert.BackMulIdeal.sig) → Buf (Elt Ideal) ℓ) (g : Dev Cert.BackMulIdeal.nD → PrngReg), Pre_BackMulIdeal m →
    θ_run (Cert.BackMulIdeal.defs (F := Ideal)) (onTc (τ := Cert.BackMulIdeal.τ) (Cert.BackMulIdeal.main (F := Ideal))) ⟨m, fun _ => 0, g⟩ (fun r => (∀ c : Dev Cert.BackMulIdeal.nD,
      r.2.mem ((c.tc : Thread Cert.BackMulIdeal.nD Cert.BackMulIdeal.τ).loc Cert.BackMulIdeal.main_arg0) = m ((c.tc : Thread Cert.BackMulIdeal.nD Cert.BackMulIdeal.τ).loc Cert.BackMulIdeal.main_arg0)
      ∧ r.2.mem ((c.tc : Thread Cert.BackMulIdeal.nD Cert.BackMulIdeal.τ).loc Cert.BackMulIdeal.main_arg1) = m ((c.tc : Thread Cert.BackMulIdeal.nD Cert.BackMulIdeal.τ).loc Cert.BackMulIdeal.main_arg1))
      ∧ r.2.sem = fun _ => 0)

def quiescent_BackPlainIdeal [hBackPlainIdeal : Cert.BackPlainIdeal.Facts] : Prop :=
  ∀ (m : (ℓ : Loc Cert.BackPlainIdeal.nD Cert.BackPlainIdeal.τ Cert.BackPlainIdeal.sig) → Buf (Elt Ideal) ℓ) (g : Dev Cert.BackPlainIdeal.nD → PrngReg), Pre_BackPlainIdeal m →
    θ_run (Cert.BackPlainIdeal.defs (F := Ideal)) (onTc (τ := Cert.BackPlainIdeal.τ) (Cert.BackPlainIdeal.main (F := Ideal))) ⟨m, fun _ => 0, g⟩ (fun r => (∀ c : Dev Cert.BackPlainIdeal.nD,
      r.2.mem ((c.tc : Thread Cert.BackPlainIdeal.nD Cert.BackPlainIdeal.τ).loc Cert.BackPlainIdeal.main_arg0) = m ((c.tc : Thread Cert.BackPlainIdeal.nD Cert.BackPlainIdeal.τ).loc Cert.BackPlainIdeal.main_arg0)
      ∧ r.2.mem ((c.tc : Thread Cert.BackPlainIdeal.nD Cert.BackPlainIdeal.τ).loc Cert.BackPlainIdeal.main_arg1) = m ((c.tc : Thread Cert.BackPlainIdeal.nD Cert.BackPlainIdeal.τ).loc Cert.BackPlainIdeal.main_arg1))
      ∧ r.2.sem = fun _ => 0)

def quiescent_ColumnsMul [hColumnsMul : Cert.ColumnsMul.Facts] : Prop :=
  ∀ (m : (ℓ : Loc Cert.ColumnsMul.nD Cert.ColumnsMul.τ Cert.ColumnsMul.sig) → Buf (Elt Bits) ℓ) (g : Dev Cert.ColumnsMul.nD → PrngReg), Pre_ColumnsMul m →
    θ_run (Cert.ColumnsMul.defs (F := Bits)) (onTc (τ := Cert.ColumnsMul.τ) (Cert.ColumnsMul.main (F := Bits))) ⟨m, fun _ => 0, g⟩ (fun r => (∀ c : Dev Cert.ColumnsMul.nD,
      r.2.mem ((c.tc : Thread Cert.ColumnsMul.nD Cert.ColumnsMul.τ).loc Cert.ColumnsMul.main_arg0) = m ((c.tc : Thread Cert.ColumnsMul.nD Cert.ColumnsMul.τ).loc Cert.ColumnsMul.main_arg0)
      ∧ r.2.mem ((c.tc : Thread Cert.ColumnsMul.nD Cert.ColumnsMul.τ).loc Cert.ColumnsMul.main_arg1) = m ((c.tc : Thread Cert.ColumnsMul.nD Cert.ColumnsMul.τ).loc Cert.ColumnsMul.main_arg1))
      ∧ r.2.sem = fun _ => 0)

def quiescent_ColumnsMulIdeal [hColumnsMulIdeal : Cert.ColumnsMulIdeal.Facts] : Prop :=
  ∀ (m : (ℓ : Loc Cert.ColumnsMulIdeal.nD Cert.ColumnsMulIdeal.τ Cert.ColumnsMulIdeal.sig) → Buf (Elt Ideal) ℓ) (g : Dev Cert.ColumnsMulIdeal.nD → PrngReg), Pre_ColumnsMulIdeal m →
    θ_run (Cert.ColumnsMulIdeal.defs (F := Ideal)) (onTc (τ := Cert.ColumnsMulIdeal.τ) (Cert.ColumnsMulIdeal.main (F := Ideal))) ⟨m, fun _ => 0, g⟩ (fun r => (∀ c : Dev Cert.ColumnsMulIdeal.nD,
      r.2.mem ((c.tc : Thread Cert.ColumnsMulIdeal.nD Cert.ColumnsMulIdeal.τ).loc Cert.ColumnsMulIdeal.main_arg0) = m ((c.tc : Thread Cert.ColumnsMulIdeal.nD Cert.ColumnsMulIdeal.τ).loc Cert.ColumnsMulIdeal.main_arg0)
      ∧ r.2.mem ((c.tc : Thread Cert.ColumnsMulIdeal.nD Cert.ColumnsMulIdeal.τ).loc Cert.ColumnsMulIdeal.main_arg1) = m ((c.tc : Thread Cert.ColumnsMulIdeal.nD Cert.ColumnsMulIdeal.τ).loc Cert.ColumnsMulIdeal.main_arg1))
      ∧ r.2.sem = fun _ => 0)

def quiescent_ColumnsPlainIdeal [hColumnsPlainIdeal : Cert.ColumnsPlainIdeal.Facts] : Prop :=
  ∀ (m : (ℓ : Loc Cert.ColumnsPlainIdeal.nD Cert.ColumnsPlainIdeal.τ Cert.ColumnsPlainIdeal.sig) → Buf (Elt Ideal) ℓ) (g : Dev Cert.ColumnsPlainIdeal.nD → PrngReg), Pre_ColumnsPlainIdeal m →
    θ_run (Cert.ColumnsPlainIdeal.defs (F := Ideal)) (onTc (τ := Cert.ColumnsPlainIdeal.τ) (Cert.ColumnsPlainIdeal.main (F := Ideal))) ⟨m, fun _ => 0, g⟩ (fun r => (∀ c : Dev Cert.ColumnsPlainIdeal.nD,
      r.2.mem ((c.tc : Thread Cert.ColumnsPlainIdeal.nD Cert.ColumnsPlainIdeal.τ).loc Cert.ColumnsPlainIdeal.main_arg0) = m ((c.tc : Thread Cert.ColumnsPlainIdeal.nD Cert.ColumnsPlainIdeal.τ).loc Cert.ColumnsPlainIdeal.main_arg0)
      ∧ r.2.mem ((c.tc : Thread Cert.ColumnsPlainIdeal.nD Cert.ColumnsPlainIdeal.τ).loc Cert.ColumnsPlainIdeal.main_arg1) = m ((c.tc : Thread Cert.ColumnsPlainIdeal.nD Cert.ColumnsPlainIdeal.τ).loc Cert.ColumnsPlainIdeal.main_arg1))
      ∧ r.2.sem = fun _ => 0)

def quiescent_WeightMul [hWeightMul : Cert.WeightMul.Facts] : Prop :=
  ∀ (m : (ℓ : Loc Cert.WeightMul.nD Cert.WeightMul.τ Cert.WeightMul.sig) → Buf (Elt Bits) ℓ) (g : Dev Cert.WeightMul.nD → PrngReg), Pre_WeightMul m →
    θ_run (Cert.WeightMul.defs (F := Bits)) (onTc (τ := Cert.WeightMul.τ) (Cert.WeightMul.main (F := Bits))) ⟨m, fun _ => 0, g⟩ (fun r => (∀ c : Dev Cert.WeightMul.nD,
      r.2.mem ((c.tc : Thread Cert.WeightMul.nD Cert.WeightMul.τ).loc Cert.WeightMul.main_arg0) = m ((c.tc : Thread Cert.WeightMul.nD Cert.WeightMul.τ).loc Cert.WeightMul.main_arg0)
      ∧ r.2.mem ((c.tc : Thread Cert.WeightMul.nD Cert.WeightMul.τ).loc Cert.WeightMul.main_arg1) = m ((c.tc : Thread Cert.WeightMul.nD Cert.WeightMul.τ).loc Cert.WeightMul.main_arg1))
      ∧ r.2.sem = fun _ => 0)

def quiescent_WeightMulIdeal [hWeightMulIdeal : Cert.WeightMulIdeal.Facts] : Prop :=
  ∀ (m : (ℓ : Loc Cert.WeightMulIdeal.nD Cert.WeightMulIdeal.τ Cert.WeightMulIdeal.sig) → Buf (Elt Ideal) ℓ) (g : Dev Cert.WeightMulIdeal.nD → PrngReg), Pre_WeightMulIdeal m →
    θ_run (Cert.WeightMulIdeal.defs (F := Ideal)) (onTc (τ := Cert.WeightMulIdeal.τ) (Cert.WeightMulIdeal.main (F := Ideal))) ⟨m, fun _ => 0, g⟩ (fun r => (∀ c : Dev Cert.WeightMulIdeal.nD,
      r.2.mem ((c.tc : Thread Cert.WeightMulIdeal.nD Cert.WeightMulIdeal.τ).loc Cert.WeightMulIdeal.main_arg0) = m ((c.tc : Thread Cert.WeightMulIdeal.nD Cert.WeightMulIdeal.τ).loc Cert.WeightMulIdeal.main_arg0)
      ∧ r.2.mem ((c.tc : Thread Cert.WeightMulIdeal.nD Cert.WeightMulIdeal.τ).loc Cert.WeightMulIdeal.main_arg1) = m ((c.tc : Thread Cert.WeightMulIdeal.nD Cert.WeightMulIdeal.τ).loc Cert.WeightMulIdeal.main_arg1))
      ∧ r.2.sem = fun _ => 0)

def quiescent_WeightPlainIdeal [hWeightPlainIdeal : Cert.WeightPlainIdeal.Facts] : Prop :=
  ∀ (m : (ℓ : Loc Cert.WeightPlainIdeal.nD Cert.WeightPlainIdeal.τ Cert.WeightPlainIdeal.sig) → Buf (Elt Ideal) ℓ) (g : Dev Cert.WeightPlainIdeal.nD → PrngReg), Pre_WeightPlainIdeal m →
    θ_run (Cert.WeightPlainIdeal.defs (F := Ideal)) (onTc (τ := Cert.WeightPlainIdeal.τ) (Cert.WeightPlainIdeal.main (F := Ideal))) ⟨m, fun _ => 0, g⟩ (fun r => (∀ c : Dev Cert.WeightPlainIdeal.nD,
      r.2.mem ((c.tc : Thread Cert.WeightPlainIdeal.nD Cert.WeightPlainIdeal.τ).loc Cert.WeightPlainIdeal.main_arg0) = m ((c.tc : Thread Cert.WeightPlainIdeal.nD Cert.WeightPlainIdeal.τ).loc Cert.WeightPlainIdeal.main_arg0)
      ∧ r.2.mem ((c.tc : Thread Cert.WeightPlainIdeal.nD Cert.WeightPlainIdeal.τ).loc Cert.WeightPlainIdeal.main_arg1) = m ((c.tc : Thread Cert.WeightPlainIdeal.nD Cert.WeightPlainIdeal.τ).loc Cert.WeightPlainIdeal.main_arg1))
      ∧ r.2.sem = fun _ => 0)

def quiescent_DownMul [hDownMul : Cert.DownMul.Facts] : Prop :=
  ∀ (m : (ℓ : Loc Cert.DownMul.nD Cert.DownMul.τ Cert.DownMul.sig) → Buf (Elt Bits) ℓ) (g : Dev Cert.DownMul.nD → PrngReg), Pre_DownMul m →
    θ_run (Cert.DownMul.defs (F := Bits)) (onTc (τ := Cert.DownMul.τ) (Cert.DownMul.main (F := Bits))) ⟨m, fun _ => 0, g⟩ (fun r => (∀ c : Dev Cert.DownMul.nD,
      r.2.mem ((c.tc : Thread Cert.DownMul.nD Cert.DownMul.τ).loc Cert.DownMul.main_arg0) = m ((c.tc : Thread Cert.DownMul.nD Cert.DownMul.τ).loc Cert.DownMul.main_arg0)
      ∧ r.2.mem ((c.tc : Thread Cert.DownMul.nD Cert.DownMul.τ).loc Cert.DownMul.main_arg1) = m ((c.tc : Thread Cert.DownMul.nD Cert.DownMul.τ).loc Cert.DownMul.main_arg1)
      ∧ r.2.mem ((c.tc : Thread Cert.DownMul.nD Cert.DownMul.τ).loc Cert.DownMul.main_arg2) = m ((c.tc : Thread Cert.DownMul.nD Cert.DownMul.τ).loc Cert.DownMul.main_arg2))
      ∧ r.2.sem = fun _ => 0)

def quiescent_DownMulIdeal [hDownMulIdeal : Cert.DownMulIdeal.Facts] : Prop :=
  ∀ (m : (ℓ : Loc Cert.DownMulIdeal.nD Cert.DownMulIdeal.τ Cert.DownMulIdeal.sig) → Buf (Elt Ideal) ℓ) (g : Dev Cert.DownMulIdeal.nD → PrngReg), Pre_DownMulIdeal m →
    θ_run (Cert.DownMulIdeal.defs (F := Ideal)) (onTc (τ := Cert.DownMulIdeal.τ) (Cert.DownMulIdeal.main (F := Ideal))) ⟨m, fun _ => 0, g⟩ (fun r => (∀ c : Dev Cert.DownMulIdeal.nD,
      r.2.mem ((c.tc : Thread Cert.DownMulIdeal.nD Cert.DownMulIdeal.τ).loc Cert.DownMulIdeal.main_arg0) = m ((c.tc : Thread Cert.DownMulIdeal.nD Cert.DownMulIdeal.τ).loc Cert.DownMulIdeal.main_arg0)
      ∧ r.2.mem ((c.tc : Thread Cert.DownMulIdeal.nD Cert.DownMulIdeal.τ).loc Cert.DownMulIdeal.main_arg1) = m ((c.tc : Thread Cert.DownMulIdeal.nD Cert.DownMulIdeal.τ).loc Cert.DownMulIdeal.main_arg1)
      ∧ r.2.mem ((c.tc : Thread Cert.DownMulIdeal.nD Cert.DownMulIdeal.τ).loc Cert.DownMulIdeal.main_arg2) = m ((c.tc : Thread Cert.DownMulIdeal.nD Cert.DownMulIdeal.τ).loc Cert.DownMulIdeal.main_arg2))
      ∧ r.2.sem = fun _ => 0)

def quiescent_DownPlainIdeal [hDownPlainIdeal : Cert.DownPlainIdeal.Facts] : Prop :=
  ∀ (m : (ℓ : Loc Cert.DownPlainIdeal.nD Cert.DownPlainIdeal.τ Cert.DownPlainIdeal.sig) → Buf (Elt Ideal) ℓ) (g : Dev Cert.DownPlainIdeal.nD → PrngReg), Pre_DownPlainIdeal m →
    θ_run (Cert.DownPlainIdeal.defs (F := Ideal)) (onTc (τ := Cert.DownPlainIdeal.τ) (Cert.DownPlainIdeal.main (F := Ideal))) ⟨m, fun _ => 0, g⟩ (fun r => (∀ c : Dev Cert.DownPlainIdeal.nD,
      r.2.mem ((c.tc : Thread Cert.DownPlainIdeal.nD Cert.DownPlainIdeal.τ).loc Cert.DownPlainIdeal.main_arg0) = m ((c.tc : Thread Cert.DownPlainIdeal.nD Cert.DownPlainIdeal.τ).loc Cert.DownPlainIdeal.main_arg0)
      ∧ r.2.mem ((c.tc : Thread Cert.DownPlainIdeal.nD Cert.DownPlainIdeal.τ).loc Cert.DownPlainIdeal.main_arg1) = m ((c.tc : Thread Cert.DownPlainIdeal.nD Cert.DownPlainIdeal.τ).loc Cert.DownPlainIdeal.main_arg1)
      ∧ r.2.mem ((c.tc : Thread Cert.DownPlainIdeal.nD Cert.DownPlainIdeal.τ).loc Cert.DownPlainIdeal.main_arg2) = m ((c.tc : Thread Cert.DownPlainIdeal.nD Cert.DownPlainIdeal.τ).loc Cert.DownPlainIdeal.main_arg2))
      ∧ r.2.sem = fun _ => 0)

def quiescent_HiddenMul [hHiddenMul : Cert.HiddenMul.Facts] : Prop :=
  ∀ (m : (ℓ : Loc Cert.HiddenMul.nD Cert.HiddenMul.τ Cert.HiddenMul.sig) → Buf (Elt Bits) ℓ) (g : Dev Cert.HiddenMul.nD → PrngReg), Pre_HiddenMul m →
    θ_run (Cert.HiddenMul.defs (F := Bits)) (onTc (τ := Cert.HiddenMul.τ) (Cert.HiddenMul.main (F := Bits))) ⟨m, fun _ => 0, g⟩ (fun r => (∀ c : Dev Cert.HiddenMul.nD,
      r.2.mem ((c.tc : Thread Cert.HiddenMul.nD Cert.HiddenMul.τ).loc Cert.HiddenMul.main_arg0) = m ((c.tc : Thread Cert.HiddenMul.nD Cert.HiddenMul.τ).loc Cert.HiddenMul.main_arg0)
      ∧ r.2.mem ((c.tc : Thread Cert.HiddenMul.nD Cert.HiddenMul.τ).loc Cert.HiddenMul.main_arg1) = m ((c.tc : Thread Cert.HiddenMul.nD Cert.HiddenMul.τ).loc Cert.HiddenMul.main_arg1))
      ∧ r.2.sem = fun _ => 0)

def quiescent_HiddenMulIdeal [hHiddenMulIdeal : Cert.HiddenMulIdeal.Facts] : Prop :=
  ∀ (m : (ℓ : Loc Cert.HiddenMulIdeal.nD Cert.HiddenMulIdeal.τ Cert.HiddenMulIdeal.sig) → Buf (Elt Ideal) ℓ) (g : Dev Cert.HiddenMulIdeal.nD → PrngReg), Pre_HiddenMulIdeal m →
    θ_run (Cert.HiddenMulIdeal.defs (F := Ideal)) (onTc (τ := Cert.HiddenMulIdeal.τ) (Cert.HiddenMulIdeal.main (F := Ideal))) ⟨m, fun _ => 0, g⟩ (fun r => (∀ c : Dev Cert.HiddenMulIdeal.nD,
      r.2.mem ((c.tc : Thread Cert.HiddenMulIdeal.nD Cert.HiddenMulIdeal.τ).loc Cert.HiddenMulIdeal.main_arg0) = m ((c.tc : Thread Cert.HiddenMulIdeal.nD Cert.HiddenMulIdeal.τ).loc Cert.HiddenMulIdeal.main_arg0)
      ∧ r.2.mem ((c.tc : Thread Cert.HiddenMulIdeal.nD Cert.HiddenMulIdeal.τ).loc Cert.HiddenMulIdeal.main_arg1) = m ((c.tc : Thread Cert.HiddenMulIdeal.nD Cert.HiddenMulIdeal.τ).loc Cert.HiddenMulIdeal.main_arg1))
      ∧ r.2.sem = fun _ => 0)

def quiescent_HiddenPlainIdeal [hHiddenPlainIdeal : Cert.HiddenPlainIdeal.Facts] : Prop :=
  ∀ (m : (ℓ : Loc Cert.HiddenPlainIdeal.nD Cert.HiddenPlainIdeal.τ Cert.HiddenPlainIdeal.sig) → Buf (Elt Ideal) ℓ) (g : Dev Cert.HiddenPlainIdeal.nD → PrngReg), Pre_HiddenPlainIdeal m →
    θ_run (Cert.HiddenPlainIdeal.defs (F := Ideal)) (onTc (τ := Cert.HiddenPlainIdeal.τ) (Cert.HiddenPlainIdeal.main (F := Ideal))) ⟨m, fun _ => 0, g⟩ (fun r => (∀ c : Dev Cert.HiddenPlainIdeal.nD,
      r.2.mem ((c.tc : Thread Cert.HiddenPlainIdeal.nD Cert.HiddenPlainIdeal.τ).loc Cert.HiddenPlainIdeal.main_arg0) = m ((c.tc : Thread Cert.HiddenPlainIdeal.nD Cert.HiddenPlainIdeal.τ).loc Cert.HiddenPlainIdeal.main_arg0)
      ∧ r.2.mem ((c.tc : Thread Cert.HiddenPlainIdeal.nD Cert.HiddenPlainIdeal.τ).loc Cert.HiddenPlainIdeal.main_arg1) = m ((c.tc : Thread Cert.HiddenPlainIdeal.nD Cert.HiddenPlainIdeal.τ).loc Cert.HiddenPlainIdeal.main_arg1))
      ∧ r.2.sem = fun _ => 0)

def quiescent_IntoMul [hIntoMul : Cert.IntoMul.Facts] : Prop :=
  ∀ (m : (ℓ : Loc Cert.IntoMul.nD Cert.IntoMul.τ Cert.IntoMul.sig) → Buf (Elt Bits) ℓ) (g : Dev Cert.IntoMul.nD → PrngReg), Pre_IntoMul m →
    θ_run (Cert.IntoMul.defs (F := Bits)) (onTc (τ := Cert.IntoMul.τ) (Cert.IntoMul.main (F := Bits))) ⟨m, fun _ => 0, g⟩ (fun r => (∀ c : Dev Cert.IntoMul.nD,
      r.2.mem ((c.tc : Thread Cert.IntoMul.nD Cert.IntoMul.τ).loc Cert.IntoMul.main_arg0) = m ((c.tc : Thread Cert.IntoMul.nD Cert.IntoMul.τ).loc Cert.IntoMul.main_arg0)
      ∧ r.2.mem ((c.tc : Thread Cert.IntoMul.nD Cert.IntoMul.τ).loc Cert.IntoMul.main_arg1) = m ((c.tc : Thread Cert.IntoMul.nD Cert.IntoMul.τ).loc Cert.IntoMul.main_arg1))
      ∧ r.2.sem = fun _ => 0)

def quiescent_IntoMulIdeal [hIntoMulIdeal : Cert.IntoMulIdeal.Facts] : Prop :=
  ∀ (m : (ℓ : Loc Cert.IntoMulIdeal.nD Cert.IntoMulIdeal.τ Cert.IntoMulIdeal.sig) → Buf (Elt Ideal) ℓ) (g : Dev Cert.IntoMulIdeal.nD → PrngReg), Pre_IntoMulIdeal m →
    θ_run (Cert.IntoMulIdeal.defs (F := Ideal)) (onTc (τ := Cert.IntoMulIdeal.τ) (Cert.IntoMulIdeal.main (F := Ideal))) ⟨m, fun _ => 0, g⟩ (fun r => (∀ c : Dev Cert.IntoMulIdeal.nD,
      r.2.mem ((c.tc : Thread Cert.IntoMulIdeal.nD Cert.IntoMulIdeal.τ).loc Cert.IntoMulIdeal.main_arg0) = m ((c.tc : Thread Cert.IntoMulIdeal.nD Cert.IntoMulIdeal.τ).loc Cert.IntoMulIdeal.main_arg0)
      ∧ r.2.mem ((c.tc : Thread Cert.IntoMulIdeal.nD Cert.IntoMulIdeal.τ).loc Cert.IntoMulIdeal.main_arg1) = m ((c.tc : Thread Cert.IntoMulIdeal.nD Cert.IntoMulIdeal.τ).loc Cert.IntoMulIdeal.main_arg1))
      ∧ r.2.sem = fun _ => 0)

def quiescent_IntoPlainIdeal [hIntoPlainIdeal : Cert.IntoPlainIdeal.Facts] : Prop :=
  ∀ (m : (ℓ : Loc Cert.IntoPlainIdeal.nD Cert.IntoPlainIdeal.τ Cert.IntoPlainIdeal.sig) → Buf (Elt Ideal) ℓ) (g : Dev Cert.IntoPlainIdeal.nD → PrngReg), Pre_IntoPlainIdeal m →
    θ_run (Cert.IntoPlainIdeal.defs (F := Ideal)) (onTc (τ := Cert.IntoPlainIdeal.τ) (Cert.IntoPlainIdeal.main (F := Ideal))) ⟨m, fun _ => 0, g⟩ (fun r => (∀ c : Dev Cert.IntoPlainIdeal.nD,
      r.2.mem ((c.tc : Thread Cert.IntoPlainIdeal.nD Cert.IntoPlainIdeal.τ).loc Cert.IntoPlainIdeal.main_arg0) = m ((c.tc : Thread Cert.IntoPlainIdeal.nD Cert.IntoPlainIdeal.τ).loc Cert.IntoPlainIdeal.main_arg0)
      ∧ r.2.mem ((c.tc : Thread Cert.IntoPlainIdeal.nD Cert.IntoPlainIdeal.τ).loc Cert.IntoPlainIdeal.main_arg1) = m ((c.tc : Thread Cert.IntoPlainIdeal.nD Cert.IntoPlainIdeal.τ).loc Cert.IntoPlainIdeal.main_arg1))
      ∧ r.2.sem = fun _ => 0)

def quiescent_AdamStep [hAdamStep : Cert.AdamStep.Facts] : Prop :=
  ∀ (m : (ℓ : Loc Cert.AdamStep.nD Cert.AdamStep.τ Cert.AdamStep.sig) → Buf (Elt Bits) ℓ) (g : Dev Cert.AdamStep.nD → PrngReg), Pre_AdamStep m →
    θ_run (Cert.AdamStep.defs (F := Bits)) (onTc (τ := Cert.AdamStep.τ) (Cert.AdamStep.main (F := Bits))) ⟨m, fun _ => 0, g⟩ (fun r => (∀ c : Dev Cert.AdamStep.nD,
      r.2.mem ((c.tc : Thread Cert.AdamStep.nD Cert.AdamStep.τ).loc Cert.AdamStep.main_arg0) = m ((c.tc : Thread Cert.AdamStep.nD Cert.AdamStep.τ).loc Cert.AdamStep.main_arg0)
      ∧ r.2.mem ((c.tc : Thread Cert.AdamStep.nD Cert.AdamStep.τ).loc Cert.AdamStep.main_arg1) = m ((c.tc : Thread Cert.AdamStep.nD Cert.AdamStep.τ).loc Cert.AdamStep.main_arg1)
      ∧ r.2.mem ((c.tc : Thread Cert.AdamStep.nD Cert.AdamStep.τ).loc Cert.AdamStep.main_arg2) = m ((c.tc : Thread Cert.AdamStep.nD Cert.AdamStep.τ).loc Cert.AdamStep.main_arg2)
      ∧ r.2.mem ((c.tc : Thread Cert.AdamStep.nD Cert.AdamStep.τ).loc Cert.AdamStep.main_arg3) = m ((c.tc : Thread Cert.AdamStep.nD Cert.AdamStep.τ).loc Cert.AdamStep.main_arg3))
      ∧ r.2.sem = fun _ => 0)

def quiescent_AdamStepIdeal [hAdamStepIdeal : Cert.AdamStepIdeal.Facts] : Prop :=
  ∀ (m : (ℓ : Loc Cert.AdamStepIdeal.nD Cert.AdamStepIdeal.τ Cert.AdamStepIdeal.sig) → Buf (Elt Ideal) ℓ) (g : Dev Cert.AdamStepIdeal.nD → PrngReg), Pre_AdamStepIdeal m →
    θ_run (Cert.AdamStepIdeal.defs (F := Ideal)) (onTc (τ := Cert.AdamStepIdeal.τ) (Cert.AdamStepIdeal.main (F := Ideal))) ⟨m, fun _ => 0, g⟩ (fun r => (∀ c : Dev Cert.AdamStepIdeal.nD,
      r.2.mem ((c.tc : Thread Cert.AdamStepIdeal.nD Cert.AdamStepIdeal.τ).loc Cert.AdamStepIdeal.main_arg0) = m ((c.tc : Thread Cert.AdamStepIdeal.nD Cert.AdamStepIdeal.τ).loc Cert.AdamStepIdeal.main_arg0)
      ∧ r.2.mem ((c.tc : Thread Cert.AdamStepIdeal.nD Cert.AdamStepIdeal.τ).loc Cert.AdamStepIdeal.main_arg1) = m ((c.tc : Thread Cert.AdamStepIdeal.nD Cert.AdamStepIdeal.τ).loc Cert.AdamStepIdeal.main_arg1)
      ∧ r.2.mem ((c.tc : Thread Cert.AdamStepIdeal.nD Cert.AdamStepIdeal.τ).loc Cert.AdamStepIdeal.main_arg2) = m ((c.tc : Thread Cert.AdamStepIdeal.nD Cert.AdamStepIdeal.τ).loc Cert.AdamStepIdeal.main_arg2)
      ∧ r.2.mem ((c.tc : Thread Cert.AdamStepIdeal.nD Cert.AdamStepIdeal.τ).loc Cert.AdamStepIdeal.main_arg3) = m ((c.tc : Thread Cert.AdamStepIdeal.nD Cert.AdamStepIdeal.τ).loc Cert.AdamStepIdeal.main_arg3))
      ∧ r.2.sem = fun _ => 0)

def quiescent_AdamPlainIdeal [hAdamPlainIdeal : Cert.AdamPlainIdeal.Facts] : Prop :=
  ∀ (m : (ℓ : Loc Cert.AdamPlainIdeal.nD Cert.AdamPlainIdeal.τ Cert.AdamPlainIdeal.sig) → Buf (Elt Ideal) ℓ) (g : Dev Cert.AdamPlainIdeal.nD → PrngReg), Pre_AdamPlainIdeal m →
    θ_run (Cert.AdamPlainIdeal.defs (F := Ideal)) (onTc (τ := Cert.AdamPlainIdeal.τ) (Cert.AdamPlainIdeal.main (F := Ideal))) ⟨m, fun _ => 0, g⟩ (fun r => (∀ c : Dev Cert.AdamPlainIdeal.nD,
      r.2.mem ((c.tc : Thread Cert.AdamPlainIdeal.nD Cert.AdamPlainIdeal.τ).loc Cert.AdamPlainIdeal.main_arg0) = m ((c.tc : Thread Cert.AdamPlainIdeal.nD Cert.AdamPlainIdeal.τ).loc Cert.AdamPlainIdeal.main_arg0)
      ∧ r.2.mem ((c.tc : Thread Cert.AdamPlainIdeal.nD Cert.AdamPlainIdeal.τ).loc Cert.AdamPlainIdeal.main_arg1) = m ((c.tc : Thread Cert.AdamPlainIdeal.nD Cert.AdamPlainIdeal.τ).loc Cert.AdamPlainIdeal.main_arg1)
      ∧ r.2.mem ((c.tc : Thread Cert.AdamPlainIdeal.nD Cert.AdamPlainIdeal.τ).loc Cert.AdamPlainIdeal.main_arg2) = m ((c.tc : Thread Cert.AdamPlainIdeal.nD Cert.AdamPlainIdeal.τ).loc Cert.AdamPlainIdeal.main_arg2)
      ∧ r.2.mem ((c.tc : Thread Cert.AdamPlainIdeal.nD Cert.AdamPlainIdeal.τ).loc Cert.AdamPlainIdeal.main_arg3) = m ((c.tc : Thread Cert.AdamPlainIdeal.nD Cert.AdamPlainIdeal.τ).loc Cert.AdamPlainIdeal.main_arg3))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2)
      ∧ r.2.mem ((c.tc : Thread Cert.UpFwd.nD Cert.UpFwd.τ).loc Cert.UpFwd.main_arg3) = m ((c.tc : Thread Cert.UpFwd.nD Cert.UpFwd.τ).loc Cert.UpFwd.main_arg3))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2)
      ∧ r.2.mem ((c.tc : Thread Cert.UpFwdIdeal.nD Cert.UpFwdIdeal.τ).loc Cert.UpFwdIdeal.main_arg3) = m ((c.tc : Thread Cert.UpFwdIdeal.nD Cert.UpFwdIdeal.τ).loc Cert.UpFwdIdeal.main_arg3))
      ∧ r.2.sem = fun _ => 0)

def quiescent_UpPlainIdeal [hUpPlainIdeal : Cert.UpPlainIdeal.Facts] : Prop :=
  ∀ (m : (ℓ : Loc Cert.UpPlainIdeal.nD Cert.UpPlainIdeal.τ Cert.UpPlainIdeal.sig) → Buf (Elt Ideal) ℓ) (g : Dev Cert.UpPlainIdeal.nD → PrngReg), Pre_UpPlainIdeal m →
    θ_run (Cert.UpPlainIdeal.defs (F := Ideal)) (onTc (τ := Cert.UpPlainIdeal.τ) (Cert.UpPlainIdeal.main (F := Ideal))) ⟨m, fun _ => 0, g⟩ (fun r => (∀ c : Dev Cert.UpPlainIdeal.nD,
      r.2.mem ((c.tc : Thread Cert.UpPlainIdeal.nD Cert.UpPlainIdeal.τ).loc Cert.UpPlainIdeal.main_arg0) = m ((c.tc : Thread Cert.UpPlainIdeal.nD Cert.UpPlainIdeal.τ).loc Cert.UpPlainIdeal.main_arg0)
      ∧ r.2.mem ((c.tc : Thread Cert.UpPlainIdeal.nD Cert.UpPlainIdeal.τ).loc Cert.UpPlainIdeal.main_arg1) = m ((c.tc : Thread Cert.UpPlainIdeal.nD Cert.UpPlainIdeal.τ).loc Cert.UpPlainIdeal.main_arg1)
      ∧ r.2.mem ((c.tc : Thread Cert.UpPlainIdeal.nD Cert.UpPlainIdeal.τ).loc Cert.UpPlainIdeal.main_arg2) = m ((c.tc : Thread Cert.UpPlainIdeal.nD Cert.UpPlainIdeal.τ).loc Cert.UpPlainIdeal.main_arg2)
      ∧ r.2.mem ((c.tc : Thread Cert.UpPlainIdeal.nD Cert.UpPlainIdeal.τ).loc Cert.UpPlainIdeal.main_arg3) = m ((c.tc : Thread Cert.UpPlainIdeal.nD Cert.UpPlainIdeal.τ).loc Cert.UpPlainIdeal.main_arg3))
      ∧ r.2.sem = fun _ => 0)

def quiescent_PackAll [hPackAll : Cert.PackAll.Facts] : Prop :=
  ∀ (m : (ℓ : Loc Cert.PackAll.nD Cert.PackAll.τ Cert.PackAll.sig) → Buf (Elt Bits) ℓ) (g : Dev Cert.PackAll.nD → PrngReg), Pre_PackAll m →
    θ_run (Cert.PackAll.defs (F := Bits)) (onTc (τ := Cert.PackAll.τ) (Cert.PackAll.main (F := Bits))) ⟨m, fun _ => 0, g⟩ (fun r => (∀ c : Dev Cert.PackAll.nD,
      r.2.mem ((c.tc : Thread Cert.PackAll.nD Cert.PackAll.τ).loc Cert.PackAll.main_arg0) = m ((c.tc : Thread Cert.PackAll.nD Cert.PackAll.τ).loc Cert.PackAll.main_arg0)
      ∧ r.2.mem ((c.tc : Thread Cert.PackAll.nD Cert.PackAll.τ).loc Cert.PackAll.main_arg1) = m ((c.tc : Thread Cert.PackAll.nD Cert.PackAll.τ).loc Cert.PackAll.main_arg1)
      ∧ r.2.mem ((c.tc : Thread Cert.PackAll.nD Cert.PackAll.τ).loc Cert.PackAll.main_arg2) = m ((c.tc : Thread Cert.PackAll.nD Cert.PackAll.τ).loc Cert.PackAll.main_arg2)
      ∧ r.2.mem ((c.tc : Thread Cert.PackAll.nD Cert.PackAll.τ).loc Cert.PackAll.main_arg3) = m ((c.tc : Thread Cert.PackAll.nD Cert.PackAll.τ).loc Cert.PackAll.main_arg3)
      ∧ r.2.mem ((c.tc : Thread Cert.PackAll.nD Cert.PackAll.τ).loc Cert.PackAll.main_arg4) = m ((c.tc : Thread Cert.PackAll.nD Cert.PackAll.τ).loc Cert.PackAll.main_arg4)
      ∧ r.2.mem ((c.tc : Thread Cert.PackAll.nD Cert.PackAll.τ).loc Cert.PackAll.main_arg5) = m ((c.tc : Thread Cert.PackAll.nD Cert.PackAll.τ).loc Cert.PackAll.main_arg5)
      ∧ r.2.mem ((c.tc : Thread Cert.PackAll.nD Cert.PackAll.τ).loc Cert.PackAll.main_arg6) = m ((c.tc : Thread Cert.PackAll.nD Cert.PackAll.τ).loc Cert.PackAll.main_arg6)
      ∧ r.2.mem ((c.tc : Thread Cert.PackAll.nD Cert.PackAll.τ).loc Cert.PackAll.main_arg7) = m ((c.tc : Thread Cert.PackAll.nD Cert.PackAll.τ).loc Cert.PackAll.main_arg7)
      ∧ r.2.mem ((c.tc : Thread Cert.PackAll.nD Cert.PackAll.τ).loc Cert.PackAll.main_arg8) = m ((c.tc : Thread Cert.PackAll.nD Cert.PackAll.τ).loc Cert.PackAll.main_arg8))
      ∧ r.2.sem = fun _ => 0)

def quiescent_PackAllIdeal [hPackAllIdeal : Cert.PackAllIdeal.Facts] : Prop :=
  ∀ (m : (ℓ : Loc Cert.PackAllIdeal.nD Cert.PackAllIdeal.τ Cert.PackAllIdeal.sig) → Buf (Elt Ideal) ℓ) (g : Dev Cert.PackAllIdeal.nD → PrngReg), Pre_PackAllIdeal m →
    θ_run (Cert.PackAllIdeal.defs (F := Ideal)) (onTc (τ := Cert.PackAllIdeal.τ) (Cert.PackAllIdeal.main (F := Ideal))) ⟨m, fun _ => 0, g⟩ (fun r => (∀ c : Dev Cert.PackAllIdeal.nD,
      r.2.mem ((c.tc : Thread Cert.PackAllIdeal.nD Cert.PackAllIdeal.τ).loc Cert.PackAllIdeal.main_arg0) = m ((c.tc : Thread Cert.PackAllIdeal.nD Cert.PackAllIdeal.τ).loc Cert.PackAllIdeal.main_arg0)
      ∧ r.2.mem ((c.tc : Thread Cert.PackAllIdeal.nD Cert.PackAllIdeal.τ).loc Cert.PackAllIdeal.main_arg1) = m ((c.tc : Thread Cert.PackAllIdeal.nD Cert.PackAllIdeal.τ).loc Cert.PackAllIdeal.main_arg1)
      ∧ r.2.mem ((c.tc : Thread Cert.PackAllIdeal.nD Cert.PackAllIdeal.τ).loc Cert.PackAllIdeal.main_arg2) = m ((c.tc : Thread Cert.PackAllIdeal.nD Cert.PackAllIdeal.τ).loc Cert.PackAllIdeal.main_arg2)
      ∧ r.2.mem ((c.tc : Thread Cert.PackAllIdeal.nD Cert.PackAllIdeal.τ).loc Cert.PackAllIdeal.main_arg3) = m ((c.tc : Thread Cert.PackAllIdeal.nD Cert.PackAllIdeal.τ).loc Cert.PackAllIdeal.main_arg3)
      ∧ r.2.mem ((c.tc : Thread Cert.PackAllIdeal.nD Cert.PackAllIdeal.τ).loc Cert.PackAllIdeal.main_arg4) = m ((c.tc : Thread Cert.PackAllIdeal.nD Cert.PackAllIdeal.τ).loc Cert.PackAllIdeal.main_arg4)
      ∧ r.2.mem ((c.tc : Thread Cert.PackAllIdeal.nD Cert.PackAllIdeal.τ).loc Cert.PackAllIdeal.main_arg5) = m ((c.tc : Thread Cert.PackAllIdeal.nD Cert.PackAllIdeal.τ).loc Cert.PackAllIdeal.main_arg5)
      ∧ r.2.mem ((c.tc : Thread Cert.PackAllIdeal.nD Cert.PackAllIdeal.τ).loc Cert.PackAllIdeal.main_arg6) = m ((c.tc : Thread Cert.PackAllIdeal.nD Cert.PackAllIdeal.τ).loc Cert.PackAllIdeal.main_arg6)
      ∧ r.2.mem ((c.tc : Thread Cert.PackAllIdeal.nD Cert.PackAllIdeal.τ).loc Cert.PackAllIdeal.main_arg7) = m ((c.tc : Thread Cert.PackAllIdeal.nD Cert.PackAllIdeal.τ).loc Cert.PackAllIdeal.main_arg7)
      ∧ r.2.mem ((c.tc : Thread Cert.PackAllIdeal.nD Cert.PackAllIdeal.τ).loc Cert.PackAllIdeal.main_arg8) = m ((c.tc : Thread Cert.PackAllIdeal.nD Cert.PackAllIdeal.τ).loc Cert.PackAllIdeal.main_arg8))
      ∧ r.2.sem = fun _ => 0)

def quiescent_PackPlainIdeal [hPackPlainIdeal : Cert.PackPlainIdeal.Facts] : Prop :=
  ∀ (m : (ℓ : Loc Cert.PackPlainIdeal.nD Cert.PackPlainIdeal.τ Cert.PackPlainIdeal.sig) → Buf (Elt Ideal) ℓ) (g : Dev Cert.PackPlainIdeal.nD → PrngReg), Pre_PackPlainIdeal m →
    θ_run (Cert.PackPlainIdeal.defs (F := Ideal)) (onTc (τ := Cert.PackPlainIdeal.τ) (Cert.PackPlainIdeal.main (F := Ideal))) ⟨m, fun _ => 0, g⟩ (fun r => (∀ c : Dev Cert.PackPlainIdeal.nD,
      r.2.mem ((c.tc : Thread Cert.PackPlainIdeal.nD Cert.PackPlainIdeal.τ).loc Cert.PackPlainIdeal.main_arg0) = m ((c.tc : Thread Cert.PackPlainIdeal.nD Cert.PackPlainIdeal.τ).loc Cert.PackPlainIdeal.main_arg0)
      ∧ r.2.mem ((c.tc : Thread Cert.PackPlainIdeal.nD Cert.PackPlainIdeal.τ).loc Cert.PackPlainIdeal.main_arg1) = m ((c.tc : Thread Cert.PackPlainIdeal.nD Cert.PackPlainIdeal.τ).loc Cert.PackPlainIdeal.main_arg1)
      ∧ r.2.mem ((c.tc : Thread Cert.PackPlainIdeal.nD Cert.PackPlainIdeal.τ).loc Cert.PackPlainIdeal.main_arg2) = m ((c.tc : Thread Cert.PackPlainIdeal.nD Cert.PackPlainIdeal.τ).loc Cert.PackPlainIdeal.main_arg2)
      ∧ r.2.mem ((c.tc : Thread Cert.PackPlainIdeal.nD Cert.PackPlainIdeal.τ).loc Cert.PackPlainIdeal.main_arg3) = m ((c.tc : Thread Cert.PackPlainIdeal.nD Cert.PackPlainIdeal.τ).loc Cert.PackPlainIdeal.main_arg3)
      ∧ r.2.mem ((c.tc : Thread Cert.PackPlainIdeal.nD Cert.PackPlainIdeal.τ).loc Cert.PackPlainIdeal.main_arg4) = m ((c.tc : Thread Cert.PackPlainIdeal.nD Cert.PackPlainIdeal.τ).loc Cert.PackPlainIdeal.main_arg4)
      ∧ r.2.mem ((c.tc : Thread Cert.PackPlainIdeal.nD Cert.PackPlainIdeal.τ).loc Cert.PackPlainIdeal.main_arg5) = m ((c.tc : Thread Cert.PackPlainIdeal.nD Cert.PackPlainIdeal.τ).loc Cert.PackPlainIdeal.main_arg5)
      ∧ r.2.mem ((c.tc : Thread Cert.PackPlainIdeal.nD Cert.PackPlainIdeal.τ).loc Cert.PackPlainIdeal.main_arg6) = m ((c.tc : Thread Cert.PackPlainIdeal.nD Cert.PackPlainIdeal.τ).loc Cert.PackPlainIdeal.main_arg6)
      ∧ r.2.mem ((c.tc : Thread Cert.PackPlainIdeal.nD Cert.PackPlainIdeal.τ).loc Cert.PackPlainIdeal.main_arg7) = m ((c.tc : Thread Cert.PackPlainIdeal.nD Cert.PackPlainIdeal.τ).loc Cert.PackPlainIdeal.main_arg7)
      ∧ r.2.mem ((c.tc : Thread Cert.PackPlainIdeal.nD Cert.PackPlainIdeal.τ).loc Cert.PackPlainIdeal.main_arg8) = m ((c.tc : Thread Cert.PackPlainIdeal.nD Cert.PackPlainIdeal.τ).loc Cert.PackPlainIdeal.main_arg8))
      ∧ r.2.sem = fun _ => 0)

def preserves_GateBwd_GateBwdIdeal : Prop :=
  True

def algebraic_GateBwdIdeal_GateGradIdeal_pre_gate_finite [hGateBwdIdeal : Cert.GateBwdIdeal.Facts] [hGateGradIdeal : Cert.GateGradIdeal.Facts] [hPre_gate_finite : Cert.Pre_gate_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateGradIdeal.nD Cert.GateGradIdeal.τ Cert.GateGradIdeal.sig) → Buf (Elt Ideal) ℓ) (g' : Dev Cert.GateGradIdeal.nD → PrngReg), Pre_GateBwdIdeal_gate_finite m →
    (∀ c : Dev Cert.GateBwdIdeal.nD,
      m' ((c.tc : Thread Cert.GateGradIdeal.nD Cert.GateGradIdeal.τ).loc Cert.GateGradIdeal.main_arg0) = m ((c.tc : Thread Cert.GateBwdIdeal.nD Cert.GateBwdIdeal.τ).loc Cert.GateBwdIdeal.main_arg0)
      ∧ m' ((c.tc : Thread Cert.GateGradIdeal.nD Cert.GateGradIdeal.τ).loc Cert.GateGradIdeal.main_arg1) = m ((c.tc : Thread Cert.GateBwdIdeal.nD Cert.GateBwdIdeal.τ).loc Cert.GateBwdIdeal.main_arg1)
      ∧ m' ((c.tc : Thread Cert.GateGradIdeal.nD Cert.GateGradIdeal.τ).loc Cert.GateGradIdeal.main_arg2) = m ((c.tc : Thread Cert.GateBwdIdeal.nD Cert.GateBwdIdeal.τ).loc Cert.GateBwdIdeal.main_arg2)
      ∧ m' ((c.tc : Thread Cert.GateGradIdeal.nD Cert.GateGradIdeal.τ).loc Cert.GateGradIdeal.main_arg3) = m ((c.tc : Thread Cert.GateBwdIdeal.nD Cert.GateBwdIdeal.τ).loc Cert.GateBwdIdeal.main_arg3)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ θ_run (Cert.GateGradIdeal.defs (F := Ideal)) (onTc (τ := Cert.GateGradIdeal.τ) (Cert.GateGradIdeal.main (F := Ideal))) ⟨m', fun _ => 0, g'⟩ (fun r => ∀ c : Dev Cert.GateGradIdeal.nD,
          r.2.mem ((c.tc : Thread Cert.GateGradIdeal.nD Cert.GateGradIdeal.τ).loc Cert.GateGradIdeal.main_v15) = v0 c
          ∧ r.2.mem ((c.tc : Thread Cert.GateGradIdeal.nD Cert.GateGradIdeal.τ).loc Cert.GateGradIdeal.main_v16) = v1 c
          ∧ r.2.mem ((c.tc : Thread Cert.GateGradIdeal.nD Cert.GateGradIdeal.τ).loc Cert.GateGradIdeal.main_arg0) = m' ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m' ((c.tc : Thread Cert.GateGradIdeal.nD Cert.GateGradIdeal.τ).loc Cert.GateGradIdeal.main_arg1)
          ∧ r.2.mem ((c.tc : Thread Cert.GateGradIdeal.nD Cert.GateGradIdeal.τ).loc Cert.GateGradIdeal.main_arg2) = m' ((c.tc : Thread Cert.GateGradIdeal.nD Cert.GateGradIdeal.τ).loc Cert.GateGradIdeal.main_arg2)
          ∧ r.2.mem ((c.tc : Thread Cert.GateGradIdeal.nD Cert.GateGradIdeal.τ).loc Cert.GateGradIdeal.main_arg3) = m' ((c.tc : Thread Cert.GateGradIdeal.nD Cert.GateGradIdeal.τ).loc Cert.GateGradIdeal.main_arg3))

def preserves_AttnBwd_AttnBwdIdeal : Prop :=
  IdealRules.named_const.Statement Cert.AttnBwdIdeal.κ "mask" .f32 0xF149F2CA#32 ⊥

def algebraic_AttnBwdIdeal_AttnGradIdeal_pre_attn_finite [hAttnBwdIdeal : Cert.AttnBwdIdeal.Facts] [hAttnGradIdeal : Cert.AttnGradIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnGradIdeal.nD Cert.AttnGradIdeal.τ Cert.AttnGradIdeal.sig) → Buf (Elt Ideal) ℓ) (g' : Dev Cert.AttnGradIdeal.nD → PrngReg), Pre_AttnBwdIdeal_attn_finite m →
    (∀ c : Dev Cert.AttnBwdIdeal.nD,
      m' ((c.tc : Thread Cert.AttnGradIdeal.nD Cert.AttnGradIdeal.τ).loc Cert.AttnGradIdeal.main_arg0) = m ((c.tc : Thread Cert.AttnBwdIdeal.nD Cert.AttnBwdIdeal.τ).loc Cert.AttnBwdIdeal.main_arg0)
      ∧ m' ((c.tc : Thread Cert.AttnGradIdeal.nD Cert.AttnGradIdeal.τ).loc Cert.AttnGradIdeal.main_arg1) = m ((c.tc : Thread Cert.AttnBwdIdeal.nD Cert.AttnBwdIdeal.τ).loc Cert.AttnBwdIdeal.main_arg1)
      ∧ m' ((c.tc : Thread Cert.AttnGradIdeal.nD Cert.AttnGradIdeal.τ).loc Cert.AttnGradIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v42)) (v1 : (c : Dev Cert.AttnBwdIdeal.nD) → Buf (Elt Ideal) ((c.tc : Thread Cert.AttnBwdIdeal.nD Cert.AttnBwdIdeal.τ).loc Cert.AttnBwdIdeal.main_v32_1)) (v2 : (c : Dev Cert.AttnBwdIdeal.nD) → Buf (Elt Ideal) ((c.tc : Thread Cert.AttnBwdIdeal.nD Cert.AttnBwdIdeal.τ).loc Cert.AttnBwdIdeal.main_v32_2)) (v3 : (c : Dev Cert.AttnBwdIdeal.nD) → Buf (Elt Ideal) ((c.tc : Thread Cert.AttnBwdIdeal.nD Cert.AttnBwdIdeal.τ).loc Cert.AttnBwdIdeal.main_v41)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v42) = v0 c
          ∧ r.2.mem ((c.tc : Thread Cert.AttnBwdIdeal.nD Cert.AttnBwdIdeal.τ).loc Cert.AttnBwdIdeal.main_v32_1) = v1 c
          ∧ r.2.mem ((c.tc : Thread Cert.AttnBwdIdeal.nD Cert.AttnBwdIdeal.τ).loc Cert.AttnBwdIdeal.main_v32_2) = v2 c
          ∧ r.2.mem ((c.tc : Thread Cert.AttnBwdIdeal.nD Cert.AttnBwdIdeal.τ).loc Cert.AttnBwdIdeal.main_v41) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnGradIdeal.defs (F := Ideal)) (onTc (τ := Cert.AttnGradIdeal.τ) (Cert.AttnGradIdeal.main (F := Ideal))) ⟨m', fun _ => 0, g'⟩ (fun r => ∀ c : Dev Cert.AttnGradIdeal.nD,
          r.2.mem ((c.tc : Thread Cert.AttnGradIdeal.nD Cert.AttnGradIdeal.τ).loc Cert.AttnGradIdeal.main_v227) = v0 c
          ∧ r.2.mem ((c.tc : Thread Cert.AttnGradIdeal.nD Cert.AttnGradIdeal.τ).loc Cert.AttnGradIdeal.main_v228) = v1 c
          ∧ r.2.mem ((c.tc : Thread Cert.AttnGradIdeal.nD Cert.AttnGradIdeal.τ).loc Cert.AttnGradIdeal.main_v229) = v2 c
          ∧ r.2.mem ((c.tc : Thread Cert.AttnGradIdeal.nD Cert.AttnGradIdeal.τ).loc Cert.AttnGradIdeal.main_v177) = v3 c
          ∧ r.2.mem ((c.tc : Thread Cert.AttnGradIdeal.nD Cert.AttnGradIdeal.τ).loc Cert.AttnGradIdeal.main_arg0) = m' ((c.tc : Thread Cert.AttnGradIdeal.nD Cert.AttnGradIdeal.τ).loc Cert.AttnGradIdeal.main_arg0)
          ∧ r.2.mem ((c.tc : Thread Cert.AttnGradIdeal.nD Cert.AttnGradIdeal.τ).loc Cert.AttnGradIdeal.main_arg1) = m' ((c.tc : Thread Cert.AttnGradIdeal.nD Cert.AttnGradIdeal.τ).loc Cert.AttnGradIdeal.main_arg1)
          ∧ r.2.mem ((c.tc : Thread Cert.AttnGradIdeal.nD Cert.AttnGradIdeal.τ).loc Cert.AttnGradIdeal.main_arg2) = m' ((c.tc : Thread Cert.AttnGradIdeal.nD Cert.AttnGradIdeal.τ).loc Cert.AttnGradIdeal.main_arg2))

def preserves_PoolBwd_PoolBwdIdeal : Prop :=
  True

def algebraic_PoolBwdIdeal_PoolGradIdeal [hPoolBwdIdeal : Cert.PoolBwdIdeal.Facts] [hPoolGradIdeal : Cert.PoolGradIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolGradIdeal.nD Cert.PoolGradIdeal.τ Cert.PoolGradIdeal.sig) → Buf (Elt Ideal) ℓ) (g' : Dev Cert.PoolGradIdeal.nD → PrngReg), Pre_PoolBwdIdeal m →
    (∀ c : Dev Cert.PoolBwdIdeal.nD,
      m' ((c.tc : Thread Cert.PoolGradIdeal.nD Cert.PoolGradIdeal.τ).loc Cert.PoolGradIdeal.main_arg0) = m ((c.tc : Thread Cert.PoolBwdIdeal.nD Cert.PoolBwdIdeal.τ).loc Cert.PoolBwdIdeal.main_arg0)
      ∧ m' ((c.tc : Thread Cert.PoolGradIdeal.nD Cert.PoolGradIdeal.τ).loc Cert.PoolGradIdeal.main_arg1) = m ((c.tc : Thread Cert.PoolBwdIdeal.nD Cert.PoolBwdIdeal.τ).loc Cert.PoolBwdIdeal.main_arg1)
      ∧ m' ((c.tc : Thread Cert.PoolGradIdeal.nD Cert.PoolGradIdeal.τ).loc Cert.PoolGradIdeal.main_arg2) = m ((c.tc : Thread Cert.PoolBwdIdeal.nD Cert.PoolBwdIdeal.τ).loc Cert.PoolBwdIdeal.main_arg2)
      ∧ m' ((c.tc : Thread Cert.PoolGradIdeal.nD Cert.PoolGradIdeal.τ).loc Cert.PoolGradIdeal.main_arg3) = m ((c.tc : Thread Cert.PoolBwdIdeal.nD Cert.PoolBwdIdeal.τ).loc Cert.PoolBwdIdeal.main_arg3)
      ∧ m' ((c.tc : Thread Cert.PoolGradIdeal.nD Cert.PoolGradIdeal.τ).loc Cert.PoolGradIdeal.main_arg4) = m ((c.tc : Thread Cert.PoolBwdIdeal.nD Cert.PoolBwdIdeal.τ).loc Cert.PoolBwdIdeal.main_arg4)) →
    ∃ (v0 : (c : Dev Cert.PoolBwdIdeal.nD) → Buf (Elt Ideal) ((c.tc : Thread Cert.PoolBwdIdeal.nD Cert.PoolBwdIdeal.τ).loc Cert.PoolBwdIdeal.main_v45_0)) (v1 : (c : Dev Cert.PoolBwdIdeal.nD) → Buf (Elt Ideal) ((c.tc : Thread Cert.PoolBwdIdeal.nD Cert.PoolBwdIdeal.τ).loc Cert.PoolBwdIdeal.main_v45_1)) (v2 : (c : Dev Cert.PoolBwdIdeal.nD) → Buf (Elt Ideal) ((c.tc : Thread Cert.PoolBwdIdeal.nD Cert.PoolBwdIdeal.τ).loc Cert.PoolBwdIdeal.main_v45_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v45_0) = v0 c
          ∧ r.2.mem ((c.tc : Thread Cert.PoolBwdIdeal.nD Cert.PoolBwdIdeal.τ).loc Cert.PoolBwdIdeal.main_v45_1) = v1 c
          ∧ r.2.mem ((c.tc : Thread Cert.PoolBwdIdeal.nD Cert.PoolBwdIdeal.τ).loc Cert.PoolBwdIdeal.main_v45_2) = v2 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
          ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ θ_run (Cert.PoolGradIdeal.defs (F := Ideal)) (onTc (τ := Cert.PoolGradIdeal.τ) (Cert.PoolGradIdeal.main (F := Ideal))) ⟨m', fun _ => 0, g'⟩ (fun r => ∀ c : Dev Cert.PoolGradIdeal.nD,
          r.2.mem ((c.tc : Thread Cert.PoolGradIdeal.nD Cert.PoolGradIdeal.τ).loc Cert.PoolGradIdeal.main_v75) = v0 c
          ∧ r.2.mem ((c.tc : Thread Cert.PoolGradIdeal.nD Cert.PoolGradIdeal.τ).loc Cert.PoolGradIdeal.main_v64) = v1 c
          ∧ r.2.mem ((c.tc : Thread Cert.PoolGradIdeal.nD Cert.PoolGradIdeal.τ).loc Cert.PoolGradIdeal.main_v58) = v2 c
          ∧ r.2.mem ((c.tc : Thread Cert.PoolGradIdeal.nD Cert.PoolGradIdeal.τ).loc Cert.PoolGradIdeal.main_arg0) = m' ((c.tc : Thread Cert.PoolGradIdeal.nD Cert.PoolGradIdeal.τ).loc Cert.PoolGradIdeal.main_arg0)
          ∧ r.2.mem ((c.tc : Thread Cert.PoolGradIdeal.nD Cert.PoolGradIdeal.τ).loc Cert.PoolGradIdeal.main_arg1) = m' ((c.tc : Thread Cert.PoolGradIdeal.nD Cert.PoolGradIdeal.τ).loc Cert.PoolGradIdeal.main_arg1)
          ∧ r.2.mem ((c.tc : Thread Cert.PoolGradIdeal.nD Cert.PoolGradIdeal.τ).loc Cert.PoolGradIdeal.main_arg2) = m' ((c.tc : Thread Cert.PoolGradIdeal.nD Cert.PoolGradIdeal.τ).loc Cert.PoolGradIdeal.main_arg2)
          ∧ r.2.mem ((c.tc : Thread Cert.PoolGradIdeal.nD Cert.PoolGradIdeal.τ).loc Cert.PoolGradIdeal.main_arg3) = m' ((c.tc : Thread Cert.PoolGradIdeal.nD Cert.PoolGradIdeal.τ).loc Cert.PoolGradIdeal.main_arg3)
          ∧ r.2.mem ((c.tc : Thread Cert.PoolGradIdeal.nD Cert.PoolGradIdeal.τ).loc Cert.PoolGradIdeal.main_arg4) = m' ((c.tc : Thread Cert.PoolGradIdeal.nD Cert.PoolGradIdeal.τ).loc Cert.PoolGradIdeal.main_arg4))

def preserves_CrossBwd_CrossBwdIdeal : Prop :=
  True

def algebraic_CrossBwdIdeal_CrossGradIdeal_pre_cross_finite [hCrossBwdIdeal : Cert.CrossBwdIdeal.Facts] [hCrossGradIdeal : Cert.CrossGradIdeal.Facts] [hPre_cross_finite : Cert.Pre_cross_finite.Facts] : Prop :=
  ∀ (m : (ℓ : Loc Cert.CrossBwdIdeal.nD Cert.CrossBwdIdeal.τ Cert.CrossBwdIdeal.sig) → Buf (Elt Ideal) ℓ) (g : Dev Cert.CrossBwdIdeal.nD → PrngReg)
    (m' : (ℓ : Loc Cert.CrossGradIdeal.nD Cert.CrossGradIdeal.τ Cert.CrossGradIdeal.sig) → Buf (Elt Ideal) ℓ) (g' : Dev Cert.CrossGradIdeal.nD → PrngReg), Pre_CrossBwdIdeal_cross_finite m →
    (∀ c : Dev Cert.CrossBwdIdeal.nD,
      m' ((c.tc : Thread Cert.CrossGradIdeal.nD Cert.CrossGradIdeal.τ).loc Cert.CrossGradIdeal.main_arg0) = m ((c.tc : Thread Cert.CrossBwdIdeal.nD Cert.CrossBwdIdeal.τ).loc Cert.CrossBwdIdeal.main_arg0)
      ∧ m' ((c.tc : Thread Cert.CrossGradIdeal.nD Cert.CrossGradIdeal.τ).loc Cert.CrossGradIdeal.main_arg1) = m ((c.tc : Thread Cert.CrossBwdIdeal.nD Cert.CrossBwdIdeal.τ).loc Cert.CrossBwdIdeal.main_arg1)
      ∧ m' ((c.tc : Thread Cert.CrossGradIdeal.nD Cert.CrossGradIdeal.τ).loc Cert.CrossGradIdeal.main_arg2) = m ((c.tc : Thread Cert.CrossBwdIdeal.nD Cert.CrossBwdIdeal.τ).loc Cert.CrossBwdIdeal.main_arg2)) →
    ∃ (v0 : (c : Dev Cert.CrossBwdIdeal.nD) → Buf (Elt Ideal) ((c.tc : Thread Cert.CrossBwdIdeal.nD Cert.CrossBwdIdeal.τ).loc Cert.CrossBwdIdeal.main_v0_0)) (v1 : (c : Dev Cert.CrossBwdIdeal.nD) → Buf (Elt Ideal) ((c.tc : Thread Cert.CrossBwdIdeal.nD Cert.CrossBwdIdeal.τ).loc Cert.CrossBwdIdeal.main_v0_1)) (v2 : (c : Dev Cert.CrossBwdIdeal.nD) → Buf (Elt Ideal) ((c.tc : Thread Cert.CrossBwdIdeal.nD Cert.CrossBwdIdeal.τ).loc Cert.CrossBwdIdeal.main_v0_2)),
      θ_run (Cert.CrossBwdIdeal.defs (F := Ideal)) (onTc (τ := Cert.CrossBwdIdeal.τ) (Cert.CrossBwdIdeal.main (F := Ideal))) ⟨m, fun _ => 0, g⟩ (fun r => ∀ c : Dev Cert.CrossBwdIdeal.nD,
          r.2.mem ((c.tc : Thread Cert.CrossBwdIdeal.nD Cert.CrossBwdIdeal.τ).loc Cert.CrossBwdIdeal.main_v0_0) = v0 c
          ∧ r.2.mem ((c.tc : Thread Cert.CrossBwdIdeal.nD Cert.CrossBwdIdeal.τ).loc Cert.CrossBwdIdeal.main_v0_1) = v1 c
          ∧ r.2.mem ((c.tc : Thread Cert.CrossBwdIdeal.nD Cert.CrossBwdIdeal.τ).loc Cert.CrossBwdIdeal.main_v0_2) = v2 c
          ∧ r.2.mem ((c.tc : Thread Cert.CrossBwdIdeal.nD Cert.CrossBwdIdeal.τ).loc Cert.CrossBwdIdeal.main_arg0) = m ((c.tc : Thread Cert.CrossBwdIdeal.nD Cert.CrossBwdIdeal.τ).loc Cert.CrossBwdIdeal.main_arg0)
          ∧ r.2.mem ((c.tc : Thread Cert.CrossBwdIdeal.nD Cert.CrossBwdIdeal.τ).loc Cert.CrossBwdIdeal.main_arg1) = m ((c.tc : Thread Cert.CrossBwdIdeal.nD Cert.CrossBwdIdeal.τ).loc Cert.CrossBwdIdeal.main_arg1)
          ∧ r.2.mem ((c.tc : Thread Cert.CrossBwdIdeal.nD Cert.CrossBwdIdeal.τ).loc Cert.CrossBwdIdeal.main_arg2) = m ((c.tc : Thread Cert.CrossBwdIdeal.nD Cert.CrossBwdIdeal.τ).loc Cert.CrossBwdIdeal.main_arg2))
      ∧ θ_run (Cert.CrossGradIdeal.defs (F := Ideal)) (onTc (τ := Cert.CrossGradIdeal.τ) (Cert.CrossGradIdeal.main (F := Ideal))) ⟨m', fun _ => 0, g'⟩ (fun r => ∀ c : Dev Cert.CrossGradIdeal.nD,
          r.2.mem ((c.tc : Thread Cert.CrossGradIdeal.nD Cert.CrossGradIdeal.τ).loc Cert.CrossGradIdeal.main_v71) = v0 c
          ∧ r.2.mem ((c.tc : Thread Cert.CrossGradIdeal.nD Cert.CrossGradIdeal.τ).loc Cert.CrossGradIdeal.main_v73) = v1 c
          ∧ r.2.mem ((c.tc : Thread Cert.CrossGradIdeal.nD Cert.CrossGradIdeal.τ).loc Cert.CrossGradIdeal.main_v75) = v2 c
          ∧ r.2.mem ((c.tc : Thread Cert.CrossGradIdeal.nD Cert.CrossGradIdeal.τ).loc Cert.CrossGradIdeal.main_arg0) = m' ((c.tc : Thread Cert.CrossGradIdeal.nD Cert.CrossGradIdeal.τ).loc Cert.CrossGradIdeal.main_arg0)
          ∧ r.2.mem ((c.tc : Thread Cert.CrossGradIdeal.nD Cert.CrossGradIdeal.τ).loc Cert.CrossGradIdeal.main_arg1) = m' ((c.tc : Thread Cert.CrossGradIdeal.nD Cert.CrossGradIdeal.τ).loc Cert.CrossGradIdeal.main_arg1)
          ∧ r.2.mem ((c.tc : Thread Cert.CrossGradIdeal.nD Cert.CrossGradIdeal.τ).loc Cert.CrossGradIdeal.main_arg2) = m' ((c.tc : Thread Cert.CrossGradIdeal.nD Cert.CrossGradIdeal.τ).loc Cert.CrossGradIdeal.main_arg2))

def preserves_NormBwd_NormBwdIdeal : Prop :=
  True

def algebraic_NormBwdIdeal_NormGradIdeal_pre_norm_finite [hNormBwdIdeal : Cert.NormBwdIdeal.Facts] [hNormGradIdeal : Cert.NormGradIdeal.Facts] [hPre_norm_finite : Cert.Pre_norm_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormGradIdeal.nD Cert.NormGradIdeal.τ Cert.NormGradIdeal.sig) → Buf (Elt Ideal) ℓ) (g' : Dev Cert.NormGradIdeal.nD → PrngReg), Pre_NormBwdIdeal_norm_finite m →
    (∀ c : Dev Cert.NormBwdIdeal.nD,
      m' ((c.tc : Thread Cert.NormGradIdeal.nD Cert.NormGradIdeal.τ).loc Cert.NormGradIdeal.main_arg0) = m ((c.tc : Thread Cert.NormBwdIdeal.nD Cert.NormBwdIdeal.τ).loc Cert.NormBwdIdeal.main_arg0)
      ∧ m' ((c.tc : Thread Cert.NormGradIdeal.nD Cert.NormGradIdeal.τ).loc Cert.NormGradIdeal.main_arg1) = m ((c.tc : Thread Cert.NormBwdIdeal.nD Cert.NormBwdIdeal.τ).loc Cert.NormBwdIdeal.main_arg1)
      ∧ m' ((c.tc : Thread Cert.NormGradIdeal.nD Cert.NormGradIdeal.τ).loc Cert.NormGradIdeal.main_arg2) = m ((c.tc : Thread Cert.NormBwdIdeal.nD Cert.NormBwdIdeal.τ).loc Cert.NormBwdIdeal.main_arg2)
      ∧ m' ((c.tc : Thread Cert.NormGradIdeal.nD Cert.NormGradIdeal.τ).loc Cert.NormGradIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormGradIdeal.defs (F := Ideal)) (onTc (τ := Cert.NormGradIdeal.τ) (Cert.NormGradIdeal.main (F := Ideal))) ⟨m', fun _ => 0, g'⟩ (fun r => ∀ c : Dev Cert.NormGradIdeal.nD,
          r.2.mem ((c.tc : Thread Cert.NormGradIdeal.nD Cert.NormGradIdeal.τ).loc Cert.NormGradIdeal.main_v37) = v0 c
          ∧ r.2.mem ((c.tc : Thread Cert.NormGradIdeal.nD Cert.NormGradIdeal.τ).loc Cert.NormGradIdeal.main_v19) = v1 c
          ∧ r.2.mem ((c.tc : Thread Cert.NormGradIdeal.nD Cert.NormGradIdeal.τ).loc Cert.NormGradIdeal.main_arg0) = m' ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m' ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m' ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m' ((c.tc : Thread Cert.NormGradIdeal.nD Cert.NormGradIdeal.τ).loc Cert.NormGradIdeal.main_arg3))

def preserves_FirstBwd_FirstBwdIdeal : Prop :=
  True

def algebraic_FirstBwdIdeal_FirstGradIdeal_pre_norm_finite [hFirstBwdIdeal : Cert.FirstBwdIdeal.Facts] [hFirstGradIdeal : Cert.FirstGradIdeal.Facts] [hPre_norm_finite : Cert.Pre_norm_finite.Facts] : Prop :=
  ∀ (m : (ℓ : Loc Cert.FirstBwdIdeal.nD Cert.FirstBwdIdeal.τ Cert.FirstBwdIdeal.sig) → Buf (Elt Ideal) ℓ) (g : Dev Cert.FirstBwdIdeal.nD → PrngReg)
    (m' : (ℓ : Loc Cert.FirstGradIdeal.nD Cert.FirstGradIdeal.τ Cert.FirstGradIdeal.sig) → Buf (Elt Ideal) ℓ) (g' : Dev Cert.FirstGradIdeal.nD → PrngReg), Pre_FirstBwdIdeal_norm_finite m →
    (∀ c : Dev Cert.FirstBwdIdeal.nD,
      m' ((c.tc : Thread Cert.FirstGradIdeal.nD Cert.FirstGradIdeal.τ).loc Cert.FirstGradIdeal.main_arg0) = m ((c.tc : Thread Cert.FirstBwdIdeal.nD Cert.FirstBwdIdeal.τ).loc Cert.FirstBwdIdeal.main_arg0)
      ∧ m' ((c.tc : Thread Cert.FirstGradIdeal.nD Cert.FirstGradIdeal.τ).loc Cert.FirstGradIdeal.main_arg1) = m ((c.tc : Thread Cert.FirstBwdIdeal.nD Cert.FirstBwdIdeal.τ).loc Cert.FirstBwdIdeal.main_arg1)
      ∧ m' ((c.tc : Thread Cert.FirstGradIdeal.nD Cert.FirstGradIdeal.τ).loc Cert.FirstGradIdeal.main_arg2) = m ((c.tc : Thread Cert.FirstBwdIdeal.nD Cert.FirstBwdIdeal.τ).loc Cert.FirstBwdIdeal.main_arg2)
      ∧ m' ((c.tc : Thread Cert.FirstGradIdeal.nD Cert.FirstGradIdeal.τ).loc Cert.FirstGradIdeal.main_arg3) = m ((c.tc : Thread Cert.FirstBwdIdeal.nD Cert.FirstBwdIdeal.τ).loc Cert.FirstBwdIdeal.main_arg3)) →
    ∃ (v0 : (c : Dev Cert.FirstBwdIdeal.nD) → Buf (Elt Ideal) ((c.tc : Thread Cert.FirstBwdIdeal.nD Cert.FirstBwdIdeal.τ).loc Cert.FirstBwdIdeal.main_v0_0)) (v1 : (c : Dev Cert.FirstBwdIdeal.nD) → Buf (Elt Ideal) ((c.tc : Thread Cert.FirstBwdIdeal.nD Cert.FirstBwdIdeal.τ).loc Cert.FirstBwdIdeal.main_v0_1)),
      θ_run (Cert.FirstBwdIdeal.defs (F := Ideal)) (onTc (τ := Cert.FirstBwdIdeal.τ) (Cert.FirstBwdIdeal.main (F := Ideal))) ⟨m, fun _ => 0, g⟩ (fun r => ∀ c : Dev Cert.FirstBwdIdeal.nD,
          r.2.mem ((c.tc : Thread Cert.FirstBwdIdeal.nD Cert.FirstBwdIdeal.τ).loc Cert.FirstBwdIdeal.main_v0_0) = v0 c
          ∧ r.2.mem ((c.tc : Thread Cert.FirstBwdIdeal.nD Cert.FirstBwdIdeal.τ).loc Cert.FirstBwdIdeal.main_v0_1) = v1 c
          ∧ r.2.mem ((c.tc : Thread Cert.FirstBwdIdeal.nD Cert.FirstBwdIdeal.τ).loc Cert.FirstBwdIdeal.main_arg0) = m ((c.tc : Thread Cert.FirstBwdIdeal.nD Cert.FirstBwdIdeal.τ).loc Cert.FirstBwdIdeal.main_arg0)
          ∧ r.2.mem ((c.tc : Thread Cert.FirstBwdIdeal.nD Cert.FirstBwdIdeal.τ).loc Cert.FirstBwdIdeal.main_arg1) = m ((c.tc : Thread Cert.FirstBwdIdeal.nD Cert.FirstBwdIdeal.τ).loc Cert.FirstBwdIdeal.main_arg1)
          ∧ r.2.mem ((c.tc : Thread Cert.FirstBwdIdeal.nD Cert.FirstBwdIdeal.τ).loc Cert.FirstBwdIdeal.main_arg2) = m ((c.tc : Thread Cert.FirstBwdIdeal.nD Cert.FirstBwdIdeal.τ).loc Cert.FirstBwdIdeal.main_arg2)
          ∧ r.2.mem ((c.tc : Thread Cert.FirstBwdIdeal.nD Cert.FirstBwdIdeal.τ).loc Cert.FirstBwdIdeal.main_arg3) = m ((c.tc : Thread Cert.FirstBwdIdeal.nD Cert.FirstBwdIdeal.τ).loc Cert.FirstBwdIdeal.main_arg3))
      ∧ θ_run (Cert.FirstGradIdeal.defs (F := Ideal)) (onTc (τ := Cert.FirstGradIdeal.τ) (Cert.FirstGradIdeal.main (F := Ideal))) ⟨m', fun _ => 0, g'⟩ (fun r => ∀ c : Dev Cert.FirstGradIdeal.nD,
          r.2.mem ((c.tc : Thread Cert.FirstGradIdeal.nD Cert.FirstGradIdeal.τ).loc Cert.FirstGradIdeal.main_v36) = v0 c
          ∧ r.2.mem ((c.tc : Thread Cert.FirstGradIdeal.nD Cert.FirstGradIdeal.τ).loc Cert.FirstGradIdeal.main_v19) = v1 c
          ∧ r.2.mem ((c.tc : Thread Cert.FirstGradIdeal.nD Cert.FirstGradIdeal.τ).loc Cert.FirstGradIdeal.main_arg0) = m' ((c.tc : Thread Cert.FirstGradIdeal.nD Cert.FirstGradIdeal.τ).loc Cert.FirstGradIdeal.main_arg0)
          ∧ r.2.mem ((c.tc : Thread Cert.FirstGradIdeal.nD Cert.FirstGradIdeal.τ).loc Cert.FirstGradIdeal.main_arg1) = m' ((c.tc : Thread Cert.FirstGradIdeal.nD Cert.FirstGradIdeal.τ).loc Cert.FirstGradIdeal.main_arg1)
          ∧ r.2.mem ((c.tc : Thread Cert.FirstGradIdeal.nD Cert.FirstGradIdeal.τ).loc Cert.FirstGradIdeal.main_arg2) = m' ((c.tc : Thread Cert.FirstGradIdeal.nD Cert.FirstGradIdeal.τ).loc Cert.FirstGradIdeal.main_arg2)
          ∧ r.2.mem ((c.tc : Thread Cert.FirstGradIdeal.nD Cert.FirstGradIdeal.τ).loc Cert.FirstGradIdeal.main_arg3) = m' ((c.tc : Thread Cert.FirstGradIdeal.nD Cert.FirstGradIdeal.τ).loc Cert.FirstGradIdeal.main_arg3))

def preserves_MemoryBwd_MemoryBwdIdeal : Prop :=
  True

def algebraic_MemoryBwdIdeal_MemoryGradIdeal_pre_memory_finite [hMemoryBwdIdeal : Cert.MemoryBwdIdeal.Facts] [hMemoryGradIdeal : Cert.MemoryGradIdeal.Facts] [hPre_memory_finite : Cert.Pre_memory_finite.Facts] : Prop :=
  ∀ (m : (ℓ : Loc Cert.MemoryBwdIdeal.nD Cert.MemoryBwdIdeal.τ Cert.MemoryBwdIdeal.sig) → Buf (Elt Ideal) ℓ) (g : Dev Cert.MemoryBwdIdeal.nD → PrngReg)
    (m' : (ℓ : Loc Cert.MemoryGradIdeal.nD Cert.MemoryGradIdeal.τ Cert.MemoryGradIdeal.sig) → Buf (Elt Ideal) ℓ) (g' : Dev Cert.MemoryGradIdeal.nD → PrngReg), Pre_MemoryBwdIdeal_memory_finite m →
    (∀ c : Dev Cert.MemoryBwdIdeal.nD,
      m' ((c.tc : Thread Cert.MemoryGradIdeal.nD Cert.MemoryGradIdeal.τ).loc Cert.MemoryGradIdeal.main_arg0) = m ((c.tc : Thread Cert.MemoryBwdIdeal.nD Cert.MemoryBwdIdeal.τ).loc Cert.MemoryBwdIdeal.main_arg0)
      ∧ m' ((c.tc : Thread Cert.MemoryGradIdeal.nD Cert.MemoryGradIdeal.τ).loc Cert.MemoryGradIdeal.main_arg1) = m ((c.tc : Thread Cert.MemoryBwdIdeal.nD Cert.MemoryBwdIdeal.τ).loc Cert.MemoryBwdIdeal.main_arg1)
      ∧ m' ((c.tc : Thread Cert.MemoryGradIdeal.nD Cert.MemoryGradIdeal.τ).loc Cert.MemoryGradIdeal.main_arg2) = m ((c.tc : Thread Cert.MemoryBwdIdeal.nD Cert.MemoryBwdIdeal.τ).loc Cert.MemoryBwdIdeal.main_arg2)) →
    ∃ (v0 : (c : Dev Cert.MemoryBwdIdeal.nD) → Buf (Elt Ideal) ((c.tc : Thread Cert.MemoryBwdIdeal.nD Cert.MemoryBwdIdeal.τ).loc Cert.MemoryBwdIdeal.main_v0_0)) (v1 : (c : Dev Cert.MemoryBwdIdeal.nD) → Buf (Elt Ideal) ((c.tc : Thread Cert.MemoryBwdIdeal.nD Cert.MemoryBwdIdeal.τ).loc Cert.MemoryBwdIdeal.main_v0_1)),
      θ_run (Cert.MemoryBwdIdeal.defs (F := Ideal)) (onTc (τ := Cert.MemoryBwdIdeal.τ) (Cert.MemoryBwdIdeal.main (F := Ideal))) ⟨m, fun _ => 0, g⟩ (fun r => ∀ c : Dev Cert.MemoryBwdIdeal.nD,
          r.2.mem ((c.tc : Thread Cert.MemoryBwdIdeal.nD Cert.MemoryBwdIdeal.τ).loc Cert.MemoryBwdIdeal.main_v0_0) = v0 c
          ∧ r.2.mem ((c.tc : Thread Cert.MemoryBwdIdeal.nD Cert.MemoryBwdIdeal.τ).loc Cert.MemoryBwdIdeal.main_v0_1) = v1 c
          ∧ r.2.mem ((c.tc : Thread Cert.MemoryBwdIdeal.nD Cert.MemoryBwdIdeal.τ).loc Cert.MemoryBwdIdeal.main_arg0) = m ((c.tc : Thread Cert.MemoryBwdIdeal.nD Cert.MemoryBwdIdeal.τ).loc Cert.MemoryBwdIdeal.main_arg0)
          ∧ r.2.mem ((c.tc : Thread Cert.MemoryBwdIdeal.nD Cert.MemoryBwdIdeal.τ).loc Cert.MemoryBwdIdeal.main_arg1) = m ((c.tc : Thread Cert.MemoryBwdIdeal.nD Cert.MemoryBwdIdeal.τ).loc Cert.MemoryBwdIdeal.main_arg1)
          ∧ r.2.mem ((c.tc : Thread Cert.MemoryBwdIdeal.nD Cert.MemoryBwdIdeal.τ).loc Cert.MemoryBwdIdeal.main_arg2) = m ((c.tc : Thread Cert.MemoryBwdIdeal.nD Cert.MemoryBwdIdeal.τ).loc Cert.MemoryBwdIdeal.main_arg2))
      ∧ θ_run (Cert.MemoryGradIdeal.defs (F := Ideal)) (onTc (τ := Cert.MemoryGradIdeal.τ) (Cert.MemoryGradIdeal.main (F := Ideal))) ⟨m', fun _ => 0, g'⟩ (fun r => ∀ c : Dev Cert.MemoryGradIdeal.nD,
          r.2.mem ((c.tc : Thread Cert.MemoryGradIdeal.nD Cert.MemoryGradIdeal.τ).loc Cert.MemoryGradIdeal.main_v34) = v0 c
          ∧ r.2.mem ((c.tc : Thread Cert.MemoryGradIdeal.nD Cert.MemoryGradIdeal.τ).loc Cert.MemoryGradIdeal.main_v17) = v1 c
          ∧ r.2.mem ((c.tc : Thread Cert.MemoryGradIdeal.nD Cert.MemoryGradIdeal.τ).loc Cert.MemoryGradIdeal.main_arg0) = m' ((c.tc : Thread Cert.MemoryGradIdeal.nD Cert.MemoryGradIdeal.τ).loc Cert.MemoryGradIdeal.main_arg0)
          ∧ r.2.mem ((c.tc : Thread Cert.MemoryGradIdeal.nD Cert.MemoryGradIdeal.τ).loc Cert.MemoryGradIdeal.main_arg1) = m' ((c.tc : Thread Cert.MemoryGradIdeal.nD Cert.MemoryGradIdeal.τ).loc Cert.MemoryGradIdeal.main_arg1)
          ∧ r.2.mem ((c.tc : Thread Cert.MemoryGradIdeal.nD Cert.MemoryGradIdeal.τ).loc Cert.MemoryGradIdeal.main_arg2) = m' ((c.tc : Thread Cert.MemoryGradIdeal.nD Cert.MemoryGradIdeal.τ).loc Cert.MemoryGradIdeal.main_arg2))

def preserves_LossBwd_LossBwdIdeal : Prop :=
  True

def algebraic_LossBwdIdeal_LossGradIdeal_pre_loss_finite [hLossBwdIdeal : Cert.LossBwdIdeal.Facts] [hLossGradIdeal : Cert.LossGradIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossGradIdeal.nD Cert.LossGradIdeal.τ Cert.LossGradIdeal.sig) → Buf (Elt Ideal) ℓ) (g' : Dev Cert.LossGradIdeal.nD → PrngReg), Pre_LossBwdIdeal_loss_finite m →
    (∀ c : Dev Cert.LossBwdIdeal.nD,
      m' ((c.tc : Thread Cert.LossGradIdeal.nD Cert.LossGradIdeal.τ).loc Cert.LossGradIdeal.main_arg0) = m ((c.tc : Thread Cert.LossBwdIdeal.nD Cert.LossBwdIdeal.τ).loc Cert.LossBwdIdeal.main_arg0)
      ∧ m' ((c.tc : Thread Cert.LossGradIdeal.nD Cert.LossGradIdeal.τ).loc Cert.LossGradIdeal.main_arg1) = m ((c.tc : Thread Cert.LossBwdIdeal.nD Cert.LossBwdIdeal.τ).loc Cert.LossBwdIdeal.main_arg1)
      ∧ m' ((c.tc : Thread Cert.LossGradIdeal.nD Cert.LossGradIdeal.τ).loc Cert.LossGradIdeal.main_arg2) = m ((c.tc : Thread Cert.LossBwdIdeal.nD Cert.LossBwdIdeal.τ).loc Cert.LossBwdIdeal.main_arg2)) →
    ∃ (v0 : (c : Dev Cert.LossBwdIdeal.nD) → Buf (Elt Ideal) ((c.tc : Thread Cert.LossBwdIdeal.nD Cert.LossBwdIdeal.τ).loc Cert.LossBwdIdeal.main_v0_0)) (v1 : (c : Dev Cert.LossBwdIdeal.nD) → Buf (Elt Ideal) ((c.tc : Thread Cert.LossBwdIdeal.nD Cert.LossBwdIdeal.τ).loc Cert.LossBwdIdeal.main_v0_1)) (v2 : (c : Dev Cert.LossBwdIdeal.nD) → Buf (Elt Ideal) ((c.tc : Thread Cert.LossBwdIdeal.nD Cert.LossBwdIdeal.τ).loc Cert.LossBwdIdeal.main_v0_2)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v0_0) = v0 c
          ∧ r.2.mem ((c.tc : Thread Cert.LossBwdIdeal.nD Cert.LossBwdIdeal.τ).loc Cert.LossBwdIdeal.main_v0_1) = v1 c
          ∧ r.2.mem ((c.tc : Thread Cert.LossBwdIdeal.nD Cert.LossBwdIdeal.τ).loc Cert.LossBwdIdeal.main_v0_2) = v2 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ θ_run (Cert.LossGradIdeal.defs (F := Ideal)) (onTc (τ := Cert.LossGradIdeal.τ) (Cert.LossGradIdeal.main (F := Ideal))) ⟨m', fun _ => 0, g'⟩ (fun r => ∀ c : Dev Cert.LossGradIdeal.nD,
          r.2.mem ((c.tc : Thread Cert.LossGradIdeal.nD Cert.LossGradIdeal.τ).loc Cert.LossGradIdeal.main_v49) = v0 c
          ∧ r.2.mem ((c.tc : Thread Cert.LossGradIdeal.nD Cert.LossGradIdeal.τ).loc Cert.LossGradIdeal.main_v50) = v1 c
          ∧ r.2.mem ((c.tc : Thread Cert.LossGradIdeal.nD Cert.LossGradIdeal.τ).loc Cert.LossGradIdeal.main_v32) = v2 c
          ∧ r.2.mem ((c.tc : Thread Cert.LossGradIdeal.nD Cert.LossGradIdeal.τ).loc Cert.LossGradIdeal.main_arg0) = m' ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m' ((c.tc : Thread Cert.LossGradIdeal.nD Cert.LossGradIdeal.τ).loc Cert.LossGradIdeal.main_arg1)
          ∧ r.2.mem ((c.tc : Thread Cert.LossGradIdeal.nD Cert.LossGradIdeal.τ).loc Cert.LossGradIdeal.main_arg2) = m' ((c.tc : Thread Cert.LossGradIdeal.nD Cert.LossGradIdeal.τ).loc Cert.LossGradIdeal.main_arg2))

def preserves_BiasBwd_BiasBwdIdeal : Prop :=
  True

def algebraic_BiasBwdIdeal_BiasGradIdeal [hBiasBwdIdeal : Cert.BiasBwdIdeal.Facts] [hBiasGradIdeal : Cert.BiasGradIdeal.Facts] : Prop :=
  ∀ (m : (ℓ : Loc Cert.BiasBwdIdeal.nD Cert.BiasBwdIdeal.τ Cert.BiasBwdIdeal.sig) → Buf (Elt Ideal) ℓ) (g : Dev Cert.BiasBwdIdeal.nD → PrngReg)
    (m' : (ℓ : Loc Cert.BiasGradIdeal.nD Cert.BiasGradIdeal.τ Cert.BiasGradIdeal.sig) → Buf (Elt Ideal) ℓ) (g' : Dev Cert.BiasGradIdeal.nD → PrngReg), Pre_BiasBwdIdeal m →
    (∀ c : Dev Cert.BiasBwdIdeal.nD,
      m' ((c.tc : Thread Cert.BiasGradIdeal.nD Cert.BiasGradIdeal.τ).loc Cert.BiasGradIdeal.main_arg0) = m ((c.tc : Thread Cert.BiasBwdIdeal.nD Cert.BiasBwdIdeal.τ).loc Cert.BiasBwdIdeal.main_arg0)
      ∧ m' ((c.tc : Thread Cert.BiasGradIdeal.nD Cert.BiasGradIdeal.τ).loc Cert.BiasGradIdeal.main_arg1) = m ((c.tc : Thread Cert.BiasBwdIdeal.nD Cert.BiasBwdIdeal.τ).loc Cert.BiasBwdIdeal.main_arg1)) →
    ∃ (v0 : (c : Dev Cert.BiasBwdIdeal.nD) → Buf (Elt Ideal) ((c.tc : Thread Cert.BiasBwdIdeal.nD Cert.BiasBwdIdeal.τ).loc Cert.BiasBwdIdeal.main_v29)),
      θ_run (Cert.BiasBwdIdeal.defs (F := Ideal)) (onTc (τ := Cert.BiasBwdIdeal.τ) (Cert.BiasBwdIdeal.main (F := Ideal))) ⟨m, fun _ => 0, g⟩ (fun r => ∀ c : Dev Cert.BiasBwdIdeal.nD,
          r.2.mem ((c.tc : Thread Cert.BiasBwdIdeal.nD Cert.BiasBwdIdeal.τ).loc Cert.BiasBwdIdeal.main_v29) = v0 c
          ∧ r.2.mem ((c.tc : Thread Cert.BiasBwdIdeal.nD Cert.BiasBwdIdeal.τ).loc Cert.BiasBwdIdeal.main_arg0) = m ((c.tc : Thread Cert.BiasBwdIdeal.nD Cert.BiasBwdIdeal.τ).loc Cert.BiasBwdIdeal.main_arg0)
          ∧ r.2.mem ((c.tc : Thread Cert.BiasBwdIdeal.nD Cert.BiasBwdIdeal.τ).loc Cert.BiasBwdIdeal.main_arg1) = m ((c.tc : Thread Cert.BiasBwdIdeal.nD Cert.BiasBwdIdeal.τ).loc Cert.BiasBwdIdeal.main_arg1))
      ∧ θ_run (Cert.BiasGradIdeal.defs (F := Ideal)) (onTc (τ := Cert.BiasGradIdeal.τ) (Cert.BiasGradIdeal.main (F := Ideal))) ⟨m', fun _ => 0, g'⟩ (fun r => ∀ c : Dev Cert.BiasGradIdeal.nD,
          r.2.mem ((c.tc : Thread Cert.BiasGradIdeal.nD Cert.BiasGradIdeal.τ).loc Cert.BiasGradIdeal.main_v37) = v0 c
          ∧ r.2.mem ((c.tc : Thread Cert.BiasGradIdeal.nD Cert.BiasGradIdeal.τ).loc Cert.BiasGradIdeal.main_arg0) = m' ((c.tc : Thread Cert.BiasGradIdeal.nD Cert.BiasGradIdeal.τ).loc Cert.BiasGradIdeal.main_arg0)
          ∧ r.2.mem ((c.tc : Thread Cert.BiasGradIdeal.nD Cert.BiasGradIdeal.τ).loc Cert.BiasGradIdeal.main_arg1) = m' ((c.tc : Thread Cert.BiasGradIdeal.nD Cert.BiasGradIdeal.τ).loc Cert.BiasGradIdeal.main_arg1))

def preserves_CrossFwd_CrossFwdIdeal : Prop :=
  True

def algebraic_CrossFwdIdeal_CrossPlainIdeal_pre_cross_forward_finite [hCrossFwdIdeal : Cert.CrossFwdIdeal.Facts] [hCrossPlainIdeal : Cert.CrossPlainIdeal.Facts] [hPre_cross_forward_finite : Cert.Pre_cross_forward_finite.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg)
    (m' : (ℓ : Loc Cert.CrossPlainIdeal.nD Cert.CrossPlainIdeal.τ Cert.CrossPlainIdeal.sig) → Buf (Elt Ideal) ℓ) (g' : Dev Cert.CrossPlainIdeal.nD → PrngReg), Pre_CrossFwdIdeal_cross_forward_finite m →
    (∀ c : Dev Cert.CrossFwdIdeal.nD,
      m' ((c.tc : Thread Cert.CrossPlainIdeal.nD Cert.CrossPlainIdeal.τ).loc Cert.CrossPlainIdeal.main_arg0) = m ((c.tc : Thread Cert.CrossFwdIdeal.nD Cert.CrossFwdIdeal.τ).loc Cert.CrossFwdIdeal.main_arg0)
      ∧ m' ((c.tc : Thread Cert.CrossPlainIdeal.nD Cert.CrossPlainIdeal.τ).loc Cert.CrossPlainIdeal.main_arg1) = m ((c.tc : Thread Cert.CrossFwdIdeal.nD Cert.CrossFwdIdeal.τ).loc Cert.CrossFwdIdeal.main_arg1)) →
    ∃ (v0 : (c : Dev Cert.CrossFwdIdeal.nD) → Buf (Elt Ideal) ((c.tc : Thread Cert.CrossFwdIdeal.nD Cert.CrossFwdIdeal.τ).loc Cert.CrossFwdIdeal.main_v0)),
      θ_run (Cert.CrossFwdIdeal.defs (F := Ideal)) (onTc (τ := Cert.CrossFwdIdeal.τ) (Cert.CrossFwdIdeal.main (F := Ideal))) ⟨m, fun _ => 0, g⟩ (fun r => ∀ c : Dev Cert.CrossFwdIdeal.nD,
          r.2.mem ((c.tc : Thread Cert.CrossFwdIdeal.nD Cert.CrossFwdIdeal.τ).loc Cert.CrossFwdIdeal.main_v0) = v0 c
          ∧ r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
          ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1))
      ∧ θ_run (Cert.CrossPlainIdeal.defs (F := Ideal)) (onTc (τ := Cert.CrossPlainIdeal.τ) (Cert.CrossPlainIdeal.main (F := Ideal))) ⟨m', fun _ => 0, g'⟩ (fun r => ∀ c : Dev Cert.CrossPlainIdeal.nD,
          r.2.mem ((c.tc : Thread Cert.CrossPlainIdeal.nD Cert.CrossPlainIdeal.τ).loc Cert.CrossPlainIdeal.main_v25) = v0 c
          ∧ r.2.mem ((c.tc : Thread Cert.CrossPlainIdeal.nD Cert.CrossPlainIdeal.τ).loc Cert.CrossPlainIdeal.main_arg0) = m' ((c.tc : Thread Cert.CrossPlainIdeal.nD Cert.CrossPlainIdeal.τ).loc Cert.CrossPlainIdeal.main_arg0)
          ∧ r.2.mem ((c.tc : Thread Cert.CrossPlainIdeal.nD Cert.CrossPlainIdeal.τ).loc Cert.CrossPlainIdeal.main_arg1) = m' ((c.tc : Thread Cert.CrossPlainIdeal.nD Cert.CrossPlainIdeal.τ).loc Cert.CrossPlainIdeal.main_arg1))

def preserves_AttnFwd_AttnFwdIdeal : Prop :=
  IdealRules.named_const.Statement Cert.AttnFwdIdeal.κ "mask" .f32 0xF149F2CA#32 ⊥

def algebraic_AttnFwdIdeal_AttnPlainIdeal_pre_attn_forward_finite [hAttnFwdIdeal : Cert.AttnFwdIdeal.Facts] [hAttnPlainIdeal : Cert.AttnPlainIdeal.Facts] [hPre_attn_forward_finite : Cert.Pre_attn_forward_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnPlainIdeal.nD Cert.AttnPlainIdeal.τ Cert.AttnPlainIdeal.sig) → Buf (Elt Ideal) ℓ) (g' : Dev Cert.AttnPlainIdeal.nD → PrngReg), Pre_AttnFwdIdeal_attn_forward_finite m →
    (∀ c : Dev Cert.AttnFwdIdeal.nD,
      m' ((c.tc : Thread Cert.AttnPlainIdeal.nD Cert.AttnPlainIdeal.τ).loc Cert.AttnPlainIdeal.main_arg0) = m ((c.tc : Thread Cert.AttnFwdIdeal.nD Cert.AttnFwdIdeal.τ).loc Cert.AttnFwdIdeal.main_arg0)
      ∧ m' ((c.tc : Thread Cert.AttnPlainIdeal.nD Cert.AttnPlainIdeal.τ).loc Cert.AttnPlainIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v33)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v33) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnPlainIdeal.defs (F := Ideal)) (onTc (τ := Cert.AttnPlainIdeal.τ) (Cert.AttnPlainIdeal.main (F := Ideal))) ⟨m', fun _ => 0, g'⟩ (fun r => ∀ c : Dev Cert.AttnPlainIdeal.nD,
          r.2.mem ((c.tc : Thread Cert.AttnPlainIdeal.nD Cert.AttnPlainIdeal.τ).loc Cert.AttnPlainIdeal.main_v101) = v0 c
          ∧ r.2.mem ((c.tc : Thread Cert.AttnPlainIdeal.nD Cert.AttnPlainIdeal.τ).loc Cert.AttnPlainIdeal.main_arg0) = m' ((c.tc : Thread Cert.AttnPlainIdeal.nD Cert.AttnPlainIdeal.τ).loc Cert.AttnPlainIdeal.main_arg0)
          ∧ r.2.mem ((c.tc : Thread Cert.AttnPlainIdeal.nD Cert.AttnPlainIdeal.τ).loc Cert.AttnPlainIdeal.main_arg1) = m' ((c.tc : Thread Cert.AttnPlainIdeal.nD Cert.AttnPlainIdeal.τ).loc Cert.AttnPlainIdeal.main_arg1))

def preserves_PoolFwd_PoolFwdIdeal : Prop :=
  True

def algebraic_PoolFwdIdeal_PoolPlainIdeal [hPoolFwdIdeal : Cert.PoolFwdIdeal.Facts] [hPoolPlainIdeal : Cert.PoolPlainIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolPlainIdeal.nD Cert.PoolPlainIdeal.τ Cert.PoolPlainIdeal.sig) → Buf (Elt Ideal) ℓ) (g' : Dev Cert.PoolPlainIdeal.nD → PrngReg), Pre_PoolFwdIdeal m →
    (∀ c : Dev Cert.PoolFwdIdeal.nD,
      m' ((c.tc : Thread Cert.PoolPlainIdeal.nD Cert.PoolPlainIdeal.τ).loc Cert.PoolPlainIdeal.main_arg0) = m ((c.tc : Thread Cert.PoolFwdIdeal.nD Cert.PoolFwdIdeal.τ).loc Cert.PoolFwdIdeal.main_arg0)
      ∧ m' ((c.tc : Thread Cert.PoolPlainIdeal.nD Cert.PoolPlainIdeal.τ).loc Cert.PoolPlainIdeal.main_arg1) = m ((c.tc : Thread Cert.PoolFwdIdeal.nD Cert.PoolFwdIdeal.τ).loc Cert.PoolFwdIdeal.main_arg1)
      ∧ m' ((c.tc : Thread Cert.PoolPlainIdeal.nD Cert.PoolPlainIdeal.τ).loc Cert.PoolPlainIdeal.main_arg2) = m ((c.tc : Thread Cert.PoolFwdIdeal.nD Cert.PoolFwdIdeal.τ).loc Cert.PoolFwdIdeal.main_arg2)
      ∧ m' ((c.tc : Thread Cert.PoolPlainIdeal.nD Cert.PoolPlainIdeal.τ).loc Cert.PoolPlainIdeal.main_arg3) = m ((c.tc : Thread Cert.PoolFwdIdeal.nD Cert.PoolFwdIdeal.τ).loc Cert.PoolFwdIdeal.main_arg3)) →
    ∃ (v0 : (c : Dev Cert.PoolFwdIdeal.nD) → Buf (Elt Ideal) ((c.tc : Thread Cert.PoolFwdIdeal.nD Cert.PoolFwdIdeal.τ).loc Cert.PoolFwdIdeal.main_v0_0)) (v1 : (c : Dev Cert.PoolFwdIdeal.nD) → Buf (Elt Ideal) ((c.tc : Thread Cert.PoolFwdIdeal.nD Cert.PoolFwdIdeal.τ).loc Cert.PoolFwdIdeal.main_v0_1)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v0_0) = v0 c
          ∧ r.2.mem ((c.tc : Thread Cert.PoolFwdIdeal.nD Cert.PoolFwdIdeal.τ).loc Cert.PoolFwdIdeal.main_v0_1) = v1 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
          ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3))
      ∧ θ_run (Cert.PoolPlainIdeal.defs (F := Ideal)) (onTc (τ := Cert.PoolPlainIdeal.τ) (Cert.PoolPlainIdeal.main (F := Ideal))) ⟨m', fun _ => 0, g'⟩ (fun r => ∀ c : Dev Cert.PoolPlainIdeal.nD,
          r.2.mem ((c.tc : Thread Cert.PoolPlainIdeal.nD Cert.PoolPlainIdeal.τ).loc Cert.PoolPlainIdeal.main_v49) = v0 c
          ∧ r.2.mem ((c.tc : Thread Cert.PoolPlainIdeal.nD Cert.PoolPlainIdeal.τ).loc Cert.PoolPlainIdeal.main_v55) = v1 c
          ∧ r.2.mem ((c.tc : Thread Cert.PoolPlainIdeal.nD Cert.PoolPlainIdeal.τ).loc Cert.PoolPlainIdeal.main_arg0) = m' ((c.tc : Thread Cert.PoolPlainIdeal.nD Cert.PoolPlainIdeal.τ).loc Cert.PoolPlainIdeal.main_arg0)
          ∧ r.2.mem ((c.tc : Thread Cert.PoolPlainIdeal.nD Cert.PoolPlainIdeal.τ).loc Cert.PoolPlainIdeal.main_arg1) = m' ((c.tc : Thread Cert.PoolPlainIdeal.nD Cert.PoolPlainIdeal.τ).loc Cert.PoolPlainIdeal.main_arg1)
          ∧ r.2.mem ((c.tc : Thread Cert.PoolPlainIdeal.nD Cert.PoolPlainIdeal.τ).loc Cert.PoolPlainIdeal.main_arg2) = m' ((c.tc : Thread Cert.PoolPlainIdeal.nD Cert.PoolPlainIdeal.τ).loc Cert.PoolPlainIdeal.main_arg2)
          ∧ r.2.mem ((c.tc : Thread Cert.PoolPlainIdeal.nD Cert.PoolPlainIdeal.τ).loc Cert.PoolPlainIdeal.main_arg3) = m' ((c.tc : Thread Cert.PoolPlainIdeal.nD Cert.PoolPlainIdeal.τ).loc Cert.PoolPlainIdeal.main_arg3))

def preserves_NormFwd_NormFwdIdeal : Prop :=
  True

def algebraic_NormFwdIdeal_NormPlainIdeal [hNormFwdIdeal : Cert.NormFwdIdeal.Facts] [hNormPlainIdeal : Cert.NormPlainIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormPlainIdeal.nD Cert.NormPlainIdeal.τ Cert.NormPlainIdeal.sig) → Buf (Elt Ideal) ℓ) (g' : Dev Cert.NormPlainIdeal.nD → PrngReg), Pre_NormFwdIdeal m →
    (∀ c : Dev Cert.NormFwdIdeal.nD,
      m' ((c.tc : Thread Cert.NormPlainIdeal.nD Cert.NormPlainIdeal.τ).loc Cert.NormPlainIdeal.main_arg0) = m ((c.tc : Thread Cert.NormFwdIdeal.nD Cert.NormFwdIdeal.τ).loc Cert.NormFwdIdeal.main_arg0)
      ∧ m' ((c.tc : Thread Cert.NormPlainIdeal.nD Cert.NormPlainIdeal.τ).loc Cert.NormPlainIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormPlainIdeal.defs (F := Ideal)) (onTc (τ := Cert.NormPlainIdeal.τ) (Cert.NormPlainIdeal.main (F := Ideal))) ⟨m', fun _ => 0, g'⟩ (fun r => ∀ c : Dev Cert.NormPlainIdeal.nD,
          r.2.mem ((c.tc : Thread Cert.NormPlainIdeal.nD Cert.NormPlainIdeal.τ).loc Cert.NormPlainIdeal.main_v12) = v0 c
          ∧ r.2.mem ((c.tc : Thread Cert.NormPlainIdeal.nD Cert.NormPlainIdeal.τ).loc Cert.NormPlainIdeal.main_arg0) = m' ((c.tc : Thread Cert.NormPlainIdeal.nD Cert.NormPlainIdeal.τ).loc Cert.NormPlainIdeal.main_arg0)
          ∧ r.2.mem ((c.tc : Thread Cert.NormPlainIdeal.nD Cert.NormPlainIdeal.τ).loc Cert.NormPlainIdeal.main_arg1) = m' ((c.tc : Thread Cert.NormPlainIdeal.nD Cert.NormPlainIdeal.τ).loc Cert.NormPlainIdeal.main_arg1))

def preserves_GateFwd_GateFwdIdeal : Prop :=
  True

def algebraic_GateFwdIdeal_GatePlainIdeal [hGateFwdIdeal : Cert.GateFwdIdeal.Facts] [hGatePlainIdeal : Cert.GatePlainIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GatePlainIdeal.nD Cert.GatePlainIdeal.τ Cert.GatePlainIdeal.sig) → Buf (Elt Ideal) ℓ) (g' : Dev Cert.GatePlainIdeal.nD → PrngReg), Pre_GateFwdIdeal m →
    (∀ c : Dev Cert.GateFwdIdeal.nD,
      m' ((c.tc : Thread Cert.GatePlainIdeal.nD Cert.GatePlainIdeal.τ).loc Cert.GatePlainIdeal.main_arg0) = m ((c.tc : Thread Cert.GateFwdIdeal.nD Cert.GateFwdIdeal.τ).loc Cert.GateFwdIdeal.main_arg0)
      ∧ m' ((c.tc : Thread Cert.GatePlainIdeal.nD Cert.GatePlainIdeal.τ).loc Cert.GatePlainIdeal.main_arg1) = m ((c.tc : Thread Cert.GateFwdIdeal.nD Cert.GateFwdIdeal.τ).loc Cert.GateFwdIdeal.main_arg1)
      ∧ m' ((c.tc : Thread Cert.GatePlainIdeal.nD Cert.GatePlainIdeal.τ).loc Cert.GatePlainIdeal.main_arg2) = m ((c.tc : Thread Cert.GateFwdIdeal.nD Cert.GateFwdIdeal.τ).loc Cert.GateFwdIdeal.main_arg2)) →
    ∃ (v0 : (c : Dev Cert.GateFwdIdeal.nD) → Buf (Elt Ideal) ((c.tc : Thread Cert.GateFwdIdeal.nD Cert.GateFwdIdeal.τ).loc Cert.GateFwdIdeal.main_v0_0)) (v1 : (c : Dev Cert.GateFwdIdeal.nD) → Buf (Elt Ideal) ((c.tc : Thread Cert.GateFwdIdeal.nD Cert.GateFwdIdeal.τ).loc Cert.GateFwdIdeal.main_v0_1)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0_0) = v0 c
          ∧ r.2.mem ((c.tc : Thread Cert.GateFwdIdeal.nD Cert.GateFwdIdeal.τ).loc Cert.GateFwdIdeal.main_v0_1) = v1 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ θ_run (Cert.GatePlainIdeal.defs (F := Ideal)) (onTc (τ := Cert.GatePlainIdeal.τ) (Cert.GatePlainIdeal.main (F := Ideal))) ⟨m', fun _ => 0, g'⟩ (fun r => ∀ c : Dev Cert.GatePlainIdeal.nD,
          r.2.mem ((c.tc : Thread Cert.GatePlainIdeal.nD Cert.GatePlainIdeal.τ).loc Cert.GatePlainIdeal.main_v3) = v0 c
          ∧ r.2.mem ((c.tc : Thread Cert.GatePlainIdeal.nD Cert.GatePlainIdeal.τ).loc Cert.GatePlainIdeal.main_v7) = v1 c
          ∧ r.2.mem ((c.tc : Thread Cert.GatePlainIdeal.nD Cert.GatePlainIdeal.τ).loc Cert.GatePlainIdeal.main_arg0) = m' ((c.tc : Thread Cert.GatePlainIdeal.nD Cert.GatePlainIdeal.τ).loc Cert.GatePlainIdeal.main_arg0)
          ∧ r.2.mem ((c.tc : Thread Cert.GatePlainIdeal.nD Cert.GatePlainIdeal.τ).loc Cert.GatePlainIdeal.main_arg1) = m' ((c.tc : Thread Cert.GatePlainIdeal.nD Cert.GatePlainIdeal.τ).loc Cert.GatePlainIdeal.main_arg1)
          ∧ r.2.mem ((c.tc : Thread Cert.GatePlainIdeal.nD Cert.GatePlainIdeal.τ).loc Cert.GatePlainIdeal.main_arg2) = m' ((c.tc : Thread Cert.GatePlainIdeal.nD Cert.GatePlainIdeal.τ).loc Cert.GatePlainIdeal.main_arg2))

def preserves_QueryFwd_QueryFwdIdeal : Prop :=
  True

def algebraic_QueryFwdIdeal_QueryPlainIdeal [hQueryFwdIdeal : Cert.QueryFwdIdeal.Facts] [hQueryPlainIdeal : Cert.QueryPlainIdeal.Facts] : Prop :=
  ∀ (m : (ℓ : Loc Cert.QueryFwdIdeal.nD Cert.QueryFwdIdeal.τ Cert.QueryFwdIdeal.sig) → Buf (Elt Ideal) ℓ) (g : Dev Cert.QueryFwdIdeal.nD → PrngReg)
    (m' : (ℓ : Loc Cert.QueryPlainIdeal.nD Cert.QueryPlainIdeal.τ Cert.QueryPlainIdeal.sig) → Buf (Elt Ideal) ℓ) (g' : Dev Cert.QueryPlainIdeal.nD → PrngReg), Pre_QueryFwdIdeal m →
    (∀ c : Dev Cert.QueryFwdIdeal.nD,
      m' ((c.tc : Thread Cert.QueryPlainIdeal.nD Cert.QueryPlainIdeal.τ).loc Cert.QueryPlainIdeal.main_arg0) = m ((c.tc : Thread Cert.QueryFwdIdeal.nD Cert.QueryFwdIdeal.τ).loc Cert.QueryFwdIdeal.main_arg0)
      ∧ m' ((c.tc : Thread Cert.QueryPlainIdeal.nD Cert.QueryPlainIdeal.τ).loc Cert.QueryPlainIdeal.main_arg1) = m ((c.tc : Thread Cert.QueryFwdIdeal.nD Cert.QueryFwdIdeal.τ).loc Cert.QueryFwdIdeal.main_arg1)
      ∧ m' ((c.tc : Thread Cert.QueryPlainIdeal.nD Cert.QueryPlainIdeal.τ).loc Cert.QueryPlainIdeal.main_arg2) = m ((c.tc : Thread Cert.QueryFwdIdeal.nD Cert.QueryFwdIdeal.τ).loc Cert.QueryFwdIdeal.main_arg2)) →
    ∃ (v0 : (c : Dev Cert.QueryFwdIdeal.nD) → Buf (Elt Ideal) ((c.tc : Thread Cert.QueryFwdIdeal.nD Cert.QueryFwdIdeal.τ).loc Cert.QueryFwdIdeal.main_v0_0)) (v1 : (c : Dev Cert.QueryFwdIdeal.nD) → Buf (Elt Ideal) ((c.tc : Thread Cert.QueryFwdIdeal.nD Cert.QueryFwdIdeal.τ).loc Cert.QueryFwdIdeal.main_v0_1)),
      θ_run (Cert.QueryFwdIdeal.defs (F := Ideal)) (onTc (τ := Cert.QueryFwdIdeal.τ) (Cert.QueryFwdIdeal.main (F := Ideal))) ⟨m, fun _ => 0, g⟩ (fun r => ∀ c : Dev Cert.QueryFwdIdeal.nD,
          r.2.mem ((c.tc : Thread Cert.QueryFwdIdeal.nD Cert.QueryFwdIdeal.τ).loc Cert.QueryFwdIdeal.main_v0_0) = v0 c
          ∧ r.2.mem ((c.tc : Thread Cert.QueryFwdIdeal.nD Cert.QueryFwdIdeal.τ).loc Cert.QueryFwdIdeal.main_v0_1) = v1 c
          ∧ r.2.mem ((c.tc : Thread Cert.QueryFwdIdeal.nD Cert.QueryFwdIdeal.τ).loc Cert.QueryFwdIdeal.main_arg0) = m ((c.tc : Thread Cert.QueryFwdIdeal.nD Cert.QueryFwdIdeal.τ).loc Cert.QueryFwdIdeal.main_arg0)
          ∧ r.2.mem ((c.tc : Thread Cert.QueryFwdIdeal.nD Cert.QueryFwdIdeal.τ).loc Cert.QueryFwdIdeal.main_arg1) = m ((c.tc : Thread Cert.QueryFwdIdeal.nD Cert.QueryFwdIdeal.τ).loc Cert.QueryFwdIdeal.main_arg1)
          ∧ r.2.mem ((c.tc : Thread Cert.QueryFwdIdeal.nD Cert.QueryFwdIdeal.τ).loc Cert.QueryFwdIdeal.main_arg2) = m ((c.tc : Thread Cert.QueryFwdIdeal.nD Cert.QueryFwdIdeal.τ).loc Cert.QueryFwdIdeal.main_arg2))
      ∧ θ_run (Cert.QueryPlainIdeal.defs (F := Ideal)) (onTc (τ := Cert.QueryPlainIdeal.τ) (Cert.QueryPlainIdeal.main (F := Ideal))) ⟨m', fun _ => 0, g'⟩ (fun r => ∀ c : Dev Cert.QueryPlainIdeal.nD,
          r.2.mem ((c.tc : Thread Cert.QueryPlainIdeal.nD Cert.QueryPlainIdeal.τ).loc Cert.QueryPlainIdeal.main_v14) = v0 c
          ∧ r.2.mem ((c.tc : Thread Cert.QueryPlainIdeal.nD Cert.QueryPlainIdeal.τ).loc Cert.QueryPlainIdeal.main_v15) = v1 c
          ∧ r.2.mem ((c.tc : Thread Cert.QueryPlainIdeal.nD Cert.QueryPlainIdeal.τ).loc Cert.QueryPlainIdeal.main_arg0) = m' ((c.tc : Thread Cert.QueryPlainIdeal.nD Cert.QueryPlainIdeal.τ).loc Cert.QueryPlainIdeal.main_arg0)
          ∧ r.2.mem ((c.tc : Thread Cert.QueryPlainIdeal.nD Cert.QueryPlainIdeal.τ).loc Cert.QueryPlainIdeal.main_arg1) = m' ((c.tc : Thread Cert.QueryPlainIdeal.nD Cert.QueryPlainIdeal.τ).loc Cert.QueryPlainIdeal.main_arg1)
          ∧ r.2.mem ((c.tc : Thread Cert.QueryPlainIdeal.nD Cert.QueryPlainIdeal.τ).loc Cert.QueryPlainIdeal.main_arg2) = m' ((c.tc : Thread Cert.QueryPlainIdeal.nD Cert.QueryPlainIdeal.τ).loc Cert.QueryPlainIdeal.main_arg2))

def preserves_TileFwd_TileFwdIdeal : Prop :=
  IdealRules.named_const.Statement Cert.TileFwdIdeal.κ "mask" .f32 0xF149F2CA#32 ⊥

def algebraic_TileFwdIdeal_TilePlainIdeal [hTileFwdIdeal : Cert.TileFwdIdeal.Facts] [hTilePlainIdeal : Cert.TilePlainIdeal.Facts] : Prop :=
  ∀ (m : (ℓ : Loc Cert.TileFwdIdeal.nD Cert.TileFwdIdeal.τ Cert.TileFwdIdeal.sig) → Buf (Elt Ideal) ℓ) (g : Dev Cert.TileFwdIdeal.nD → PrngReg)
    (m' : (ℓ : Loc Cert.TilePlainIdeal.nD Cert.TilePlainIdeal.τ Cert.TilePlainIdeal.sig) → Buf (Elt Ideal) ℓ) (g' : Dev Cert.TilePlainIdeal.nD → PrngReg), Pre_TileFwdIdeal m →
    (∀ c : Dev Cert.TileFwdIdeal.nD,
      m' ((c.tc : Thread Cert.TilePlainIdeal.nD Cert.TilePlainIdeal.τ).loc Cert.TilePlainIdeal.main_arg0) = m ((c.tc : Thread Cert.TileFwdIdeal.nD Cert.TileFwdIdeal.τ).loc Cert.TileFwdIdeal.main_arg0)) →
    ∃ (v0 : (c : Dev Cert.TileFwdIdeal.nD) → Buf (Elt Ideal) ((c.tc : Thread Cert.TileFwdIdeal.nD Cert.TileFwdIdeal.τ).loc Cert.TileFwdIdeal.main_v7)),
      θ_run (Cert.TileFwdIdeal.defs (F := Ideal)) (onTc (τ := Cert.TileFwdIdeal.τ) (Cert.TileFwdIdeal.main (F := Ideal))) ⟨m, fun _ => 0, g⟩ (fun r => ∀ c : Dev Cert.TileFwdIdeal.nD,
          r.2.mem ((c.tc : Thread Cert.TileFwdIdeal.nD Cert.TileFwdIdeal.τ).loc Cert.TileFwdIdeal.main_v7) = v0 c
          ∧ r.2.mem ((c.tc : Thread Cert.TileFwdIdeal.nD Cert.TileFwdIdeal.τ).loc Cert.TileFwdIdeal.main_arg0) = m ((c.tc : Thread Cert.TileFwdIdeal.nD Cert.TileFwdIdeal.τ).loc Cert.TileFwdIdeal.main_arg0))
      ∧ θ_run (Cert.TilePlainIdeal.defs (F := Ideal)) (onTc (τ := Cert.TilePlainIdeal.τ) (Cert.TilePlainIdeal.main (F := Ideal))) ⟨m', fun _ => 0, g'⟩ (fun r => ∀ c : Dev Cert.TilePlainIdeal.nD,
          r.2.mem ((c.tc : Thread Cert.TilePlainIdeal.nD Cert.TilePlainIdeal.τ).loc Cert.TilePlainIdeal.main_v29) = v0 c
          ∧ r.2.mem ((c.tc : Thread Cert.TilePlainIdeal.nD Cert.TilePlainIdeal.τ).loc Cert.TilePlainIdeal.main_arg0) = m' ((c.tc : Thread Cert.TilePlainIdeal.nD Cert.TilePlainIdeal.τ).loc Cert.TilePlainIdeal.main_arg0))

def preserves_OutMul_OutMulIdeal : Prop :=
  True

def algebraic_OutMulIdeal_OutPlainIdeal [hOutMulIdeal : Cert.OutMulIdeal.Facts] [hOutPlainIdeal : Cert.OutPlainIdeal.Facts] : Prop :=
  ∀ (m : (ℓ : Loc Cert.OutMulIdeal.nD Cert.OutMulIdeal.τ Cert.OutMulIdeal.sig) → Buf (Elt Ideal) ℓ) (g : Dev Cert.OutMulIdeal.nD → PrngReg)
    (m' : (ℓ : Loc Cert.OutPlainIdeal.nD Cert.OutPlainIdeal.τ Cert.OutPlainIdeal.sig) → Buf (Elt Ideal) ℓ) (g' : Dev Cert.OutPlainIdeal.nD → PrngReg), Pre_OutMulIdeal m →
    (∀ c : Dev Cert.OutMulIdeal.nD,
      m' ((c.tc : Thread Cert.OutPlainIdeal.nD Cert.OutPlainIdeal.τ).loc Cert.OutPlainIdeal.main_arg0) = m ((c.tc : Thread Cert.OutMulIdeal.nD Cert.OutMulIdeal.τ).loc Cert.OutMulIdeal.main_arg0)
      ∧ m' ((c.tc : Thread Cert.OutPlainIdeal.nD Cert.OutPlainIdeal.τ).loc Cert.OutPlainIdeal.main_arg1) = m ((c.tc : Thread Cert.OutMulIdeal.nD Cert.OutMulIdeal.τ).loc Cert.OutMulIdeal.main_arg1)
      ∧ m' ((c.tc : Thread Cert.OutPlainIdeal.nD Cert.OutPlainIdeal.τ).loc Cert.OutPlainIdeal.main_arg2) = m ((c.tc : Thread Cert.OutMulIdeal.nD Cert.OutMulIdeal.τ).loc Cert.OutMulIdeal.main_arg2)) →
    ∃ (v0 : (c : Dev Cert.OutMulIdeal.nD) → Buf (Elt Ideal) ((c.tc : Thread Cert.OutMulIdeal.nD Cert.OutMulIdeal.τ).loc Cert.OutMulIdeal.main_v0)),
      θ_run (Cert.OutMulIdeal.defs (F := Ideal)) (onTc (τ := Cert.OutMulIdeal.τ) (Cert.OutMulIdeal.main (F := Ideal))) ⟨m, fun _ => 0, g⟩ (fun r => ∀ c : Dev Cert.OutMulIdeal.nD,
          r.2.mem ((c.tc : Thread Cert.OutMulIdeal.nD Cert.OutMulIdeal.τ).loc Cert.OutMulIdeal.main_v0) = v0 c
          ∧ r.2.mem ((c.tc : Thread Cert.OutMulIdeal.nD Cert.OutMulIdeal.τ).loc Cert.OutMulIdeal.main_arg0) = m ((c.tc : Thread Cert.OutMulIdeal.nD Cert.OutMulIdeal.τ).loc Cert.OutMulIdeal.main_arg0)
          ∧ r.2.mem ((c.tc : Thread Cert.OutMulIdeal.nD Cert.OutMulIdeal.τ).loc Cert.OutMulIdeal.main_arg1) = m ((c.tc : Thread Cert.OutMulIdeal.nD Cert.OutMulIdeal.τ).loc Cert.OutMulIdeal.main_arg1)
          ∧ r.2.mem ((c.tc : Thread Cert.OutMulIdeal.nD Cert.OutMulIdeal.τ).loc Cert.OutMulIdeal.main_arg2) = m ((c.tc : Thread Cert.OutMulIdeal.nD Cert.OutMulIdeal.τ).loc Cert.OutMulIdeal.main_arg2))
      ∧ θ_run (Cert.OutPlainIdeal.defs (F := Ideal)) (onTc (τ := Cert.OutPlainIdeal.τ) (Cert.OutPlainIdeal.main (F := Ideal))) ⟨m', fun _ => 0, g'⟩ (fun r => ∀ c : Dev Cert.OutPlainIdeal.nD,
          r.2.mem ((c.tc : Thread Cert.OutPlainIdeal.nD Cert.OutPlainIdeal.τ).loc Cert.OutPlainIdeal.main_v3) = v0 c
          ∧ r.2.mem ((c.tc : Thread Cert.OutPlainIdeal.nD Cert.OutPlainIdeal.τ).loc Cert.OutPlainIdeal.main_arg0) = m' ((c.tc : Thread Cert.OutPlainIdeal.nD Cert.OutPlainIdeal.τ).loc Cert.OutPlainIdeal.main_arg0)
          ∧ r.2.mem ((c.tc : Thread Cert.OutPlainIdeal.nD Cert.OutPlainIdeal.τ).loc Cert.OutPlainIdeal.main_arg1) = m' ((c.tc : Thread Cert.OutPlainIdeal.nD Cert.OutPlainIdeal.τ).loc Cert.OutPlainIdeal.main_arg1)
          ∧ r.2.mem ((c.tc : Thread Cert.OutPlainIdeal.nD Cert.OutPlainIdeal.τ).loc Cert.OutPlainIdeal.main_arg2) = m' ((c.tc : Thread Cert.OutPlainIdeal.nD Cert.OutPlainIdeal.τ).loc Cert.OutPlainIdeal.main_arg2))

def preserves_InMul_InMulIdeal : Prop :=
  True

def algebraic_InMulIdeal_InPlainIdeal [hInMulIdeal : Cert.InMulIdeal.Facts] [hInPlainIdeal : Cert.InPlainIdeal.Facts] : Prop :=
  ∀ (m : (ℓ : Loc Cert.InMulIdeal.nD Cert.InMulIdeal.τ Cert.InMulIdeal.sig) → Buf (Elt Ideal) ℓ) (g : Dev Cert.InMulIdeal.nD → PrngReg)
    (m' : (ℓ : Loc Cert.InPlainIdeal.nD Cert.InPlainIdeal.τ Cert.InPlainIdeal.sig) → Buf (Elt Ideal) ℓ) (g' : Dev Cert.InPlainIdeal.nD → PrngReg), Pre_InMulIdeal m →
    (∀ c : Dev Cert.InMulIdeal.nD,
      m' ((c.tc : Thread Cert.InPlainIdeal.nD Cert.InPlainIdeal.τ).loc Cert.InPlainIdeal.main_arg0) = m ((c.tc : Thread Cert.InMulIdeal.nD Cert.InMulIdeal.τ).loc Cert.InMulIdeal.main_arg0)
      ∧ m' ((c.tc : Thread Cert.InPlainIdeal.nD Cert.InPlainIdeal.τ).loc Cert.InPlainIdeal.main_arg1) = m ((c.tc : Thread Cert.InMulIdeal.nD Cert.InMulIdeal.τ).loc Cert.InMulIdeal.main_arg1)) →
    ∃ (v0 : (c : Dev Cert.InMulIdeal.nD) → Buf (Elt Ideal) ((c.tc : Thread Cert.InMulIdeal.nD Cert.InMulIdeal.τ).loc Cert.InMulIdeal.main_v2)),
      θ_run (Cert.InMulIdeal.defs (F := Ideal)) (onTc (τ := Cert.InMulIdeal.τ) (Cert.InMulIdeal.main (F := Ideal))) ⟨m, fun _ => 0, g⟩ (fun r => ∀ c : Dev Cert.InMulIdeal.nD,
          r.2.mem ((c.tc : Thread Cert.InMulIdeal.nD Cert.InMulIdeal.τ).loc Cert.InMulIdeal.main_v2) = v0 c
          ∧ r.2.mem ((c.tc : Thread Cert.InMulIdeal.nD Cert.InMulIdeal.τ).loc Cert.InMulIdeal.main_arg0) = m ((c.tc : Thread Cert.InMulIdeal.nD Cert.InMulIdeal.τ).loc Cert.InMulIdeal.main_arg0)
          ∧ r.2.mem ((c.tc : Thread Cert.InMulIdeal.nD Cert.InMulIdeal.τ).loc Cert.InMulIdeal.main_arg1) = m ((c.tc : Thread Cert.InMulIdeal.nD Cert.InMulIdeal.τ).loc Cert.InMulIdeal.main_arg1))
      ∧ θ_run (Cert.InPlainIdeal.defs (F := Ideal)) (onTc (τ := Cert.InPlainIdeal.τ) (Cert.InPlainIdeal.main (F := Ideal))) ⟨m', fun _ => 0, g'⟩ (fun r => ∀ c : Dev Cert.InPlainIdeal.nD,
          r.2.mem ((c.tc : Thread Cert.InPlainIdeal.nD Cert.InPlainIdeal.τ).loc Cert.InPlainIdeal.main_v2) = v0 c
          ∧ r.2.mem ((c.tc : Thread Cert.InPlainIdeal.nD Cert.InPlainIdeal.τ).loc Cert.InPlainIdeal.main_arg0) = m' ((c.tc : Thread Cert.InPlainIdeal.nD Cert.InPlainIdeal.τ).loc Cert.InPlainIdeal.main_arg0)
          ∧ r.2.mem ((c.tc : Thread Cert.InPlainIdeal.nD Cert.InPlainIdeal.τ).loc Cert.InPlainIdeal.main_arg1) = m' ((c.tc : Thread Cert.InPlainIdeal.nD Cert.InPlainIdeal.τ).loc Cert.InPlainIdeal.main_arg1))

def preserves_BackMul_BackMulIdeal : Prop :=
  True

def algebraic_BackMulIdeal_BackPlainIdeal [hBackMulIdeal : Cert.BackMulIdeal.Facts] [hBackPlainIdeal : Cert.BackPlainIdeal.Facts] : Prop :=
  ∀ (m : (ℓ : Loc Cert.BackMulIdeal.nD Cert.BackMulIdeal.τ Cert.BackMulIdeal.sig) → Buf (Elt Ideal) ℓ) (g : Dev Cert.BackMulIdeal.nD → PrngReg)
    (m' : (ℓ : Loc Cert.BackPlainIdeal.nD Cert.BackPlainIdeal.τ Cert.BackPlainIdeal.sig) → Buf (Elt Ideal) ℓ) (g' : Dev Cert.BackPlainIdeal.nD → PrngReg), Pre_BackMulIdeal m →
    (∀ c : Dev Cert.BackMulIdeal.nD,
      m' ((c.tc : Thread Cert.BackPlainIdeal.nD Cert.BackPlainIdeal.τ).loc Cert.BackPlainIdeal.main_arg0) = m ((c.tc : Thread Cert.BackMulIdeal.nD Cert.BackMulIdeal.τ).loc Cert.BackMulIdeal.main_arg0)
      ∧ m' ((c.tc : Thread Cert.BackPlainIdeal.nD Cert.BackPlainIdeal.τ).loc Cert.BackPlainIdeal.main_arg1) = m ((c.tc : Thread Cert.BackMulIdeal.nD Cert.BackMulIdeal.τ).loc Cert.BackMulIdeal.main_arg1)) →
    ∃ (v0 : (c : Dev Cert.BackMulIdeal.nD) → Buf (Elt Ideal) ((c.tc : Thread Cert.BackMulIdeal.nD Cert.BackMulIdeal.τ).loc Cert.BackMulIdeal.main_v0)),
      θ_run (Cert.BackMulIdeal.defs (F := Ideal)) (onTc (τ := Cert.BackMulIdeal.τ) (Cert.BackMulIdeal.main (F := Ideal))) ⟨m, fun _ => 0, g⟩ (fun r => ∀ c : Dev Cert.BackMulIdeal.nD,
          r.2.mem ((c.tc : Thread Cert.BackMulIdeal.nD Cert.BackMulIdeal.τ).loc Cert.BackMulIdeal.main_v0) = v0 c
          ∧ r.2.mem ((c.tc : Thread Cert.BackMulIdeal.nD Cert.BackMulIdeal.τ).loc Cert.BackMulIdeal.main_arg0) = m ((c.tc : Thread Cert.BackMulIdeal.nD Cert.BackMulIdeal.τ).loc Cert.BackMulIdeal.main_arg0)
          ∧ r.2.mem ((c.tc : Thread Cert.BackMulIdeal.nD Cert.BackMulIdeal.τ).loc Cert.BackMulIdeal.main_arg1) = m ((c.tc : Thread Cert.BackMulIdeal.nD Cert.BackMulIdeal.τ).loc Cert.BackMulIdeal.main_arg1))
      ∧ θ_run (Cert.BackPlainIdeal.defs (F := Ideal)) (onTc (τ := Cert.BackPlainIdeal.τ) (Cert.BackPlainIdeal.main (F := Ideal))) ⟨m', fun _ => 0, g'⟩ (fun r => ∀ c : Dev Cert.BackPlainIdeal.nD,
          r.2.mem ((c.tc : Thread Cert.BackPlainIdeal.nD Cert.BackPlainIdeal.τ).loc Cert.BackPlainIdeal.main_v5) = v0 c
          ∧ r.2.mem ((c.tc : Thread Cert.BackPlainIdeal.nD Cert.BackPlainIdeal.τ).loc Cert.BackPlainIdeal.main_arg0) = m' ((c.tc : Thread Cert.BackPlainIdeal.nD Cert.BackPlainIdeal.τ).loc Cert.BackPlainIdeal.main_arg0)
          ∧ r.2.mem ((c.tc : Thread Cert.BackPlainIdeal.nD Cert.BackPlainIdeal.τ).loc Cert.BackPlainIdeal.main_arg1) = m' ((c.tc : Thread Cert.BackPlainIdeal.nD Cert.BackPlainIdeal.τ).loc Cert.BackPlainIdeal.main_arg1))

def preserves_ColumnsMul_ColumnsMulIdeal : Prop :=
  True

def algebraic_ColumnsMulIdeal_ColumnsPlainIdeal [hColumnsMulIdeal : Cert.ColumnsMulIdeal.Facts] [hColumnsPlainIdeal : Cert.ColumnsPlainIdeal.Facts] : Prop :=
  ∀ (m : (ℓ : Loc Cert.ColumnsMulIdeal.nD Cert.ColumnsMulIdeal.τ Cert.ColumnsMulIdeal.sig) → Buf (Elt Ideal) ℓ) (g : Dev Cert.ColumnsMulIdeal.nD → PrngReg)
    (m' : (ℓ : Loc Cert.ColumnsPlainIdeal.nD Cert.ColumnsPlainIdeal.τ Cert.ColumnsPlainIdeal.sig) → Buf (Elt Ideal) ℓ) (g' : Dev Cert.ColumnsPlainIdeal.nD → PrngReg), Pre_ColumnsMulIdeal m →
    (∀ c : Dev Cert.ColumnsMulIdeal.nD,
      m' ((c.tc : Thread Cert.ColumnsPlainIdeal.nD Cert.ColumnsPlainIdeal.τ).loc Cert.ColumnsPlainIdeal.main_arg0) = m ((c.tc : Thread Cert.ColumnsMulIdeal.nD Cert.ColumnsMulIdeal.τ).loc Cert.ColumnsMulIdeal.main_arg0)
      ∧ m' ((c.tc : Thread Cert.ColumnsPlainIdeal.nD Cert.ColumnsPlainIdeal.τ).loc Cert.ColumnsPlainIdeal.main_arg1) = m ((c.tc : Thread Cert.ColumnsMulIdeal.nD Cert.ColumnsMulIdeal.τ).loc Cert.ColumnsMulIdeal.main_arg1)) →
    ∃ (v0 : (c : Dev Cert.ColumnsMulIdeal.nD) → Buf (Elt Ideal) ((c.tc : Thread Cert.ColumnsMulIdeal.nD Cert.ColumnsMulIdeal.τ).loc Cert.ColumnsMulIdeal.main_v2)),
      θ_run (Cert.ColumnsMulIdeal.defs (F := Ideal)) (onTc (τ := Cert.ColumnsMulIdeal.τ) (Cert.ColumnsMulIdeal.main (F := Ideal))) ⟨m, fun _ => 0, g⟩ (fun r => ∀ c : Dev Cert.ColumnsMulIdeal.nD,
          r.2.mem ((c.tc : Thread Cert.ColumnsMulIdeal.nD Cert.ColumnsMulIdeal.τ).loc Cert.ColumnsMulIdeal.main_v2) = v0 c
          ∧ r.2.mem ((c.tc : Thread Cert.ColumnsMulIdeal.nD Cert.ColumnsMulIdeal.τ).loc Cert.ColumnsMulIdeal.main_arg0) = m ((c.tc : Thread Cert.ColumnsMulIdeal.nD Cert.ColumnsMulIdeal.τ).loc Cert.ColumnsMulIdeal.main_arg0)
          ∧ r.2.mem ((c.tc : Thread Cert.ColumnsMulIdeal.nD Cert.ColumnsMulIdeal.τ).loc Cert.ColumnsMulIdeal.main_arg1) = m ((c.tc : Thread Cert.ColumnsMulIdeal.nD Cert.ColumnsMulIdeal.τ).loc Cert.ColumnsMulIdeal.main_arg1))
      ∧ θ_run (Cert.ColumnsPlainIdeal.defs (F := Ideal)) (onTc (τ := Cert.ColumnsPlainIdeal.τ) (Cert.ColumnsPlainIdeal.main (F := Ideal))) ⟨m', fun _ => 0, g'⟩ (fun r => ∀ c : Dev Cert.ColumnsPlainIdeal.nD,
          r.2.mem ((c.tc : Thread Cert.ColumnsPlainIdeal.nD Cert.ColumnsPlainIdeal.τ).loc Cert.ColumnsPlainIdeal.main_v5) = v0 c
          ∧ r.2.mem ((c.tc : Thread Cert.ColumnsPlainIdeal.nD Cert.ColumnsPlainIdeal.τ).loc Cert.ColumnsPlainIdeal.main_arg0) = m' ((c.tc : Thread Cert.ColumnsPlainIdeal.nD Cert.ColumnsPlainIdeal.τ).loc Cert.ColumnsPlainIdeal.main_arg0)
          ∧ r.2.mem ((c.tc : Thread Cert.ColumnsPlainIdeal.nD Cert.ColumnsPlainIdeal.τ).loc Cert.ColumnsPlainIdeal.main_arg1) = m' ((c.tc : Thread Cert.ColumnsPlainIdeal.nD Cert.ColumnsPlainIdeal.τ).loc Cert.ColumnsPlainIdeal.main_arg1))

def preserves_WeightMul_WeightMulIdeal : Prop :=
  True

def algebraic_WeightMulIdeal_WeightPlainIdeal [hWeightMulIdeal : Cert.WeightMulIdeal.Facts] [hWeightPlainIdeal : Cert.WeightPlainIdeal.Facts] : Prop :=
  ∀ (m : (ℓ : Loc Cert.WeightMulIdeal.nD Cert.WeightMulIdeal.τ Cert.WeightMulIdeal.sig) → Buf (Elt Ideal) ℓ) (g : Dev Cert.WeightMulIdeal.nD → PrngReg)
    (m' : (ℓ : Loc Cert.WeightPlainIdeal.nD Cert.WeightPlainIdeal.τ Cert.WeightPlainIdeal.sig) → Buf (Elt Ideal) ℓ) (g' : Dev Cert.WeightPlainIdeal.nD → PrngReg), Pre_WeightMulIdeal m →
    (∀ c : Dev Cert.WeightMulIdeal.nD,
      m' ((c.tc : Thread Cert.WeightPlainIdeal.nD Cert.WeightPlainIdeal.τ).loc Cert.WeightPlainIdeal.main_arg0) = m ((c.tc : Thread Cert.WeightMulIdeal.nD Cert.WeightMulIdeal.τ).loc Cert.WeightMulIdeal.main_arg0)
      ∧ m' ((c.tc : Thread Cert.WeightPlainIdeal.nD Cert.WeightPlainIdeal.τ).loc Cert.WeightPlainIdeal.main_arg1) = m ((c.tc : Thread Cert.WeightMulIdeal.nD Cert.WeightMulIdeal.τ).loc Cert.WeightMulIdeal.main_arg1)) →
    ∃ (v0 : (c : Dev Cert.WeightMulIdeal.nD) → Buf (Elt Ideal) ((c.tc : Thread Cert.WeightMulIdeal.nD Cert.WeightMulIdeal.τ).loc Cert.WeightMulIdeal.main_v2)),
      θ_run (Cert.WeightMulIdeal.defs (F := Ideal)) (onTc (τ := Cert.WeightMulIdeal.τ) (Cert.WeightMulIdeal.main (F := Ideal))) ⟨m, fun _ => 0, g⟩ (fun r => ∀ c : Dev Cert.WeightMulIdeal.nD,
          r.2.mem ((c.tc : Thread Cert.WeightMulIdeal.nD Cert.WeightMulIdeal.τ).loc Cert.WeightMulIdeal.main_v2) = v0 c
          ∧ r.2.mem ((c.tc : Thread Cert.WeightMulIdeal.nD Cert.WeightMulIdeal.τ).loc Cert.WeightMulIdeal.main_arg0) = m ((c.tc : Thread Cert.WeightMulIdeal.nD Cert.WeightMulIdeal.τ).loc Cert.WeightMulIdeal.main_arg0)
          ∧ r.2.mem ((c.tc : Thread Cert.WeightMulIdeal.nD Cert.WeightMulIdeal.τ).loc Cert.WeightMulIdeal.main_arg1) = m ((c.tc : Thread Cert.WeightMulIdeal.nD Cert.WeightMulIdeal.τ).loc Cert.WeightMulIdeal.main_arg1))
      ∧ θ_run (Cert.WeightPlainIdeal.defs (F := Ideal)) (onTc (τ := Cert.WeightPlainIdeal.τ) (Cert.WeightPlainIdeal.main (F := Ideal))) ⟨m', fun _ => 0, g'⟩ (fun r => ∀ c : Dev Cert.WeightPlainIdeal.nD,
          r.2.mem ((c.tc : Thread Cert.WeightPlainIdeal.nD Cert.WeightPlainIdeal.τ).loc Cert.WeightPlainIdeal.main_v6) = v0 c
          ∧ r.2.mem ((c.tc : Thread Cert.WeightPlainIdeal.nD Cert.WeightPlainIdeal.τ).loc Cert.WeightPlainIdeal.main_arg0) = m' ((c.tc : Thread Cert.WeightPlainIdeal.nD Cert.WeightPlainIdeal.τ).loc Cert.WeightPlainIdeal.main_arg0)
          ∧ r.2.mem ((c.tc : Thread Cert.WeightPlainIdeal.nD Cert.WeightPlainIdeal.τ).loc Cert.WeightPlainIdeal.main_arg1) = m' ((c.tc : Thread Cert.WeightPlainIdeal.nD Cert.WeightPlainIdeal.τ).loc Cert.WeightPlainIdeal.main_arg1))

def preserves_DownMul_DownMulIdeal : Prop :=
  True

def algebraic_DownMulIdeal_DownPlainIdeal [hDownMulIdeal : Cert.DownMulIdeal.Facts] [hDownPlainIdeal : Cert.DownPlainIdeal.Facts] : Prop :=
  ∀ (m : (ℓ : Loc Cert.DownMulIdeal.nD Cert.DownMulIdeal.τ Cert.DownMulIdeal.sig) → Buf (Elt Ideal) ℓ) (g : Dev Cert.DownMulIdeal.nD → PrngReg)
    (m' : (ℓ : Loc Cert.DownPlainIdeal.nD Cert.DownPlainIdeal.τ Cert.DownPlainIdeal.sig) → Buf (Elt Ideal) ℓ) (g' : Dev Cert.DownPlainIdeal.nD → PrngReg), Pre_DownMulIdeal m →
    (∀ c : Dev Cert.DownMulIdeal.nD,
      m' ((c.tc : Thread Cert.DownPlainIdeal.nD Cert.DownPlainIdeal.τ).loc Cert.DownPlainIdeal.main_arg0) = m ((c.tc : Thread Cert.DownMulIdeal.nD Cert.DownMulIdeal.τ).loc Cert.DownMulIdeal.main_arg0)
      ∧ m' ((c.tc : Thread Cert.DownPlainIdeal.nD Cert.DownPlainIdeal.τ).loc Cert.DownPlainIdeal.main_arg1) = m ((c.tc : Thread Cert.DownMulIdeal.nD Cert.DownMulIdeal.τ).loc Cert.DownMulIdeal.main_arg1)
      ∧ m' ((c.tc : Thread Cert.DownPlainIdeal.nD Cert.DownPlainIdeal.τ).loc Cert.DownPlainIdeal.main_arg2) = m ((c.tc : Thread Cert.DownMulIdeal.nD Cert.DownMulIdeal.τ).loc Cert.DownMulIdeal.main_arg2)) →
    ∃ (v0 : (c : Dev Cert.DownMulIdeal.nD) → Buf (Elt Ideal) ((c.tc : Thread Cert.DownMulIdeal.nD Cert.DownMulIdeal.τ).loc Cert.DownMulIdeal.main_v0)),
      θ_run (Cert.DownMulIdeal.defs (F := Ideal)) (onTc (τ := Cert.DownMulIdeal.τ) (Cert.DownMulIdeal.main (F := Ideal))) ⟨m, fun _ => 0, g⟩ (fun r => ∀ c : Dev Cert.DownMulIdeal.nD,
          r.2.mem ((c.tc : Thread Cert.DownMulIdeal.nD Cert.DownMulIdeal.τ).loc Cert.DownMulIdeal.main_v0) = v0 c
          ∧ r.2.mem ((c.tc : Thread Cert.DownMulIdeal.nD Cert.DownMulIdeal.τ).loc Cert.DownMulIdeal.main_arg0) = m ((c.tc : Thread Cert.DownMulIdeal.nD Cert.DownMulIdeal.τ).loc Cert.DownMulIdeal.main_arg0)
          ∧ r.2.mem ((c.tc : Thread Cert.DownMulIdeal.nD Cert.DownMulIdeal.τ).loc Cert.DownMulIdeal.main_arg1) = m ((c.tc : Thread Cert.DownMulIdeal.nD Cert.DownMulIdeal.τ).loc Cert.DownMulIdeal.main_arg1)
          ∧ r.2.mem ((c.tc : Thread Cert.DownMulIdeal.nD Cert.DownMulIdeal.τ).loc Cert.DownMulIdeal.main_arg2) = m ((c.tc : Thread Cert.DownMulIdeal.nD Cert.DownMulIdeal.τ).loc Cert.DownMulIdeal.main_arg2))
      ∧ θ_run (Cert.DownPlainIdeal.defs (F := Ideal)) (onTc (τ := Cert.DownPlainIdeal.τ) (Cert.DownPlainIdeal.main (F := Ideal))) ⟨m', fun _ => 0, g'⟩ (fun r => ∀ c : Dev Cert.DownPlainIdeal.nD,
          r.2.mem ((c.tc : Thread Cert.DownPlainIdeal.nD Cert.DownPlainIdeal.τ).loc Cert.DownPlainIdeal.main_v5) = v0 c
          ∧ r.2.mem ((c.tc : Thread Cert.DownPlainIdeal.nD Cert.DownPlainIdeal.τ).loc Cert.DownPlainIdeal.main_arg0) = m' ((c.tc : Thread Cert.DownPlainIdeal.nD Cert.DownPlainIdeal.τ).loc Cert.DownPlainIdeal.main_arg0)
          ∧ r.2.mem ((c.tc : Thread Cert.DownPlainIdeal.nD Cert.DownPlainIdeal.τ).loc Cert.DownPlainIdeal.main_arg1) = m' ((c.tc : Thread Cert.DownPlainIdeal.nD Cert.DownPlainIdeal.τ).loc Cert.DownPlainIdeal.main_arg1)
          ∧ r.2.mem ((c.tc : Thread Cert.DownPlainIdeal.nD Cert.DownPlainIdeal.τ).loc Cert.DownPlainIdeal.main_arg2) = m' ((c.tc : Thread Cert.DownPlainIdeal.nD Cert.DownPlainIdeal.τ).loc Cert.DownPlainIdeal.main_arg2))

def preserves_HiddenMul_HiddenMulIdeal : Prop :=
  True

def algebraic_HiddenMulIdeal_HiddenPlainIdeal [hHiddenMulIdeal : Cert.HiddenMulIdeal.Facts] [hHiddenPlainIdeal : Cert.HiddenPlainIdeal.Facts] : Prop :=
  ∀ (m : (ℓ : Loc Cert.HiddenMulIdeal.nD Cert.HiddenMulIdeal.τ Cert.HiddenMulIdeal.sig) → Buf (Elt Ideal) ℓ) (g : Dev Cert.HiddenMulIdeal.nD → PrngReg)
    (m' : (ℓ : Loc Cert.HiddenPlainIdeal.nD Cert.HiddenPlainIdeal.τ Cert.HiddenPlainIdeal.sig) → Buf (Elt Ideal) ℓ) (g' : Dev Cert.HiddenPlainIdeal.nD → PrngReg), Pre_HiddenMulIdeal m →
    (∀ c : Dev Cert.HiddenMulIdeal.nD,
      m' ((c.tc : Thread Cert.HiddenPlainIdeal.nD Cert.HiddenPlainIdeal.τ).loc Cert.HiddenPlainIdeal.main_arg0) = m ((c.tc : Thread Cert.HiddenMulIdeal.nD Cert.HiddenMulIdeal.τ).loc Cert.HiddenMulIdeal.main_arg0)
      ∧ m' ((c.tc : Thread Cert.HiddenPlainIdeal.nD Cert.HiddenPlainIdeal.τ).loc Cert.HiddenPlainIdeal.main_arg1) = m ((c.tc : Thread Cert.HiddenMulIdeal.nD Cert.HiddenMulIdeal.τ).loc Cert.HiddenMulIdeal.main_arg1)) →
    ∃ (v0 : (c : Dev Cert.HiddenMulIdeal.nD) → Buf (Elt Ideal) ((c.tc : Thread Cert.HiddenMulIdeal.nD Cert.HiddenMulIdeal.τ).loc Cert.HiddenMulIdeal.main_v0)),
      θ_run (Cert.HiddenMulIdeal.defs (F := Ideal)) (onTc (τ := Cert.HiddenMulIdeal.τ) (Cert.HiddenMulIdeal.main (F := Ideal))) ⟨m, fun _ => 0, g⟩ (fun r => ∀ c : Dev Cert.HiddenMulIdeal.nD,
          r.2.mem ((c.tc : Thread Cert.HiddenMulIdeal.nD Cert.HiddenMulIdeal.τ).loc Cert.HiddenMulIdeal.main_v0) = v0 c
          ∧ r.2.mem ((c.tc : Thread Cert.HiddenMulIdeal.nD Cert.HiddenMulIdeal.τ).loc Cert.HiddenMulIdeal.main_arg0) = m ((c.tc : Thread Cert.HiddenMulIdeal.nD Cert.HiddenMulIdeal.τ).loc Cert.HiddenMulIdeal.main_arg0)
          ∧ r.2.mem ((c.tc : Thread Cert.HiddenMulIdeal.nD Cert.HiddenMulIdeal.τ).loc Cert.HiddenMulIdeal.main_arg1) = m ((c.tc : Thread Cert.HiddenMulIdeal.nD Cert.HiddenMulIdeal.τ).loc Cert.HiddenMulIdeal.main_arg1))
      ∧ θ_run (Cert.HiddenPlainIdeal.defs (F := Ideal)) (onTc (τ := Cert.HiddenPlainIdeal.τ) (Cert.HiddenPlainIdeal.main (F := Ideal))) ⟨m', fun _ => 0, g'⟩ (fun r => ∀ c : Dev Cert.HiddenPlainIdeal.nD,
          r.2.mem ((c.tc : Thread Cert.HiddenPlainIdeal.nD Cert.HiddenPlainIdeal.τ).loc Cert.HiddenPlainIdeal.main_v10) = v0 c
          ∧ r.2.mem ((c.tc : Thread Cert.HiddenPlainIdeal.nD Cert.HiddenPlainIdeal.τ).loc Cert.HiddenPlainIdeal.main_arg0) = m' ((c.tc : Thread Cert.HiddenPlainIdeal.nD Cert.HiddenPlainIdeal.τ).loc Cert.HiddenPlainIdeal.main_arg0)
          ∧ r.2.mem ((c.tc : Thread Cert.HiddenPlainIdeal.nD Cert.HiddenPlainIdeal.τ).loc Cert.HiddenPlainIdeal.main_arg1) = m' ((c.tc : Thread Cert.HiddenPlainIdeal.nD Cert.HiddenPlainIdeal.τ).loc Cert.HiddenPlainIdeal.main_arg1))

def preserves_IntoMul_IntoMulIdeal : Prop :=
  True

def algebraic_IntoMulIdeal_IntoPlainIdeal [hIntoMulIdeal : Cert.IntoMulIdeal.Facts] [hIntoPlainIdeal : Cert.IntoPlainIdeal.Facts] : Prop :=
  ∀ (m : (ℓ : Loc Cert.IntoMulIdeal.nD Cert.IntoMulIdeal.τ Cert.IntoMulIdeal.sig) → Buf (Elt Ideal) ℓ) (g : Dev Cert.IntoMulIdeal.nD → PrngReg)
    (m' : (ℓ : Loc Cert.IntoPlainIdeal.nD Cert.IntoPlainIdeal.τ Cert.IntoPlainIdeal.sig) → Buf (Elt Ideal) ℓ) (g' : Dev Cert.IntoPlainIdeal.nD → PrngReg), Pre_IntoMulIdeal m →
    (∀ c : Dev Cert.IntoMulIdeal.nD,
      m' ((c.tc : Thread Cert.IntoPlainIdeal.nD Cert.IntoPlainIdeal.τ).loc Cert.IntoPlainIdeal.main_arg0) = m ((c.tc : Thread Cert.IntoMulIdeal.nD Cert.IntoMulIdeal.τ).loc Cert.IntoMulIdeal.main_arg0)
      ∧ m' ((c.tc : Thread Cert.IntoPlainIdeal.nD Cert.IntoPlainIdeal.τ).loc Cert.IntoPlainIdeal.main_arg1) = m ((c.tc : Thread Cert.IntoMulIdeal.nD Cert.IntoMulIdeal.τ).loc Cert.IntoMulIdeal.main_arg1)) →
    ∃ (v0 : (c : Dev Cert.IntoMulIdeal.nD) → Buf (Elt Ideal) ((c.tc : Thread Cert.IntoMulIdeal.nD Cert.IntoMulIdeal.τ).loc Cert.IntoMulIdeal.main_v1)),
      θ_run (Cert.IntoMulIdeal.defs (F := Ideal)) (onTc (τ := Cert.IntoMulIdeal.τ) (Cert.IntoMulIdeal.main (F := Ideal))) ⟨m, fun _ => 0, g⟩ (fun r => ∀ c : Dev Cert.IntoMulIdeal.nD,
          r.2.mem ((c.tc : Thread Cert.IntoMulIdeal.nD Cert.IntoMulIdeal.τ).loc Cert.IntoMulIdeal.main_v1) = v0 c
          ∧ r.2.mem ((c.tc : Thread Cert.IntoMulIdeal.nD Cert.IntoMulIdeal.τ).loc Cert.IntoMulIdeal.main_arg0) = m ((c.tc : Thread Cert.IntoMulIdeal.nD Cert.IntoMulIdeal.τ).loc Cert.IntoMulIdeal.main_arg0)
          ∧ r.2.mem ((c.tc : Thread Cert.IntoMulIdeal.nD Cert.IntoMulIdeal.τ).loc Cert.IntoMulIdeal.main_arg1) = m ((c.tc : Thread Cert.IntoMulIdeal.nD Cert.IntoMulIdeal.τ).loc Cert.IntoMulIdeal.main_arg1))
      ∧ θ_run (Cert.IntoPlainIdeal.defs (F := Ideal)) (onTc (τ := Cert.IntoPlainIdeal.τ) (Cert.IntoPlainIdeal.main (F := Ideal))) ⟨m', fun _ => 0, g'⟩ (fun r => ∀ c : Dev Cert.IntoPlainIdeal.nD,
          r.2.mem ((c.tc : Thread Cert.IntoPlainIdeal.nD Cert.IntoPlainIdeal.τ).loc Cert.IntoPlainIdeal.main_v3) = v0 c
          ∧ r.2.mem ((c.tc : Thread Cert.IntoPlainIdeal.nD Cert.IntoPlainIdeal.τ).loc Cert.IntoPlainIdeal.main_arg0) = m' ((c.tc : Thread Cert.IntoPlainIdeal.nD Cert.IntoPlainIdeal.τ).loc Cert.IntoPlainIdeal.main_arg0)
          ∧ r.2.mem ((c.tc : Thread Cert.IntoPlainIdeal.nD Cert.IntoPlainIdeal.τ).loc Cert.IntoPlainIdeal.main_arg1) = m' ((c.tc : Thread Cert.IntoPlainIdeal.nD Cert.IntoPlainIdeal.τ).loc Cert.IntoPlainIdeal.main_arg1))

def preserves_AdamStep_AdamStepIdeal : Prop :=
  True

def algebraic_AdamStepIdeal_AdamPlainIdeal [hAdamStepIdeal : Cert.AdamStepIdeal.Facts] [hAdamPlainIdeal : Cert.AdamPlainIdeal.Facts] : Prop :=
  ∀ (m : (ℓ : Loc Cert.AdamStepIdeal.nD Cert.AdamStepIdeal.τ Cert.AdamStepIdeal.sig) → Buf (Elt Ideal) ℓ) (g : Dev Cert.AdamStepIdeal.nD → PrngReg)
    (m' : (ℓ : Loc Cert.AdamPlainIdeal.nD Cert.AdamPlainIdeal.τ Cert.AdamPlainIdeal.sig) → Buf (Elt Ideal) ℓ) (g' : Dev Cert.AdamPlainIdeal.nD → PrngReg), Pre_AdamStepIdeal m →
    (∀ c : Dev Cert.AdamStepIdeal.nD,
      m' ((c.tc : Thread Cert.AdamPlainIdeal.nD Cert.AdamPlainIdeal.τ).loc Cert.AdamPlainIdeal.main_arg0) = m ((c.tc : Thread Cert.AdamStepIdeal.nD Cert.AdamStepIdeal.τ).loc Cert.AdamStepIdeal.main_arg0)
      ∧ m' ((c.tc : Thread Cert.AdamPlainIdeal.nD Cert.AdamPlainIdeal.τ).loc Cert.AdamPlainIdeal.main_arg1) = m ((c.tc : Thread Cert.AdamStepIdeal.nD Cert.AdamStepIdeal.τ).loc Cert.AdamStepIdeal.main_arg1)
      ∧ m' ((c.tc : Thread Cert.AdamPlainIdeal.nD Cert.AdamPlainIdeal.τ).loc Cert.AdamPlainIdeal.main_arg2) = m ((c.tc : Thread Cert.AdamStepIdeal.nD Cert.AdamStepIdeal.τ).loc Cert.AdamStepIdeal.main_arg2)
      ∧ m' ((c.tc : Thread Cert.AdamPlainIdeal.nD Cert.AdamPlainIdeal.τ).loc Cert.AdamPlainIdeal.main_arg3) = m ((c.tc : Thread Cert.AdamStepIdeal.nD Cert.AdamStepIdeal.τ).loc Cert.AdamStepIdeal.main_arg3)) →
    ∃ (v0 : (c : Dev Cert.AdamStepIdeal.nD) → Buf (Elt Ideal) ((c.tc : Thread Cert.AdamStepIdeal.nD Cert.AdamStepIdeal.τ).loc Cert.AdamStepIdeal.main_v0_0)) (v1 : (c : Dev Cert.AdamStepIdeal.nD) → Buf (Elt Ideal) ((c.tc : Thread Cert.AdamStepIdeal.nD Cert.AdamStepIdeal.τ).loc Cert.AdamStepIdeal.main_v0_1)) (v2 : (c : Dev Cert.AdamStepIdeal.nD) → Buf (Elt Ideal) ((c.tc : Thread Cert.AdamStepIdeal.nD Cert.AdamStepIdeal.τ).loc Cert.AdamStepIdeal.main_v0_2)) (v3 : (c : Dev Cert.AdamStepIdeal.nD) → Buf (Elt Ideal) ((c.tc : Thread Cert.AdamStepIdeal.nD Cert.AdamStepIdeal.τ).loc Cert.AdamStepIdeal.main_v0_3)),
      θ_run (Cert.AdamStepIdeal.defs (F := Ideal)) (onTc (τ := Cert.AdamStepIdeal.τ) (Cert.AdamStepIdeal.main (F := Ideal))) ⟨m, fun _ => 0, g⟩ (fun r => ∀ c : Dev Cert.AdamStepIdeal.nD,
          r.2.mem ((c.tc : Thread Cert.AdamStepIdeal.nD Cert.AdamStepIdeal.τ).loc Cert.AdamStepIdeal.main_v0_0) = v0 c
          ∧ r.2.mem ((c.tc : Thread Cert.AdamStepIdeal.nD Cert.AdamStepIdeal.τ).loc Cert.AdamStepIdeal.main_v0_1) = v1 c
          ∧ r.2.mem ((c.tc : Thread Cert.AdamStepIdeal.nD Cert.AdamStepIdeal.τ).loc Cert.AdamStepIdeal.main_v0_2) = v2 c
          ∧ r.2.mem ((c.tc : Thread Cert.AdamStepIdeal.nD Cert.AdamStepIdeal.τ).loc Cert.AdamStepIdeal.main_v0_3) = v3 c
          ∧ r.2.mem ((c.tc : Thread Cert.AdamStepIdeal.nD Cert.AdamStepIdeal.τ).loc Cert.AdamStepIdeal.main_arg0) = m ((c.tc : Thread Cert.AdamStepIdeal.nD Cert.AdamStepIdeal.τ).loc Cert.AdamStepIdeal.main_arg0)
          ∧ r.2.mem ((c.tc : Thread Cert.AdamStepIdeal.nD Cert.AdamStepIdeal.τ).loc Cert.AdamStepIdeal.main_arg1) = m ((c.tc : Thread Cert.AdamStepIdeal.nD Cert.AdamStepIdeal.τ).loc Cert.AdamStepIdeal.main_arg1)
          ∧ r.2.mem ((c.tc : Thread Cert.AdamStepIdeal.nD Cert.AdamStepIdeal.τ).loc Cert.AdamStepIdeal.main_arg2) = m ((c.tc : Thread Cert.AdamStepIdeal.nD Cert.AdamStepIdeal.τ).loc Cert.AdamStepIdeal.main_arg2)
          ∧ r.2.mem ((c.tc : Thread Cert.AdamStepIdeal.nD Cert.AdamStepIdeal.τ).loc Cert.AdamStepIdeal.main_arg3) = m ((c.tc : Thread Cert.AdamStepIdeal.nD Cert.AdamStepIdeal.τ).loc Cert.AdamStepIdeal.main_arg3))
      ∧ θ_run (Cert.AdamPlainIdeal.defs (F := Ideal)) (onTc (τ := Cert.AdamPlainIdeal.τ) (Cert.AdamPlainIdeal.main (F := Ideal))) ⟨m', fun _ => 0, g'⟩ (fun r => ∀ c : Dev Cert.AdamPlainIdeal.nD,
          r.2.mem ((c.tc : Thread Cert.AdamPlainIdeal.nD Cert.AdamPlainIdeal.τ).loc Cert.AdamPlainIdeal.main_v1) = v0 c
          ∧ r.2.mem ((c.tc : Thread Cert.AdamPlainIdeal.nD Cert.AdamPlainIdeal.τ).loc Cert.AdamPlainIdeal.main_v25) = v1 c
          ∧ r.2.mem ((c.tc : Thread Cert.AdamPlainIdeal.nD Cert.AdamPlainIdeal.τ).loc Cert.AdamPlainIdeal.main_v6) = v2 c
          ∧ r.2.mem ((c.tc : Thread Cert.AdamPlainIdeal.nD Cert.AdamPlainIdeal.τ).loc Cert.AdamPlainIdeal.main_v12) = v3 c
          ∧ r.2.mem ((c.tc : Thread Cert.AdamPlainIdeal.nD Cert.AdamPlainIdeal.τ).loc Cert.AdamPlainIdeal.main_arg0) = m' ((c.tc : Thread Cert.AdamPlainIdeal.nD Cert.AdamPlainIdeal.τ).loc Cert.AdamPlainIdeal.main_arg0)
          ∧ r.2.mem ((c.tc : Thread Cert.AdamPlainIdeal.nD Cert.AdamPlainIdeal.τ).loc Cert.AdamPlainIdeal.main_arg1) = m' ((c.tc : Thread Cert.AdamPlainIdeal.nD Cert.AdamPlainIdeal.τ).loc Cert.AdamPlainIdeal.main_arg1)
          ∧ r.2.mem ((c.tc : Thread Cert.AdamPlainIdeal.nD Cert.AdamPlainIdeal.τ).loc Cert.AdamPlainIdeal.main_arg2) = m' ((c.tc : Thread Cert.AdamPlainIdeal.nD Cert.AdamPlainIdeal.τ).loc Cert.AdamPlainIdeal.main_arg2)
          ∧ r.2.mem ((c.tc : Thread Cert.AdamPlainIdeal.nD Cert.AdamPlainIdeal.τ).loc Cert.AdamPlainIdeal.main_arg3) = m' ((c.tc : Thread Cert.AdamPlainIdeal.nD Cert.AdamPlainIdeal.τ).loc Cert.AdamPlainIdeal.main_arg3))

def preserves_UpFwd_UpFwdIdeal : Prop :=
  True

def algebraic_UpFwdIdeal_UpPlainIdeal [hUpFwdIdeal : Cert.UpFwdIdeal.Facts] [hUpPlainIdeal : Cert.UpPlainIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpPlainIdeal.nD Cert.UpPlainIdeal.τ Cert.UpPlainIdeal.sig) → Buf (Elt Ideal) ℓ) (g' : Dev Cert.UpPlainIdeal.nD → PrngReg), Pre_UpFwdIdeal m →
    (∀ c : Dev Cert.UpFwdIdeal.nD,
      m' ((c.tc : Thread Cert.UpPlainIdeal.nD Cert.UpPlainIdeal.τ).loc Cert.UpPlainIdeal.main_arg0) = m ((c.tc : Thread Cert.UpFwdIdeal.nD Cert.UpFwdIdeal.τ).loc Cert.UpFwdIdeal.main_arg0)
      ∧ m' ((c.tc : Thread Cert.UpPlainIdeal.nD Cert.UpPlainIdeal.τ).loc Cert.UpPlainIdeal.main_arg1) = m ((c.tc : Thread Cert.UpFwdIdeal.nD Cert.UpFwdIdeal.τ).loc Cert.UpFwdIdeal.main_arg1)
      ∧ m' ((c.tc : Thread Cert.UpPlainIdeal.nD Cert.UpPlainIdeal.τ).loc Cert.UpPlainIdeal.main_arg2) = m ((c.tc : Thread Cert.UpFwdIdeal.nD Cert.UpFwdIdeal.τ).loc Cert.UpFwdIdeal.main_arg2)
      ∧ m' ((c.tc : Thread Cert.UpPlainIdeal.nD Cert.UpPlainIdeal.τ).loc Cert.UpPlainIdeal.main_arg3) = m ((c.tc : Thread Cert.UpFwdIdeal.nD Cert.UpFwdIdeal.τ).loc Cert.UpFwdIdeal.main_arg3)) →
    ∃ (v0 : (c : Dev Cert.UpFwdIdeal.nD) → Buf (Elt Ideal) ((c.tc : Thread Cert.UpFwdIdeal.nD Cert.UpFwdIdeal.τ).loc Cert.UpFwdIdeal.main_v0_0)) (v1 : (c : Dev Cert.UpFwdIdeal.nD) → Buf (Elt Ideal) ((c.tc : Thread Cert.UpFwdIdeal.nD Cert.UpFwdIdeal.τ).loc Cert.UpFwdIdeal.main_v0_1)) (v2 : (c : Dev Cert.UpFwdIdeal.nD) → Buf (Elt Ideal) ((c.tc : Thread Cert.UpFwdIdeal.nD Cert.UpFwdIdeal.τ).loc Cert.UpFwdIdeal.main_v0_2)) (v3 : (c : Dev Cert.UpFwdIdeal.nD) → Buf (Elt Ideal) ((c.tc : Thread Cert.UpFwdIdeal.nD Cert.UpFwdIdeal.τ).loc Cert.UpFwdIdeal.main_v0_3)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0_0) = v0 c
          ∧ r.2.mem ((c.tc : Thread Cert.UpFwdIdeal.nD Cert.UpFwdIdeal.τ).loc Cert.UpFwdIdeal.main_v0_1) = v1 c
          ∧ r.2.mem ((c.tc : Thread Cert.UpFwdIdeal.nD Cert.UpFwdIdeal.τ).loc Cert.UpFwdIdeal.main_v0_2) = v2 c
          ∧ r.2.mem ((c.tc : Thread Cert.UpFwdIdeal.nD Cert.UpFwdIdeal.τ).loc Cert.UpFwdIdeal.main_v0_3) = v3 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2)
          ∧ r.2.mem ((c.tc : Thread Cert.UpFwdIdeal.nD Cert.UpFwdIdeal.τ).loc Cert.UpFwdIdeal.main_arg3) = m ((c.tc : Thread Cert.UpFwdIdeal.nD Cert.UpFwdIdeal.τ).loc Cert.UpFwdIdeal.main_arg3))
      ∧ θ_run (Cert.UpPlainIdeal.defs (F := Ideal)) (onTc (τ := Cert.UpPlainIdeal.τ) (Cert.UpPlainIdeal.main (F := Ideal))) ⟨m', fun _ => 0, g'⟩ (fun r => ∀ c : Dev Cert.UpPlainIdeal.nD,
          r.2.mem ((c.tc : Thread Cert.UpPlainIdeal.nD Cert.UpPlainIdeal.τ).loc Cert.UpPlainIdeal.main_v18) = v0 c
          ∧ r.2.mem ((c.tc : Thread Cert.UpPlainIdeal.nD Cert.UpPlainIdeal.τ).loc Cert.UpPlainIdeal.main_v19) = v1 c
          ∧ r.2.mem ((c.tc : Thread Cert.UpPlainIdeal.nD Cert.UpPlainIdeal.τ).loc Cert.UpPlainIdeal.main_v20) = v2 c
          ∧ r.2.mem ((c.tc : Thread Cert.UpPlainIdeal.nD Cert.UpPlainIdeal.τ).loc Cert.UpPlainIdeal.main_v23) = v3 c
          ∧ r.2.mem ((c.tc : Thread Cert.UpPlainIdeal.nD Cert.UpPlainIdeal.τ).loc Cert.UpPlainIdeal.main_arg0) = m' ((c.tc : Thread Cert.UpPlainIdeal.nD Cert.UpPlainIdeal.τ).loc Cert.UpPlainIdeal.main_arg0)
          ∧ r.2.mem ((c.tc : Thread Cert.UpPlainIdeal.nD Cert.UpPlainIdeal.τ).loc Cert.UpPlainIdeal.main_arg1) = m' ((c.tc : Thread Cert.UpPlainIdeal.nD Cert.UpPlainIdeal.τ).loc Cert.UpPlainIdeal.main_arg1)
          ∧ r.2.mem ((c.tc : Thread Cert.UpPlainIdeal.nD Cert.UpPlainIdeal.τ).loc Cert.UpPlainIdeal.main_arg2) = m' ((c.tc : Thread Cert.UpPlainIdeal.nD Cert.UpPlainIdeal.τ).loc Cert.UpPlainIdeal.main_arg2)
          ∧ r.2.mem ((c.tc : Thread Cert.UpPlainIdeal.nD Cert.UpPlainIdeal.τ).loc Cert.UpPlainIdeal.main_arg3) = m' ((c.tc : Thread Cert.UpPlainIdeal.nD Cert.UpPlainIdeal.τ).loc Cert.UpPlainIdeal.main_arg3))

def preserves_PackAll_PackAllIdeal : Prop :=
  True

def algebraic_PackAllIdeal_PackPlainIdeal [hPackAllIdeal : Cert.PackAllIdeal.Facts] [hPackPlainIdeal : Cert.PackPlainIdeal.Facts] : Prop :=
  ∀ (m : (ℓ : Loc Cert.PackAllIdeal.nD Cert.PackAllIdeal.τ Cert.PackAllIdeal.sig) → Buf (Elt Ideal) ℓ) (g : Dev Cert.PackAllIdeal.nD → PrngReg)
    (m' : (ℓ : Loc Cert.PackPlainIdeal.nD Cert.PackPlainIdeal.τ Cert.PackPlainIdeal.sig) → Buf (Elt Ideal) ℓ) (g' : Dev Cert.PackPlainIdeal.nD → PrngReg), Pre_PackAllIdeal m →
    (∀ c : Dev Cert.PackAllIdeal.nD,
      m' ((c.tc : Thread Cert.PackPlainIdeal.nD Cert.PackPlainIdeal.τ).loc Cert.PackPlainIdeal.main_arg0) = m ((c.tc : Thread Cert.PackAllIdeal.nD Cert.PackAllIdeal.τ).loc Cert.PackAllIdeal.main_arg0)
      ∧ m' ((c.tc : Thread Cert.PackPlainIdeal.nD Cert.PackPlainIdeal.τ).loc Cert.PackPlainIdeal.main_arg1) = m ((c.tc : Thread Cert.PackAllIdeal.nD Cert.PackAllIdeal.τ).loc Cert.PackAllIdeal.main_arg1)
      ∧ m' ((c.tc : Thread Cert.PackPlainIdeal.nD Cert.PackPlainIdeal.τ).loc Cert.PackPlainIdeal.main_arg2) = m ((c.tc : Thread Cert.PackAllIdeal.nD Cert.PackAllIdeal.τ).loc Cert.PackAllIdeal.main_arg2)
      ∧ m' ((c.tc : Thread Cert.PackPlainIdeal.nD Cert.PackPlainIdeal.τ).loc Cert.PackPlainIdeal.main_arg3) = m ((c.tc : Thread Cert.PackAllIdeal.nD Cert.PackAllIdeal.τ).loc Cert.PackAllIdeal.main_arg3)
      ∧ m' ((c.tc : Thread Cert.PackPlainIdeal.nD Cert.PackPlainIdeal.τ).loc Cert.PackPlainIdeal.main_arg4) = m ((c.tc : Thread Cert.PackAllIdeal.nD Cert.PackAllIdeal.τ).loc Cert.PackAllIdeal.main_arg4)
      ∧ m' ((c.tc : Thread Cert.PackPlainIdeal.nD Cert.PackPlainIdeal.τ).loc Cert.PackPlainIdeal.main_arg5) = m ((c.tc : Thread Cert.PackAllIdeal.nD Cert.PackAllIdeal.τ).loc Cert.PackAllIdeal.main_arg5)
      ∧ m' ((c.tc : Thread Cert.PackPlainIdeal.nD Cert.PackPlainIdeal.τ).loc Cert.PackPlainIdeal.main_arg6) = m ((c.tc : Thread Cert.PackAllIdeal.nD Cert.PackAllIdeal.τ).loc Cert.PackAllIdeal.main_arg6)
      ∧ m' ((c.tc : Thread Cert.PackPlainIdeal.nD Cert.PackPlainIdeal.τ).loc Cert.PackPlainIdeal.main_arg7) = m ((c.tc : Thread Cert.PackAllIdeal.nD Cert.PackAllIdeal.τ).loc Cert.PackAllIdeal.main_arg7)
      ∧ m' ((c.tc : Thread Cert.PackPlainIdeal.nD Cert.PackPlainIdeal.τ).loc Cert.PackPlainIdeal.main_arg8) = m ((c.tc : Thread Cert.PackAllIdeal.nD Cert.PackAllIdeal.τ).loc Cert.PackAllIdeal.main_arg8)) →
    ∃ (v0 : (c : Dev Cert.PackAllIdeal.nD) → Buf (Elt Ideal) ((c.tc : Thread Cert.PackAllIdeal.nD Cert.PackAllIdeal.τ).loc Cert.PackAllIdeal.main_v16)) (v1 : (c : Dev Cert.PackAllIdeal.nD) → Buf (Elt Ideal) ((c.tc : Thread Cert.PackAllIdeal.nD Cert.PackAllIdeal.τ).loc Cert.PackAllIdeal.main_v18)) (v2 : (c : Dev Cert.PackAllIdeal.nD) → Buf (Elt Ideal) ((c.tc : Thread Cert.PackAllIdeal.nD Cert.PackAllIdeal.τ).loc Cert.PackAllIdeal.main_v20)) (v3 : (c : Dev Cert.PackAllIdeal.nD) → Buf (Elt Ideal) ((c.tc : Thread Cert.PackAllIdeal.nD Cert.PackAllIdeal.τ).loc Cert.PackAllIdeal.main_v22)) (v4 : (c : Dev Cert.PackAllIdeal.nD) → Buf (Elt Ideal) ((c.tc : Thread Cert.PackAllIdeal.nD Cert.PackAllIdeal.τ).loc Cert.PackAllIdeal.main_v24)) (v5 : (c : Dev Cert.PackAllIdeal.nD) → Buf (Elt Ideal) ((c.tc : Thread Cert.PackAllIdeal.nD Cert.PackAllIdeal.τ).loc Cert.PackAllIdeal.main_v26)) (v6 : (c : Dev Cert.PackAllIdeal.nD) → Buf (Elt Ideal) ((c.tc : Thread Cert.PackAllIdeal.nD Cert.PackAllIdeal.τ).loc Cert.PackAllIdeal.main_v28)) (v7 : (c : Dev Cert.PackAllIdeal.nD) → Buf (Elt Ideal) ((c.tc : Thread Cert.PackAllIdeal.nD Cert.PackAllIdeal.τ).loc Cert.PackAllIdeal.main_v29)) (v8 : (c : Dev Cert.PackAllIdeal.nD) → Buf (Elt Ideal) ((c.tc : Thread Cert.PackAllIdeal.nD Cert.PackAllIdeal.τ).loc Cert.PackAllIdeal.main_v31)),
      θ_run (Cert.PackAllIdeal.defs (F := Ideal)) (onTc (τ := Cert.PackAllIdeal.τ) (Cert.PackAllIdeal.main (F := Ideal))) ⟨m, fun _ => 0, g⟩ (fun r => ∀ c : Dev Cert.PackAllIdeal.nD,
          r.2.mem ((c.tc : Thread Cert.PackAllIdeal.nD Cert.PackAllIdeal.τ).loc Cert.PackAllIdeal.main_v16) = v0 c
          ∧ r.2.mem ((c.tc : Thread Cert.PackAllIdeal.nD Cert.PackAllIdeal.τ).loc Cert.PackAllIdeal.main_v18) = v1 c
          ∧ r.2.mem ((c.tc : Thread Cert.PackAllIdeal.nD Cert.PackAllIdeal.τ).loc Cert.PackAllIdeal.main_v20) = v2 c
          ∧ r.2.mem ((c.tc : Thread Cert.PackAllIdeal.nD Cert.PackAllIdeal.τ).loc Cert.PackAllIdeal.main_v22) = v3 c
          ∧ r.2.mem ((c.tc : Thread Cert.PackAllIdeal.nD Cert.PackAllIdeal.τ).loc Cert.PackAllIdeal.main_v24) = v4 c
          ∧ r.2.mem ((c.tc : Thread Cert.PackAllIdeal.nD Cert.PackAllIdeal.τ).loc Cert.PackAllIdeal.main_v26) = v5 c
          ∧ r.2.mem ((c.tc : Thread Cert.PackAllIdeal.nD Cert.PackAllIdeal.τ).loc Cert.PackAllIdeal.main_v28) = v6 c
          ∧ r.2.mem ((c.tc : Thread Cert.PackAllIdeal.nD Cert.PackAllIdeal.τ).loc Cert.PackAllIdeal.main_v29) = v7 c
          ∧ r.2.mem ((c.tc : Thread Cert.PackAllIdeal.nD Cert.PackAllIdeal.τ).loc Cert.PackAllIdeal.main_v31) = v8 c
          ∧ r.2.mem ((c.tc : Thread Cert.PackAllIdeal.nD Cert.PackAllIdeal.τ).loc Cert.PackAllIdeal.main_arg0) = m ((c.tc : Thread Cert.PackAllIdeal.nD Cert.PackAllIdeal.τ).loc Cert.PackAllIdeal.main_arg0)
          ∧ r.2.mem ((c.tc : Thread Cert.PackAllIdeal.nD Cert.PackAllIdeal.τ).loc Cert.PackAllIdeal.main_arg1) = m ((c.tc : Thread Cert.PackAllIdeal.nD Cert.PackAllIdeal.τ).loc Cert.PackAllIdeal.main_arg1)
          ∧ r.2.mem ((c.tc : Thread Cert.PackAllIdeal.nD Cert.PackAllIdeal.τ).loc Cert.PackAllIdeal.main_arg2) = m ((c.tc : Thread Cert.PackAllIdeal.nD Cert.PackAllIdeal.τ).loc Cert.PackAllIdeal.main_arg2)
          ∧ r.2.mem ((c.tc : Thread Cert.PackAllIdeal.nD Cert.PackAllIdeal.τ).loc Cert.PackAllIdeal.main_arg3) = m ((c.tc : Thread Cert.PackAllIdeal.nD Cert.PackAllIdeal.τ).loc Cert.PackAllIdeal.main_arg3)
          ∧ r.2.mem ((c.tc : Thread Cert.PackAllIdeal.nD Cert.PackAllIdeal.τ).loc Cert.PackAllIdeal.main_arg4) = m ((c.tc : Thread Cert.PackAllIdeal.nD Cert.PackAllIdeal.τ).loc Cert.PackAllIdeal.main_arg4)
          ∧ r.2.mem ((c.tc : Thread Cert.PackAllIdeal.nD Cert.PackAllIdeal.τ).loc Cert.PackAllIdeal.main_arg5) = m ((c.tc : Thread Cert.PackAllIdeal.nD Cert.PackAllIdeal.τ).loc Cert.PackAllIdeal.main_arg5)
          ∧ r.2.mem ((c.tc : Thread Cert.PackAllIdeal.nD Cert.PackAllIdeal.τ).loc Cert.PackAllIdeal.main_arg6) = m ((c.tc : Thread Cert.PackAllIdeal.nD Cert.PackAllIdeal.τ).loc Cert.PackAllIdeal.main_arg6)
          ∧ r.2.mem ((c.tc : Thread Cert.PackAllIdeal.nD Cert.PackAllIdeal.τ).loc Cert.PackAllIdeal.main_arg7) = m ((c.tc : Thread Cert.PackAllIdeal.nD Cert.PackAllIdeal.τ).loc Cert.PackAllIdeal.main_arg7)
          ∧ r.2.mem ((c.tc : Thread Cert.PackAllIdeal.nD Cert.PackAllIdeal.τ).loc Cert.PackAllIdeal.main_arg8) = m ((c.tc : Thread Cert.PackAllIdeal.nD Cert.PackAllIdeal.τ).loc Cert.PackAllIdeal.main_arg8))
      ∧ θ_run (Cert.PackPlainIdeal.defs (F := Ideal)) (onTc (τ := Cert.PackPlainIdeal.τ) (Cert.PackPlainIdeal.main (F := Ideal))) ⟨m', fun _ => 0, g'⟩ (fun r => ∀ c : Dev Cert.PackPlainIdeal.nD,
          r.2.mem ((c.tc : Thread Cert.PackPlainIdeal.nD Cert.PackPlainIdeal.τ).loc Cert.PackPlainIdeal.main_arg0) = v0 c
          ∧ r.2.mem ((c.tc : Thread Cert.PackPlainIdeal.nD Cert.PackPlainIdeal.τ).loc Cert.PackPlainIdeal.main_arg1) = v1 c
          ∧ r.2.mem ((c.tc : Thread Cert.PackPlainIdeal.nD Cert.PackPlainIdeal.τ).loc Cert.PackPlainIdeal.main_v0) = v2 c
          ∧ r.2.mem ((c.tc : Thread Cert.PackPlainIdeal.nD Cert.PackPlainIdeal.τ).loc Cert.PackPlainIdeal.main_arg3) = v3 c
          ∧ r.2.mem ((c.tc : Thread Cert.PackPlainIdeal.nD Cert.PackPlainIdeal.τ).loc Cert.PackPlainIdeal.main_arg4) = v4 c
          ∧ r.2.mem ((c.tc : Thread Cert.PackPlainIdeal.nD Cert.PackPlainIdeal.τ).loc Cert.PackPlainIdeal.main_arg5) = v5 c
          ∧ r.2.mem ((c.tc : Thread Cert.PackPlainIdeal.nD Cert.PackPlainIdeal.τ).loc Cert.PackPlainIdeal.main_arg6) = v6 c
          ∧ r.2.mem ((c.tc : Thread Cert.PackPlainIdeal.nD Cert.PackPlainIdeal.τ).loc Cert.PackPlainIdeal.main_v1) = v7 c
          ∧ r.2.mem ((c.tc : Thread Cert.PackPlainIdeal.nD Cert.PackPlainIdeal.τ).loc Cert.PackPlainIdeal.main_v3) = v8 c
          ∧ r.2.mem ((c.tc : Thread Cert.PackPlainIdeal.nD Cert.PackPlainIdeal.τ).loc Cert.PackPlainIdeal.main_arg0) = m' ((c.tc : Thread Cert.PackPlainIdeal.nD Cert.PackPlainIdeal.τ).loc Cert.PackPlainIdeal.main_arg0)
          ∧ r.2.mem ((c.tc : Thread Cert.PackPlainIdeal.nD Cert.PackPlainIdeal.τ).loc Cert.PackPlainIdeal.main_arg1) = m' ((c.tc : Thread Cert.PackPlainIdeal.nD Cert.PackPlainIdeal.τ).loc Cert.PackPlainIdeal.main_arg1)
          ∧ r.2.mem ((c.tc : Thread Cert.PackPlainIdeal.nD Cert.PackPlainIdeal.τ).loc Cert.PackPlainIdeal.main_arg2) = m' ((c.tc : Thread Cert.PackPlainIdeal.nD Cert.PackPlainIdeal.τ).loc Cert.PackPlainIdeal.main_arg2)
          ∧ r.2.mem ((c.tc : Thread Cert.PackPlainIdeal.nD Cert.PackPlainIdeal.τ).loc Cert.PackPlainIdeal.main_arg3) = m' ((c.tc : Thread Cert.PackPlainIdeal.nD Cert.PackPlainIdeal.τ).loc Cert.PackPlainIdeal.main_arg3)
          ∧ r.2.mem ((c.tc : Thread Cert.PackPlainIdeal.nD Cert.PackPlainIdeal.τ).loc Cert.PackPlainIdeal.main_arg4) = m' ((c.tc : Thread Cert.PackPlainIdeal.nD Cert.PackPlainIdeal.τ).loc Cert.PackPlainIdeal.main_arg4)
          ∧ r.2.mem ((c.tc : Thread Cert.PackPlainIdeal.nD Cert.PackPlainIdeal.τ).loc Cert.PackPlainIdeal.main_arg5) = m' ((c.tc : Thread Cert.PackPlainIdeal.nD Cert.PackPlainIdeal.τ).loc Cert.PackPlainIdeal.main_arg5)
          ∧ r.2.mem ((c.tc : Thread Cert.PackPlainIdeal.nD Cert.PackPlainIdeal.τ).loc Cert.PackPlainIdeal.main_arg6) = m' ((c.tc : Thread Cert.PackPlainIdeal.nD Cert.PackPlainIdeal.τ).loc Cert.PackPlainIdeal.main_arg6)
          ∧ r.2.mem ((c.tc : Thread Cert.PackPlainIdeal.nD Cert.PackPlainIdeal.τ).loc Cert.PackPlainIdeal.main_arg7) = m' ((c.tc : Thread Cert.PackPlainIdeal.nD Cert.PackPlainIdeal.τ).loc Cert.PackPlainIdeal.main_arg7)
          ∧ r.2.mem ((c.tc : Thread Cert.PackPlainIdeal.nD Cert.PackPlainIdeal.τ).loc Cert.PackPlainIdeal.main_arg8) = m' ((c.tc : Thread Cert.PackPlainIdeal.nD Cert.PackPlainIdeal.τ).loc Cert.PackPlainIdeal.main_arg8))

def Claim : Prop :=
  ∃ (hGateBwd : Cert.GateBwd.Facts) (hGateBwdIdeal : Cert.GateBwdIdeal.Facts) (hGateGradIdeal : Cert.GateGradIdeal.Facts) (hAttnBwd : Cert.AttnBwd.Facts) (hAttnBwdIdeal : Cert.AttnBwdIdeal.Facts) (hAttnGradIdeal : Cert.AttnGradIdeal.Facts) (hPoolBwd : Cert.PoolBwd.Facts) (hPoolBwdIdeal : Cert.PoolBwdIdeal.Facts) (hPoolGradIdeal : Cert.PoolGradIdeal.Facts) (hCrossBwd : Cert.CrossBwd.Facts) (hCrossBwdIdeal : Cert.CrossBwdIdeal.Facts) (hCrossGradIdeal : Cert.CrossGradIdeal.Facts) (hNormBwd : Cert.NormBwd.Facts) (hNormBwdIdeal : Cert.NormBwdIdeal.Facts) (hNormGradIdeal : Cert.NormGradIdeal.Facts) (hFirstBwd : Cert.FirstBwd.Facts) (hFirstBwdIdeal : Cert.FirstBwdIdeal.Facts) (hFirstGradIdeal : Cert.FirstGradIdeal.Facts) (hMemoryBwd : Cert.MemoryBwd.Facts) (hMemoryBwdIdeal : Cert.MemoryBwdIdeal.Facts) (hMemoryGradIdeal : Cert.MemoryGradIdeal.Facts) (hLossBwd : Cert.LossBwd.Facts) (hLossBwdIdeal : Cert.LossBwdIdeal.Facts) (hLossGradIdeal : Cert.LossGradIdeal.Facts) (hBiasBwd : Cert.BiasBwd.Facts) (hBiasBwdIdeal : Cert.BiasBwdIdeal.Facts) (hBiasGradIdeal : Cert.BiasGradIdeal.Facts) (hCrossFwd : Cert.CrossFwd.Facts) (hCrossFwdIdeal : Cert.CrossFwdIdeal.Facts) (hCrossPlainIdeal : Cert.CrossPlainIdeal.Facts) (hAttnFwd : Cert.AttnFwd.Facts) (hAttnFwdIdeal : Cert.AttnFwdIdeal.Facts) (hAttnPlainIdeal : Cert.AttnPlainIdeal.Facts) (hPoolFwd : Cert.PoolFwd.Facts) (hPoolFwdIdeal : Cert.PoolFwdIdeal.Facts) (hPoolPlainIdeal : Cert.PoolPlainIdeal.Facts) (hNormFwd : Cert.NormFwd.Facts) (hNormFwdIdeal : Cert.NormFwdIdeal.Facts) (hNormPlainIdeal : Cert.NormPlainIdeal.Facts) (hGateFwd : Cert.GateFwd.Facts) (hGateFwdIdeal : Cert.GateFwdIdeal.Facts) (hGatePlainIdeal : Cert.GatePlainIdeal.Facts) (hQueryFwd : Cert.QueryFwd.Facts) (hQueryFwdIdeal : Cert.QueryFwdIdeal.Facts) (hQueryPlainIdeal : Cert.QueryPlainIdeal.Facts) (hTileFwd : Cert.TileFwd.Facts) (hTileFwdIdeal : Cert.TileFwdIdeal.Facts) (hTilePlainIdeal : Cert.TilePlainIdeal.Facts) (hOutMul : Cert.OutMul.Facts) (hOutMulIdeal : Cert.OutMulIdeal.Facts) (hOutPlainIdeal : Cert.OutPlainIdeal.Facts) (hInMul : Cert.InMul.Facts) (hInMulIdeal : Cert.InMulIdeal.Facts) (hInPlainIdeal : Cert.InPlainIdeal.Facts) (hBackMul : Cert.BackMul.Facts) (hBackMulIdeal : Cert.BackMulIdeal.Facts) (hBackPlainIdeal : Cert.BackPlainIdeal.Facts) (hColumnsMul : Cert.ColumnsMul.Facts) (hColumnsMulIdeal : Cert.ColumnsMulIdeal.Facts) (hColumnsPlainIdeal : Cert.ColumnsPlainIdeal.Facts) (hWeightMul : Cert.WeightMul.Facts) (hWeightMulIdeal : Cert.WeightMulIdeal.Facts) (hWeightPlainIdeal : Cert.WeightPlainIdeal.Facts) (hDownMul : Cert.DownMul.Facts) (hDownMulIdeal : Cert.DownMulIdeal.Facts) (hDownPlainIdeal : Cert.DownPlainIdeal.Facts) (hHiddenMul : Cert.HiddenMul.Facts) (hHiddenMulIdeal : Cert.HiddenMulIdeal.Facts) (hHiddenPlainIdeal : Cert.HiddenPlainIdeal.Facts) (hIntoMul : Cert.IntoMul.Facts) (hIntoMulIdeal : Cert.IntoMulIdeal.Facts) (hIntoPlainIdeal : Cert.IntoPlainIdeal.Facts) (hAdamStep : Cert.AdamStep.Facts) (hAdamStepIdeal : Cert.AdamStepIdeal.Facts) (hAdamPlainIdeal : Cert.AdamPlainIdeal.Facts) (hUpFwd : Cert.UpFwd.Facts) (hUpFwdIdeal : Cert.UpFwdIdeal.Facts) (hUpPlainIdeal : Cert.UpPlainIdeal.Facts) (hPackAll : Cert.PackAll.Facts) (hPackAllIdeal : Cert.PackAllIdeal.Facts) (hPackPlainIdeal : Cert.PackPlainIdeal.Facts) (hPre_gate_finite : Cert.Pre_gate_finite.Facts) (hPre_attn_finite : Cert.Pre_attn_finite.Facts) (hPre_cross_finite : Cert.Pre_cross_finite.Facts) (hPre_norm_finite : Cert.Pre_norm_finite.Facts) (hPre_memory_finite : Cert.Pre_memory_finite.Facts) (hPre_loss_finite : Cert.Pre_loss_finite.Facts) (hPre_cross_forward_finite : Cert.Pre_cross_forward_finite.Facts) (hPre_attn_forward_finite : Cert.Pre_attn_forward_finite.Facts),
    quiescent_GateBwd (hGateBwd := hGateBwd)
    ∧ quiescent_GateBwdIdeal (hGateBwdIdeal := hGateBwdIdeal)
    ∧ quiescent_GateBwdIdeal_pre_gate_finite (hGateBwdIdeal := hGateBwdIdeal) (hPre_gate_finite := hPre_gate_finite)
    ∧ quiescent_GateGradIdeal (hGateGradIdeal := hGateGradIdeal)
    ∧ quiescent_GateGradIdeal_pre_gate_finite (hGateGradIdeal := hGateGradIdeal) (hPre_gate_finite := hPre_gate_finite)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnGradIdeal (hAttnGradIdeal := hAttnGradIdeal)
    ∧ quiescent_AttnGradIdeal_pre_attn_finite (hAttnGradIdeal := hAttnGradIdeal) (hPre_attn_finite := hPre_attn_finite)
    ∧ quiescent_PoolBwd (hPoolBwd := hPoolBwd)
    ∧ quiescent_PoolBwdIdeal (hPoolBwdIdeal := hPoolBwdIdeal)
    ∧ quiescent_PoolGradIdeal (hPoolGradIdeal := hPoolGradIdeal)
    ∧ quiescent_CrossBwd (hCrossBwd := hCrossBwd)
    ∧ quiescent_CrossBwdIdeal (hCrossBwdIdeal := hCrossBwdIdeal)
    ∧ quiescent_CrossBwdIdeal_pre_cross_finite (hCrossBwdIdeal := hCrossBwdIdeal) (hPre_cross_finite := hPre_cross_finite)
    ∧ quiescent_CrossGradIdeal (hCrossGradIdeal := hCrossGradIdeal)
    ∧ quiescent_CrossGradIdeal_pre_cross_finite (hCrossGradIdeal := hCrossGradIdeal) (hPre_cross_finite := hPre_cross_finite)
    ∧ quiescent_NormBwd (hNormBwd := hNormBwd)
    ∧ quiescent_NormBwdIdeal (hNormBwdIdeal := hNormBwdIdeal)
    ∧ quiescent_NormBwdIdeal_pre_norm_finite (hNormBwdIdeal := hNormBwdIdeal) (hPre_norm_finite := hPre_norm_finite)
    ∧ quiescent_NormGradIdeal (hNormGradIdeal := hNormGradIdeal)
    ∧ quiescent_NormGradIdeal_pre_norm_finite (hNormGradIdeal := hNormGradIdeal) (hPre_norm_finite := hPre_norm_finite)
    ∧ quiescent_FirstBwd (hFirstBwd := hFirstBwd)
    ∧ quiescent_FirstBwdIdeal (hFirstBwdIdeal := hFirstBwdIdeal)
    ∧ quiescent_FirstBwdIdeal_pre_norm_finite (hFirstBwdIdeal := hFirstBwdIdeal) (hPre_norm_finite := hPre_norm_finite)
    ∧ quiescent_FirstGradIdeal (hFirstGradIdeal := hFirstGradIdeal)
    ∧ quiescent_FirstGradIdeal_pre_norm_finite (hFirstGradIdeal := hFirstGradIdeal) (hPre_norm_finite := hPre_norm_finite)
    ∧ quiescent_MemoryBwd (hMemoryBwd := hMemoryBwd)
    ∧ quiescent_MemoryBwdIdeal (hMemoryBwdIdeal := hMemoryBwdIdeal)
    ∧ quiescent_MemoryBwdIdeal_pre_memory_finite (hMemoryBwdIdeal := hMemoryBwdIdeal) (hPre_memory_finite := hPre_memory_finite)
    ∧ quiescent_MemoryGradIdeal (hMemoryGradIdeal := hMemoryGradIdeal)
    ∧ quiescent_MemoryGradIdeal_pre_memory_finite (hMemoryGradIdeal := hMemoryGradIdeal) (hPre_memory_finite := hPre_memory_finite)
    ∧ quiescent_LossBwd (hLossBwd := hLossBwd)
    ∧ quiescent_LossBwdIdeal (hLossBwdIdeal := hLossBwdIdeal)
    ∧ quiescent_LossBwdIdeal_pre_loss_finite (hLossBwdIdeal := hLossBwdIdeal) (hPre_loss_finite := hPre_loss_finite)
    ∧ quiescent_LossGradIdeal (hLossGradIdeal := hLossGradIdeal)
    ∧ quiescent_LossGradIdeal_pre_loss_finite (hLossGradIdeal := hLossGradIdeal) (hPre_loss_finite := hPre_loss_finite)
    ∧ quiescent_BiasBwd (hBiasBwd := hBiasBwd)
    ∧ quiescent_BiasBwdIdeal (hBiasBwdIdeal := hBiasBwdIdeal)
    ∧ quiescent_BiasGradIdeal (hBiasGradIdeal := hBiasGradIdeal)
    ∧ quiescent_CrossFwd (hCrossFwd := hCrossFwd)
    ∧ quiescent_CrossFwdIdeal (hCrossFwdIdeal := hCrossFwdIdeal)
    ∧ quiescent_CrossFwdIdeal_pre_cross_forward_finite (hCrossFwdIdeal := hCrossFwdIdeal) (hPre_cross_forward_finite := hPre_cross_forward_finite)
    ∧ quiescent_CrossPlainIdeal (hCrossPlainIdeal := hCrossPlainIdeal)
    ∧ quiescent_CrossPlainIdeal_pre_cross_forward_finite (hCrossPlainIdeal := hCrossPlainIdeal) (hPre_cross_forward_finite := hPre_cross_forward_finite)
    ∧ quiescent_AttnFwd (hAttnFwd := hAttnFwd)
    ∧ quiescent_AttnFwdIdeal (hAttnFwdIdeal := hAttnFwdIdeal)
    ∧ quiescent_AttnFwdIdeal_pre_attn_forward_finite (hAttnFwdIdeal := hAttnFwdIdeal) (hPre_attn_forward_finite := hPre_attn_forward_finite)
    ∧ quiescent_AttnPlainIdeal (hAttnPlainIdeal := hAttnPlainIdeal)
    ∧ quiescent_AttnPlainIdeal_pre_attn_forward_finite (hAttnPlainIdeal := hAttnPlainIdeal) (hPre_attn_forward_finite := hPre_attn_forward_finite)
    ∧ quiescent_PoolFwd (hPoolFwd := hPoolFwd)
    ∧ quiescent_PoolFwdIdeal (hPoolFwdIdeal := hPoolFwdIdeal)
    ∧ quiescent_PoolPlainIdeal (hPoolPlainIdeal := hPoolPlainIdeal)
    ∧ quiescent_NormFwd (hNormFwd := hNormFwd)
    ∧ quiescent_NormFwdIdeal (hNormFwdIdeal := hNormFwdIdeal)
    ∧ quiescent_NormPlainIdeal (hNormPlainIdeal := hNormPlainIdeal)
    ∧ quiescent_GateFwd (hGateFwd := hGateFwd)
    ∧ quiescent_GateFwdIdeal (hGateFwdIdeal := hGateFwdIdeal)
    ∧ quiescent_GatePlainIdeal (hGatePlainIdeal := hGatePlainIdeal)
    ∧ quiescent_QueryFwd (hQueryFwd := hQueryFwd)
    ∧ quiescent_QueryFwdIdeal (hQueryFwdIdeal := hQueryFwdIdeal)
    ∧ quiescent_QueryPlainIdeal (hQueryPlainIdeal := hQueryPlainIdeal)
    ∧ quiescent_TileFwd (hTileFwd := hTileFwd)
    ∧ quiescent_TileFwdIdeal (hTileFwdIdeal := hTileFwdIdeal)
    ∧ quiescent_TilePlainIdeal (hTilePlainIdeal := hTilePlainIdeal)
    ∧ quiescent_OutMul (hOutMul := hOutMul)
    ∧ quiescent_OutMulIdeal (hOutMulIdeal := hOutMulIdeal)
    ∧ quiescent_OutPlainIdeal (hOutPlainIdeal := hOutPlainIdeal)
    ∧ quiescent_InMul (hInMul := hInMul)
    ∧ quiescent_InMulIdeal (hInMulIdeal := hInMulIdeal)
    ∧ quiescent_InPlainIdeal (hInPlainIdeal := hInPlainIdeal)
    ∧ quiescent_BackMul (hBackMul := hBackMul)
    ∧ quiescent_BackMulIdeal (hBackMulIdeal := hBackMulIdeal)
    ∧ quiescent_BackPlainIdeal (hBackPlainIdeal := hBackPlainIdeal)
    ∧ quiescent_ColumnsMul (hColumnsMul := hColumnsMul)
    ∧ quiescent_ColumnsMulIdeal (hColumnsMulIdeal := hColumnsMulIdeal)
    ∧ quiescent_ColumnsPlainIdeal (hColumnsPlainIdeal := hColumnsPlainIdeal)
    ∧ quiescent_WeightMul (hWeightMul := hWeightMul)
    ∧ quiescent_WeightMulIdeal (hWeightMulIdeal := hWeightMulIdeal)
    ∧ quiescent_WeightPlainIdeal (hWeightPlainIdeal := hWeightPlainIdeal)
    ∧ quiescent_DownMul (hDownMul := hDownMul)
    ∧ quiescent_DownMulIdeal (hDownMulIdeal := hDownMulIdeal)
    ∧ quiescent_DownPlainIdeal (hDownPlainIdeal := hDownPlainIdeal)
    ∧ quiescent_HiddenMul (hHiddenMul := hHiddenMul)
    ∧ quiescent_HiddenMulIdeal (hHiddenMulIdeal := hHiddenMulIdeal)
    ∧ quiescent_HiddenPlainIdeal (hHiddenPlainIdeal := hHiddenPlainIdeal)
    ∧ quiescent_IntoMul (hIntoMul := hIntoMul)
    ∧ quiescent_IntoMulIdeal (hIntoMulIdeal := hIntoMulIdeal)
    ∧ quiescent_IntoPlainIdeal (hIntoPlainIdeal := hIntoPlainIdeal)
    ∧ quiescent_AdamStep (hAdamStep := hAdamStep)
    ∧ quiescent_AdamStepIdeal (hAdamStepIdeal := hAdamStepIdeal)
    ∧ quiescent_AdamPlainIdeal (hAdamPlainIdeal := hAdamPlainIdeal)
    ∧ quiescent_UpFwd (hUpFwd := hUpFwd)
    ∧ quiescent_UpFwdIdeal (hUpFwdIdeal := hUpFwdIdeal)
    ∧ quiescent_UpPlainIdeal (hUpPlainIdeal := hUpPlainIdeal)
    ∧ quiescent_PackAll (hPackAll := hPackAll)
    ∧ quiescent_PackAllIdeal (hPackAllIdeal := hPackAllIdeal)
    ∧ quiescent_PackPlainIdeal (hPackPlainIdeal := hPackPlainIdeal)
    ∧ preserves_GateBwd_GateBwdIdeal
    ∧ algebraic_GateBwdIdeal_GateGradIdeal_pre_gate_finite (hGateBwdIdeal := hGateBwdIdeal) (hGateGradIdeal := hGateGradIdeal) (hPre_gate_finite := hPre_gate_finite)
    ∧ preserves_AttnBwd_AttnBwdIdeal
    ∧ algebraic_AttnBwdIdeal_AttnGradIdeal_pre_attn_finite (hAttnBwdIdeal := hAttnBwdIdeal) (hAttnGradIdeal := hAttnGradIdeal) (hPre_attn_finite := hPre_attn_finite)
    ∧ preserves_PoolBwd_PoolBwdIdeal
    ∧ algebraic_PoolBwdIdeal_PoolGradIdeal (hPoolBwdIdeal := hPoolBwdIdeal) (hPoolGradIdeal := hPoolGradIdeal)
    ∧ preserves_CrossBwd_CrossBwdIdeal
    ∧ algebraic_CrossBwdIdeal_CrossGradIdeal_pre_cross_finite (hCrossBwdIdeal := hCrossBwdIdeal) (hCrossGradIdeal := hCrossGradIdeal) (hPre_cross_finite := hPre_cross_finite)
    ∧ preserves_NormBwd_NormBwdIdeal
    ∧ algebraic_NormBwdIdeal_NormGradIdeal_pre_norm_finite (hNormBwdIdeal := hNormBwdIdeal) (hNormGradIdeal := hNormGradIdeal) (hPre_norm_finite := hPre_norm_finite)
    ∧ preserves_FirstBwd_FirstBwdIdeal
    ∧ algebraic_FirstBwdIdeal_FirstGradIdeal_pre_norm_finite (hFirstBwdIdeal := hFirstBwdIdeal) (hFirstGradIdeal := hFirstGradIdeal) (hPre_norm_finite := hPre_norm_finite)
    ∧ preserves_MemoryBwd_MemoryBwdIdeal
    ∧ algebraic_MemoryBwdIdeal_MemoryGradIdeal_pre_memory_finite (hMemoryBwdIdeal := hMemoryBwdIdeal) (hMemoryGradIdeal := hMemoryGradIdeal) (hPre_memory_finite := hPre_memory_finite)
    ∧ preserves_LossBwd_LossBwdIdeal
    ∧ algebraic_LossBwdIdeal_LossGradIdeal_pre_loss_finite (hLossBwdIdeal := hLossBwdIdeal) (hLossGradIdeal := hLossGradIdeal) (hPre_loss_finite := hPre_loss_finite)
    ∧ preserves_BiasBwd_BiasBwdIdeal
    ∧ algebraic_BiasBwdIdeal_BiasGradIdeal (hBiasBwdIdeal := hBiasBwdIdeal) (hBiasGradIdeal := hBiasGradIdeal)
    ∧ preserves_CrossFwd_CrossFwdIdeal
    ∧ algebraic_CrossFwdIdeal_CrossPlainIdeal_pre_cross_forward_finite (hCrossFwdIdeal := hCrossFwdIdeal) (hCrossPlainIdeal := hCrossPlainIdeal) (hPre_cross_forward_finite := hPre_cross_forward_finite)
    ∧ preserves_AttnFwd_AttnFwdIdeal
    ∧ algebraic_AttnFwdIdeal_AttnPlainIdeal_pre_attn_forward_finite (hAttnFwdIdeal := hAttnFwdIdeal) (hAttnPlainIdeal := hAttnPlainIdeal) (hPre_attn_forward_finite := hPre_attn_forward_finite)
    ∧ preserves_PoolFwd_PoolFwdIdeal
    ∧ algebraic_PoolFwdIdeal_PoolPlainIdeal (hPoolFwdIdeal := hPoolFwdIdeal) (hPoolPlainIdeal := hPoolPlainIdeal)
    ∧ preserves_NormFwd_NormFwdIdeal
    ∧ algebraic_NormFwdIdeal_NormPlainIdeal (hNormFwdIdeal := hNormFwdIdeal) (hNormPlainIdeal := hNormPlainIdeal)
    ∧ preserves_GateFwd_GateFwdIdeal
    ∧ algebraic_GateFwdIdeal_GatePlainIdeal (hGateFwdIdeal := hGateFwdIdeal) (hGatePlainIdeal := hGatePlainIdeal)
    ∧ preserves_QueryFwd_QueryFwdIdeal
    ∧ algebraic_QueryFwdIdeal_QueryPlainIdeal (hQueryFwdIdeal := hQueryFwdIdeal) (hQueryPlainIdeal := hQueryPlainIdeal)
    ∧ preserves_TileFwd_TileFwdIdeal
    ∧ algebraic_TileFwdIdeal_TilePlainIdeal (hTileFwdIdeal := hTileFwdIdeal) (hTilePlainIdeal := hTilePlainIdeal)
    ∧ preserves_OutMul_OutMulIdeal
    ∧ algebraic_OutMulIdeal_OutPlainIdeal (hOutMulIdeal := hOutMulIdeal) (hOutPlainIdeal := hOutPlainIdeal)
    ∧ preserves_InMul_InMulIdeal
    ∧ algebraic_InMulIdeal_InPlainIdeal (hInMulIdeal := hInMulIdeal) (hInPlainIdeal := hInPlainIdeal)
    ∧ preserves_BackMul_BackMulIdeal
    ∧ algebraic_BackMulIdeal_BackPlainIdeal (hBackMulIdeal := hBackMulIdeal) (hBackPlainIdeal := hBackPlainIdeal)
    ∧ preserves_ColumnsMul_ColumnsMulIdeal
    ∧ algebraic_ColumnsMulIdeal_ColumnsPlainIdeal (hColumnsMulIdeal := hColumnsMulIdeal) (hColumnsPlainIdeal := hColumnsPlainIdeal)
    ∧ preserves_WeightMul_WeightMulIdeal
    ∧ algebraic_WeightMulIdeal_WeightPlainIdeal (hWeightMulIdeal := hWeightMulIdeal) (hWeightPlainIdeal := hWeightPlainIdeal)
    ∧ preserves_DownMul_DownMulIdeal
    ∧ algebraic_DownMulIdeal_DownPlainIdeal (hDownMulIdeal := hDownMulIdeal) (hDownPlainIdeal := hDownPlainIdeal)
    ∧ preserves_HiddenMul_HiddenMulIdeal
    ∧ algebraic_HiddenMulIdeal_HiddenPlainIdeal (hHiddenMulIdeal := hHiddenMulIdeal) (hHiddenPlainIdeal := hHiddenPlainIdeal)
    ∧ preserves_IntoMul_IntoMulIdeal
    ∧ algebraic_IntoMulIdeal_IntoPlainIdeal (hIntoMulIdeal := hIntoMulIdeal) (hIntoPlainIdeal := hIntoPlainIdeal)
    ∧ preserves_AdamStep_AdamStepIdeal
    ∧ algebraic_AdamStepIdeal_AdamPlainIdeal (hAdamStepIdeal := hAdamStepIdeal) (hAdamPlainIdeal := hAdamPlainIdeal)
    ∧ preserves_UpFwd_UpFwdIdeal
    ∧ algebraic_UpFwdIdeal_UpPlainIdeal (hUpFwdIdeal := hUpFwdIdeal) (hUpPlainIdeal := hUpPlainIdeal)
    ∧ preserves_PackAll_PackAllIdeal
    ∧ algebraic_PackAllIdeal_PackPlainIdeal (hPackAllIdeal := hPackAllIdeal) (hPackPlainIdeal := hPackPlainIdeal)
-- ==== Pre_attn_finite.lean ====
abbrev S2x2048x4096 : Shape := ⟨3, ![2, 2048, 4096]⟩
abbrev S16x257 : Shape := ⟨2, ![16, 257]⟩
abbrev S2x2048x2048 : Shape := ⟨3, ![2, 2048, 2048]⟩
abbrev S_ : Shape := ⟨0, ![]⟩

class Facts : Prop where
  bcast_S_S2x2048x4096 : S_.BroadcastsInDim S2x2048x4096 (![] : Fin 0 → Fin S2x2048x4096.rank)
  bcast_S_S16x257 : S_.BroadcastsInDim S16x257 (![] : Fin 0 → Fin S16x257.rank)
  bitsLt_bf16_f32 : FTy.bits .bf16 < FTy.bits .f32
  bcast_S_S2x2048x2048 : S_.BroadcastsInDim S2x2048x2048 (![] : Fin 0 → Fin S2x2048x2048.rank)

variable [Facts]

def fn {F : FTy → Type} [FloatOps F] (main_arg0 : FVec F S2x2048x4096 .f32) (main_arg1 : FVec F S16x257 .f32) (main_arg2 : FVec F S2x2048x2048 .bf16) : IVec S2x2048x4096 1 × IVec S16x257 1 × IVec S2x2048x2048 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_v3 : FVec F S16x257 .f32 := Host.absf main_arg1
  let main_cst_0 : FVec F S_ .f32 := constant S_ .f32 0x7F800000#32
  let main_v4 : FVec F S16x257 .f32 := broadcastInDim S16x257 ![] bcast_S_S16x257 main_cst_0
  let main_v5 : IVec S16x257 1 := cmpf .olt main_v3 main_v4
  let main_v6 : FVec F S2x2048x2048 .f32 := (extf .f32 · bitsLt_bf16_f32) main_arg2
  let main_v7 : FVec F S2x2048x2048 .f32 := Host.absf main_v6
  let main_cst_1 : FVec F S_ .f32 := constant S_ .f32 0x7F800000#32
  let main_v8 : FVec F S2x2048x2048 .f32 := broadcastInDim S2x2048x2048 ![] bcast_S_S2x2048x2048 main_cst_1
  let main_v9 : IVec S2x2048x2048 1 := cmpf .olt main_v7 main_v8
  (main_v2, main_v5, main_v9)
-- ==== Pre_attn_forward_finite.lean ====
abbrev S2x2048x4096 : Shape := ⟨3, ![2, 2048, 4096]⟩
abbrev S16x257 : Shape := ⟨2, ![16, 257]⟩
abbrev S_ : Shape := ⟨0, ![]⟩

class Facts : Prop where
  bcast_S_S2x2048x4096 : S_.BroadcastsInDim S2x2048x4096 (![] : Fin 0 → Fin S2x2048x4096.rank)
  bcast_S_S16x257 : S_.BroadcastsInDim S16x257 (![] : Fin 0 → Fin S16x257.rank)

variable [Facts]

def fn {F : FTy → Type} [FloatOps F] (main_arg0 : FVec F S2x2048x4096 .f32) (main_arg1 : FVec F S16x257 .f32) : IVec S2x2048x4096 1 × IVec S16x257 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_v3 : FVec F S16x257 .f32 := Host.absf main_arg1
  let main_cst_0 : FVec F S_ .f32 := constant S_ .f32 0x7F800000#32
  let main_v4 : FVec F S16x257 .f32 := broadcastInDim S16x257 ![] bcast_S_S16x257 main_cst_0
  let main_v5 : IVec S16x257 1 := cmpf .olt main_v3 main_v4
  (main_v2, main_v5)
-- ==== Pre_cross_finite.lean ====
abbrev S2x2048x512 : Shape := ⟨3, ![2, 2048, 512]⟩
abbrev S2x256x1024 : Shape := ⟨3, ![2, 256, 1024]⟩
abbrev S_ : Shape := ⟨0, ![]⟩

class Facts : Prop where
  bitsLt_bf16_f32 : FTy.bits .bf16 < FTy.bits .f32
  bcast_S_S2x2048x512 : S_.BroadcastsInDim S2x2048x512 (![] : Fin 0 → Fin S2x2048x512.rank)
  bcast_S_S2x256x1024 : S_.BroadcastsInDim S2x256x1024 (![] : Fin 0 → Fin S2x256x1024.rank)

variable [Facts]

def fn {F : FTy → Type} [FloatOps F] (main_arg0 : FVec F S2x2048x512 .bf16) (main_arg1 : FVec F S2x256x1024 .bf16) (main_arg2 : FVec F S2x2048x512 .bf16) : IVec S2x2048x512 1 × IVec S2x256x1024 1 × IVec S2x2048x512 1 :=
  let main_v0 : FVec F S2x2048x512 .f32 := (extf .f32 · bitsLt_bf16_f32) main_arg0
  let main_v1 : FVec F S2x2048x512 .f32 := Host.absf main_v0
  let main_cst : FVec F S_ .f32 := constant S_ .f32 0x7F800000#32
  let main_v2 : FVec F S2x2048x512 .f32 := broadcastInDim S2x2048x512 ![] bcast_S_S2x2048x512 main_cst
  let main_v3 : IVec S2x2048x512 1 := cmpf .olt main_v1 main_v2
  let main_v4 : FVec F S2x256x1024 .f32 := (extf .f32 · bitsLt_bf16_f32) main_arg1
  let main_v5 : FVec F S2x256x1024 .f32 := Host.absf main_v4
  let main_cst_0 : FVec F S_ .f32 := constant S_ .f32 0x7F800000#32
  let main_v6 : FVec F S2x256x1024 .f32 := broadcastInDim S2x256x1024 ![] bcast_S_S2x256x1024 main_cst_0
  let main_v7 : IVec S2x256x1024 1 := cmpf .olt main_v5 main_v6
  let main_v8 : FVec F S2x2048x512 .f32 := (extf .f32 · bitsLt_bf16_f32) main_arg2
  let main_v9 : FVec F S2x2048x512 .f32 := Host.absf main_v8
  let main_cst_1 : FVec F S_ .f32 := constant S_ .f32 0x7F800000#32
  let main_v10 : FVec F S2x2048x512 .f32 := broadcastInDim S2x2048x512 ![] bcast_S_S2x2048x512 main_cst_1
  let main_v11 : IVec S2x2048x512 1 := cmpf .olt main_v9 main_v10
  (main_v3, main_v7, main_v11)
-- ==== Pre_cross_forward_finite.lean ====
abbrev S2x2048x512 : Shape := ⟨3, ![2, 2048, 512]⟩
abbrev S2x256x1024 : Shape := ⟨3, ![2, 256, 1024]⟩
abbrev S_ : Shape := ⟨0, ![]⟩

class Facts : Prop where
  bitsLt_bf16_f32 : FTy.bits .bf16 < FTy.bits .f32
  bcast_S_S2x2048x512 : S_.BroadcastsInDim S2x2048x512 (![] : Fin 0 → Fin S2x2048x512.rank)
  bcast_S_S2x256x1024 : S_.BroadcastsInDim S2x256x1024 (![] : Fin 0 → Fin S2x256x1024.rank)

variable [Facts]

def fn {F : FTy → Type} [FloatOps F] (main_arg0 : FVec F S2x2048x512 .bf16) (main_arg1 : FVec F S2x256x1024 .bf16) : IVec S2x2048x512 1 × IVec S2x256x1024 1 :=
  let main_v0 : FVec F S2x2048x512 .f32 := (extf .f32 · bitsLt_bf16_f32) main_arg0
  let main_v1 : FVec F S2x2048x512 .f32 := Host.absf main_v0
  let main_cst : FVec F S_ .f32 := constant S_ .f32 0x7F800000#32
  let main_v2 : FVec F S2x2048x512 .f32 := broadcastInDim S2x2048x512 ![] bcast_S_S2x2048x512 main_cst
  let main_v3 : IVec S2x2048x512 1 := cmpf .olt main_v1 main_v2
  let main_v4 : FVec F S2x256x1024 .f32 := (extf .f32 · bitsLt_bf16_f32) main_arg1
  let main_v5 : FVec F S2x256x1024 .f32 := Host.absf main_v4
  let main_cst_0 : FVec F S_ .f32 := constant S_ .f32 0x7F800000#32
  let main_v6 : FVec F S2x256x1024 .f32 := broadcastInDim S2x256x1024 ![] bcast_S_S2x256x1024 main_cst_0
  let main_v7 : IVec S2x256x1024 1 := cmpf .olt main_v5 main_v6
  (main_v3, main_v7)
-- ==== Pre_gate_finite.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S5632x2048 .bf16) (main_arg2 : FVec F S4096x5632 .bf16) (main_arg3 : FVec F S4096x5632 .bf16) : IVec S4096x2048 1 × IVec S5632x2048 1 × IVec S4096x5632 1 × IVec S4096x5632 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S4096x5632 .f32 := (extf .f32 · bitsLt_bf16_f32) main_arg2
  let main_v9 : FVec F S4096x5632 .f32 := Host.absf main_v8
  let main_cst_1 : FVec F S_ .f32 := constant S_ .f32 0x7F800000#32
  let main_v10 : FVec F S4096x5632 .f32 := broadcastInDim S4096x5632 ![] bcast_S_S4096x5632 main_cst_1
  let main_v11 : IVec S4096x5632 1 := cmpf .olt main_v9 main_v10
  let main_v12 : FVec F S4096x5632 .f32 := (extf .f32 · bitsLt_bf16_f32) main_arg3
  let main_v13 : FVec F S4096x5632 .f32 := Host.absf main_v12
  let main_cst_2 : FVec F S_ .f32 := constant S_ .f32 0x7F800000#32
  let main_v14 : FVec F S4096x5632 .f32 := broadcastInDim S4096x5632 ![] bcast_S_S4096x5632 main_cst_2
  let main_v15 : IVec S4096x5632 1 := cmpf .olt main_v13 main_v14
  (main_v3, main_v7, main_v11, main_v15)
-- ==== Pre_loss_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S1x2048 .f32) (main_arg2 : FVec F S4096x2048 .f32) : IVec S4096x2048 1 × IVec S1x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Pre_memory_finite.lean ====
abbrev S512x2048 : Shape := ⟨2, ![512, 2048]⟩
abbrev S1x2048 : Shape := ⟨2, ![1, 2048]⟩
abbrev S_ : Shape := ⟨0, ![]⟩

class Facts : Prop where
  bcast_S_S512x2048 : S_.BroadcastsInDim S512x2048 (![] : Fin 0 → Fin S512x2048.rank)
  bcast_S_S1x2048 : S_.BroadcastsInDim S1x2048 (![] : Fin 0 → Fin S1x2048.rank)

variable [Facts]

def fn {F : FTy → Type} [FloatOps F] (main_arg0 : FVec F S512x2048 .f32) (main_arg1 : FVec F S1x2048 .f32) (main_arg2 : FVec F S512x2048 .f32) : IVec S512x2048 1 × IVec S1x2048 1 × IVec S512x2048 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S512x2048 .f32 := Host.absf main_arg2
  let main_cst_1 : FVec F S_ .f32 := constant S_ .f32 0x7F800000#32
  let main_v7 : FVec F S512x2048 .f32 := broadcastInDim S512x2048 ![] bcast_S_S512x2048 main_cst_1
  let main_v8 : IVec S512x2048 1 := cmpf .olt main_v6 main_v7
  (main_v2, main_v5, main_v8)
-- ==== Pre_norm_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)
  bitsLt_bf16_f32 : FTy.bits .bf16 < FTy.bits .f32

variable [Facts]

def fn {F : FTy → Type} [FloatOps F] (main_arg0 : FVec F S4096x2048 .f32) (main_arg1 : FVec F S1x2048 .f32) (main_arg2 : FVec F S4096x2048 .bf16) (main_arg3 : FVec F S4096x2048 .bf16) : IVec S4096x2048 1 × IVec S1x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S4096x2048 .f32 := (extf .f32 · bitsLt_bf16_f32) main_arg2
  let main_v7 : FVec F S4096x2048 .f32 := Host.absf main_v6
  let main_cst_1 : FVec F S_ .f32 := constant S_ .f32 0x7F800000#32
  let main_v8 : FVec F S4096x2048 .f32 := broadcastInDim S4096x2048 ![] bcast_S_S4096x2048 main_cst_1
  let main_v9 : IVec S4096x2048 1 := cmpf .olt main_v7 main_v8
  (main_v2, main_v5, main_v9)
-- ==== GateBwd.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩
abbrev S256x2048 : Shape := ⟨2, ![256, 2048]⟩
abbrev S256x1408 : Shape := ⟨2, ![256, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateGradIdeal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S5632x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .bf16⟩
  | .hbm, ⟨37, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== AttnBwd.lean ====
abbrev S2x2048x4096 : Shape := ⟨3, ![2, 2048, 4096]⟩
abbrev S16x257 : Shape := ⟨2, ![16, 257]⟩
abbrev S2x2048x2048 : Shape := ⟨3, ![2, 2048, 2048]⟩
abbrev S64 : Shape := ⟨1, ![64]⟩
abbrev S_ : Shape := ⟨0, ![]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S16x64x0 : Shape := ⟨3, ![16, 64, 0]⟩
abbrev S16x64x192 : Shape := ⟨3, ![16, 64, 192]⟩
abbrev S16x64x768 : Shape := ⟨3, ![16, 64, 768]⟩
abbrev S16x64x64 : Shape := ⟨3, ![16, 64, 64]⟩
abbrev S16x64x128 : Shape := ⟨3, ![16, 64, 128]⟩
abbrev S16x256x768 : Shape := ⟨3, ![16, 256, 768]⟩
abbrev S2x2048x1024 : Shape := ⟨3, ![2, 2048, 1024]⟩
abbrev S1x256x128 : Shape := ⟨3, ![1, 256, 128]⟩
abbrev S1x2048x128 : Shape := ⟨3, ![1, 2048, 128]⟩
abbrev S2x256x768 : Shape := ⟨3, ![2, 256, 768]⟩
abbrev S2560x128 : Shape := ⟨2, ![2560, 128]⟩
abbrev S128x2560 : Shape := ⟨2, ![128, 2560]⟩
abbrev S512x128 : Shape := ⟨2, ![512, 128]⟩
abbrev S2048x128 : Shape := ⟨2, ![2048, 128]⟩
abbrev S768x128 : Shape := ⟨2, ![768, 128]⟩
abbrev S256x128 : Shape := ⟨2, ![256, 128]⟩
abbrev S1x768 : Shape := ⟨2, ![1, 768]⟩
abbrev S512x768 : Shape := ⟨2, ![512, 768]⟩
abbrev S512 : Shape := ⟨1, ![512]⟩
abbrev S512x1 : Shape := ⟨2, ![512, 1]⟩
abbrev S128x768 : Shape := ⟨2, ![128, 768]⟩
abbrev S128x2048 : Shape := ⟨2, ![128, 2048]⟩

abbrev nBuf : Space → Nat
  | .hbm => 69
  | .vmem => 22
  | .smem => 0
  | _ => 0

abbrev bufTy : (tb : Table) → Fin (tcTables nBuf tb) → BufTy
  | .hbm, ⟨0, _⟩ => ⟨S2x2048x4096, .f32⟩
  | .hbm, ⟨1, _⟩ => ⟨S16x257, .f32⟩
  | .hbm, ⟨2, _⟩ => ⟨S2x2048x2048, .bf16⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S64x1, .i32⟩
  | .hbm, ⟨8, _⟩ => ⟨S576, .i32⟩
  | .hbm, ⟨9, _⟩ => ⟨S1x576, .i32⟩
  | .hbm, ⟨10, _⟩ => ⟨S64x576, .i32⟩
  | .hbm, ⟨11, _⟩ => ⟨S64x576, .i32⟩
  | .hbm, ⟨12, _⟩ => ⟨S64x576, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S64x576, .i32⟩
  | .hbm, ⟨17, _⟩ => ⟨S64x576, .i32⟩
  | .hbm, ⟨18, _⟩ => ⟨S_, .i32⟩
  | .hbm, ⟨19, _⟩ => ⟨S64x576, .i32⟩
  | .hbm, ⟨20, _⟩ => ⟨S64x576, .i32⟩
  | .hbm, ⟨21, _⟩ => ⟨S_, .i32⟩
  | .hbm, ⟨22, _⟩ => ⟨S64x576, .i32⟩
  | .hbm, ⟨23, _⟩ => ⟨S64x576, .i32⟩
  | .hbm, ⟨24, _⟩ => ⟨S_, .i32⟩
  | .hbm, ⟨25, _⟩ => ⟨S64x576, .i32⟩
  | .hbm, ⟨26, _⟩ => ⟨S64x576, .i1⟩
  | .hbm, ⟨27, _⟩ => ⟨S_, .i32⟩
  | .hbm, ⟨28, _⟩ => ⟨S64x576, .i32⟩
  | .hbm, ⟨29, _⟩ => ⟨S64x576, .i32⟩
  | .hbm, ⟨30, _⟩ => ⟨S64x576, .i32⟩
  | .hbm, ⟨31, _⟩ => ⟨S64x576x1, .i32⟩
  | .hbm, ⟨32, _⟩ => ⟨S16x64x576, .f32⟩
  | .hbm, ⟨33, _⟩ => ⟨S_, .f32⟩
  | .hbm, ⟨34, _⟩ => ⟨S16x64x0, .f32⟩
  | .hbm, ⟨35, _⟩ => ⟨S_, .f32⟩
  | .hbm, ⟨36, _⟩ => ⟨S16x64x192, .f32⟩
  | .hbm, ⟨37, _⟩ => ⟨S16x64x768, .f32⟩
  | .hbm, ⟨38, _⟩ => ⟨S_, .f32⟩
  | .hbm, ⟨39, _⟩ => ⟨S16x64x64, .f32⟩
  | .hbm, ⟨40, _⟩ => ⟨S_, .f32⟩
  | .hbm, ⟨41, _⟩ => ⟨S16x64x128, .f32⟩
  | .hbm, ⟨42, _⟩ => ⟨S16x64x768, .f32⟩
  | .hbm, ⟨43, _⟩ => ⟨S_, .f32⟩
  | .hbm, ⟨44, _⟩ => ⟨S16x64x128, .f32⟩
  | .hbm, ⟨45, _⟩ => ⟨S_, .f32⟩
  | .hbm, ⟨46, _⟩ => ⟨S16x64x64, .f32⟩
  | .hbm, ⟨47, _⟩ => ⟨S16x64x768, .f32⟩
  | .hbm, ⟨48, _⟩ => ⟨S_, .f32⟩
  | .hbm, ⟨49, _⟩ => ⟨S16x64x192, .f32⟩
  | .hbm, ⟨50, _⟩ => ⟨S_, .f32⟩
  | .hbm, ⟨51, _⟩ => ⟨S16x64x0, .f32⟩
  | .hbm, ⟨52, _⟩ => ⟨S16x64x768, .f32⟩
  | .hbm, ⟨53, _⟩ => ⟨S16x256x768, .f32⟩
  | .hbm, ⟨54, _⟩ => ⟨S2x2048x4096, .bf16⟩
  | .hbm, ⟨55, _⟩ => ⟨S2x2048x1024, .bf16⟩
  | .hbm, ⟨56, _⟩ => ⟨S2x2048x1024, .bf16⟩
  | .hbm, ⟨57, _⟩ => ⟨S16x256x768, .f32⟩
  | .hbm, ⟨58, _⟩ => ⟨S16x64x576, .f32⟩
  | .hbm, ⟨59, _⟩ => ⟨S_, .f32⟩
  | .hbm, ⟨60, _⟩ => ⟨S16x64x576, .f32⟩
  | .hbm, ⟨61, _⟩ => ⟨S16x64x576, .f32⟩
  | .hbm, ⟨62, _⟩ => ⟨S16x64x576, .f32⟩
  | .hbm, ⟨63, _⟩ => ⟨S16x64x576, .f32⟩
  | .hbm, ⟨64, _⟩ => ⟨S16x64x576, .f32⟩
  | .hbm, ⟨65, _⟩ => ⟨S16x64x576, .f32⟩
  | .hbm, ⟨66, _⟩ => ⟨S16x64x576, .f32⟩
  | .hbm, ⟨67, _⟩ => ⟨S16x64x576, .f32⟩
  | .hbm, ⟨68, _⟩ => ⟨S2x2048x1024, .bf16⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S2x256x768, .f32⟩
  | .local _ .vmem, ⟨7, _⟩ => ⟨S2x256x768, .f32⟩
  | .local _ .vmem, ⟨8, _⟩ => ⟨S1x256x128, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S2x256x768, .f32⟩
  | .local _ .vmem, ⟨17, _⟩ => ⟨S2x256x768, .f32⟩
  | .local _ .vmem, ⟨18, _⟩ => ⟨S2560x128, .bf16⟩
  | .local _ .vmem, ⟨19, _⟩ => ⟨S2560x128, .bf16⟩
  | .local _ .vmem, ⟨20, _⟩ => ⟨S128x2560, .f32⟩
  | .local _ .vmem, ⟨21, _⟩ => ⟨S128x2560, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_cst_9 : Ref sig .tc := ⟨.hbm, 45, rfl⟩
abbrev main_v26 : Ref sig .tc := ⟨.hbm, 46, rfl⟩
abbrev main_v27 : Ref sig .tc := ⟨.hbm, 47, rfl⟩
abbrev main_cst_10 : Ref sig .tc := ⟨.hbm, 48, rfl⟩
abbrev main_v28 : Ref sig .tc := ⟨.hbm, 49, rfl⟩
abbrev main_cst_11 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32_0 : Ref sig .tc := ⟨.hbm, 54, rfl⟩
abbrev main_v32_1 : Ref sig .tc := ⟨.hbm, 55, rfl⟩
abbrev main_v32_2 : Ref sig .tc := ⟨.hbm, 56, rfl⟩
abbrev main_v32_3 : Ref sig .tc := ⟨.hbm, 57, rfl⟩
abbrev main_v33 : Ref sig .tc := ⟨.hbm, 58, rfl⟩
abbrev main_cst_12 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 2, 8], ![false, false, false]⟩

def k0_mult1 (i : grid0.Coords) : BitVec 32 :=
  let arg2 : BitVec 32 := BitVec.ofNat 32 (i 2).val
  let c256_i32 : BitVec 32 := 256#32
  let v8 : BitVec 32 := Scalar.muli arg2 c256_i32
  v8
def k0_off1 (i : grid0.Coords) : Fin 2 → Nat :=
  let arg2 : BitVec 32 := BitVec.ofNat 32 (i 2).val
  let c256_i32 : BitVec 32 := 256#32
  let v8 : BitVec 32 := Scalar.muli arg2 c256_i32
  let v9 : BitVec 32 := v8
  let v10 : Index := Scalar.indexCast v9
  let c0 : Index := 0#32
  ![v10.toNat, 0]
def k0_off2 (i : grid0.Coords) : Fin 2 → Nat :=
  let c0_37 : Index := 0#32
  let arg2 : BitVec 32 := BitVec.ofNat 32 (i 2).val
  let c256_i32 : BitVec 32 := 256#32
  let v8 : BitVec 32 := Scalar.muli arg2 c256_i32
  let v9 : BitVec 32 := v8
  let v83 : Index := Scalar.indexCast v9
  ![0, v83.toNat]
def k0_cond3 (i : grid0.Coords) : BitVec 1 :=
  let arg2 : BitVec 32 := BitVec.ofNat 32 (i 2).val
  let c7_i32 : BitVec 32 := 7#32
  let v100 : BitVec 1 := Scalar.cmpi .eq arg2 c7_i32
  let v101 : BitVec 32 := Scalar.extui v100
  let c0_i32_43 : BitVec 32 := 0#32
  let v102 : BitVec 1 := Scalar.cmpi .ne v101 c0_i32_43
  v102

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== AttnBwdIdeal.lean ====
variable {F : FTy → Type} [FloatOps F] [Named F]
def κ : String → Option EReal := fun
  | "mask" => some ⊥
  | _ => none
-- ==== AttnGradIdeal.lean ====
abbrev S2x2048x4096 : Shape := ⟨3, ![2, 2048, 4096]⟩
abbrev S16x257 : Shape := ⟨2, ![16, 257]⟩
abbrev S2x2048x2048 : Shape := ⟨3, ![2, 2048, 2048]⟩
abbrev S2x2048x1024 : Shape := ⟨3, ![2, 2048, 1024]⟩
abbrev S64 : Shape := ⟨1, ![64]⟩
abbrev S_ : Shape := ⟨0, ![]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S2x2048x16x64 : Shape := ⟨4, ![2, 2048, 16, 64]⟩
abbrev S2x512x16x64 : Shape := ⟨4, ![2, 512, 16, 64]⟩
abbrev S2x2560x16x64 : Shape := ⟨4, ![2, 2560, 16, 64]⟩
abbrev S2x32x64x16x64 : Shape := ⟨5, ![2, 32, 64, 16, 64]⟩
abbrev S2x40x64x16x64 : Shape := ⟨5, ![2, 40, 64, 16, 64]⟩
abbrev S2x32x576x16x64 : Shape := ⟨5, ![2, 32, 576, 16, 64]⟩
abbrev S2x32x16x64x576 : Shape := ⟨5, ![2, 32, 16, 64, 576]⟩
abbrev S1x1x16x64x576 : Shape := ⟨5, ![1, 1, 16, 64, 576]⟩
abbrev S32 : Shape := ⟨1, ![32]⟩
abbrev S32x1 : Shape := ⟨2, ![32, 1]⟩
abbrev S32x576 : Shape := ⟨2, ![32, 576]⟩
abbrev S1x32x1x1x576 : Shape := ⟨5, ![1, 32, 1, 1, 576]⟩
abbrev S2x32x16x64 : Shape := ⟨4, ![2, 32, 16, 64]⟩
abbrev S2x32x16x64x1 : Shape := ⟨5, ![2, 32, 16, 64, 1]⟩
abbrev S2x32x16x64x64 : Shape := ⟨5, ![2, 32, 16, 64, 64]⟩
abbrev S2x32x16x576x64 : Shape := ⟨5, ![2, 32, 16, 576, 64]⟩

abbrev nBuf : Space → Nat
  | .hbm => 292
  | .vmem => 0
  | .smem => 0
  | _ => 0

abbrev hbmTy0_0 (i : Nat) : BufTy := match i % 128 with
  | 0 => ⟨S2x2048x4096, .f32⟩
  | 1 => ⟨S16x257, .f32⟩
  | 2 => ⟨S2x2048x2048, .bf16⟩
  | 3 => ⟨S2x2048x1024, .f32⟩
  | 4 => ⟨S2x2048x1024, .f32⟩
  | 5 => ⟨S2x2048x1024, .f32⟩
  | 6 => ⟨S64, .i32⟩
  | 7 => ⟨S_, .i32⟩
  | 8 => ⟨S64, .i32⟩
  | 9 => ⟨S64, .i32⟩
  | 10 => ⟨S64x1, .i32⟩
  | 11 => ⟨S576, .i32⟩
  | 12 => ⟨S1x576, .i32⟩
  | 13 => ⟨S64x576, .i32⟩
  | 14 => ⟨S64x576, .i32⟩
  | 15 => ⟨S64x576, .i32⟩
  | 16 => ⟨S_, .i32⟩
  | 17 => ⟨S_, .i32⟩
  | 18 => ⟨S_, .i32⟩
  | 19 => ⟨S64x576, .i32⟩
  | 20 => ⟨S64x576, .i32⟩
  | 21 => ⟨S_, .i32⟩
  | 22 => ⟨S64x576, .i32⟩
  | 23 => ⟨S64x576, .i32⟩
  | 24 => ⟨S_, .i32⟩
  | 25 => ⟨S64x576, .i32⟩
  | 26 => ⟨S64x576, .i32⟩
  | 27 => ⟨S_, .i32⟩
  | 28 => ⟨S64x576, .i32⟩
  | 29 => ⟨S64x576, .i1⟩
  | 30 => ⟨S_, .i32⟩
  | 31 => ⟨S64x576, .i32⟩
  | 32 => ⟨S64x576, .i32⟩
  | 33 => ⟨S64x576, .i32⟩
  | 34 => ⟨S64x576x1, .i32⟩
  | 35 => ⟨S16x64x576, .f32⟩
  | 36 => ⟨S2x2048x16x64, .f32⟩
  | 37 => ⟨S2x2048x16x64, .f32⟩
  | 38 => ⟨S2x2048x16x64, .f32⟩
  | 39 => ⟨S_, .f32⟩
  | 40 => ⟨S2x512x16x64, .f32⟩
  | 41 => ⟨S2x2560x16x64, .f32⟩
  | 42 => ⟨S_, .f32⟩
  | 43 => ⟨S2x512x16x64, .f32⟩
  | 44 => ⟨S_, .f32⟩
  | 45 => ⟨S2x512x16x64, .f32⟩
  | 46 => ⟨S2x2560x16x64, .f32⟩
  | 47 => ⟨S_, .f32⟩
  | 48 => ⟨S2x512x16x64, .f32⟩
  | 49 => ⟨S2x32x64x16x64, .f32⟩
  | 50 => ⟨S2x40x64x16x64, .f32⟩
  | 51 => ⟨S2x32x64x16x64, .f32⟩
  | 52 => ⟨S2x40x64x16x64, .f32⟩
  | 53 => ⟨S2x32x64x16x64, .f32⟩
  | 54 => ⟨S2x40x64x16x64, .f32⟩
  | 55 => ⟨S2x32x64x16x64, .f32⟩
  | 56 => ⟨S2x40x64x16x64, .f32⟩
  | 57 => ⟨S2x32x64x16x64, .f32⟩
  | 58 => ⟨S2x40x64x16x64, .f32⟩
  | 59 => ⟨S2x32x64x16x64, .f32⟩
  | 60 => ⟨S2x40x64x16x64, .f32⟩
  | 61 => ⟨S2x32x64x16x64, .f32⟩
  | 62 => ⟨S2x40x64x16x64, .f32⟩
  | 63 => ⟨S2x32x64x16x64, .f32⟩
  | 64 => ⟨S2x40x64x16x64, .f32⟩
  | 65 => ⟨S2x32x64x16x64, .f32⟩
  | 66 => ⟨S2x40x64x16x64, .f32⟩
  | 67 => ⟨S2x32x64x16x64, .f32⟩
  | 68 => ⟨S2x32x576x16x64, .f32⟩
  | 69 => ⟨S2x32x16x64x576, .f32⟩
  | 70 => ⟨S_, .f32⟩
  | 71 => ⟨S2x32x16x64x576, .f32⟩
  | 72 => ⟨S2x32x16x64x576, .f32⟩
  | 73 => ⟨S1x1x16x64x576, .f32⟩
  | 74 => ⟨S2x32x16x64x576, .f32⟩
  | 75 => ⟨S2x32x16x64x576, .f32⟩
  | 76 => ⟨S32, .i32⟩
  | 77 => ⟨S32x1, .i32⟩
  | 78 => ⟨S_, .i32⟩
  | 79 => ⟨S32x1, .i32⟩
  | 80 => ⟨S32x1, .i32⟩
  | 81 => ⟨S576, .i32⟩
  | 82 => ⟨S1x576, .i32⟩
  | 83 => ⟨S32x576, .i32⟩
  | 84 => ⟨S32x576, .i32⟩
  | 85 => ⟨S32x576, .i32⟩
  | 86 => ⟨S_, .i32⟩
  | 87 => ⟨S32x576, .i32⟩
  | 88 => ⟨S32x576, .i1⟩
  | 89 => ⟨S1x32x1x1x576, .i1⟩
  | 90 => ⟨S_, .f32⟩
  | 91 => ⟨S_, .f32⟩
  | 92 => ⟨S2x32x16x64x576, .i1⟩
  | 93 => ⟨S2x32x16x64x576, .f32⟩
  | 94 => ⟨S2x32x16x64x576, .f32⟩
  | 95 => ⟨S_, .f32⟩
  | 96 => ⟨S2x32x16x64x576, .f32⟩
  | 97 => ⟨S_, .f32⟩
  | 98 => ⟨S2x32x16x64, .f32⟩
  | 99 => ⟨S2x32x16x64x1, .f32⟩
  | 100 => ⟨S2x32x16x64x576, .f32⟩
  | 101 => ⟨S2x32x16x64x576, .i1⟩
  | 102 => ⟨S2x32x16x64x576, .f32⟩
  | 103 => ⟨S_, .f32⟩
  | 104 => ⟨S2x32x16x64, .f32⟩
  | 105 => ⟨S_, .f32⟩
  | 106 => ⟨S2x32x16x64, .f32⟩
  | 107 => ⟨S2x32x16x64, .f32⟩
  | 108 => ⟨S_, .f32⟩
  | 109 => ⟨S2x32x16x64, .f32⟩
  | 110 => ⟨S2x32x16x64, .i1⟩
  | 111 => ⟨S_, .f32⟩
  | 112 => ⟨S2x32x16x64, .f32⟩
  | 113 => ⟨S2x32x16x64, .i1⟩
  | 114 => ⟨S_, .f32⟩
  | 115 => ⟨S2x32x16x64, .f32⟩
  | 116 => ⟨S_, .f32⟩
  | 117 => ⟨S2x32x16x64, .f32⟩
  | 118 => ⟨S_, .f32⟩
  | 119 => ⟨S2x32x16x64, .f32⟩
  | 120 => ⟨S2x32x16x64, .f32⟩
  | 121 => ⟨S2x32x16x64, .f32⟩
  | 122 => ⟨S2x32x16x64x1, .f32⟩
  | 123 => ⟨S2x32x16x64x576, .f32⟩
  | 124 => ⟨S2x32x16x64x576, .f32⟩
  | 125 => ⟨S2x32x16x64x576, .f32⟩
  | 126 => ⟨S_, .f32⟩
  | 127 => ⟨S2x32x16x64, .f32⟩
  | _ => ⟨S2x2048x4096, .f32⟩

abbrev hbmTy0_1 (i : Nat) : BufTy := match i % 128 with
  | 0 => ⟨S2x32x16x64x1, .f32⟩
  | 1 => ⟨S2x32x16x64x576, .f32⟩
  | 2 => ⟨S2x32x16x64x576, .f32⟩
  | 3 => ⟨S2x32x16x64x1, .f32⟩
  | 4 => ⟨S_, .f32⟩
  | 5 => ⟨S2x32x16x64x1, .f32⟩
  | 6 => ⟨S2x32x16x64x1, .f32⟩
  | 7 => ⟨S2x40x64x16x64, .f32⟩
  | 8 => ⟨S2x32x64x16x64, .f32⟩
  | 9 => ⟨S2x40x64x16x64, .f32⟩
  | 10 => ⟨S2x32x64x16x64, .f32⟩
  | 11 => ⟨S2x40x64x16x64, .f32⟩
  | 12 => ⟨S2x32x64x16x64, .f32⟩
  | 13 => ⟨S2x40x64x16x64, .f32⟩
  | 14 => ⟨S2x32x64x16x64, .f32⟩
  | 15 => ⟨S2x40x64x16x64, .f32⟩
  | 16 => ⟨S2x32x64x16x64, .f32⟩
  | 17 => ⟨S2x40x64x16x64, .f32⟩
  | 18 => ⟨S2x32x64x16x64, .f32⟩
  | 19 => ⟨S2x40x64x16x64, .f32⟩
  | 20 => ⟨S2x32x64x16x64, .f32⟩
  | 21 => ⟨S2x40x64x16x64, .f32⟩
  | 22 => ⟨S2x32x64x16x64, .f32⟩
  | 23 => ⟨S2x40x64x16x64, .f32⟩
  | 24 => ⟨S2x32x64x16x64, .f32⟩
  | 25 => ⟨S2x32x576x16x64, .f32⟩
  | 26 => ⟨S2x32x16x64x64, .f32⟩
  | 27 => ⟨S2x32x64x16x64, .f32⟩
  | 28 => ⟨S2x2048x1024, .f32⟩
  | 29 => ⟨S2x2048x1024, .bf16⟩
  | 30 => ⟨S2x2048x1024, .f32⟩
  | 31 => ⟨S2x32x64x16x64, .f32⟩
  | 32 => ⟨S2x32x16x64x64, .f32⟩
  | 33 => ⟨S2x32x16x64x576, .f32⟩
  | 34 => ⟨S2x32x16x64x576, .f32⟩
  | 35 => ⟨S2x32x576x16x64, .f32⟩
  | 36 => ⟨S2x32x64x16x64, .f32⟩
  | 37 => ⟨S2x32x64x16x64, .f32⟩
  | 38 => ⟨S2x32x64x16x64, .f32⟩
  | 39 => ⟨S2x32x64x16x64, .f32⟩
  | 40 => ⟨S2x32x64x16x64, .f32⟩
  | 41 => ⟨S2x32x64x16x64, .f32⟩
  | 42 => ⟨S2x32x64x16x64, .f32⟩
  | 43 => ⟨S2x32x64x16x64, .f32⟩
  | 44 => ⟨S2x32x64x16x64, .f32⟩
  | 45 => ⟨S_, .f32⟩
  | 46 => ⟨S2x40x64x16x64, .f32⟩
  | 47 => ⟨S2x2560x16x64, .f32⟩
  | 48 => ⟨S_, .f32⟩
  | 49 => ⟨S2x40x64x16x64, .f32⟩
  | 50 => ⟨S2x2560x16x64, .f32⟩
  | 51 => ⟨S2x2560x16x64, .f32⟩
  | 52 => ⟨S_, .f32⟩
  | 53 => ⟨S2x40x64x16x64, .f32⟩
  | 54 => ⟨S2x2560x16x64, .f32⟩
  | 55 => ⟨S2x2560x16x64, .f32⟩
  | 56 => ⟨S_, .f32⟩
  | 57 => ⟨S2x40x64x16x64, .f32⟩
  | 58 => ⟨S2x2560x16x64, .f32⟩
  | 59 => ⟨S2x2560x16x64, .f32⟩
  | 60 => ⟨S_, .f32⟩
  | 61 => ⟨S2x40x64x16x64, .f32⟩
  | 62 => ⟨S2x2560x16x64, .f32⟩
  | 63 => ⟨S2x2560x16x64, .f32⟩
  | 64 => ⟨S_, .f32⟩
  | 65 => ⟨S2x40x64x16x64, .f32⟩
  | 66 => ⟨S2x2560x16x64, .f32⟩
  | 67 => ⟨S2x2560x16x64, .f32⟩
  | 68 => ⟨S_, .f32⟩
  | 69 => ⟨S2x40x64x16x64, .f32⟩
  | 70 => ⟨S2x2560x16x64, .f32⟩
  | 71 => ⟨S2x2560x16x64, .f32⟩
  | 72 => ⟨S_, .f32⟩
  | 73 => ⟨S2x40x64x16x64, .f32⟩
  | 74 => ⟨S2x2560x16x64, .f32⟩
  | 75 => ⟨S2x2560x16x64, .f32⟩
  | 76 => ⟨S_, .f32⟩
  | 77 => ⟨S2x40x64x16x64, .f32⟩
  | 78 => ⟨S2x2560x16x64, .f32⟩
  | 79 => ⟨S2x2560x16x64, .f32⟩
  | 80 => ⟨S2x32x16x64x576, .f32⟩
  | 81 => ⟨S2x32x16x64x576, .f32⟩
  | 82 => ⟨S2x32x16x64x576, .f32⟩
  | 83 => ⟨S_, .f32⟩
  | 84 => ⟨S2x32x16x64, .f32⟩
  | 85 => ⟨S2x32x16x64x1, .f32⟩
  | 86 => ⟨S2x32x16x64x1, .f32⟩
  | 87 => ⟨S2x32x16x64x576, .f32⟩
  | 88 => ⟨S2x32x16x64x576, .f32⟩
  | 89 => ⟨S_, .f32⟩
  | 90 => ⟨S2x32x16x64, .f32⟩
  | 91 => ⟨S2x32x16x64x576, .f32⟩
  | 92 => ⟨S2x32x16x64x576, .f32⟩
  | 93 => ⟨S2x32x16x64x576, .f32⟩
  | 94 => ⟨S_, .f32⟩
  | 95 => ⟨S2x32x16x64x576, .f32⟩
  | 96 => ⟨S2x32x16x64x576, .f32⟩
  | 97 => ⟨S_, .f32⟩
  | 98 => ⟨S16x64x576, .f32⟩
  | 99 => ⟨S1x1x16x64x576, .f32⟩
  | 100 => ⟨S_, .f32⟩
  | 101 => ⟨S16x64x576, .f32⟩
  | 102 => ⟨S_, .f32⟩
  | 103 => ⟨S2x32x16x64x576, .f32⟩
  | 104 => ⟨S2x32x16x64x576, .f32⟩
  | 105 => ⟨S2x32x16x576x64, .f32⟩
  | 106 => ⟨S2x32x576x16x64, .f32⟩
  | 107 => ⟨S2x32x16x64x64, .f32⟩
  | 108 => ⟨S2x32x64x16x64, .f32⟩
  | 109 => ⟨S2x32x64x16x64, .f32⟩
  | 110 => ⟨S2x32x64x16x64, .f32⟩
  | 111 => ⟨S2x32x64x16x64, .f32⟩
  | 112 => ⟨S2x32x64x16x64, .f32⟩
  | 113 => ⟨S2x32x64x16x64, .f32⟩
  | 114 => ⟨S2x32x64x16x64, .f32⟩
  | 115 => ⟨S2x32x64x16x64, .f32⟩
  | 116 => ⟨S2x32x64x16x64, .f32⟩
  | 117 => ⟨S2x32x64x16x64, .f32⟩
  | 118 => ⟨S_, .f32⟩
  | 119 => ⟨S2x40x64x16x64, .f32⟩
  | 120 => ⟨S2x2560x16x64, .f32⟩
  | 121 => ⟨S_, .f32⟩
  | 122 => ⟨S2x40x64x16x64, .f32⟩
  | 123 => ⟨S2x2560x16x64, .f32⟩
  | 124 => ⟨S2x2560x16x64, .f32⟩
  | 125 => ⟨S_, .f32⟩
  | 126 => ⟨S2x40x64x16x64, .f32⟩
  | 127 => ⟨S2x2560x16x64, .f32⟩
  | _ => ⟨S2x2048x4096, .f32⟩

abbrev hbmTy0_2 (i : Nat) : BufTy := match i % 128 with
  | 0 => ⟨S2x2560x16x64, .f32⟩
  | 1 => ⟨S_, .f32⟩
  | 2 => ⟨S2x40x64x16x64, .f32⟩
  | 3 => ⟨S2x2560x16x64, .f32⟩
  | 4 => ⟨S2x2560x16x64, .f32⟩
  | 5 => ⟨S_, .f32⟩
  | 6 => ⟨S2x40x64x16x64, .f32⟩
  | 7 => ⟨S2x2560x16x64, .f32⟩
  | 8 => ⟨S2x2560x16x64, .f32⟩
  | 9 => ⟨S_, .f32⟩
  | 10 => ⟨S2x40x64x16x64, .f32⟩
  | 11 => ⟨S2x2560x16x64, .f32⟩
  | 12 => ⟨S2x2560x16x64, .f32⟩
  | 13 => ⟨S_, .f32⟩
  | 14 => ⟨S2x40x64x16x64, .f32⟩
  | 15 => ⟨S2x2560x16x64, .f32⟩
  | 16 => ⟨S2x2560x16x64, .f32⟩
  | 17 => ⟨S_, .f32⟩
  | 18 => ⟨S2x40x64x16x64, .f32⟩
  | 19 => ⟨S2x2560x16x64, .f32⟩
  | 20 => ⟨S2x2560x16x64, .f32⟩
  | 21 => ⟨S_, .f32⟩
  | 22 => ⟨S2x40x64x16x64, .f32⟩
  | 23 => ⟨S2x2560x16x64, .f32⟩
  | 24 => ⟨S2x2560x16x64, .f32⟩
  | 25 => ⟨S2x2048x16x64, .f32⟩
  | 26 => ⟨S2x512x16x64, .f32⟩
  | 27 => ⟨S2x2048x16x64, .f32⟩
  | 28 => ⟨S2x512x16x64, .f32⟩
  | 29 => ⟨S2x2048x16x64, .f32⟩
  | 30 => ⟨S2x2048x1024, .f32⟩
  | 31 => ⟨S2x2048x1024, .f32⟩
  | 32 => ⟨S2x2048x1024, .f32⟩
  | 33 => ⟨S2x2048x1024, .bf16⟩
  | 34 => ⟨S2x2048x1024, .bf16⟩
  | 35 => ⟨S2x2048x1024, .bf16⟩
  | _ => ⟨S2x2048x4096, .f32⟩

abbrev hbmTy (i : Nat) : BufTy := match i / 128 with
  | 0 => hbmTy0_0 i
  | 1 => hbmTy0_1 i
  | 2 => hbmTy0_2 i
  | _ => ⟨S2x2048x4096, .f32⟩

abbrev bufTy : (tb : Table) → Fin (tcTables nBuf tb) → BufTy
  | .hbm, ⟨i, _⟩ => hbmTy i
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_9 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_10 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_call1_v0 : Ref sig .tc := ⟨.hbm, 91, rfl⟩
abbrev main_v69_1 : Ref sig .tc := ⟨.hbm, 92, rfl⟩
abbrev main_call1_v2 : Ref sig .tc := ⟨.hbm, 93, rfl⟩
abbrev main_v69_0 : Ref sig .tc := ⟨.hbm, 94, rfl⟩
abbrev main_call1_cst : Ref sig .tc := ⟨.hbm, 95, rfl⟩
abbrev main_v69_2 : Ref sig .tc := ⟨.hbm, 96, rfl⟩
abbrev main_cst_12 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_cst_16 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_cst_19 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_21 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_22 : Ref sig .tc := ⟨.hbm, 173, rfl⟩
abbrev main_v136 : Ref sig .tc := ⟨.hbm, 174, rfl⟩
abbrev main_v137 : Ref sig .tc := ⟨.hbm, 175, rfl⟩
abbrev main_cst_23 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_24 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_cst_25 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_26 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_cst_27 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_cst_28 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_cst_29 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_cst_30 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_cst_31 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_cst_32 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_call2_cst : Ref sig .tc := ⟨.hbm, 222, rfl⟩
abbrev main_call2_v0 : Ref sig .tc := ⟨.hbm, 223, rfl⟩
abbrev main_v174 : Ref sig .tc := ⟨.hbm, 224, rfl⟩
abbrev main_cst_33 : Ref sig .tc := ⟨.hbm, 225, rfl⟩
abbrev main_v175 : Ref sig .tc := ⟨.hbm, 226, rfl⟩
abbrev main_v176 : Ref sig .tc := ⟨.hbm, 227, rfl⟩
abbrev main_cst_34 : Ref sig .tc := ⟨.hbm, 228, rfl⟩
abbrev main_v177 : Ref sig .tc := ⟨.hbm, 229, rfl⟩
abbrev main_cst_35 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_cst_36 : Ref sig .tc := ⟨.hbm, 246, rfl⟩
abbrev main_v193 : Ref sig .tc := ⟨.hbm, 247, rfl⟩
abbrev main_v194 : Ref sig .tc := ⟨.hbm, 248, rfl⟩
abbrev main_cst_37 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_cst_38 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_cst_39 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_cst_40 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_cst_41 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_cst_42 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_cst_43 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_cst_44 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩

abbrev nD : Nat := 1
abbrev τ : Topo := Topo.v7x

variable {F : FTy → Type} [FloatOps F]
-- ==== PoolBwd.lean ====
abbrev S2x2048x1024 : Shape := ⟨3, ![2, 2048, 1024]⟩
abbrev S4x256x256 : Shape := ⟨3, ![4, 256, 256]⟩
abbrev S1x1024 : Shape := ⟨2, ![1, 1024]⟩
abbrev S2x2048x2048 : Shape := ⟨3, ![2, 2048, 2048]⟩
abbrev S2x2048x4096 : Shape := ⟨3, ![2, 2048, 4096]⟩
abbrev S2x2048x4x256 : Shape := ⟨4, ![2, 2048, 4, 256]⟩
abbrev S2048 : Shape := ⟨1, ![2048]⟩
abbrev S2048x1 : Shape := ⟨2, ![2048, 1]⟩
abbrev S_ : Shape := ⟨0, ![]⟩
abbrev S1 : Shape := ⟨1, ![1]⟩
abbrev S4 : Shape := ⟨1, ![4]⟩
abbrev S1x4 : Shape := ⟨2, ![1, 4]⟩
abbrev S2048x4 : Shape := ⟨2, ![2048, 4]⟩
abbrev S1x2048x1 : Shape := ⟨3, ![1, 2048, 1]⟩
abbrev S2048x1x4 : Shape := ⟨3, ![2048, 1, 4]⟩
abbrev S2048x2048x4 : Shape := ⟨3, ![2048, 2048, 4]⟩
abbrev S2048x1x1 : Shape := ⟨3, ![2048, 1, 1]⟩
abbrev S2048x2048x1 : Shape := ⟨3, ![2048, 2048, 1]⟩
abbrev S2048x2048x4x1 : Shape := ⟨4, ![2048, 2048, 4, 1]⟩
abbrev S2x1x2048x4x256 : Shape := ⟨5, ![2, 1, 2048, 4, 256]⟩
abbrev S2x2048x2048x4x256 : Shape := ⟨5, ![2, 2048, 2048, 4, 256]⟩
abbrev S2048x4x1 : Shape := ⟨3, ![2048, 4, 1]⟩
abbrev S1x2048x4x1 : Shape := ⟨4, ![1, 2048, 4, 1]⟩
abbrev S1x2048x256 : Shape := ⟨3, ![1, 2048, 256]⟩
abbrev S1x256x256 : Shape := ⟨3, ![1, 256, 256]⟩
abbrev S1x256 : Shape := ⟨2, ![1, 256]⟩
abbrev S2048x256 : Shape := ⟨2, ![2048, 256]⟩
abbrev S256x256 : Shape := ⟨2, ![256, 256]⟩
abbrev S256 : Shape := ⟨1, ![256]⟩

abbrev nBuf : Space → Nat
  | .hbm => 66
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S4x256x256, .bf16⟩
  | .hbm, ⟨2, _⟩ => ⟨S1x1024, .f32⟩
  | .hbm, ⟨3, _⟩ => ⟨S2x2048x2048, .bf16⟩
  | .hbm, ⟨4, _⟩ => ⟨S2x2048x4096, .bf16⟩
  | .hbm, ⟨5, _⟩ => ⟨S2x2048x4x256, .f32⟩
  | .hbm, ⟨6, _⟩ => ⟨S2048, .i32⟩
  | .hbm, ⟨7, _⟩ => ⟨S2048x1, .i32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S4, .i32⟩
  | .hbm, ⟨17, _⟩ => ⟨S_, .i32⟩
  | .hbm, ⟨18, _⟩ => ⟨S2048x1, .i32⟩
  | .hbm, ⟨19, _⟩ => ⟨S2048x1, .i32⟩
  | .hbm, ⟨20, _⟩ => ⟨S4, .i32⟩
  | .hbm, ⟨21, _⟩ => ⟨S1x4, .i32⟩
  | .hbm, ⟨22, _⟩ => ⟨S2048x4, .i32⟩
  | .hbm, ⟨23, _⟩ => ⟨S2048x4, .i32⟩
  | .hbm, ⟨24, _⟩ => ⟨S2048x4, .i32⟩
  | .hbm, ⟨25, _⟩ => ⟨S_, .i32⟩
  | .hbm, ⟨26, _⟩ => ⟨S2048x4, .i32⟩
  | .hbm, ⟨27, _⟩ => ⟨S2048x4, .i32⟩
  | .hbm, ⟨28, _⟩ => ⟨S_, .i32⟩
  | .hbm, ⟨29, _⟩ => ⟨S2048x1, .i32⟩
  | .hbm, ⟨30, _⟩ => ⟨S2048x1, .i32⟩
  | .hbm, ⟨31, _⟩ => ⟨S2048x4, .i32⟩
  | .hbm, ⟨32, _⟩ => ⟨S2048x4, .i32⟩
  | .hbm, ⟨33, _⟩ => ⟨S2048x4, .f32⟩
  | .hbm, ⟨34, _⟩ => ⟨S2048, .i32⟩
  | .hbm, ⟨35, _⟩ => ⟨S1x2048x1, .i32⟩
  | .hbm, ⟨36, _⟩ => ⟨S2048x1x4, .i32⟩
  | .hbm, ⟨37, _⟩ => ⟨S2048x2048x4, .i32⟩
  | .hbm, ⟨38, _⟩ => ⟨S2048x2048x4, .i32⟩
  | .hbm, ⟨39, _⟩ => ⟨S2048x2048x4, .i1⟩
  | .hbm, ⟨40, _⟩ => ⟨S2048x1x1, .i32⟩
  | .hbm, ⟨41, _⟩ => ⟨S2048x2048x1, .i32⟩
  | .hbm, ⟨42, _⟩ => ⟨S2048x2048x1, .i32⟩
  | .hbm, ⟨43, _⟩ => ⟨S2048x2048x1, .i1⟩
  | .hbm, ⟨44, _⟩ => ⟨S2048x2048x4, .i1⟩
  | .hbm, ⟨45, _⟩ => ⟨S2048x2048x4, .i1⟩
  | .hbm, ⟨46, _⟩ => ⟨S2048x2048x4x1, .i1⟩
  | .hbm, ⟨47, _⟩ => ⟨S2x1x2048x4x256, .f32⟩
  | .hbm, ⟨48, _⟩ => ⟨S_, .f32⟩
  | .hbm, ⟨49, _⟩ => ⟨S_, .f32⟩
  | .hbm, ⟨50, _⟩ => ⟨S2x2048x2048x4x256, .i1⟩
  | .hbm, ⟨51, _⟩ => ⟨S2x2048x2048x4x256, .f32⟩
  | .hbm, ⟨52, _⟩ => ⟨S2x2048x2048x4x256, .f32⟩
  | .hbm, ⟨53, _⟩ => ⟨S2x2048x2048x4x256, .f32⟩
  | .hbm, ⟨54, _⟩ => ⟨S_, .f32⟩
  | .hbm, ⟨55, _⟩ => ⟨S2x2048x4x256, .f32⟩
  | .hbm, ⟨56, _⟩ => ⟨S2048x4x1, .f32⟩
  | .hbm, ⟨57, _⟩ => ⟨S1x2048x4x1, .f32⟩
  | .hbm, ⟨58, _⟩ => ⟨S2x2048x4x256, .f32⟩
  | .hbm, ⟨59, _⟩ => ⟨S2x2048x4x256, .f32⟩
  | .hbm, ⟨60, _⟩ => ⟨S2x2048x4x256, .f32⟩
  | .hbm, ⟨61, _⟩ => ⟨S2x2048x4x256, .bf16⟩
  | .hbm, ⟨62, _⟩ => ⟨S2x2048x1024, .bf16⟩
  | .hbm, ⟨63, _⟩ => ⟨S2x2048x4096, .bf16⟩
  | .hbm, ⟨64, _⟩ => ⟨S4x256x256, .f32⟩
  | .hbm, ⟨65, _⟩ => ⟨S1x1024, .f32⟩
  | .local _ .vmem, ⟨0, _⟩ => ⟨S1x2048x256, .bf16⟩
  | .local _ .vmem, ⟨1, _⟩ => ⟨S1x2048x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256, .f32⟩
  | .local _ .vmem, ⟨5, _⟩ => ⟨S1x256, .f32⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x256x256, .f32⟩
  | .local _ .vmem, ⟨11, _⟩ => ⟨S1x256x256, .f32⟩
  | .local _ .vmem, ⟨12, _⟩ => ⟨S1x256, .f32⟩
  | .local _ .vmem, ⟨13, _⟩ => ⟨S1x256, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45_0 : Ref sig .tc := ⟨.hbm, 63, rfl⟩
abbrev main_v45_1 : Ref sig .tc := ⟨.hbm, 64, rfl⟩
abbrev main_v45_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32_26 : BitVec 32 := 0#32
  let v65 : BitVec 1 := Scalar.cmpi .eq arg1 c0_i32_26
  let v66 : BitVec 32 := Scalar.extui v65
  let c0_i32_27 : BitVec 32 := 0#32
  let v67 : BitVec 1 := Scalar.cmpi .ne v66 c0_i32_27
  v67

def k0_cond2 (i : grid0.Coords) : BitVec 1 :=
  let arg1 : BitVec 32 := BitVec.ofNat 32 (i 1).val
  let c0_i32_28 : BitVec 32 := 0#32
  let v68 : BitVec 1 := Scalar.cmpi .sgt arg1 c0_i32_28
  let v69 : BitVec 32 := Scalar.extui v68
  let c0_i32_29 : BitVec 32 := 0#32
  let v70 : BitVec 1 := Scalar.cmpi .ne v69 c0_i32_29
  v70

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![arg1.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PoolGradIdeal.lean ====
abbrev S2x2048x1024 : Shape := ⟨3, ![2, 2048, 1024]⟩
abbrev S4x256x256 : Shape := ⟨3, ![4, 256, 256]⟩
abbrev S1x1024 : Shape := ⟨2, ![1, 1024]⟩
abbrev S2x2048x2048 : Shape := ⟨3, ![2, 2048, 2048]⟩
abbrev S2x2048x4096 : Shape := ⟨3, ![2, 2048, 4096]⟩
abbrev S2x2048x4x256 : Shape := ⟨4, ![2, 2048, 4, 256]⟩
abbrev S2048 : Shape := ⟨1, ![2048]⟩
abbrev S2048x1 : Shape := ⟨2, ![2048, 1]⟩
abbrev S_ : Shape := ⟨0, ![]⟩
abbrev S1 : Shape := ⟨1, ![1]⟩
abbrev S4 : Shape := ⟨1, ![4]⟩
abbrev S1x4 : Shape := ⟨2, ![1, 4]⟩
abbrev S2048x4 : Shape := ⟨2, ![2048, 4]⟩
abbrev S1x2048x1 : Shape := ⟨3, ![1, 2048, 1]⟩
abbrev S2048x1x4 : Shape := ⟨3, ![2048, 1, 4]⟩
abbrev S2048x2048x4 : Shape := ⟨3, ![2048, 2048, 4]⟩
abbrev S2048x1x1 : Shape := ⟨3, ![2048, 1, 1]⟩
abbrev S2048x2048x1 : Shape := ⟨3, ![2048, 2048, 1]⟩
abbrev S2048x2048x4x1 : Shape := ⟨4, ![2048, 2048, 4, 1]⟩
abbrev S2x1x2048x4x256 : Shape := ⟨5, ![2, 1, 2048, 4, 256]⟩
abbrev S2x2048x2048x4x256 : Shape := ⟨5, ![2, 2048, 2048, 4, 256]⟩
abbrev S2048x4x1 : Shape := ⟨3, ![2048, 4, 1]⟩
abbrev S1x2048x4x1 : Shape := ⟨4, ![1, 2048, 4, 1]⟩
abbrev S4x256x2x2048 : Shape := ⟨4, ![4, 256, 2, 2048]⟩
abbrev S1x1x1024 : Shape := ⟨3, ![1, 1, 1024]⟩
abbrev S1024 : Shape := ⟨1, ![1024]⟩
abbrev S4x2x2048x256 : Shape := ⟨4, ![4, 2, 2048, 256]⟩
abbrev S2x2048x3072 : Shape := ⟨3, ![2, 2048, 3072]⟩

abbrev nBuf : Space → Nat
  | .hbm => 104
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S4x256x256, .bf16⟩
  | .hbm, ⟨2, _⟩ => ⟨S1x1024, .f32⟩
  | .hbm, ⟨3, _⟩ => ⟨S2x2048x2048, .bf16⟩
  | .hbm, ⟨4, _⟩ => ⟨S2x2048x4096, .bf16⟩
  | .hbm, ⟨5, _⟩ => ⟨S4x256x256, .f32⟩
  | .hbm, ⟨6, _⟩ => ⟨S2x2048x4x256, .f32⟩
  | .hbm, ⟨7, _⟩ => ⟨S2048, .i32⟩
  | .hbm, ⟨8, _⟩ => ⟨S2048x1, .i32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S4, .i32⟩
  | .hbm, ⟨18, _⟩ => ⟨S_, .i32⟩
  | .hbm, ⟨19, _⟩ => ⟨S2048x1, .i32⟩
  | .hbm, ⟨20, _⟩ => ⟨S2048x1, .i32⟩
  | .hbm, ⟨21, _⟩ => ⟨S4, .i32⟩
  | .hbm, ⟨22, _⟩ => ⟨S1x4, .i32⟩
  | .hbm, ⟨23, _⟩ => ⟨S2048x4, .i32⟩
  | .hbm, ⟨24, _⟩ => ⟨S2048x4, .i32⟩
  | .hbm, ⟨25, _⟩ => ⟨S2048x4, .i32⟩
  | .hbm, ⟨26, _⟩ => ⟨S_, .i32⟩
  | .hbm, ⟨27, _⟩ => ⟨S2048x4, .i32⟩
  | .hbm, ⟨28, _⟩ => ⟨S2048x4, .i32⟩
  | .hbm, ⟨29, _⟩ => ⟨S_, .i32⟩
  | .hbm, ⟨30, _⟩ => ⟨S2048x1, .i32⟩
  | .hbm, ⟨31, _⟩ => ⟨S2048x1, .i32⟩
  | .hbm, ⟨32, _⟩ => ⟨S2048x4, .i32⟩
  | .hbm, ⟨33, _⟩ => ⟨S2048x4, .i32⟩
  | .hbm, ⟨34, _⟩ => ⟨S2048x4, .f32⟩
  | .hbm, ⟨35, _⟩ => ⟨S2048, .i32⟩
  | .hbm, ⟨36, _⟩ => ⟨S1x2048x1, .i32⟩
  | .hbm, ⟨37, _⟩ => ⟨S2048x1x4, .i32⟩
  | .hbm, ⟨38, _⟩ => ⟨S2048x2048x4, .i32⟩
  | .hbm, ⟨39, _⟩ => ⟨S2048x2048x4, .i32⟩
  | .hbm, ⟨40, _⟩ => ⟨S2048x2048x4, .i1⟩
  | .hbm, ⟨41, _⟩ => ⟨S2048x1x1, .i32⟩
  | .hbm, ⟨42, _⟩ => ⟨S2048x2048x1, .i32⟩
  | .hbm, ⟨43, _⟩ => ⟨S2048x2048x1, .i32⟩
  | .hbm, ⟨44, _⟩ => ⟨S2048x2048x1, .i1⟩
  | .hbm, ⟨45, _⟩ => ⟨S2048x2048x4, .i1⟩
  | .hbm, ⟨46, _⟩ => ⟨S2048x2048x4, .i1⟩
  | .hbm, ⟨47, _⟩ => ⟨S2048x2048x4x1, .i1⟩
  | .hbm, ⟨48, _⟩ => ⟨S2x1x2048x4x256, .f32⟩
  | .hbm, ⟨49, _⟩ => ⟨S_, .f32⟩
  | .hbm, ⟨50, _⟩ => ⟨S_, .f32⟩
  | .hbm, ⟨51, _⟩ => ⟨S2x2048x2048x4x256, .i1⟩
  | .hbm, ⟨52, _⟩ => ⟨S2x2048x2048x4x256, .f32⟩
  | .hbm, ⟨53, _⟩ => ⟨S2x2048x2048x4x256, .f32⟩
  | .hbm, ⟨54, _⟩ => ⟨S2x2048x2048x4x256, .f32⟩
  | .hbm, ⟨55, _⟩ => ⟨S_, .f32⟩
  | .hbm, ⟨56, _⟩ => ⟨S2x2048x2048x4x256, .f32⟩
  | .hbm, ⟨57, _⟩ => ⟨S_, .f32⟩
  | .hbm, ⟨58, _⟩ => ⟨S2x2048x4x256, .f32⟩
  | .hbm, ⟨59, _⟩ => ⟨S2048x4x1, .f32⟩
  | .hbm, ⟨60, _⟩ => ⟨S1x2048x4x1, .f32⟩
  | .hbm, ⟨61, _⟩ => ⟨S2x2048x4x256, .f32⟩
  | .hbm, ⟨62, _⟩ => ⟨S2x2048x4x256, .f32⟩
  | .hbm, ⟨63, _⟩ => ⟨S2x2048x4x256, .f32⟩
  | .hbm, ⟨64, _⟩ => ⟨S4x256x2x2048, .f32⟩
  | .hbm, ⟨65, _⟩ => ⟨S2x2048x4x256, .f32⟩
  | .hbm, ⟨66, _⟩ => ⟨S2x2048x1024, .f32⟩
  | .hbm, ⟨67, _⟩ => ⟨S1x1x1024, .f32⟩
  | .hbm, ⟨68, _⟩ => ⟨S2x2048x1024, .f32⟩
  | .hbm, ⟨69, _⟩ => ⟨S2x2048x1024, .f32⟩
  | .hbm, ⟨70, _⟩ => ⟨S2x2048x1024, .bf16⟩
  | .hbm, ⟨71, _⟩ => ⟨S2x2048x1024, .f32⟩
  | .hbm, ⟨72, _⟩ => ⟨S2x2048x1024, .f32⟩
  | .hbm, ⟨73, _⟩ => ⟨S_, .f32⟩
  | .hbm, ⟨74, _⟩ => ⟨S1024, .f32⟩
  | .hbm, ⟨75, _⟩ => ⟨S1x1x1024, .f32⟩
  | .hbm, ⟨76, _⟩ => ⟨S2x2048x1024, .f32⟩
  | .hbm, ⟨77, _⟩ => ⟨S2x2048x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S2x2048x4x256, .f32⟩
  | .hbm, ⟨82, _⟩ => ⟨S4x256x2x2048, .f32⟩
  | .hbm, ⟨83, _⟩ => ⟨S4x2x2048x256, .f32⟩
  | .hbm, ⟨84, _⟩ => ⟨S2x2048x4x256, .f32⟩
  | .hbm, ⟨85, _⟩ => ⟨S4x256x256, .f32⟩
  | .hbm, ⟨86, _⟩ => ⟨S4x256x256, .f32⟩
  | .hbm, ⟨87, _⟩ => ⟨S2x2048x4x256, .f32⟩
  | .hbm, ⟨88, _⟩ => ⟨S2x2048x4x256, .f32⟩
  | .hbm, ⟨89, _⟩ => ⟨S2x2048x4x256, .f32⟩
  | .hbm, ⟨90, _⟩ => ⟨S2x2048x2048x4x256, .f32⟩
  | .hbm, ⟨91, _⟩ => ⟨S_, .f32⟩
  | .hbm, ⟨92, _⟩ => ⟨S2x2048x2048x4x256, .f32⟩
  | .hbm, ⟨93, _⟩ => ⟨S2x2048x2048x4x256, .f32⟩
  | .hbm, ⟨94, _⟩ => ⟨S_, .f32⟩
  | .hbm, ⟨95, _⟩ => ⟨S2x2048x4x256, .f32⟩
  | .hbm, ⟨96, _⟩ => ⟨S2x1x2048x4x256, .f32⟩
  | .hbm, ⟨97, _⟩ => ⟨S_, .f32⟩
  | .hbm, ⟨98, _⟩ => ⟨S2x2048x4x256, .f32⟩
  | .hbm, ⟨99, _⟩ => ⟨S2x2048x4x256, .f32⟩
  | .hbm, ⟨100, _⟩ => ⟨S2x2048x1024, .f32⟩
  | .hbm, ⟨101, _⟩ => ⟨S2x2048x3072, .bf16⟩
  | .hbm, ⟨102, _⟩ => ⟨S2x2048x1024, .bf16⟩
  | .hbm, ⟨103, _⟩ => ⟨S2x2048x4096, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst : Ref sig .tc := ⟨.hbm, 49, rfl⟩
abbrev main_call0_v0 : Ref sig .tc := ⟨.hbm, 50, rfl⟩
abbrev main_v37_1 : Ref sig .tc := ⟨.hbm, 51, rfl⟩
abbrev main_call0_v2 : Ref sig .tc := ⟨.hbm, 52, rfl⟩
abbrev main_call0_v3 : Ref sig .tc := ⟨.hbm, 53, rfl⟩
abbrev main_v37_0 : Ref sig .tc := ⟨.hbm, 54, rfl⟩
abbrev main_call0_cst : Ref sig .tc := ⟨.hbm, 55, rfl⟩
abbrev main_v37_2 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_8 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_cst_0 : Ref sig .tc := ⟨.hbm, 94, rfl⟩
abbrev main_call1_v2 : Ref sig .tc := ⟨.hbm, 95, rfl⟩
abbrev main_v69 : Ref sig .tc := ⟨.hbm, 96, rfl⟩
abbrev main_cst_9 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]
-- ==== CrossBwd.lean ====
abbrev S2x2048x512 : Shape := ⟨3, ![2, 2048, 512]⟩
abbrev S2x256x1024 : Shape := ⟨3, ![2, 256, 1024]⟩
abbrev S2x256x512 : Shape := ⟨3, ![2, 256, 512]⟩
abbrev S1x1024x128 : Shape := ⟨3, ![1, 1024, 128]⟩
abbrev S1x256x128 : Shape := ⟨3, ![1, 256, 128]⟩
abbrev S256x128 : Shape := ⟨2, ![256, 128]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 6
  | .vmem => 16
  | .smem => 0
  | _ => 0

abbrev bufTy : (tb : Table) → Fin (tcTables nBuf tb) → BufTy
  | .hbm, ⟨0, _⟩ => ⟨S2x2048x512, .bf16⟩
  | .hbm, ⟨1, _⟩ => ⟨S2x256x1024, .bf16⟩
  | .hbm, ⟨2, _⟩ => ⟨S2x2048x512, .bf16⟩
  | .hbm, ⟨3, _⟩ => ⟨S2x2048x512, .bf16⟩
  | .hbm, ⟨4, _⟩ => ⟨S2x256x512, .bf16⟩
  | .hbm, ⟨5, _⟩ => ⟨S2x256x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x128, .bf16⟩
  | .local _ .vmem, ⟨13, _⟩ => ⟨S1x256x128, .bf16⟩
  | .local _ .vmem, ⟨14, _⟩ => ⟨S256x128, .f32⟩
  | .local _ .vmem, ⟨15, _⟩ => ⟨S256x128, .f32⟩
  | _, _ => ⟨S2x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v46 : BitVec 1 := Scalar.cmpi .eq arg2 c1_i32
  let v47 : BitVec 32 := Scalar.extui v46
  let c0_i32_27 : BitVec 32 := 0#32
  let v48 : BitVec 1 := Scalar.cmpi .ne v47 c0_i32_27
  v48

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== CrossGradIdeal.lean ====
abbrev S2x2048x512 : Shape := ⟨3, ![2, 2048, 512]⟩
abbrev S2x256x1024 : Shape := ⟨3, ![2, 256, 1024]⟩
abbrev S2x2048x4x128 : Shape := ⟨4, ![2, 2048, 4, 128]⟩
abbrev S2x256x512 : Shape := ⟨3, ![2, 256, 512]⟩
abbrev S2x256x4x128 : Shape := ⟨4, ![2, 256, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x128x256 : Shape := ⟨4, ![2, 4, 128, 256]⟩
abbrev S2x4x256x128 : Shape := ⟨4, ![2, 4, 256, 128]⟩
abbrev S2x4x2048x128 : Shape := ⟨4, ![2, 4, 2048, 128]⟩

abbrev nBuf : Space → Nat
  | .hbm => 95
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S2x256x1024, .bf16⟩
  | .hbm, ⟨2, _⟩ => ⟨S2x2048x512, .bf16⟩
  | .hbm, ⟨3, _⟩ => ⟨S2x2048x512, .f32⟩
  | .hbm, ⟨4, _⟩ => ⟨S2x256x1024, .f32⟩
  | .hbm, ⟨5, _⟩ => ⟨S2x2048x4x128, .f32⟩
  | .hbm, ⟨6, _⟩ => ⟨S2x256x512, .f32⟩
  | .hbm, ⟨7, _⟩ => ⟨S2x256x4x128, .f32⟩
  | .hbm, ⟨8, _⟩ => ⟨S2x256x512, .f32⟩
  | .hbm, ⟨9, _⟩ => ⟨S2x256x4x128, .f32⟩
  | .hbm, ⟨10, _⟩ => ⟨S2x4x2048x256, .f32⟩
  | .hbm, ⟨11, _⟩ => ⟨S_, .f32⟩
  | .hbm, ⟨12, _⟩ => ⟨S2x4x2048x256, .f32⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S2x4x2048x1, .f32⟩
  | .hbm, ⟨17, _⟩ => ⟨S2x4x2048x256, .f32⟩
  | .hbm, ⟨18, _⟩ => ⟨S2x4x2048x256, .i1⟩
  | .hbm, ⟨19, _⟩ => ⟨S2x4x2048x256, .f32⟩
  | .hbm, ⟨20, _⟩ => ⟨S_, .f32⟩
  | .hbm, ⟨21, _⟩ => ⟨S2x4x2048, .f32⟩
  | .hbm, ⟨22, _⟩ => ⟨S_, .f32⟩
  | .hbm, ⟨23, _⟩ => ⟨S2x4x2048, .f32⟩
  | .hbm, ⟨24, _⟩ => ⟨S2x4x2048, .f32⟩
  | .hbm, ⟨25, _⟩ => ⟨S_, .f32⟩
  | .hbm, ⟨26, _⟩ => ⟨S2x4x2048, .f32⟩
  | .hbm, ⟨27, _⟩ => ⟨S2x4x2048, .i1⟩
  | .hbm, ⟨28, _⟩ => ⟨S_, .f32⟩
  | .hbm, ⟨29, _⟩ => ⟨S2x4x2048, .f32⟩
  | .hbm, ⟨30, _⟩ => ⟨S2x4x2048, .i1⟩
  | .hbm, ⟨31, _⟩ => ⟨S_, .f32⟩
  | .hbm, ⟨32, _⟩ => ⟨S2x4x2048, .f32⟩
  | .hbm, ⟨33, _⟩ => ⟨S_, .f32⟩
  | .hbm, ⟨34, _⟩ => ⟨S2x4x2048, .f32⟩
  | .hbm, ⟨35, _⟩ => ⟨S_, .f32⟩
  | .hbm, ⟨36, _⟩ => ⟨S2x4x2048, .f32⟩
  | .hbm, ⟨37, _⟩ => ⟨S2x4x2048, .f32⟩
  | .hbm, ⟨38, _⟩ => ⟨S2x4x2048, .f32⟩
  | .hbm, ⟨39, _⟩ => ⟨S2x4x2048x1, .f32⟩
  | .hbm, ⟨40, _⟩ => ⟨S2x4x2048x256, .f32⟩
  | .hbm, ⟨41, _⟩ => ⟨S2x4x2048x256, .f32⟩
  | .hbm, ⟨42, _⟩ => ⟨S2x4x2048x256, .f32⟩
  | .hbm, ⟨43, _⟩ => ⟨S_, .f32⟩
  | .hbm, ⟨44, _⟩ => ⟨S2x4x2048, .f32⟩
  | .hbm, ⟨45, _⟩ => ⟨S2x4x2048x1, .f32⟩
  | .hbm, ⟨46, _⟩ => ⟨S2x4x2048x256, .f32⟩
  | .hbm, ⟨47, _⟩ => ⟨S2x4x2048x256, .f32⟩
  | .hbm, ⟨48, _⟩ => ⟨S2x4x2048x1, .f32⟩
  | .hbm, ⟨49, _⟩ => ⟨S_, .f32⟩
  | .hbm, ⟨50, _⟩ => ⟨S2x4x2048x1, .f32⟩
  | .hbm, ⟨51, _⟩ => ⟨S2x4x2048x1, .f32⟩
  | .hbm, ⟨52, _⟩ => ⟨S2x4x128x2048, .f32⟩
  | .hbm, ⟨53, _⟩ => ⟨S2x2048x4x128, .f32⟩
  | .hbm, ⟨54, _⟩ => ⟨S2x2048x512, .f32⟩
  | .hbm, ⟨55, _⟩ => ⟨S2x2048x512, .f32⟩
  | .hbm, ⟨56, _⟩ => ⟨S2x2048x4x128, .f32⟩
  | .hbm, ⟨57, _⟩ => ⟨S2x4x128x2048, .f32⟩
  | .hbm, ⟨58, _⟩ => ⟨S2x4x2048x256, .f32⟩
  | .hbm, ⟨59, _⟩ => ⟨S2x4x128x256, .f32⟩
  | .hbm, ⟨60, _⟩ => ⟨S2x256x4x128, .f32⟩
  | .hbm, ⟨61, _⟩ => ⟨S2x4x2048x256, .f32⟩
  | .hbm, ⟨62, _⟩ => ⟨S2x4x2048x256, .f32⟩
  | .hbm, ⟨63, _⟩ => ⟨S2x4x2048x256, .f32⟩
  | .hbm, ⟨64, _⟩ => ⟨S_, .f32⟩
  | .hbm, ⟨65, _⟩ => ⟨S2x4x2048, .f32⟩
  | .hbm, ⟨66, _⟩ => ⟨S2x4x2048x1, .f32⟩
  | .hbm, ⟨67, _⟩ => ⟨S2x4x2048x1, .f32⟩
  | .hbm, ⟨68, _⟩ => ⟨S2x4x2048x256, .f32⟩
  | .hbm, ⟨69, _⟩ => ⟨S2x4x2048x256, .f32⟩
  | .hbm, ⟨70, _⟩ => ⟨S_, .f32⟩
  | .hbm, ⟨71, _⟩ => ⟨S2x4x2048, .f32⟩
  | .hbm, ⟨72, _⟩ => ⟨S2x4x2048x256, .f32⟩
  | .hbm, ⟨73, _⟩ => ⟨S2x4x2048x256, .f32⟩
  | .hbm, ⟨74, _⟩ => ⟨S2x4x2048x256, .f32⟩
  | .hbm, ⟨75, _⟩ => ⟨S_, .f32⟩
  | .hbm, ⟨76, _⟩ => ⟨S2x4x2048x256, .f32⟩
  | .hbm, ⟨77, _⟩ => ⟨S2x4x2048x256, .f32⟩
  | .hbm, ⟨78, _⟩ => ⟨S2x4x256x128, .f32⟩
  | .hbm, ⟨79, _⟩ => ⟨S2x256x4x128, .f32⟩
  | .hbm, ⟨80, _⟩ => ⟨S2x4x2048x128, .f32⟩
  | .hbm, ⟨81, _⟩ => ⟨S2x2048x4x128, .f32⟩
  | .hbm, ⟨82, _⟩ => ⟨S2x256x512, .f32⟩
  | .hbm, ⟨83, _⟩ => ⟨S_, .f32⟩
  | .hbm, ⟨84, _⟩ => ⟨S2x256x1024, .f32⟩
  | .hbm, ⟨85, _⟩ => ⟨S2x256x512, .f32⟩
  | .hbm, ⟨86, _⟩ => ⟨S_, .f32⟩
  | .hbm, ⟨87, _⟩ => ⟨S2x256x1024, .f32⟩
  | .hbm, ⟨88, _⟩ => ⟨S2x256x1024, .f32⟩
  | .hbm, ⟨89, _⟩ => ⟨S2x2048x512, .f32⟩
  | .hbm, ⟨90, _⟩ => ⟨S2x2048x512, .bf16⟩
  | .hbm, ⟨91, _⟩ => ⟨S2x256x512, .f32⟩
  | .hbm, ⟨92, _⟩ => ⟨S2x256x512, .bf16⟩
  | .hbm, ⟨93, _⟩ => ⟨S2x256x512, .f32⟩
  | .hbm, ⟨94, _⟩ => ⟨S2x256x512, .bf16⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== NormBwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_14 : BitVec 32 := 0#32
  let v36 : BitVec 1 := Scalar.cmpi .ne v35 c0_i32_14
  v36

def k0_cond2 (i : grid0.Coords) : BitVec 1 :=
  let arg0 : BitVec 32 := BitVec.ofNat 32 (i 0).val
  let c0_i32_15 : BitVec 32 := 0#32
  let v37 : BitVec 1 := Scalar.cmpi .sgt arg0 c0_i32_15
  let v38 : BitVec 32 := Scalar.extui v37
  let c0_i32_16 : BitVec 32 := 0#32
  let v39 : BitVec 1 := Scalar.cmpi .ne v38 c0_i32_16
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormGradIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== FirstBwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_14 : BitVec 32 := 0#32
  let v35 : BitVec 1 := Scalar.cmpi .ne v34 c0_i32_14
  v35

def k0_cond2 (i : grid0.Coords) : BitVec 1 :=
  let arg0 : BitVec 32 := BitVec.ofNat 32 (i 0).val
  let c0_i32_15 : BitVec 32 := 0#32
  let v36 : BitVec 1 := Scalar.cmpi .sgt arg0 c0_i32_15
  let v37 : BitVec 32 := Scalar.extui v36
  let c0_i32_16 : BitVec 32 := 0#32
  let v38 : BitVec 1 := Scalar.cmpi .ne v37 c0_i32_16
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FirstGradIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== MemoryBwd.lean ====
abbrev S512x2048 : Shape := ⟨2, ![512, 2048]⟩
abbrev S1x2048 : Shape := ⟨2, ![1, 2048]⟩
abbrev S512 : Shape := ⟨1, ![512]⟩
abbrev S512x1 : Shape := ⟨2, ![512, 1]⟩
abbrev S2048 : Shape := ⟨1, ![2048]⟩

abbrev nBuf : Space → Nat
  | .hbm => 5
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S512x2048, .f32⟩
  | .hbm, ⟨3, _⟩ => ⟨S512x2048, .bf16⟩
  | .hbm, ⟨4, _⟩ => ⟨S1x2048, .f32⟩
  | .local _ .vmem, ⟨0, _⟩ => ⟨S512x2048, .f32⟩
  | .local _ .vmem, ⟨1, _⟩ => ⟨S1x2048, .f32⟩
  | .local _ .vmem, ⟨2, _⟩ => ⟨S512x2048, .f32⟩
  | .local _ .vmem, ⟨3, _⟩ => ⟨S512x2048, .bf16⟩
  | .local _ .vmem, ⟨4, _⟩ => ⟨S1x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_12 : BitVec 32 := 0#32
  let v32 : BitVec 1 := Scalar.cmpi .ne v31 c0_i32_12
  v32

def k0_cond2 (i : grid0.Coords) : BitVec 1 :=
  let arg0 : BitVec 32 := BitVec.ofNat 32 (i 0).val
  let c0_i32_13 : BitVec 32 := 0#32
  let v33 : BitVec 1 := Scalar.cmpi .sgt arg0 c0_i32_13
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemoryGradIdeal.lean ====
abbrev S512x2048 : Shape := ⟨2, ![512, 2048]⟩
abbrev S1x2048 : Shape := ⟨2, ![1, 2048]⟩
abbrev S_ : Shape := ⟨0, ![]⟩
abbrev S512 : Shape := ⟨1, ![512]⟩
abbrev S512x1 : Shape := ⟨2, ![512, 1]⟩
abbrev S2048 : Shape := ⟨1, ![2048]⟩

abbrev nBuf : Space → Nat
  | .hbm => 46
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512, .f32⟩
  | .hbm, ⟨31, _⟩ => ⟨S512x1, .f32⟩
  | .hbm, ⟨32, _⟩ => ⟨S512x2048, .f32⟩
  | .hbm, ⟨33, _⟩ => ⟨S512x2048, .f32⟩
  | .hbm, ⟨34, _⟩ => ⟨S512x1, .f32⟩
  | .hbm, ⟨35, _⟩ => ⟨S_, .f32⟩
  | .hbm, ⟨36, _⟩ => ⟨S512x1, .f32⟩
  | .hbm, ⟨37, _⟩ => ⟨S512x1, .f32⟩
  | .hbm, ⟨38, _⟩ => ⟨S_, .f32⟩
  | .hbm, ⟨39, _⟩ => ⟨S512, .f32⟩
  | .hbm, ⟨40, _⟩ => ⟨S512x2048, .f32⟩
  | .hbm, ⟨41, _⟩ => ⟨S512x2048, .f32⟩
  | .hbm, ⟨42, _⟩ => ⟨S512x2048, .f32⟩
  | .hbm, ⟨43, _⟩ => ⟨S512x2048, .f32⟩
  | .hbm, ⟨44, _⟩ => ⟨S512x2048, .f32⟩
  | .hbm, ⟨45, _⟩ => ⟨S512x2048, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== LossBwd.lean ====
abbrev S4096x2048 : Shape := ⟨2, ![4096, 2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S8x128, .f32⟩
  | .hbm, ⟨4, _⟩ => ⟨S4096x2048, .bf16⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S8x128, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_20 : BitVec 32 := 0#32
  let v58 : BitVec 1 := Scalar.cmpi .ne v57 c0_i32_20
  v58

def k0_cond2 (i : grid0.Coords) : BitVec 1 :=
  let arg0 : BitVec 32 := BitVec.ofNat 32 (i 0).val
  let c0_i32_21 : BitVec 32 := 0#32
  let v59 : BitVec 1 := Scalar.cmpi .sgt arg0 c0_i32_21
  let v60 : BitVec 32 := Scalar.extui v59
  let c0_i32_22 : BitVec 32 := 0#32
  let v61 : BitVec 1 := Scalar.cmpi .ne v60 c0_i32_22
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossGradIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S8x128 : Shape := ⟨2, ![8, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S8x128, .f32⟩
  | .hbm, ⟨69, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== BiasBwd.lean ====
abbrev S16x4x64x576 : Shape := ⟨4, ![16, 4, 64, 576]⟩
abbrev S8x128 : Shape := ⟨2, ![8, 128]⟩
abbrev S_ : Shape := ⟨0, ![]⟩
abbrev S16x64x0 : Shape := ⟨3, ![16, 64, 0]⟩
abbrev S16x1x64x576 : Shape := ⟨4, ![16, 1, 64, 576]⟩
abbrev S16x64x576 : Shape := ⟨3, ![16, 64, 576]⟩
abbrev S16x64x192 : Shape := ⟨3, ![16, 64, 192]⟩
abbrev S16x64x768 : Shape := ⟨3, ![16, 64, 768]⟩
abbrev S16x64x64 : Shape := ⟨3, ![16, 64, 64]⟩
abbrev S16x64x128 : Shape := ⟨3, ![16, 64, 128]⟩
abbrev S16x256x768 : Shape := ⟨3, ![16, 256, 768]⟩
abbrev S16x1x1024 : Shape := ⟨3, ![16, 1, 1024]⟩
abbrev S1x256x768 : Shape := ⟨3, ![1, 256, 768]⟩
abbrev S1x1x1024 : Shape := ⟨3, ![1, 1, 1024]⟩
abbrev S1x1024 : Shape := ⟨2, ![1, 1024]⟩
abbrev S1x1x768 : Shape := ⟨3, ![1, 1, 768]⟩
abbrev S1x768 : Shape := ⟨2, ![1, 768]⟩
abbrev S1x256 : Shape := ⟨2, ![1, 256]⟩
abbrev S16x1024 : Shape := ⟨2, ![16, 1024]⟩
abbrev S16x640 : Shape := ⟨2, ![16, 640]⟩
abbrev S16 : Shape := ⟨1, ![16]⟩
abbrev S16x1 : Shape := ⟨2, ![16, 1]⟩
abbrev S16x255 : Shape := ⟨2, ![16, 255]⟩
abbrev S16x257 : Shape := ⟨2, ![16, 257]⟩

abbrev nBuf : Space → Nat
  | .hbm => 42
  | .vmem => 4
  | .smem => 0
  | _ => 0

abbrev bufTy : (tb : Table) → Fin (tcTables nBuf tb) → BufTy
  | .hbm, ⟨0, _⟩ => ⟨S16x4x64x576, .f32⟩
  | .hbm, ⟨1, _⟩ => ⟨S8x128, .f32⟩
  | .hbm, ⟨2, _⟩ => ⟨S_, .f32⟩
  | .hbm, ⟨3, _⟩ => ⟨S16x64x0, .f32⟩
  | .hbm, ⟨4, _⟩ => ⟨S16x1x64x576, .f32⟩
  | .hbm, ⟨5, _⟩ => ⟨S16x64x576, .f32⟩
  | .hbm, ⟨6, _⟩ => ⟨S_, .f32⟩
  | .hbm, ⟨7, _⟩ => ⟨S16x64x192, .f32⟩
  | .hbm, ⟨8, _⟩ => ⟨S16x64x768, .f32⟩
  | .hbm, ⟨9, _⟩ => ⟨S_, .f32⟩
  | .hbm, ⟨10, _⟩ => ⟨S16x64x64, .f32⟩
  | .hbm, ⟨11, _⟩ => ⟨S16x1x64x576, .f32⟩
  | .hbm, ⟨12, _⟩ => ⟨S16x64x576, .f32⟩
  | .hbm, ⟨13, _⟩ => ⟨S_, .f32⟩
  | .hbm, ⟨14, _⟩ => ⟨S16x64x128, .f32⟩
  | .hbm, ⟨15, _⟩ => ⟨S16x64x768, .f32⟩
  | .hbm, ⟨16, _⟩ => ⟨S_, .f32⟩
  | .hbm, ⟨17, _⟩ => ⟨S16x64x128, .f32⟩
  | .hbm, ⟨18, _⟩ => ⟨S16x1x64x576, .f32⟩
  | .hbm, ⟨19, _⟩ => ⟨S16x64x576, .f32⟩
  | .hbm, ⟨20, _⟩ => ⟨S_, .f32⟩
  | .hbm, ⟨21, _⟩ => ⟨S16x64x64, .f32⟩
  | .hbm, ⟨22, _⟩ => ⟨S16x64x768, .f32⟩
  | .hbm, ⟨23, _⟩ => ⟨S_, .f32⟩
  | .hbm, ⟨24, _⟩ => ⟨S16x64x192, .f32⟩
  | .hbm, ⟨25, _⟩ => ⟨S16x1x64x576, .f32⟩
  | .hbm, ⟨26, _⟩ => ⟨S16x64x576, .f32⟩
  | .hbm, ⟨27, _⟩ => ⟨S_, .f32⟩
  | .hbm, ⟨28, _⟩ => ⟨S16x64x0, .f32⟩
  | .hbm, ⟨29, _⟩ => ⟨S16x64x768, .f32⟩
  | .hbm, ⟨30, _⟩ => ⟨S16x256x768, .f32⟩
  | .hbm, ⟨31, _⟩ => ⟨S16x1x1024, .f32⟩
  | .hbm, ⟨32, _⟩ => ⟨S16x1024, .f32⟩
  | .hbm, ⟨33, _⟩ => ⟨S16x640, .f32⟩
  | .hbm, ⟨34, _⟩ => ⟨S_, .f32⟩
  | .hbm, ⟨35, _⟩ => ⟨S16, .f32⟩
  | .hbm, ⟨36, _⟩ => ⟨S16x1, .f32⟩
  | .hbm, ⟨37, _⟩ => ⟨S16x255, .f32⟩
  | .hbm, ⟨38, _⟩ => ⟨S16x255, .f32⟩
  | .hbm, ⟨39, _⟩ => ⟨S_, .f32⟩
  | .hbm, ⟨40, _⟩ => ⟨S16x1, .f32⟩
  | .hbm, ⟨41, _⟩ => ⟨S16x257, .f32⟩
  | .local _ .vmem, ⟨0, _⟩ => ⟨S1x256x768, .f32⟩
  | .local _ .vmem, ⟨1, _⟩ => ⟨S1x256x768, .f32⟩
  | .local _ .vmem, ⟨2, _⟩ => ⟨S1x1x1024, .f32⟩
  | .local _ .vmem, ⟨3, _⟩ => ⟨S1x1x1024, .f32⟩
  | _, _ => ⟨S16x4x64x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_8 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BiasGradIdeal.lean ====
abbrev S16x4x64x576 : Shape := ⟨4, ![16, 4, 64, 576]⟩
abbrev S8x128 : Shape := ⟨2, ![8, 128]⟩
abbrev S_ : Shape := ⟨0, ![]⟩
abbrev S16x257 : Shape := ⟨2, ![16, 257]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S16x1x64x576 : Shape := ⟨4, ![16, 1, 64, 576]⟩

abbrev nBuf : Space → Nat
  | .hbm => 53
  | .vmem => 0
  | .smem => 0
  | _ => 0

abbrev bufTy : (tb : Table) → Fin (tcTables nBuf tb) → BufTy
  | .hbm, ⟨0, _⟩ => ⟨S16x4x64x576, .f32⟩
  | .hbm, ⟨1, _⟩ => ⟨S8x128, .f32⟩
  | .hbm, ⟨2, _⟩ => ⟨S_, .f32⟩
  | .hbm, ⟨3, _⟩ => ⟨S16x257, .f32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S64x1, .i32⟩
  | .hbm, ⟨9, _⟩ => ⟨S576, .i32⟩
  | .hbm, ⟨10, _⟩ => ⟨S1x576, .i32⟩
  | .hbm, ⟨11, _⟩ => ⟨S64x576, .i32⟩
  | .hbm, ⟨12, _⟩ => ⟨S64x576, .i32⟩
  | .hbm, ⟨13, _⟩ => ⟨S64x576, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S64x576, .i32⟩
  | .hbm, ⟨18, _⟩ => ⟨S64x576, .i32⟩
  | .hbm, ⟨19, _⟩ => ⟨S_, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S64x576, .i32⟩
  | .hbm, ⟨27, _⟩ => ⟨S64x576, .i1⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S64x576, .i32⟩
  | .hbm, ⟨32, _⟩ => ⟨S64x576x1, .i32⟩
  | .hbm, ⟨33, _⟩ => ⟨S16x64x576, .f32⟩
  | .hbm, ⟨34, _⟩ => ⟨S16x1x64x576, .f32⟩
  | .hbm, ⟨35, _⟩ => ⟨S16x1x64x576, .f32⟩
  | .hbm, ⟨36, _⟩ => ⟨S16x1x64x576, .f32⟩
  | .hbm, ⟨37, _⟩ => ⟨S16x1x64x576, .f32⟩
  | .hbm, ⟨38, _⟩ => ⟨S16x4x64x576, .f32⟩
  | .hbm, ⟨39, _⟩ => ⟨S16x1x64x576, .f32⟩
  | .hbm, ⟨40, _⟩ => ⟨S16x64x576, .f32⟩
  | .hbm, ⟨41, _⟩ => ⟨S16x1x64x576, .f32⟩
  | .hbm, ⟨42, _⟩ => ⟨S16x64x576, .f32⟩
  | .hbm, ⟨43, _⟩ => ⟨S16x1x64x576, .f32⟩
  | .hbm, ⟨44, _⟩ => ⟨S16x64x576, .f32⟩
  | .hbm, ⟨45, _⟩ => ⟨S16x1x64x576, .f32⟩
  | .hbm, ⟨46, _⟩ => ⟨S16x64x576, .f32⟩
  | .hbm, ⟨47, _⟩ => ⟨S16x64x576, .f32⟩
  | .hbm, ⟨48, _⟩ => ⟨S16x64x576, .f32⟩
  | .hbm, ⟨49, _⟩ => ⟨S16x64x576, .f32⟩
  | .hbm, ⟨50, _⟩ => ⟨S_, .f32⟩
  | .hbm, ⟨51, _⟩ => ⟨S16x257, .f32⟩
  | .hbm, ⟨52, _⟩ => ⟨S16x257, .f32⟩
  | _, _ => ⟨S16x4x64x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== CrossFwd.lean ====
abbrev S2x2048x512 : Shape := ⟨3, ![2, 2048, 512]⟩
abbrev S2x256x1024 : Shape := ⟨3, ![2, 256, 1024]⟩
abbrev S1x1024x128 : Shape := ⟨3, ![1, 1024, 128]⟩
abbrev S1x256x128 : Shape := ⟨3, ![1, 256, 128]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 3
  | .vmem => 8
  | .smem => 0
  | _ => 0

abbrev bufTy : (tb : Table) → Fin (tcTables nBuf tb) → BufTy
  | .hbm, ⟨0, _⟩ => ⟨S2x2048x512, .bf16⟩
  | .hbm, ⟨1, _⟩ => ⟨S2x256x1024, .bf16⟩
  | .hbm, ⟨2, _⟩ => ⟨S2x2048x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x1024x128, .bf16⟩
  | .local _ .vmem, ⟨7, _⟩ => ⟨S1x1024x128, .bf16⟩
  | _, _ => ⟨S2x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== CrossPlainIdeal.lean ====
abbrev S2x2048x512 : Shape := ⟨3, ![2, 2048, 512]⟩
abbrev S2x256x1024 : Shape := ⟨3, ![2, 256, 1024]⟩
abbrev S2x2048x4x128 : Shape := ⟨4, ![2, 2048, 4, 128]⟩
abbrev S2x256x512 : Shape := ⟨3, ![2, 256, 512]⟩
abbrev S2x256x4x128 : Shape := ⟨4, ![2, 256, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S2x256x1024, .bf16⟩
  | .hbm, ⟨2, _⟩ => ⟨S2x2048x4x128, .bf16⟩
  | .hbm, ⟨3, _⟩ => ⟨S2x256x512, .bf16⟩
  | .hbm, ⟨4, _⟩ => ⟨S2x256x4x128, .bf16⟩
  | .hbm, ⟨5, _⟩ => ⟨S2x256x512, .bf16⟩
  | .hbm, ⟨6, _⟩ => ⟨S2x256x4x128, .bf16⟩
  | .hbm, ⟨7, _⟩ => ⟨S2x2048x4x128, .f32⟩
  | .hbm, ⟨8, _⟩ => ⟨S2x256x4x128, .f32⟩
  | .hbm, ⟨9, _⟩ => ⟨S2x4x2048x256, .f32⟩
  | .hbm, ⟨10, _⟩ => ⟨S_, .f32⟩
  | .hbm, ⟨11, _⟩ => ⟨S2x4x2048x256, .f32⟩
  | .hbm, ⟨12, _⟩ => ⟨S2x4x2048x256, .f32⟩
  | .hbm, ⟨13, _⟩ => ⟨S_, .f32⟩
  | .hbm, ⟨14, _⟩ => ⟨S2x4x2048, .f32⟩
  | .hbm, ⟨15, _⟩ => ⟨S_, .f32⟩
  | .hbm, ⟨16, _⟩ => ⟨S2x4x2048, .f32⟩
  | .hbm, ⟨17, _⟩ => ⟨S2x4x2048, .f32⟩
  | .hbm, ⟨18, _⟩ => ⟨S2x4x2048x1, .f32⟩
  | .hbm, ⟨19, _⟩ => ⟨S2x4x2048x256, .f32⟩
  | .hbm, ⟨20, _⟩ => ⟨S2x4x2048x256, .f32⟩
  | .hbm, ⟨21, _⟩ => ⟨S2x4x2048x256, .f32⟩
  | .hbm, ⟨22, _⟩ => ⟨S_, .f32⟩
  | .hbm, ⟨23, _⟩ => ⟨S2x4x2048, .f32⟩
  | .hbm, ⟨24, _⟩ => ⟨S2x4x2048x1, .f32⟩
  | .hbm, ⟨25, _⟩ => ⟨S2x4x2048x256, .f32⟩
  | .hbm, ⟨26, _⟩ => ⟨S2x4x2048x256, .f32⟩
  | .hbm, ⟨27, _⟩ => ⟨S2x256x4x128, .f32⟩
  | .hbm, ⟨28, _⟩ => ⟨S2x4x128x2048, .f32⟩
  | .hbm, ⟨29, _⟩ => ⟨S2x2048x4x128, .f32⟩
  | .hbm, ⟨30, _⟩ => ⟨S2x2048x512, .f32⟩
  | .hbm, ⟨31, _⟩ => ⟨S2x2048x512, .bf16⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== AttnFwd.lean ====
abbrev S2x2048x4096 : Shape := ⟨3, ![2, 2048, 4096]⟩
abbrev S16x257 : Shape := ⟨2, ![16, 257]⟩
abbrev S64 : Shape := ⟨1, ![64]⟩
abbrev S_ : Shape := ⟨0, ![]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S16x64x0 : Shape := ⟨3, ![16, 64, 0]⟩
abbrev S16x64x192 : Shape := ⟨3, ![16, 64, 192]⟩
abbrev S16x64x768 : Shape := ⟨3, ![16, 64, 768]⟩
abbrev S16x64x64 : Shape := ⟨3, ![16, 64, 64]⟩
abbrev S16x64x128 : Shape := ⟨3, ![16, 64, 128]⟩
abbrev S16x256x768 : Shape := ⟨3, ![16, 256, 768]⟩
abbrev S2x2048x2048 : Shape := ⟨3, ![2, 2048, 2048]⟩
abbrev S1x256x128 : Shape := ⟨3, ![1, 256, 128]⟩
abbrev S1x2048x128 : Shape := ⟨3, ![1, 2048, 128]⟩
abbrev S2x256x768 : Shape := ⟨3, ![2, 256, 768]⟩
abbrev S2560x128 : Shape := ⟨2, ![2560, 128]⟩
abbrev S512x128 : Shape := ⟨2, ![512, 128]⟩
abbrev S2048x128 : Shape := ⟨2, ![2048, 128]⟩
abbrev S768x128 : Shape := ⟨2, ![768, 128]⟩
abbrev S256x128 : Shape := ⟨2, ![256, 128]⟩
abbrev S1x768 : Shape := ⟨2, ![1, 768]⟩
abbrev S256x768 : Shape := ⟨2, ![256, 768]⟩
abbrev S1x256x768 : Shape := ⟨3, ![1, 256, 768]⟩
abbrev S256 : Shape := ⟨1, ![256]⟩
abbrev S256x1 : Shape := ⟨2, ![256, 1]⟩
abbrev S2x2048x1024 : Shape := ⟨3, ![2, 2048, 1024]⟩

abbrev nBuf : Space → Nat
  | .hbm => 55
  | .vmem => 12
  | .smem => 0
  | _ => 0

abbrev bufTy : (tb : Table) → Fin (tcTables nBuf tb) → BufTy
  | .hbm, ⟨0, _⟩ => ⟨S2x2048x4096, .f32⟩
  | .hbm, ⟨1, _⟩ => ⟨S16x257, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S64x1, .i32⟩
  | .hbm, ⟨7, _⟩ => ⟨S576, .i32⟩
  | .hbm, ⟨8, _⟩ => ⟨S1x576, .i32⟩
  | .hbm, ⟨9, _⟩ => ⟨S64x576, .i32⟩
  | .hbm, ⟨10, _⟩ => ⟨S64x576, .i32⟩
  | .hbm, ⟨11, _⟩ => ⟨S64x576, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S64x576, .i32⟩
  | .hbm, ⟨16, _⟩ => ⟨S64x576, .i32⟩
  | .hbm, ⟨17, _⟩ => ⟨S_, .i32⟩
  | .hbm, ⟨18, _⟩ => ⟨S64x576, .i32⟩
  | .hbm, ⟨19, _⟩ => ⟨S64x576, .i32⟩
  | .hbm, ⟨20, _⟩ => ⟨S_, .i32⟩
  | .hbm, ⟨21, _⟩ => ⟨S64x576, .i32⟩
  | .hbm, ⟨22, _⟩ => ⟨S64x576, .i32⟩
  | .hbm, ⟨23, _⟩ => ⟨S_, .i32⟩
  | .hbm, ⟨24, _⟩ => ⟨S64x576, .i32⟩
  | .hbm, ⟨25, _⟩ => ⟨S64x576, .i1⟩
  | .hbm, ⟨26, _⟩ => ⟨S_, .i32⟩
  | .hbm, ⟨27, _⟩ => ⟨S64x576, .i32⟩
  | .hbm, ⟨28, _⟩ => ⟨S64x576, .i32⟩
  | .hbm, ⟨29, _⟩ => ⟨S64x576, .i32⟩
  | .hbm, ⟨30, _⟩ => ⟨S64x576x1, .i32⟩
  | .hbm, ⟨31, _⟩ => ⟨S16x64x576, .f32⟩
  | .hbm, ⟨32, _⟩ => ⟨S_, .f32⟩
  | .hbm, ⟨33, _⟩ => ⟨S16x64x0, .f32⟩
  | .hbm, ⟨34, _⟩ => ⟨S_, .f32⟩
  | .hbm, ⟨35, _⟩ => ⟨S16x64x192, .f32⟩
  | .hbm, ⟨36, _⟩ => ⟨S16x64x768, .f32⟩
  | .hbm, ⟨37, _⟩ => ⟨S_, .f32⟩
  | .hbm, ⟨38, _⟩ => ⟨S16x64x64, .f32⟩
  | .hbm, ⟨39, _⟩ => ⟨S_, .f32⟩
  | .hbm, ⟨40, _⟩ => ⟨S16x64x128, .f32⟩
  | .hbm, ⟨41, _⟩ => ⟨S16x64x768, .f32⟩
  | .hbm, ⟨42, _⟩ => ⟨S_, .f32⟩
  | .hbm, ⟨43, _⟩ => ⟨S16x64x128, .f32⟩
  | .hbm, ⟨44, _⟩ => ⟨S_, .f32⟩
  | .hbm, ⟨45, _⟩ => ⟨S16x64x64, .f32⟩
  | .hbm, ⟨46, _⟩ => ⟨S16x64x768, .f32⟩
  | .hbm, ⟨47, _⟩ => ⟨S_, .f32⟩
  | .hbm, ⟨48, _⟩ => ⟨S16x64x192, .f32⟩
  | .hbm, ⟨49, _⟩ => ⟨S_, .f32⟩
  | .hbm, ⟨50, _⟩ => ⟨S16x64x0, .f32⟩
  | .hbm, ⟨51, _⟩ => ⟨S16x64x768, .f32⟩
  | .hbm, ⟨52, _⟩ => ⟨S16x256x768, .f32⟩
  | .hbm, ⟨53, _⟩ => ⟨S2x2048x2048, .bf16⟩
  | .hbm, ⟨54, _⟩ => ⟨S2x2048x1024, .bf16⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S2x256x768, .f32⟩
  | .local _ .vmem, ⟨7, _⟩ => ⟨S2x256x768, .f32⟩
  | .local _ .vmem, ⟨8, _⟩ => ⟨S1x256x128, .bf16⟩
  | .local _ .vmem, ⟨9, _⟩ => ⟨S1x256x128, .bf16⟩
  | .local _ .vmem, ⟨10, _⟩ => ⟨S2560x128, .bf16⟩
  | .local _ .vmem, ⟨11, _⟩ => ⟨S2560x128, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_cst_10 : Ref sig .tc := ⟨.hbm, 47, rfl⟩
abbrev main_v28 : Ref sig .tc := ⟨.hbm, 48, rfl⟩
abbrev main_cst_11 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c256_i32 : BitVec 32 := 256#32
  let v3 : BitVec 32 := Scalar.muli arg2 c256_i32
  v3
def k0_off1 (i : grid0.Coords) : Fin 2 → Nat :=
  let arg2 : BitVec 32 := BitVec.ofNat 32 (i 2).val
  let c256_i32 : BitVec 32 := 256#32
  let v3 : BitVec 32 := Scalar.muli arg2 c256_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnFwdIdeal.lean ====
variable {F : FTy → Type} [FloatOps F] [Named F]
def κ : String → Option EReal := fun
  | "mask" => some ⊥
  | _ => none
-- ==== AttnPlainIdeal.lean ====
abbrev S2x2048x4096 : Shape := ⟨3, ![2, 2048, 4096]⟩
abbrev S16x257 : Shape := ⟨2, ![16, 257]⟩
abbrev S2x2048x1024 : Shape := ⟨3, ![2, 2048, 1024]⟩
abbrev S2x2048x16x64 : Shape := ⟨4, ![2, 2048, 16, 64]⟩
abbrev S64 : Shape := ⟨1, ![64]⟩
abbrev S_ : Shape := ⟨0, ![]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S2x512x16x64 : Shape := ⟨4, ![2, 512, 16, 64]⟩
abbrev S2x2560x16x64 : Shape := ⟨4, ![2, 2560, 16, 64]⟩
abbrev S2x32x64x16x64 : Shape := ⟨5, ![2, 32, 64, 16, 64]⟩
abbrev S2x40x64x16x64 : Shape := ⟨5, ![2, 40, 64, 16, 64]⟩
abbrev S2x32x576x16x64 : Shape := ⟨5, ![2, 32, 576, 16, 64]⟩
abbrev S2x32x16x64x576 : Shape := ⟨5, ![2, 32, 16, 64, 576]⟩
abbrev S1x1x16x64x576 : Shape := ⟨5, ![1, 1, 16, 64, 576]⟩
abbrev S32 : Shape := ⟨1, ![32]⟩
abbrev S32x1 : Shape := ⟨2, ![32, 1]⟩
abbrev S32x576 : Shape := ⟨2, ![32, 576]⟩
abbrev S1x32x1x1x576 : Shape := ⟨5, ![1, 32, 1, 1, 576]⟩
abbrev S2x32x16x64 : Shape := ⟨4, ![2, 32, 16, 64]⟩
abbrev S2x32x16x64x1 : Shape := ⟨5, ![2, 32, 16, 64, 1]⟩
abbrev S2x32x16x64x64 : Shape := ⟨5, ![2, 32, 16, 64, 64]⟩

abbrev nBuf : Space → Nat
  | .hbm => 127
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S16x257, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x16x64, .f32⟩
  | .hbm, ⟨6, _⟩ => ⟨S2x2048x16x64, .f32⟩
  | .hbm, ⟨7, _⟩ => ⟨S2x2048x16x64, .f32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S576, .i32⟩
  | .hbm, ⟨14, _⟩ => ⟨S1x576, .i32⟩
  | .hbm, ⟨15, _⟩ => ⟨S64x576, .i32⟩
  | .hbm, ⟨16, _⟩ => ⟨S64x576, .i32⟩
  | .hbm, ⟨17, _⟩ => ⟨S64x576, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S64x576, .i32⟩
  | .hbm, ⟨22, _⟩ => ⟨S64x576, .i32⟩
  | .hbm, ⟨23, _⟩ => ⟨S_, .i32⟩
  | .hbm, ⟨24, _⟩ => ⟨S64x576, .i32⟩
  | .hbm, ⟨25, _⟩ => ⟨S64x576, .i32⟩
  | .hbm, ⟨26, _⟩ => ⟨S_, .i32⟩
  | .hbm, ⟨27, _⟩ => ⟨S64x576, .i32⟩
  | .hbm, ⟨28, _⟩ => ⟨S64x576, .i32⟩
  | .hbm, ⟨29, _⟩ => ⟨S_, .i32⟩
  | .hbm, ⟨30, _⟩ => ⟨S64x576, .i32⟩
  | .hbm, ⟨31, _⟩ => ⟨S64x576, .i1⟩
  | .hbm, ⟨32, _⟩ => ⟨S_, .i32⟩
  | .hbm, ⟨33, _⟩ => ⟨S64x576, .i32⟩
  | .hbm, ⟨34, _⟩ => ⟨S64x576, .i32⟩
  | .hbm, ⟨35, _⟩ => ⟨S64x576, .i32⟩
  | .hbm, ⟨36, _⟩ => ⟨S64x576x1, .i32⟩
  | .hbm, ⟨37, _⟩ => ⟨S16x64x576, .f32⟩
  | .hbm, ⟨38, _⟩ => ⟨S_, .f32⟩
  | .hbm, ⟨39, _⟩ => ⟨S2x512x16x64, .f32⟩
  | .hbm, ⟨40, _⟩ => ⟨S2x2560x16x64, .f32⟩
  | .hbm, ⟨41, _⟩ => ⟨S_, .f32⟩
  | .hbm, ⟨42, _⟩ => ⟨S2x512x16x64, .f32⟩
  | .hbm, ⟨43, _⟩ => ⟨S2x2560x16x64, .f32⟩
  | .hbm, ⟨44, _⟩ => ⟨S2x32x64x16x64, .f32⟩
  | .hbm, ⟨45, _⟩ => ⟨S2x40x64x16x64, .f32⟩
  | .hbm, ⟨46, _⟩ => ⟨S2x32x64x16x64, .f32⟩
  | .hbm, ⟨47, _⟩ => ⟨S2x40x64x16x64, .f32⟩
  | .hbm, ⟨48, _⟩ => ⟨S2x32x64x16x64, .f32⟩
  | .hbm, ⟨49, _⟩ => ⟨S2x40x64x16x64, .f32⟩
  | .hbm, ⟨50, _⟩ => ⟨S2x32x64x16x64, .f32⟩
  | .hbm, ⟨51, _⟩ => ⟨S2x40x64x16x64, .f32⟩
  | .hbm, ⟨52, _⟩ => ⟨S2x32x64x16x64, .f32⟩
  | .hbm, ⟨53, _⟩ => ⟨S2x40x64x16x64, .f32⟩
  | .hbm, ⟨54, _⟩ => ⟨S2x32x64x16x64, .f32⟩
  | .hbm, ⟨55, _⟩ => ⟨S2x40x64x16x64, .f32⟩
  | .hbm, ⟨56, _⟩ => ⟨S2x32x64x16x64, .f32⟩
  | .hbm, ⟨57, _⟩ => ⟨S2x40x64x16x64, .f32⟩
  | .hbm, ⟨58, _⟩ => ⟨S2x32x64x16x64, .f32⟩
  | .hbm, ⟨59, _⟩ => ⟨S2x40x64x16x64, .f32⟩
  | .hbm, ⟨60, _⟩ => ⟨S2x32x64x16x64, .f32⟩
  | .hbm, ⟨61, _⟩ => ⟨S2x40x64x16x64, .f32⟩
  | .hbm, ⟨62, _⟩ => ⟨S2x32x64x16x64, .f32⟩
  | .hbm, ⟨63, _⟩ => ⟨S2x32x576x16x64, .f32⟩
  | .hbm, ⟨64, _⟩ => ⟨S2x32x16x64x576, .f32⟩
  | .hbm, ⟨65, _⟩ => ⟨S_, .f32⟩
  | .hbm, ⟨66, _⟩ => ⟨S2x32x16x64x576, .f32⟩
  | .hbm, ⟨67, _⟩ => ⟨S2x32x16x64x576, .f32⟩
  | .hbm, ⟨68, _⟩ => ⟨S1x1x16x64x576, .f32⟩
  | .hbm, ⟨69, _⟩ => ⟨S2x32x16x64x576, .f32⟩
  | .hbm, ⟨70, _⟩ => ⟨S2x32x16x64x576, .f32⟩
  | .hbm, ⟨71, _⟩ => ⟨S32, .i32⟩
  | .hbm, ⟨72, _⟩ => ⟨S32x1, .i32⟩
  | .hbm, ⟨73, _⟩ => ⟨S_, .i32⟩
  | .hbm, ⟨74, _⟩ => ⟨S32x1, .i32⟩
  | .hbm, ⟨75, _⟩ => ⟨S32x1, .i32⟩
  | .hbm, ⟨76, _⟩ => ⟨S576, .i32⟩
  | .hbm, ⟨77, _⟩ => ⟨S1x576, .i32⟩
  | .hbm, ⟨78, _⟩ => ⟨S32x576, .i32⟩
  | .hbm, ⟨79, _⟩ => ⟨S32x576, .i32⟩
  | .hbm, ⟨80, _⟩ => ⟨S32x576, .i32⟩
  | .hbm, ⟨81, _⟩ => ⟨S_, .i32⟩
  | .hbm, ⟨82, _⟩ => ⟨S32x576, .i32⟩
  | .hbm, ⟨83, _⟩ => ⟨S32x576, .i1⟩
  | .hbm, ⟨84, _⟩ => ⟨S1x32x1x1x576, .i1⟩
  | .hbm, ⟨85, _⟩ => ⟨S_, .f32⟩
  | .hbm, ⟨86, _⟩ => ⟨S_, .f32⟩
  | .hbm, ⟨87, _⟩ => ⟨S2x32x16x64x576, .i1⟩
  | .hbm, ⟨88, _⟩ => ⟨S2x32x16x64x576, .f32⟩
  | .hbm, ⟨89, _⟩ => ⟨S2x32x16x64x576, .f32⟩
  | .hbm, ⟨90, _⟩ => ⟨S_, .f32⟩
  | .hbm, ⟨91, _⟩ => ⟨S2x32x16x64, .f32⟩
  | .hbm, ⟨92, _⟩ => ⟨S_, .f32⟩
  | .hbm, ⟨93, _⟩ => ⟨S2x32x16x64, .f32⟩
  | .hbm, ⟨94, _⟩ => ⟨S2x32x16x64, .f32⟩
  | .hbm, ⟨95, _⟩ => ⟨S2x32x16x64x1, .f32⟩
  | .hbm, ⟨96, _⟩ => ⟨S2x32x16x64x576, .f32⟩
  | .hbm, ⟨97, _⟩ => ⟨S2x32x16x64x576, .f32⟩
  | .hbm, ⟨98, _⟩ => ⟨S2x32x16x64x576, .f32⟩
  | .hbm, ⟨99, _⟩ => ⟨S_, .f32⟩
  | .hbm, ⟨100, _⟩ => ⟨S2x32x16x64, .f32⟩
  | .hbm, ⟨101, _⟩ => ⟨S2x32x16x64x1, .f32⟩
  | .hbm, ⟨102, _⟩ => ⟨S2x32x16x64x576, .f32⟩
  | .hbm, ⟨103, _⟩ => ⟨S2x32x16x64x576, .f32⟩
  | .hbm, ⟨104, _⟩ => ⟨S2x40x64x16x64, .f32⟩
  | .hbm, ⟨105, _⟩ => ⟨S2x32x64x16x64, .f32⟩
  | .hbm, ⟨106, _⟩ => ⟨S2x40x64x16x64, .f32⟩
  | .hbm, ⟨107, _⟩ => ⟨S2x32x64x16x64, .f32⟩
  | .hbm, ⟨108, _⟩ => ⟨S2x40x64x16x64, .f32⟩
  | .hbm, ⟨109, _⟩ => ⟨S2x32x64x16x64, .f32⟩
  | .hbm, ⟨110, _⟩ => ⟨S2x40x64x16x64, .f32⟩
  | .hbm, ⟨111, _⟩ => ⟨S2x32x64x16x64, .f32⟩
  | .hbm, ⟨112, _⟩ => ⟨S2x40x64x16x64, .f32⟩
  | .hbm, ⟨113, _⟩ => ⟨S2x32x64x16x64, .f32⟩
  | .hbm, ⟨114, _⟩ => ⟨S2x40x64x16x64, .f32⟩
  | .hbm, ⟨115, _⟩ => ⟨S2x32x64x16x64, .f32⟩
  | .hbm, ⟨116, _⟩ => ⟨S2x40x64x16x64, .f32⟩
  | .hbm, ⟨117, _⟩ => ⟨S2x32x64x16x64, .f32⟩
  | .hbm, ⟨118, _⟩ => ⟨S2x40x64x16x64, .f32⟩
  | .hbm, ⟨119, _⟩ => ⟨S2x32x64x16x64, .f32⟩
  | .hbm, ⟨120, _⟩ => ⟨S2x40x64x16x64, .f32⟩
  | .hbm, ⟨121, _⟩ => ⟨S2x32x64x16x64, .f32⟩
  | .hbm, ⟨122, _⟩ => ⟨S2x32x576x16x64, .f32⟩
  | .hbm, ⟨123, _⟩ => ⟨S2x32x16x64x64, .f32⟩
  | .hbm, ⟨124, _⟩ => ⟨S2x32x64x16x64, .f32⟩
  | .hbm, ⟨125, _⟩ => ⟨S2x2048x1024, .f32⟩
  | .hbm, ⟨126, _⟩ => ⟨S2x2048x1024, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_7 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_8 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v67 : Ref sig .tc := ⟨.hbm, 89, rfl⟩
abbrev main_cst_10 : Ref sig .tc := ⟨.hbm, 90, rfl⟩
abbrev main_v68 : Ref sig .tc := ⟨.hbm, 91, rfl⟩
abbrev main_cst_11 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_12 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩

abbrev nD : Nat := 1
abbrev τ : Topo := Topo.v7x

variable {F : FTy → Type} [FloatOps F]
-- ==== PoolFwd.lean ====
abbrev S2x2048x4096 : Shape := ⟨3, ![2, 2048, 4096]⟩
abbrev S4x256x256 : Shape := ⟨3, ![4, 256, 256]⟩
abbrev S1x1024 : Shape := ⟨2, ![1, 1024]⟩
abbrev S2x2048x2048 : Shape := ⟨3, ![2, 2048, 2048]⟩
abbrev S2x2048x1024 : Shape := ⟨3, ![2, 2048, 1024]⟩
abbrev S1x2048x256 : Shape := ⟨3, ![1, 2048, 256]⟩
abbrev S1x256x256 : Shape := ⟨3, ![1, 256, 256]⟩
abbrev S1x256 : Shape := ⟨2, ![1, 256]⟩
abbrev S2048x256 : Shape := ⟨2, ![2048, 256]⟩
abbrev S2048x1 : Shape := ⟨2, ![2048, 1]⟩
abbrev S256x256 : Shape := ⟨2, ![256, 256]⟩

abbrev nBuf : Space → Nat
  | .hbm => 6
  | .vmem => 10
  | .smem => 0
  | _ => 0

abbrev bufTy : (tb : Table) → Fin (tcTables nBuf tb) → BufTy
  | .hbm, ⟨0, _⟩ => ⟨S2x2048x4096, .f32⟩
  | .hbm, ⟨1, _⟩ => ⟨S4x256x256, .bf16⟩
  | .hbm, ⟨2, _⟩ => ⟨S1x1024, .f32⟩
  | .hbm, ⟨3, _⟩ => ⟨S2x2048x2048, .bf16⟩
  | .hbm, ⟨4, _⟩ => ⟨S2x2048x1024, .bf16⟩
  | .hbm, ⟨5, _⟩ => ⟨S2x2048x2048, .bf16⟩
  | .local _ .vmem, ⟨0, _⟩ => ⟨S1x2048x256, .f32⟩
  | .local _ .vmem, ⟨1, _⟩ => ⟨S1x2048x256, .f32⟩
  | .local _ .vmem, ⟨2, _⟩ => ⟨S1x256x256, .bf16⟩
  | .local _ .vmem, ⟨3, _⟩ => ⟨S1x256x256, .bf16⟩
  | .local _ .vmem, ⟨4, _⟩ => ⟨S1x256, .f32⟩
  | .local _ .vmem, ⟨5, _⟩ => ⟨S1x256, .f32⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolPlainIdeal.lean ====
abbrev S2x2048x4096 : Shape := ⟨3, ![2, 2048, 4096]⟩
abbrev S4x256x256 : Shape := ⟨3, ![4, 256, 256]⟩
abbrev S1x1024 : Shape := ⟨2, ![1, 1024]⟩
abbrev S2x2048x2048 : Shape := ⟨3, ![2, 2048, 2048]⟩
abbrev S2x2048x1024 : Shape := ⟨3, ![2, 2048, 1024]⟩
abbrev S2x2048x4x256 : Shape := ⟨4, ![2, 2048, 4, 256]⟩
abbrev S2048 : Shape := ⟨1, ![2048]⟩
abbrev S2048x1 : Shape := ⟨2, ![2048, 1]⟩
abbrev S_ : Shape := ⟨0, ![]⟩
abbrev S1 : Shape := ⟨1, ![1]⟩
abbrev S4 : Shape := ⟨1, ![4]⟩
abbrev S1x4 : Shape := ⟨2, ![1, 4]⟩
abbrev S2048x4 : Shape := ⟨2, ![2048, 4]⟩
abbrev S1x2048x1 : Shape := ⟨3, ![1, 2048, 1]⟩
abbrev S2048x1x4 : Shape := ⟨3, ![2048, 1, 4]⟩
abbrev S2048x2048x4 : Shape := ⟨3, ![2048, 2048, 4]⟩
abbrev S2048x1x1 : Shape := ⟨3, ![2048, 1, 1]⟩
abbrev S2048x2048x1 : Shape := ⟨3, ![2048, 2048, 1]⟩
abbrev S2048x2048x4x1 : Shape := ⟨4, ![2048, 2048, 4, 1]⟩
abbrev S2x1x2048x4x256 : Shape := ⟨5, ![2, 1, 2048, 4, 256]⟩
abbrev S2x2048x2048x4x256 : Shape := ⟨5, ![2, 2048, 2048, 4, 256]⟩
abbrev S2048x4x1 : Shape := ⟨3, ![2048, 4, 1]⟩
abbrev S1x2048x4x1 : Shape := ⟨4, ![1, 2048, 4, 1]⟩
abbrev S4x256x2x2048 : Shape := ⟨4, ![4, 256, 2, 2048]⟩
abbrev S1x1x1024 : Shape := ⟨3, ![1, 1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4x256x256, .bf16⟩
  | .hbm, ⟨2, _⟩ => ⟨S1x1024, .f32⟩
  | .hbm, ⟨3, _⟩ => ⟨S2x2048x2048, .bf16⟩
  | .hbm, ⟨4, _⟩ => ⟨S2x2048x1024, .f32⟩
  | .hbm, ⟨5, _⟩ => ⟨S2x2048x4x256, .f32⟩
  | .hbm, ⟨6, _⟩ => ⟨S2048, .i32⟩
  | .hbm, ⟨7, _⟩ => ⟨S2048x1, .i32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S4, .i32⟩
  | .hbm, ⟨17, _⟩ => ⟨S_, .i32⟩
  | .hbm, ⟨18, _⟩ => ⟨S2048x1, .i32⟩
  | .hbm, ⟨19, _⟩ => ⟨S2048x1, .i32⟩
  | .hbm, ⟨20, _⟩ => ⟨S4, .i32⟩
  | .hbm, ⟨21, _⟩ => ⟨S1x4, .i32⟩
  | .hbm, ⟨22, _⟩ => ⟨S2048x4, .i32⟩
  | .hbm, ⟨23, _⟩ => ⟨S2048x4, .i32⟩
  | .hbm, ⟨24, _⟩ => ⟨S2048x4, .i32⟩
  | .hbm, ⟨25, _⟩ => ⟨S_, .i32⟩
  | .hbm, ⟨26, _⟩ => ⟨S2048x4, .i32⟩
  | .hbm, ⟨27, _⟩ => ⟨S2048x4, .i32⟩
  | .hbm, ⟨28, _⟩ => ⟨S_, .i32⟩
  | .hbm, ⟨29, _⟩ => ⟨S2048x1, .i32⟩
  | .hbm, ⟨30, _⟩ => ⟨S2048x1, .i32⟩
  | .hbm, ⟨31, _⟩ => ⟨S2048x4, .i32⟩
  | .hbm, ⟨32, _⟩ => ⟨S2048x4, .i32⟩
  | .hbm, ⟨33, _⟩ => ⟨S2048x4, .f32⟩
  | .hbm, ⟨34, _⟩ => ⟨S2048, .i32⟩
  | .hbm, ⟨35, _⟩ => ⟨S1x2048x1, .i32⟩
  | .hbm, ⟨36, _⟩ => ⟨S2048x1x4, .i32⟩
  | .hbm, ⟨37, _⟩ => ⟨S2048x2048x4, .i32⟩
  | .hbm, ⟨38, _⟩ => ⟨S2048x2048x4, .i32⟩
  | .hbm, ⟨39, _⟩ => ⟨S2048x2048x4, .i1⟩
  | .hbm, ⟨40, _⟩ => ⟨S2048x1x1, .i32⟩
  | .hbm, ⟨41, _⟩ => ⟨S2048x2048x1, .i32⟩
  | .hbm, ⟨42, _⟩ => ⟨S2048x2048x1, .i32⟩
  | .hbm, ⟨43, _⟩ => ⟨S2048x2048x1, .i1⟩
  | .hbm, ⟨44, _⟩ => ⟨S2048x2048x4, .i1⟩
  | .hbm, ⟨45, _⟩ => ⟨S2048x2048x4, .i1⟩
  | .hbm, ⟨46, _⟩ => ⟨S2048x2048x4x1, .i1⟩
  | .hbm, ⟨47, _⟩ => ⟨S2x1x2048x4x256, .f32⟩
  | .hbm, ⟨48, _⟩ => ⟨S_, .f32⟩
  | .hbm, ⟨49, _⟩ => ⟨S_, .f32⟩
  | .hbm, ⟨50, _⟩ => ⟨S2x2048x2048x4x256, .i1⟩
  | .hbm, ⟨51, _⟩ => ⟨S2x2048x2048x4x256, .f32⟩
  | .hbm, ⟨52, _⟩ => ⟨S2x2048x2048x4x256, .f32⟩
  | .hbm, ⟨53, _⟩ => ⟨S2x2048x2048x4x256, .f32⟩
  | .hbm, ⟨54, _⟩ => ⟨S_, .f32⟩
  | .hbm, ⟨55, _⟩ => ⟨S2x2048x4x256, .f32⟩
  | .hbm, ⟨56, _⟩ => ⟨S2048x4x1, .f32⟩
  | .hbm, ⟨57, _⟩ => ⟨S1x2048x4x1, .f32⟩
  | .hbm, ⟨58, _⟩ => ⟨S2x2048x4x256, .f32⟩
  | .hbm, ⟨59, _⟩ => ⟨S2x2048x4x256, .f32⟩
  | .hbm, ⟨60, _⟩ => ⟨S2x2048x4x256, .f32⟩
  | .hbm, ⟨61, _⟩ => ⟨S4x256x256, .f32⟩
  | .hbm, ⟨62, _⟩ => ⟨S4x256x2x2048, .f32⟩
  | .hbm, ⟨63, _⟩ => ⟨S2x2048x4x256, .f32⟩
  | .hbm, ⟨64, _⟩ => ⟨S2x2048x1024, .f32⟩
  | .hbm, ⟨65, _⟩ => ⟨S2x2048x4x256, .bf16⟩
  | .hbm, ⟨66, _⟩ => ⟨S2x2048x1024, .bf16⟩
  | .hbm, ⟨67, _⟩ => ⟨S2x2048x1024, .bf16⟩
  | .hbm, ⟨68, _⟩ => ⟨S1x1x1024, .f32⟩
  | .hbm, ⟨69, _⟩ => ⟨S2x2048x1024, .f32⟩
  | .hbm, ⟨70, _⟩ => ⟨S2x2048x1024, .f32⟩
  | .hbm, ⟨71, _⟩ => ⟨S2x2048x1024, .bf16⟩
  | .hbm, ⟨72, _⟩ => ⟨S2x2048x2048, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== NormFwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPlainIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GateFwd.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GatePlainIdeal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x2048, .f32⟩
  | .hbm, ⟨4, _⟩ => ⟨S5632x2048, .f32⟩
  | .hbm, ⟨5, _⟩ => ⟨S4096x5632, .f32⟩
  | .hbm, ⟨6, _⟩ => ⟨S4096x5632, .bf16⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== QueryFwd.lean ====
abbrev S4096x2048 : Shape := ⟨2, ![4096, 2048]⟩
abbrev S2048x512 : Shape := ⟨2, ![2048, 512]⟩
abbrev S1x2048 : Shape := ⟨2, ![1, 2048]⟩
abbrev S4096x512 : Shape := ⟨2, ![4096, 512]⟩
abbrev S1024x2048 : Shape := ⟨2, ![1024, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x512, .bf16⟩
  | .hbm, ⟨2, _⟩ => ⟨S1x2048, .f32⟩
  | .hbm, ⟨3, _⟩ => ⟨S4096x512, .bf16⟩
  | .hbm, ⟨4, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S1x2048, .f32⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== QueryPlainIdeal.lean ====
abbrev S4096x2048 : Shape := ⟨2, ![4096, 2048]⟩
abbrev S2048x512 : Shape := ⟨2, ![2048, 512]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S4096x512 : Shape := ⟨2, ![4096, 512]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x512, .bf16⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S2048x512, .f32⟩
  | .hbm, ⟨19, _⟩ => ⟨S4096x512, .f32⟩
  | .hbm, ⟨20, _⟩ => ⟨S4096x512, .bf16⟩
  | .hbm, ⟨21, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== TileFwd.lean ====
abbrev S16x257 : Shape := ⟨2, ![16, 257]⟩
abbrev S16x1 : Shape := ⟨2, ![16, 1]⟩
abbrev S16x385 : Shape := ⟨2, ![16, 385]⟩
abbrev S16x256 : Shape := ⟨2, ![16, 256]⟩
abbrev S16x383 : Shape := ⟨2, ![16, 383]⟩
abbrev S16x1024 : Shape := ⟨2, ![16, 1024]⟩
abbrev S16x1x1024 : Shape := ⟨3, ![16, 1, 1024]⟩
abbrev S16x256x768 : Shape := ⟨3, ![16, 256, 768]⟩
abbrev S1x1x1024 : Shape := ⟨3, ![1, 1, 1024]⟩
abbrev S1x256x768 : Shape := ⟨3, ![1, 256, 768]⟩
abbrev S1x1024 : Shape := ⟨2, ![1, 1024]⟩
abbrev S256x1024 : Shape := ⟨2, ![256, 1024]⟩
abbrev S256x768 : Shape := ⟨2, ![256, 768]⟩

abbrev nBuf : Space → Nat
  | .hbm => 9
  | .vmem => 4
  | .smem => 0
  | _ => 0

abbrev bufTy : (tb : Table) → Fin (tcTables nBuf tb) → BufTy
  | .hbm, ⟨0, _⟩ => ⟨S16x257, .f32⟩
  | .hbm, ⟨1, _⟩ => ⟨S16x1, .f32⟩
  | .hbm, ⟨2, _⟩ => ⟨S16x385, .f32⟩
  | .hbm, ⟨3, _⟩ => ⟨S16x256, .f32⟩
  | .hbm, ⟨4, _⟩ => ⟨S16x256, .f32⟩
  | .hbm, ⟨5, _⟩ => ⟨S16x383, .f32⟩
  | .hbm, ⟨6, _⟩ => ⟨S16x1024, .f32⟩
  | .hbm, ⟨7, _⟩ => ⟨S16x1x1024, .f32⟩
  | .hbm, ⟨8, _⟩ => ⟨S16x256x768, .f32⟩
  | .local _ .vmem, ⟨0, _⟩ => ⟨S1x1x1024, .f32⟩
  | .local _ .vmem, ⟨1, _⟩ => ⟨S1x1x1024, .f32⟩
  | .local _ .vmem, ⟨2, _⟩ => ⟨S1x256x768, .f32⟩
  | .local _ .vmem, ⟨3, _⟩ => ⟨S1x256x768, .f32⟩
  | _, _ => ⟨S16x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== TileFwdIdeal.lean ====
variable {F : FTy → Type} [FloatOps F] [Named F]
def κ : String → Option EReal := fun
  | "mask" => some ⊥
  | _ => none
-- ==== TilePlainIdeal.lean ====
abbrev S16x257 : Shape := ⟨2, ![16, 257]⟩
abbrev S256 : Shape := ⟨1, ![256]⟩
abbrev S256x1 : Shape := ⟨2, ![256, 1]⟩
abbrev S_ : Shape := ⟨0, ![]⟩
abbrev S768 : Shape := ⟨1, ![768]⟩
abbrev S1x768 : Shape := ⟨2, ![1, 768]⟩
abbrev S256x768 : Shape := ⟨2, ![256, 768]⟩
abbrev S256x768x1 : Shape := ⟨3, ![256, 768, 1]⟩
abbrev S16x256x768 : Shape := ⟨3, ![16, 256, 768]⟩

abbrev nBuf : Space → Nat
  | .hbm => 82
  | .vmem => 0
  | .smem => 0
  | _ => 0

abbrev bufTy : (tb : Table) → Fin (tcTables nBuf tb) → BufTy
  | .hbm, ⟨0, _⟩ => ⟨S16x257, .f32⟩
  | .hbm, ⟨1, _⟩ => ⟨S256, .i32⟩
  | .hbm, ⟨2, _⟩ => ⟨S256x1, .i32⟩
  | .hbm, ⟨3, _⟩ => ⟨S_, .i32⟩
  | .hbm, ⟨4, _⟩ => ⟨S256x1, .i32⟩
  | .hbm, ⟨5, _⟩ => ⟨S256x1, .i32⟩
  | .hbm, ⟨6, _⟩ => ⟨S768, .i32⟩
  | .hbm, ⟨7, _⟩ => ⟨S1x768, .i32⟩
  | .hbm, ⟨8, _⟩ => ⟨S256x768, .i32⟩
  | .hbm, ⟨9, _⟩ => ⟨S256x768, .i32⟩
  | .hbm, ⟨10, _⟩ => ⟨S256x768, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S256x768, .i32⟩
  | .hbm, ⟨15, _⟩ => ⟨S256x768, .i32⟩
  | .hbm, ⟨16, _⟩ => ⟨S_, .i32⟩
  | .hbm, ⟨17, _⟩ => ⟨S256x768, .i32⟩
  | .hbm, ⟨18, _⟩ => ⟨S256x768, .i32⟩
  | .hbm, ⟨19, _⟩ => ⟨S_, .i32⟩
  | .hbm, ⟨20, _⟩ => ⟨S256x768, .i32⟩
  | .hbm, ⟨21, _⟩ => ⟨S256x768, .i32⟩
  | .hbm, ⟨22, _⟩ => ⟨S_, .i32⟩
  | .hbm, ⟨23, _⟩ => ⟨S256x768, .i32⟩
  | .hbm, ⟨24, _⟩ => ⟨S256x768, .i1⟩
  | .hbm, ⟨25, _⟩ => ⟨S_, .i32⟩
  | .hbm, ⟨26, _⟩ => ⟨S256x768, .i32⟩
  | .hbm, ⟨27, _⟩ => ⟨S256x768, .i32⟩
  | .hbm, ⟨28, _⟩ => ⟨S256x768, .i32⟩
  | .hbm, ⟨29, _⟩ => ⟨S256x768x1, .i32⟩
  | .hbm, ⟨30, _⟩ => ⟨S16x256x768, .f32⟩
  | .hbm, ⟨31, _⟩ => ⟨S_, .i32⟩
  | .hbm, ⟨32, _⟩ => ⟨S_, .i32⟩
  | .hbm, ⟨33, _⟩ => ⟨S256x1, .i32⟩
  | .hbm, ⟨34, _⟩ => ⟨S256x1, .i32⟩
  | .hbm, ⟨35, _⟩ => ⟨S256x1, .i32⟩
  | .hbm, ⟨36, _⟩ => ⟨S_, .i32⟩
  | .hbm, ⟨37, _⟩ => ⟨S256x1, .i32⟩
  | .hbm, ⟨38, _⟩ => ⟨S256x1, .i1⟩
  | .hbm, ⟨39, _⟩ => ⟨S256x1, .i32⟩
  | .hbm, ⟨40, _⟩ => ⟨S256x1, .i32⟩
  | .hbm, ⟨41, _⟩ => ⟨S_, .i32⟩
  | .hbm, ⟨42, _⟩ => ⟨S256x1, .i32⟩
  | .hbm, ⟨43, _⟩ => ⟨S256x1, .i1⟩
  | .hbm, ⟨44, _⟩ => ⟨S256x1, .i1⟩
  | .hbm, ⟨45, _⟩ => ⟨S_, .i32⟩
  | .hbm, ⟨46, _⟩ => ⟨S256x1, .i32⟩
  | .hbm, ⟨47, _⟩ => ⟨S256x1, .i32⟩
  | .hbm, ⟨48, _⟩ => ⟨S256x1, .i32⟩
  | .hbm, ⟨49, _⟩ => ⟨S_, .i32⟩
  | .hbm, ⟨50, _⟩ => ⟨S_, .i32⟩
  | .hbm, ⟨51, _⟩ => ⟨S1x768, .i32⟩
  | .hbm, ⟨52, _⟩ => ⟨S1x768, .i32⟩
  | .hbm, ⟨53, _⟩ => ⟨S1x768, .i32⟩
  | .hbm, ⟨54, _⟩ => ⟨S_, .i32⟩
  | .hbm, ⟨55, _⟩ => ⟨S1x768, .i32⟩
  | .hbm, ⟨56, _⟩ => ⟨S1x768, .i1⟩
  | .hbm, ⟨57, _⟩ => ⟨S1x768, .i32⟩
  | .hbm, ⟨58, _⟩ => ⟨S1x768, .i32⟩
  | .hbm, ⟨59, _⟩ => ⟨S_, .i32⟩
  | .hbm, ⟨60, _⟩ => ⟨S1x768, .i32⟩
  | .hbm, ⟨61, _⟩ => ⟨S1x768, .i1⟩
  | .hbm, ⟨62, _⟩ => ⟨S1x768, .i1⟩
  | .hbm, ⟨63, _⟩ => ⟨S_, .i32⟩
  | .hbm, ⟨64, _⟩ => ⟨S1x768, .i32⟩
  | .hbm, ⟨65, _⟩ => ⟨S1x768, .i32⟩
  | .hbm, ⟨66, _⟩ => ⟨S1x768, .i32⟩
  | .hbm, ⟨67, _⟩ => ⟨S256x768, .i32⟩
  | .hbm, ⟨68, _⟩ => ⟨S256x768, .i32⟩
  | .hbm, ⟨69, _⟩ => ⟨S256x768, .i32⟩
  | .hbm, ⟨70, _⟩ => ⟨S_, .i32⟩
  | .hbm, ⟨71, _⟩ => ⟨S256x768, .i32⟩
  | .hbm, ⟨72, _⟩ => ⟨S256x768, .i1⟩
  | .hbm, ⟨73, _⟩ => ⟨S_, .i32⟩
  | .hbm, ⟨74, _⟩ => ⟨S256x768, .i32⟩
  | .hbm, ⟨75, _⟩ => ⟨S256x768, .i1⟩
  | .hbm, ⟨76, _⟩ => ⟨S256x768, .i1⟩
  | .hbm, ⟨77, _⟩ => ⟨S_, .f32⟩
  | .hbm, ⟨78, _⟩ => ⟨S_, .f32⟩
  | .hbm, ⟨79, _⟩ => ⟨S16x256x768, .i1⟩
  | .hbm, ⟨80, _⟩ => ⟨S16x256x768, .f32⟩
  | .hbm, ⟨81, _⟩ => ⟨S16x256x768, .f32⟩
  | _, _ => ⟨S16x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v19 : Ref sig .tc := ⟨.hbm, 48, rfl⟩
abbrev main_c_6 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_c : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_0 : Ref sig .tc := ⟨.hbm, 63, rfl⟩
abbrev main_call2_v12 : Ref sig .tc := ⟨.hbm, 64, rfl⟩
abbrev main_call2_v13 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_c_7 : Ref sig .tc := ⟨.hbm, 70, rfl⟩
abbrev main_v24 : Ref sig .tc := ⟨.hbm, 71, rfl⟩
abbrev main_v25 : Ref sig .tc := ⟨.hbm, 72, rfl⟩
abbrev main_c_8 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_cst : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v29 : Ref sig .tc := ⟨.hbm, 81, rfl⟩

abbrev nD : Nat := 1
abbrev τ : Topo := Topo.v7x

variable {F : FTy → Type} [FloatOps F]
-- ==== OutMul.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutPlainIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InMul.lean ====
abbrev S4096x2048 : Shape := ⟨2, ![4096, 2048]⟩
abbrev S2048x4096 : Shape := ⟨2, ![2048, 4096]⟩
abbrev S2048x8x512 : Shape := ⟨3, ![2048, 8, 512]⟩
abbrev S8x2048x512 : Shape := ⟨3, ![8, 2048, 512]⟩
abbrev S4096x4096 : Shape := ⟨2, ![4096, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S2048x8x512, .bf16⟩
  | .hbm, ⟨3, _⟩ => ⟨S8x2048x512, .bf16⟩
  | .hbm, ⟨4, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InPlainIdeal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x2048, .f32⟩
  | .hbm, ⟨3, _⟩ => ⟨S2048x4096, .f32⟩
  | .hbm, ⟨4, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BackMul.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BackPlainIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ColumnsMul.lean ====
abbrev S4096x4096 : Shape := ⟨2, ![4096, 4096]⟩
abbrev S2048x4096 : Shape := ⟨2, ![2048, 4096]⟩
abbrev S2048x8x512 : Shape := ⟨3, ![2048, 8, 512]⟩
abbrev S8x2048x512 : Shape := ⟨3, ![8, 2048, 512]⟩
abbrev S4096x2048 : Shape := ⟨2, ![4096, 2048]⟩
abbrev S1024x4096 : Shape := ⟨2, ![1024, 4096]⟩
abbrev S8x512x512 : Shape := ⟨3, ![8, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S2048x8x512, .bf16⟩
  | .hbm, ⟨3, _⟩ => ⟨S8x2048x512, .bf16⟩
  | .hbm, ⟨4, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S8x512x512, .bf16⟩
  | .local _ .vmem, ⟨3, _⟩ => ⟨S8x512x512, .bf16⟩
  | .local _ .vmem, ⟨4, _⟩ => ⟨S1024x512, .bf16⟩
  | .local _ .vmem, ⟨5, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ColumnsPlainIdeal.lean ====
abbrev S4096x4096 : Shape := ⟨2, ![4096, 4096]⟩
abbrev S2048x4096 : Shape := ⟨2, ![2048, 4096]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S_, .f32⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WeightMul.lean ====
abbrev S4096x2048 : Shape := ⟨2, ![4096, 2048]⟩
abbrev S4096x4096 : Shape := ⟨2, ![4096, 4096]⟩
abbrev S8x2048x512 : Shape := ⟨3, ![8, 2048, 512]⟩
abbrev S4096x1024 : Shape := ⟨2, ![4096, 1024]⟩
abbrev S4096x512 : Shape := ⟨2, ![4096, 512]⟩
abbrev S1x1024x512 : Shape := ⟨3, ![1, 1024, 512]⟩
abbrev S1024x512 : Shape := ⟨2, ![1024, 512]⟩
abbrev S2048x8x512 : Shape := ⟨3, ![2048, 8, 512]⟩
abbrev S2048x4096 : Shape := ⟨2, ![2048, 4096]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S8x2048x512, .bf16⟩
  | .hbm, ⟨3, _⟩ => ⟨S2048x8x512, .bf16⟩
  | .hbm, ⟨4, _⟩ => ⟨S2048x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WeightPlainIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownMul.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownPlainIdeal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== HiddenMul.lean ====
abbrev S4096x5632 : Shape := ⟨2, ![4096, 5632]⟩
abbrev S4096x2048 : Shape := ⟨2, ![4096, 2048]⟩
abbrev S5632x2048 : Shape := ⟨2, ![5632, 2048]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HiddenPlainIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 16
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S2048x5632, .f32⟩
  | .hbm, ⟨14, _⟩ => ⟨S5632x2048, .f32⟩
  | .hbm, ⟨15, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== IntoMul.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S5632x2048, .bf16⟩
  | .hbm, ⟨3, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== IntoPlainIdeal.lean ====
abbrev S4096x2048 : Shape := ⟨2, ![4096, 2048]⟩
abbrev S2048x5632 : Shape := ⟨2, ![2048, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S4096x2048, .f32⟩
  | .hbm, ⟨3, _⟩ => ⟨S2048x5632, .f32⟩
  | .hbm, ⟨4, _⟩ => ⟨S4096x5632, .f32⟩
  | .hbm, ⟨5, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AdamStep.lean ====
abbrev S8x704x2048 : Shape := ⟨3, ![8, 704, 2048]⟩
abbrev S704x2048 : Shape := ⟨2, ![704, 2048]⟩
abbrev S8x176x2048 : Shape := ⟨3, ![8, 176, 2048]⟩
abbrev S176x2048 : Shape := ⟨2, ![176, 2048]⟩
abbrev S1x176x2048 : Shape := ⟨3, ![1, 176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x176x2048, .bf16⟩
  | .local _ .vmem, ⟨1, _⟩ => ⟨S8x176x2048, .bf16⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamPlainIdeal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpFwd.lean ====
abbrev S4096x2048 : Shape := ⟨2, ![4096, 2048]⟩
abbrev S1x2048 : Shape := ⟨2, ![1, 2048]⟩
abbrev S5632x2048 : Shape := ⟨2, ![5632, 2048]⟩
abbrev S4096x5632 : Shape := ⟨2, ![4096, 5632]⟩
abbrev S512x2048 : Shape := ⟨2, ![512, 2048]⟩
abbrev S1408x2048 : Shape := ⟨2, ![1408, 2048]⟩
abbrev S512x1408 : Shape := ⟨2, ![512, 1408]⟩
abbrev S512 : Shape := ⟨1, ![512]⟩
abbrev S512x1 : Shape := ⟨2, ![512, 1]⟩

abbrev nBuf : Space → Nat
  | .hbm => 8
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S5632x2048, .bf16⟩
  | .hbm, ⟨3, _⟩ => ⟨S5632x2048, .bf16⟩
  | .hbm, ⟨4, _⟩ => ⟨S4096x2048, .bf16⟩
  | .hbm, ⟨5, _⟩ => ⟨S4096x5632, .bf16⟩
  | .hbm, ⟨6, _⟩ => ⟨S4096x5632, .bf16⟩
  | .hbm, ⟨7, _⟩ => ⟨S4096x5632, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1408x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .bf16⟩
  | .local _ .vmem, ⟨7, _⟩ => ⟨S512x2048, .bf16⟩
  | .local _ .vmem, ⟨8, _⟩ => ⟨S512x2048, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpPlainIdeal.lean ====
abbrev S4096x2048 : Shape := ⟨2, ![4096, 2048]⟩
abbrev S1x2048 : Shape := ⟨2, ![1, 2048]⟩
abbrev S5632x2048 : Shape := ⟨2, ![5632, 2048]⟩
abbrev S_ : Shape := ⟨0, ![]⟩
abbrev S4096 : Shape := ⟨1, ![4096]⟩
abbrev S4096x1 : Shape := ⟨2, ![4096, 1]⟩
abbrev S2048x5632 : Shape := ⟨2, ![2048, 5632]⟩
abbrev S4096x5632 : Shape := ⟨2, ![4096, 5632]⟩

abbrev nBuf : Space → Nat
  | .hbm => 39
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S5632x2048, .bf16⟩
  | .hbm, ⟨3, _⟩ => ⟨S5632x2048, .bf16⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S5632x2048, .f32⟩
  | .hbm, ⟨20, _⟩ => ⟨S2048x5632, .f32⟩
  | .hbm, ⟨21, _⟩ => ⟨S4096x5632, .f32⟩
  | .hbm, ⟨22, _⟩ => ⟨S5632x2048, .f32⟩
  | .hbm, ⟨23, _⟩ => ⟨S2048x5632, .f32⟩
  | .hbm, ⟨24, _⟩ => ⟨S4096x5632, .f32⟩
  | .hbm, ⟨25, _⟩ => ⟨S4096x2048, .bf16⟩
  | .hbm, ⟨26, _⟩ => ⟨S4096x5632, .bf16⟩
  | .hbm, ⟨27, _⟩ => ⟨S4096x5632, .bf16⟩
  | .hbm, ⟨28, _⟩ => ⟨S4096x5632, .f32⟩
  | .hbm, ⟨29, _⟩ => ⟨S4096x5632, .f32⟩
  | .hbm, ⟨30, _⟩ => ⟨S_, .f32⟩
  | .hbm, ⟨31, _⟩ => ⟨S4096x5632, .f32⟩
  | .hbm, ⟨32, _⟩ => ⟨S4096x5632, .f32⟩
  | .hbm, ⟨33, _⟩ => ⟨S_, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== PackAll.lean ====
abbrev S1x2048 : Shape := ⟨2, ![1, 2048]⟩
abbrev S16x257 : Shape := ⟨2, ![16, 257]⟩
abbrev S1x1024 : Shape := ⟨2, ![1, 1024]⟩
abbrev S8x128 : Shape := ⟨2, ![8, 128]⟩
abbrev S1x16x257 : Shape := ⟨3, ![1, 16, 257]⟩
abbrev S1x1 : Shape := ⟨2, ![1, 1]⟩
abbrev S1 : Shape := ⟨1, ![1]⟩
abbrev S2048 : Shape := ⟨1, ![2048]⟩
abbrev S4112 : Shape := ⟨1, ![4112]⟩
abbrev S1024 : Shape := ⟨1, ![1024]⟩
abbrev S17425 : Shape := ⟨1, ![17425]⟩
abbrev S_ : Shape := ⟨0, ![]⟩
abbrev S18432 : Shape := ⟨1, ![18432]⟩
abbrev S144x128 : Shape := ⟨2, ![144, 128]⟩

abbrev nBuf : Space → Nat
  | .hbm => 43
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S16x257, .f32⟩
  | .hbm, ⟨3, _⟩ => ⟨S1x1024, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S8x128, .f32⟩
  | .hbm, ⟨9, _⟩ => ⟨S1x16x257, .f32⟩
  | .hbm, ⟨10, _⟩ => ⟨S1x1, .f32⟩
  | .hbm, ⟨11, _⟩ => ⟨S1, .f32⟩
  | .hbm, ⟨12, _⟩ => ⟨S2048, .f32⟩
  | .hbm, ⟨13, _⟩ => ⟨S2048, .f32⟩
  | .hbm, ⟨14, _⟩ => ⟨S4112, .f32⟩
  | .hbm, ⟨15, _⟩ => ⟨S1024, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S17425, .f32⟩
  | .hbm, ⟨21, _⟩ => ⟨S_, .i32⟩
  | .hbm, ⟨22, _⟩ => ⟨S_, .f32⟩
  | .hbm, ⟨23, _⟩ => ⟨S18432, .f32⟩
  | .hbm, ⟨24, _⟩ => ⟨S144x128, .f32⟩
  | .hbm, ⟨25, _⟩ => ⟨S18432, .f32⟩
  | .hbm, ⟨26, _⟩ => ⟨S2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S4112, .f32⟩
  | .hbm, ⟨31, _⟩ => ⟨S1x16x257, .f32⟩
  | .hbm, ⟨32, _⟩ => ⟨S1024, .f32⟩
  | .hbm, ⟨33, _⟩ => ⟨S1x1024, .f32⟩
  | .hbm, ⟨34, _⟩ => ⟨S2048, .f32⟩
  | .hbm, ⟨35, _⟩ => ⟨S1x2048, .f32⟩
  | .hbm, ⟨36, _⟩ => ⟨S2048, .f32⟩
  | .hbm, ⟨37, _⟩ => ⟨S1x2048, .f32⟩
  | .hbm, ⟨38, _⟩ => ⟨S2048, .f32⟩
  | .hbm, ⟨39, _⟩ => ⟨S1x2048, .f32⟩
  | .hbm, ⟨40, _⟩ => ⟨S2048, .f32⟩
  | .hbm, ⟨41, _⟩ => ⟨S1, .f32⟩
  | .hbm, ⟨42, _⟩ => ⟨S_, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== PackPlainIdeal.lean ====
abbrev S1x2048 : Shape := ⟨2, ![1, 2048]⟩
abbrev S16x257 : Shape := ⟨2, ![16, 257]⟩
abbrev S1x1024 : Shape := ⟨2, ![1, 1024]⟩
abbrev S8x128 : Shape := ⟨2, ![8, 128]⟩
abbrev S1x16x257 : Shape := ⟨3, ![1, 16, 257]⟩
abbrev S2048 : Shape := ⟨1, ![2048]⟩
abbrev S1x1 : Shape := ⟨2, ![1, 1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S16x257, .f32⟩
  | .hbm, ⟨3, _⟩ => ⟨S1x1024, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S8x128, .f32⟩
  | .hbm, ⟨9, _⟩ => ⟨S1x16x257, .f32⟩
  | .hbm, ⟨10, _⟩ => ⟨S2048, .f32⟩
  | .hbm, ⟨11, _⟩ => ⟨S1x1, .f32⟩
  | .hbm, ⟨12, _⟩ => ⟨S_, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩

abbrev nD : Nat := 1
abbrev τ : Topo := Topo.v7x

variable {F : FTy → Type} [FloatOps F]
-- ==== Proof.GateValue.lean ====
/- Hand-written, untrusted: what the gate's backward kernel leaves in its two results, as formulas of its four arguments. -/
module

public import proofs.«01_k».proof.Proof.Gen.GateBwdIdeal.Value
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.GateBwdIdeal.Hand

open Cert.GateBwdIdeal Cert.GateBwdIdeal.Gen

/-- The half gradient at the gate's output: half the product of the incoming rows with the weight's rows. -/
def inner (a : FVec Ideal S4096x2048 .bf16) (w : FVec Ideal S5632x2048 .bf16) (r : Fin 4096) (f : Fin 5632) : EReal :=
  Ideal.ofBits .f32 0x3F000000#32 * ∑ k : Fin 2048, a (ix2 r k) * w (ix2 f k)

/-- The gradient at the gate's first argument, as the kernel computes it. -/
def dgate (a : FVec Ideal S4096x2048 .bf16) (w : FVec Ideal S5632x2048 .bf16) (g u : FVec Ideal S4096x5632 .bf16) :
    FVec Ideal S4096x5632 .bf16 := fun i =>
  inner a w (i 0) (i 1) * u i * (Ideal.logistic (g i)
    * (Ideal.ofBits .f32 0x3F800000#32 + g i * (Ideal.ofBits .f32 0x3F800000#32 - Ideal.logistic (g i))))

/-- The gradient at the gate's second argument, as the kernel computes it. -/
def dup (a : FVec Ideal S4096x2048 .bf16) (w : FVec Ideal S5632x2048 .bf16) (g : FVec Ideal S4096x5632 .bf16) :
    FVec Ideal S4096x5632 .bf16 := fun i =>
  inner a w (i 0) (i 1) * (g i * Ideal.logistic (g i))

/-- Where each window stands at grid point `t`. -/
theorem idx_val : ∀ t : Fin cfg0.N, win0_0.index t = ![t.val / 4, 0]
    ∧ win0_1.index t = ![t.val % 4, 0]
    ∧ win0_2.index t = ![t.val / 4, t.val % 4]
    ∧ win0_3.index t = ![t.val / 4, t.val % 4]
    ∧ win0_4.index t = ![t.val / 4, t.val % 4]
    ∧ win0_5.index t = ![t.val / 4, t.val % 4] :=
  (by decide +kernel : ∀ t : Fin grid0.N, _)

variable (m : (ℓ : Loc nD τ sig) → Buf (Elt Ideal) ℓ)

set_option maxHeartbeats 1600000 in
theorem point_4 (c : Dev nD) (t : Fin cfg0.N) (y) :
    out0_4 (iblk m c 0 t) (iblk m c 1 t) (iblk m c 2 t) (iblk m c 3 t) y
      = dgate (m ((c : Thread nD τ).loc main_arg0)) (m ((c : Thread nD τ).loc main_arg1))
          (m ((c : Thread nD τ).loc main_arg2)) (m ((c : Thread nD τ).loc main_arg3)) (((cfg0.win 4).blk t).view.emb y) := by
  canon_tiles x h
  all_goals (open_payloads; pointwise [dgate, inner]; blk_point [iblk, V, idx_val t])

set_option maxHeartbeats 1600000 in
theorem point_5 (c : Dev nD) (t : Fin cfg0.N) (y) :
    out0_5 (iblk m c 0 t) (iblk m c 1 t) (iblk m c 2 t) (iblk m c 3 t) y
      = dup (m ((c : Thread nD τ).loc main_arg0)) (m ((c : Thread nD τ).loc main_arg1))
          (m ((c : Thread nD τ).loc main_arg2)) (((cfg0.win 5).blk t).view.emb y) := by
  canon_tiles x h
  all_goals (open_payloads; pointwise [dup, inner]; blk_point [iblk, V, idx_val t])

/-- The first result after the whole grid. -/
theorem final_4 (c : Dev nD) : (dats m 0 c).arrAt 4 (cfgs 0).N
    = dgate (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp; rw [after0_4]
  exact point_4 m c t y

/-- The second result after the whole grid. -/
theorem final_5 (c : Dev nD) : (dats m 0 c).arrAt 5 (cfgs 0).N
    = dup (m ((c : Thread nD τ).loc main_arg0)) (m ((c : Thread nD τ).loc main_arg1))
        (m ((c : Thread nD τ).loc main_arg2)) := by
  refine (dats m 0 c).arrAt_eq_of_covers 5 _ (by decide +kernel) fun t hf y => ?_
  blk_simp; rw [after0_5]
  exact point_5 m c t y

end Cert.GateBwdIdeal.Hand

end
-- ==== Proof.Reals.lean ====
/- Hand-written, untrusted: finite extended reals as reals — what the precondition of each gradient gives, the sums and
   quotients of such values, and the few float constants the programs spell. -/
module

public import Idealize.ShloMosaic.PureOps.Ideal.Laws
public import Idealize.ShloMosaic.Lib.IdealHost
public import Idealize.ShloMosaic.Lib.Pointwise

@[expose] public section

noncomputable section

namespace Cert.Reals

open Idealize.ShloMosaic
open scoped BigOperators

/-- The pattern of the f32 infinity. -/
theorem ofBits_inf : Ideal.ofBits .f32 0x7F800000#32 = ⊤ := by
  simp [Ideal.ofBits, Ideal.ieee]

/-- The pattern of one half. -/
theorem ofBits_half : Ideal.ofBits .f32 0x3F000000#32 = ((1 / 2 : ℝ) : EReal) := by
  simp [Ideal.ofBits, Ideal.ieee, -EReal.coe_mul]; norm_num

/-- A sum of reals, read in the extended reals. -/
theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of reals with a divisor that is not zero. -/
theorem div_real (a : ℝ) {b : ℝ} (hb : b ≠ 0) : Ideal.div (a : EReal) (b : EReal) = ((a / b : ℝ) : EReal) := by
  rw [Ideal.div_coe hb, ← EReal.coe_mul]; congr 1; ring

/-- What "below infinity in absolute value" says of one extended real. -/
theorem real_of_abs_lt {x : EReal} (h : max x (-x) < ⊤) : ∃ r : ℝ, x = r := by
  have h1 : x ≠ ⊤ := by rintro rfl; simp at h
  have h2 : x ≠ ⊥ := by rintro rfl; simp at h
  exact ⟨x.toReal, (EReal.coe_toReal h1 h2).symm⟩

/-- An array whose entries are all below infinity in absolute value is an array of reals. -/
theorem reals_of_mask {s : Shape} {φ : FTy} (x : FVec Ideal s φ)
    (h : ∀ i, Scalar.cmpf (F := Ideal) (φ := .f32) .olt (max (x i) (-(x i))) (Ideal.ofBits .f32 0x7F800000#32) = 1#1) :
    ∃ r : s.Idx → ℝ, x = fun i => (r i : EReal) := by
  have h' : ∀ i, ∃ r : ℝ, x i = r := fun i => real_of_abs_lt <| by
    have := h i
    rw [ofBits_inf] at this
    by_contra hn
    simp [Ideal.cmp, hn] at this
  choose r hr using h'
  exact ⟨r, funext hr⟩

end Cert.Reals

end
-- ==== Proof.GatePair.lean ====
/- Hand-written, untrusted: the gate's backward kernel and the derivative of the gate's plain formula give the same two
   arrays, where the arguments are finite. -/
module

public import proofs.«01_k».proof.Defs
public import proofs.«01_k».proof.Proof.GateValue
public import proofs.«01_k».proof.Proof.Reals
public import proofs.«01_k».proof.Proof.Gen.GateGradIdeal.Run
public import proofs.«01_k».proof.Proof.Gen.GateGradIdeal.Read
public import proofs.«01_k».proof.Proof.Gen.Pre_gate_finite

@[expose] public section

set_option maxRecDepth 16384

noncomputable section

open Idealize.ShloMosaic Idealize.ShloMosaic.TcCoe Idealize.SL.Sem
open scoped BigOperators

namespace Cert.GateBwdIdeal.Hand

open Cert.GateGradIdeal.Read Cert.Reals

/-- The logistic function at a real, as the quotient the plain formula spells. -/
theorem logistic_quot (x : ℝ) : Ideal.div (1 : EReal) (1 + Ideal.exp (-(x : EReal))) = ((1 / (1 + Real.exp (-x)) : ℝ) : EReal) := by
  have h : (1 + Real.exp (-x)) ≠ 0 := by positivity
  rw [← EReal.coe_neg, Ideal.exp_coe, ← EReal.coe_one, ← EReal.coe_add, div_real _ h]

/-- The plain formula's first gradient at one place. -/
theorem ref_dgate (a : S4096x2048.Idx → ℝ) (w : S5632x2048.Idx → ℝ) (g u : S4096x5632.Idx → ℝ) :
    val_main_v15 (F := Ideal) (fun i => (a i : EReal)) (fun i => (w i : EReal)) (fun i => (g i : EReal)) (fun i => (u i : EReal))
      = dgate (fun i => (a i : EReal)) (fun i => (w i : EReal)) (fun i => (g i : EReal)) (fun i => (u i : EReal)) := by
  funext i
  pointwise [val_main_v15, val_main_v14, val_main_call1_v2, val_main_call1_v1, val_main_call1_v0, val_main_v13,
    val_main_v11, val_main_v10, val_main_v9, val_main_cst_0, val_main_v8, val_main_v4, val_main_v2_1, val_main_call0_v7,
    val_main_call0_v6, val_main_call0_cst_1, val_main_v2_2, val_main_call0_v4, val_main_call0_cst_0, val_main_call0_v3,
    val_main_call0_v2, val_main_call0_cst, val_main_call0_v1, val_main_call0_v0, val_main_v1, val_main_v0, dgate, inner]
  simp only [ofBits_half, logistic_quot, Ideal.logistic_coe]
  simp only [← EReal.coe_mul, coe_sum, ← EReal.coe_one, ← EReal.coe_sub, ← EReal.coe_add]
  congr 1
  simp only [one_div, mul_assoc, ← Finset.mul_sum]
  ring

/-- The plain formula's second gradient at one place. -/
theorem ref_dup (a : S4096x2048.Idx → ℝ) (w : S5632x2048.Idx → ℝ) (g : S4096x5632.Idx → ℝ) :
    val_main_v16 (F := Ideal) (fun i => (a i : EReal)) (fun i => (w i : EReal)) (fun i => (g i : EReal))
      = dup (fun i => (a i : EReal)) (fun i => (w i : EReal)) (fun i => (g i : EReal)) := by
  funext i
  pointwise [val_main_v16, val_main_v12, val_main_v2_0,
    val_main_v11, val_main_v10, val_main_v9, val_main_cst_0, val_main_v8, val_main_v4,
    val_main_v2_2, val_main_call0_v4, val_main_call0_cst_0, val_main_call0_v3,
    val_main_call0_v2, val_main_call0_cst, val_main_call0_v1, val_main_call0_v0, val_main_v0, dup, inner]
  simp only [ofBits_half, logistic_quot, Ideal.logistic_coe, ← EReal.coe_mul, coe_sum]
  congr 1
  simp only [one_div, mul_assoc, ← Finset.mul_sum]
  ring

/-- What the precondition says: every argument is an array of reals. -/
theorem reals (m : (ℓ : Loc nD τ sig) → Buf (Elt Ideal) ℓ) (h : Pre_GateBwdIdeal_gate_finite m) (c : Dev nD) :
    (∃ a : S4096x2048.Idx → ℝ, m ((c.tc : Thread nD τ).loc main_arg0) = fun i => (a i : EReal))
    ∧ (∃ w : S5632x2048.Idx → ℝ, m ((c.tc : Thread nD τ).loc main_arg1) = fun i => (w i : EReal))
    ∧ (∃ g : S4096x5632.Idx → ℝ, m ((c.tc : Thread nD τ).loc main_arg2) = fun i => (g i : EReal))
    ∧ (∃ u : S4096x5632.Idx → ℝ, m ((c.tc : Thread nD τ).loc main_arg3) = fun i => (u i : EReal)) :=
  ⟨reals_of_mask _ fun i => congrFun (h c).1 i, reals_of_mask _ fun i => congrFun (h c).2.1 i,
    reals_of_mask _ fun i => congrFun (h c).2.2.1 i, reals_of_mask _ fun i => congrFun (h c).2.2.2 i⟩

set_option backward.isDefEq.respectTransparency.types false in
/-- The two programs give the same results. -/
theorem algebraic : algebraic_GateBwdIdeal_GateGradIdeal_pre_gate_finite := by
  pair_intro
  · run_from Cert.GateBwdIdeal.Gen.run_main m g
  · run_from Cert.GateGradIdeal.Value.run m' g'
    · obtain ⟨⟨a, ha⟩, ⟨w, hw⟩, ⟨x, hx⟩, ⟨u, hu⟩⟩ := reals m hpre c
      rw [final_4 m c, ha, hw, hx, hu]
      exact ref_dgate a w x u
    · obtain ⟨⟨a, ha⟩, ⟨w, hw⟩, ⟨x, hx⟩, ⟨u, hu⟩⟩ := reals m hpre c
      rw [final_5 m c, ha, hw, hx]
      exact ref_dup a w x

end Cert.GateBwdIdeal.Hand

end
-- ==== Proof.Softmax.lean ====
/- Hand-written, untrusted: one row of a masked softmax over the extended reals, as a row of reals. A masked score is the
   bottom element; the exponentials of a row minus its maximum are a positive multiple of the plain exponentials, and the
   multiple cancels in the quotient. -/
module

public import proofs.«01_k».proof.Proof.Reals

@[expose] public section

noncomputable section

namespace Cert.Reals

open Idealize.ShloMosaic
open scoped BigOperators

/-- The pattern of one eighth. -/
theorem ofBits_eighth : Ideal.ofBits .f32 0x3E000000#32 = ((1 / 8 : ℝ) : EReal) := by
  simp [Ideal.ofBits, Ideal.ieee, -EReal.coe_mul]; norm_num

/-- The pattern of the f32 negative infinity. -/
theorem ofBits_neg_inf : Ideal.ofBits .f32 0xFF800000#32 = ⊥ := by
  simp [Ideal.ofBits, Ideal.ieee]

/-- The exponentials of a masked row minus its maximum: a positive multiple of the plain exponentials. -/
theorem row_exp {n : ℕ} (s : Fin n → EReal) (ok : Fin n → Prop) [DecidablePred ok] (r : Fin n → ℝ)
    (hs : ∀ x, s x = if ok x then ((r x : ℝ) : EReal) else ⊥) (hx : ∃ x, ok x) :
    ∃ μ : ℝ, 0 < μ ∧ ∀ x, Ideal.exp (s x - Finset.univ.fold max ⊥ s)
      = ((μ * (if ok x then Real.exp (r x) else 0) : ℝ) : EReal) := by
  have hM : Finset.univ.fold max ⊥ s = Finset.univ.sup s := rfl
  have hle : ∀ x, s x ≤ Finset.univ.sup s := fun x => Finset.le_sup (Finset.mem_univ x)
  have hbot : Finset.univ.sup s ≠ ⊥ := by
    obtain ⟨x, hx⟩ := hx
    have h := hle x
    rw [hs x, if_pos hx] at h
    intro e
    rw [e] at h
    exact absurd (le_bot_iff.mp h) (EReal.coe_ne_bot _)
  have htop : Finset.univ.sup s ≠ ⊤ := by
    refine ne_of_lt ((Finset.sup_lt_iff bot_lt_top).mpr fun x _ => ?_)
    rw [hs x]
    split
    · exact EReal.coe_lt_top _
    · exact bot_lt_top
  obtain ⟨M, hMr⟩ : ∃ M : ℝ, Finset.univ.sup s = (M : EReal) := ⟨_, (EReal.coe_toReal htop hbot).symm⟩
  refine ⟨Real.exp (-M), Real.exp_pos _, fun x => ?_⟩
  rw [hM, hMr, hs x]
  split
  · rw [← EReal.coe_sub, Ideal.exp_coe, ← Real.exp_add]
    congr 2; ring
  · rw [EReal.bot_sub, Ideal.exp_bot, mul_zero, EReal.coe_zero]

/-- A row of positive multiples of weights, divided by its sum: the multiple cancels. -/
theorem row_div {n : ℕ} {e : Fin n → EReal} {w : Fin n → ℝ} {μ : ℝ} (hμ : 0 < μ)
    (he : ∀ x, e x = ((μ * w x : ℝ) : EReal)) (hw : 0 < ∑ x, w x) (x : Fin n) :
    Ideal.div (e x) (∑ y, e y) = ((w x / ∑ y, w y : ℝ) : EReal) := by
  simp only [he]
  rw [coe_sum, ← Finset.mul_sum, div_real _ (mul_pos hμ hw).ne', mul_div_mul_left _ _ hμ.ne']

/-- The same row, multiplied by the reciprocal of its sum. -/
theorem row_mul_inv {n : ℕ} {e : Fin n → EReal} {w : Fin n → ℝ} {μ : ℝ} (hμ : 0 < μ)
    (he : ∀ x, e x = ((μ * w x : ℝ) : EReal)) (hw : 0 < ∑ x, w x) (x : Fin n) :
    e x * Ideal.div 1 (∑ y, e y) = ((w x / ∑ y, w y : ℝ) : EReal) := by
  simp only [he]
  rw [coe_sum, ← Finset.mul_sum, ← EReal.coe_one, div_real _ (mul_pos hμ hw).ne', ← EReal.coe_mul]
  congr 1
  field_simp

end Cert.Reals

end
-- ==== Proof.AttnMath.lean ====
/- Hand-written, untrusted: the real mathematics of the chunked relative attention's gradient. Query position `n` sees the
   keys of its own chunk of 64 and of the 8 chunks before; a key position `p` counts 512 rows of padding first. Arrays are
   functions of natural numbers, read only inside their bounds. -/
module

public import proofs.«01_k».proof.Proof.Softmax

@[expose] public section

noncomputable section

namespace Cert.Attn

open scoped BigOperators
open Finset (range)

/-- The arrays of the two programs: the packed queries, keys and values, the cotangent, and one chunk's bias. -/
structure Arrays where
  z : ℕ → ℕ → ℕ → ℝ
  ct : ℕ → ℕ → ℕ → ℝ
  bias : ℕ → ℕ → ℕ → ℝ

/-- Does the query at `n` see the padded key position `p`? -/
def Sees (n p : ℕ) : Prop := 64 * (n / 64) ≤ p ∧ p < 64 * (n / 64) + 576 ∧ 512 ≤ p

instance (n p : ℕ) : Decidable (Sees n p) := by unfold Sees; infer_instance

variable (X : Arrays)

/-- The padded key of head `h` at position `p`. -/
def key (b h p l : ℕ) : ℝ := if 512 ≤ p then X.z b (p - 512) (1024 + (64 * h + l)) else 0

/-- The padded value of head `h` at position `p`. -/
def val (b h p l : ℕ) : ℝ := if 512 ≤ p then X.z b (p - 512) (2048 + (64 * h + l)) else 0

/-- The score of query `n` against key `p`. -/
def score (b h n p : ℕ) : ℝ :=
  (∑ l ∈ range 64, X.z b n (64 * h + l) * key X b h p l) * (1 / 8) + X.bias h (n % 64) (p - 64 * (n / 64))

/-- The exponential of the score, zero where the query does not see the key. -/
def weight (b h n p : ℕ) : ℝ := if Sees n p then Real.exp (score X b h n p) else 0

/-- The sum of a query's weights. -/
def mass (b h n : ℕ) : ℝ := ∑ p ∈ range 2560, weight X b h n p

/-- The attention probability. -/
def prob (b h n p : ℕ) : ℝ := weight X b h n p / mass X b h n

/-- The gradient at the probability. -/
def dprob (b h n p : ℕ) : ℝ := ∑ l ∈ range 64, X.ct b n (64 * h + l) * val X b h p l

/-- The gradient at the score. -/
def dscore (b h n p : ℕ) : ℝ :=
  prob X b h n p * (dprob X b h n p - ∑ p' ∈ range 2560, prob X b h n p' * dprob X b h n p')

theorem weight_unseen {b h n p : ℕ} (hn : ¬ Sees n p) : weight X b h n p = 0 := if_neg hn

theorem prob_unseen {b h n p : ℕ} (hn : ¬ Sees n p) : prob X b h n p = 0 := by
  rw [prob, weight_unseen X hn, zero_div]

theorem dscore_unseen {b h n p : ℕ} (hn : ¬ Sees n p) : dscore X b h n p = 0 := by
  rw [dscore, prob_unseen X hn, zero_mul]

theorem weight_nonneg (b h n p : ℕ) : 0 ≤ weight X b h n p := by
  unfold weight; split
  · exact (Real.exp_pos _).le
  · exact le_rfl

theorem mass_pos {b h n : ℕ} (hn : n < 2048) : 0 < mass X b h n := by
  refine Finset.sum_pos' (fun p _ => weight_nonneg X b h n p) ⟨64 * (n / 64) + 512, ?_, ?_⟩
  · rw [Finset.mem_range]; omega
  · rw [weight, if_pos ⟨by omega, by omega, by omega⟩]; exact Real.exp_pos _

/-- A sum over a window of key positions that holds all a query sees is the sum over every position. -/
theorem sum_window {n o W : ℕ} (F : ℕ → ℝ) (hF : ∀ p, ¬ Sees n p → F p = 0) (ho : o ≤ 64 * (n / 64))
    (hW : 64 * (n / 64) + 576 ≤ o + W) (hN : o + W ≤ 2560) :
    ∑ x : Fin W, F (o + x.val) = ∑ p ∈ range 2560, F p := by
  rw [Fin.sum_univ_eq_sum_range (fun x => F (o + x)) W, ← Finset.sum_image (f := F) (g := fun x => o + x)
    (fun a _ b _ h => by simpa using h)]
  refine Finset.sum_subset (fun p hp => ?_) fun p _ hp => hF p fun hs => hp ?_
  · obtain ⟨x, hx, rfl⟩ := Finset.mem_image.mp hp
    rw [Finset.mem_range] at hx ⊢; omega
  · obtain ⟨h1, h2, h3⟩ := hs
    exact Finset.mem_image.mpr ⟨p - o, Finset.mem_range.mpr (by omega), by omega⟩

/-- A sum over the 128 lanes of two heads, where only the lanes of head `a` count. -/
theorem sum_lanes {a : ℕ} (ha : a < 2) (F : ℕ → ℝ) :
    ∑ l : Fin 128, (if l.val / 64 = a then F l.val else 0) = ∑ l ∈ range 64, F (64 * a + l) := by
  rw [Fin.sum_univ_eq_sum_range (fun l => if l / 64 = a then F l else 0) 128, ← Finset.sum_filter,
    ← Finset.sum_image (f := F) (g := fun x => 64 * a + x) (s := range 64) (fun a _ b _ h => by simpa using h)]
  refine Finset.sum_congr (Finset.ext fun p => ?_) fun _ _ => rfl
  rw [Finset.mem_filter, Finset.mem_range, Finset.mem_image]
  constructor
  · rintro ⟨h1, h2⟩; exact ⟨p - 64 * a, Finset.mem_range.mpr (by omega), by omega⟩
  · rintro ⟨x, hx, rfl⟩; rw [Finset.mem_range] at hx; omega

/-- A sum over the 512 stacked rows of two heads, where only the rows of head `a` count. -/
theorem sum_stack {a : ℕ} (ha : a < 2) (F : ℕ → ℝ) :
    ∑ s : Fin 512, (if a = s.val / 256 then F (s.val % 256) else 0) = ∑ r ∈ range 256, F r := by
  rw [Fin.sum_univ_eq_sum_range (fun s => if a = s / 256 then F (s % 256) else 0) 512, ← Finset.sum_filter]
  refine Finset.sum_nbij' (fun s => s % 256) (fun r => 256 * a + r) ?_ ?_ ?_ ?_ fun _ _ => rfl
  · intro s hs; rw [Finset.mem_range]; omega
  · intro r hr
    rw [Finset.mem_range] at hr
    rw [Finset.mem_filter, Finset.mem_range]; omega
  · intro s hs
    rw [Finset.mem_filter, Finset.mem_range] at hs
    show 256 * a + s % 256 = s
    omega
  · intro r hr
    rw [Finset.mem_range] at hr
    show (256 * a + r) % 256 = r
    omega

/-- The gradient at a padded key, from the first `N` queries. -/
def dkey (b h N p l : ℕ) : ℝ := ∑ n ∈ range N, X.z b n (64 * h + l) * (1 / 8) * dscore X b h n p

/-- The gradient at a padded value, from the first `N` queries. -/
def dval (b h N p l : ℕ) : ℝ := ∑ n ∈ range N, X.ct b n (64 * h + l) * prob X b h n p

/-- The gradient at a query. -/
def dquery (b h n l : ℕ) : ℝ := (∑ p ∈ range 2560, dscore X b h n p * key X b h p l) * (1 / 8)

end Cert.Attn

end
-- ==== Proof.AttnPoint.lean ====
/- Hand-written, untrusted: one grid point of the attention backward kernel over the reals. The point takes 256 queries of the
   two heads `2 * g` and `2 * g + 1`, stacked to 512 rows, against a window of 768 padded key positions. -/
module

public import proofs.«01_k».proof.Proof.Gen.AttnBwdIdeal.Frame
public import proofs.«01_k».proof.Proof.AttnMath
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators
open Finset (range)

namespace Cert.AttnBwdIdeal.Hand

open Cert.AttnBwdIdeal Cert.AttnBwdIdeal.Gen Cert.Attn Cert.Reals

variable (X : Arrays) (b g qb : ℕ)

/-- The queries of the point. -/
def qBlk : Vec Ideal S1x256x128 .f32 := fun y => ((X.z b (256 * qb + (y 1).val) (128 * g + (y 2).val) : ℝ) : EReal)

/-- The cotangent of the point. -/
def cBlk : Vec Ideal S1x256x128 .bf16 := fun y => ((X.ct b (256 * qb + (y 1).val) (128 * g + (y 2).val) : ℝ) : EReal)

/-- The padded keys of both heads. -/
def keys : Vec Ideal S2560x128 .bf16 := fun y =>
  (((if 512 ≤ (y 0).val then X.z b ((y 0).val - 512) (1024 + (128 * g + (y 1).val)) else 0) : ℝ) : EReal)

/-- The padded values of both heads. -/
def vals : Vec Ideal S2560x128 .bf16 := fun y =>
  (((if 512 ≤ (y 0).val then X.z b ((y 0).val - 512) (2048 + (128 * g + (y 1).val)) else 0) : ℝ) : EReal)

/-- The bias of both heads: one chunk's, moved along the diagonal, and the bottom element elsewhere. -/
def tile : Vec Ideal S2x256x768 .f32 := fun y =>
  if 64 * ((y 1).val / 64) ≤ (y 2).val ∧ (y 2).val < 64 * ((y 1).val / 64) + 576 then
    ((X.bias (2 * g + (y 0).val) ((y 1).val % 64) ((y 2).val - 64 * ((y 1).val / 64)) : ℝ) : EReal) else ⊥

/-- The window of padded key rows the point reads. -/
def window (K : Vec Ideal S2560x128 .bf16) (hqb : qb < 8) : Vec Ideal S768x128 .bf16 := fun y =>
  K (ix2 ⟨256 * qb + (y 0).val, by have : (y 0).val < 768 := (y 0).isLt; omega⟩ (y 1))

/-- The stacked, scaled queries: row `s` keeps the lanes of head `s / 256`. -/
theorem stackQ (s : Fin 512) (l : Fin 128) :
    k0_pay17 (k0_pay13 (qBlk X b g qb)) k0_pay15 (ix2 s l)
      = (((if l.val / 64 = s.val / 256 then X.z b (256 * qb + s.val % 256) (128 * g + l.val) * (1 / 8) else 0 : ℝ)) : EReal) := by
  have hl : l.val < 128 := l.isLt
  have hs : s.val < 512 := s.isLt
  pointwise [k0_pay17, k0_pay13, k0_pay15, qBlk]
  simp (disch := omega) only [hlo_ix]
  rw [ofBits_eighth]
  by_cases h1 : s.val < 256 <;> by_cases h2 : l.val < 64 <;>
    simp only [h1, h2, dif_pos, dif_neg, if_true, if_false, not_false_eq_true]
  · rw [if_pos (by omega), Nat.mod_eq_of_lt h1, ← EReal.coe_mul]
  · rw [if_neg (by omega), EReal.coe_zero]
  · rw [if_neg (by omega), EReal.coe_zero]
  · rw [if_pos (by omega), show s.val % 256 = s.val - 256 by omega, ← EReal.coe_mul]

/-- The stacked cotangent. -/
theorem stackC (s : Fin 512) (l : Fin 128) :
    k0_pay18 (k0_pay14 (cBlk X b g qb)) k0_pay15 (ix2 s l)
      = (((if l.val / 64 = s.val / 256 then X.ct b (256 * qb + s.val % 256) (128 * g + l.val) else 0 : ℝ)) : EReal) := by
  have hl : l.val < 128 := l.isLt
  have hs : s.val < 512 := s.isLt
  pointwise [k0_pay18, k0_pay14, k0_pay15, cBlk]
  simp (disch := omega) only [hlo_ix]
  by_cases h1 : s.val < 256 <;> by_cases h2 : l.val < 64 <;>
    simp only [h1, h2, dif_pos, dif_neg, if_true, if_false, not_false_eq_true]
  · rw [if_pos (by omega), Nat.mod_eq_of_lt h1]
  · rw [if_neg (by omega), EReal.coe_zero]
  · rw [if_neg (by omega), EReal.coe_zero]
  · rw [if_pos (by omega), show s.val % 256 = s.val - 256 by omega]

/-- The mask of the padding: position `x` of the window is a key only from 512 on. -/
theorem mask_eq (i : grid0.Coords) (hi : (i 2).val = qb) (hqb : qb < 8) (x : Fin 768) :
    k0_pay16 (F := Ideal) i (ix2 0 x) = if 512 ≤ 256 * qb + x.val then 0 else ⊥ := by
  have hx : x.val < 768 := x.isLt
  pointwise [k0_pay16]
  rw [hi, WordCmp.cmpi_sge_zero, IdealRules.named_const.ideal_named_scalar _ _ _ _ rfl]
  have e : (IntOp.addi (Scalar.subi (Scalar.muli (BitVec.ofNat 32 qb) 256#32) 512#32) (BitVec.ofNat 32 x.val)).toNat
      = (256 * qb + x.val + (2 ^ 32 - 512)) % 2 ^ 32 := by
    simp only [IntOp.addi, Scalar.subi, Scalar.muli, IntOp.subi, IntOp.muli, BitVec.toNat_add, BitVec.toNat_sub, BitVec.toNat_mul,
      BitVec.toNat_ofNat]
    omega
  rw [e]
  by_cases h : 512 ≤ 256 * qb + x.val
  · rw [if_pos h, decide_eq_true (by omega)]; rfl
  · rw [if_neg h, decide_eq_false (by omega)]; rfl

/-- What a stacked row's lanes give against a key: the product over the 64 lanes of its head. -/
theorem lanes_key (hqb : qb < 8) (s : Fin 512) (x : Fin 768) :
    ∑ l : Fin 128, k0_pay17 (k0_pay13 (qBlk X b g qb)) k0_pay15 (ix2 s l) * window qb (keys X b g) hqb (ix2 x l)
      = (((∑ l ∈ range 64, X.z b (256 * qb + s.val % 256) (64 * (2 * g + s.val / 256) + l)
          * key X b (2 * g + s.val / 256) (256 * qb + x.val) l) * (1 / 8) : ℝ) : EReal) := by
  have hs : s.val < 512 := s.isLt
  have e : ∀ l : Fin 128, k0_pay17 (k0_pay13 (qBlk X b g qb)) k0_pay15 (ix2 s l) * window qb (keys X b g) hqb (ix2 x l)
      = (((if l.val / 64 = s.val / 256 then X.z b (256 * qb + s.val % 256) (128 * g + l.val) * (1 / 8)
        * (if 512 ≤ 256 * qb + x.val then X.z b (256 * qb + x.val - 512) (1024 + (128 * g + l.val)) else 0) else 0 : ℝ)) : EReal) := by
    intro l
    rw [stackQ]
    refine (EReal.coe_mul _ (if 512 ≤ 256 * qb + x.val then X.z b (256 * qb + x.val - 512) (1024 + (128 * g + l.val)) else 0)).symm.trans ?_
    rw [ite_mul, zero_mul]
  rw [Finset.sum_congr rfl fun l _ => e l, coe_sum]
  refine congrArg _ ?_
  rw [sum_lanes (by omega) fun l => X.z b (256 * qb + s.val % 256) (128 * g + l) * (1 / 8)
        * (if 512 ≤ 256 * qb + x.val then X.z b (256 * qb + x.val - 512) (1024 + (128 * g + l)) else 0), Finset.sum_mul]
  refine Finset.sum_congr rfl fun l _ => ?_
  rw [show 128 * g + (64 * (s.val / 256) + l) = 64 * (2 * g + s.val / 256) + l by omega, key]
  ring

/-- The same for the cotangent against a value. -/
theorem lanes_val (hqb : qb < 8) (s : Fin 512) (x : Fin 768) :
    ∑ l : Fin 128, k0_pay18 (k0_pay14 (cBlk X b g qb)) k0_pay15 (ix2 s l) * window qb (vals X b g) hqb (ix2 x l)
      = ((dprob X b (2 * g + s.val / 256) (256 * qb + s.val % 256) (256 * qb + x.val) : ℝ) : EReal) := by
  have hs : s.val < 512 := s.isLt
  have e : ∀ l : Fin 128, k0_pay18 (k0_pay14 (cBlk X b g qb)) k0_pay15 (ix2 s l) * window qb (vals X b g) hqb (ix2 x l)
      = (((if l.val / 64 = s.val / 256 then X.ct b (256 * qb + s.val % 256) (128 * g + l.val)
        * (if 512 ≤ 256 * qb + x.val then X.z b (256 * qb + x.val - 512) (2048 + (128 * g + l.val)) else 0) else 0 : ℝ)) : EReal) := by
    intro l
    rw [stackC]
    refine (EReal.coe_mul _ (if 512 ≤ 256 * qb + x.val then X.z b (256 * qb + x.val - 512) (2048 + (128 * g + l.val)) else 0)).symm.trans ?_
    rw [ite_mul, zero_mul]
  rw [Finset.sum_congr rfl fun l _ => e l, coe_sum]
  refine congrArg _ ?_
  rw [sum_lanes (by omega) fun l => X.ct b (256 * qb + s.val % 256) (128 * g + l)
        * (if 512 ≤ 256 * qb + x.val then X.z b (256 * qb + x.val - 512) (2048 + (128 * g + l)) else 0)]
  refine Finset.sum_congr rfl fun l _ => ?_
  rw [show 128 * g + (64 * (s.val / 256) + l) = 64 * (2 * g + s.val / 256) + l by omega, val]

variable {b g qb} (hqb : qb < 8) {msk : FVec Ideal S1x768 .f32}
  (hmsk : ∀ x : Fin 768, msk (ix2 0 x) = if 512 ≤ 256 * qb + x.val then 0 else ⊥)

include hmsk in
/-- A stacked row of masked scores. -/
theorem row_score (s : Fin 512) (x : Fin 768) :
    ∑ l : Fin 128, k0_pay17 (k0_pay13 (qBlk X b g qb)) k0_pay15 (ix2 s l) * window qb (keys X b g) hqb (ix2 x l)
        + tile X g (ix3 ⟨s.val / 256, by have := s.isLt; omega⟩ ⟨s.val % 256, by omega⟩ x) + msk (ix2 0 x)
      = if Sees (256 * qb + s.val % 256) (256 * qb + x.val) then
          ((score X b (2 * g + s.val / 256) (256 * qb + s.val % 256) (256 * qb + x.val) : ℝ) : EReal) else ⊥ := by
  rw [lanes_key, hmsk]
  show _ + (if 64 * (s.val % 256 / 64) ≤ x.val ∧ x.val < 64 * (s.val % 256 / 64) + 576 then
    ((X.bias (2 * g + s.val / 256) (s.val % 256 % 64) (x.val - 64 * (s.val % 256 / 64)) : ℝ) : EReal) else ⊥) + _ = _
  by_cases h : Sees (256 * qb + s.val % 256) (256 * qb + x.val)
  · obtain ⟨h1, h2, h3⟩ := id h
    rw [if_pos h, if_pos (by omega), if_pos (by omega), add_zero, ← EReal.coe_add, score,
      show (256 * qb + s.val % 256) % 64 = s.val % 256 % 64 by omega,
      show 256 * qb + x.val - 64 * ((256 * qb + s.val % 256) / 64) = x.val - 64 * (s.val % 256 / 64) by omega]
  · rw [if_neg h]
    by_cases h3 : 512 ≤ 256 * qb + x.val
    · rw [if_neg fun hx => h ⟨by omega, by omega, h3⟩, EReal.add_bot, EReal.bot_add]
    · rw [if_neg h3, EReal.add_bot]

theorem row_seen (s : Fin 512) : ∃ x : Fin 768, Sees (256 * qb + s.val % 256) (256 * qb + x.val) :=
  ⟨⟨64 * (s.val % 256 / 64) + 512, by omega⟩, by dsimp only; omega, by dsimp only; omega, by dsimp only; omega⟩

/-- A sum over the window's positions of what vanishes where the row does not look. -/
theorem sum_row (hqb : qb < 8) (s : Fin 512) (F : ℕ → ℝ) (hF : ∀ p, ¬ Sees (256 * qb + s.val % 256) p → F p = 0) :
    ∑ x : Fin 768, F (256 * qb + x.val) = ∑ p ∈ range 2560, F p :=
  sum_window F hF (by omega) (by omega) (by omega)

include hmsk in
/-- The probabilities of a stacked row. -/
theorem prob_eq (s : Fin 512) (x : Fin 768) :
    k0_pay19 (window qb (keys X b g) hqb) (k0_pay13 (qBlk X b g qb)) k0_pay15 msk (tile X g) (ix2 s x)
      = ((prob X b (2 * g + s.val / 256) (256 * qb + s.val % 256) (256 * qb + x.val) : ℝ) : EReal) := by
  obtain ⟨μ, hμ, he⟩ := row_exp (fun x : Fin 768 => _) (fun x => Sees (256 * qb + s.val % 256) (256 * qb + x.val))
    (fun x => score X b (2 * g + s.val / 256) (256 * qb + s.val % 256) (256 * qb + x.val))
    (fun x => row_score X hqb hmsk s x) (row_seen s)
  have hm : ∑ x : Fin 768, weight X b (2 * g + s.val / 256) (256 * qb + s.val % 256) (256 * qb + x.val)
      = mass X b (2 * g + s.val / 256) (256 * qb + s.val % 256) :=
    sum_row hqb s _ fun p hp => weight_unseen X hp
  have r := row_mul_inv hμ he (by
    show 0 < ∑ x : Fin 768, weight X b (2 * g + s.val / 256) (256 * qb + s.val % 256) (256 * qb + x.val)
    rw [hm]; exact mass_pos X (by omega)) x
  pointwise [k0_pay19]
  rw [ofBits_neg_inf]
  refine r.trans ?_
  show ((weight X b (2 * g + s.val / 256) (256 * qb + s.val % 256) (256 * qb + x.val) /
    ∑ x : Fin 768, weight X b (2 * g + s.val / 256) (256 * qb + s.val % 256) (256 * qb + x.val) : ℝ) : EReal) = _
  rw [hm, prob]

include hmsk in
/-- The gradient at the scores of a stacked row. -/
theorem dscore_eq (s : Fin 512) (x : Fin 768) :
    k0_pay20 (window qb (keys X b g) hqb) (window qb (vals X b g) hqb) (k0_pay13 (qBlk X b g qb)) (k0_pay14 (cBlk X b g qb))
        k0_pay15 msk (tile X g) (ix2 s x)
      = ((dscore X b (2 * g + s.val / 256) (256 * qb + s.val % 256) (256 * qb + x.val) : ℝ) : EReal) := by
  pointwise [k0_pay20]
  simp only [prob_eq X hqb hmsk, lanes_val, ← EReal.coe_mul, coe_sum, ← EReal.coe_sub]
  rw [sum_row hqb s (fun p => prob X b (2 * g + s.val / 256) (256 * qb + s.val % 256) p
    * dprob X b (2 * g + s.val / 256) (256 * qb + s.val % 256) p) fun p hp => by rw [prob_unseen X hp, zero_mul]]
  rfl

include hmsk in
/-- The keys' gradients over the window, with this point's queries added. -/
theorem key_step (u : Vec Ideal S128x768 .f32) (l : Fin 128) (x : Fin 768) :
    k0_pay2 (k0_pay17 (k0_pay13 (qBlk X b g qb)) k0_pay15)
        (k0_pay22 (window qb (keys X b g) hqb) (window qb (vals X b g) hqb) (k0_pay13 (qBlk X b g qb)) (k0_pay14 (cBlk X b g qb))
          k0_pay15 msk (tile X g)) u (ix2 l x)
      = u (ix2 l x) + ((∑ r ∈ range 256, X.z b (256 * qb + r) (64 * (2 * g + l.val / 64) + l.val % 64) * (1 / 8)
          * dscore X b (2 * g + l.val / 64) (256 * qb + r) (256 * qb + x.val) : ℝ) : EReal) := by
  have hl : l.val < 128 := l.isLt
  pointwise [k0_pay2, k0_pay22]
  have e : ∀ s : Fin 512, k0_pay17 (k0_pay13 (qBlk X b g qb)) k0_pay15 (ix2 s l)
      * k0_pay20 (window qb (keys X b g) hqb) (window qb (vals X b g) hqb) (k0_pay13 (qBlk X b g qb)) (k0_pay14 (cBlk X b g qb))
        k0_pay15 msk (tile X g) (ix2 s x)
      = ((if l.val / 64 = s.val / 256 then X.z b (256 * qb + s.val % 256) (64 * (2 * g + l.val / 64) + l.val % 64) * (1 / 8)
          * dscore X b (2 * g + l.val / 64) (256 * qb + s.val % 256) (256 * qb + x.val) else 0 : ℝ) : EReal) := by
    intro s
    rw [stackQ, dscore_eq X hqb hmsk, ← EReal.coe_mul, ite_mul, zero_mul]
    refine congrArg _ ?_
    split
    · rename_i h
      rw [show 128 * g + l.val = 64 * (2 * g + l.val / 64) + l.val % 64 by omega, h]
    · rfl
  rw [Finset.sum_congr rfl fun s _ => e s, coe_sum,
    sum_stack (by omega) fun r => X.z b (256 * qb + r) (64 * (2 * g + l.val / 64) + l.val % 64) * (1 / 8)
          * dscore X b (2 * g + l.val / 64) (256 * qb + r) (256 * qb + x.val)]

include hmsk in
/-- The values' gradients over the window, with this point's queries added. -/
theorem val_step (u : Vec Ideal S128x768 .f32) (l : Fin 128) (x : Fin 768) :
    k0_pay3 (k0_pay18 (k0_pay14 (cBlk X b g qb)) k0_pay15)
        (k0_pay19 (window qb (keys X b g) hqb) (k0_pay13 (qBlk X b g qb)) k0_pay15 msk (tile X g)) u (ix2 l x)
      = u (ix2 l x) + ((∑ r ∈ range 256, X.ct b (256 * qb + r) (64 * (2 * g + l.val / 64) + l.val % 64)
          * prob X b (2 * g + l.val / 64) (256 * qb + r) (256 * qb + x.val) : ℝ) : EReal) := by
  have hl : l.val < 128 := l.isLt
  pointwise [k0_pay3]
  have e : ∀ s : Fin 512, k0_pay18 (k0_pay14 (cBlk X b g qb)) k0_pay15 (ix2 s l)
      * k0_pay19 (window qb (keys X b g) hqb) (k0_pay13 (qBlk X b g qb)) k0_pay15 msk (tile X g) (ix2 s x)
      = ((if l.val / 64 = s.val / 256 then X.ct b (256 * qb + s.val % 256) (64 * (2 * g + l.val / 64) + l.val % 64)
          * prob X b (2 * g + l.val / 64) (256 * qb + s.val % 256) (256 * qb + x.val) else 0 : ℝ) : EReal) := by
    intro s
    rw [stackC, prob_eq X hqb hmsk, ← EReal.coe_mul, ite_mul, zero_mul]
    refine congrArg _ ?_
    split
    · rename_i h
      rw [show 128 * g + l.val = 64 * (2 * g + l.val / 64) + l.val % 64 by omega, h]
    · rfl
  rw [Finset.sum_congr rfl fun s _ => e s, coe_sum,
    sum_stack (by omega) fun r => X.ct b (256 * qb + r) (64 * (2 * g + l.val / 64) + l.val % 64)
          * prob X b (2 * g + l.val / 64) (256 * qb + r) (256 * qb + x.val)]

include hmsk in
/-- The bias tile's gradient, with this point's scores added. -/
theorem bias_step (u : Vec Ideal S2x256x768 .f32) (a : Fin 2) (r : Fin 256) (x : Fin 768) :
    k0_pay21 (window qb (keys X b g) hqb) (window qb (vals X b g) hqb) (k0_pay13 (qBlk X b g qb)) (k0_pay14 (cBlk X b g qb))
        k0_pay15 msk (tile X g) u (ix3 a r x)
      = u (ix3 a r x) + ((dscore X b (2 * g + a.val) (256 * qb + r.val) (256 * qb + x.val) : ℝ) : EReal) := by
  have hr : r.val < 256 := r.isLt
  pointwise [k0_pay21]
  rw [dscore_eq X hqb hmsk]
  refine congrArg (fun y : ℝ => u (ix3 a r x) + (y : EReal)) ?_
  show dscore X b (2 * g + (a.val * 256 + r.val) / 256) (256 * qb + (a.val * 256 + r.val) % 256) _ = _
  rw [show (a.val * 256 + r.val) / 256 = a.val by omega, show (a.val * 256 + r.val) % 256 = r.val by omega]

include hmsk in
/-- A stacked row's scores' gradients against a lane of the keys. -/
theorem row_key (s : Fin 512) (l : Fin 128) (hl : l.val / 64 = s.val / 256) :
    ∑ x : Fin 768, k0_pay20 (window qb (keys X b g) hqb) (window qb (vals X b g) hqb) (k0_pay13 (qBlk X b g qb))
        (k0_pay14 (cBlk X b g qb)) k0_pay15 msk (tile X g) (ix2 s x) * window qb (keys X b g) hqb (ix2 x l)
      = ((∑ p ∈ range 2560, dscore X b (2 * g + l.val / 64) (256 * qb + s.val % 256) p
          * key X b (2 * g + l.val / 64) p (l.val % 64) : ℝ) : EReal) := by
  have e : ∀ x : Fin 768, window qb (keys X b g) hqb (ix2 x l)
      = ((key X b (2 * g + l.val / 64) (256 * qb + x.val) (l.val % 64) : ℝ) : EReal) := by
    intro x
    rw [key, show 64 * (2 * g + l.val / 64) + l.val % 64 = 128 * g + l.val by omega]; rfl
  simp only [dscore_eq X hqb hmsk, e, ← EReal.coe_mul, coe_sum]
  rw [sum_row hqb s (fun p => dscore X b (2 * g + s.val / 256) (256 * qb + s.val % 256) p
    * key X b (2 * g + l.val / 64) p (l.val % 64)) fun p hp => by rw [dscore_unseen X hp, zero_mul], hl]

include hmsk in
/-- The queries' gradients of the point. -/
theorem query_eq (y : S1x256x128.Idx) :
    k0_pay1 k0_pay15
        (k0_pay23 (window qb (keys X b g) hqb) (window qb (vals X b g) hqb) (k0_pay13 (qBlk X b g qb)) (k0_pay14 (cBlk X b g qb))
          k0_pay15 msk (tile X g))
        (k0_pay24 (window qb (keys X b g) hqb) (window qb (vals X b g) hqb) (k0_pay13 (qBlk X b g qb)) (k0_pay14 (cBlk X b g qb))
          k0_pay15 msk (tile X g)) y
      = ((dquery X b (2 * g + (y 2).val / 64) (256 * qb + (y 1).val) ((y 2).val % 64) : ℝ) : EReal) := by
  obtain ⟨z, r, l, rfl⟩ : ∃ (z : Fin 1) (r : Fin 256) (l : Fin 128), y = ix3 z r l := ⟨y 0, y 1, y 2, eq_ix3 y⟩
  show _ = ((dquery X b (2 * g + l.val / 64) (256 * qb + r.val) (l.val % 64) : ℝ) : EReal)
  have hr : r.val < 256 := r.isLt
  have hl : l.val < 128 := l.isLt
  pointwise [k0_pay1, k0_pay15, k0_pay24, k0_pay23, k0_pay22]
  simp (disch := omega) only [hlo_ix]
  rw [ofBits_eighth, dquery]
  by_cases h : l.val < 64
  · rw [if_pos h]
    erw [row_key X hqb hmsk ⟨r.val, by omega⟩ l (by dsimp only; omega), ← EReal.coe_mul]
    rw [Nat.mod_eq_of_lt hr]
  · rw [if_neg h]
    erw [row_key X hqb hmsk ⟨256 + r.val, by omega⟩ l (by dsimp only; omega), ← EReal.coe_mul]
    rw [show (256 + r.val) % 256 = r.val by omega]

end Cert.AttnBwdIdeal.Hand
end
-- ==== Proof.AttnTile.lean ====
/- Hand-written, untrusted: the bias tile the attention backward kernel reads. Four copies of one chunk's bias, each moved along
   the diagonal by 64 more positions, with the bottom element around them. -/
module

public import proofs.«01_k».proof.Proof.Gen.AttnBwdIdeal.Frame
public import proofs.«01_k».proof.Proof.AttnPoint
public import proofs.«01_k».proof.Proof.Gen.AttnGradIdeal.Read
public import Idealize.ShloMosaic.Lib.Pointwise
public import Idealize.ShloMosaic.Lib.StableHlo.RunRead
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators
open Finset (range)

namespace Cert.AttnBwdIdeal.Hand

open Cert.AttnBwdIdeal Cert.AttnBwdIdeal.Gen Cert.Attn Cert.Reals

/-- The host operations before the kernel. -/
abbrev line : List (HloOp τ sig (Elt Ideal)) := List.flatten [hostOps0, hostOps0_1, hostOps0_2]

/-- One chunk's bias: the reference's own gather of the table. -/
abbrev chunk (w : FVec Ideal S16x257 .f32) : FVec Ideal S16x64x576 .f32 := Cert.AttnGradIdeal.Read.val_main_v21 (F := Ideal) w

variable (W : Valuation τ sig (Elt Ideal)) (B : ℕ → ℕ → ℕ → ℝ)
  (hB : chunk (W (Proc.devRef .tc main_arg1)) = fun y => ((B (y 0).val (y 1).val (y 2).val : ℝ) : EReal))

include hB in
theorem read_21 (h : Fin 16) (r : Fin 64) (x : Fin 768) :
    (StableHlo.upto line W 50 (Proc.devRef .tc main_v21) : FVec Ideal S16x64x768 .f32) (ix3 h r x)
      = if 0 ≤ x.val ∧ x.val < 576 then ((B h.val r.val (x.val - 0) : ℝ) : EReal) else ⊥ := by
  have key : ∀ A : FVec Ideal S16x64x576 .f32, A = chunk (W (Proc.devRef .tc main_arg1)) →
      ∀ D : FVec Ideal S16x64x192 .f32, D = (fun _ => ⊥) →
      concatenate S16x64x768 2 [⟨S16x64x576, A⟩, ⟨S16x64x192, D⟩] concatenates_S16x64x576_S16x64x192_S16x64x768_d2 (ix3 h r x)
        = if 0 ≤ x.val ∧ x.val < 576 then ((B h.val r.val (x.val - 0) : ℝ) : EReal) else ⊥ := by
    rintro A hA D rfl
    rw [hA, hB]
    have hx : x.val < 768 := x.isLt
    pointwise []
    split
    · rfl
    · rfl
  after_reads_simp
  exact key _ rfl _ (by funext i; pointwise [ofBits_neg_inf])

include hB in
theorem read_24 (h : Fin 16) (r : Fin 64) (x : Fin 768) :
    (StableHlo.upto line W 50 (Proc.devRef .tc main_v24) : FVec Ideal S16x64x768 .f32) (ix3 h r x)
      = if 64 ≤ x.val ∧ x.val < 640 then ((B h.val r.val (x.val - 64) : ℝ) : EReal) else ⊥ := by
  after_reads_simp
  pointwise []
  have hx : x.val < 768 := x.isLt
  split
  · refine Eq.trans (b := (⊥ : EReal)) ((congrFun (StableHlo.unary_result _ _ _ _ _ _) _).trans ?_) (if_neg (by omega)).symm
    after_reads_simp
    pointwise [ofBits_neg_inf]
  split
  · refine Eq.trans ((congrFun (StableHlo.binary_result _ _ _ _ _ _ _ _) _).trans ?_) (if_pos (by omega)).symm
    after_reads_simp
    exact congrFun hB _
  · refine Eq.trans (b := (⊥ : EReal)) ((congrFun (StableHlo.unary_result _ _ _ _ _ _) _).trans ?_) (if_neg (by omega)).symm
    after_reads_simp
    pointwise [ofBits_neg_inf]

include hB in
theorem read_27 (h : Fin 16) (r : Fin 64) (x : Fin 768) :
    (StableHlo.upto line W 50 (Proc.devRef .tc main_v27) : FVec Ideal S16x64x768 .f32) (ix3 h r x)
      = if 128 ≤ x.val ∧ x.val < 704 then ((B h.val r.val (x.val - 128) : ℝ) : EReal) else ⊥ := by
  after_reads_simp
  pointwise []
  have hx : x.val < 768 := x.isLt
  split
  · refine Eq.trans (b := (⊥ : EReal)) ((congrFun (StableHlo.unary_result _ _ _ _ _ _) _).trans ?_) (if_neg (by omega)).symm
    after_reads_simp
    pointwise [ofBits_neg_inf]
  split
  · refine Eq.trans ((congrFun (StableHlo.binary_result _ _ _ _ _ _ _ _) _).trans ?_) (if_pos (by omega)).symm
    after_reads_simp
    exact congrFun hB _
  · refine Eq.trans (b := (⊥ : EReal)) ((congrFun (StableHlo.unary_result _ _ _ _ _ _) _).trans ?_) (if_neg (by omega)).symm
    after_reads_simp
    pointwise [ofBits_neg_inf]

include hB in
theorem read_30 (h : Fin 16) (r : Fin 64) (x : Fin 768) :
    (StableHlo.upto line W 50 (Proc.devRef .tc main_v30) : FVec Ideal S16x64x768 .f32) (ix3 h r x)
      = if 192 ≤ x.val ∧ x.val < 768 then ((B h.val r.val (x.val - 192) : ℝ) : EReal) else ⊥ := by
  have key : ∀ A : FVec Ideal S16x64x576 .f32, A = chunk (W (Proc.devRef .tc main_arg1)) →
      ∀ D : FVec Ideal S16x64x192 .f32, D = (fun _ => ⊥) →
      concatenate S16x64x768 2 [⟨S16x64x192, D⟩, ⟨S16x64x576, A⟩] concatenates_S16x64x192_S16x64x576_S16x64x768_d2 (ix3 h r x)
        = if 192 ≤ x.val ∧ x.val < 768 then ((B h.val r.val (x.val - 192) : ℝ) : EReal) else ⊥ := by
    rintro A hA D rfl
    rw [hA, hB]
    have hx : x.val < 768 := x.isLt
    pointwise []
    split
    · rw [if_neg (by omega)]
    · rw [if_pos (by omega)]
  after_reads_simp
  exact key _ rfl _ (by funext i; pointwise [ofBits_neg_inf])

include hB in
/-- The tile: row `r` holds its chunk's bias from position `64 * (r / 64)` on, and the bottom element elsewhere. -/
theorem tile_read (h : Fin 16) (r : Fin 256) (x : Fin 768) :
    (StableHlo.after line W (Proc.devRef .tc main_v31) : FVec Ideal S16x256x768 .f32) (ix3 h r x)
      = if 64 * (r.val / 64) ≤ x.val ∧ x.val < 64 * (r.val / 64) + 576 then
          ((B h.val (r.val % 64) (x.val - 64 * (r.val / 64)) : ℝ) : EReal) else ⊥ := by
  after_reads_simp
  have hr : r.val < 256 := r.isLt
  have e := fun (T0 T1 T2 T3 : FVec Ideal S16x64x768 .f32) => (show concatenate S16x256x768 1
      [⟨S16x64x768, T0⟩, ⟨S16x64x768, T1⟩, ⟨S16x64x768, T2⟩, ⟨S16x64x768, T3⟩]
      concatenates_S16x64x768_S16x64x768_S16x64x768_S16x64x768_S16x256x768_d1 (ix3 h r x)
      = if k : r.val < 64 then T0 (ix3 h ⟨r.val, k⟩ x) else if k : r.val - 64 < 64 then T1 (ix3 h ⟨r.val - 64, k⟩ x)
        else if k : r.val - 64 - 64 < 64 then T2 (ix3 h ⟨r.val - 64 - 64, k⟩ x)
        else T3 (ix3 h ⟨r.val - 64 - 64 - 64, by omega⟩ x) by pointwise [])
  refine (e _ _ _ _).trans ?_
  by_cases k0 : r.val < 64
  · refine (dif_pos k0).trans ((read_21 W B hB h _ x).trans ?_)
    dsimp only
    rw [show r.val / 64 = 0 by omega, show r.val % 64 = r.val by omega]
  refine (dif_neg k0).trans ?_
  by_cases k1 : r.val - 64 < 64
  · refine (dif_pos k1).trans ((read_24 W B hB h _ x).trans ?_)
    dsimp only
    rw [show r.val / 64 = 1 by omega, show r.val % 64 = r.val - 64 by omega]
  refine (dif_neg k1).trans ?_
  by_cases k2 : r.val - 64 - 64 < 64
  · refine (dif_pos k2).trans ((read_27 W B hB h _ x).trans ?_)
    dsimp only
    rw [show r.val / 64 = 2 by omega, show r.val % 64 = r.val - 64 - 64 by omega]
  · refine (dif_neg k2).trans ((read_30 W B hB h _ x).trans ?_)
    dsimp only
    rw [show r.val / 64 = 3 by omega, show r.val % 64 = r.val - 64 - 64 - 64 by omega]

end Cert.AttnBwdIdeal.Hand
end
-- ==== Proof.AttnState.lean ====
/- Hand-written, untrusted: what the attention backward kernel holds after each grid point. -/
module

public import proofs.«01_k».proof.Proof.Gen.AttnBwdIdeal.Frame
public import proofs.«01_k».proof.Proof.AttnTile
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators
open Finset (range)

namespace Cert.AttnBwdIdeal.Hand

open Cert.AttnBwdIdeal Cert.AttnBwdIdeal.Gen Cert.Attn Cert.Reals

/-- Where each window stands at grid point `t`. -/
theorem idx_val : ∀ t : Fin cfg0.N, win0_0.index t = ![t.val / 8 % 2, t.val % 8, t.val / 16]
    ∧ win0_1.index t = ![t.val / 8 % 2, 0, 8 + t.val / 16]
    ∧ win0_2.index t = ![t.val / 8 % 2, 0, 16 + t.val / 16]
    ∧ win0_3.index t = ![t.val / 16, 0, 0]
    ∧ win0_4.index t = ![t.val / 8 % 2, t.val % 8, t.val / 16]
    ∧ win0_5.index t = ![t.val / 8 % 2, t.val % 8, t.val / 16]
    ∧ win0_6.index t = ![t.val / 8 % 2, 0, t.val / 16]
    ∧ win0_7.index t = ![t.val / 8 % 2, 0, t.val / 16]
    ∧ win0_8.index t = ![t.val / 16, 0, 0] :=
  (by decide +kernel : ∀ t : Fin grid0.N, _)

/-- The third grid coordinate: the block of queries. -/
theorem coord_val : ∀ t : Fin cfg0.N, (grid0.coords t 2).val = t.val % 8 :=
  (by decide +kernel : ∀ t : Fin grid0.N, _)

variable {m : (ℓ : Loc nD τ sig) → Buf (Elt Ideal) ℓ} {c : Dev nD} {X : Arrays}

/-- The launch contents are the reals of `X`. -/
structure Real (m : (ℓ : Loc nD τ sig) → Buf (Elt Ideal) ℓ) (c : Dev nD) (X : Arrays) : Prop where
  z : m ((c : Thread nD τ).loc main_arg0) = fun i : S2x2048x4096.Idx => ((X.z (i 0).val (i 1).val (i 2).val : ℝ) : EReal)
  ct : m ((c : Thread nD τ).loc main_arg2) = fun i : S2x2048x2048.Idx => ((X.ct (i 0).val (i 1).val (i 2).val : ℝ) : EReal)
  bias : chunk (m ((c : Thread nD τ).loc main_arg1)) = fun y => ((X.bias (y 0).val (y 1).val (y 2).val : ℝ) : EReal)

theorem blk_0 (R : Real m c X) (t : Fin cfg0.N) : iblk m c 0 t = qBlk X (t.val / 8 % 2) (t.val / 16) (t.val % 8) := by
  have hN : t.val < 128 := N_0 ▸ t.isLt
  funext y
  obtain ⟨y0, y1, y2, rfl⟩ : ∃ y0 y1 y2, y = ix3 y0 y1 y2 := ⟨y 0, y 1, y 2, eq_ix3 y⟩
  have h1 : y1.val < 256 := y1.isLt
  have h2 : y2.val < 128 := y2.isLt
  have e : iblk m c 0 t (ix3 y0 y1 y2) = V m c main_arg0 (ix3 ⟨t.val / 8 % 2, by omega⟩ ⟨256 * (t.val % 8) + y1.val, by omega⟩ ⟨128 * (t.val / 16) + y2.val, by omega⟩) := by
    blk_ext [iblk, idx_val t]
  rw [e, V_main_arg0, R.z]
  rfl

theorem blk_4 (R : Real m c X) (t : Fin cfg0.N) : iblk m c 4 t = cBlk X (t.val / 8 % 2) (t.val / 16) (t.val % 8) := by
  have hN : t.val < 128 := N_0 ▸ t.isLt
  funext y
  obtain ⟨y0, y1, y2, rfl⟩ : ∃ y0 y1 y2, y = ix3 y0 y1 y2 := ⟨y 0, y 1, y 2, eq_ix3 y⟩
  have h1 : y1.val < 256 := y1.isLt
  have h2 : y2.val < 128 := y2.isLt
  have e : iblk m c 4 t (ix3 y0 y1 y2) = V m c main_arg2 (ix3 ⟨t.val / 8 % 2, by omega⟩ ⟨256 * (t.val % 8) + y1.val, by omega⟩ ⟨128 * (t.val / 16) + y2.val, by omega⟩) := by
    blk_ext [iblk, idx_val t]
  rw [e, V_main_arg2, R.ct]
  rfl

theorem blk_1 (R : Real m c X) (t : Fin cfg0.N) (y0 : Fin 1) (y1 : Fin 2048) (y2 : Fin 128) :
    iblk m c 1 t (ix3 y0 y1 y2) = ((X.z (t.val / 8 % 2) y1.val (1024 + (128 * (t.val / 16) + y2.val)) : ℝ) : EReal) := by
  have hN : t.val < 128 := N_0 ▸ t.isLt
  have h2 : y2.val < 128 := y2.isLt
  have e : iblk m c 1 t (ix3 y0 y1 y2) = V m c main_arg0 (ix3 ⟨t.val / 8 % 2, by omega⟩ y1 ⟨1024 + (128 * (t.val / 16) + y2.val), by omega⟩) := by
    blk_ext [iblk, idx_val t]
  rw [e, V_main_arg0, R.z]
  rfl

theorem blk_2 (R : Real m c X) (t : Fin cfg0.N) (y0 : Fin 1) (y1 : Fin 2048) (y2 : Fin 128) :
    iblk m c 2 t (ix3 y0 y1 y2) = ((X.z (t.val / 8 % 2) y1.val (2048 + (128 * (t.val / 16) + y2.val)) : ℝ) : EReal) := by
  have hN : t.val < 128 := N_0 ▸ t.isLt
  have h2 : y2.val < 128 := y2.isLt
  have e : iblk m c 2 t (ix3 y0 y1 y2) = V m c main_arg0 (ix3 ⟨t.val / 8 % 2, by omega⟩ y1 ⟨2048 + (128 * (t.val / 16) + y2.val), by omega⟩) := by
    blk_ext [iblk, idx_val t]
  rw [e, V_main_arg0, R.z]
  rfl

theorem blk_3 (R : Real m c X) (t : Fin cfg0.N) : iblk m c 3 t = tile X (t.val / 16) := by
  have hN : t.val < 128 := N_0 ▸ t.isLt
  funext y
  obtain ⟨y0, y1, y2, rfl⟩ : ∃ y0 y1 y2, y = ix3 y0 y1 y2 := ⟨y 0, y 1, y 2, eq_ix3 y⟩
  have h0 : y0.val < 2 := y0.isLt
  have e : iblk m c 3 t (ix3 y0 y1 y2) = V m c main_v31 (ix3 ⟨2 * (t.val / 16) + y0.val, by omega⟩ y1 y2) := by
    blk_ext [iblk, idx_val t]
  rw [e]
  exact tile_read (fun b => m (c, b)) X.bias R.bias _ _ _

/-- The rows the point reads of the padded keys, and the lanes it adds to. -/
theorem off_val : ∀ t : Fin cfg0.N, k0_off1 (grid0.coords t) = ![256 * (t.val % 8), 0]
    ∧ k0_off2 (grid0.coords t) = ![0, 256 * (t.val % 8)] :=
  (by decide +kernel : ∀ t : Fin grid0.N, _)

section canon
variable {s : Shape} {e : EltTy} [∀ e, Nonempty (Elt Ideal e)] {off off' size : Fin s.rank → ℕ}

/-- Under the newest store its payload. -/
theorem canon_mem (inb : ∀ a, off a + size a ≤ s.size a) (w : (Rect.unit off size inb).shape.Idx → Elt Ideal e)
    (L : List (View.Piece (Elt Ideal) s e)) (y : s.Idx) (x : (Rect.unit off size inb).shape.Idx) (heq : off = off')
    (hx : ∀ a, (y a).val = off' a + (x a).val) :
    View.canon ((⟨Rect.unit off size inb, w⟩ : View.Piece (Elt Ideal) s e) :: L) y = w x := by
  subst heq
  have hy : (Rect.unit off size inb).emb x = y := funext fun a => Fin.ext (by
    show off a + 1 * (x a).val = (y a).val
    rw [hx a, Nat.one_mul])
  rw [← hy]
  exact View.canon_cons_emb _ w L x

/-- Off the newest store what was there. -/
theorem canon_out (inb : ∀ a, off a + size a ≤ s.size a) (w : (Rect.unit off size inb).shape.Idx → Elt Ideal e)
    (L : List (View.Piece (Elt Ideal) s e)) (y : s.Idx) (heq : off = off') (a : Fin s.rank)
    (ha : (y a).val < off' a ∨ off' a + size a ≤ (y a).val) :
    View.canon ((⟨Rect.unit off size inb, w⟩ : View.Piece (Elt Ideal) s e) :: L) y = View.canon L y := by
  subst heq
  refine View.canon_cons_of_not_mem _ L ?_
  rw [Rect.mem_set_unit]
  intro hm
  have := hm a
  omega

end canon

/-- The padded keys as stored: zeros over the first 512 rows, the head pair's keys below. -/
theorem keys_canon (R : Real m c X) (t : Fin cfg0.N) (h1 h2) :
    View.canon [(⟨Rect.unit (s := S2560x128) ![512, 0] ![2048, 128] h1, k0_pay7 (iblk m c 1 t)⟩ : View.Piece (Elt Ideal) S2560x128 .bf16),
      ⟨Rect.unit (s := S2560x128) ![0, 0] ![512, 128] h2, k0_pay6 (F := Ideal)⟩] = keys X (t.val / 8 % 2) (t.val / 16) := by
  funext y
  obtain ⟨p, l, rfl⟩ : ∃ p l, y = ix2 p l := ⟨y 0, y 1, eq_ix2 y⟩
  have hp : p.val < 2560 := p.isLt
  by_cases h : 512 ≤ p.val
  · rw [canon_mem _ _ _ _ (ix2 ⟨p.val - 512, by omega⟩ l) rfl (fun a => by
      fin_cases a
      · show p.val = 512 + (p.val - 512); omega
      · show l.val = 0 + l.val; omega)]
    refine Eq.trans (b := iblk m c 1 t (ix3 0 ⟨p.val - 512, by omega⟩ l)) ?_ ?_
    · pointwise [k0_pay7]
    · rw [blk_1 R]
      exact congrArg _ (if_pos h).symm
  · rw [canon_out _ _ _ _ rfl 0 (Or.inl (by show p.val < 512; omega)),
      canon_mem _ _ _ _ (ix2 ⟨p.val, by omega⟩ l) rfl (fun a => by
      fin_cases a
      · show p.val = 0 + p.val; omega
      · show l.val = 0 + l.val; omega)]
    refine Eq.trans (b := (((0 : ℝ) : ℝ) : EReal)) ?_ (congrArg _ (if_neg h).symm)
    pointwise [k0_pay6]
    exact EReal.coe_zero.symm

/-- The rows a point reads. -/
theorem ld_window (K : Vec Ideal S2560x128 .bf16) (t : Fin cfg0.N) (h) :
    View.ld K (Rect.unit (s := S2560x128) (k0_off1 (grid0.coords t)) ![768, 128] h) = window (t.val % 8) K (Nat.mod_lt _ (by decide)) := by
  funext y
  refine congrArg K (funext fun a => Fin.ext ?_)
  have e : k0_off1 (grid0.coords t) a + 1 * (y a).val = ![256 * (t.val % 8), 0] a + 1 * (y a).val :=
    congrArg (· + 1 * (y a).val) (congrFun (off_val t).1 a)
  refine Eq.trans e ?_
  fin_cases a
  · exact congrArg (256 * (t.val % 8) + ·) (Nat.one_mul _)
  · exact (Nat.zero_add _).trans (Nat.one_mul _)

/-- The values, stored likewise. -/
theorem vals_canon (R : Real m c X) (t : Fin cfg0.N) (h1 h2) :
    View.canon [(⟨Rect.unit (s := S2560x128) ![512, 0] ![2048, 128] h1, k0_pay9 (iblk m c 2 t)⟩ : View.Piece (Elt Ideal) S2560x128 .bf16),
      ⟨Rect.unit (s := S2560x128) ![0, 0] ![512, 128] h2, k0_pay8 (F := Ideal)⟩] = vals X (t.val / 8 % 2) (t.val / 16) := by
  funext y
  obtain ⟨p, l, rfl⟩ : ∃ p l, y = ix2 p l := ⟨y 0, y 1, eq_ix2 y⟩
  have hp : p.val < 2560 := p.isLt
  by_cases h : 512 ≤ p.val
  · rw [canon_mem _ _ _ _ (ix2 ⟨p.val - 512, by omega⟩ l) rfl (fun a => by
      fin_cases a
      · show p.val = 512 + (p.val - 512); omega
      · show l.val = 0 + l.val; omega)]
    refine Eq.trans (b := iblk m c 2 t (ix3 0 ⟨p.val - 512, by omega⟩ l)) ?_ ?_
    · pointwise [k0_pay9]
    · rw [blk_2 R]
      exact congrArg _ (if_pos h).symm
  · rw [canon_out _ _ _ _ rfl 0 (Or.inl (by show p.val < 512; omega)),
      canon_mem _ _ _ _ (ix2 ⟨p.val, by omega⟩ l) rfl (fun a => by
      fin_cases a
      · show p.val = 0 + p.val; omega
      · show l.val = 0 + l.val; omega)]
    refine Eq.trans (b := (((0 : ℝ) : ℝ) : EReal)) ?_ (congrArg _ (if_neg h).symm)
    pointwise [k0_pay8]
    exact EReal.coe_zero.symm

/-- The lanes a point adds to. -/
theorem ld_band (u : Vec Ideal S128x2560 .f32) (t : Fin cfg0.N) (h) (l : Fin 128) (x : Fin 768) :
    View.ld u (Rect.unit (s := S128x2560) (k0_off2 (grid0.coords t)) ![128, 768] h) (ix2 l x)
      = u (ix2 l ⟨256 * (t.val % 8) + x.val, by omega⟩) := by
  refine congrArg u (funext fun a => Fin.ext ?_)
  have e : k0_off2 (grid0.coords t) a + 1 * (ix2 l x a).val = ![0, 256 * (t.val % 8)] a + 1 * (ix2 l x a).val :=
    congrArg (· + 1 * (ix2 l x a).val) (congrFun (off_val t).2 a)
  refine Eq.trans e ?_
  fin_cases a
  · exact (Nat.zero_add _).trans (Nat.one_mul _)
  · exact congrArg (256 * (t.val % 8) + ·) (Nat.one_mul _)

/-- A sum over the queries seen so far, after a point added its own over its band of lanes: outside the band the
    point's queries see nothing. -/
theorem band_next (f : ℕ → ℕ → ℕ → ℝ) (hf : ∀ l n p, ¬ Sees n p → f l n p = 0) (qb : ℕ) (hqb : qb < 8) (u Y : Vec Ideal S128x2560 .f32)
    (hu : ∀ l p, u (ix2 l p) = ((∑ n ∈ range (256 * qb), f l.val n p.val : ℝ) : EReal))
    (hin : ∀ (l : Fin 128) (x : Fin 768), Y (ix2 l ⟨256 * qb + x.val, by omega⟩)
      = u (ix2 l ⟨256 * qb + x.val, by omega⟩) + ((∑ r ∈ range 256, f l.val (256 * qb + r) (256 * qb + x.val) : ℝ) : EReal))
    (hout : ∀ (l : Fin 128) (p : Fin 2560), p.val < 256 * qb ∨ 256 * qb + 768 ≤ p.val → Y (ix2 l p) = u (ix2 l p))
    (l : Fin 128) (p : Fin 2560) : Y (ix2 l p) = ((∑ n ∈ range (256 * (qb + 1)), f l.val n p.val : ℝ) : EReal) := by
  rw [Nat.mul_add, Nat.mul_one, Finset.sum_range_add]
  by_cases h : p.val < 256 * qb ∨ 256 * qb + 768 ≤ p.val
  · rw [hout l p h, hu, Finset.sum_eq_zero (s := range 256), add_zero]
    intro r hr
    have := Finset.mem_range.mp hr
    exact hf _ _ _ (fun hs => by unfold Sees at hs; omega)
  · have e : p = ⟨256 * qb + (⟨p.val - 256 * qb, by omega⟩ : Fin 768).val, by omega⟩ := Fin.ext (by show p.val = 256 * qb + (p.val - 256 * qb); omega)
    rw [e, hin, hu, ← EReal.coe_add]

/-- What the second scratch pair holds once a point has run: the padded keys and values of its sample and head pair. -/
theorem stored_keys (R : Real m c X) (t : Fin cfg0.N) :
    (outsAt0 m c t.val t.isLt).2.2.2.2.1 = keys X (t.val / 8 % 2) (t.val / 16) := by
  obtain ⟨n, hn⟩ := t
  induction n using Nat.strong_induction_on with
  | _ n ih =>
    have hN : n < 128 := N_0 ▸ hn
    by_cases h0 : n % 8 = 0
    · by_cases h1 : n % 16 = 0
      · rw [outsAt0_A m c ⟨n, hn⟩ h0 h1 (by show ¬ n % 8 = 7; omega)]
        frame_out
        exact keys_canon R _ _ _
      · rw [outsAt0_D m c ⟨n, hn⟩ h0 h1 (by show ¬ n % 8 = 7; omega)]
        frame_out
        exact keys_canon R _ _ _
    · have hp := ih (n - 1) (by omega) (Nat.lt_of_le_of_lt (Nat.sub_le _ _) hn)
      have e1 : (n - 1) / 8 % 2 = n / 8 % 2 := by omega
      have e2 : (n - 1) / 16 = n / 16 := by omega
      dsimp only at hp
      rw [e1, e2] at hp
      by_cases h2 : n % 8 = 7
      · rw [outsAt0_C m c ⟨n, hn⟩ h0 (by show ¬ n % 16 = 0; omega) h2]
        frame_out
        exact hp
      · rw [outsAt0_B m c ⟨n, hn⟩ h0 (by show ¬ n % 16 = 0; omega) h2]
        frame_out
        exact hp

/-- The values likewise. -/
theorem stored_vals (R : Real m c X) (t : Fin cfg0.N) :
    (outsAt0 m c t.val t.isLt).2.2.2.2.2.1 = vals X (t.val / 8 % 2) (t.val / 16) := by
  obtain ⟨n, hn⟩ := t
  induction n using Nat.strong_induction_on with
  | _ n ih =>
    have hN : n < 128 := N_0 ▸ hn
    by_cases h0 : n % 8 = 0
    · by_cases h1 : n % 16 = 0
      · rw [outsAt0_A m c ⟨n, hn⟩ h0 h1 (by show ¬ n % 8 = 7; omega)]
        frame_out
        exact vals_canon R _ _ _
      · rw [outsAt0_D m c ⟨n, hn⟩ h0 h1 (by show ¬ n % 8 = 7; omega)]
        frame_out
        exact vals_canon R _ _ _
    · have hp := ih (n - 1) (by omega) (Nat.lt_of_le_of_lt (Nat.sub_le _ _) hn)
      have e1 : (n - 1) / 8 % 2 = n / 8 % 2 := by omega
      have e2 : (n - 1) / 16 = n / 16 := by omega
      dsimp only at hp
      rw [e1, e2] at hp
      by_cases h2 : n % 8 = 7
      · rw [outsAt0_C m c ⟨n, hn⟩ h0 (by show ¬ n % 16 = 0; omega) h2]
        frame_out
        exact hp
      · rw [outsAt0_B m c ⟨n, hn⟩ h0 (by show ¬ n % 16 = 0; omega) h2]
        frame_out
        exact hp

end Cert.AttnBwdIdeal.Hand
end
-- ==== Proof.AttnSums.lean ====
/- Hand-written, untrusted: the sums the attention backward kernel carries from one grid point to the next. -/
module

public import proofs.«01_k».proof.Proof.Gen.AttnBwdIdeal.Frame
public import proofs.«01_k».proof.Proof.AttnState
public import Idealize.ShloMosaic.Lib.WritesUnit
public import Idealize.ShloMosaic.Lib.Pipeline.ReadBack
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators
open Finset (range)

namespace Cert.AttnBwdIdeal.Hand

open Cert.AttnBwdIdeal Cert.AttnBwdIdeal.Gen Cert.Attn Cert.Reals

variable {m : (ℓ : Loc nD τ sig) → Buf (Elt Ideal) ℓ} {c : Dev nD} {X : Arrays}

theorem msk_val (t : Fin cfg0.N) (x : Fin 768) :
    k0_pay16 (F := Ideal) (grid0.coords t) (ix2 0 x) = if 512 ≤ 256 * (t.val % 8) + x.val then 0 else ⊥ :=
  mask_eq (qb := t.val % 8) (grid0.coords t) (coord_val t) (Nat.mod_lt _ (by decide)) x

/-- What a point adds to the keys' gradients of its lanes. -/
theorem key_pay (R : Real m c X) (t : Fin cfg0.N) {K W : Vec Ideal S2560x128 .bf16} (hK : K = keys X (t.val / 8 % 2) (t.val / 16))
    (hW : W = vals X (t.val / 8 % 2) (t.val / 16)) (u : Vec Ideal S128x2560 .f32) (h1 h2 h3) (l : Fin 128) (x : Fin 768) :
    k0_pay2 (k0_pay17 (k0_pay13 (iblk m c 0 t)) k0_pay15)
        (k0_pay22 (View.ld K (Rect.unit (s := S2560x128) (k0_off1 (grid0.coords t)) ![768, 128] h1))
          (View.ld W (Rect.unit (s := S2560x128) (k0_off1 (grid0.coords t)) ![768, 128] h2))
          (k0_pay13 (iblk m c 0 t)) (k0_pay14 (iblk m c 4 t)) k0_pay15 (k0_pay16 (grid0.coords t)) (iblk m c 3 t))
        (View.ld u (Rect.unit (s := S128x2560) (k0_off2 (grid0.coords t)) ![128, 768] h3)) (ix2 l x)
      = u (ix2 l ⟨256 * (t.val % 8) + x.val, by omega⟩) + ((∑ r ∈ range 256, X.z (t.val / 8 % 2) (256 * (t.val % 8) + r)
          (64 * (2 * (t.val / 16) + l.val / 64) + l.val % 64) * (1 / 8)
          * dscore X (t.val / 8 % 2) (2 * (t.val / 16) + l.val / 64) (256 * (t.val % 8) + r) (256 * (t.val % 8) + x.val) : ℝ) : EReal) := by
  rw [hK, hW, blk_0 R, blk_3 R, blk_4 R]
  refine (congrArg₂ (fun K' W' => k0_pay2 (k0_pay17 (k0_pay13 (qBlk X _ _ _)) k0_pay15)
    (k0_pay22 K' W' (k0_pay13 (qBlk X _ _ _)) (k0_pay14 (cBlk X _ _ _)) k0_pay15 (k0_pay16 (grid0.coords t)) (tile X _)) _ (ix2 l x))
    (ld_window _ t _) (ld_window _ t _)).trans ?_
  rw [key_step X _ (msk_val t), ld_band]

/-- What a point adds to the values' gradients of its lanes. -/
theorem val_pay (R : Real m c X) (t : Fin cfg0.N) {K : Vec Ideal S2560x128 .bf16} (hK : K = keys X (t.val / 8 % 2) (t.val / 16))
    (u : Vec Ideal S128x2560 .f32) (h1 h3) (l : Fin 128) (x : Fin 768) :
    k0_pay3 (k0_pay18 (k0_pay14 (iblk m c 4 t)) k0_pay15)
        (k0_pay19 (View.ld K (Rect.unit (s := S2560x128) (k0_off1 (grid0.coords t)) ![768, 128] h1))
          (k0_pay13 (iblk m c 0 t)) k0_pay15 (k0_pay16 (grid0.coords t)) (iblk m c 3 t))
        (View.ld u (Rect.unit (s := S128x2560) (k0_off2 (grid0.coords t)) ![128, 768] h3)) (ix2 l x)
      = u (ix2 l ⟨256 * (t.val % 8) + x.val, by omega⟩) + ((∑ r ∈ range 256, X.ct (t.val / 8 % 2) (256 * (t.val % 8) + r)
          (64 * (2 * (t.val / 16) + l.val / 64) + l.val % 64)
          * prob X (t.val / 8 % 2) (2 * (t.val / 16) + l.val / 64) (256 * (t.val % 8) + r) (256 * (t.val % 8) + x.val) : ℝ) : EReal) := by
  rw [hK, blk_0 R, blk_3 R, blk_4 R]
  refine (congrArg (fun K' => k0_pay3 (k0_pay18 (k0_pay14 (cBlk X _ _ _)) k0_pay15)
    (k0_pay19 K' (k0_pay13 (qBlk X _ _ _)) k0_pay15 (k0_pay16 (grid0.coords t)) (tile X _)) _ (ix2 l x))
    (ld_window _ t _)).trans ?_
  rw [val_step X _ (msk_val t), ld_band]

/-- What a point adds to the bias tile's gradient. -/
theorem bias_pay (R : Real m c X) (t : Fin cfg0.N) {K W : Vec Ideal S2560x128 .bf16} (hK : K = keys X (t.val / 8 % 2) (t.val / 16))
    (hW : W = vals X (t.val / 8 % 2) (t.val / 16)) (u : Vec Ideal S2x256x768 .f32) (h1 h2) (a : Fin 2) (r : Fin 256) (x : Fin 768) :
    k0_pay21 (View.ld K (Rect.unit (s := S2560x128) (k0_off1 (grid0.coords t)) ![768, 128] h1))
          (View.ld W (Rect.unit (s := S2560x128) (k0_off1 (grid0.coords t)) ![768, 128] h2))
          (k0_pay13 (iblk m c 0 t)) (k0_pay14 (iblk m c 4 t)) k0_pay15 (k0_pay16 (grid0.coords t)) (iblk m c 3 t) u (ix3 a r x)
      = u (ix3 a r x) + ((dscore X (t.val / 8 % 2) (2 * (t.val / 16) + a.val) (256 * (t.val % 8) + r.val) (256 * (t.val % 8) + x.val) : ℝ) : EReal) := by
  rw [hK, hW, blk_0 R, blk_3 R, blk_4 R]
  refine (congrArg₂ (fun K' W' => k0_pay21 K' W' (k0_pay13 (qBlk X _ _ _)) (k0_pay14 (cBlk X _ _ _)) k0_pay15
    (k0_pay16 (grid0.coords t)) (tile X _) u (ix3 a r x)) (ld_window _ t _) (ld_window _ t _)).trans ?_
  rw [bias_step X _ (msk_val t)]

/-- The keys' gradients of one lane and position from one query. -/
abbrev keyTerm (X : Arrays) (t : Fin cfg0.N) (l n p : ℕ) : ℝ :=
  X.z (t.val / 8 % 2) n (64 * (2 * (t.val / 16) + l / 64) + l % 64) * (1 / 8) * dscore X (t.val / 8 % 2) (2 * (t.val / 16) + l / 64) n p

/-- The values' gradients of one lane and position from one query. -/
abbrev valTerm (X : Arrays) (t : Fin cfg0.N) (l n p : ℕ) : ℝ :=
  X.ct (t.val / 8 % 2) n (64 * (2 * (t.val / 16) + l / 64) + l % 64) * prob X (t.val / 8 % 2) (2 * (t.val / 16) + l / 64) n p

section band
variable (f : ℕ → ℕ → ℕ → ℝ) (hf : ∀ l n p, ¬ Sees n p → f l n p = 0) (t : Fin cfg0.N) (w : Vec Ideal S128x768 .f32) (h)

include hf

/-- A first point's store over cleared lanes. -/
theorem band_fresh (ht : t.val % 8 = 0) (Z : Vec Ideal S128x2560 .f32) (hZ : ∀ y, Z y = 0) (h')
    (hw : ∀ l x, w (ix2 l x) = Z (ix2 l ⟨256 * (t.val % 8) + x.val, by omega⟩)
      + ((∑ r ∈ range 256, f l.val (256 * (t.val % 8) + r) (256 * (t.val % 8) + x.val) : ℝ) : EReal)) (l : Fin 128) (p : Fin 2560) :
    View.canon [(⟨Rect.unit (s := S128x2560) (k0_off2 (grid0.coords t)) ![128, 768] h, w⟩ : View.Piece (Elt Ideal) S128x2560 .f32),
      ⟨Rect.unit (s := S128x2560) ![0, 0] ![128, 2560] h', Z⟩] (ix2 l p)
      = ((∑ n ∈ range (256 * (t.val % 8 + 1)), f l.val n p.val : ℝ) : EReal) := by
  refine band_next f hf (t.val % 8) (Nat.mod_lt _ (by decide)) Z _ (fun l p => ?_) (fun l x => ?_) (fun l p hp => ?_) l p
  · rw [hZ, ht, Nat.mul_zero, Finset.range_zero, Finset.sum_empty, EReal.coe_zero]
  · rw [canon_mem _ _ _ _ (ix2 l x) (off_val t).2 (fun a => by
      fin_cases a
      · show l.val = 0 + l.val; omega
      · rfl), hw]
  · rw [canon_out _ _ _ _ (off_val t).2 1 hp, canon_mem _ _ _ _ (ix2 l p) rfl (fun a => by
      fin_cases a
      · show l.val = 0 + l.val; omega
      · show p.val = 0 + p.val; omega)]

/-- A later point's store over what the point before left. -/
theorem band_carried {sp : Space} (v : View sig .tc sp S128x2560 .f32) (ty : v.ty.Contents (Elt Ideal)) (u : Vec Ideal S128x2560 .f32)
    (hu : v.read (Elt Ideal) ty = u)
    (hsum : ∀ l p, u (ix2 l p) = ((∑ n ∈ range (256 * (t.val % 8)), f l.val n p.val : ℝ) : EReal))
    (hw : ∀ l x, w (ix2 l x) = u (ix2 l ⟨256 * (t.val % 8) + x.val, by omega⟩)
      + ((∑ r ∈ range 256, f l.val (256 * (t.val % 8) + r) (256 * (t.val % 8) + x.val) : ℝ) : EReal)) (l : Fin 128) (p : Fin 2560) :
    v.read (Elt Ideal) (v.writes (Elt Ideal) ty
      [(⟨Rect.unit (s := S128x2560) (k0_off2 (grid0.coords t)) ![128, 768] h, w⟩ : View.Piece (Elt Ideal) S128x2560 .f32)]) (ix2 l p)
      = ((∑ n ∈ range (256 * (t.val % 8 + 1)), f l.val n p.val : ℝ) : EReal) := by
  refine band_next f hf (t.val % 8) (Nat.mod_lt _ (by decide)) u _ hsum (fun l x => ?_) (fun l p hp => ?_) l p
  · rw [View.read_writes_cons_unit_of_mem _ _ _ _ _ _ (ix2 l x) (off_val t).2 (fun a => by
      fin_cases a
      · show l.val = 0 + l.val; omega
      · rfl), hw]
  · rw [View.read_writes_cons_unit_of_not_mem _ _ _ _ _ _ (off_val t).2 1 hp]
    exact congrFun hu _

end band

theorem keyTerm_unseen (t : Fin cfg0.N) (l n p : ℕ) (h : ¬ Sees n p) : keyTerm X t l n p = 0 := by
  rw [keyTerm, dscore_unseen X h, mul_zero]

theorem valTerm_unseen (t : Fin cfg0.N) (l n p : ℕ) (h : ¬ Sees n p) : valTerm X t l n p = 0 := by
  rw [valTerm, prob_unseen X h, mul_zero]

/-- The point before, where a point is not the first of its sample and head pair. -/
def prev (t : Fin cfg0.N) : Fin cfg0.N := ⟨t.val - 1, Nat.lt_of_le_of_lt (Nat.sub_le _ _) t.isLt⟩

theorem prev_val {t : Fin cfg0.N} (h0 : ¬ t.val % 8 = 0) :
    (prev t).val / 8 % 2 = t.val / 8 % 2 ∧ (prev t).val / 16 = t.val / 16 ∧ (prev t).val % 8 + 1 = t.val % 8 := by
  have : (prev t).val = t.val - 1 := rfl
  omega

theorem prev_keys (R : Real m c X) {t : Fin cfg0.N} (h0 : ¬ t.val % 8 = 0) :
    (outsAt0 m c (t.val - 1) (Nat.lt_of_le_of_lt (Nat.sub_le _ _) t.isLt)).2.2.2.2.1 = keys X (t.val / 8 % 2) (t.val / 16) := by
  rw [← (prev_val h0).1, ← (prev_val h0).2.1]; exact stored_keys R (prev t)

theorem prev_vals (R : Real m c X) {t : Fin cfg0.N} (h0 : ¬ t.val % 8 = 0) :
    (outsAt0 m c (t.val - 1) (Nat.lt_of_le_of_lt (Nat.sub_le _ _) t.isLt)).2.2.2.2.2.1 = vals X (t.val / 8 % 2) (t.val / 16) := by
  rw [← (prev_val h0).1, ← (prev_val h0).2.1]; exact stored_vals R (prev t)

theorem keyTerm_prev {t : Fin cfg0.N} (h0 : ¬ t.val % 8 = 0) : keyTerm X (prev t) = keyTerm X t := by
  funext l n p
  unfold keyTerm
  rw [(prev_val h0).1, (prev_val h0).2.1]

theorem valTerm_prev {t : Fin cfg0.N} (h0 : ¬ t.val % 8 = 0) : valTerm X (prev t) = valTerm X t := by
  funext l n p
  unfold valTerm
  rw [(prev_val h0).1, (prev_val h0).2.1]

/-- The keys' gradients after a point, from every query of the sample so far. -/
theorem sums_key (R : Real m c X) (t : Fin cfg0.N) (l : Fin 128) (p : Fin 2560) :
    (outsAt0 m c t.val t.isLt).2.2.2.2.2.2.1 (ix2 l p)
      = ((∑ n ∈ range (256 * (t.val % 8 + 1)), keyTerm X t l.val n p.val : ℝ) : EReal) := by
  obtain ⟨k, hk⟩ : ∃ k, t.val = k := ⟨_, rfl⟩
  induction k using Nat.strong_induction_on generalizing t l p with
  | _ k ih =>
    by_cases h0 : t.val % 8 = 0
    · by_cases h1 : t.val % 16 = 0
      · rw [outsAt0_A m c t h0 h1 (by omega)]
        frame_out
        exact band_fresh _ (keyTerm_unseen t) t _ _ h0 _ (fun y => by pointwise [k0_pay10]) _
          (key_pay R t (keys_canon R t _ _) (vals_canon R t _ _) _ _ _ _) l p
      · rw [outsAt0_D m c t h0 h1 (by omega)]
        frame_out
        exact band_fresh _ (keyTerm_unseen t) t _ _ h0 _ (fun y => by pointwise [k0_pay10]) _
          (key_pay R t (keys_canon R t _ _) (vals_canon R t _ _) _ _ _ _) l p
    · have hp : ∀ l p, (outsAt0 m c (t.val - 1) (Nat.lt_of_le_of_lt (Nat.sub_le _ _) t.isLt)).2.2.2.2.2.2.1 (ix2 l p)
          = ((∑ n ∈ range (256 * (t.val % 8)), keyTerm X t l.val n p.val : ℝ) : EReal) := fun l p => by
        have := ih (t.val - 1) (by omega) (prev t) l p rfl
        rw [keyTerm_prev h0, (prev_val h0).2.2] at this
        exact this
      by_cases h2 : t.val % 8 = 7
      · rw [outsAt0_C m c t h0 (by omega) h2]
        frame_out
        simp only [read_unread_whole]
        exact band_carried _ (keyTerm_unseen t) t _ _ _ _ _ (read_unread_whole _ _ _) hp
          (key_pay R t (prev_keys R h0) (prev_vals R h0) _ _ _ _) l p
      · rw [outsAt0_B m c t h0 (by omega) h2]
        frame_out
        simp only [read_unread_whole]
        exact band_carried _ (keyTerm_unseen t) t _ _ _ _ _ (read_unread_whole _ _ _) hp
          (key_pay R t (prev_keys R h0) (prev_vals R h0) _ _ _ _) l p

/-- The values' gradients after a point, likewise. -/
theorem sums_val (R : Real m c X) (t : Fin cfg0.N) (l : Fin 128) (p : Fin 2560) :
    (outsAt0 m c t.val t.isLt).2.2.2.2.2.2.2 (ix2 l p)
      = ((∑ n ∈ range (256 * (t.val % 8 + 1)), valTerm X t l.val n p.val : ℝ) : EReal) := by
  obtain ⟨k, hk⟩ : ∃ k, t.val = k := ⟨_, rfl⟩
  induction k using Nat.strong_induction_on generalizing t l p with
  | _ k ih =>
    by_cases h0 : t.val % 8 = 0
    · by_cases h1 : t.val % 16 = 0
      · rw [outsAt0_A m c t h0 h1 (by omega)]
        frame_out
        exact band_fresh _ (valTerm_unseen t) t _ _ h0 _ (fun y => by pointwise [k0_pay11]) _
          (val_pay R t (keys_canon R t _ _) _ _ _) l p
      · rw [outsAt0_D m c t h0 h1 (by omega)]
        frame_out
        exact band_fresh _ (valTerm_unseen t) t _ _ h0 _ (fun y => by pointwise [k0_pay11]) _
          (val_pay R t (keys_canon R t _ _) _ _ _) l p
    · have hp : ∀ l p, (outsAt0 m c (t.val - 1) (Nat.lt_of_le_of_lt (Nat.sub_le _ _) t.isLt)).2.2.2.2.2.2.2 (ix2 l p)
          = ((∑ n ∈ range (256 * (t.val % 8)), valTerm X t l.val n p.val : ℝ) : EReal) := fun l p => by
        have := ih (t.val - 1) (by omega) (prev t) l p rfl
        rw [valTerm_prev h0, (prev_val h0).2.2] at this
        exact this
      by_cases h2 : t.val % 8 = 7
      · rw [outsAt0_C m c t h0 (by omega) h2]
        frame_out
        simp only [read_unread_whole]
        exact band_carried _ (valTerm_unseen t) t _ _ _ _ _ (read_unread_whole _ _ _) hp
          (val_pay R t (prev_keys R h0) _ _ _) l p
      · rw [outsAt0_B m c t h0 (by omega) h2]
        frame_out
        simp only [read_unread_whole]
        exact band_carried _ (valTerm_unseen t) t _ _ _ _ _ (read_unread_whole _ _ _) hp
          (val_pay R t (prev_keys R h0) _ _ _) l p

/-- The bias tile's gradient after a point: both samples' chunks of the head pair so far. -/
theorem sums_bias (R : Real m c X) (t : Fin cfg0.N) (a : Fin 2) (r : Fin 256) (x : Fin 768) :
    (outsAt0 m c t.val t.isLt).2.2.2.1 (ix3 a r x)
      = ((∑ s ∈ range (t.val % 16 + 1), dscore X (s / 8) (2 * (t.val / 16) + a.val) (256 * (s % 8) + r.val) (256 * (s % 8) + x.val) : ℝ) : EReal) := by
  obtain ⟨k, hk⟩ : ∃ k, t.val = k := ⟨_, rfl⟩
  induction k using Nat.strong_induction_on generalizing t with
  | _ k ih =>
    rw [Finset.sum_range_succ, EReal.coe_add, show t.val % 16 / 8 = t.val / 8 % 2 by omega, show t.val % 16 % 8 = t.val % 8 by omega]
    by_cases h1 : t.val % 16 = 0
    · rw [outsAt0_A m c t (by omega) h1 (by omega)]
      frame_out
      refine (bias_pay R t (keys_canon R t _ _) (vals_canon R t _ _) _ _ _ a r x).trans (congrArg (· + _) ?_)
      rw [h1, Finset.range_zero, Finset.sum_empty, EReal.coe_zero]
      pointwise [k0_pay12]
    · have hp : (outsAt0 m c (t.val - 1) (Nat.lt_of_le_of_lt (Nat.sub_le _ _) t.isLt)).2.2.2.1 (ix3 a r x)
          = ((∑ s ∈ range (t.val % 16), dscore X (s / 8) (2 * (t.val / 16) + a.val) (256 * (s % 8) + r.val) (256 * (s % 8) + x.val) : ℝ) : EReal) := by
        have := ih (t.val - 1) (by omega) (prev t) rfl
        rw [show (prev t).val % 16 + 1 = t.val % 16 by have : (prev t).val = t.val - 1 := rfl; omega,
          show (prev t).val / 16 = t.val / 16 by have : (prev t).val = t.val - 1 := rfl; omega] at this
        exact this
      by_cases h0 : t.val % 8 = 0
      · rw [outsAt0_D m c t h0 h1 (by omega)]
        frame_out
        exact (bias_pay R t (keys_canon R t _ _) (vals_canon R t _ _) _ _ _ a r x).trans (congrArg (· + _) hp)
      · by_cases h2 : t.val % 8 = 7
        · rw [outsAt0_C m c t h0 h1 h2]
          frame_out
          simp only [read_unread_whole]
          exact (bias_pay R t (prev_keys R h0) (prev_vals R h0) _ _ _ a r x).trans (congrArg (· + _) hp)
        · rw [outsAt0_B m c t h0 h1 h2]
          frame_out
          simp only [read_unread_whole]
          exact (bias_pay R t (prev_keys R h0) (prev_vals R h0) _ _ _ a r x).trans (congrArg (· + _) hp)

/-- The queries' gradients a point writes. -/
theorem query_pay (R : Real m c X) (t : Fin cfg0.N) {K W : Vec Ideal S2560x128 .bf16} (hK : K = keys X (t.val / 8 % 2) (t.val / 16))
    (hW : W = vals X (t.val / 8 % 2) (t.val / 16)) (h1 h2 h3 h4) (y : S1x256x128.Idx) :
    k0_pay1 k0_pay15
      (k0_pay23 (View.ld K (Rect.unit (s := S2560x128) (k0_off1 (grid0.coords t)) ![768, 128] h1))
          (View.ld W (Rect.unit (s := S2560x128) (k0_off1 (grid0.coords t)) ![768, 128] h2))
          (k0_pay13 (iblk m c 0 t)) (k0_pay14 (iblk m c 4 t)) k0_pay15 (k0_pay16 (grid0.coords t)) (iblk m c 3 t))
      (k0_pay24 (View.ld K (Rect.unit (s := S2560x128) (k0_off1 (grid0.coords t)) ![768, 128] h3))
          (View.ld W (Rect.unit (s := S2560x128) (k0_off1 (grid0.coords t)) ![768, 128] h4))
          (k0_pay13 (iblk m c 0 t)) (k0_pay14 (iblk m c 4 t)) k0_pay15 (k0_pay16 (grid0.coords t)) (iblk m c 3 t)) y
      = ((dquery X (t.val / 8 % 2) (2 * (t.val / 16) + (y 2).val / 64) (256 * (t.val % 8) + (y 1).val) ((y 2).val % 64) : ℝ) : EReal) := by
  rw [hK, hW, blk_0 R, blk_3 R, blk_4 R]
  refine (congrArg₂ (fun K' W' => k0_pay1 k0_pay15
    (k0_pay23 K' W' (k0_pay13 (qBlk X _ _ _)) (k0_pay14 (cBlk X _ _ _)) k0_pay15 (k0_pay16 (grid0.coords t)) (tile X _))
    (k0_pay24 K' W' (k0_pay13 (qBlk X _ _ _)) (k0_pay14 (cBlk X _ _ _)) k0_pay15 (k0_pay16 (grid0.coords t)) (tile X _)) y)
    (ld_window _ t _) (ld_window _ t _)).trans ?_
  exact query_eq X _ (msk_val t) y

theorem left_query (R : Real m c X) (t : Fin cfg0.N) (y : S1x256x128.Idx) : (outsAt0 m c t.val t.isLt).1 y
    = ((dquery X (t.val / 8 % 2) (2 * (t.val / 16) + (y 2).val / 64) (256 * (t.val % 8) + (y 1).val) ((y 2).val % 64) : ℝ) : EReal) := by
  by_cases h0 : t.val % 8 = 0
  · by_cases h1 : t.val % 16 = 0
    · rw [outsAt0_A m c t h0 h1 (by omega)]
      frame_out
      exact query_pay R t (keys_canon R t _ _) (vals_canon R t _ _) _ _ _ _ y
    · rw [outsAt0_D m c t h0 h1 (by omega)]
      frame_out
      exact query_pay R t (keys_canon R t _ _) (vals_canon R t _ _) _ _ _ _ y
  · by_cases h2 : t.val % 8 = 7
    · rw [outsAt0_C m c t h0 (by omega) h2]
      frame_out
      simp only [read_unread_whole]
      exact query_pay R t (prev_keys R h0) (prev_vals R h0) _ _ _ _ y
    · rw [outsAt0_B m c t h0 (by omega) h2]
      frame_out
      simp only [read_unread_whole]
      exact query_pay R t (prev_keys R h0) (prev_vals R h0) _ _ _ _ y

/-- The keys' gradients written at a sample's last point: the sums past the padding. -/
theorem left_key (R : Real m c X) (t : Fin cfg0.N) (h2 : t.val % 8 = 7) (y : S1x2048x128.Idx) : (outsAt0 m c t.val t.isLt).2.1 y
    = ((dkey X (t.val / 8 % 2) (2 * (t.val / 16) + (y 2).val / 64) 2048 (512 + (y 1).val) ((y 2).val % 64) : ℝ) : EReal) := by
  have hy : (y 1).val < 2048 := (y 1).isLt
  refine Eq.trans (b := (outsAt0 m c t.val t.isLt).2.2.2.2.2.2.1 (ix2 (y 2) ⟨512 + (y 1).val, by omega⟩)) ?_ ?_
  · rw [outsAt0_C m c t (by omega) (by omega) h2]
    frame_out
    pointwise [k0_pay4]
  · refine (sums_key R t _ _).trans ?_
    rw [h2]
    rfl

/-- The values' gradients likewise. -/
theorem left_val (R : Real m c X) (t : Fin cfg0.N) (h2 : t.val % 8 = 7) (y : S1x2048x128.Idx) : (outsAt0 m c t.val t.isLt).2.2.1 y
    = ((dval X (t.val / 8 % 2) (2 * (t.val / 16) + (y 2).val / 64) 2048 (512 + (y 1).val) ((y 2).val % 64) : ℝ) : EReal) := by
  have hy : (y 1).val < 2048 := (y 1).isLt
  refine Eq.trans (b := (outsAt0 m c t.val t.isLt).2.2.2.2.2.2.2 (ix2 (y 2) ⟨512 + (y 1).val, by omega⟩)) ?_ ?_
  · rw [outsAt0_C m c t (by omega) (by omega) h2]
    frame_out
    pointwise [k0_pay5]
  · refine (sums_val R t _ _).trans ?_
    rw [h2]
    rfl

end Cert.AttnBwdIdeal.Hand
end
-- ==== Proof.AttnFinal.lean ====
/- Hand-written, untrusted: the arrays the attention backward kernel ends with. -/
module

public import proofs.«01_k».proof.Proof.Gen.AttnBwdIdeal.Frame
public import proofs.«01_k».proof.Proof.AttnSums
public import Idealize.ShloMosaic.Lib.Pipeline.ValueKit.Partial
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators
open Finset (range)

namespace Cert.AttnBwdIdeal.Hand

open Cert.AttnBwdIdeal Cert.AttnBwdIdeal.Gen Cert.Attn Cert.Reals

variable {m : (ℓ : Loc nD τ sig) → Buf (Elt Ideal) ℓ} {c : Dev nD} {X : Arrays}

/-- The queries' gradients, in the first 1024 columns. -/
theorem final_5 (R : Real m c X) : (dats m 0 c).arrAt 5 (cfgs 0).N = fun i : S2x2048x4096.Idx =>
    if (i 2).val / 128 < 8 then ((dquery X (i 0).val ((i 2).val / 64) (i 1).val ((i 2).val % 64) : ℝ) : EReal)
    else V m c main_v32_0 i := by
  refine (dats m 0 c).arrAt_eq_of_coversWhere 5 _ (fun β => β (2 : Fin _) < 8) (by decide +kernel)
          (fun t hf y => ?_) (fun j => Iff.rfl)
  have hN : t.val < 128 := N_0 ▸ t.isLt
  blk_simp
  rw [after0_5]
  rw [(idx_val t).2.2.2.2.2.1]
  have h1 : (y 1).val < 256 := (y 1).isLt
  have h2 : (y 2).val < 128 := (y 2).isLt
  refine (left_query R t y).trans ?_
  show _ = ((dquery X (t.val / 8 % 2) ((t.val / 16 * 128 + (y 2).val) / 64) (t.val % 8 * 256 + (y 1).val)
    ((t.val / 16 * 128 + (y 2).val) % 64) : ℝ) : EReal)
  congr 2 <;> omega

/-- The keys' gradients. -/
theorem final_6 (R : Real m c X) : (dats m 0 c).arrAt 6 (cfgs 0).N = fun i : S2x2048x1024.Idx =>
    ((dkey X (i 0).val ((i 2).val / 64) 2048 (512 + (i 1).val) ((i 2).val % 64) : ℝ) : EReal) := by
  refine (dats m 0 c).arrAt_eq_of_covers 6 _ (by decide +kernel) fun t hf y => ?_
  have hN : t.val < 128 := N_0 ▸ t.isLt
  blk_simp
  rw [after0_6]
  rw [(idx_val t).2.2.2.2.2.2.1]
  have h2 : (y 2).val < 128 := (y 2).isLt
  refine (left_key R t ((flush0_6 t).mp hf) y).trans ?_
  show _ = ((dkey X (t.val / 8 % 2) ((t.val / 16 * 128 + (y 2).val) / 64) 2048 (512 + (0 * 2048 + (y 1).val))
    ((t.val / 16 * 128 + (y 2).val) % 64) : ℝ) : EReal)
  congr 2 <;> omega

/-- The values' gradients. -/
theorem final_7 (R : Real m c X) : (dats m 0 c).arrAt 7 (cfgs 0).N = fun i : S2x2048x1024.Idx =>
    ((dval X (i 0).val ((i 2).val / 64) 2048 (512 + (i 1).val) ((i 2).val % 64) : ℝ) : EReal) := by
  refine (dats m 0 c).arrAt_eq_of_covers 7 _ (by decide +kernel) fun t hf y => ?_
  have hN : t.val < 128 := N_0 ▸ t.isLt
  blk_simp
  rw [after0_7]
  rw [(idx_val t).2.2.2.2.2.2.2.1]
  have h2 : (y 2).val < 128 := (y 2).isLt
  refine (left_val R t ((flush0_7 t).mp hf) y).trans ?_
  show _ = ((dval X (t.val / 8 % 2) ((t.val / 16 * 128 + (y 2).val) / 64) 2048 (512 + (0 * 2048 + (y 1).val))
    ((t.val / 16 * 128 + (y 2).val) % 64) : ℝ) : EReal)
  congr 2 <;> omega

/-- The gradients at the bias tiles: of both samples and all eight blocks of queries. -/
theorem final_8 (R : Real m c X) : (dats m 0 c).arrAt 8 (cfgs 0).N = fun i : S16x256x768.Idx =>
    ((∑ s ∈ range 16, dscore X (s / 8) (i 0).val (256 * (s % 8) + (i 1).val) (256 * (s % 8) + (i 2).val) : ℝ) : EReal) := by
  refine (dats m 0 c).arrAt_eq_of_covers 8 _ (by decide +kernel) fun t hf y => ?_
  have hN : t.val < 128 := N_0 ▸ t.isLt
  blk_simp
  rw [after0_8]
  rw [(idx_val t).2.2.2.2.2.2.2.2]
  have h15 := (flush0_8 t).mp hf
  obtain ⟨a, r, x, rfl⟩ : ∃ (a : Fin 2) (r : Fin 256) (x : Fin 768), y = ix3 a r x := ⟨y 0, y 1, y 2, eq_ix3 y⟩
  refine (sums_bias R t a r x).trans ?_
  rw [h15]
  show _ = ((∑ s ∈ range 16, dscore X (s / 8) (t.val / 16 * 2 + a.val) (256 * (s % 8) + (0 * 256 + r.val))
    (256 * (s % 8) + (0 * 768 + x.val)) : ℝ) : EReal)
  refine congrArg _ (Finset.sum_congr rfl fun s _ => ?_)
  congr 1 <;> omega

/-- An output's array as the lines after the region find it. -/
theorem out_read (w : Fin cfg0.W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  Pipeline.withArrays_arr_shared _ c _ _ ((dats m 0 c).arrAt_sharedIn sharedIn0 (V0 m c) (A_eq m c) _) w

/-- The gradient at a chunk's bias tile: of every chunk of queries of both samples. -/
def dbias (X : Arrays) (h u j : ℕ) : ℝ := ∑ b ∈ range 2, ∑ n ∈ range 32, dscore X b h (64 * n + u) (64 * n + j)

/-- Four chunks of each of sixteen blocks are all chunks of both samples. -/
theorem chunks_sum (f : ℕ → ℕ → ℝ) : (∑ s ∈ range 16, f (s / 8) (4 * (s % 8) + 0)) + (∑ s ∈ range 16, f (s / 8) (4 * (s % 8) + 1))
    + (∑ s ∈ range 16, f (s / 8) (4 * (s % 8) + 2)) + (∑ s ∈ range 16, f (s / 8) (4 * (s % 8) + 3))
    = ∑ b ∈ range 2, ∑ n ∈ range 32, f b n := by
  simp only [Finset.sum_range_succ, Finset.sum_range_zero, Nat.reduceDiv, Nat.reduceMod, Nat.reduceMul, Nat.reduceAdd]
  ring

/-- The first result: the queries' columns. -/
theorem tail_42 (R : Real m c X) : Pipeline.afterTail₀ cfgs (dats m) 0 (V0 m) [hostOps1] c main_v42
    = fun i : S2x2048x1024.Idx => ((dquery X (i 0).val ((i 2).val / 64) (i 1).val ((i 2).val % 64) : ℝ) : EReal) := by
  unfold Pipeline.afterTail₀
  simp only [List.flatten_cons, List.flatten_nil, List.append_nil]
  after_reads_simp
  refine (congrArg (fun A => extractStridedSlice S2x2048x1024 ![0, 0, 0] A slices_S2x2048x4096_S2x2048x1024_0_0_0)
    ((out_read 5).trans (final_5 R))).trans ?_
  funext i
  obtain ⟨b, n, l, rfl⟩ : ∃ (b : Fin 2) (n : Fin 2048) (l : Fin 1024), i = ix3 b n l := ⟨i 0, i 1, i 2, eq_ix3 i⟩
  have hl : l.val < 1024 := l.isLt
  pointwise
  rw [if_pos (by omega)]

/-- The last result: the four chunks of each tile, added. -/
theorem tail_41 (R : Real m c X) : Pipeline.afterTail₀ cfgs (dats m) 0 (V0 m) [hostOps1] c main_v41
    = fun i : S16x64x576.Idx => ((dbias X (i 0).val (i 1).val (i 2).val : ℝ) : EReal) := by
  unfold Pipeline.afterTail₀
  simp only [List.flatten_cons, List.flatten_nil, List.append_nil]
  after_reads_simp
  have key : ∀ A, A = (dats m 0 c).arrAt 8 (cfgs 0).N → addf
      (addf
        (addf
          (addf (broadcastInDim S16x64x576 ![] bcast_S_S16x64x576 (constant (F := Ideal) S_ FTy.f32 0#32))
            (extractStridedSlice S16x64x576 ![0, 0, 0] A slices_S16x256x768_S16x64x576_0_0_0))
          (extractStridedSlice S16x64x576 ![0, 64, 64] A slices_S16x256x768_S16x64x576_0_64_64))
        (extractStridedSlice S16x64x576 ![0, 128, 128] A slices_S16x256x768_S16x64x576_0_128_128))
      (extractStridedSlice S16x64x576 ![0, 192, 192] A slices_S16x256x768_S16x64x576_0_192_192)
      = fun i : S16x64x576.Idx => ((dbias X (i 0).val (i 1).val (i 2).val : ℝ) : EReal) := by
    intro A hA
    rw [hA, final_8 R]
    funext i
    obtain ⟨h, u, j, rfl⟩ : ∃ (h : Fin 16) (u : Fin 64) (j : Fin 576), i = ix3 h u j := ⟨i 0, i 1, i 2, eq_ix3 i⟩
    pointwise
    simp only [← EReal.coe_add]
    refine congrArg _ (Eq.trans ?_ (chunks_sum fun b n => dscore X b h.val (64 * n + u.val) (64 * n + j.val)))
    refine congrArg₂ (· + ·) (congrArg₂ (· + ·) (congrArg₂ (· + ·) ?_ ?_) ?_) ?_ <;>
      refine Finset.sum_congr rfl fun s _ => ?_ <;> congr 1 <;> omega
  exact key _ (out_read 8)

set_option backward.isDefEq.respectTransparency.types false in
/-- What the kernel's run leaves in its results, on every device. -/
theorem kernel_run (m : (ℓ : Loc nD τ sig) → Buf (Elt Ideal) ℓ) (g : Dev nD → PrngReg) (X : Dev nD → Arrays) (R : ∀ c, Real m c (X c)) :
    θ_run (defs (F := Ideal)) (onTc (τ := τ) (main (F := Ideal))) ⟨m, fun _ => 0, g⟩ (fun r => ∀ c : Dev nD,
      r.2.mem ((c.tc : Thread nD τ).loc main_v42) = (fun i : S2x2048x1024.Idx => ((dquery (X c) (i 0).val ((i 2).val / 64) (i 1).val ((i 2).val % 64) : ℝ) : EReal))
      ∧ r.2.mem ((c.tc : Thread nD τ).loc main_v32_1) = (fun i : S2x2048x1024.Idx => ((dkey (X c) (i 0).val ((i 2).val / 64) 2048 (512 + (i 1).val) ((i 2).val % 64) : ℝ) : EReal))
      ∧ r.2.mem ((c.tc : Thread nD τ).loc main_v32_2) = (fun i : S2x2048x1024.Idx => ((dval (X c) (i 0).val ((i 2).val / 64) 2048 (512 + (i 1).val) ((i 2).val % 64) : ℝ) : EReal))
      ∧ r.2.mem ((c.tc : Thread nD τ).loc main_v41) = (fun i : S16x64x576.Idx => ((dbias (X c) (i 0).val (i 1).val (i 2).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h.1 c).2 main_v42 (Pipeline.mem_restRefs_of main_v42 (by decide) (by decide))).trans (tail_42 (R c)),
      ((h.1 c).1 6).trans (final_6 (R c)), ((h.1 c).1 7).trans (final_7 (R c)),
      ((h.1 c).2 main_v41 (Pipeline.mem_restRefs_of main_v41 (by decide) (by decide))).trans (tail_41 (R c)),
      h.2 c⟩) (θ_run_and (run_main m g) (unchanged m g))

end Cert.AttnBwdIdeal.Hand
end
-- ==== Proof.AttnRef.lean ====
/- Hand-written, untrusted: the plain attention at one place. -/
module

public import proofs.«01_k».proof.Proof.AttnMath
public import proofs.«01_k».proof.Proof.Softmax
public import proofs.«01_k».proof.Proof.Gen.AttnGradIdeal.Read
public import Idealize.ShloMosaic.Lib.Claim
public import Idealize.ShloMosaic.Lib.WordCmp
public import Idealize.ShloMosaic.Lib.Pipeline.ValueKit

@[expose] public section

set_option maxRecDepth 16384

noncomputable section

namespace Cert.AttnGradIdeal.Hand

open Idealize.ShloMosaic Idealize.ShloMosaic.TcCoe Idealize.SL.Sem
open scoped BigOperators
open Finset (range)
open Cert.AttnGradIdeal Cert.AttnGradIdeal.Read Cert.Attn Cert.Reals

variable (X : Arrays) {x0 : Vec Ideal S2x2048x4096 .f32} {x1 : Vec Ideal S16x257 .f32} {x2 : Vec Ideal S2x2048x2048 .bf16}
  (hz : x0 = fun i => ((X.z (i 0).val (i 1).val (i 2).val : ℝ) : EReal))
  (hb : val_main_v21 (F := Ideal) x1 = fun i => ((X.bias (i 0).val (i 1).val (i 2).val : ℝ) : EReal))
  (hc : x2 = fun i => ((X.ct (i 0).val (i 1).val (i 2).val : ℝ) : EReal))

include hz in
/-- The padded keys. -/
theorem padded_key (b : Fin 2) (p : Fin 2560) (h : Fin 16) (l : Fin 64) :
    val_main_v26 (F := Ideal) x0 (ix4 b p h l) = ((key X b.val h.val p.val l.val : ℝ) : EReal) := by
  have hp : p.val < 2560 := p.isLt
  have hh : h.val < 16 := h.isLt
  have hl : l.val < 64 := l.isLt
  pointwise [val_main_v26, val_main_v25, val_main_cst, val_main_v23, val_main_v1]
  by_cases hq : p.val < 512
  · have e : key X b.val h.val p.val l.val = 0 := if_neg (by omega)
    rw [e]
    exact dif_pos hq
  · have e : key X b.val h.val p.val l.val = X.z b.val (p.val - 512) (1024 + (h.val * 64 + l.val)) := by
      rw [Nat.mul_comm h.val]; exact if_pos (by omega)
    rw [e]
    exact (dif_neg hq).trans (congrFun hz _)

include hz in
/-- The padded values. -/
theorem padded_val (b : Fin 2) (p : Fin 2560) (h : Fin 16) (l : Fin 64) :
    val_main_v29 (F := Ideal) x0 (ix4 b p h l) = ((val X b.val h.val p.val l.val : ℝ) : EReal) := by
  have hp : p.val < 2560 := p.isLt
  have hh : h.val < 16 := h.isLt
  have hl : l.val < 64 := l.isLt
  pointwise [val_main_v29, val_main_v28, val_main_cst_6, val_main_v24, val_main_v2]
  by_cases hq : p.val < 512
  · have e : val X b.val h.val p.val l.val = 0 := if_neg (by omega)
    rw [e]
    exact dif_pos hq
  · have e : val X b.val h.val p.val l.val = X.z b.val (p.val - 512) (2048 + (h.val * 64 + l.val)) := by
      rw [Nat.mul_comm h.val]; exact if_pos (by omega)
    rw [e]
    exact (dif_neg hq).trans (congrFun hz _)

theorem ix4_row {B P H L : ℕ} (b : Fin B) {p q : ℕ} (hp : p < P) (hq : q < P) (h : Fin H) (l : Fin L) (e : p = q) :
    ix4 b (⟨p, hp⟩ : Fin P) h l = ix4 b ⟨q, hq⟩ h l := by subst e; rfl

/-- One of the nine shifted views of the padded rows, cut into chunks. -/
theorem piece (w : Vec Ideal S2x2560x16x64 .f32) (k : ℕ) (hk : k ≤ 8)
    (H : S2x2560x16x64.ShapeCasts S2x40x64x16x64) (H' : S2x40x64x16x64.Slices ![0, k, 0, 0, 0] S2x32x64x16x64)
    (b : Fin 2) (n : Fin 32) (u : Fin 64) (h : Fin 16) (l : Fin 64) :
    extractStridedSlice S2x32x64x16x64 ![0, k, 0, 0, 0] (shapeCast S2x40x64x16x64 w H) H' (ix5 b n u h l)
      = w (ix4 b ⟨64 * (k + n.val) + u.val, by omega⟩ h l) := by
  pointwise
  refine congrArg w (ix4_row _ _ _ _ _ ?_)
  omega

/-- The keys a chunk of queries sees. -/
theorem band_key (b : Fin 2) (n : Fin 32) (j : Fin 576) (h : Fin 16) (l : Fin 64) :
    val_main_v50 (F := Ideal) x0 (ix5 b n j h l) = val_main_v26 (F := Ideal) x0 (ix4 b ⟨64 * n.val + j.val, by omega⟩ h l) := by
  have hj : j.val < 576 := j.isLt
  pointwise [val_main_v50]
  by_cases q0 : j.val < 64
  · exact (dif_pos q0).trans ((piece (val_main_v26 (F := Ideal) x0) 0 (by omega) _ _ b n ⟨j.val, by omega⟩ h l).trans (congrArg (val_main_v26 (F := Ideal) x0) (ix4_row _ _ _ _ _ (by dsimp only; omega))))
  refine (dif_neg q0).trans ?_
  by_cases q1 : j.val - 64 < 64
  · exact (dif_pos q1).trans ((piece (val_main_v26 (F := Ideal) x0) 1 (by omega) _ _ b n ⟨j.val - 64, by omega⟩ h l).trans (congrArg (val_main_v26 (F := Ideal) x0) (ix4_row _ _ _ _ _ (by dsimp only; omega))))
  refine (dif_neg q1).trans ?_
  by_cases q2 : j.val - 64 - 64 < 64
  · exact (dif_pos q2).trans ((piece (val_main_v26 (F := Ideal) x0) 2 (by omega) _ _ b n ⟨j.val - 64 - 64, by omega⟩ h l).trans (congrArg (val_main_v26 (F := Ideal) x0) (ix4_row _ _ _ _ _ (by dsimp only; omega))))
  refine (dif_neg q2).trans ?_
  by_cases q3 : j.val - 64 - 64 - 64 < 64
  · exact (dif_pos q3).trans ((piece (val_main_v26 (F := Ideal) x0) 3 (by omega) _ _ b n ⟨j.val - 64 - 64 - 64, by omega⟩ h l).trans (congrArg (val_main_v26 (F := Ideal) x0) (ix4_row _ _ _ _ _ (by dsimp only; omega))))
  refine (dif_neg q3).trans ?_
  by_cases q4 : j.val - 64 - 64 - 64 - 64 < 64
  · exact (dif_pos q4).trans ((piece (val_main_v26 (F := Ideal) x0) 4 (by omega) _ _ b n ⟨j.val - 64 - 64 - 64 - 64, by omega⟩ h l).trans (congrArg (val_main_v26 (F := Ideal) x0) (ix4_row _ _ _ _ _ (by dsimp only; omega))))
  refine (dif_neg q4).trans ?_
  by_cases q5 : j.val - 64 - 64 - 64 - 64 - 64 < 64
  · exact (dif_pos q5).trans ((piece (val_main_v26 (F := Ideal) x0) 5 (by omega) _ _ b n ⟨j.val - 64 - 64 - 64 - 64 - 64, by omega⟩ h l).trans (congrArg (val_main_v26 (F := Ideal) x0) (ix4_row _ _ _ _ _ (by dsimp only; omega))))
  refine (dif_neg q5).trans ?_
  by_cases q6 : j.val - 64 - 64 - 64 - 64 - 64 - 64 < 64
  · exact (dif_pos q6).trans ((piece (val_main_v26 (F := Ideal) x0) 6 (by omega) _ _ b n ⟨j.val - 64 - 64 - 64 - 64 - 64 - 64, by omega⟩ h l).trans (congrArg (val_main_v26 (F := Ideal) x0) (ix4_row _ _ _ _ _ (by dsimp only; omega))))
  refine (dif_neg q6).trans ?_
  by_cases q7 : j.val - 64 - 64 - 64 - 64 - 64 - 64 - 64 < 64
  · exact (dif_pos q7).trans ((piece (val_main_v26 (F := Ideal) x0) 7 (by omega) _ _ b n ⟨j.val - 64 - 64 - 64 - 64 - 64 - 64 - 64, by omega⟩ h l).trans (congrArg (val_main_v26 (F := Ideal) x0) (ix4_row _ _ _ _ _ (by dsimp only; omega))))
  refine (dif_neg q7).trans ?_
  exact (piece (val_main_v26 (F := Ideal) x0) 8 (by omega) _ _ b n ⟨j.val - 64 - 64 - 64 - 64 - 64 - 64 - 64 - 64, by omega⟩ h l).trans (congrArg (val_main_v26 (F := Ideal) x0) (ix4_row _ _ _ _ _ (by dsimp only; omega)))

/-- The values a chunk of queries sees. -/
theorem band_val (b : Fin 2) (n : Fin 32) (j : Fin 576) (h : Fin 16) (l : Fin 64) :
    val_main_v116 (F := Ideal) x0 (ix5 b n j h l) = val_main_v29 (F := Ideal) x0 (ix4 b ⟨64 * n.val + j.val, by omega⟩ h l) := by
  have hj : j.val < 576 := j.isLt
  pointwise [val_main_v116]
  by_cases q0 : j.val < 64
  · exact (dif_pos q0).trans ((piece (val_main_v29 (F := Ideal) x0) 0 (by omega) _ _ b n ⟨j.val, by omega⟩ h l).trans (congrArg (val_main_v29 (F := Ideal) x0) (ix4_row _ _ _ _ _ (by dsimp only; omega))))
  refine (dif_neg q0).trans ?_
  by_cases q1 : j.val - 64 < 64
  · exact (dif_pos q1).trans ((piece (val_main_v29 (F := Ideal) x0) 1 (by omega) _ _ b n ⟨j.val - 64, by omega⟩ h l).trans (congrArg (val_main_v29 (F := Ideal) x0) (ix4_row _ _ _ _ _ (by dsimp only; omega))))
  refine (dif_neg q1).trans ?_
  by_cases q2 : j.val - 64 - 64 < 64
  · exact (dif_pos q2).trans ((piece (val_main_v29 (F := Ideal) x0) 2 (by omega) _ _ b n ⟨j.val - 64 - 64, by omega⟩ h l).trans (congrArg (val_main_v29 (F := Ideal) x0) (ix4_row _ _ _ _ _ (by dsimp only; omega))))
  refine (dif_neg q2).trans ?_
  by_cases q3 : j.val - 64 - 64 - 64 < 64
  · exact (dif_pos q3).trans ((piece (val_main_v29 (F := Ideal) x0) 3 (by omega) _ _ b n ⟨j.val - 64 - 64 - 64, by omega⟩ h l).trans (congrArg (val_main_v29 (F := Ideal) x0) (ix4_row _ _ _ _ _ (by dsimp only; omega))))
  refine (dif_neg q3).trans ?_
  by_cases q4 : j.val - 64 - 64 - 64 - 64 < 64
  · exact (dif_pos q4).trans ((piece (val_main_v29 (F := Ideal) x0) 4 (by omega) _ _ b n ⟨j.val - 64 - 64 - 64 - 64, by omega⟩ h l).trans (congrArg (val_main_v29 (F := Ideal) x0) (ix4_row _ _ _ _ _ (by dsimp only; omega))))
  refine (dif_neg q4).trans ?_
  by_cases q5 : j.val - 64 - 64 - 64 - 64 - 64 < 64
  · exact (dif_pos q5).trans ((piece (val_main_v29 (F := Ideal) x0) 5 (by omega) _ _ b n ⟨j.val - 64 - 64 - 64 - 64 - 64, by omega⟩ h l).trans (congrArg (val_main_v29 (F := Ideal) x0) (ix4_row _ _ _ _ _ (by dsimp only; omega))))
  refine (dif_neg q5).trans ?_
  by_cases q6 : j.val - 64 - 64 - 64 - 64 - 64 - 64 < 64
  · exact (dif_pos q6).trans ((piece (val_main_v29 (F := Ideal) x0) 6 (by omega) _ _ b n ⟨j.val - 64 - 64 - 64 - 64 - 64 - 64, by omega⟩ h l).trans (congrArg (val_main_v29 (F := Ideal) x0) (ix4_row _ _ _ _ _ (by dsimp only; omega))))
  refine (dif_neg q6).trans ?_
  by_cases q7 : j.val - 64 - 64 - 64 - 64 - 64 - 64 - 64 < 64
  · exact (dif_pos q7).trans ((piece (val_main_v29 (F := Ideal) x0) 7 (by omega) _ _ b n ⟨j.val - 64 - 64 - 64 - 64 - 64 - 64 - 64, by omega⟩ h l).trans (congrArg (val_main_v29 (F := Ideal) x0) (ix4_row _ _ _ _ _ (by dsimp only; omega))))
  refine (dif_neg q7).trans ?_
  exact (piece (val_main_v29 (F := Ideal) x0) 8 (by omega) _ _ b n ⟨j.val - 64 - 64 - 64 - 64 - 64 - 64 - 64 - 64, by omega⟩ h l).trans (congrArg (val_main_v29 (F := Ideal) x0) (ix4_row _ _ _ _ _ (by dsimp only; omega)))

include hz in
/-- A chunk's queries. -/
theorem query (b : Fin 2) (n : Fin 32) (u : Fin 64) (h : Fin 16) (l : Fin 64) :
    val_main_v31 (F := Ideal) x0 (ix5 b n u h l) = ((X.z b.val (64 * n.val + u.val) (64 * h.val + l.val) : ℝ) : EReal) := by
  have hn : n.val < 32 := n.isLt
  have hu : u.val < 64 := u.isLt
  have hh : h.val < 16 := h.isLt
  have hl : l.val < 64 := l.isLt
  pointwise [val_main_v31, val_main_v22, val_main_v0]
  refine (congrFun hz _).trans ?_
  show ((X.z b.val (n.val * 64 + u.val) (h.val * 64 + l.val) : ℝ) : EReal) = _
  rw [Nat.mul_comm n.val, Nat.mul_comm h.val]

/-- The mask: is the key position past the padding? -/
theorem seen (n : Fin 32) (j : Fin 576) (z z' z'' : Fin 1) :
    val_main_v68 (F := Ideal) (ix5 z n z' z'' j) = BitVec.ofBool (decide (512 ≤ 64 * n.val + j.val)) := by
  have hn : n.val < 32 := n.isLt
  have hj : j.val < 576 := j.isLt
  pointwise [val_main_v68, val_main_v67, val_main_v66, val_main_v65, val_main_v64, val_main_v63, val_main_v62, val_main_v61,
    val_main_v60, val_main_v59, val_main_v58, val_main_v57, val_main_c_9, val_main_c_10]
  rw [WordCmp.cmpi_sge_of_lt]
  · have e : (IntOp.addi (IntOp.muli 64#32 (BitVec.ofNat 32 n.val)) (BitVec.ofNat 32 j.val)).toNat = 64 * n.val + j.val := by
      simp only [IntOp.addi, IntOp.muli, BitVec.toNat_add, BitVec.toNat_mul, BitVec.toNat_ofNat]
      omega
    rw [e]
    rfl
  · simp only [IntOp.addi, IntOp.muli, BitVec.toNat_add, BitVec.toNat_mul, BitVec.toNat_ofNat]
    omega
  · decide

theorem sees_iff {n u j : ℕ} (hu : u < 64) (hj : j < 576) : Sees (64 * n + u) (64 * n + j) ↔ 512 ≤ 64 * n + j := by
  unfold Sees; omega

include hz hb in
/-- The masked scores. -/
theorem masked (b : Fin 2) (n : Fin 32) (h : Fin 16) (u : Fin 64) (j : Fin 576) :
    val_main_v69_0 (F := Ideal) x0 x1 (ix5 b n h u j) = if 512 ≤ 64 * n.val + j.val then
      ((score X b.val h.val (64 * n.val + u.val) (64 * n.val + j.val) : ℝ) : EReal) else ⊥ := by
  have hu : u.val < 64 := u.isLt
  pointwise [val_main_v69_0, val_main_v69_1, val_main_v56, val_main_v53, val_main_v51, val_main_v52, val_main_v55, val_main_v54,
    val_main_cst_8, val_main_call1_v2, val_main_call1_v0, val_main_cst_11]
  rw [seen]
  by_cases q : 512 ≤ 64 * n.val + j.val
  · rw [if_pos q, decide_eq_true q]
    refine (show ∀ a b : EReal, Scalar.select (BitVec.ofBool true) a b = a from fun _ _ => rfl) _ _ |>.trans ?_
    rw [hb, ofBits_eighth]
    simp only [query X hz, band_key, padded_key X hz, ← EReal.coe_mul, coe_sum, ← EReal.coe_add]
    refine congrArg _ ?_
    unfold score
    rw [← Fin.sum_univ_eq_sum_range (fun l => X.z b.val (64 * n.val + u.val) (64 * h.val + l) * key X b.val h.val (64 * n.val + j.val) l) 64]
    refine congrArg _ ?_
    show X.bias h.val u.val j.val = _
    congr 1 <;> omega
  · rw [if_neg q, decide_eq_false q]
    exact ofBits_neg_inf

/-- A query's greatest masked score. -/
theorem top (b : Fin 2) (n : Fin 32) (h : Fin 16) (u : Fin 64) :
    val_main_v70 (F := Ideal) x0 x1 (ix4 b n h u)
      = Finset.univ.fold max ⊥ fun j : Fin 576 => val_main_v69_0 (F := Ideal) x0 x1 (ix5 b n h u j) := by
  pointwise [val_main_v70, val_main_cst_12]
  rw [ofBits_neg_inf]

/-- The greatest score over the lanes. -/
theorem top_spread (b : Fin 2) (n : Fin 32) (h : Fin 16) (u : Fin 64) (j : Fin 576) :
    val_main_v88 (F := Ideal) x0 x1 (ix5 b n h u j) = val_main_v70 (F := Ideal) x0 x1 (ix4 b n h u) := by
  have e : val_main_v77 (F := Ideal) x0 x1 (ix4 b n h u) = val_main_v70 (F := Ideal) x0 x1 (ix4 b n h u) := by
    rw [val_main_v77_apply]
    generalize val_main_v70 (F := Ideal) x0 x1 (ix4 b n h u) = y
    pointwise [val_main_v76, val_main_cst_14]
    rw [ofBits_neg_inf]
    exact max_eq_right bot_le
  rw [← e]
  pointwise [val_main_v88, val_main_v87]

/-- The exponential of a masked score minus the greatest. -/
theorem exp_at (b : Fin 2) (n : Fin 32) (h : Fin 16) (u : Fin 64) (j : Fin 576) :
    val_main_v90 (F := Ideal) x0 x1 (ix5 b n h u j) = Ideal.exp (val_main_v69_0 (F := Ideal) x0 x1 (ix5 b n h u j)
      - Finset.univ.fold max ⊥ fun j : Fin 576 => val_main_v69_0 (F := Ideal) x0 x1 (ix5 b n h u j)) := by
  rw [val_main_v90_apply, val_main_v89_apply, top_spread, top]
  rfl

include hz hb in
/-- A query's exponentials are a positive multiple of its weights. -/
theorem exps (b : Fin 2) (n : Fin 32) (h : Fin 16) (u : Fin 64) : ∃ μ : ℝ, 0 < μ ∧ ∀ j : Fin 576,
    val_main_v90 (F := Ideal) x0 x1 (ix5 b n h u j)
      = ((μ * weight X b.val h.val (64 * n.val + u.val) (64 * n.val + j.val) : ℝ) : EReal) := by
  have hu : u.val < 64 := u.isLt
  have hn : n.val < 32 := n.isLt
  obtain ⟨μ, h1, h2⟩ := row_exp (fun j : Fin 576 => val_main_v69_0 (F := Ideal) x0 x1 (ix5 b n h u j))
    (fun j => 512 ≤ 64 * n.val + j.val) (fun j => score X b.val h.val (64 * n.val + u.val) (64 * n.val + j.val))
    (fun j => masked X hz hb b n h u j) ⟨⟨512, by omega⟩, by dsimp only; omega⟩
  refine ⟨μ, h1, fun j => (exp_at b n h u j).trans ((h2 j).trans ?_)⟩
  refine congrArg (fun w : ℝ => ((μ * w : ℝ) : EReal)) ?_
  exact (if_congr (sees_iff hu j.isLt) rfl rfl).symm

/-- A chunk's 576 key positions are all a query sees. -/
theorem band_sum {n u : ℕ} (hu : u < 64) (hn : n < 32) (F : ℕ → ℝ) (hF : ∀ p, ¬ Sees (64 * n + u) p → F p = 0) :
    ∑ j : Fin 576, F (64 * n + j.val) = ∑ p ∈ range 2560, F p :=
  sum_window F hF (by omega) (by omega) (by omega)

include hz hb in
/-- The sum of a query's exponentials. -/
theorem exp_sum (b : Fin 2) (n : Fin 32) (h : Fin 16) (u : Fin 64) {μ : ℝ}
    (hμ : ∀ j : Fin 576, val_main_v90 (F := Ideal) x0 x1 (ix5 b n h u j)
      = ((μ * weight X b.val h.val (64 * n.val + u.val) (64 * n.val + j.val) : ℝ) : EReal)) :
    val_main_v91 (F := Ideal) x0 x1 (ix4 b n h u) = ((μ * mass X b.val h.val (64 * n.val + u.val) : ℝ) : EReal) := by
  pointwise [val_main_v91, val_main_cst_20]
  simp only [hμ]
  rw [coe_sum, ← Finset.mul_sum, band_sum u.isLt n.isLt (fun p => weight X b.val h.val (64 * n.val + u.val) p)
    (fun p hp => weight_unseen X hp)]
  rfl

include hz hb in
/-- The attention probabilities. -/
theorem probs (b : Fin 2) (n : Fin 32) (h : Fin 16) (u : Fin 64) (j : Fin 576) :
    val_main_v94 (F := Ideal) x0 x1 (ix5 b n h u j)
      = ((prob X b.val h.val (64 * n.val + u.val) (64 * n.val + j.val) : ℝ) : EReal) := by
  obtain ⟨μ, h1, h2⟩ := exps X hz hb b n h u
  have hm := mass_pos X (b := b.val) (h := h.val) (n := 64 * n.val + u.val) (by omega)
  pointwise [val_main_v94, val_main_v93, val_main_v92]
  rw [exp_sum X hz hb b n h u h2, h2, div_real _ (mul_pos h1 hm).ne', mul_div_mul_left _ _ h1.ne']
  rfl

include hz hc in
/-- The gradient at the probabilities. -/
theorem dprobs (b : Fin 2) (n : Fin 32) (h : Fin 16) (u : Fin 64) (j : Fin 576) :
    val_main_v124 (F := Ideal) x0 x2 (ix5 b n h u j)
      = ((dprob X b.val h.val (64 * n.val + u.val) (64 * n.val + j.val) : ℝ) : EReal) := by
  have hu : u.val < 64 := u.isLt
  pointwise [val_main_v124, val_main_v123, val_main_v122, val_main_v121, val_main_v120]
  have e : ∀ l : Fin 64, x2 (ix3 b ⟨n.val * 64 + u.val, by omega⟩ ⟨h.val * 64 + l.val, by omega⟩)
      = ((X.ct b.val (64 * n.val + u.val) (64 * h.val + l.val) : ℝ) : EReal) := fun l => by
    refine (congrFun hc _).trans ?_
    show ((X.ct b.val (n.val * 64 + u.val) (h.val * 64 + l.val) : ℝ) : EReal) = _
    rw [Nat.mul_comm n.val, Nat.mul_comm h.val]
  simp only [e, band_val, padded_val X hz, ← EReal.coe_mul, coe_sum]
  refine congrArg _ ?_
  unfold dprob
  rw [← Fin.sum_univ_eq_sum_range (fun l => X.ct b.val (64 * n.val + u.val) (64 * h.val + l)
    * val X b.val h.val (64 * n.val + j.val) l) 64]

theorem mean_at (b : Fin 2) (n : Fin 32) (h : Fin 16) (u : Fin 64) :
    val_main_v170 (F := Ideal) x0 x1 x2 (ix4 b n h u) = -∑ j : Fin 576, val_main_v124 (F := Ideal) x0 x2 (ix5 b n h u j)
      * Ideal.div 1 (val_main_v91 (F := Ideal) x0 x1 (ix4 b n h u) * val_main_v91 (F := Ideal) x0 x1 (ix4 b n h u))
      * val_main_v90 (F := Ideal) x0 x1 (ix5 b n h u j) := by
  pointwise [val_main_v170, val_main_cst_32, val_main_v167, val_main_v166, val_main_v165, val_main_v164, val_main_v163, val_main_v162,
    val_main_v97, val_main_v96, val_main_v95, val_main_v92, val_main_cst_21, val_main_cst_31]
  exact Fin.sum_univ_one _

include hz hb hc in
/-- The mean of the probabilities' gradient, over the multiple of the exponentials. -/
theorem mean (b : Fin 2) (n : Fin 32) (h : Fin 16) (u : Fin 64) {μ : ℝ} (h1 : 0 < μ)
    (hμ : ∀ j : Fin 576, val_main_v90 (F := Ideal) x0 x1 (ix5 b n h u j)
      = ((μ * weight X b.val h.val (64 * n.val + u.val) (64 * n.val + j.val) : ℝ) : EReal)) :
    val_main_v170 (F := Ideal) x0 x1 x2 (ix4 b n h u) = ((-((∑ p ∈ range 2560, prob X b.val h.val (64 * n.val + u.val) p
      * dprob X b.val h.val (64 * n.val + u.val) p) / (μ * mass X b.val h.val (64 * n.val + u.val))) : ℝ) : EReal) := by
  have hu : u.val < 64 := u.isLt
  have hm := mass_pos X (b := b.val) (h := h.val) (n := 64 * n.val + u.val) (by omega)
  rw [mean_at, exp_sum X hz hb b n h u hμ]
  simp only [hμ, dprobs X hz hc]
  rw [← EReal.coe_mul, ← EReal.coe_one, div_real _ (mul_pos (mul_pos h1 hm) (mul_pos h1 hm)).ne']
  simp only [← EReal.coe_mul, coe_sum, ← EReal.coe_neg]
  refine congrArg _ (congrArg _ ?_)
  rw [← band_sum hu n.isLt (fun p => prob X b.val h.val (64 * n.val + u.val) p * dprob X b.val h.val (64 * n.val + u.val) p)
    (fun p hp => by rw [prob_unseen X hp, zero_mul]), Finset.sum_div]
  refine Finset.sum_congr rfl fun j _ => ?_
  unfold prob
  have h1' := h1.ne'
  have hm' := hm.ne'
  field_simp

include hz hb hc in
/-- The gradient at the scores. -/
theorem dscores (b : Fin 2) (n : Fin 32) (h : Fin 16) (u : Fin 64) (j : Fin 576) :
    val_main_v174 (F := Ideal) x0 x1 x2 (ix5 b n h u j)
      = ((dscore X b.val h.val (64 * n.val + u.val) (64 * n.val + j.val) : ℝ) : EReal) := by
  have hu : u.val < 64 := u.isLt
  obtain ⟨μ, h1, h2⟩ := exps X hz hb b n h u
  have hm := mass_pos X (b := b.val) (h := h.val) (n := 64 * n.val + u.val) (by omega)
  pointwise [val_main_v174, val_main_v69_1, val_main_call2_v0, val_main_call2_cst, val_main_v173, val_main_v172, val_main_v171,
    val_main_v169, val_main_v168, val_main_v92]
  rw [seen]
  by_cases q : 512 ≤ 64 * n.val + j.val
  · rw [decide_eq_true q]
    refine (show ∀ a b : EReal, Scalar.select (BitVec.ofBool true) a b = a from fun _ _ => rfl) _ _ |>.trans ?_
    rw [mean X hz hb hc b n h u h1 h2, exp_sum X hz hb b n h u h2, h2, dprobs X hz hc, div_real _ (mul_pos h1 hm).ne',
      ← EReal.coe_add, ← EReal.coe_mul]
    refine congrArg _ ?_
    unfold dscore
    generalize ∑ p' ∈ range 2560, prob X b.val h.val (64 * n.val + u.val) p' * dprob X b.val h.val (64 * n.val + u.val) p' = D
    unfold prob
    have h1' := h1.ne'
    have hm' := hm.ne'
    field_simp
    ring
  · rw [decide_eq_false q, dscore_unseen X fun hs => q ((sees_iff hu j.isLt).mp hs)]
    rfl

end Cert.AttnGradIdeal.Hand
end
-- ==== Proof.AttnOuts.lean ====
/- Hand-written, untrusted: the four results of the plain attention's gradient. -/
module

public import proofs.«01_k».proof.Proof.AttnRef
public import proofs.«01_k».proof.Proof.Gen.AttnGradIdeal.Read
public import Idealize.ShloMosaic.Lib.Pointwise
public import Idealize.ShloMosaic.Lib.Pipeline.ValueKit

@[expose] public section

set_option maxRecDepth 16384

noncomputable section

namespace Cert.AttnGradIdeal.Hand

open Idealize.ShloMosaic Idealize.ShloMosaic.TcCoe Idealize.SL.Sem
open scoped BigOperators
open Finset (range)
open Cert.AttnGradIdeal Cert.AttnGradIdeal.Read Cert.Attn Cert.Reals

/-- A sum over whole chunks. -/
theorem sum_chunks (A : ℕ → ℝ) (N : ℕ) : ∑ n ∈ range (64 * N), A n = ∑ c ∈ range N, ∑ u ∈ range 64, A (64 * c + u) := by
  induction N with
  | zero => rfl
  | succ N ih => rw [Nat.mul_succ, Finset.sum_range_add, ih, Finset.sum_range_succ (fun c => ∑ u ∈ range 64, A (64 * c + u))]

/-- The nine chunks of queries that see a key, shifted onto the key's chunk. -/
theorem sum_shifts {p : ℕ} (hp : p < 2560) (A : ℕ → ℝ) (hA : ∀ n, ¬ Sees n p → A n = 0) :
    ∑ k ∈ range 9, (if k ≤ p / 64 ∧ p / 64 < k + 32 then ∑ u ∈ range 64, A (64 * (p / 64 - k) + u) else 0)
      = ∑ n ∈ range 2048, A n := by
  rw [show (2048 : ℕ) = 64 * 32 from rfl, sum_chunks, ← Finset.sum_filter]
  have h0 : ∀ c ∈ range 32, c ∉ (range 32).filter (fun c => c ≤ p / 64 ∧ p / 64 < c + 9) → ∑ u ∈ range 64, A (64 * c + u) = 0 := by
    intro c hc hn
    refine Finset.sum_eq_zero fun u hu => hA _ fun ⟨s1, s2, _⟩ => hn ?_
    rw [Finset.mem_range] at hc hu
    rw [Finset.mem_filter, Finset.mem_range]
    omega
  rw [← Finset.sum_subset (Finset.filter_subset _ _) h0]
  refine Finset.sum_nbij' (fun k => p / 64 - k) (fun c => p / 64 - c) ?_ ?_ ?_ ?_ fun _ _ => rfl
  · intro k hk
    rw [Finset.mem_filter, Finset.mem_range] at hk ⊢
    omega
  · intro c hc
    rw [Finset.mem_filter, Finset.mem_range] at hc ⊢
    omega
  · intro k hk
    rw [Finset.mem_filter, Finset.mem_range] at hk
    show p / 64 - (p / 64 - k) = k
    omega
  · intro c hc
    rw [Finset.mem_filter, Finset.mem_range] at hc
    show p / 64 - (p / 64 - c) = c
    omega

/-- A sum over the two leading axes. -/
theorem reduce_lead {B N : ℕ} (h : (⟨5, ![B, N, 16, 64, 576]⟩ : Shape).ReducesTo [0, 1] S16x64x576)
    (x : (⟨5, ![B, N, 16, 64, 576]⟩ : Shape).Idx → EReal) (init : EReal) (a : Fin 16) (u : Fin 64) (j : Fin 576) :
    Ideal.hostReduceAdd h x init (ix3 a u j) = init + ∑ b : Fin B, ∑ n : Fin N, x (ix5 b n a u j) := by
  unfold Ideal.hostReduceAdd
  refine congrArg (init + ·) ?_
  rw [← Fintype.sum_prod_type' (fun (b : Fin B) (n : Fin N) => x (ix5 b n a u j))]
  have e : ∀ i, h.drop i = ix3 a u j → ix5 (i 0) (i 1) a u j = i := fun i hi => by
    funext d
    match d with
    | ⟨0, _⟩ => rfl
    | ⟨1, _⟩ => rfl
    | ⟨2, _⟩ => exact Fin.ext (congrArg Fin.val (congrFun hi 0)).symm
    | ⟨3, _⟩ => exact Fin.ext (congrArg Fin.val (congrFun hi 1)).symm
    | ⟨4, _⟩ => exact Fin.ext (congrArg Fin.val (congrFun hi 2)).symm
  refine Finset.sum_bij' (fun i _ => ((i 0, i 1) : Fin B × Fin N)) (fun p _ => ix5 p.1 p.2 a u j) (fun _ _ => Finset.mem_univ _) ?_ ?_
    (fun _ _ => rfl) ?_
  · intro p _
    refine Finset.mem_filter.mpr ⟨Finset.mem_univ _, funext fun d => ?_⟩
    match d with
    | ⟨0, _⟩ => rfl
    | ⟨1, _⟩ => rfl
    | ⟨2, _⟩ => rfl
  · intro i hi
    exact e i (Finset.mem_filter.mp hi).2
  · intro i hi
    exact congrArg x (e i (Finset.mem_filter.mp hi).2).symm

variable (X : Arrays) {x0 : Vec Ideal S2x2048x4096 .f32} {x1 : Vec Ideal S16x257 .f32} {x2 : Vec Ideal S2x2048x2048 .bf16}
  (hz : x0 = fun i => ((X.z (i 0).val (i 1).val (i 2).val : ℝ) : EReal))
  (hb : val_main_v21 (F := Ideal) x1 = fun i => ((X.bias (i 0).val (i 1).val (i 2).val : ℝ) : EReal))
  (hc : x2 = fun i => ((X.ct (i 0).val (i 1).val (i 2).val : ℝ) : EReal))

include hz hb hc in
/-- The gradient at a query. -/
theorem out_query (b : Fin 2) (r : Fin 2048) (c : Fin 1024) :
    val_main_v227 (F := Ideal) x0 x1 x2 (ix3 b r c) = ((dquery X b.val (c.val / 64) r.val (c.val % 64) : ℝ) : EReal) := by
  have hr : r.val < 2048 := r.isLt
  have hcc : c.val < 1024 := c.isLt
  pointwise [val_main_v227, val_main_v226, val_main_v219, val_main_v183, val_main_v182, val_main_v179, val_main_v178, val_main_cst_35]
  rw [ofBits_eighth]
  simp only [dscores X hz hb hc, band_key, padded_key X hz, ← EReal.coe_mul, coe_sum]
  refine congrArg _ ?_
  have e : 64 * (r.val / 64) + r.val % 64 = r.val := by omega
  rw [e]
  unfold dquery
  rw [← band_sum (n := r.val / 64) (u := r.val % 64) (by omega) (by omega)
    (fun p => dscore X b.val (c.val / 64) r.val p * key X b.val (c.val / 64) p (c.val % 64))
    (fun p hp => by rw [dscore_unseen X (by rwa [e] at hp), zero_mul]), Finset.sum_mul]
  exact Finset.sum_congr rfl fun j _ => by ring

include hz hb hc in
/-- The gradient at one chunk's bias. -/
theorem out_bias (h : Fin 16) (u : Fin 64) (j : Fin 576) :
    val_main_v177 (F := Ideal) x0 x1 x2 (ix3 h u j) = ((∑ b ∈ range 2, ∑ n ∈ range 32,
      dscore X b h.val (64 * n + u.val) (64 * n + j.val) : ℝ) : EReal) := by
  have e : val_main_v175 (F := Ideal) x0 x1 x2 (ix3 h u j) = ((∑ b ∈ range 2, ∑ n ∈ range 32,
      dscore X b h.val (64 * n + u.val) (64 * n + j.val) : ℝ) : EReal) := by
    refine (reduce_lead _ _ _ h u j).trans ?_
    simp only [dscores X hz hb hc, coe_sum]
    pointwise [val_main_cst_33]
    refine congrArg _ ?_
    rw [← Fin.sum_univ_eq_sum_range (fun b => ∑ n ∈ range 32, dscore X b h.val (64 * n + u.val) (64 * n + j.val)) 2]
    refine Finset.sum_congr rfl fun b _ => ?_
    rw [← Fin.sum_univ_eq_sum_range (fun n => dscore X b.val h.val (64 * n + u.val) (64 * n + j.val)) 32]
  refine (reduce_lead _ _ _ h u j).trans ?_
  rw [Fin.sum_univ_one, Fin.sum_univ_one]
  pointwise [val_main_cst_34, val_main_v176]
  exact e

include hz hb hc in
/-- What a chunk of queries gives to the keys it sees. -/
theorem key_part (b : Fin 2) (n : Fin 32) (j : Fin 576) (h : Fin 16) (l : Fin 64) :
    val_main_v181 (F := Ideal) x0 x1 x2 (ix5 b n j h l) = ((∑ u ∈ range 64, X.z b.val (64 * n.val + u) (64 * h.val + l.val) * (1 / 8)
      * dscore X b.val h.val (64 * n.val + u) (64 * n.val + j.val) : ℝ) : EReal) := by
  pointwise [val_main_v181, val_main_v180, val_main_v179, val_main_v178, val_main_cst_35]
  rw [ofBits_eighth]
  simp only [dscores X hz hb hc, query X hz, ← EReal.coe_mul, coe_sum]
  refine congrArg _ ?_
  rw [← Fin.sum_univ_eq_sum_range (fun u => X.z b.val (64 * n.val + u) (64 * h.val + l.val) * (1 / 8)
      * dscore X b.val h.val (64 * n.val + u) (64 * n.val + j.val)) 64]
  exact Finset.sum_congr rfl fun u _ => by ring

include hz hb hc in
/-- What a chunk of queries gives to the values it sees. -/
theorem val_part (b : Fin 2) (n : Fin 32) (j : Fin 576) (h : Fin 16) (l : Fin 64) :
    val_main_v126 (F := Ideal) x0 x1 x2 (ix5 b n j h l) = ((∑ u ∈ range 64, X.ct b.val (64 * n.val + u) (64 * h.val + l.val)
      * prob X b.val h.val (64 * n.val + u) (64 * n.val + j.val) : ℝ) : EReal) := by
  have hn : n.val < 32 := n.isLt
  have hh : h.val < 16 := h.isLt
  pointwise [val_main_v126, val_main_v125, val_main_v123, val_main_v122, val_main_v121, val_main_v120]
  have e : ∀ u : Fin 64, x2 (ix3 b ⟨n.val * 64 + u.val, by omega⟩ ⟨h.val * 64 + l.val, by omega⟩)
      = ((X.ct b.val (64 * n.val + u.val) (64 * h.val + l.val) : ℝ) : EReal) := fun u => by
    refine (congrFun hc _).trans ?_
    show ((X.ct b.val (n.val * 64 + u.val) (h.val * 64 + l.val) : ℝ) : EReal) = _
    rw [Nat.mul_comm n.val, Nat.mul_comm h.val]
  simp only [e, probs X hz hb, ← EReal.coe_mul, coe_sum]
  refine congrArg _ ?_
  rw [← Fin.sum_univ_eq_sum_range (fun u => X.ct b.val (64 * n.val + u) (64 * h.val + l.val)
      * prob X b.val h.val (64 * n.val + u) (64 * n.val + j.val)) 64]

/-- One of the nine shifted pieces, moved onto the chunk of the keys it belongs to. -/
theorem moved (w : Vec Ideal S2x32x576x16x64 .f32) (z : Vec Ideal S_ .f32) (hz0 : z (Shape.Idx.first Gen.h_S_) = 0) (k o e : ℕ)
    (hk : k < 9) (ho : o = 64 * k) (H : S2x32x576x16x64.Slices ![0, 0, o, 0, 0] S2x32x64x16x64)
    (H' : S2x32x64x16x64.Pads ![0, k, 0, 0, 0] ![0, e, 0, 0, 0] ![0, 0, 0, 0, 0] S2x40x64x16x64)
    (A : ℕ → ℕ → ℝ) (b : Fin 2) (p : Fin 2560) (h : Fin 16) (l : Fin 64)
    (hA : ∀ (n : Fin 32) (j : Fin 576), w (ix5 b n j h l) = ((∑ u ∈ range 64, A (64 * n.val + u) (64 * n.val + j.val) : ℝ) : EReal)) :
    shapeCast S2x2560x16x64 (pad S2x40x64x16x64 ![0, k, 0, 0, 0] ![0, e, 0, 0, 0] ![0, 0, 0, 0, 0]
        (extractStridedSlice S2x32x64x16x64 ![0, 0, o, 0, 0] w H) z H' Gen.h_S_) Gen.shapeCasts_S2x40x64x16x64_S2x2560x16x64
        (ix4 b p h l)
      = ((if k ≤ p.val / 64 ∧ p.val / 64 < k + 32 then ∑ u ∈ range 64, A (64 * (p.val / 64 - k) + u) p.val else 0 : ℝ) : EReal) := by
  have hp : p.val < 2560 := p.isLt
  subst ho
  pointwise
  by_cases q : k ≤ p.val / 64 ∧ p.val / 64 < k + 32
  · have r : (if k ≤ p.val / 64 ∧ p.val / 64 < k + 32 then ∑ u ∈ range 64, A (64 * (p.val / 64 - k) + u) p.val else 0)
        = ∑ u ∈ range 64, A (64 * (p.val / 64 - k) + u) (64 * (p.val / 64 - k) + (64 * k + p.val % 64)) := by
      rw [show 64 * (p.val / 64 - k) + (64 * k + p.val % 64) = p.val by omega]
      exact if_pos q
    refine Eq.trans ?_ (congrArg Real.toEReal r.symm)
    exact (dif_pos ⟨⟨q.1, by omega⟩, by omega⟩).trans (hA ⟨p.val / 64 - k, by omega⟩ ⟨64 * k + p.val % 64, by omega⟩)
  · have r : (if k ≤ p.val / 64 ∧ p.val / 64 < k + 32 then ∑ u ∈ range 64, A (64 * (p.val / 64 - k) + u) p.val else 0) = 0 :=
      if_neg q
    refine Eq.trans ?_ (congrArg Real.toEReal r.symm)
    exact (dif_neg fun q' => q ⟨q'.1.1, by omega⟩).trans hz0

theorem zero_word : Ideal.ofBits .f32 0x00000000#32 = 0 := by
  simp [Ideal.ofBits, Ideal.ieee]

/-- The nine pieces together. -/
theorem nine (A : ℕ → ℝ) {p : ℕ} (hp : p < 2560) (hA : ∀ n, ¬ Sees n p → A n = 0) :
    let T : ℕ → ℝ := fun k => if k ≤ p / 64 ∧ p / 64 < k + 32 then ∑ u ∈ range 64, A (64 * (p / 64 - k) + u) else 0
    ((T 8 : ℝ) : EReal) + (T 7 : ℝ) + (T 6 : ℝ) + (T 5 : ℝ) + (T 4 : ℝ) + (T 3 : ℝ) + (T 2 : ℝ) + (T 1 : ℝ) + (T 0 : ℝ)
      = ((∑ n ∈ range 2048, A n : ℝ) : EReal) := by
  intro T
  simp only [← EReal.coe_add]
  refine congrArg _ (Eq.trans ?_ (sum_shifts hp A hA))
  show _ = ∑ k ∈ range 9, T k
  simp only [Finset.sum_range_succ, Finset.sum_range_zero]
  ring

include hz hb hc in
/-- The gradient at a value over the padded rows. -/
theorem all_val (b : Fin 2) (p : Fin 2560) (h : Fin 16) (l : Fin 64) :
    val_main_v161 (F := Ideal) x0 x1 x2 (ix4 b p h l) = ((dval X b.val h.val 2048 p.val l.val : ℝ) : EReal) := by
  have e8 : val_main_v137 (F := Ideal) x0 x1 x2 (ix4 b p h l) = _ :=
    moved _ (val_main_cst_22 (F := Ideal)) zero_word 8 512 0 (by omega) rfl _ _ (fun n p => X.ct b.val n (64 * h.val + l.val) * prob X b.val h.val n p) b p h l
      fun n j => val_part X hz hb hc b n j h l
  have e7 : val_main_v139 (F := Ideal) x0 x1 x2 (ix4 b p h l) = _ :=
    moved _ (val_main_cst_23 (F := Ideal)) zero_word 7 448 1 (by omega) rfl _ _ (fun n p => X.ct b.val n (64 * h.val + l.val) * prob X b.val h.val n p) b p h l
      fun n j => val_part X hz hb hc b n j h l
  have e6 : val_main_v142 (F := Ideal) x0 x1 x2 (ix4 b p h l) = _ :=
    moved _ (val_main_cst_24 (F := Ideal)) zero_word 6 384 2 (by omega) rfl _ _ (fun n p => X.ct b.val n (64 * h.val + l.val) * prob X b.val h.val n p) b p h l
      fun n j => val_part X hz hb hc b n j h l
  have e5 : val_main_v145 (F := Ideal) x0 x1 x2 (ix4 b p h l) = _ :=
    moved _ (val_main_cst_25 (F := Ideal)) zero_word 5 320 3 (by omega) rfl _ _ (fun n p => X.ct b.val n (64 * h.val + l.val) * prob X b.val h.val n p) b p h l
      fun n j => val_part X hz hb hc b n j h l
  have e4 : val_main_v148 (F := Ideal) x0 x1 x2 (ix4 b p h l) = _ :=
    moved _ (val_main_cst_26 (F := Ideal)) zero_word 4 256 4 (by omega) rfl _ _ (fun n p => X.ct b.val n (64 * h.val + l.val) * prob X b.val h.val n p) b p h l
      fun n j => val_part X hz hb hc b n j h l
  have e3 : val_main_v151 (F := Ideal) x0 x1 x2 (ix4 b p h l) = _ :=
    moved _ (val_main_cst_27 (F := Ideal)) zero_word 3 192 5 (by omega) rfl _ _ (fun n p => X.ct b.val n (64 * h.val + l.val) * prob X b.val h.val n p) b p h l
      fun n j => val_part X hz hb hc b n j h l
  have e2 : val_main_v154 (F := Ideal) x0 x1 x2 (ix4 b p h l) = _ :=
    moved _ (val_main_cst_28 (F := Ideal)) zero_word 2 128 6 (by omega) rfl _ _ (fun n p => X.ct b.val n (64 * h.val + l.val) * prob X b.val h.val n p) b p h l
      fun n j => val_part X hz hb hc b n j h l
  have e1 : val_main_v157 (F := Ideal) x0 x1 x2 (ix4 b p h l) = _ :=
    moved _ (val_main_cst_29 (F := Ideal)) zero_word 1 64 7 (by omega) rfl _ _ (fun n p => X.ct b.val n (64 * h.val + l.val) * prob X b.val h.val n p) b p h l
      fun n j => val_part X hz hb hc b n j h l
  have e0 : val_main_v160 (F := Ideal) x0 x1 x2 (ix4 b p h l) = _ :=
    moved _ (val_main_cst_30 (F := Ideal)) zero_word 0 0 8 (by omega) rfl _ _ (fun n p => X.ct b.val n (64 * h.val + l.val) * prob X b.val h.val n p) b p h l
      fun n j => val_part X hz hb hc b n j h l
  rw [val_main_v161_apply, val_main_v158_apply, val_main_v155_apply, val_main_v152_apply, val_main_v149_apply, val_main_v146_apply, val_main_v143_apply, val_main_v140_apply, e8, e7, e6, e5, e4, e3, e2, e1, e0]
  exact nine (fun n => X.ct b.val n (64 * h.val + l.val) * prob X b.val h.val n p.val) p.isLt fun n hn => by
    rw [prob_unseen X hn, mul_zero]

include hz hb hc in
/-- The gradient at a value. -/
theorem out_val (b : Fin 2) (r : Fin 2048) (c : Fin 1024) :
    val_main_v229 (F := Ideal) x0 x1 x2 (ix3 b r c) = ((dval X b.val (c.val / 64) 2048 (512 + r.val) (c.val % 64) : ℝ) : EReal) := by
  have hr : r.val < 2048 := r.isLt
  have hcc : c.val < 1024 := c.isLt
  pointwise [val_main_v229, val_main_v224, val_main_v221]
  exact all_val X hz hb hc b ⟨512 + r.val, by omega⟩ ⟨c.val / 64, by omega⟩ ⟨c.val % 64, by omega⟩

include hz hb hc in
/-- The gradient at a key over the padded rows. -/
theorem all_key (b : Fin 2) (p : Fin 2560) (h : Fin 16) (l : Fin 64) :
    val_main_v218 (F := Ideal) x0 x1 x2 (ix4 b p h l) = ((dkey X b.val h.val 2048 p.val l.val : ℝ) : EReal) := by
  have e8 : val_main_v194 (F := Ideal) x0 x1 x2 (ix4 b p h l) = _ :=
    moved _ (val_main_cst_36 (F := Ideal)) zero_word 8 512 0 (by omega) rfl _ _ (fun n p => X.z b.val n (64 * h.val + l.val) * (1 / 8) * dscore X b.val h.val n p) b p h l
      fun n j => key_part X hz hb hc b n j h l
  have e7 : val_main_v196 (F := Ideal) x0 x1 x2 (ix4 b p h l) = _ :=
    moved _ (val_main_cst_37 (F := Ideal)) zero_word 7 448 1 (by omega) rfl _ _ (fun n p => X.z b.val n (64 * h.val + l.val) * (1 / 8) * dscore X b.val h.val n p) b p h l
      fun n j => key_part X hz hb hc b n j h l
  have e6 : val_main_v199 (F := Ideal) x0 x1 x2 (ix4 b p h l) = _ :=
    moved _ (val_main_cst_38 (F := Ideal)) zero_word 6 384 2 (by omega) rfl _ _ (fun n p => X.z b.val n (64 * h.val + l.val) * (1 / 8) * dscore X b.val h.val n p) b p h l
      fun n j => key_part X hz hb hc b n j h l
  have e5 : val_main_v202 (F := Ideal) x0 x1 x2 (ix4 b p h l) = _ :=
    moved _ (val_main_cst_39 (F := Ideal)) zero_word 5 320 3 (by omega) rfl _ _ (fun n p => X.z b.val n (64 * h.val + l.val) * (1 / 8) * dscore X b.val h.val n p) b p h l
      fun n j => key_part X hz hb hc b n j h l
  have e4 : val_main_v205 (F := Ideal) x0 x1 x2 (ix4 b p h l) = _ :=
    moved _ (val_main_cst_40 (F := Ideal)) zero_word 4 256 4 (by omega) rfl _ _ (fun n p => X.z b.val n (64 * h.val + l.val) * (1 / 8) * dscore X b.val h.val n p) b p h l
      fun n j => key_part X hz hb hc b n j h l
  have e3 : val_main_v208 (F := Ideal) x0 x1 x2 (ix4 b p h l) = _ :=
    moved _ (val_main_cst_41 (F := Ideal)) zero_word 3 192 5 (by omega) rfl _ _ (fun n p => X.z b.val n (64 * h.val + l.val) * (1 / 8) * dscore X b.val h.val n p) b p h l
      fun n j => key_part X hz hb hc b n j h l
  have e2 : val_main_v211 (F := Ideal) x0 x1 x2 (ix4 b p h l) = _ :=
    moved _ (val_main_cst_42 (F := Ideal)) zero_word 2 128 6 (by omega) rfl _ _ (fun n p => X.z b.val n (64 * h.val + l.val) * (1 / 8) * dscore X b.val h.val n p) b p h l
      fun n j => key_part X hz hb hc b n j h l
  have e1 : val_main_v214 (F := Ideal) x0 x1 x2 (ix4 b p h l) = _ :=
    moved _ (val_main_cst_43 (F := Ideal)) zero_word 1 64 7 (by omega) rfl _ _ (fun n p => X.z b.val n (64 * h.val + l.val) * (1 / 8) * dscore X b.val h.val n p) b p h l
      fun n j => key_part X hz hb hc b n j h l
  have e0 : val_main_v217 (F := Ideal) x0 x1 x2 (ix4 b p h l) = _ :=
    moved _ (val_main_cst_44 (F := Ideal)) zero_word 0 0 8 (by omega) rfl _ _ (fun n p => X.z b.val n (64 * h.val + l.val) * (1 / 8) * dscore X b.val h.val n p) b p h l
      fun n j => key_part X hz hb hc b n j h l
  rw [val_main_v218_apply, val_main_v215_apply, val_main_v212_apply, val_main_v209_apply, val_main_v206_apply, val_main_v203_apply, val_main_v200_apply, val_main_v197_apply, e8, e7, e6, e5, e4, e3, e2, e1, e0]
  exact nine (fun n => X.z b.val n (64 * h.val + l.val) * (1 / 8) * dscore X b.val h.val n p.val) p.isLt fun n hn => by
    rw [dscore_unseen X hn, mul_zero]

include hz hb hc in
/-- The gradient at a key. -/
theorem out_key (b : Fin 2) (r : Fin 2048) (c : Fin 1024) :
    val_main_v228 (F := Ideal) x0 x1 x2 (ix3 b r c) = ((dkey X b.val (c.val / 64) 2048 (512 + r.val) (c.val % 64) : ℝ) : EReal) := by
  have hr : r.val < 2048 := r.isLt
  have hcc : c.val < 1024 := c.isLt
  pointwise [val_main_v228, val_main_v225, val_main_v223]
  exact all_key X hz hb hc b ⟨512 + r.val, by omega⟩ ⟨c.val / 64, by omega⟩ ⟨c.val % 64, by omega⟩

end Cert.AttnGradIdeal.Hand
end
-- ==== Proof.AttnPair.lean ====
/- Hand-written, untrusted: the attention's backward kernel and the derivative of the plain attention give the same four
   arrays, where the arguments are finite. -/
module

public import proofs.«01_k».proof.Defs
public import proofs.«01_k».proof.Proof.AttnFinal
public import proofs.«01_k».proof.Proof.AttnOuts
public import proofs.«01_k».proof.Proof.Gen.AttnGradIdeal.Run
public import proofs.«01_k».proof.Proof.Gen.Pre_attn_finite

@[expose] public section

set_option maxRecDepth 16384

noncomputable section

open Idealize.ShloMosaic Idealize.ShloMosaic.TcCoe Idealize.SL.Sem
open scoped BigOperators

namespace Cert.AttnGradIdeal.Hand

open Cert.AttnGradIdeal Cert.AttnGradIdeal.Read Idealize.ShloMosaic.StableHlo

/-- The plain attention's run: its four results are the stages read at the arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v227) = val_main_v227 (F := Ideal) (m ((c.tc : Thread nD τ).loc main_arg0)) (m ((c.tc : Thread nD τ).loc main_arg1)) (m ((c.tc : Thread nD τ).loc main_arg2))
      ∧ r.2.mem ((c.tc : Thread nD τ).loc main_v228) = val_main_v228 (F := Ideal) (m ((c.tc : Thread nD τ).loc main_arg0)) (m ((c.tc : Thread nD τ).loc main_arg1)) (m ((c.tc : Thread nD τ).loc main_arg2))
      ∧ r.2.mem ((c.tc : Thread nD τ).loc main_v229) = val_main_v229 (F := Ideal) (m ((c.tc : Thread nD τ).loc main_arg0)) (m ((c.tc : Thread nD τ).loc main_arg1)) (m ((c.tc : Thread nD τ).loc main_arg2))
      ∧ r.2.mem ((c.tc : Thread nD τ).loc main_v177) = val_main_v177 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v227_eq (launchContents m c)),
    (h c).2.1.trans (val_main_v228_eq (launchContents m c)), (h c).2.2.1.trans (val_main_v229_eq (launchContents m c)),
    (h c).2.2.2.1.trans (val_main_v177_eq (launchContents m c)), (h c).2.2.2.2⟩) (Cert.AttnGradIdeal.Value.run m ρ)

end Cert.AttnGradIdeal.Hand

namespace Cert.AttnBwdIdeal.Hand

open Cert.AttnBwdIdeal Cert.AttnGradIdeal.Read Cert.Attn Cert.Reals

/-- An array of reals as a function of natural numbers. -/
def ext3 {a b c : ℕ} (f : (⟨3, ![a, b, c]⟩ : Shape).Idx → ℝ) (i j k : ℕ) : ℝ :=
  if h : i < a ∧ j < b ∧ k < c then f (ix3 ⟨i, h.1⟩ ⟨j, h.2.1⟩ ⟨k, h.2.2⟩) else 0

theorem ext3_at {a b c : ℕ} (f : (⟨3, ![a, b, c]⟩ : Shape).Idx → ℝ) (y : (⟨3, ![a, b, c]⟩ : Shape).Idx) :
    f y = ext3 f (y 0).val (y 1).val (y 2).val := by
  unfold ext3
  rw [dif_pos ⟨(y 0).isLt, (y 1).isLt, (y 2).isLt⟩]
  exact congrArg f (eq_ix3 y)

/-- One chunk of a bias table of reals is an array of reals. -/
theorem chunk_reals (w : S16x257.Idx → ℝ) : ∃ r : S16x64x576.Idx → ℝ,
    chunk (fun i => (w i : EReal)) = fun y => (r y : EReal) :=
  ⟨fun y => w _, funext fun y => rfl⟩

/-- What the precondition says: the arguments are arrays of reals. -/
theorem arrays (m : (ℓ : Loc nD τ sig) → Buf (Elt Ideal) ℓ) (h : Pre_AttnBwdIdeal_attn_finite m) (c : Dev nD) : ∃ X : Arrays, Real m c X := by
  obtain ⟨z, hz⟩ := reals_of_mask _ fun i => congrFun (h c).1 i
  obtain ⟨w, hw⟩ := reals_of_mask _ fun i => congrFun (h c).2.1 i
  obtain ⟨k, hk⟩ := reals_of_mask _ fun i => congrFun (h c).2.2 i
  obtain ⟨r, hr⟩ := chunk_reals w
  refine ⟨⟨ext3 z, ext3 k, ext3 r⟩, ⟨hz.trans (funext fun i => congrArg _ (ext3_at z i)), hk.trans (funext fun i => congrArg _ (ext3_at k i)),
    (congrArg chunk hw).trans (hr.trans (funext fun y => congrArg _ (ext3_at r y)))⟩⟩

set_option backward.isDefEq.respectTransparency.types false in
/-- The two programs give the same results. -/
theorem algebraic : algebraic_AttnBwdIdeal_AttnGradIdeal_pre_attn_finite := by
  intro m g m' g' hpre hargs
  choose X R using arrays m hpre
  refine ⟨fun c (i : S2x2048x1024.Idx) => ((dquery (X c) (i 0).val ((i 2).val / 64) (i 1).val ((i 2).val % 64) : ℝ) : EReal),
    fun c (i : S2x2048x1024.Idx) => ((dkey (X c) (i 0).val ((i 2).val / 64) 2048 (512 + (i 1).val) ((i 2).val % 64) : ℝ) : EReal),
    fun c (i : S2x2048x1024.Idx) => ((dval (X c) (i 0).val ((i 2).val / 64) 2048 (512 + (i 1).val) ((i 2).val % 64) : ℝ) : EReal),
    fun c (i : S16x64x576.Idx) => ((dbias (X c) (i 0).val (i 1).val (i 2).val : ℝ) : EReal), kernel_run m g X R, ?_⟩
  refine (θ_run Cert.AttnGradIdeal.defs _ _).mono (fun r h c => ?_) (Cert.AttnGradIdeal.Hand.reference_run m' g')
  obtain ⟨h0, h1, h2, h3, hrest⟩ := h c
  obtain ⟨a0, a1, a2⟩ := hargs c
  have z := a0.trans (R c).z
  have t := a2.trans (R c).ct
  have b := (congrArg chunk a1).trans (R c).bias
  refine ⟨h0.trans (funext fun i => ?_), h1.trans (funext fun i => ?_), h2.trans (funext fun i => ?_), h3.trans (funext fun i => ?_), hrest⟩
  · exact (congrArg _ (eq_ix3 i)).trans (Cert.AttnGradIdeal.Hand.out_query (X c) z b t (i 0) (i 1) (i 2))
  · exact (congrArg _ (eq_ix3 i)).trans (Cert.AttnGradIdeal.Hand.out_key (X c) z b t (i 0) (i 1) (i 2))
  · exact (congrArg _ (eq_ix3 i)).trans (Cert.AttnGradIdeal.Hand.out_val (X c) z b t (i 0) (i 1) (i 2))
  · exact (congrArg _ (eq_ix3 i)).trans (Cert.AttnGradIdeal.Hand.out_bias (X c) z b t (i 0) (i 1) (i 2))

end Cert.AttnBwdIdeal.Hand

end
-- ==== Proof.PoolMath.lean ====
/- Hand-written, untrusted: sums over the frames of a window, by doubling the window; and the windows' bounds as words. -/
module

public import proofs.«01_k».proof.Proof.Reals
public import Idealize.ShloMosaic.Lib.Pointwise
public import Idealize.ShloMosaic.Lib.WordCmp

@[expose] public section

noncomputable section

namespace Cert.Pool

open Idealize.ShloMosaic
open scoped BigOperators

/-- A column `n` frames later, nothing beyond its end. -/
def shifted (n : ℕ) (x : Fin 2048 → EReal) (s : Fin 2048) : EReal := if h : s.val + n < 2048 then x ⟨s.val + n, h⟩ else 0

/-- The sum of the `n` frames from `s` on that there are. -/
def total (n : ℕ) (x : Fin 2048 → EReal) (s : Fin 2048) : EReal :=
  ∑ t : Fin 2048, if s.val ≤ t.val ∧ t.val < s.val + n then x t else 0

theorem total_one (x : Fin 2048 → EReal) (s : Fin 2048) : total 1 x s = x s := by
  rw [total, Finset.sum_eq_single s]
  · exact if_pos ⟨le_refl _, Nat.lt_succ_self _⟩
  · exact fun t _ h => if_neg fun q => h (Fin.ext (by omega))
  · exact fun h => absurd (Finset.mem_univ s) h

/-- A window of twice the length is the window and the one after it. -/
theorem total_twice (n : ℕ) (x : Fin 2048 → EReal) (s : Fin 2048) :
    total n x s + shifted n (total n x) s = total (2 * n) x s := by
  have h : shifted n (total n x) s = ∑ t : Fin 2048, if s.val + n ≤ t.val ∧ t.val < s.val + n + n then x t else 0 := by
    unfold shifted
    split
    · rfl
    · exact (Finset.sum_eq_zero fun t _ => if_neg fun q => by omega).symm
  rw [h, total, total, ← Finset.sum_add_distrib]
  refine Finset.sum_congr rfl fun t _ => ?_
  by_cases a : s.val ≤ t.val ∧ t.val < s.val + n
  · rw [if_pos a, if_neg (by omega), add_zero, if_pos (by omega)]
  · rw [if_neg a, zero_add]
    exact if_congr (by omega) rfl rfl

theorem total_two (x : Fin 2048 → EReal) (s : Fin 2048) : x s + shifted 1 x s = total 2 x s := by
  have h : total 1 x = x := funext (total_one x)
  have := total_twice 1 x s
  rwa [h] at this

/-- Rotating a column by `2048 - n` and clearing what came around is the column `n` frames later. -/
theorem shift_word (n k : ℕ) (h : n + k = 2048) (hn : 0 < n) (z : Fin 2048 → EReal) (r : Fin 2048) (q : (r.val + 2048 - k) % 2048 < 2048) :
    Scalar.select (IntOp.cmpi .slt (BitVec.ofNat 32 r.val) (BitVec.ofNat 32 k)) (z ⟨(r.val + 2048 - k) % 2048, q⟩) (0 : EReal) = shifted n z r := by
  have hr : r.val < 2048 := r.isLt
  rw [WordCmp.cmpi_slt_ofNat (by omega) (by omega), shifted]
  by_cases a : r.val < k
  · rw [dif_pos (by omega), decide_eq_true a]
    exact congrArg z (Fin.ext (by show (r.val + 2048 - k) % 2048 = r.val + n; omega))
  · rw [dif_neg (by omega), decide_eq_false a]
    rfl

/-- The first frame of the window that ends at frame `t`, as the plain pool computes it. -/
def first (t : Fin 2048) (g : Fin 4) : BitVec 32 :=
  IntOp.maxsi (IntOp.subi (IntOp.addi (BitVec.ofNat 32 t.val) 1#32) (BitVec.ofNat 32 (2 * 2 ^ g.val))) 0#32

/-- The number of frames in the window of group `g` that ends at frame `t`, as the kernel computes it. -/
def frames (g : ℕ) (t : Fin 2048) : EReal :=
  FloatOps.sitofp (F := Ideal) .f32 (IntOp.minsi (IntOp.addi (BitVec.ofNat 32 t.val) 1#32) (Scalar.shli 2#32 (BitVec.ofNat 32 g)))

/-- The number of frames from the first one on is the frame's number, or the window's length where that is less. -/
theorem count_word : ∀ (t : Fin 2048) (g : Fin 4), IntOp.subi (IntOp.addi (BitVec.ofNat 32 t.val) 1#32) (first t g)
    = IntOp.minsi (IntOp.addi (BitVec.ofNat 32 t.val) 1#32) (Scalar.shli 2#32 (BitVec.ofNat 32 g.val)) := by
  decide +kernel

theorem first_word : ∀ (t : Fin 2048) (g : Fin 4), first t g = BitVec.ofNat 32 (t.val + 1 - 2 * 2 ^ g.val) := by
  decide +kernel

/-- A frame is in the window that ends at frame `t` where that one is in the window that starts at it. -/
theorem inside_word (t s : Fin 2048) (g : Fin 4) (a b : EReal) :
    Scalar.select (IntOp.andi (IntOp.cmpi .sge (BitVec.ofNat 32 s.val) (first t g)) (IntOp.cmpi .sle (BitVec.ofNat 32 s.val) (BitVec.ofNat 32 t.val))) a b
      = if s.val ≤ t.val ∧ t.val < s.val + 2 * 2 ^ g.val then a else b := by
  have hs : s.val < 2048 := s.isLt
  have ht : t.val < 2048 := t.isLt
  rw [first_word, WordCmp.cmpi_sge_ofNat (by omega) (by omega), WordCmp.cmpi_sle_ofNat (by omega) (by omega)]
  by_cases h1 : t.val + 1 - 2 * 2 ^ g.val ≤ s.val <;> by_cases h2 : s.val ≤ t.val
  · rw [if_pos (by omega), decide_eq_true h1, decide_eq_true h2]; rfl
  · rw [if_neg (by omega), decide_eq_true h1, decide_eq_false h2]; rfl
  · rw [if_neg (by omega), decide_eq_false h1, decide_eq_true h2]; rfl
  · rw [if_neg (by omega), decide_eq_false h1, decide_eq_false h2]; rfl

/-- The host's sum over the two leading axes. -/
theorem sum_leading {n0 n1 n2 : ℕ} (h : (⟨3, ![n0, n1, n2]⟩ : Shape).ReducesTo [0, 1] ⟨1, ![n2]⟩)
    (v : (⟨3, ![n0, n1, n2]⟩ : Shape).Idx → EReal) (k : Fin n2) :
    Ideal.hostReduceAdd h v 0 (ix1 k) = ∑ a : Fin n0, ∑ b : Fin n1, v (ix3 a b k) := by
  have fiber : ∀ i : (⟨3, ![n0, n1, n2]⟩ : Shape).Idx, h.drop i = ix1 k ↔ ∃ p : Fin n0 × Fin n1, ix3 p.1 p.2 k = i := by
    intro i
    refine ⟨fun q => ⟨(i 0, i 1), ?_⟩, ?_⟩
    · have e : i 2 = k := Fin.ext (congrArg Fin.val (congrFun q 0))
      rw [← e]
      exact (eq_ix3 i).symm
    · rintro ⟨p, rfl⟩
      exact funext fun b => Fin.ext (by obtain rfl : b = 0 := Subsingleton.elim _ _; rfl)
  rw [Ideal.hostReduceAdd, zero_add]
  exact (Finset.sum_filter_eq_sum_of_fiber _ (fun p : Fin n0 × Fin n1 => ix3 p.1 p.2 k)
    (fun _ _ e => Prod.ext (congrFun e 0) (congrFun e 1)) fiber v).trans (Fintype.sum_prod_type _)

end Cert.Pool

end
-- ==== Proof.PoolValue.lean ====
/- Hand-written, untrusted: what the pool's backward kernel leaves in its three results, as formulas of its arguments. -/
module

public import proofs.«01_k».proof.Proof.Gen.PoolBwdIdeal.Value
public import proofs.«01_k».proof.Proof.PoolMath
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.PoolBwdIdeal.Hand

open Cert.PoolBwdIdeal Cert.PoolBwdIdeal.Gen Cert.Pool

section Payload

variable (i : grid0.Coords) (v2 : Vec Ideal S1x2048x256 .bf16) (v5 : Vec Ideal S1x256x256 .bf16) (v8 : Vec Ideal S1x256 .f32)

/-- The differences' gradient. -/
theorem pay12_at (r : Fin 2048) (c : Fin 256) :
    k0_pay12 v2 v5 v8 (ix2 r c) = ∑ e : Fin 256, v2 (ix3 0 r e) * v8 (ix2 0 e) * v5 (ix3 0 c e) := by
  pointwise [k0_pay12, k0_pay11, k0_pay9, k0_pay8]

/-- A channel of that gradient over the windows' lengths. -/
def column (c : Fin 256) (r : Fin 2048) : EReal := Ideal.div (k0_pay12 v2 v5 v8 (ix2 r c)) (frames (i 0).val r)

theorem pay13_at (r : Fin 2048) (c : Fin 256) : k0_pay13 i v2 v5 v8 (ix2 r c) = total 2 (column i v2 v5 v8 c) r := by
  pointwise [k0_pay13]
  exact (congrArg (column i v2 v5 v8 c r + ·) (shift_word 1 2047 rfl (by decide) (column i v2 v5 v8 c) r _)).trans (total_two _ r)

theorem pay14_at (r : Fin 2048) (c : Fin 256) : k0_pay14 i v2 v5 v8 (ix2 r c) = total 4 (column i v2 v5 v8 c) r := by
  pointwise [k0_pay14]
  simp only [pay13_at]
  exact (congrArg (total 2 (column i v2 v5 v8 c) r + ·) (shift_word 2 2046 rfl (by decide) (total 2 (column i v2 v5 v8 c)) r _)).trans
    (total_twice 2 _ r)

end Payload

theorem pay1_at (g : Fin 4) (v12 v28 v35 : FVec Ideal S2048x256 .f32) (x : Fin 2048 → EReal) (c : Fin 256)
    (h28 : ∀ r, v28 (ix2 r c) = total 2 x r) (h35 : ∀ r, v35 (ix2 r c) = total 4 x r) (r : Fin 2048) :
    k0_pay1 (BitVec.ofNat 32 g.val) v12 v28 v35 0#32 (ix3 0 r c) = total (2 * 2 ^ g.val) x r - v12 (ix2 r c) := by
  have eight : ∀ (r : Fin 2048) (q : (r.val + 2048 - 2044) % 2048 < 2048), total 4 x r
      + Scalar.select (IntOp.cmpi .slt (BitVec.ofNat 32 r.val) 2044#32) (total 4 x ⟨(r.val + 2048 - 2044) % 2048, q⟩) 0 = total 8 x r := fun r q =>
    (congrArg (total 4 x r + ·) (shift_word 4 2044 rfl (by decide) (total 4 x) r q)).trans (total_twice 4 x r)
  have sixteen : ∀ (r : Fin 2048) (q : (r.val + 2048 - 2040) % 2048 < 2048), total 8 x r
      + Scalar.select (IntOp.cmpi .slt (BitVec.ofNat 32 r.val) 2040#32) (total 8 x ⟨(r.val + 2048 - 2040) % 2048, q⟩) 0 = total 16 x r := fun r q =>
    (congrArg (total 8 x r + ·) (shift_word 8 2040 rfl (by decide) (total 8 x) r q)).trans (total_twice 8 x r)
  pointwise [k0_pay1]
  simp only [h28, h35]
  refine congrArg (· - _) ?_
  rw [eight r]
  have e : ∀ q : (r.val + 2048 - 2040) % 2048 < 2048, _ := fun q => eight ⟨(r.val + 2048 - 2040) % 2048, q⟩
  rw [e _ _, sixteen r]
  fin_cases g <;> rfl

/-- A channel of a group among all channels. -/
def lane (g : Fin 4) (e : Fin 256) : Fin 1024 := ⟨256 * g.val + e.val, by omega⟩

/-- That channel among the columns of the concatenation. -/
def right (g : Fin 4) (e : Fin 256) : Fin 2048 := ⟨1024 + (256 * g.val + e.val), by omega⟩

section Formulas

variable (d : FVec Ideal S2x2048x1024 .bf16) (w : FVec Ideal S4x256x256 .bf16) (s : FVec Ideal S1x1024 .f32)
  (y : FVec Ideal S2x2048x2048 .bf16)

/-- The gradient at the differences. -/
def dd (b : Fin 2) (g : Fin 4) (c : Fin 256) (r : Fin 2048) : EReal :=
  ∑ e : Fin 256, y (ix3 b r (right g e)) * s (ix2 0 (lane g e)) * w (ix3 g c e)

/-- The gradient at the pool's input. -/
def du (b : Fin 2) (g : Fin 4) (c : Fin 256) (r : Fin 2048) : EReal :=
  total (2 * 2 ^ g.val) (fun r => Ideal.div (dd w s y b g c r) (frames g.val r)) r - dd w s y b g c r

/-- The gradient at the pool's input, at channel `n` of all channels. -/
def duAt (b : Fin 2) (r : Fin 2048) (n : ℕ) : EReal :=
  du w s y b ⟨n / 256 % 4, Nat.mod_lt _ (by decide)⟩ ⟨n % 256, Nat.mod_lt _ (by decide)⟩ r

theorem duAt_lane (b : Fin 2) (g : Fin 4) (k : Fin 256) (r : Fin 2048) (n : ℕ) (h : n = 256 * g.val + k.val) :
    duAt w s y b r n = du w s y b g k r := by
  have hk : k.val < 256 := k.isLt
  have hg : g.val < 4 := g.isLt
  have e1 : (⟨n / 256 % 4, Nat.mod_lt _ (by decide)⟩ : Fin 4) = g := Fin.ext (by show n / 256 % 4 = g.val; omega)
  have e2 : (⟨n % 256, Nat.mod_lt _ (by decide)⟩ : Fin 256) = k := Fin.ext (by show n % 256 = k.val; omega)
  rw [duAt, e1, e2]

/-- A batch's part of the gradient at the weight. -/
def weightAt (g : Fin 4) (k e : Fin 256) (b : Fin 2) : EReal :=
  ∑ r : Fin 2048, d (ix3 b r (lane g k)) * (y (ix3 b r (right g e)) * s (ix2 0 (lane g e)))

/-- The gradient at the weight. -/
def dw : FVec Ideal S4x256x256 .f32 := fun i => ∑ b : Fin 2, weightAt d s y (i 0) (i 1) (i 2) b

/-- A batch's part of the gradient at the scale. -/
def scaleAt (g : Fin 4) (e : Fin 256) (b : Fin 2) : EReal :=
  ∑ r : Fin 2048, y (ix3 b r (right g e)) * ∑ k : Fin 256, d (ix3 b r (lane g k)) * w (ix3 g k e)

/-- The gradient at the scale. -/
def dscale : FVec Ideal S1x1024 .f32 := fun i =>
  ∑ b : Fin 2, scaleAt d w y ⟨(i 1).val / 256, by have : (i 1).val < 1024 := (i 1).isLt; omega⟩ ⟨(i 1).val % 256, Nat.mod_lt _ (by decide)⟩ b

end Formulas

/-- Where each window stands at grid point `t`. -/
theorem idx_val : ∀ t : Fin cfg0.N, win0_0.index t = ![t.val % 2, 0, t.val / 2]
    ∧ win0_1.index t = ![t.val / 2, 0, 0]
    ∧ win0_2.index t = ![0, t.val / 2]
    ∧ win0_3.index t = ![t.val % 2, 0, 4 + t.val / 2]
    ∧ win0_4.index t = ![t.val % 2, 0, 12 + t.val / 2]
    ∧ win0_5.index t = ![t.val / 2, 0, 0]
    ∧ win0_6.index t = ![0, t.val / 2] :=
  (by decide +kernel : ∀ t : Fin grid0.N, _)

theorem group_val : ∀ t : Fin cfg0.N, (grid0.coords t 0).val = t.val / 2 :=
  (by decide +kernel : ∀ t : Fin grid0.N, _)

variable (m : (ℓ : Loc nD τ sig) → Buf (Elt Ideal) ℓ)

/-- The batch and the group of a grid point. -/
def batch (t : Fin cfg0.N) : Fin 2 := ⟨t.val % 2, Nat.mod_lt _ (by decide)⟩
def group (t : Fin cfg0.N) : Fin 4 := ⟨t.val / 2, by have : t.val < 8 := N_0 ▸ t.isLt; omega⟩

theorem blk_0 (c : Dev nD) (t : Fin cfg0.N) (r : Fin 2048) (e : Fin 256) :
    iblk m c 0 t (ix3 0 r e) = (V m c main_v44 : FVec Ideal S2x2048x1024 .bf16) (ix3 (batch t) r (lane (group t) e)) := by
  blk_simp [iblk]
  refine congrArg _ ?_
  blk_ext [idx_val t, batch, lane, group]

theorem blk_1 (c : Dev nD) (t : Fin cfg0.N) (k e : Fin 256) :
    iblk m c 1 t (ix3 0 k e) = (m ((c : Thread nD τ).loc main_arg1) : FVec Ideal S4x256x256 .bf16) (ix3 (group t) k e) := by
  blk_point [iblk, V, idx_val t, group]

theorem blk_2 (c : Dev nD) (t : Fin cfg0.N) (e : Fin 256) :
    iblk m c 2 t (ix2 0 e) = (m ((c : Thread nD τ).loc main_arg2) : FVec Ideal S1x1024 .f32) (ix2 0 (lane (group t) e)) := by
  blk_point [iblk, V, idx_val t, group, lane]

theorem blk_3 (c : Dev nD) (t : Fin cfg0.N) (r : Fin 2048) (e : Fin 256) :
    iblk m c 3 t (ix3 0 r e) = (m ((c : Thread nD τ).loc main_arg3) : FVec Ideal S2x2048x2048 .bf16) (ix3 (batch t) r (right (group t) e)) := by
  blk_point [iblk, V, idx_val t, batch, group, right]

theorem emb_4 (t : Fin cfg0.N) (r : Fin 2048) (e : Fin 256) :
    ((cfg0.win 4).blk t).view.emb (ix3 0 r e) = (ix3 (batch t) r ⟨3072 + (256 * (group t).val + e.val), by omega⟩ : S2x2048x4096.Idx) := by
  blk_ext [idx_val t, batch, group]

theorem emb_5 (t : Fin cfg0.N) (k e : Fin 256) :
    ((cfg0.win 5).blk t).view.emb (ix3 0 k e) = (ix3 (group t) k e : S4x256x256.Idx) := by
  blk_ext [idx_val t, group]

theorem emb_6 (t : Fin cfg0.N) (e : Fin 256) :
    ((cfg0.win 6).blk t).view.emb (ix2 0 e) = (ix2 0 (lane (group t) e) : S1x1024.Idx) := by
  blk_ext [idx_val t, group, lane]

/-- The differences' gradient at a grid point. -/
theorem dd_at (c : Dev nD) (t : Fin cfg0.N) (r : Fin 2048) (k : Fin 256) :
    k0_pay12 (iblk m c 3 t) (iblk m c 1 t) (iblk m c 2 t) (ix2 r k)
      = dd (m ((c : Thread nD τ).loc main_arg1)) (m ((c : Thread nD τ).loc main_arg2)) (m ((c : Thread nD τ).loc main_arg3)) (batch t) (group t) k r := by
  refine (pay12_at _ _ _ r k).trans (Finset.sum_congr rfl fun e _ => ?_)
  rw [blk_1, blk_2, blk_3]

set_option maxHeartbeats 1600000 in
theorem point_4 (c : Dev nD) (t : Fin cfg0.N) (r : Fin 2048) (k : Fin 256) :
    (outsAt0 m c t.val t.isLt).1 (ix3 0 r k)
      = du (m ((c : Thread nD τ).loc main_arg1)) (m ((c : Thread nD τ).loc main_arg2)) (m ((c : Thread nD τ).loc main_arg3)) (batch t) (group t) k r := by
  have hN : t.val < 8 := N_0 ▸ t.isLt
  have e : column (grid0.coords t) (iblk m c 3 t) (iblk m c 1 t) (iblk m c 2 t) k
      = fun r => Ideal.div (dd (m ((c : Thread nD τ).loc main_arg1)) (m ((c : Thread nD τ).loc main_arg2)) (m ((c : Thread nD τ).loc main_arg3)) (batch t) (group t) k r) (frames (group t).val r) :=
    funext fun r => by rw [column, dd_at, group_val]; rfl
  have main : k0_pay1 (BitVec.ofNat 32 (grid0.coords t 0).val) (k0_pay12 (iblk m c 3 t) (iblk m c 1 t) (iblk m c 2 t))
      (k0_pay13 (grid0.coords t) (iblk m c 3 t) (iblk m c 1 t) (iblk m c 2 t)) (k0_pay14 (grid0.coords t) (iblk m c 3 t) (iblk m c 1 t) (iblk m c 2 t)) 0#32 (ix3 0 r k)
      = du (m ((c : Thread nD τ).loc main_arg1)) (m ((c : Thread nD τ).loc main_arg2)) (m ((c : Thread nD τ).loc main_arg3)) (batch t) (group t) k r := by
    rw [group_val]
    refine (pay1_at (group t) _ _ _ _ k (fun r => pay13_at _ _ _ _ r k) (fun r => pay14_at _ _ _ _ r k) r).trans ?_
    rw [e, dd_at]; rfl
  by_cases h : t.val % 2 = 0
  · rw [outsAt0_A m c t h (by omega)]; frame_out
    exact main
  · rw [outsAt0_B m c t h (by omega)]; frame_out
    exact main

/-- What a grid point adds to the weight's gradient. -/
def weightOf (x : FVec Ideal S1x2048x256 .bf16) (s : FVec Ideal S1x256 .f32) (y : FVec Ideal S1x2048x256 .bf16)
    (k e : Fin 256) : EReal :=
  ∑ r : Fin 2048, x (ix3 0 r k) * (y (ix3 0 r e) * s (ix2 0 e))

/-- What it adds to the scale's. -/
def scaleOf (x : FVec Ideal S1x2048x256 .bf16) (w : FVec Ideal S1x256x256 .bf16) (y : FVec Ideal S1x2048x256 .bf16) (e : Fin 256) : EReal :=
  ∑ r : Fin 2048, y (ix3 0 r e) * ∑ k : Fin 256, x (ix3 0 r k) * w (ix3 0 k e)

set_option maxHeartbeats 1600000 in
theorem start_5 (c : Dev nD) (t : Fin cfg0.N) (h : t.val % 2 = 0) (k e : Fin 256) :
    (outsAt0 m c t.val t.isLt).2.1 (ix3 0 k e) = weightOf (iblk m c 0 t) (iblk m c 2 t) (iblk m c 3 t) k e := by
  rw [outsAt0_A m c t h (by omega)]; frame_out
  open_payloads; pointwise [weightOf]

set_option maxHeartbeats 1600000 in
theorem step_5 (c : Dev nD) (t : Fin cfg0.N) (h : ¬ t.val % 2 = 0) (k e : Fin 256) :
    (outsAt0 m c t.val t.isLt).2.1 (ix3 0 k e)
      = (outsAt0 m c (t.val - 1) (Nat.lt_of_le_of_lt (Nat.sub_le _ _) t.isLt)).2.1 (ix3 0 k e)
        + weightOf (iblk m c 0 t) (iblk m c 2 t) (iblk m c 3 t) k e := by
  rw [outsAt0_B m c t h (by omega)]; frame_out
  open_payloads; pointwise [weightOf]

set_option maxHeartbeats 1600000 in
theorem start_6 (c : Dev nD) (t : Fin cfg0.N) (h : t.val % 2 = 0) (e : Fin 256) :
    (outsAt0 m c t.val t.isLt).2.2 (ix2 0 e) = scaleOf (iblk m c 0 t) (iblk m c 1 t) (iblk m c 3 t) e := by
  rw [outsAt0_A m c t h (by omega)]; frame_out
  open_payloads; pointwise [scaleOf]

set_option maxHeartbeats 1600000 in
theorem step_6 (c : Dev nD) (t : Fin cfg0.N) (h : ¬ t.val % 2 = 0) (e : Fin 256) :
    (outsAt0 m c t.val t.isLt).2.2 (ix2 0 e)
      = (outsAt0 m c (t.val - 1) (Nat.lt_of_le_of_lt (Nat.sub_le _ _) t.isLt)).2.2 (ix2 0 e) + scaleOf (iblk m c 0 t) (iblk m c 1 t) (iblk m c 3 t) e := by
  rw [outsAt0_B m c t h (by omega)]; frame_out
  open_payloads; pointwise [scaleOf]

theorem weightOf_eq (c : Dev nD) (t : Fin cfg0.N) (k e : Fin 256) :
    weightOf (iblk m c 0 t) (iblk m c 2 t) (iblk m c 3 t) k e
      = weightAt (V m c main_v44) (m ((c : Thread nD τ).loc main_arg2)) (m ((c : Thread nD τ).loc main_arg3)) (group t) k e (batch t) := by
  simp only [weightOf, weightAt, blk_0, blk_2, blk_3]

theorem scaleOf_eq (c : Dev nD) (t : Fin cfg0.N) (e : Fin 256) :
    scaleOf (iblk m c 0 t) (iblk m c 1 t) (iblk m c 3 t) e
      = scaleAt (V m c main_v44) (m ((c : Thread nD τ).loc main_arg1)) (m ((c : Thread nD τ).loc main_arg3)) (group t) e (batch t) := by
  simp only [scaleOf, scaleAt, blk_0, blk_1, blk_3]

/-- The point before the second of two. -/
def pred (t : Fin cfg0.N) : Fin cfg0.N := ⟨t.val - 1, Nat.lt_of_le_of_lt (Nat.sub_le _ _) t.isLt⟩

theorem group_pred (t : Fin cfg0.N) (h : t.val % 2 = 1) : group (pred t) = group t := Fin.ext (by simp only [group, pred]; omega)

theorem batch_pred (t : Fin cfg0.N) (h : t.val % 2 = 1) : batch (pred t) = 0 := Fin.ext (by simp only [batch, pred, Fin.val_zero]; omega)

theorem batch_last (t : Fin cfg0.N) (h : t.val % 2 = 1) : batch t = 1 := Fin.ext (by simp only [batch, Fin.val_one]; omega)

/-- The first result after the whole grid. -/
theorem final_4 (c : Dev nD) : (dats m 0 c).arrAt 4 (cfgs 0).N
    = fun i : S2x2048x4096.Idx => if 12 ≤ (i 2).val / 256 then
        duAt (m ((c : Thread nD τ).loc main_arg1)) (m ((c : Thread nD τ).loc main_arg2)) (m ((c : Thread nD τ).loc main_arg3)) (i 0) (i 1) ((i 2).val - 3072)
      else V m c main_v45_0 i := by
  refine (dats m 0 c).arrAt_eq_of_coversWhere 4 _ (fun β => 12 ≤ β (2 : Fin _)) (by decide +kernel) (fun t hf j => ?_) (fun j => Iff.rfl)
  obtain ⟨z, r, k, rfl⟩ : ∃ z r k, j = ix3 z r k := ⟨j 0, j 1, j 2, eq_ix3 j⟩
  obtain rfl : z = 0 := Subsingleton.elim _ _
  rw [emb_4]
  blk_simp; rw [after0_4, point_4]
  have hk : k.val < 256 := k.isLt
  exact (duAt_lane _ _ _ (batch t) (group t) k r _ (by show 3072 + (256 * (group t).val + k.val) - 3072 = _; omega)).symm

theorem two (f : Fin 2 → EReal) : f 0 + f 1 = ∑ b, f b := (Fin.sum_univ_two f).symm

/-- The second result after the whole grid. -/
theorem final_5 (c : Dev nD) : (dats m 0 c).arrAt 5 (cfgs 0).N
    = dw (V m c main_v44) (m ((c : Thread nD τ).loc main_arg2)) (m ((c : Thread nD τ).loc main_arg3)) := by
  refine (dats m 0 c).arrAt_eq_of_covers 5 _ (by decide +kernel) fun t hf j => ?_
  have h : t.val % 2 = 1 := (flush0_5 t).mp hf
  obtain ⟨z, k, e, rfl⟩ : ∃ z k e, j = ix3 z k e := ⟨j 0, j 1, j 2, eq_ix3 j⟩
  obtain rfl : z = 0 := Subsingleton.elim _ _
  rw [emb_5]
  blk_simp; rw [after0_5, step_5 m c t (by omega)]
  refine (congrArg (· + _) (start_5 m c (pred t) (by simp only [pred]; omega) k e)).trans ?_
  rw [weightOf_eq, weightOf_eq, group_pred t h, batch_pred t h, batch_last t h]
  exact two (weightAt (V m c main_v44) (m ((c : Thread nD τ).loc main_arg2)) (m ((c : Thread nD τ).loc main_arg3)) (group t) k e)

theorem dscale_at (d : FVec Ideal S2x2048x1024 .bf16) (w : FVec Ideal S4x256x256 .bf16) (y : FVec Ideal S2x2048x2048 .bf16) (g : Fin 4) (e : Fin 256) :
    dscale d w y (ix2 0 (lane g e)) = ∑ b, scaleAt d w y g e b := by
  have he : e.val < 256 := e.isLt
  refine congrArg₂ (fun g e => ∑ b, scaleAt d w y g e b) (Fin.ext ?_) (Fin.ext ?_)
  · show (256 * g.val + e.val) / 256 = g.val; omega
  · show (256 * g.val + e.val) % 256 = e.val; omega

/-- The third result after the whole grid. -/
theorem final_6 (c : Dev nD) : (dats m 0 c).arrAt 6 (cfgs 0).N
    = dscale (V m c main_v44) (m ((c : Thread nD τ).loc main_arg1)) (m ((c : Thread nD τ).loc main_arg3)) := by
  refine (dats m 0 c).arrAt_eq_of_covers 6 _ (by decide +kernel) fun t hf j => ?_
  have h : t.val % 2 = 1 := (flush0_6 t).mp hf
  obtain ⟨z, e, rfl⟩ : ∃ z e, j = ix2 z e := ⟨j 0, j 1, eq_ix2 j⟩
  obtain rfl : z = 0 := Subsingleton.elim _ _
  rw [emb_6]
  blk_simp; rw [after0_6, step_6 m c t (by omega)]
  refine (congrArg (· + _) (start_6 m c (pred t) (by simp only [pred]; omega) e)).trans ?_
  rw [dscale_at, scaleOf_eq, scaleOf_eq, group_pred t h, batch_pred t h, batch_last t h]
  exact two (scaleAt (V m c main_v44) (m ((c : Thread nD τ).loc main_arg1)) (m ((c : Thread nD τ).loc main_arg3)) (group t) e)

end Cert.PoolBwdIdeal.Hand

end
-- ==== Proof.PoolPair.lean ====
/- Hand-written, untrusted: the pool's backward kernel and the derivative of the plain pool give the same three arrays. -/
module

public import proofs.«01_k».proof.Defs
public import proofs.«01_k».proof.Proof.PoolValue
public import proofs.«01_k».proof.Proof.Gen.PoolGradIdeal.Run
public import proofs.«01_k».proof.Proof.Gen.PoolGradIdeal.Read
public import Idealize.ShloMosaic.Lib.StableHlo.RunRead

@[expose] public section

set_option maxRecDepth 16384

noncomputable section

open Idealize.ShloMosaic Idealize.ShloMosaic.TcCoe Idealize.SL.Sem
open scoped BigOperators

namespace Cert.PoolGradIdeal.Hand

open Cert.PoolGradIdeal Cert.PoolGradIdeal.Read

/-- The plain derivative's results, each as its named value of the arguments; the arguments stay. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v75) = val_main_v75 (F := Ideal) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v64) = val_main_v64 (F := Ideal) (m ((c.tc : Thread nD τ).loc main_arg0))
          (m ((c.tc : Thread nD τ).loc main_arg2)) (m ((c.tc : Thread nD τ).loc main_arg3))
      ∧ r.2.mem ((c.tc : Thread nD τ).loc main_v58) = val_main_v58 (F := Ideal) (m ((c.tc : Thread nD τ).loc main_arg0))
          (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v75_eq m c), (h c).2.1.trans (val_main_v64_eq m c),
    (h c).2.2.1.trans (val_main_v58_eq m c), (h c).2.2.2⟩) (Cert.PoolGradIdeal.Value.run m ρ)

end Cert.PoolGradIdeal.Hand

namespace Cert.PoolBwdIdeal.Hand

open Cert.PoolGradIdeal.Read Cert.Reals Cert.Pool

open Cert.PoolBwdIdeal
open Cert.PoolBwdIdeal.Gen (V iblk dats)

section Reference

variable (u : FVec Ideal S2x2048x1024 .f32) (w : FVec Ideal S4x256x256 .bf16) (s : FVec Ideal S1x1024 .f32)
  (y : FVec Ideal S2x2048x2048 .bf16) (z : FVec Ideal S2x2048x4096 .bf16)

/-- The differences the reference works with, on all channels. -/
def diffs : FVec Ideal S2x2048x1024 .bf16 := fun i =>
  val_main_v43 (F := Ideal) u (ix4 (i 0) (i 1) ⟨(i 2).val / 256, by have : (i 2).val < 1024 := (i 2).isLt; omega⟩ ⟨(i 2).val % 256, Nat.mod_lt _ (by decide)⟩)

theorem diffs_lane (b : Fin 2) (r : Fin 2048) (g : Fin 4) (k : Fin 256) :
    diffs u (ix3 b r (lane g k)) = val_main_v43 (F := Ideal) u (ix4 b r g k) := by
  have hk : k.val < 256 := k.isLt
  refine congrArg₂ (fun g k => val_main_v43 (F := Ideal) u (ix4 b r g k)) (Fin.ext ?_) (Fin.ext ?_)
  · show (256 * g.val + k.val) / 256 = g.val; omega
  · show (256 * g.val + k.val) % 256 = k.val; omega

/-- The windows' lengths. -/
theorem ref_length (g : Fin 4) : val_main_v8 (F := Ideal) (ix1 g) = BitVec.ofNat 32 (2 * 2 ^ g.val) := by
  fin_cases g <;> rfl

/-- The same after the conversion that changes nothing. -/
theorem ref_length_again (g : Fin 4) : val_main_v11 (F := Ideal) (ix1 g) = BitVec.ofNat 32 (2 * 2 ^ g.val) := ref_length g

/-- A window's first frame. -/
theorem ref_first (t : Fin 2048) (g : Fin 4) : val_main_v17 (F := Ideal) (ix2 t g) = first t g := by
  pointwise [val_main_v17, val_main_v16, val_main_v15, val_main_v14, val_main_v13, val_main_v12, val_main_v10, val_main_v9,
    val_main_v3, val_main_v2, val_main_c_3, val_main_c_4]
  rw [ref_length_again]
  rfl

/-- How many frames it has. -/
theorem ref_count (b : Fin 2) (t : Fin 2048) (g : Fin 4) (e : Fin 256) : val_main_v66 (F := Ideal) (ix4 b t g e) = frames g.val t := by
  pointwise [val_main_v66, val_main_v40, val_main_v39, val_main_v22, val_main_v21, val_main_v20, val_main_v19, val_main_v18, val_main_v3,
    val_main_v2, val_main_c_5]
  rw [ref_first, count_word]
  rfl

/-- The scaled cotangent. -/
theorem ref_cot (b : Fin 2) (r : Fin 2048) (g : Fin 4) (e : Fin 256) :
    val_main_v59 (F := Ideal) s y (ix4 b r g e) = y (ix3 b r (right g e)) * s (ix2 0 (lane g e)) := by
  pointwise [val_main_v59, val_main_v56, val_main_v55, val_main_v51, val_main_v50, val_main_v47]
  simp only [right, lane, Nat.mul_comm]

theorem ref_dd (b : Fin 2) (r : Fin 2048) (g : Fin 4) (k : Fin 256) :
    val_main_v62 (F := Ideal) w s y (ix4 b r g k) = dd w s y b g k r := by
  pointwise [val_main_v62, val_main_v61, val_main_v60, val_main_v0]
  simp only [ref_cot]
  rfl

theorem ref_total (b : Fin 2) (r : Fin 2048) (g : Fin 4) (k : Fin 256) :
    val_main_v70 (F := Ideal) w s y (ix4 b r g k)
      = total (2 * 2 ^ g.val) (fun r => Ideal.div (dd w s y b g k r) (frames g.val r)) r := by
  pointwise [val_main_v70, val_main_v69, val_main_call1_v2, val_main_call1_v1, val_main_call1_v0, val_main_call1_cst, val_main_v68,
    val_main_v37_1, val_main_v35, val_main_v34, val_main_v33, val_main_v32, val_main_v31, val_main_v30, val_main_v29, val_main_v28,
    val_main_v27, val_main_v26, val_main_v25, val_main_v24, val_main_v23, val_main_v3, val_main_v2, val_main_v67, val_main_cst_9, val_main_call1_cst_0]
  rw [Fin.sum_univ_one]
  refine Finset.sum_congr rfl fun t _ => ?_
  rw [ref_first, inside_word, ref_dd, ref_count]

theorem ref_dz (b : Fin 2) (r : Fin 2048) (n : Fin 4096) :
    val_main_v75 (F := Ideal) w s y z (ix3 b r n) = if 12 ≤ n.val / 256 then duAt w s y b r (n.val - 3072) else z (ix3 b r n) := by
  pointwise [val_main_v75, val_main_v74, val_main_v73, val_main_v72, val_main_v71, val_main_v65]
  have hn : n.val < 4096 := n.isLt
  by_cases h : n.val < 3072
  · rw [dif_pos h, if_neg (by omega)]
  · refine (dif_neg h).trans (Eq.trans ?_ (if_pos (by omega)).symm)
    rw [ref_dd, ref_total]
    refine Eq.trans ?_ (duAt_lane w s y b ⟨(n.val - 3072) / 256, by omega⟩ ⟨(n.val - 3072) % 256, Nat.mod_lt _ (by decide)⟩ r _
      (by show n.val - 3072 = 256 * ((n.val - 3072) / 256) + (n.val - 3072) % 256; omega)).symm
    exact (add_comm _ _).trans (sub_eq_add_neg _ _).symm

theorem ref_dw : val_main_v64 (F := Ideal) u s y = dw (diffs u) s y := by
  funext i
  obtain ⟨g, k, e, rfl⟩ : ∃ g k e, i = ix3 g k e := ⟨i 0, i 1, i 2, eq_ix3 i⟩
  pointwise [val_main_v64, val_main_v63, val_main_v60]
  simp only [ref_cot, ← diffs_lane]
  exact Finset.sum_congr rfl fun b _ => Finset.sum_congr rfl fun r _ => mul_comm _ _

/-- The products with the weight. -/
theorem ref_product (b : Fin 2) (r : Fin 2048) (k : Fin 1024) : val_main_v46 (F := Ideal) u w (ix3 b r k)
    = ∑ c : Fin 256, w (ix3 ⟨k.val / 256, by omega⟩ c ⟨k.val % 256, Nat.mod_lt _ (by decide)⟩)
        * val_main_v43 (F := Ideal) u (ix4 b r ⟨k.val / 256, by omega⟩ c) := by
  pointwise [val_main_v46, val_main_v45, val_main_v44, val_main_v0]

theorem ref_scale (k : Fin 1024) : val_main_v53 (F := Ideal) u w y (ix1 k)
    = ∑ b : Fin 2, ∑ r : Fin 2048, val_main_v46 (F := Ideal) u w (ix3 b r k) * y (ix3 b r ⟨1024 + k.val, by omega⟩) := by
  pointwise [val_main_v53, val_main_cst_7]
  refine (sum_leading _ _ k).trans (Finset.sum_congr rfl fun b _ => Finset.sum_congr rfl fun r _ => ?_)
  pointwise [val_main_v52, val_main_v51, val_main_v50]

theorem ref_dscale : val_main_v58 (F := Ideal) u w y = dscale (diffs u) w y := by
  funext i
  obtain ⟨a, k, rfl⟩ : ∃ a k, i = ix2 a k := ⟨i 0, i 1, eq_ix2 i⟩
  pointwise [val_main_v58, val_main_v57, val_main_cst_8]
  refine (sum_leading _ _ k).trans ?_
  rw [Fin.sum_univ_one, Fin.sum_univ_one]
  pointwise [val_main_v54]
  have hk : k.val < 1024 := k.isLt
  have hr (g : Fin 4) (e : Fin 256) (h : k.val = 256 * g.val + e.val) :
      right g e = (⟨1024 + k.val, by omega⟩ : Fin 2048) := Fin.ext (congrArg (1024 + ·) h.symm)
  refine (ref_scale u w y k).trans ?_
  show _ = ∑ b : Fin 2, scaleAt (diffs u) w y ⟨k.val / 256, by omega⟩ ⟨k.val % 256, Nat.mod_lt _ (by decide)⟩ b
  refine Finset.sum_congr rfl fun b _ => ?_
  rw [scaleAt]
  refine Finset.sum_congr rfl fun r _ => ?_
  rw [ref_product, hr _ _ (by show k.val = 256 * (k.val / 256) + k.val % 256; omega)]
  simp only [diffs_lane]
  rw [mul_comm]
  exact congrArg (_ * ·) (Finset.sum_congr rfl fun c _ => mul_comm _ _)

end Reference

/-- The differences the host computes for the kernel are the reference's. -/
theorem entry_diffs (m : (ℓ : Loc nD τ sig) → Buf (Elt Ideal) ℓ) (c : Dev nD) :
    V m c main_v44 = diffs (m ((c.tc : Thread nD τ).loc main_arg0)) := by
  simp only [V, List.flatten_cons, List.flatten_nil, List.append_nil]
  after_reads_simp
  refine (?_ : _ = shapeCast S2x2048x1024 (val_main_v43 (F := Ideal) (m ((c.tc : Thread nD τ).loc main_arg0)))
    Gen.shapeCasts_S2x2048x4x256_S2x2048x1024).trans ?_
  · rfl
  · funext i
    obtain ⟨b, r, n, rfl⟩ : ∃ b r n, i = ix3 b r n := ⟨i 0, i 1, i 2, eq_ix3 i⟩
    pointwise [diffs]

theorem entry_dz (m : (ℓ : Loc nD τ sig) → Buf (Elt Ideal) ℓ) (c : Dev nD) :
    V m c main_v45_0 = m ((c.tc : Thread nD τ).loc main_arg4) := by
  simp only [V, List.flatten_cons, List.flatten_nil, List.append_nil]
  after_reads_simp
  rfl

/-- What the kernel's run leaves in its results, on every device. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45_0) = (fun i : S2x2048x4096.Idx => if 12 ≤ (i 2).val / 256 then
          duAt (m ((c : Thread nD τ).loc main_arg1)) (m ((c : Thread nD τ).loc main_arg2)) (m ((c : Thread nD τ).loc main_arg3)) (i 0) (i 1) ((i 2).val - 3072)
        else m ((c : Thread nD τ).loc main_arg4) i)
      ∧ r.2.mem ((c.tc : Thread nD τ).loc main_v45_1)
        = dw (diffs (m ((c.tc : Thread nD τ).loc main_arg0))) (m ((c : Thread nD τ).loc main_arg2)) (m ((c : Thread nD τ).loc main_arg3))
      ∧ r.2.mem ((c.tc : Thread nD τ).loc main_v45_2)
        = dscale (diffs (m ((c.tc : Thread nD τ).loc main_arg0))) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans ((final_4 m c).trans (by rw [entry_dz])),
    (h c).2.1.trans ((final_5 m c).trans (by rw [entry_diffs])), (h c).2.2.1.trans ((final_6 m c).trans (by rw [entry_diffs])),
    (h c).2.2.2⟩) (Cert.PoolBwdIdeal.Value.run_blocks m ρ)

set_option backward.isDefEq.respectTransparency.types false in
/-- The two programs give the same results. -/
theorem algebraic : algebraic_PoolBwdIdeal_PoolGradIdeal := by
  pair_intro
  · run_from kernel_run m g
  · run_from Cert.PoolGradIdeal.Hand.reference_run m' g'
    · funext i
      obtain ⟨b, r, n, rfl⟩ : ∃ b r n, i = ix3 b r n := ⟨i 0, i 1, i 2, eq_ix3 i⟩
      exact ref_dz _ _ _ _ b r n
    · exact ref_dw _ _ _
    · exact ref_dscale _ _ _

end Cert.PoolBwdIdeal.Hand

end
-- ==== Proof.CrossMath.lean ====
/- Hand-written, untrusted: one query's row of the memory cross-attention, differentiated — the formula the kernel spells and
   the one the plain derivative spells are the same, for a row of reals. -/
module

public import proofs.«01_k».proof.Proof.Softmax

@[expose] public section

noncomputable section

namespace Cert.Cross

open Idealize.ShloMosaic Cert.Reals
open scoped BigOperators

/-- The pattern of the scale of the scores is a real. -/
theorem ofBits_scale : ∃ e : ℝ, Ideal.ofBits .f32 0x3DB504F3#32 = (e : EReal) :=
  ⟨_, by simp [Ideal.ofBits, Ideal.ieee, -EReal.coe_mul]; rfl⟩

/-- A query's product with one key. -/
def dot (q : Fin 128 → EReal) (k : Fin 256 → Fin 128 → EReal) (m : Fin 256) : EReal := ∑ l, q l * k m l

/-- A query's scaled scores. -/
def score (q : Fin 128 → EReal) (k : Fin 256 → Fin 128 → EReal) (m : Fin 256) : EReal :=
  dot q k m * Ideal.ofBits .f32 0x3DB504F3#32

/-- The exponentials of a row of scores minus its greatest. -/
def powers (s : Fin 256 → EReal) (m : Fin 256) : EReal := Ideal.exp (s m - Finset.univ.fold max ⊥ s)

/-- A row of probabilities, as the kernel spells it. -/
def prob (s : Fin 256 → EReal) (m : Fin 256) : EReal := powers s m * Ideal.div 1 (∑ n, powers s n)

/-- The gradient at a row of unscaled scores, as the kernel spells it: `s` the scores, `d` the probabilities' gradient. -/
def dscore (s d : Fin 256 → EReal) (m : Fin 256) : EReal :=
  prob s m * (d m - ∑ n, prob s n * d n) * Ideal.ofBits .f32 0x3DB504F3#32

theorem dot_real (q : Fin 128 → ℝ) (k : Fin 256 → Fin 128 → ℝ) : ∃ d : Fin 256 → ℝ,
    dot (fun l => (q l : EReal)) (fun m l => (k m l : EReal)) = fun m => (d m : EReal) :=
  ⟨fun m => ∑ l, q l * k m l, funext fun m => by simp only [dot, ← EReal.coe_mul, coe_sum]⟩

theorem score_real (q : Fin 128 → ℝ) (k : Fin 256 → Fin 128 → ℝ) : ∃ s : Fin 256 → ℝ,
    score (fun l => (q l : EReal)) (fun m l => (k m l : EReal)) = fun m => (s m : EReal) := by
  obtain ⟨d, hd⟩ := dot_real q k
  obtain ⟨e, he⟩ := ofBits_scale
  exact ⟨fun m => d m * e, funext fun m => by rw [score, hd, he, ← EReal.coe_mul]⟩

/-- A row of reals' exponentials, their sum and its reciprocal. -/
theorem powers_real (s : Fin 256 → ℝ) : ∃ (e : Fin 256 → ℝ) (z : ℝ), 0 < z ∧ (∀ m, powers (fun m => (s m : EReal)) m = (e m : EReal))
    ∧ ∑ m, powers (fun m => (s m : EReal)) m = (z : EReal) := by
  obtain ⟨μ, hμ, h⟩ := row_exp (fun m => (s m : EReal)) (fun _ => True) s (fun _ => (if_pos trivial).symm) ⟨0, trivial⟩
  refine ⟨fun m => μ * Real.exp (s m), ∑ m, μ * Real.exp (s m), ?_, fun m => ?_, ?_⟩
  · exact Finset.sum_pos (fun m _ => mul_pos hμ (Real.exp_pos _)) ⟨0, Finset.mem_univ _⟩
  · exact (h m).trans (by rw [if_pos trivial])
  · rw [← coe_sum]
    exact Finset.sum_congr rfl fun m _ => (h m).trans (by rw [if_pos trivial])

section Row

variable {p : Fin 256 → EReal} {e : Fin 256 → ℝ} {z : ℝ} (hz : 0 < z) (he : ∀ m, p m = (e m : EReal)) (hs : ∑ m, p m = (z : EReal))

include hz he hs

theorem quotient (m : Fin 256) : Ideal.div (p m) (∑ n, p n) = p m * Ideal.div 1 (∑ n, p n) := by
  rw [hs, he, div_real _ hz.ne', ← EReal.coe_one, div_real _ hz.ne', ← EReal.coe_mul]
  exact congrArg _ (by ring)

theorem slope (d : Fin 256 → ℝ) {x : EReal} {κ : ℝ} (hx : x = (κ : EReal)) (m : Fin 256) :
    (Ideal.div (d m : EReal) (∑ n, p n) + -(∑ n, (d n : EReal) * Ideal.div 1 ((∑ n, p n) * ∑ n, p n) * p n)) * p m * x
      = p m * Ideal.div 1 (∑ n, p n) * ((d m : EReal) - ∑ n, p n * Ideal.div 1 (∑ n, p n) * d n) * x := by
  rw [hs, hx, ← EReal.coe_one, ← EReal.coe_mul z z]
  simp only [he, ← EReal.coe_mul, div_real _ hz.ne', div_real _ (mul_pos hz hz).ne',
    coe_sum, ← EReal.coe_neg, ← EReal.coe_add, ← EReal.coe_sub]
  refine congrArg _ ?_
  have h1 : ∑ n, d n * (1 / (z * z)) * e n = (∑ n, d n * e n) / (z * z) := by
    rw [Finset.sum_div]; exact Finset.sum_congr rfl fun n _ => by ring
  have h2 : ∑ n, e n * (1 / z) * d n = (∑ n, d n * e n) / z := by
    rw [Finset.sum_div]; exact Finset.sum_congr rfl fun n _ => by ring
  rw [h1, h2]
  field_simp
  ring

end Row

/-- The probabilities, as the plain softmax spells them. -/
theorem prob_plain (s : Fin 256 → ℝ) (m : Fin 256) :
    Ideal.div (powers (fun m => (s m : EReal)) m) (∑ n, powers (fun m => (s m : EReal)) n) = prob (fun m => (s m : EReal)) m := by
  obtain ⟨e, z, hz, he, hs⟩ := powers_real s
  exact quotient hz he hs m

/-- The gradient at the scores, as the plain derivative of the softmax spells it. -/
theorem dscore_plain (s d : Fin 256 → ℝ) (m : Fin 256) :
    (Ideal.div (d m : EReal) (∑ n, powers (fun m => (s m : EReal)) n)
        + -(∑ n, (d n : EReal) * Ideal.div 1 ((∑ n, powers (fun m => (s m : EReal)) n) * ∑ n, powers (fun m => (s m : EReal)) n)
            * powers (fun m => (s m : EReal)) n))
      * powers (fun m => (s m : EReal)) m * Ideal.ofBits .f32 0x3DB504F3#32
      = dscore (fun m => (s m : EReal)) (fun m => (d m : EReal)) m := by
  obtain ⟨e, z, hz, he, hs⟩ := powers_real s
  obtain ⟨κ, hκ⟩ := ofBits_scale
  exact slope hz he hs d hκ m

end Cert.Cross

end
-- ==== Proof.CrossValue.lean ====
/- Hand-written, untrusted: what the cross-attention's backward kernel leaves in its three results, as formulas of its
   arguments. -/
module

public import proofs.«01_k».proof.Proof.Gen.CrossBwdIdeal.Value
public import proofs.«01_k».proof.Proof.CrossMath
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.CrossBwdIdeal.Hand

open Cert.CrossBwdIdeal Cert.CrossBwdIdeal.Gen Cert.Cross Cert.Reals

section Point

variable (q : Vec Ideal S1x1024x128 .bf16) (k v : Vec Ideal S1x256x128 .bf16) (c : Vec Ideal S1x1024x128 .bf16)

/-- One query's scores at a grid point. -/
def scores (r : Fin 1024) : Fin 256 → EReal := score (fun l => q (ix3 0 r l)) fun m l => k (ix3 0 m l)

/-- One query's gradient at the probabilities. -/
def dprobs (r : Fin 1024) : Fin 256 → EReal := dot (fun l => c (ix3 0 r l)) fun m l => v (ix3 0 m l)

theorem prob_at (r : Fin 1024) (m : Fin 256) : k0_pay13 q k (ix2 r m) = prob (scores q k r) m := by
  pointwise [k0_pay13, k0_pay10, k0_pay11, prob, powers, scores, score, dot]
  rw [ofBits_neg_inf]

theorem dscore_at (r : Fin 1024) (m : Fin 256) : k0_pay14 q k v c (ix2 r m) = dscore (scores q k r) (dprobs v c r) m := by
  pointwise [k0_pay14, k0_pay12, dscore, dprobs, dot]
  simp only [prob_at]

/-- What a grid point adds to the keys' gradient. -/
def dkPart (m : Fin 256) (l : Fin 128) : EReal := ∑ r : Fin 1024, dscore (scores q k r) (dprobs v c r) m * q (ix3 0 r l)

/-- What a grid point adds to the values' gradient. -/
def dvPart (m : Fin 256) (l : Fin 128) : EReal := ∑ r : Fin 1024, prob (scores q k r) m * c (ix3 0 r l)

end Point

/-- One query's scores: head `h`'s 128 lanes. -/
def sc (x : FVec Ideal S2x2048x512 .bf16) (y : FVec Ideal S2x256x1024 .bf16) (b : Fin 2) (h : Fin 4) (s : Fin 2048) : Fin 256 → EReal :=
  score (fun l => x (ix3 b s ⟨h.val * 128 + l.val, by omega⟩)) fun m l => y (ix3 b m ⟨h.val * 128 + l.val, by omega⟩)

/-- One query's gradient at the probabilities. -/
def dp (y : FVec Ideal S2x256x1024 .bf16) (d : FVec Ideal S2x2048x512 .bf16) (b : Fin 2) (h : Fin 4) (s : Fin 2048) : Fin 256 → EReal :=
  dot (fun l => d (ix3 b s ⟨h.val * 128 + l.val, by omega⟩)) fun m l => y (ix3 b m ⟨512 + (h.val * 128 + l.val), by omega⟩)

/-- The head a lane belongs to. -/
def head (l : Fin 512) : Fin 4 := ⟨l.val / 128, by omega⟩

variable (x : FVec Ideal S2x2048x512 .bf16) (y : FVec Ideal S2x256x1024 .bf16) (d : FVec Ideal S2x2048x512 .bf16)

/-- The gradient at the queries. -/
def dq : FVec Ideal S2x2048x512 .bf16 := fun i =>
  ∑ m : Fin 256, dscore (sc x y (i 0) (head (i 2)) (i 1)) (dp y d (i 0) (head (i 2)) (i 1)) m
    * y (ix3 (i 0) m ⟨(i 2).val, by have : (i 2).val < 512 := (i 2).isLt; omega⟩)

/-- The gradient at the keys. -/
def dk : FVec Ideal S2x256x512 .bf16 := fun i =>
  ∑ s : Fin 2048, dscore (sc x y (i 0) (head (i 2)) s) (dp y d (i 0) (head (i 2)) s) (i 1) * x (ix3 (i 0) s (i 2))

/-- The gradient at the values. -/
def dv : FVec Ideal S2x256x512 .bf16 := fun i =>
  ∑ s : Fin 2048, prob (sc x y (i 0) (head (i 2)) s) (i 1) * d (ix3 (i 0) s (i 2))

/-- Where each window stands at grid point `t`. -/
theorem idx_val : ∀ t : Fin cfg0.N, win0_0.index t = ![t.val / 8, t.val % 2, t.val / 2 % 4]
    ∧ win0_1.index t = ![t.val / 8, 0, t.val / 2 % 4]
    ∧ win0_2.index t = ![t.val / 8, 0, 4 + t.val / 2 % 4]
    ∧ win0_3.index t = ![t.val / 8, t.val % 2, t.val / 2 % 4]
    ∧ win0_4.index t = ![t.val / 8, t.val % 2, t.val / 2 % 4]
    ∧ win0_5.index t = ![t.val / 8, 0, t.val / 2 % 4]
    ∧ win0_6.index t = ![t.val / 8, 0, t.val / 2 % 4] :=
  (by decide +kernel : ∀ t : Fin grid0.N, _)

variable (m : (ℓ : Loc nD τ sig) → Buf (Elt Ideal) ℓ)

/-- What grid point `t` leaves of the queries' gradient, of its blocks. -/
theorem point_4 (c : Dev nD) (t : Fin cfg0.N) (r : Fin 1024) (l : Fin 128) :
    (outsAt0 m c t.val t.isLt).1 (ix3 0 r l)
      = ∑ n : Fin 256, dscore (scores (iblk m c 0 t) (iblk m c 1 t) r) (dprobs (iblk m c 2 t) (iblk m c 3 t) r) n * iblk m c 1 t (ix3 0 n l) := by
  by_cases h : t.val % 2 = 0
  · rw [outsAt0_A m c t h (by omega) (by omega)]; frame_out
    pointwise [k0_pay1, k0_pay15, k0_pay11]; simp only [dscore_at]
  · rw [outsAt0_B m c t h (by omega) (by omega)]; frame_out
    pointwise [k0_pay1, k0_pay15, k0_pay11]; simp only [dscore_at]

/-- What the first of two points leaves in the keys' accumulator. -/
theorem start_5 (c : Dev nD) (t : Fin cfg0.N) (h : t.val % 2 = 0) (n : Fin 256) (l : Fin 128) :
    (outsAt0 m c t.val t.isLt).2.2.2.1 (ix2 n l) = dkPart (iblk m c 0 t) (iblk m c 1 t) (iblk m c 2 t) (iblk m c 3 t) n l := by
  rw [outsAt0_A m c t h (by omega) (by omega)]; frame_out
  pointwise [k0_pay4, k0_pay2, k0_pay10, dkPart]; simp only [dscore_at]

/-- What the second writes of the keys' gradient. -/
theorem step_5 (c : Dev nD) (t : Fin cfg0.N) (h : t.val % 2 = 1) (n : Fin 256) (l : Fin 128) :
    (outsAt0 m c t.val t.isLt).2.1 (ix3 0 n l)
      = (outsAt0 m c (t.val - 1) (Nat.lt_of_le_of_lt (Nat.sub_le _ _) t.isLt)).2.2.2.1 (ix2 n l)
        + dkPart (iblk m c 0 t) (iblk m c 1 t) (iblk m c 2 t) (iblk m c 3 t) n l := by
  rw [outsAt0_B m c t (by omega) h h]; frame_out
  pointwise [k0_pay8, k0_pay6, k0_pay2, k0_pay10, dkPart]; simp only [dscore_at, read_unread_whole]

/-- What the first of two points leaves in the values' accumulator. -/
theorem start_6 (c : Dev nD) (t : Fin cfg0.N) (h : t.val % 2 = 0) (n : Fin 256) (l : Fin 128) :
    (outsAt0 m c t.val t.isLt).2.2.2.2 (ix2 n l) = dvPart (iblk m c 0 t) (iblk m c 1 t) (iblk m c 3 t) n l := by
  rw [outsAt0_A m c t h (by omega) (by omega)]; frame_out
  pointwise [k0_pay5, k0_pay3, k0_pay12, dvPart]; simp only [prob_at]

/-- What the second writes of the values' gradient. -/
theorem step_6 (c : Dev nD) (t : Fin cfg0.N) (h : t.val % 2 = 1) (n : Fin 256) (l : Fin 128) :
    (outsAt0 m c t.val t.isLt).2.2.1 (ix3 0 n l)
      = (outsAt0 m c (t.val - 1) (Nat.lt_of_le_of_lt (Nat.sub_le _ _) t.isLt)).2.2.2.2 (ix2 n l)
        + dvPart (iblk m c 0 t) (iblk m c 1 t) (iblk m c 3 t) n l := by
  rw [outsAt0_B m c t (by omega) h h]; frame_out
  pointwise [k0_pay9, k0_pay7, k0_pay3, k0_pay12, dvPart]; simp only [prob_at, read_unread_whole]

/-- The batch of a grid point. -/
def batch (t : Fin cfg0.N) : Fin 2 := ⟨t.val / 8, by have : t.val < 16 := N_0 ▸ t.isLt; omega⟩

/-- Its head. -/
def hd (t : Fin cfg0.N) : Fin 4 := ⟨t.val / 2 % 4, by omega⟩

/-- Its queries' rows. -/
def row (t : Fin cfg0.N) (r : Fin 1024) : Fin 2048 := ⟨t.val % 2 * 1024 + r.val, by omega⟩

/-- A lane of a head. -/
def lane (h : Fin 4) (l : Fin 128) : Fin 512 := ⟨h.val * 128 + l.val, by omega⟩

theorem blk_0 (c : Dev nD) (t : Fin cfg0.N) (r : Fin 1024) (l : Fin 128) :
    iblk m c 0 t (ix3 0 r l) = (m ((c : Thread nD τ).loc main_arg0) : FVec Ideal S2x2048x512 .bf16) (ix3 (batch t) (row t r) (lane (hd t) l)) := by
  blk_point [iblk, V, idx_val t, batch, row, lane, hd]

theorem blk_1 (c : Dev nD) (t : Fin cfg0.N) (r : Fin 256) (l : Fin 128) :
    iblk m c 1 t (ix3 0 r l) = (m ((c : Thread nD τ).loc main_arg1) : FVec Ideal S2x256x1024 .bf16)
      (ix3 (batch t) r ⟨(hd t).val * 128 + l.val, by omega⟩) := by
  blk_point [iblk, V, idx_val t, batch, hd]

theorem blk_2 (c : Dev nD) (t : Fin cfg0.N) (r : Fin 256) (l : Fin 128) :
    iblk m c 2 t (ix3 0 r l) = (m ((c : Thread nD τ).loc main_arg1) : FVec Ideal S2x256x1024 .bf16)
      (ix3 (batch t) r ⟨512 + ((hd t).val * 128 + l.val), by omega⟩) := by
  blk_point [iblk, V, idx_val t, batch, hd]

theorem blk_3 (c : Dev nD) (t : Fin cfg0.N) (r : Fin 1024) (l : Fin 128) :
    iblk m c 3 t (ix3 0 r l) = (m ((c : Thread nD τ).loc main_arg2) : FVec Ideal S2x2048x512 .bf16) (ix3 (batch t) (row t r) (lane (hd t) l)) := by
  blk_point [iblk, V, idx_val t, batch, row, lane, hd]

theorem emb_4 (t : Fin cfg0.N) (r : Fin 1024) (l : Fin 128) :
    ((cfg0.win 4).blk t).view.emb (ix3 0 r l) = (ix3 (batch t) (row t r) (lane (hd t) l) : S2x2048x512.Idx) := by
  blk_ext [idx_val t, batch, row, lane, hd]

theorem emb_5 (t : Fin cfg0.N) (n : Fin 256) (l : Fin 128) :
    ((cfg0.win 5).blk t).view.emb (ix3 0 n l) = (ix3 (batch t) n (lane (hd t) l) : S2x256x512.Idx) := by
  blk_ext [idx_val t, batch, lane, hd]

theorem emb_6 (t : Fin cfg0.N) (n : Fin 256) (l : Fin 128) :
    ((cfg0.win 6).blk t).view.emb (ix3 0 n l) = (ix3 (batch t) n (lane (hd t) l) : S2x256x512.Idx) := by
  blk_ext [idx_val t, batch, lane, hd]

/-- The head a lane of a head belongs to. -/
theorem head_lane (h : Fin 4) (l : Fin 128) : head (lane h l) = h := Fin.ext (by simp only [head, lane]; omega)

theorem scores_eq (c : Dev nD) (t : Fin cfg0.N) (r : Fin 1024) : scores (iblk m c 0 t) (iblk m c 1 t) r
    = sc (m ((c : Thread nD τ).loc main_arg0)) (m ((c : Thread nD τ).loc main_arg1)) (batch t) (hd t) (row t r) := by
  simp only [scores, sc, blk_0, blk_1, lane]

theorem dprobs_eq (c : Dev nD) (t : Fin cfg0.N) (r : Fin 1024) : dprobs (iblk m c 2 t) (iblk m c 3 t) r
    = dp (m ((c : Thread nD τ).loc main_arg1)) (m ((c : Thread nD τ).loc main_arg2)) (batch t) (hd t) (row t r) := by
  simp only [dprobs, dp, blk_2, blk_3, lane]

theorem dq_at (x : FVec Ideal S2x2048x512 .bf16) (y : FVec Ideal S2x256x1024 .bf16) (d : FVec Ideal S2x2048x512 .bf16) (b : Fin 2)
    (s : Fin 2048) (h : Fin 4) (l : Fin 128) : dq x y d (ix3 b s (lane h l))
      = ∑ n, dscore (sc x y b h s) (dp y d b h s) n * y (ix3 b n ⟨h.val * 128 + l.val, by omega⟩) := by
  show ∑ n, dscore (sc x y b (head (lane h l)) s) (dp y d b (head (lane h l)) s) n * _ = _
  rw [head_lane]
  rfl

/-- One query's part of the keys' gradient. -/
def dkTerm (x : FVec Ideal S2x2048x512 .bf16) (y : FVec Ideal S2x256x1024 .bf16) (d : FVec Ideal S2x2048x512 .bf16) (b : Fin 2)
    (h : Fin 4) (n : Fin 256) (l : Fin 128) (s : Fin 2048) : EReal :=
  dscore (sc x y b h s) (dp y d b h s) n * x (ix3 b s (lane h l))

/-- One query's part of the values' gradient. -/
def dvTerm (x : FVec Ideal S2x2048x512 .bf16) (y : FVec Ideal S2x256x1024 .bf16) (d : FVec Ideal S2x2048x512 .bf16) (b : Fin 2)
    (h : Fin 4) (n : Fin 256) (l : Fin 128) (s : Fin 2048) : EReal :=
  prob (sc x y b h s) n * d (ix3 b s (lane h l))

theorem dk_at (x : FVec Ideal S2x2048x512 .bf16) (y : FVec Ideal S2x256x1024 .bf16) (d : FVec Ideal S2x2048x512 .bf16) (b : Fin 2)
    (n : Fin 256) (h : Fin 4) (l : Fin 128) : dk x y d (ix3 b n (lane h l))
      = ∑ s, dkTerm x y d b h n l s := by
  show ∑ s, dscore (sc x y b (head (lane h l)) s) (dp y d b (head (lane h l)) s) n * _ = _
  rw [head_lane]
  rfl

theorem dv_at (x : FVec Ideal S2x2048x512 .bf16) (y : FVec Ideal S2x256x1024 .bf16) (d : FVec Ideal S2x2048x512 .bf16) (b : Fin 2)
    (n : Fin 256) (h : Fin 4) (l : Fin 128) : dv x y d (ix3 b n (lane h l))
      = ∑ s, dvTerm x y d b h n l s := by
  show ∑ s, prob (sc x y b (head (lane h l)) s) n * _ = _
  rw [head_lane]
  rfl

theorem dkPart_eq (c : Dev nD) (t : Fin cfg0.N) (n : Fin 256) (l : Fin 128) :
    dkPart (iblk m c 0 t) (iblk m c 1 t) (iblk m c 2 t) (iblk m c 3 t) n l = ∑ r, dkTerm (m ((c : Thread nD τ).loc main_arg0))
      (m ((c : Thread nD τ).loc main_arg1)) (m ((c : Thread nD τ).loc main_arg2)) (batch t) (hd t) n l (row t r) := by
  simp only [dkPart, dkTerm, scores_eq, dprobs_eq, blk_0]

theorem dvPart_eq (c : Dev nD) (t : Fin cfg0.N) (n : Fin 256) (l : Fin 128) :
    dvPart (iblk m c 0 t) (iblk m c 1 t) (iblk m c 3 t) n l = ∑ r, dvTerm (m ((c : Thread nD τ).loc main_arg0))
      (m ((c : Thread nD τ).loc main_arg1)) (m ((c : Thread nD τ).loc main_arg2)) (batch t) (hd t) n l (row t r) := by
  simp only [dvPart, dvTerm, scores_eq, blk_3]

/-- The first result after the whole grid. -/
theorem final_4 (c : Dev nD) : (dats m 0 c).arrAt 4 (cfgs 0).N
    = dq (m ((c : Thread nD τ).loc main_arg0)) (m ((c : Thread nD τ).loc main_arg1)) (m ((c : Thread nD τ).loc main_arg2)) := by
  refine (dats m 0 c).arrAt_eq_of_covers 4 _ (by decide +kernel) fun t hf j => ?_
  obtain ⟨z, r, l, rfl⟩ : ∃ z r l, j = ix3 z r l := ⟨j 0, j 1, j 2, eq_ix3 j⟩
  obtain rfl : z = 0 := Subsingleton.elim _ _
  rw [emb_4]
  blk_simp; rw [after0_4, point_4]
  rw [dq_at]
  simp only [scores_eq, dprobs_eq, blk_1]

/-- The point before the second of two. -/
def pred (t : Fin cfg0.N) : Fin cfg0.N := ⟨t.val - 1, Nat.lt_of_le_of_lt (Nat.sub_le _ _) t.isLt⟩

theorem batch_pred (t : Fin cfg0.N) (h : t.val % 2 = 1) : batch (pred t) = batch t := Fin.ext (by simp only [batch, pred]; omega)

theorem hd_pred (t : Fin cfg0.N) (h : t.val % 2 = 1) : hd (pred t) = hd t := Fin.ext (by simp only [hd, pred]; omega)

/-- A sum over all queries is the first half's and the second half's. -/
theorem halves (f : Fin 2048 → EReal) (t : Fin cfg0.N) (h : t.val % 2 = 1) :
    (∑ r, f (row (pred t) r)) + ∑ r, f (row t r) = ∑ s, f s := by
  rw [← Fin.sum_mul_add_fin 2 1024 f, Fin.sum_univ_two]
  refine congrArg₂ (· + ·) (Finset.sum_congr rfl fun r _ => congrArg f (Fin.ext ?_))
    (Finset.sum_congr rfl fun r _ => congrArg f (Fin.ext ?_))
  · simp only [row, pred, Fin.val_zero]; omega
  · simp only [row, Fin.val_one]; omega

/-- The second result after the whole grid. -/
theorem final_5 (c : Dev nD) : (dats m 0 c).arrAt 5 (cfgs 0).N
    = dk (m ((c : Thread nD τ).loc main_arg0)) (m ((c : Thread nD τ).loc main_arg1)) (m ((c : Thread nD τ).loc main_arg2)) := by
  refine (dats m 0 c).arrAt_eq_of_covers 5 _ (by decide +kernel) fun t hf j => ?_
  have h : t.val % 2 = 1 := (flush0_5 t).mp hf
  obtain ⟨z, n, l, rfl⟩ : ∃ z n l, j = ix3 z n l := ⟨j 0, j 1, j 2, eq_ix3 j⟩
  obtain rfl : z = 0 := Subsingleton.elim _ _
  rw [emb_5]
  blk_simp; rw [after0_5, step_5 m c t h]
  refine (congrArg (· + _) (start_5 m c (pred t) (by simp only [pred]; omega) n l)).trans ?_
  rw [dk_at]
  rw [dkPart_eq, dkPart_eq, batch_pred t h, hd_pred t h]
  exact halves _ t h

/-- The third result after the whole grid. -/
theorem final_6 (c : Dev nD) : (dats m 0 c).arrAt 6 (cfgs 0).N
    = dv (m ((c : Thread nD τ).loc main_arg0)) (m ((c : Thread nD τ).loc main_arg1)) (m ((c : Thread nD τ).loc main_arg2)) := by
  refine (dats m 0 c).arrAt_eq_of_covers 6 _ (by decide +kernel) fun t hf j => ?_
  have h : t.val % 2 = 1 := (flush0_6 t).mp hf
  obtain ⟨z, n, l, rfl⟩ : ∃ z n l, j = ix3 z n l := ⟨j 0, j 1, j 2, eq_ix3 j⟩
  obtain rfl : z = 0 := Subsingleton.elim _ _
  rw [emb_6]
  blk_simp; rw [after0_6, step_6 m c t h]
  refine (congrArg (· + _) (start_6 m c (pred t) (by simp only [pred]; omega) n l)).trans ?_
  rw [dv_at]
  rw [dvPart_eq, dvPart_eq, batch_pred t h, hd_pred t h]
  exact halves _ t h

end Cert.CrossBwdIdeal.Hand

end
-- ==== Proof.CrossPair.lean ====
/- Hand-written, untrusted: the cross-attention's backward kernel and the derivative of the plain cross-attention give the
   same three arrays, where the queries, the keys and values and the cotangent are finite. -/
module

public import proofs.«01_k».proof.Defs
public import proofs.«01_k».proof.Proof.CrossValue
public import proofs.«01_k».proof.Proof.Gen.CrossGradIdeal.Run
public import proofs.«01_k».proof.Proof.Gen.CrossGradIdeal.Read
public import proofs.«01_k».proof.Proof.Gen.Pre_cross_finite

@[expose] public section

set_option maxRecDepth 16384

noncomputable section

open Idealize.ShloMosaic Idealize.ShloMosaic.TcCoe Idealize.SL.Sem
open scoped BigOperators

namespace Cert.CrossGradIdeal.Hand

open Cert.CrossGradIdeal Cert.CrossGradIdeal.Read

/-- The plain derivative's results, each as its named value of the arguments; the arguments stay. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71) = val_main_v71 (F := Ideal)
          (m ((c.tc : Thread nD τ).loc main_arg0)) (m ((c.tc : Thread nD τ).loc main_arg1)) (m ((c.tc : Thread nD τ).loc main_arg2))
      ∧ r.2.mem ((c.tc : Thread nD τ).loc main_v73) = val_main_v73 (F := Ideal)
          (m ((c.tc : Thread nD τ).loc main_arg0)) (m ((c.tc : Thread nD τ).loc main_arg1)) (m ((c.tc : Thread nD τ).loc main_arg2))
      ∧ r.2.mem ((c.tc : Thread nD τ).loc main_v75) = val_main_v75 (F := Ideal)
          (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v71_eq m c), (h c).2.1.trans (val_main_v73_eq m c),
    (h c).2.2.1.trans (val_main_v75_eq m c), (h c).2.2.2⟩) (Cert.CrossGradIdeal.Value.run m ρ)

end Cert.CrossGradIdeal.Hand

namespace Cert.CrossBwdIdeal.Hand

open Cert.CrossGradIdeal.Read Cert.Reals Cert.Cross

variable (x : FVec Ideal S2x2048x512 .bf16) (y : FVec Ideal S2x256x1024 .bf16) (d : FVec Ideal S2x2048x512 .bf16)

/-- The plain queries, head by head. -/
theorem ref_q (b : Fin 2) (s : Fin 2048) (h : Fin 4) (l : Fin 128) :
    val_main_v2 (F := Ideal) x (ix4 b s h l) = x (ix3 b s (lane h l)) := by
  pointwise [val_main_v2, val_main_v0, lane]

/-- The plain keys. -/
theorem ref_k (b : Fin 2) (n : Fin 256) (h : Fin 4) (l : Fin 128) :
    val_main_v4 (F := Ideal) y (ix4 b n h l) = y (ix3 b n ⟨h.val * 128 + l.val, by omega⟩) := by
  pointwise [val_main_v4, val_main_v3, val_main_v1]

/-- The plain values. -/
theorem ref_v (b : Fin 2) (n : Fin 256) (h : Fin 4) (l : Fin 128) :
    val_main_v6 (F := Ideal) y (ix4 b n h l) = y (ix3 b n ⟨512 + (h.val * 128 + l.val), by omega⟩) := by
  pointwise [val_main_v6, val_main_v5, val_main_v1]

/-- The plain cotangent. -/
theorem ref_c (b : Fin 2) (h : Fin 4) (l : Fin 128) (s : Fin 2048) :
    val_main_v43 (F := Ideal) d (ix4 b h l s) = d (ix3 b s (lane h l)) := by
  pointwise [val_main_v43, val_main_v42, val_main_v41, lane]

/-- The plain scores. -/
theorem ref_score (b : Fin 2) (h : Fin 4) (s : Fin 2048) (n : Fin 256) :
    val_main_v9 (F := Ideal) x y (ix4 b h s n) = sc x y b h s n := by
  pointwise [val_main_v9, val_main_v8, val_main_v7, val_main_cst, sc, score, dot]
  simp only [ref_q, ref_k, lane]

/-- The plain gradient at the probabilities. -/
theorem ref_dp (b : Fin 2) (h : Fin 4) (s : Fin 2048) (n : Fin 256) :
    val_main_v44 (F := Ideal) y d (ix4 b h s n) = dp y d b h s n := by
  pointwise [val_main_v44, dp, dot]
  simp only [ref_c, ref_v, lane]

theorem ref_top (b : Fin 2) (h : Fin 4) (s : Fin 2048) (n : Fin 256) :
    val_main_v28 (F := Ideal) x y (ix4 b h s n) = Finset.univ.fold max ⊥ (sc x y b h s) := by
  have e : val_main_v10 (F := Ideal) x y (ix3 b h s) = Finset.univ.fold max ⊥ (sc x y b h s) := by
    pointwise [val_main_v10, val_main_cst_0]
    simp only [ref_score, ofBits_neg_inf]
  pointwise [val_main_v28, val_main_v27]
  rw [val_main_v17_apply, e]
  generalize Finset.univ.fold max ⊥ (sc x y b h s) = t
  pointwise [val_main_v16, val_main_cst_2]
  rw [ofBits_neg_inf]
  exact max_eq_right bot_le

theorem ref_powers (b : Fin 2) (h : Fin 4) (s : Fin 2048) (n : Fin 256) :
    val_main_v30 (F := Ideal) x y (ix4 b h s n) = powers (sc x y b h s) n := by
  rw [val_main_v30_apply, val_main_v29_apply, ref_top, ref_score]
  rfl

theorem ref_sum (b : Fin 2) (h : Fin 4) (s : Fin 2048) (n : Fin 1) :
    val_main_v32 (F := Ideal) x y (ix4 b h s n) = ∑ n, powers (sc x y b h s) n := by
  pointwise [val_main_v32, val_main_v31, val_main_cst_8]
  simp only [ref_powers]

/-- The plain probabilities, for a row of reals. -/
theorem ref_prob (b : Fin 2) (h : Fin 4) (s : Fin 2048) {e : Fin 256 → ℝ} (he : sc x y b h s = fun n => (e n : EReal)) (n : Fin 256) :
    val_main_v34 (F := Ideal) x y (ix4 b h s n) = prob (sc x y b h s) n := by
  pointwise [val_main_v34, val_main_v33]
  simp only [ref_powers, ref_sum, he]
  exact prob_plain e n

/-- The plain gradient at the scores, for a row of reals. -/
theorem ref_dscore (b : Fin 2) (h : Fin 4) (s : Fin 2048) {e f : Fin 256 → ℝ} (he : sc x y b h s = fun n => (e n : EReal))
    (hf : dp y d b h s = fun n => (f n : EReal)) (n : Fin 256) :
    val_main_v60 (F := Ideal) x y d (ix4 b h s n) = dscore (sc x y b h s) (dp y d b h s) n := by
  pointwise [val_main_v60, val_main_v59, val_main_v58, val_main_v57, val_main_v56, val_main_v55, val_main_v54, val_main_v53, val_main_v52,
    val_main_v51, val_main_v50, val_main_v49, val_main_v48, val_main_v47, val_main_v37, val_main_v36, val_main_v35, val_main_cst_12,
    val_main_cst_11, val_main_cst_10, val_main_cst_9]
  simp only [ref_powers, ref_sum, ref_dp, Fin.sum_univ_one, he, hf]
  exact dscore_plain e f n

/-- What the plain derivative pads and adds: the keys' half. -/
theorem ref_left (b : Fin 2) (n : Fin 256) (l : Fin 512) :
    val_main_v73 (F := Ideal) x y d (ix3 b n l) = val_main_v67 (F := Ideal) x y d (ix3 b n l) := by
  pointwise [val_main_v73, val_main_v72, val_main_v69, val_main_v68, val_main_v66, val_main_cst_13, val_main_cst_14]
  exact (congrArg (· + _) (dif_neg (by simp))).trans (zero_add _)

/-- The values' half. -/
theorem ref_right (b : Fin 2) (n : Fin 256) (l : Fin 512) :
    val_main_v75 (F := Ideal) x y d (ix3 b n l) = val_main_v65 (F := Ideal) x y d (ix3 b n l) := by
  pointwise [val_main_v75, val_main_v74, val_main_v69, val_main_v68, val_main_v66, val_main_cst_13, val_main_cst_14]

section Reals

variable (x : S2x2048x512.Idx → ℝ) (y : S2x256x1024.Idx → ℝ) (d : S2x2048x512.Idx → ℝ)

theorem sc_real (b : Fin 2) (h : Fin 4) (s : Fin 2048) : ∃ e : Fin 256 → ℝ,
    sc (fun i => (x i : EReal)) (fun i => (y i : EReal)) b h s = fun n => (e n : EReal) := score_real _ _

theorem dp_real (b : Fin 2) (h : Fin 4) (s : Fin 2048) : ∃ e : Fin 256 → ℝ,
    dp (fun i => (y i : EReal)) (fun i => (d i : EReal)) b h s = fun n => (e n : EReal) := dot_real _ _

/-- A lane of all heads is a lane of one. -/
theorem lane_of (l : Fin 512) : ∃ h k, l = lane h k :=
  ⟨⟨l.val / 128, by omega⟩, ⟨l.val % 128, by omega⟩, Fin.ext (by simp only [lane]; omega)⟩

/-- The plain derivative at the queries. -/
theorem ref_dq : val_main_v71 (F := Ideal) (fun i => (x i : EReal)) (fun i => (y i : EReal)) (fun i => (d i : EReal))
    = dq (fun i => (x i : EReal)) (fun i => (y i : EReal)) (fun i => (d i : EReal)) := by
  funext i
  obtain ⟨b, s, j, rfl⟩ : ∃ b s j, i = ix3 b s j := ⟨i 0, i 1, i 2, eq_ix3 i⟩
  obtain ⟨h, l, rfl⟩ := lane_of j
  obtain ⟨e, he⟩ := sc_real x y b h s
  obtain ⟨f, hf⟩ := dp_real y d b h s
  rw [dq_at]
  have r : val_main_v71 (F := Ideal) (fun i => (x i : EReal)) (fun i => (y i : EReal)) (fun i => (d i : EReal)) (ix3 b s (lane h l))
      = val_main_v63 (F := Ideal) (fun i => (x i : EReal)) (fun i => (y i : EReal)) (fun i => (d i : EReal)) (ix4 b h s l) := by
    pointwise [val_main_v71, val_main_v70, val_main_v64, lane]
  rw [r]
  pointwise [val_main_v63]
  simp only [ref_dscore _ _ _ b h s he hf, ref_k]

/-- The plain derivative at the keys. -/
theorem ref_dk : val_main_v73 (F := Ideal) (fun i => (x i : EReal)) (fun i => (y i : EReal)) (fun i => (d i : EReal))
    = dk (fun i => (x i : EReal)) (fun i => (y i : EReal)) (fun i => (d i : EReal)) := by
  funext i
  obtain ⟨b, n, j, rfl⟩ : ∃ b n j, i = ix3 b n j := ⟨i 0, i 1, i 2, eq_ix3 i⟩
  obtain ⟨h, l, rfl⟩ := lane_of j
  rw [dk_at, ref_left]
  have r : val_main_v67 (F := Ideal) (fun i => (x i : EReal)) (fun i => (y i : EReal)) (fun i => (d i : EReal)) (ix3 b n (lane h l))
      = val_main_v61 (F := Ideal) (fun i => (x i : EReal)) (fun i => (y i : EReal)) (fun i => (d i : EReal)) (ix4 b h n l) := by
    pointwise [val_main_v67, val_main_v62, lane]
  rw [r]
  pointwise [val_main_v61]
  refine Finset.sum_congr rfl fun s _ => ?_
  obtain ⟨e, he⟩ := sc_real x y b h s
  obtain ⟨f, hf⟩ := dp_real y d b h s
  rw [ref_dscore _ _ _ b h s he hf, ref_q]
  rfl

/-- The plain derivative at the values. -/
theorem ref_dv : val_main_v75 (F := Ideal) (fun i => (x i : EReal)) (fun i => (y i : EReal)) (fun i => (d i : EReal))
    = dv (fun i => (x i : EReal)) (fun i => (y i : EReal)) (fun i => (d i : EReal)) := by
  funext i
  obtain ⟨b, n, j, rfl⟩ : ∃ b n j, i = ix3 b n j := ⟨i 0, i 1, i 2, eq_ix3 i⟩
  obtain ⟨h, l, rfl⟩ := lane_of j
  rw [dv_at, ref_right]
  have r : val_main_v65 (F := Ideal) (fun i => (x i : EReal)) (fun i => (y i : EReal)) (fun i => (d i : EReal)) (ix3 b n (lane h l))
      = val_main_v45 (F := Ideal) (fun i => (x i : EReal)) (fun i => (y i : EReal)) (fun i => (d i : EReal)) (ix4 b h l n) := by
    pointwise [val_main_v65, val_main_v46, lane]
  rw [r]
  pointwise [val_main_v45]
  refine Finset.sum_congr rfl fun s _ => ?_
  obtain ⟨e, he⟩ := sc_real x y b h s
  rw [ref_prob _ _ b h s he, ref_c]
  exact @mul_comm EReal _ _ _

end Reals

/-- What the precondition says: the queries, the keys and values and the cotangent are arrays of reals. -/
theorem reals (m : (ℓ : Loc nD τ sig) → Buf (Elt Ideal) ℓ) (h : Pre_CrossBwdIdeal_cross_finite m) (c : Dev nD) :
    (∃ x : S2x2048x512.Idx → ℝ, m ((c.tc : Thread nD τ).loc main_arg0) = fun i => (x i : EReal))
    ∧ (∃ y : S2x256x1024.Idx → ℝ, m ((c.tc : Thread nD τ).loc main_arg1) = fun i => (y i : EReal))
    ∧ (∃ d : S2x2048x512.Idx → ℝ, m ((c.tc : Thread nD τ).loc main_arg2) = fun i => (d i : EReal)) :=
  ⟨reals_of_mask _ fun i => congrFun (h c).1 i, reals_of_mask _ fun i => congrFun (h c).2.1 i,
    reals_of_mask _ fun i => congrFun (h c).2.2 i⟩

set_option backward.isDefEq.respectTransparency.types false in
/-- The two programs give the same results. -/
theorem algebraic : algebraic_CrossBwdIdeal_CrossGradIdeal_pre_cross_finite := by
  pair_intro
  · run_from Cert.CrossBwdIdeal.Gen.run_main m g
  · run_from Cert.CrossGradIdeal.Hand.reference_run m' g'
    · obtain ⟨⟨x, hx⟩, ⟨y, hy⟩, ⟨d, hd⟩⟩ := reals m hpre c
      rw [final_4 m c, hx, hy, hd]
      exact ref_dq x y d
    · obtain ⟨⟨x, hx⟩, ⟨y, hy⟩, ⟨d, hd⟩⟩ := reals m hpre c
      rw [final_5 m c, hx, hy, hd]
      exact ref_dk x y d
    · obtain ⟨⟨x, hx⟩, ⟨y, hy⟩, ⟨d, hd⟩⟩ := reals m hpre c
      rw [final_6 m c, hx, hy, hd]
      exact ref_dv x y d

end Cert.CrossBwdIdeal.Hand

end
-- ==== Proof.NormMath.lean ====
/- Hand-written, untrusted: one row of a root-mean-square normalisation, differentiated — the formula the kernels spell and
   the one the plain derivative spells are the same, for a row of reals. -/
module

public import proofs.«01_k».proof.Proof.Reals

@[expose] public section

noncomputable section

namespace Cert.Norm

open Idealize.ShloMosaic Cert.Reals
open scoped BigOperators

/-- The pattern of the row's length. -/
theorem ofBits_len : Ideal.ofBits .f32 0x45000000#32 = ((2048 : ℝ) : EReal) := by
  simp [Ideal.ofBits, Ideal.ieee, -EReal.coe_mul]; norm_num

/-- The pattern of minus one half. -/
theorem ofBits_neg_half : Ideal.ofBits .f32 0xBF000000#32 = ((-(1 / 2) : ℝ) : EReal) := by
  simp [Ideal.ofBits, Ideal.ieee, -EReal.coe_mul]; norm_num

/-- The pattern of the small constant below the root is a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- The mean square of a row, and the small constant. -/
def spread (x : Fin 2048 → EReal) : EReal :=
  Ideal.div (∑ k, x k * x k) (Ideal.ofBits .f32 0x45000000#32) + Ideal.ofBits .f32 0x358637BD#32

/-- What the row is multiplied by. -/
def factor (x : Fin 2048 → EReal) : EReal := Ideal.rsqrt (spread x)

/-- The gradient at one entry of the row, as the kernels spell it. -/
def back (x g d : Fin 2048 → EReal) (l : Fin 2048) : EReal :=
  factor x * (d l * g l - x l * factor x
    * Ideal.div (∑ k, d k * g k * (x k * factor x)) (Ideal.ofBits .f32 0x45000000#32))

/-- One row's part of the gain's gradient. -/
def part (x d : Fin 2048 → EReal) (l : Fin 2048) : EReal := d l * (x l * factor x)

/-- The mean square of a row of reals. -/
theorem spread_real (x : Fin 2048 → ℝ) : ∃ y : ℝ, 0 < y ∧ spread (fun k => (x k : EReal)) = (y : EReal) := by
  obtain ⟨e, he, h⟩ := ofBits_eps
  refine ⟨(∑ k, x k * x k) / 2048 + e, by have := Finset.sum_nonneg fun k (_ : k ∈ Finset.univ) => mul_self_nonneg (x k); positivity, ?_⟩
  simp only [spread, h, ofBits_len, ← EReal.coe_mul, coe_sum, div_real _ (by norm_num : (2048 : ℝ) ≠ 0), ← EReal.coe_add]

/-- The inverse root of a positive real. -/
theorem rsqrt_real {y : ℝ} (hy : 0 < y) : Ideal.rsqrt (y : EReal) = (((Real.sqrt y)⁻¹ : ℝ) : EReal) := by
  rw [Ideal.rsqrt_coe, if_neg (not_lt.mpr hy.le), if_neg hy.ne']

/-- The factor of a row of reals, with what it is divided by the mean square. -/
theorem factor_real (x : Fin 2048 → ℝ) : ∃ r : ℝ, factor (fun k => (x k : EReal)) = (r : EReal)
    ∧ Ideal.div (r : EReal) (spread fun k => (x k : EReal)) = ((r * r * r : ℝ) : EReal) := by
  obtain ⟨y, hy, h⟩ := spread_real x
  refine ⟨(Real.sqrt y)⁻¹, by rw [factor, h, rsqrt_real hy], ?_⟩
  rw [h, div_real _ hy.ne']
  congr 1
  have hs : Real.sqrt y ≠ 0 := (Real.sqrt_pos.mpr hy).ne'
  have hq : Real.sqrt y * Real.sqrt y = y := Real.mul_self_sqrt hy.le
  field_simp
  nlinarith [hq]

/-- The gradient at one entry, as the plain derivative spells it. -/
theorem back_plain (x g d : Fin 2048 → ℝ) (l : Fin 2048) :
    (d l : EReal) * g l * factor (fun k => (x k : EReal))
      + (x l * Ideal.div ((∑ k, (x k : EReal) * (d k * g k)) * (Ideal.ofBits .f32 0xBF000000#32
          * Ideal.div (factor fun k => (x k : EReal)) (spread fun k => (x k : EReal)))) (Ideal.ofBits .f32 0x45000000#32)
        + Ideal.div ((∑ k, (x k : EReal) * (d k * g k)) * (Ideal.ofBits .f32 0xBF000000#32
          * Ideal.div (factor fun k => (x k : EReal)) (spread fun k => (x k : EReal)))) (Ideal.ofBits .f32 0x45000000#32) * x l)
      = back (fun k => (x k : EReal)) (fun k => (g k : EReal)) (fun k => (d k : EReal)) l := by
  obtain ⟨r, hr, hd⟩ := factor_real x
  simp only [back, hr, hd, ofBits_neg_half, ofBits_len]
  simp only [← EReal.coe_mul, coe_sum, div_real _ (by norm_num : (2048 : ℝ) ≠ 0), ← EReal.coe_add, ← EReal.coe_sub]
  congr 1
  have e : ∑ k, d k * g k * (x k * r) = (∑ k, x k * (d k * g k)) * r := by
    rw [Finset.sum_mul]; exact Finset.sum_congr rfl fun k _ => by ring
  rw [e]; ring

end Cert.Norm

end
-- ==== Proof.NormValue.lean ====
/- Hand-written, untrusted: what the normalisation's backward kernel leaves in its two results, as formulas of its arguments. -/
module

public import proofs.«01_k».proof.Proof.Gen.NormBwdIdeal.Value
public import proofs.«01_k».proof.Proof.NormMath
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.NormBwdIdeal.Hand

open Cert.NormBwdIdeal Cert.NormBwdIdeal.Gen Cert.Norm

/-- The gradient at the input: the row's gradient and the residual line's. -/
def dx (x : FVec Ideal S4096x2048 .f32) (g : FVec Ideal S1x2048 .f32) (d s : FVec Ideal S4096x2048 .bf16) :
    FVec Ideal S4096x2048 .bf16 := fun i =>
  back (fun k => x (ix2 (i 0) k)) (fun k => g (ix2 0 k)) (fun k => d (ix2 (i 0) k)) (i 1) + s i

/-- The gradient at the gain: the sum of the rows' parts. -/
def dgain (x : FVec Ideal S4096x2048 .f32) (d : FVec Ideal S4096x2048 .bf16) : FVec Ideal S1x2048 .f32 := fun i =>
  ∑ r : Fin 4096, part (fun k => x (ix2 r k)) (fun k => d (ix2 r k)) (i 1)

/-- Where each window stands at grid point `t`. -/
theorem idx_val : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0] :=
  (by decide +kernel : ∀ t : Fin grid0.N, _)

variable (m : (ℓ : Loc nD τ sig) → Buf (Elt Ideal) ℓ)

set_option maxHeartbeats 1600000 in
theorem point_4 (c : Dev nD) (t : Fin cfg0.N) (y) :
    (outsAt0 m c t.val t.isLt).1 y
      = dx (m ((c : Thread nD τ).loc main_arg0)) (m ((c : Thread nD τ).loc main_arg1))
          (m ((c : Thread nD τ).loc main_arg2)) (m ((c : Thread nD τ).loc main_arg3)) (((cfg0.win 4).blk t).view.emb y) := by
  have hN : t.val < 8 := N_0 ▸ t.isLt
  by_cases h : t.val % 8 = 0
  · rw [outsAt0_A m c t h (by omega)]; frame_out
    open_payloads; pointwise [dx, back, factor, spread]; blk_point [iblk, V, idx_val t]
  · rw [outsAt0_B m c t h (by omega)]; frame_out
    open_payloads; pointwise [dx, back, factor, spread]; blk_point [iblk, V, idx_val t]

/-- The first result after the whole grid. -/
theorem final_4 (c : Dev nD) : (dats m 0 c).arrAt 4 (cfgs 0).N
    = dx (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp; rw [after0_4]
  exact point_4 m c t y

/-- What one block of rows adds to the gain's gradient. -/
def partOf (x : FVec Ideal S512x2048 .f32) (d : FVec Ideal S512x2048 .bf16) (j : S1x2048.Idx) : EReal :=
  ∑ r : Fin 512, part (fun k => x (ix2 r k)) (fun k => d (ix2 r k)) (j 1)

set_option maxHeartbeats 1600000 in
theorem start_5 (c : Dev nD) (t : Fin cfg0.N) (h : t.val % 8 = 0) (j) :
    (outsAt0 m c t.val t.isLt).2 j = 0 + partOf (iblk m c 0 t) (iblk m c 2 t) j := by
  have hN : t.val < 8 := N_0 ▸ t.isLt
  rw [outsAt0_A m c t h (by omega)]; frame_out
  open_payloads; pointwise [partOf, part, factor, spread]

set_option maxHeartbeats 1600000 in
theorem step_5 (c : Dev nD) (t : Fin cfg0.N) (h : ¬ t.val % 8 = 0) (j) :
    (outsAt0 m c t.val t.isLt).2 j
      = (outsAt0 m c (t.val - 1) (Nat.lt_of_le_of_lt (Nat.sub_le _ _) t.isLt)).2 j + partOf (iblk m c 0 t) (iblk m c 2 t) j := by
  rw [outsAt0_B m c t h (by omega)]; frame_out
  open_payloads; pointwise [partOf, part, factor, spread]

/-- The second result after the whole grid. -/
theorem final_5 (c : Dev nD) : (dats m 0 c).arrAt 5 (cfgs 0).N
    = dgain (m ((c : Thread nD τ).loc main_arg0)) (m ((c : Thread nD τ).loc main_arg2)) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => 0)
    (fun t j => partOf (iblk m c 0 t) (iblk m c 2 t) j) (fun t h j => start_5 m c t h j) (fun t h j => step_5 m c t h j)
    (le_of_eq N_0) t0_7 rfl j, zero_add, dgain]
  simp only [partOf]
  refine Fin.sum_mul_add_congr (fun t k hl => ?_) (by decide)
  blk_point [iblk, V, idx_val t, part, factor, spread]

end Cert.NormBwdIdeal.Hand

end
-- ==== Proof.NormPair.lean ====
/- Hand-written, untrusted: the normalisation's backward kernel and the derivative of the plain normalisation give the same
   two arrays, where the input, the gain and the cotangent are finite. -/
module

public import proofs.«01_k».proof.Defs
public import proofs.«01_k».proof.Proof.NormValue
public import proofs.«01_k».proof.Proof.Gen.NormGradIdeal.Run
public import proofs.«01_k».proof.Proof.Gen.NormGradIdeal.Read
public import proofs.«01_k».proof.Proof.Gen.Pre_norm_finite

@[expose] public section

set_option maxRecDepth 16384

noncomputable section

open Idealize.ShloMosaic Idealize.ShloMosaic.TcCoe Idealize.SL.Sem
open scoped BigOperators

namespace Cert.NormGradIdeal.Hand

open Cert.NormGradIdeal Cert.NormGradIdeal.Read

/-- The plain derivative's results, each as its named value of the arguments; the arguments stay. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37) = val_main_v37 (F := Ideal) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_v19) = val_main_v19 (F := Ideal) (m ((c.tc : Thread nD τ).loc main_arg0))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v37_eq _ _ _ _), (h c).2.1.trans (val_main_v19_eq _ _), (h c).2.2⟩)
    (Cert.NormGradIdeal.Value.run m ρ)

end Cert.NormGradIdeal.Hand

namespace Cert.NormBwdIdeal.Hand

open Cert.NormGradIdeal.Read Cert.Reals Cert.Norm

/-- The mean square of a row and the small constant, as the plain normalisation spells them. -/
theorem ref_spread (x : FVec Ideal S4096x2048 .f32) (i : Cert.NormGradIdeal.S4096x1.Idx) :
    val_main_v6 (F := Ideal) x i = spread fun k => x (ix2 (i 0) k) := by
  pointwise [val_main_v6, val_main_v5, val_main_v4, val_main_v3, val_main_v2, val_main_v1, val_main_v0, val_main_cst,
    val_main_cst_0, val_main_cst_1, spread]

/-- The row's factor. -/
theorem ref_factor (x : FVec Ideal S4096x2048 .f32) (i : Cert.NormGradIdeal.S4096x1.Idx) :
    val_main_v7 (F := Ideal) x i = factor fun k => x (ix2 (i 0) k) := by
  rw [val_main_v7_apply, ref_spread]; rfl

/-- The order in which the plain derivative adds. -/
theorem turn (s a b c : EReal) : s + a + b + c = a + (b + c) + s := by
  rw [add_assoc s, add_assoc, add_comm, add_assoc a]

/-- The plain derivative at the input. -/
theorem ref_dx (x : S4096x2048.Idx → ℝ) (g : S1x2048.Idx → ℝ) (d : S4096x2048.Idx → ℝ) (s : FVec Ideal S4096x2048 .bf16) :
    val_main_v37 (F := Ideal) (fun i => (x i : EReal)) (fun i => (g i : EReal)) (fun i => (d i : EReal)) s
      = dx (fun i => (x i : EReal)) (fun i => (g i : EReal)) (fun i => (d i : EReal)) s := by
  funext i
  obtain ⟨r, l, rfl⟩ : ∃ r l, i = ix2 r l := ⟨i 0, i 1, eq_ix2 i⟩
  pointwise [val_main_v37, val_main_v36, val_main_v35, val_main_v34, val_main_v33, val_main_v32, val_main_v31,
    val_main_v30, val_main_v29, val_main_v28, val_main_v27, val_main_v26, val_main_v25, val_main_v24, val_main_v23,
    val_main_v22, val_main_v21, val_main_v20, val_main_v16, val_main_v15, val_main_v10, val_main_v9, val_main_v8,
    val_main_cst_2, val_main_cst_4, val_main_cst_5, val_main_cst_6, dx]
  simp only [ref_factor, ref_spread, Fin.sum_univ_one]
  exact (turn _ _ _ _).trans (congrArg (· + s (ix2 r l)) (back_plain (fun k => x (ix2 r k)) (fun k => g (ix2 0 k)) (fun k => d (ix2 r k)) l))

/-- The plain derivative at the gain. -/
theorem ref_dgain (x : FVec Ideal S4096x2048 .f32) (d : FVec Ideal S4096x2048 .bf16) :
    val_main_v19 (F := Ideal) x d = dgain x d := by
  funext i
  pointwise [val_main_v19, val_main_v18, val_main_v17, val_main_v16, val_main_v12, val_main_v11, val_main_cst_3, dgain, part]
  simp only [ref_factor]
  refine Finset.sum_congr rfl fun r _ => mul_comm _ _

/-- What the precondition says: the input, the gain and the cotangent are arrays of reals. -/
theorem reals (m : (ℓ : Loc nD τ sig) → Buf (Elt Ideal) ℓ) (h : Pre_NormBwdIdeal_norm_finite m) (c : Dev nD) :
    (∃ x : S4096x2048.Idx → ℝ, m ((c.tc : Thread nD τ).loc main_arg0) = fun i => (x i : EReal))
    ∧ (∃ g : S1x2048.Idx → ℝ, m ((c.tc : Thread nD τ).loc main_arg1) = fun i => (g i : EReal))
    ∧ (∃ d : S4096x2048.Idx → ℝ, m ((c.tc : Thread nD τ).loc main_arg2) = fun i => (d i : EReal)) :=
  ⟨reals_of_mask _ fun i => congrFun (h c).1 i, reals_of_mask _ fun i => congrFun (h c).2.1 i,
    reals_of_mask _ fun i => congrFun (h c).2.2 i⟩

set_option backward.isDefEq.respectTransparency.types false in
/-- The two programs give the same results. -/
theorem algebraic : algebraic_NormBwdIdeal_NormGradIdeal_pre_norm_finite := by
  pair_intro
  · run_from Cert.NormBwdIdeal.Gen.run_main m g
  · run_from Cert.NormGradIdeal.Hand.reference_run m' g'
    · obtain ⟨⟨x, hx⟩, ⟨w, hw⟩, ⟨d, hd⟩⟩ := reals m hpre c
      rw [final_4 m c, hx, hw, hd]
      exact ref_dx x w d _
    · rw [final_5 m c]
      exact ref_dgain _ _

end Cert.NormBwdIdeal.Hand

end
-- ==== Proof.FirstValue.lean ====
/- Hand-written, untrusted: what the first normalisation's backward kernel leaves in its two results, as formulas of its arguments. -/
module

public import proofs.«01_k».proof.Proof.Gen.FirstBwdIdeal.Value
public import proofs.«01_k».proof.Proof.NormValue
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.FirstBwdIdeal.Hand

open Cert.FirstBwdIdeal Cert.FirstBwdIdeal.Gen Cert.Norm
open Cert.NormBwdIdeal.Hand (dx dgain partOf)

/-- Where each window stands at grid point `t`. -/
theorem idx_val : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0] :=
  (by decide +kernel : ∀ t : Fin grid0.N, _)

variable (m : (ℓ : Loc nD τ sig) → Buf (Elt Ideal) ℓ)

set_option maxHeartbeats 1600000 in
theorem point_4 (c : Dev nD) (t : Fin cfg0.N) (y) :
    (outsAt0 m c t.val t.isLt).1 y
      = dx (m ((c : Thread nD τ).loc main_arg0)) (m ((c : Thread nD τ).loc main_arg1))
          (m ((c : Thread nD τ).loc main_arg2)) (m ((c : Thread nD τ).loc main_arg3)) (((cfg0.win 4).blk t).view.emb y) := by
  have hN : t.val < 8 := N_0 ▸ t.isLt
  by_cases h : t.val % 8 = 0
  · rw [outsAt0_A m c t h (by omega)]; frame_out
    open_payloads; pointwise [dx, back, factor, spread]; blk_point [iblk, V, idx_val t]
  · rw [outsAt0_B m c t h (by omega)]; frame_out
    open_payloads; pointwise [dx, back, factor, spread]; blk_point [iblk, V, idx_val t]

/-- The first result after the whole grid. -/
theorem final_4 (c : Dev nD) : (dats m 0 c).arrAt 4 (cfgs 0).N
    = dx (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp; rw [after0_4]
  exact point_4 m c t y

set_option maxHeartbeats 1600000 in
theorem start_5 (c : Dev nD) (t : Fin cfg0.N) (h : t.val % 8 = 0) (j) :
    (outsAt0 m c t.val t.isLt).2 j = 0 + partOf (iblk m c 0 t) (iblk m c 2 t) j := by
  have hN : t.val < 8 := N_0 ▸ t.isLt
  rw [outsAt0_A m c t h (by omega)]; frame_out
  open_payloads; pointwise [partOf, part, factor, spread]

set_option maxHeartbeats 1600000 in
theorem step_5 (c : Dev nD) (t : Fin cfg0.N) (h : ¬ t.val % 8 = 0) (j) :
    (outsAt0 m c t.val t.isLt).2 j
      = (outsAt0 m c (t.val - 1) (Nat.lt_of_le_of_lt (Nat.sub_le _ _) t.isLt)).2 j + partOf (iblk m c 0 t) (iblk m c 2 t) j := by
  rw [outsAt0_B m c t h (by omega)]; frame_out
  open_payloads; pointwise [partOf, part, factor, spread]

/-- The second result after the whole grid. -/
theorem final_5 (c : Dev nD) : (dats m 0 c).arrAt 5 (cfgs 0).N
    = dgain (m ((c : Thread nD τ).loc main_arg0)) (m ((c : Thread nD τ).loc main_arg2)) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => 0)
    (fun t j => partOf (iblk m c 0 t) (iblk m c 2 t) j) (fun t h j => start_5 m c t h j) (fun t h j => step_5 m c t h j)
    (le_of_eq N_0) t0_7 rfl j, zero_add, dgain]
  simp only [partOf]
  refine Fin.sum_mul_add_congr (fun t k hl => ?_) (by decide)
  blk_point [iblk, V, idx_val t, part, factor, spread]

end Cert.FirstBwdIdeal.Hand

end
-- ==== Proof.FirstPair.lean ====
/- Hand-written, untrusted: the first normalisation's backward kernel and the derivative of the plain normalisation give the same
   two arrays, where the input, the gain and the cotangent are finite. -/
module

public import proofs.«01_k».proof.Defs
public import proofs.«01_k».proof.Proof.FirstValue
public import proofs.«01_k».proof.Proof.NormPair
public import proofs.«01_k».proof.Proof.Gen.FirstGradIdeal.Run
public import proofs.«01_k».proof.Proof.Gen.FirstGradIdeal.Read
public import proofs.«01_k».proof.Proof.Gen.Pre_norm_finite

@[expose] public section

set_option maxRecDepth 16384

noncomputable section

open Idealize.ShloMosaic Idealize.ShloMosaic.TcCoe Idealize.SL.Sem
open scoped BigOperators

namespace Cert.FirstGradIdeal.Hand

open Cert.FirstGradIdeal Cert.FirstGradIdeal.Read

/-- The plain derivative's results, each as its named value of the arguments; the arguments stay. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = val_main_v36 (F := Ideal) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_v19) = val_main_v19 (F := Ideal) (m ((c.tc : Thread nD τ).loc main_arg0))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v36_eq _ _ _ _), (h c).2.1.trans (val_main_v19_eq _ _), (h c).2.2⟩)
    (Cert.FirstGradIdeal.Value.run m ρ)

end Cert.FirstGradIdeal.Hand

namespace Cert.FirstBwdIdeal.Hand

open Cert.FirstGradIdeal.Read Cert.Reals Cert.Norm
open Cert.NormBwdIdeal.Hand (dx dgain)

/-- What the precondition says: the input, the gain and the cotangent are arrays of reals. -/
theorem reals (m : (ℓ : Loc nD τ sig) → Buf (Elt Ideal) ℓ) (h : Pre_FirstBwdIdeal_norm_finite m) (c : Dev nD) :
    (∃ x : S4096x2048.Idx → ℝ, m ((c.tc : Thread nD τ).loc main_arg0) = fun i => (x i : EReal))
    ∧ (∃ g : S1x2048.Idx → ℝ, m ((c.tc : Thread nD τ).loc main_arg1) = fun i => (g i : EReal))
    ∧ (∃ d : S4096x2048.Idx → ℝ, m ((c.tc : Thread nD τ).loc main_arg2) = fun i => (d i : EReal)) :=
  ⟨reals_of_mask _ fun i => congrFun (h c).1 i, reals_of_mask _ fun i => congrFun (h c).2.1 i,
    reals_of_mask _ fun i => congrFun (h c).2.2 i⟩

set_option backward.isDefEq.respectTransparency.types false in
/-- The two programs give the same results. -/
theorem algebraic : algebraic_FirstBwdIdeal_FirstGradIdeal_pre_norm_finite := by
  pair_intro
  · run_from Cert.FirstBwdIdeal.Gen.run_main m g
  · run_from Cert.FirstGradIdeal.Hand.reference_run m' g'
    · obtain ⟨⟨x, hx⟩, ⟨w, hw⟩, ⟨d, hd⟩⟩ := reals m hpre c
      rw [final_4 m c, hx, hw, hd]
      exact Cert.NormBwdIdeal.Hand.ref_dx x w d _
    · rw [final_5 m c]
      exact Cert.NormBwdIdeal.Hand.ref_dgain _ _

end Cert.FirstBwdIdeal.Hand

end
-- ==== Proof.MemoryValue.lean ====
/- Hand-written, untrusted: what the memory normalisation's backward kernel leaves in its two results, as formulas of its arguments. -/
module

public import proofs.«01_k».proof.Proof.Gen.MemoryBwdIdeal.Value
public import proofs.«01_k».proof.Proof.NormMath
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.MemoryBwdIdeal.Hand

open Cert.MemoryBwdIdeal Cert.MemoryBwdIdeal.Gen Cert.Norm

/-- The gradient at the memory. -/
def dx (x : FVec Ideal S512x2048 .f32) (g : FVec Ideal S1x2048 .f32) (d : FVec Ideal S512x2048 .f32) :
    FVec Ideal S512x2048 .bf16 := fun i =>
  back (fun k => x (ix2 (i 0) k)) (fun k => g (ix2 0 k)) (fun k => d (ix2 (i 0) k)) (i 1)

/-- The gradient at the gain: the sum of the rows' parts. -/
def dgain (x d : FVec Ideal S512x2048 .f32) : FVec Ideal S1x2048 .f32 := fun i =>
  ∑ r : Fin 512, part (fun k => x (ix2 r k)) (fun k => d (ix2 r k)) (i 1)

/-- Where each window stands at the one grid point. -/
theorem idx_val : ∀ t : Fin cfg0.N, win0_0.index t = ![0, 0]
    ∧ win0_1.index t = ![0, 0]
    ∧ win0_2.index t = ![0, 0]
    ∧ win0_3.index t = ![0, 0]
    ∧ win0_4.index t = ![0, 0] :=
  (by decide +kernel : ∀ t : Fin grid0.N, _)

variable (m : (ℓ : Loc nD τ sig) → Buf (Elt Ideal) ℓ)

set_option maxHeartbeats 1600000 in
/-- The first result after the one point. -/
theorem final_3 (c : Dev nD) : (dats m 0 c).arrAt 3 (cfgs 0).N
    = dx (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; unfold outsAt0; frame_out
  open_payloads; pointwise [dx, back, factor, spread]; blk_point [iblk, V, idx_val t]

set_option maxHeartbeats 1600000 in
/-- The second result after the one point. -/
theorem final_4 (c : Dev nD) : (dats m 0 c).arrAt 4 (cfgs 0).N
    = dgain (m ((c : Thread nD τ).loc main_arg0)) (m ((c : Thread nD τ).loc main_arg2)) := by
  refine (dats m 0 c).arrAt_eq_of_covers 4 _ (by decide +kernel) fun t hf y => ?_
  blk_simp; rw [after0_4]; unfold outsAt0; frame_out
  open_payloads; pointwise [dgain, part, factor, spread]; blk_point [iblk, V, idx_val t]

end Cert.MemoryBwdIdeal.Hand

end
-- ==== Proof.MemoryPair.lean ====
/- Hand-written, untrusted: the memory normalisation's backward kernel and the derivative of the plain normalisation give the same
   two arrays, where the input, the gain and the cotangent are finite. -/
module

public import proofs.«01_k».proof.Defs
public import proofs.«01_k».proof.Proof.MemoryValue
public import proofs.«01_k».proof.Proof.Gen.MemoryGradIdeal.Run
public import proofs.«01_k».proof.Proof.Gen.MemoryGradIdeal.Read
public import proofs.«01_k».proof.Proof.Gen.Pre_memory_finite

@[expose] public section

set_option maxRecDepth 16384

noncomputable section

open Idealize.ShloMosaic Idealize.ShloMosaic.TcCoe Idealize.SL.Sem
open scoped BigOperators

namespace Cert.MemoryGradIdeal.Hand

open Cert.MemoryGradIdeal Cert.MemoryGradIdeal.Read

/-- The plain derivative's results, each as its named value of the arguments; the arguments stay. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = val_main_v34 (F := Ideal) (m ((c.tc : Thread nD τ).loc main_arg0))
          (m ((c.tc : Thread nD τ).loc main_arg1)) (m ((c.tc : Thread nD τ).loc main_arg2))
      ∧ r.2.mem ((c.tc : Thread nD τ).loc main_v17) = val_main_v17 (F := Ideal) (m ((c.tc : Thread nD τ).loc main_arg0))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v34_eq _ _ _), (h c).2.1.trans (val_main_v17_eq _ _), (h c).2.2⟩)
    (Cert.MemoryGradIdeal.Value.run m ρ)

end Cert.MemoryGradIdeal.Hand

namespace Cert.MemoryBwdIdeal.Hand

open Cert.MemoryGradIdeal.Read Cert.Reals Cert.Norm

/-- The mean square of a row and the small constant, as the plain normalisation spells them. -/
theorem ref_spread (x : FVec Ideal S512x2048 .f32) (i : Cert.MemoryGradIdeal.S512x1.Idx) :
    val_main_v6 (F := Ideal) x i = spread fun k => x (ix2 (i 0) k) := by
  pointwise [val_main_v6, val_main_v5, val_main_v4, val_main_v3, val_main_v2, val_main_v1, val_main_v0, val_main_cst,
    val_main_cst_0, val_main_cst_1, spread]

/-- The row's factor. -/
theorem ref_factor (x : FVec Ideal S512x2048 .f32) (i : Cert.MemoryGradIdeal.S512x1.Idx) :
    val_main_v7 (F := Ideal) x i = factor fun k => x (ix2 (i 0) k) := by
  rw [val_main_v7_apply, ref_spread]; rfl

/-- The plain derivative at the memory. -/
theorem ref_dx (x : S512x2048.Idx → ℝ) (g : S1x2048.Idx → ℝ) (d : S512x2048.Idx → ℝ) :
    val_main_v34 (F := Ideal) (fun i => (x i : EReal)) (fun i => (g i : EReal)) (fun i => (d i : EReal))
      = dx (fun i => (x i : EReal)) (fun i => (g i : EReal)) (fun i => (d i : EReal)) := by
  funext i
  obtain ⟨r, l, rfl⟩ : ∃ r l, i = ix2 r l := ⟨i 0, i 1, eq_ix2 i⟩
  pointwise [val_main_v34, val_main_v33, val_main_v32, val_main_v31, val_main_v30, val_main_v29, val_main_v28,
    val_main_v27, val_main_v26, val_main_v25, val_main_v24, val_main_v23, val_main_v22, val_main_v21, val_main_v20,
    val_main_v19, val_main_v18, val_main_v10, val_main_v9, val_main_v8,
    val_main_cst_2, val_main_cst_4, val_main_cst_5, val_main_cst_6, dx]
  simp only [ref_factor, ref_spread, Fin.sum_univ_one]
  exact (add_assoc _ _ _).trans (back_plain (fun k => x (ix2 r k)) (fun k => g (ix2 0 k)) (fun k => d (ix2 r k)) l)

/-- The plain derivative at the gain. -/
theorem ref_dgain (x d : FVec Ideal S512x2048 .f32) : val_main_v17 (F := Ideal) x d = dgain x d := by
  funext i
  pointwise [val_main_v17, val_main_v16, val_main_v15, val_main_v12, val_main_v11, val_main_cst_3, dgain, part]
  simp only [ref_factor]
  refine Finset.sum_congr rfl fun r _ => mul_comm _ _

/-- What the precondition says: the input, the gain and the cotangent are arrays of reals. -/
theorem reals (m : (ℓ : Loc nD τ sig) → Buf (Elt Ideal) ℓ) (h : Pre_MemoryBwdIdeal_memory_finite m) (c : Dev nD) :
    (∃ x : S512x2048.Idx → ℝ, m ((c.tc : Thread nD τ).loc main_arg0) = fun i => (x i : EReal))
    ∧ (∃ g : S1x2048.Idx → ℝ, m ((c.tc : Thread nD τ).loc main_arg1) = fun i => (g i : EReal))
    ∧ (∃ d : S512x2048.Idx → ℝ, m ((c.tc : Thread nD τ).loc main_arg2) = fun i => (d i : EReal)) :=
  ⟨reals_of_mask _ fun i => congrFun (h c).1 i, reals_of_mask _ fun i => congrFun (h c).2.1 i,
    reals_of_mask _ fun i => congrFun (h c).2.2 i⟩

set_option backward.isDefEq.respectTransparency.types false in
/-- The two programs give the same results. -/
theorem algebraic : algebraic_MemoryBwdIdeal_MemoryGradIdeal_pre_memory_finite := by
  pair_intro
  · run_from Cert.MemoryBwdIdeal.Gen.run_main m g
  · run_from Cert.MemoryGradIdeal.Hand.reference_run m' g'
    · obtain ⟨⟨x, hx⟩, ⟨w, hw⟩, ⟨d, hd⟩⟩ := reals m hpre c
      rw [final_3 m c, hx, hw, hd]
      exact ref_dx x w d
    · rw [final_4 m c]
      exact ref_dgain _ _

end Cert.MemoryBwdIdeal.Hand

end
-- ==== Proof.LossMath.lean ====
/- Hand-written, untrusted: one row of the loss — what a row misses its target by, its part of the loss and the cotangent it
   hands to the normalisation. -/
module

public import proofs.«01_k».proof.Proof.NormMath

@[expose] public section

noncomputable section

namespace Cert.Norm

open Idealize.ShloMosaic Cert.Reals
open scoped BigOperators

/-- What the normalised row misses its target by. -/
def miss (x g t : Fin 2048 → EReal) (l : Fin 2048) : EReal := x l * factor x * g l - t l

/-- The mean square of that. -/
def rowLoss (x g t : Fin 2048 → EReal) : EReal :=
  Ideal.div (∑ k, miss x g t k * miss x g t k) (Ideal.ofBits .f32 0x45000000#32)

/-- The cotangent of the normalised row, as the kernel spells it. -/
def cot (x g t : Fin 2048 → EReal) (l : Fin 2048) : EReal := miss x g t l * Ideal.ofBits .f32 0x3A000000#32

/-- The pattern of one over the row's length. -/
theorem ofBits_inv_len : Ideal.ofBits .f32 0x3A000000#32 = ((1 / 2048 : ℝ) : EReal) := by
  simp [Ideal.ofBits, Ideal.ieee, -EReal.coe_mul]; norm_num

/-- The pattern of two. -/
theorem ofBits_two : Ideal.ofBits .f32 0x40000000#32 = ((2 : ℝ) : EReal) := by
  simp [Ideal.ofBits, Ideal.ieee, -EReal.coe_mul]; norm_num

theorem miss_real (x g t : Fin 2048 → ℝ) : ∃ e : Fin 2048 → ℝ,
    miss (fun k => (x k : EReal)) (fun k => (g k : EReal)) (fun k => (t k : EReal)) = fun k => (e k : EReal) := by
  obtain ⟨r, hr, -⟩ := factor_real x
  exact ⟨fun k => x k * r * g k - t k, funext fun l => by simp only [miss, hr, ← EReal.coe_mul, ← EReal.coe_sub]⟩

theorem rowLoss_real (x g t : Fin 2048 → ℝ) : ∃ e : ℝ,
    rowLoss (fun k => (x k : EReal)) (fun k => (g k : EReal)) (fun k => (t k : EReal)) = (e : EReal) := by
  obtain ⟨e, he⟩ := miss_real x g t
  refine ⟨(∑ k, e k * e k) / 2048, ?_⟩
  simp only [rowLoss, he, ofBits_len, ← EReal.coe_mul, coe_sum, div_real _ (by norm_num : (2048 : ℝ) ≠ 0)]

/-- The cotangent of a row of reals is one, and is what the plain derivative spells. -/
theorem cot_real (x g t : Fin 2048 → ℝ) : ∃ d : Fin 2048 → ℝ,
    cot (fun k => (x k : EReal)) (fun k => (g k : EReal)) (fun k => (t k : EReal)) = (fun k => (d k : EReal))
    ∧ ∀ l, Ideal.div (Ideal.ofBits .f32 0x3F000000#32 * (1 : EReal)) (Ideal.ofBits .f32 0x45000000#32)
      * (Ideal.ofBits .f32 0x40000000#32 * miss (fun k => (x k : EReal)) (fun k => (g k : EReal)) (fun k => (t k : EReal)) l)
      = (d l : EReal) := by
  obtain ⟨e, he⟩ := miss_real x g t
  refine ⟨fun k => e k * (1 / 2048), funext fun l => by simp only [cot, he, ofBits_inv_len, ← EReal.coe_mul], fun l => ?_⟩
  simp only [he, ofBits_len, ofBits_half, ofBits_two, mul_one, div_real _ (by norm_num : (2048 : ℝ) ≠ 0), ← EReal.coe_mul]
  congr 1; ring

/-- Half of a sum of reals, block by block. -/
theorem half_sum {n k : ℕ} (f : Fin n → Fin k → ℝ) :
    ∑ t, Ideal.ofBits .f32 0x3F000000#32 * ∑ r, (f t r : EReal) = Ideal.ofBits .f32 0x3F000000#32 * ∑ t, ∑ r, (f t r : EReal) := by
  simp only [ofBits_half, coe_sum, ← EReal.coe_mul, Finset.mul_sum]

end Cert.Norm

end
-- ==== Proof.LossValue.lean ====
/- Hand-written, untrusted: what the loss kernel leaves in its three results, as formulas of its arguments. -/
module

public import proofs.«01_k».proof.Proof.Gen.LossBwdIdeal.Value
public import proofs.«01_k».proof.Proof.LossMath
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.LossBwdIdeal.Hand

open Cert.LossBwdIdeal Cert.LossBwdIdeal.Gen Cert.Norm

/-- The loss, in every entry of the tile. -/
def loss (x : FVec Ideal S4096x2048 .f32) (g : FVec Ideal S1x2048 .f32) (d : FVec Ideal S4096x2048 .f32) : FVec Ideal S8x128 .f32 := fun _ =>
  ∑ t : Fin 8, Ideal.ofBits .f32 0x3F000000#32 * ∑ r : Fin 512, rowLoss (fun k => x (ix2 ⟨t.val * 512 + r.val, by omega⟩ k))
    (fun k => g (ix2 0 k)) (fun k => d (ix2 ⟨t.val * 512 + r.val, by omega⟩ k))

/-- The gradient at the hidden state. -/
def dh (x : FVec Ideal S4096x2048 .f32) (g : FVec Ideal S1x2048 .f32) (d : FVec Ideal S4096x2048 .f32) :
    FVec Ideal S4096x2048 .bf16 := fun i =>
  back (fun k => x (ix2 (i 0) k)) (fun k => g (ix2 0 k))
    (cot (fun k => x (ix2 (i 0) k)) (fun k => g (ix2 0 k)) (fun k => d (ix2 (i 0) k))) (i 1)

/-- The gradient at the gain: the sum of the rows' parts. -/
def dgain (x : FVec Ideal S4096x2048 .f32) (g : FVec Ideal S1x2048 .f32) (d : FVec Ideal S4096x2048 .f32) : FVec Ideal S1x2048 .f32 := fun i =>
  ∑ r : Fin 4096, part (fun k => x (ix2 r k))
    (cot (fun k => x (ix2 r k)) (fun k => g (ix2 0 k)) (fun k => d (ix2 r k))) (i 1)

/-- Where each window stands at grid point `t`. -/
theorem idx_val : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![0, 0] :=
  (by decide +kernel : ∀ t : Fin grid0.N, _)

variable (m : (ℓ : Loc nD τ sig) → Buf (Elt Ideal) ℓ)

set_option maxHeartbeats 1600000 in
theorem point_4 (c : Dev nD) (t : Fin cfg0.N) (y) :
    (outsAt0 m c t.val t.isLt).2.1 y
      = dh (m ((c : Thread nD τ).loc main_arg0)) (m ((c : Thread nD τ).loc main_arg1))
          (m ((c : Thread nD τ).loc main_arg2)) (((cfg0.win 4).blk t).view.emb y) := by
  have hN : t.val < 8 := N_0 ▸ t.isLt
  by_cases h : t.val % 8 = 0
  · rw [outsAt0_A m c t h (by omega)]; frame_out
    open_payloads; pointwise [dh, back, cot, miss, factor, spread]; blk_point [iblk, V, idx_val t]
  · rw [outsAt0_B m c t h (by omega)]; frame_out
    open_payloads; pointwise [dh, back, cot, miss, factor, spread]; blk_point [iblk, V, idx_val t]

/-- The second result after the whole grid. -/
theorem final_4 (c : Dev nD) : (dats m 0 c).arrAt 4 (cfgs 0).N
    = dh (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]
  exact point_4 m c t y

/-- What one block of rows adds to the gain's gradient. -/
def gainOf (x : FVec Ideal S512x2048 .f32) (g : FVec Ideal S1x2048 .f32) (d : FVec Ideal S512x2048 .f32) (j : S1x2048.Idx) : EReal :=
  ∑ r : Fin 512, part (fun k => x (ix2 r k)) (cot (fun k => x (ix2 r k)) (fun k => g (ix2 0 k)) (fun k => d (ix2 r k))) (j 1)

/-- What one block of rows adds to the loss. -/
def lossOf (x : FVec Ideal S512x2048 .f32) (g : FVec Ideal S1x2048 .f32) (d : FVec Ideal S512x2048 .f32) : EReal :=
  Ideal.ofBits .f32 0x3F000000#32 * ∑ r : Fin 512, rowLoss (fun k => x (ix2 r k)) (fun k => g (ix2 0 k)) (fun k => d (ix2 r k))

set_option maxHeartbeats 1600000 in
theorem start_5 (c : Dev nD) (t : Fin cfg0.N) (h : t.val % 8 = 0) (j) :
    (outsAt0 m c t.val t.isLt).2.2 j = 0 + gainOf (iblk m c 0 t) (iblk m c 1 t) (iblk m c 2 t) j := by
  have hN : t.val < 8 := N_0 ▸ t.isLt
  rw [outsAt0_A m c t h (by omega)]; frame_out
  open_payloads; pointwise [gainOf, part, cot, miss, factor, spread]

set_option maxHeartbeats 1600000 in
theorem step_5 (c : Dev nD) (t : Fin cfg0.N) (h : ¬ t.val % 8 = 0) (j) :
    (outsAt0 m c t.val t.isLt).2.2 j
      = (outsAt0 m c (t.val - 1) (Nat.lt_of_le_of_lt (Nat.sub_le _ _) t.isLt)).2.2 j + gainOf (iblk m c 0 t) (iblk m c 1 t) (iblk m c 2 t) j := by
  rw [outsAt0_B m c t h (by omega)]; frame_out
  open_payloads; pointwise [gainOf, part, cot, miss, factor, spread]

set_option maxHeartbeats 1600000 in
theorem start_3 (c : Dev nD) (t : Fin cfg0.N) (h : t.val % 8 = 0) (j) :
    (outsAt0 m c t.val t.isLt).1 j = 0 + lossOf (iblk m c 0 t) (iblk m c 1 t) (iblk m c 2 t) := by
  have hN : t.val < 8 := N_0 ▸ t.isLt
  rw [outsAt0_A m c t h (by omega)]; frame_out
  open_payloads; pointwise [lossOf, rowLoss, miss, factor, spread]; simp only [Fin.sum_univ_one]

set_option maxHeartbeats 1600000 in
theorem step_3 (c : Dev nD) (t : Fin cfg0.N) (h : ¬ t.val % 8 = 0) (j) :
    (outsAt0 m c t.val t.isLt).1 j
      = (outsAt0 m c (t.val - 1) (Nat.lt_of_le_of_lt (Nat.sub_le _ _) t.isLt)).1 j + lossOf (iblk m c 0 t) (iblk m c 1 t) (iblk m c 2 t) := by
  rw [outsAt0_B m c t h (by omega)]; frame_out
  open_payloads; pointwise [lossOf, rowLoss, miss, factor, spread]; simp only [Fin.sum_univ_one]

/-- The third result after the whole grid. -/
theorem final_5 (c : Dev nD) : (dats m 0 c).arrAt 5 (cfgs 0).N
    = dgain (m ((c : Thread nD τ).loc main_arg0)) (m ((c : Thread nD τ).loc main_arg1)) (m ((c : Thread nD τ).loc main_arg2)) := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => 0)
    (fun t j => gainOf (iblk m c 0 t) (iblk m c 1 t) (iblk m c 2 t) j) (fun t h j => start_5 m c t h j) (fun t h j => step_5 m c t h j)
    (le_of_eq N_0) t0_7 rfl j, zero_add, dgain]
  simp only [gainOf]
  refine Fin.sum_mul_add_congr (fun t k hl => ?_) (by decide)
  blk_point [iblk, V, idx_val t, part, cot, miss, factor, spread]

/-- The first result after the whole grid. -/
theorem final_3 (c : Dev nD) : (dats m 0 c).arrAt 3 (cfgs 0).N
    = loss (m ((c : Thread nD τ).loc main_arg0)) (m ((c : Thread nD τ).loc main_arg1)) (m ((c : Thread nD τ).loc main_arg2)) := by
  refine (dats m 0 c).arrAt_eq_of_after_last 3 t0_7 (by decide +kernel) _ fun j => ?_
  blk_simp
  rw [after0_3, Pipeline.eq_sum_fin_of_reset_step_apply_last (fun n h => (outsAt0 m c n h).1) 8 (fun _ => 0)
    (fun t j => lossOf (iblk m c 0 t) (iblk m c 1 t) (iblk m c 2 t)) (fun t h j => start_3 m c t h j) (fun t h j => step_3 m c t h j)
    (le_of_eq N_0) t0_7 rfl j, zero_add, loss]
  refine Fin.sum_fin_congr (fun t => ?_)
  blk_point [iblk, V, idx_val t, lossOf, rowLoss, miss, factor, spread]

end Cert.LossBwdIdeal.Hand

end
-- ==== Proof.LossPair.lean ====
/- Hand-written, untrusted: the loss kernel and the plain loss with its derivative give the same three arrays, where the
   hidden state, the gain and the target are finite. -/
module

public import proofs.«01_k».proof.Defs
public import proofs.«01_k».proof.Proof.LossValue
public import proofs.«01_k».proof.Proof.Gen.LossGradIdeal.Run
public import proofs.«01_k».proof.Proof.Gen.LossGradIdeal.Read
public import proofs.«01_k».proof.Proof.Gen.Pre_loss_finite

@[expose] public section

set_option maxRecDepth 16384

noncomputable section

open Idealize.ShloMosaic Idealize.ShloMosaic.TcCoe Idealize.SL.Sem
open scoped BigOperators

namespace Cert.LossGradIdeal.Hand

open Cert.LossGradIdeal Cert.LossGradIdeal.Read

/-- The plain loss and its derivative, each result as its named value of the arguments; the arguments stay. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = val_main_v49 (F := Ideal)
          (m ((c.tc : Thread nD τ).loc main_arg0)) (m ((c.tc : Thread nD τ).loc main_arg1)) (m ((c.tc : Thread nD τ).loc main_arg2))
      ∧ r.2.mem ((c.tc : Thread nD τ).loc main_v50) = val_main_v50 (F := Ideal)
          (m ((c.tc : Thread nD τ).loc main_arg0)) (m ((c.tc : Thread nD τ).loc main_arg1)) (m ((c.tc : Thread nD τ).loc main_arg2))
      ∧ r.2.mem ((c.tc : Thread nD τ).loc main_v32) = val_main_v32 (F := Ideal)
          (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v49_eq _ _ _), (h c).2.1.trans (val_main_v50_eq m c),
    (h c).2.2.1.trans (val_main_v32_eq _ _ _), (h c).2.2.2⟩) (Cert.LossGradIdeal.Value.run m ρ)

end Cert.LossGradIdeal.Hand

namespace Cert.LossBwdIdeal.Hand

open Cert.LossGradIdeal.Read Cert.Reals Cert.Norm

/-- The mean square of a row and the small constant, as the plain normalisation spells them. -/
theorem ref_spread (x : FVec Ideal S4096x2048 .f32) (i : Cert.LossGradIdeal.S4096x1.Idx) :
    val_main_v6 (F := Ideal) x i = spread fun k => x (ix2 (i 0) k) := by
  pointwise [val_main_v6, val_main_v5, val_main_v4, val_main_v3, val_main_v2, val_main_v1, val_main_v0, val_main_cst,
    val_main_cst_0, val_main_cst_1, spread]

/-- The row's factor. -/
theorem ref_factor (x : FVec Ideal S4096x2048 .f32) (i : Cert.LossGradIdeal.S4096x1.Idx) :
    val_main_v7 (F := Ideal) x i = factor fun k => x (ix2 (i 0) k) := by
  rw [val_main_v7_apply, ref_spread]; rfl

/-- What a row misses its target by, as the plain loss spells it. -/
theorem ref_miss (x : FVec Ideal S4096x2048 .f32) (g : FVec Ideal S1x2048 .f32) (d : FVec Ideal S4096x2048 .f32) (r : Fin 4096) (l : Fin 2048) :
    val_main_v15 (F := Ideal) x g d (ix2 r l)
      = miss (fun k => x (ix2 r k)) (fun k => g (ix2 0 k)) (fun k => d (ix2 r k)) l := by
  pointwise [val_main_v15, val_main_v14, val_main_v13, val_main_v12, val_main_v11, miss]
  simp only [ref_factor]
  rfl

/-- The row's part of the loss, as the plain loss spells it. -/
theorem ref_row (x : FVec Ideal S4096x2048 .f32) (g : FVec Ideal S1x2048 .f32) (d : FVec Ideal S4096x2048 .f32) (r : Fin 4096) :
    val_main_v21 (F := Ideal) x g d (ix1 r)
      = rowLoss (fun k => x (ix2 r k)) (fun k => g (ix2 0 k)) (fun k => d (ix2 r k)) := by
  pointwise [val_main_v21, val_main_v20, val_main_v19, val_main_v16, val_main_cst_4, val_main_cst_5, rowLoss]
  simp only [ref_miss]

/-- The plain loss. -/
theorem ref_loss (x : S4096x2048.Idx → ℝ) (g : S1x2048.Idx → ℝ) (d : S4096x2048.Idx → ℝ) :
    val_main_v49 (F := Ideal) (fun i => (x i : EReal)) (fun i => (g i : EReal)) (fun i => (d i : EReal))
      = loss (fun i => (x i : EReal)) (fun i => (g i : EReal)) (fun i => (d i : EReal)) := by
  choose e he using fun r : Fin 4096 => rowLoss_real (fun k => x (ix2 r k)) (fun k => g (ix2 0 k)) (fun k => d (ix2 r k))
  funext i
  pointwise [val_main_v49, val_main_v23, val_main_v22, val_main_cst_6, val_main_cst_7, loss]
  simp only [ref_row, he]
  rw [half_sum fun (t : Fin 8) (r : Fin 512) => e ⟨t.val * 512 + r.val, by omega⟩, Fin.sum_mul_add_fin 8 512 fun r => (e r : EReal)]

/-- The cotangent of the normalised rows, as the plain derivative spells it, is made of reals and is the kernel's. -/
theorem ref_cot (x : S4096x2048.Idx → ℝ) (g : S1x2048.Idx → ℝ) (d : S4096x2048.Idx → ℝ) (r : Fin 4096) : ∃ e : Fin 2048 → ℝ,
    cot (fun k => (x (ix2 r k) : EReal)) (fun k => (g (ix2 0 k) : EReal)) (fun k => (d (ix2 r k) : EReal)) = (fun k => (e k : EReal))
    ∧ ∀ l, val_main_v29 (F := Ideal) (fun i => (x i : EReal)) (fun i => (g i : EReal)) (fun i => (d i : EReal)) (ix2 r l) = (e l : EReal) := by
  obtain ⟨e, he, h⟩ := cot_real (fun k => x (ix2 r k)) (fun k => g (ix2 0 k)) (fun k => d (ix2 r k))
  refine ⟨e, he, fun l => ?_⟩
  rw [← h l]
  pointwise [val_main_v29, val_main_v28, val_main_v27, val_main_v26, val_main_v25, val_main_v24, val_main_v18, val_main_v17,
    val_main_cst_3, val_main_cst_8, val_main_cst_9, val_main_cst_10]
  simp only [ref_miss]

/-- The plain derivative at the hidden state. -/
theorem ref_dh (x : S4096x2048.Idx → ℝ) (g : S1x2048.Idx → ℝ) (d : S4096x2048.Idx → ℝ) :
    val_main_v50 (F := Ideal) (fun i => (x i : EReal)) (fun i => (g i : EReal)) (fun i => (d i : EReal))
      = dh (fun i => (x i : EReal)) (fun i => (g i : EReal)) (fun i => (d i : EReal)) := by
  funext i
  obtain ⟨r, l, rfl⟩ : ∃ r l, i = ix2 r l := ⟨i 0, i 1, eq_ix2 i⟩
  obtain ⟨e, he, h⟩ := ref_cot x g d r
  pointwise [val_main_v50, val_main_v48, val_main_v47, val_main_v46, val_main_v45, val_main_v44, val_main_v43, val_main_v42,
    val_main_v41, val_main_v40, val_main_v39, val_main_v38, val_main_v37, val_main_v36, val_main_v35, val_main_v34,
    val_main_v33, val_main_v10, val_main_v9, val_main_v8, val_main_cst_2, val_main_cst_12, val_main_cst_13, val_main_cst_14, dh]
  simp only [ref_factor, ref_spread, Fin.sum_univ_one, h, he]
  exact (add_assoc _ _ _).trans (back_plain (fun k => x (ix2 r k)) (fun k => g (ix2 0 k)) e l)

/-- The plain derivative at the gain. -/
theorem ref_dgain (x : S4096x2048.Idx → ℝ) (g : S1x2048.Idx → ℝ) (d : S4096x2048.Idx → ℝ) :
    val_main_v32 (F := Ideal) (fun i => (x i : EReal)) (fun i => (g i : EReal)) (fun i => (d i : EReal))
      = dgain (fun i => (x i : EReal)) (fun i => (g i : EReal)) (fun i => (d i : EReal)) := by
  funext i
  obtain ⟨z, l, rfl⟩ : ∃ z l, i = ix2 z l := ⟨i 0, i 1, eq_ix2 i⟩
  pointwise [val_main_v32, val_main_v31, val_main_v30, val_main_v12, val_main_v11, val_main_cst_11, dgain, part]
  simp only [ref_factor]
  refine Finset.sum_congr rfl fun r _ => ?_
  obtain ⟨e, he, h⟩ := ref_cot x g d r
  simp only [h, he]
  exact @mul_comm EReal _ _ _

/-- What the precondition says: the hidden state, the gain and the target are arrays of reals. -/
theorem reals (m : (ℓ : Loc nD τ sig) → Buf (Elt Ideal) ℓ) (h : Pre_LossBwdIdeal_loss_finite m) (c : Dev nD) :
    (∃ x : S4096x2048.Idx → ℝ, m ((c.tc : Thread nD τ).loc main_arg0) = fun i => (x i : EReal))
    ∧ (∃ g : S1x2048.Idx → ℝ, m ((c.tc : Thread nD τ).loc main_arg1) = fun i => (g i : EReal))
    ∧ (∃ d : S4096x2048.Idx → ℝ, m ((c.tc : Thread nD τ).loc main_arg2) = fun i => (d i : EReal)) :=
  ⟨reals_of_mask _ fun i => congrFun (h c).1 i, reals_of_mask _ fun i => congrFun (h c).2.1 i,
    reals_of_mask _ fun i => congrFun (h c).2.2 i⟩

set_option backward.isDefEq.respectTransparency.types false in
/-- The two programs give the same results. -/
theorem algebraic : algebraic_LossBwdIdeal_LossGradIdeal_pre_loss_finite := by
  pair_intro
  · run_from Cert.LossBwdIdeal.Gen.run_main m g
  · run_from Cert.LossGradIdeal.Hand.reference_run m' g'
    · obtain ⟨⟨x, hx⟩, ⟨w, hw⟩, ⟨d, hd⟩⟩ := reals m hpre c
      rw [final_3 m c, hx, hw, hd]
      exact ref_loss x w d
    · obtain ⟨⟨x, hx⟩, ⟨w, hw⟩, ⟨d, hd⟩⟩ := reals m hpre c
      rw [final_4 m c, hx, hw, hd]
      exact ref_dh x w d
    · obtain ⟨⟨x, hx⟩, ⟨w, hw⟩, ⟨d, hd⟩⟩ := reals m hpre c
      rw [final_5 m c, hx, hw, hd]
      exact ref_dgain x w d

end Cert.LossBwdIdeal.Hand

end
-- ==== Proof.BiasMath.lean ====
/- Hand-written, untrusted: the sums behind the bias table's derivative. -/
module

public import Mathlib.Data.EReal.Basic
public import Mathlib.Algebra.BigOperators.Intervals

@[expose] public section

noncomputable section

open scoped BigOperators

namespace Cert.Bias

open Finset (range)

/-- The derivative of one entry of the bias, at a query frame of its chunk and a key of its window, over the four chunks. -/
def chunks (D : ℕ → ℕ → ℕ → EReal) (u j : ℕ) : EReal := D 0 u j + D 1 u j + D 2 u j + D 3 u j

/-- The table's row a query frame of a chunk and a key of its window read. -/
def entry (u j : ℕ) : ℕ := min (640 + u - j) 256

/-- The derivative of row `k` of the table. -/
def grad (D : ℕ → ℕ → ℕ → EReal) (k : ℕ) : EReal := ∑ u ∈ range 64, ∑ j ∈ range 576, if entry u j = k then chunks D u j else 0

/-- A chunk's derivative in the tile: its window `64` keys further on for each chunk, nothing elsewhere. -/
def tile (D : ℕ → ℕ → ℕ → EReal) (i x : ℕ) : EReal :=
  if 64 * (i / 64) ≤ x ∧ x < 64 * (i / 64) + 576 then D (i / 64) (i % 64) (x - 64 * (i / 64)) else 0

/-- What row `i` of a tile adds to lane `l` of its diagonals. -/
def tap (T : ℕ → ℕ → EReal) (i l : ℕ) : EReal := if 255 ≤ l + i ∧ l + i < 1023 then T i (l + i - 255) else 0

/-- The sum along a diagonal of the tile. -/
def diag (T : ℕ → ℕ → EReal) (l : ℕ) : EReal := ∑ i ∈ range 256, tap T i l

/-- A sum over 256 rows is the sum over the 64 rows of each of the four chunks. -/
theorem sum_chunks (f : ℕ → EReal) : ∑ i ∈ range 256, f i = ∑ u ∈ range 64, (f u + f (64 + u) + f (128 + u) + f (192 + u)) := by
  rw [show 256 = 192 + 64 from rfl, Finset.sum_range_add, show 192 = 128 + 64 from rfl, Finset.sum_range_add, show 128 = 64 + 64 from rfl,
    Finset.sum_range_add, ← Finset.sum_add_distrib, ← Finset.sum_add_distrib, ← Finset.sum_add_distrib]

theorem tap_tile (D : ℕ → ℕ → ℕ → EReal) (c u l : ℕ) (hc : c < 4) (hu : u < 64) :
    tap (tile D) (64 * c + u) l = if 255 ≤ l + u ∧ l + u < 831 then D c u (l + u - 255) else 0 := by
  have h1 : (64 * c + u) / 64 = c := by omega
  have h2 : (64 * c + u) % 64 = u := by omega
  unfold tap tile
  rw [h1, h2]
  by_cases a : 255 ≤ l + u ∧ l + u < 831
  · rw [if_pos a, if_pos (by omega), if_pos (by omega)]
    congr 1
    omega
  · rw [if_neg a]
    split
    · exact if_neg (by omega)
    · rfl

/-- A diagonal of the tile holds the keys at one distance from their query frame. -/
theorem diag_tile (D : ℕ → ℕ → ℕ → EReal) (l : ℕ) :
    diag (tile D) l = ∑ u ∈ range 64, ∑ j ∈ range 576, if j + 255 = l + u then chunks D u j else 0 := by
  unfold diag
  rw [sum_chunks]
  refine Finset.sum_congr rfl fun u hu => ?_
  have hu : u < 64 := Finset.mem_range.1 hu
  have e0 := tap_tile D 0 u l (by decide) hu
  have e1 := tap_tile D 1 u l (by decide) hu
  have e2 := tap_tile D 2 u l (by decide) hu
  have e3 := tap_tile D 3 u l (by decide) hu
  rw [show 64 * 0 + u = u by omega] at e0
  rw [show 64 * 1 + u = 64 + u by omega] at e1
  rw [show 64 * 2 + u = 128 + u by omega] at e2
  rw [show 64 * 3 + u = 192 + u by omega] at e3
  rw [e0, e1, e2, e3]
  by_cases a : 255 ≤ l + u ∧ l + u < 831
  · rw [Finset.sum_eq_single (l + u - 255) (fun j _ h => if_neg (by omega)) (fun h => absurd (Finset.mem_range.2 (by omega)) h), if_pos a, if_pos a, if_pos a,
      if_pos a, if_pos (by omega)]
    rfl
  · rw [if_neg a, if_neg a, if_neg a, if_neg a, Finset.sum_eq_zero fun j h => if_neg (by have := Finset.mem_range.1 h; omega)]
    simp only [add_zero]

/-- No key is so far ahead of its query frame that it reads the table's first row. -/
theorem grad_zero (D : ℕ → ℕ → ℕ → EReal) : grad D 0 = 0 :=
  Finset.sum_eq_zero fun u _ => Finset.sum_eq_zero fun j h => if_neg (by have := Finset.mem_range.1 h; unfold entry; omega)

/-- A row of the table inside the clipped distances is one diagonal. -/
theorem grad_mid (D : ℕ → ℕ → ℕ → EReal) (k : ℕ) (h0 : 0 < k) (h1 : k < 256) : diag (tile D) (895 - k) = grad D k := by
  rw [diag_tile]
  exact Finset.sum_congr rfl fun u hu => Finset.sum_congr rfl fun j hj =>
    if_congr (by have := Finset.mem_range.1 hu; have := Finset.mem_range.1 hj; unfold entry; omega) rfl rfl

/-- The table's last row is read at every distance from the clip on: all the diagonals up to it. -/
theorem grad_last (D : ℕ → ℕ → ℕ → EReal) : ∑ l ∈ range 640, diag (tile D) l = grad D 256 := by
  simp only [diag_tile]
  rw [Finset.sum_comm]
  refine Finset.sum_congr rfl fun u hu => ?_
  rw [Finset.sum_comm]
  refine Finset.sum_congr rfl fun j hj => ?_
  have hu : u < 64 := Finset.mem_range.1 hu
  have hj : j < 576 := Finset.mem_range.1 hj
  by_cases a : entry u j = 256
  · have b : j + 255 < 640 + u := by unfold entry at a; omega
    rw [if_pos a, Finset.sum_eq_single (j + 255 - u) (fun l _ h => if_neg (by omega)) (fun h => absurd (Finset.mem_range.2 (by omega)) h), if_pos (by omega)]
  · have b : ¬ j + 255 < 640 + u := by unfold entry at a; omega
    rw [if_neg a]
    exact Finset.sum_eq_zero fun l h => if_neg (by have := Finset.mem_range.1 h; omega)

end Cert.Bias
end
-- ==== Proof.BiasFold.lean ====
/- Hand-written, untrusted: what one grid point of the bias-table kernel leaves, as sums along the diagonals of its tile. -/
module

public import proofs.«01_k».proof.Proof.Gen.BiasBwdIdeal.Frame
public import proofs.«01_k».proof.Proof.BiasMath
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.BiasBwdIdeal.Hand

open Cert.BiasBwdIdeal Cert.BiasBwdIdeal.Gen Cert.Bias
open Finset (range)

variable (m : (ℓ : Loc nD τ sig) → Buf (Elt Ideal) ℓ) (c : Dev nD)

/-- Row `n` of a head's tile. -/
def row (X : Vec Ideal S1x256x768 .f32) (n : ℕ) : Vec Ideal S1x1x768 .f32 :=
  View.ld X (Rect.unit ![0, n % 256, 0] ![1, 1, 768] (by
    have := Nat.mod_lt n (show 0 < 256 by decide)
    exact fun | 0 => Nat.le_refl 1 | 1 => (by omega : n % 256 + 1 ≤ 256) | 2 => Nat.le_refl 768))

/-- A row followed by 256 zeros. -/
def padded (r : Vec Ideal S1x1x768 .f32) : FVec Ideal S1x1024 .f32 :=
  concatenate S1x1024 1 [⟨S1x768, shapeCast S1x768 r shapeCasts_S1x1x768_S1x768⟩, ⟨S1x256, broadcast S1x256 (Scalar.ofBits .f32 0x00000000#32)⟩]
    concatenates_S1x768_S1x256_S1x1024_d1

/-- The first `n` rows added up, row `i` rotated by `255 - i` lanes. -/
def rows (X : Vec Ideal S1x256x768 .f32) : ℕ → FVec Ideal S1x1024 .f32
  | 0 => broadcast S1x1024 (Scalar.ofBits .f32 0x00000000#32)
  | n + 1 => addf (rows X n) (dynamicRotate 1 (BitVec.ofNat 32 (255 - n)) none (padded (row X n)) rotates_S1x1024_d1)

set_option maxHeartbeats 0 in
theorem out_val (t : Fin cfg0.N) : outsAt0 m c t
    = shapeCast S1x1x1024 (addf (rows (iblk m c 0 t) 255) (padded (row (iblk m c 0 t) 255))) shapeCasts_S1x1024_S1x1x1024 := by
  unfold outsAt0 out0_A_1
  frame_out
  generalize iblk m c 0 t = X
  rfl

variable {X : Vec Ideal S1x256x768 .f32} {T : ℕ → ℕ → EReal}

theorem row_at (hX : ∀ y, X y = T (y 1).val (y 2).val) (n : ℕ) (x : Fin 768) : row X n (ix3 0 0 x) = T (n % 256) x.val := by
  unfold row
  pointwise [hX]

theorem padded_at (hX : ∀ y, X y = T (y 1).val (y 2).val) (n : ℕ) (l : Fin 1024) :
    padded (row X n) (ix2 0 l) = if l.val < 768 then T (n % 256) l.val else 0 := by
  have hl : l.val < 1024 := l.isLt
  pointwise [padded]
  split
  · exact row_at hX n ⟨l.val, by omega⟩
  · rfl

/-- A row rotated to its diagonals. -/
theorem rotated_at (hX : ∀ y, X y = T (y 1).val (y 2).val) (n : ℕ) (hn : n < 255) (l : Fin 1024) :
    dynamicRotate 1 (BitVec.ofNat 32 (255 - n)) none (padded (row X n)) rotates_S1x1024_d1 (ix2 0 l) = tap T n l.val := by
  have hl : l.val < 1024 := l.isLt
  have e : (l.val + 1024 - (BitVec.ofNat 32 (255 - n)).toNat % 1024) % 1024 = (l.val + n + 769) % 1024 := by
    rw [BitVec.toNat_ofNat]
    omega
  pointwise []
  refine (congrArg (fun k => padded (row X n) (ix2 0 k)) (Fin.ext e : _ = (⟨(l.val + n + 769) % 1024, Nat.mod_lt _ (by decide)⟩ : Fin 1024))).trans ?_
  refine (padded_at hX n _).trans ?_
  dsimp only
  rw [Nat.mod_eq_of_lt (show n < 256 by omega), tap]
  by_cases a : 255 ≤ l.val + n ∧ l.val + n < 1023
  · rw [if_pos a, if_pos (by omega)]
    congr 1
    omega
  · rw [if_neg a, if_neg (by omega)]

theorem rows_at (hX : ∀ y, X y = T (y 1).val (y 2).val) (n : ℕ) (hn : n ≤ 255) (l : Fin 1024) :
    rows X n (ix2 0 l) = ∑ i ∈ range n, tap T i l.val := by
  induction n with
  | zero => pointwise [rows]
            rfl
  | succ n ih =>
    rw [Finset.sum_range_succ, ← ih (by omega), ← rotated_at hX n (by omega) l]
    rfl

theorem total_at (hX : ∀ y, X y = T (y 1).val (y 2).val) (l : Fin 1024) :
    addf (rows X 255) (padded (row X 255)) (ix2 0 l) = diag T l.val := by
  have hl : l.val < 1024 := l.isLt
  show rows X 255 (ix2 0 l) + padded (row X 255) (ix2 0 l) = _
  rw [rows_at hX 255 (by omega), padded_at hX, diag, Finset.sum_range_succ _ 255]
  congr 1
  unfold tap
  by_cases a : l.val < 768
  · rw [if_pos a, if_pos (by omega), Nat.add_sub_cancel]
  · rw [if_neg a, if_neg (by omega)]

end Cert.BiasBwdIdeal.Hand
end
-- ==== Proof.BiasTile.lean ====
/- Hand-written, untrusted: the tile the bias-table kernel reads, as the host builds it of the four chunks' derivatives. -/
module

public import proofs.«01_k».proof.Proof.Gen.BiasBwdIdeal.Frame
public import proofs.«01_k».proof.Proof.BiasMath
public import Idealize.ShloMosaic.Lib.StableHlo.RunRead
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.BiasBwdIdeal.Hand

open Cert.BiasBwdIdeal Cert.BiasBwdIdeal.Gen Cert.Bias

/-- The host operations before the kernel. -/
abbrev line : List (HloOp τ sig (Elt Ideal)) := List.flatten [hostOps0]

variable (W : Valuation τ sig (Elt Ideal)) (D : ℕ → ℕ → ℕ → ℕ → EReal)
  (hD : (W (Proc.devRef .tc main_arg0) : FVec Ideal S16x4x64x576 .f32) = fun y => D (y 0).val (y 1).val (y 2).val (y 3).val)

/-- A chunk of the derivative. -/
theorem chunk_at (A : FVec Ideal S16x4x64x576 .f32) (hA : A = fun y => D (y 0).val (y 1).val (y 2).val (y 3).val) (k : Fin 4)
    (q : S16x4x64x576.Slices ![0, k.val, 0, 0] S16x1x64x576) (h : Fin 16) (r : Fin 64) (x : Fin 576) :
    shapeCast S16x64x576 (extractStridedSlice S16x1x64x576 ![0, k.val, 0, 0] A q) shapeCasts_S16x1x64x576_S16x64x576 (ix3 h r x)
      = D h.val k.val r.val x.val := by
  subst hA
  pointwise []

include hD in
theorem read_4 (h : Fin 16) (r : Fin 64) (x : Fin 768) :
    (StableHlo.upto line W 50 (Proc.devRef .tc main_v4) : FVec Ideal S16x64x768 .f32) (ix3 h r x)
      = if 0 ≤ x.val ∧ x.val < 576 then D h.val 0 r.val (x.val - 0) else 0 := by
  have key : ∀ A : FVec Ideal S16x64x576 .f32, (∀ x, A (ix3 h r x) = D h.val 0 r.val x.val) →
      ∀ E : FVec Ideal S16x64x192 .f32, E = (fun _ => 0) →
      concatenate S16x64x768 2 [⟨S16x64x576, A⟩, ⟨S16x64x192, E⟩] concatenates_S16x64x576_S16x64x192_S16x64x768_d2 (ix3 h r x)
        = if 0 ≤ x.val ∧ x.val < 576 then D h.val 0 r.val (x.val - 0) else 0 := by
    rintro A hA E rfl
    have hx : x.val < 768 := x.isLt
    pointwise [hA]
    split
    · rfl
    · rfl
  after_reads_simp
  exact key _ (chunk_at D _ hD 0 _ h r) _ (by funext i; pointwise [])

include hD in
theorem read_9 (h : Fin 16) (r : Fin 64) (x : Fin 768) :
    (StableHlo.upto line W 50 (Proc.devRef .tc main_v9) : FVec Ideal S16x64x768 .f32) (ix3 h r x)
      = if 64 ≤ x.val ∧ x.val < 640 then D h.val 1 r.val (x.val - 64) else 0 := by
  after_reads_simp
  pointwise []
  have hx : x.val < 768 := x.isLt
  split
  · refine Eq.trans (b := (0 : EReal)) ((congrFun (StableHlo.unary_result _ _ _ _ _ _) _).trans ?_) (if_neg (by omega)).symm
    after_reads_simp
    pointwise []
  split
  · refine Eq.trans ((congrFun (StableHlo.reshape_result _ _ _ _ _ _ _) _).trans ?_) (if_pos (by omega)).symm
    after_reads_simp
    exact chunk_at D _ hD 1 _ h r _
  · refine Eq.trans (b := (0 : EReal)) ((congrFun (StableHlo.unary_result _ _ _ _ _ _) _).trans ?_) (if_neg (by omega)).symm
    after_reads_simp
    pointwise []

include hD in
theorem read_14 (h : Fin 16) (r : Fin 64) (x : Fin 768) :
    (StableHlo.upto line W 50 (Proc.devRef .tc main_v14) : FVec Ideal S16x64x768 .f32) (ix3 h r x)
      = if 128 ≤ x.val ∧ x.val < 704 then D h.val 2 r.val (x.val - 128) else 0 := by
  after_reads_simp
  pointwise []
  have hx : x.val < 768 := x.isLt
  split
  · refine Eq.trans (b := (0 : EReal)) ((congrFun (StableHlo.unary_result _ _ _ _ _ _) _).trans ?_) (if_neg (by omega)).symm
    after_reads_simp
    pointwise []
  split
  · refine Eq.trans ((congrFun (StableHlo.reshape_result _ _ _ _ _ _ _) _).trans ?_) (if_pos (by omega)).symm
    after_reads_simp
    exact chunk_at D _ hD 2 _ h r _
  · refine Eq.trans (b := (0 : EReal)) ((congrFun (StableHlo.unary_result _ _ _ _ _ _) _).trans ?_) (if_neg (by omega)).symm
    after_reads_simp
    pointwise []

include hD in
theorem read_19 (h : Fin 16) (r : Fin 64) (x : Fin 768) :
    (StableHlo.upto line W 50 (Proc.devRef .tc main_v19) : FVec Ideal S16x64x768 .f32) (ix3 h r x)
      = if 192 ≤ x.val ∧ x.val < 768 then D h.val 3 r.val (x.val - 192) else 0 := by
  have key : ∀ A : FVec Ideal S16x64x576 .f32, (∀ x, A (ix3 h r x) = D h.val 3 r.val x.val) →
      ∀ E : FVec Ideal S16x64x192 .f32, E = (fun _ => 0) →
      concatenate S16x64x768 2 [⟨S16x64x192, E⟩, ⟨S16x64x576, A⟩] concatenates_S16x64x192_S16x64x576_S16x64x768_d2 (ix3 h r x)
        = if 192 ≤ x.val ∧ x.val < 768 then D h.val 3 r.val (x.val - 192) else 0 := by
    rintro A hA E rfl
    have hx : x.val < 768 := x.isLt
    pointwise [hA]
    split
    · rw [if_neg (by omega)]
    · rw [if_pos (by omega)]
  after_reads_simp
  exact key _ (chunk_at D _ hD 3 _ h r) _ (by funext i; pointwise [])

include hD in
/-- The tile the kernel reads, head by head. -/
theorem tile_read (h : Fin 16) (r : Fin 256) (x : Fin 768) :
    (StableHlo.after line W (Proc.devRef .tc main_v20) : FVec Ideal S16x256x768 .f32) (ix3 h r x) = tile (D h.val) r.val x.val := by
  after_reads_simp
  have hr : r.val < 256 := r.isLt
  have e := fun (T0 T1 T2 T3 : FVec Ideal S16x64x768 .f32) => (show concatenate S16x256x768 1
      [⟨S16x64x768, T0⟩, ⟨S16x64x768, T1⟩, ⟨S16x64x768, T2⟩, ⟨S16x64x768, T3⟩]
      concatenates_S16x64x768_S16x64x768_S16x64x768_S16x64x768_S16x256x768_d1 (ix3 h r x)
      = if k : r.val < 64 then T0 (ix3 h ⟨r.val, k⟩ x) else if k : r.val - 64 < 64 then T1 (ix3 h ⟨r.val - 64, k⟩ x)
        else if k : r.val - 64 - 64 < 64 then T2 (ix3 h ⟨r.val - 64 - 64, k⟩ x)
        else T3 (ix3 h ⟨r.val - 64 - 64 - 64, by omega⟩ x) by pointwise [])
  refine (e _ _ _ _).trans ?_
  unfold tile
  by_cases k0 : r.val < 64
  · refine (dif_pos k0).trans ((read_4 W D hD h _ x).trans ?_)
    dsimp only
    rw [show r.val / 64 = 0 by omega, show r.val % 64 = r.val by omega]
  refine (dif_neg k0).trans ?_
  by_cases k1 : r.val - 64 < 64
  · refine (dif_pos k1).trans ((read_9 W D hD h _ x).trans ?_)
    dsimp only
    rw [show r.val / 64 = 1 by omega, show r.val % 64 = r.val - 64 by omega]
  refine (dif_neg k1).trans ?_
  by_cases k2 : r.val - 64 - 64 < 64
  · refine (dif_pos k2).trans ((read_14 W D hD h _ x).trans ?_)
    dsimp only
    rw [show r.val / 64 = 2 by omega, show r.val % 64 = r.val - 64 - 64 by omega]
  · refine (dif_neg k2).trans ((read_19 W D hD h _ x).trans ?_)
    dsimp only
    rw [show r.val / 64 = 3 by omega, show r.val % 64 = r.val - 64 - 64 - 64 by omega]

end Cert.BiasBwdIdeal.Hand
end
-- ==== Proof.BiasFinal.lean ====
/- Hand-written, untrusted: the array the bias-table kernel's program ends with. -/
module

public import proofs.«01_k».proof.Proof.Gen.BiasBwdIdeal.Frame
public import proofs.«01_k».proof.Proof.BiasFold
public import proofs.«01_k».proof.Proof.BiasTile
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.BiasBwdIdeal.Hand

open Cert.BiasBwdIdeal Cert.BiasBwdIdeal.Gen Cert.Bias
open Finset (range)

variable {m : (ℓ : Loc nD τ sig) → Buf (Elt Ideal) ℓ} {c : Dev nD} {D : ℕ → ℕ → ℕ → ℕ → EReal}

theorem idx_val : ∀ t : Fin cfg0.N, win0_0.index t = ![t.val, 0, 0] ∧ win0_1.index t = ![t.val, 0, 0] :=
  (by decide +kernel : ∀ t : Fin grid0.N, _)

/-- What the derivative of the biases is. -/
abbrev Holds (m : (ℓ : Loc nD τ sig) → Buf (Elt Ideal) ℓ) (c : Dev nD) (D : ℕ → ℕ → ℕ → ℕ → EReal) : Prop :=
  (m ((c.tc : Thread nD τ).loc main_arg0) : FVec Ideal S16x4x64x576 .f32) = fun y => D (y 0).val (y 1).val (y 2).val (y 3).val

theorem blk_0 (R : Holds m c D) (t : Fin cfg0.N) (y : S1x256x768.Idx) : iblk m c 0 t y = tile (D t.val) (y 1).val (y 2).val := by
  have hN : t.val < 16 := N_0 ▸ t.isLt
  obtain ⟨y0, y1, y2, rfl⟩ : ∃ (y0 : Fin 1) (y1 : Fin 256) (y2 : Fin 768), y = ix3 y0 y1 y2 := ⟨y 0, y 1, y 2, eq_ix3 y⟩
  have h0 : y0.val < 1 := y0.isLt
  have e : iblk m c 0 t (ix3 y0 y1 y2) = V m c main_v20 (ix3 ⟨t.val, by omega⟩ y1 y2) := by
    blk_ext [iblk, idx_val t]
  rw [e]
  exact tile_read _ D R ⟨t.val, by omega⟩ y1 y2

/-- The diagonals of every head. -/
theorem final_1 (R : Holds m c D) : (dats m 0 c).arrAt 1 (cfgs 0).N = fun i : S16x1x1024.Idx => diag (tile (D (i 0).val)) (i 2).val := by
  refine (dats m 0 c).arrAt_eq_of_covers 1 _ (by decide +kernel) fun t hf y => ?_
  have hN : t.val < 16 := N_0 ▸ t.isLt
  obtain ⟨a, b, l, rfl⟩ : ∃ (a : Fin 1) (b : Fin 1) (l : Fin 1024), y = ix3 a b l := ⟨y 0, y 1, y 2, eq_ix3 y⟩
  have ha : a.val < 1 := a.isLt
  blk_simp
  rw [after0_1, (idx_val t).2, out_val]
  obtain rfl : a = 0 := Subsingleton.elim _ _
  obtain rfl : b = 0 := Subsingleton.elim _ _
  show _ = diag (tile (D t.val)) (0 * 1024 + l.val)
  rw [Nat.zero_mul, Nat.zero_add, ← total_at (X := iblk m c 0 t) (blk_0 R t) l]
  pointwise []

section Tail

variable (W : Valuation τ sig (Elt Ideal)) {g : ℕ → ℕ → EReal}
  (hW : (W (Proc.devRef .tc main_v21) : FVec Ideal S16x1x1024 .f32) = fun i => g (i 0).val (i 2).val)

include hW in
/-- The sum of the diagonals from the clipped distance on. -/
theorem read_25 (h : Fin 16) :
    (StableHlo.upto hostOps1 W 9 (Proc.devRef .tc main_v25) : FVec Ideal S16x1 .f32) (ix2 h 0) = ∑ l ∈ range 640, g h.val l := by
  have key : ∀ A : FVec Ideal S16x1x1024 .f32, A = (fun i => g (i 0).val (i 2).val) →
      broadcastInDim S16x1 ![0] bcast_S16_S16x1_0 (Host.reduceAdd (extractStridedSlice S16x640 ![0, 0] (shapeCast S16x1024 A shapeCasts_S16x1x1024_S16x1024)
        slices_S16x1024_S16x640_0_0) (constant S_ .f32 0x00000000#32) reducesTo_S16x640_S16_d1 h_S_) (ix2 h 0) = ∑ l ∈ range 640, g h.val l := by
    rintro A rfl
    pointwise []
    exact (Finset.sum_range (fun l => g h.val l)).symm
  after_reads_simp
  exact key _ hW

include hW in
/-- The diagonals inside the clipped distances, the last first. -/
theorem read_27 (h : Fin 16) (k : Fin 255) :
    (StableHlo.upto hostOps1 W 9 (Proc.devRef .tc main_v27) : FVec Ideal S16x255 .f32) (ix2 h k) = g h.val (894 - k.val) := by
  have key : ∀ A : FVec Ideal S16x1x1024 .f32, A = (fun i => g (i 0).val (i 2).val) →
      Host.reverse [1] (extractStridedSlice S16x255 ![0, 640] (shapeCast S16x1024 A shapeCasts_S16x1x1024_S16x1024)
        slices_S16x1024_S16x255_0_640) (ix2 h k) = g h.val (894 - k.val) := by
    rintro A rfl
    pointwise []
    have hk : k.val < 255 := k.isLt
    show g h.val (640 + k.rev.val) = _
    rw [Fin.val_rev]
    congr 1
    omega
  after_reads_simp
  exact key _ hW

include hW in
theorem read_29 (h : Fin 16) (k : Fin 257) :
    (StableHlo.after hostOps1 W (Proc.devRef .tc main_v29) : FVec Ideal S16x257 .f32) (ix2 h k)
      = if k.val = 0 then 0 else if k.val < 256 then g h.val (895 - k.val) else ∑ l ∈ range 640, g h.val l := by
  have hk : k.val < 257 := k.isLt
  have key : ∀ (A C : FVec Ideal S16x1 .f32) (B : FVec Ideal S16x255 .f32), A = (fun _ => 0) → (∀ k, B (ix2 h k) = g h.val (894 - k.val)) →
      (C (ix2 h 0) = ∑ l ∈ range 640, g h.val l) →
      concatenate S16x257 1 [⟨S16x1, A⟩, ⟨S16x255, B⟩, ⟨S16x1, C⟩] concatenates_S16x1_S16x255_S16x1_S16x257_d1 (ix2 h k)
        = if k.val = 0 then 0 else if k.val < 256 then g h.val (895 - k.val) else ∑ l ∈ range 640, g h.val l := by
    rintro A C B rfl hB hC
    pointwise [hB]
    by_cases a : k.val = 0
    · rw [if_pos a, dif_pos (by omega)]
    rw [if_neg a, dif_neg (by omega)]
    by_cases b : k.val < 256
    · rw [if_pos b, dif_pos (by omega), show 894 - (k.val - 1) = 895 - k.val by omega]
    · rw [if_neg b, dif_neg (by omega), ← hC]
      congr 2
      exact Fin.ext (by show k.val - 1 - 255 = 0; omega)
  after_reads_simp
  refine key _ _ _ ?_ (read_27 W hW h) (read_25 W hW h)
  funext i
  show StableHlo.upto hostOps1 W 9 (Proc.devRef .tc main_v28) i = (0 : EReal)
  after_reads_simp
  pointwise []

end Tail

/-- The result: the gradient of the bias table. -/
theorem tail_29 (R : Holds m c D) : Pipeline.afterTail₀ cfgs (dats m) 0 (V0 m) [hostOps1] c main_v29
    = fun i : S16x257.Idx => grad (D (i 0).val) (i 1).val := by
  unfold Pipeline.afterTail₀
  simp only [List.flatten_cons, List.flatten_nil, List.append_nil]
  funext i
  obtain ⟨h, k, rfl⟩ : ∃ (h : Fin 16) (k : Fin 257), i = ix2 h k := ⟨i 0, i 1, eq_ix2 i⟩
  have hk : k.val < 257 := k.isLt
  refine (read_29 _ (g := fun h l => diag (tile (D h)) l) ((Pipeline.withArrays_arr _ winFacts0.arr_inj c _ _ 1).trans (final_1 R)) h k).trans ?_
  show _ = grad (D h.val) k.val
  by_cases a : k.val = 0
  · rw [if_pos a, a, grad_zero]
  by_cases b : k.val < 256
  · rw [if_neg a, if_pos b, grad_mid _ _ (by omega) b]
  · rw [if_neg a, if_neg b, grad_last, show k.val = 256 by omega]

set_option backward.isDefEq.respectTransparency.types false in
/-- What the kernel's run leaves in its result, on every device. -/
theorem kernel_run (m : (ℓ : Loc nD τ sig) → Buf (Elt Ideal) ℓ) (g : Dev nD → PrngReg) (D : Dev nD → ℕ → ℕ → ℕ → ℕ → EReal)
    (R : ∀ c, Holds m c (D c)) :
    θ_run (defs (F := Ideal)) (onTc (τ := τ) (main (F := Ideal))) ⟨m, fun _ => 0, g⟩ (fun r => ∀ c : Dev nD,
      r.2.mem ((c.tc : Thread nD τ).loc main_v29) = (fun i : S16x257.Idx => grad (D c (i 0).val) (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v29 (Pipeline.mem_restRefs_of main_v29 (by decide) (by decide))).trans (tail_29 (R c)), h.2 c⟩)
    (θ_run_and (run_main m g) (unchanged m g))

end Cert.BiasBwdIdeal.Hand
end
-- ==== Proof.BiasRef.lean ====
/- Hand-written, untrusted: what the derivative of the plain bias gather is, entry by entry. -/
module

public import proofs.«01_k».proof.Proof.BiasMath
public import proofs.«01_k».proof.Proof.Gen.BiasGradIdeal.Run
public import proofs.«01_k».proof.Proof.Gen.BiasGradIdeal.Read
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.BiasGradIdeal.Hand

open Cert.BiasGradIdeal Cert.BiasGradIdeal.Read Cert.Bias
open Finset (range)

variable (x0 : FVec Ideal S16x4x64x576 .f32) {D : ℕ → ℕ → ℕ → ℕ → EReal}
  (hD : x0 = fun y => D (y 0).val (y 1).val (y 2).val (y 3).val)

include hD in
/-- The derivative of the gathered biases: the four chunks added up. -/
theorem sum_at (h : Fin 16) (u : Fin 64) (j : Fin 576) : val_main_v35 (F := Ideal) x0 (ix3 h u j) = chunks (D h.val) u.val j.val := by
  subst hD
  pointwise [val_main_v35, val_main_v34, val_main_v33, val_main_v32, val_main_v31, val_main_v30, val_main_v29, val_main_v28, val_main_v27,
    val_main_v26, val_main_v25, chunks]

/-- The program's clip of a distance, from a number 576 above it. -/
theorem clipped : ∀ n : Fin 1152,
    Scalar.select
      (IntOp.cmpi .slt (IntOp.addi (IntOp.minsi 128#32 (IntOp.maxsi 4294967168#32 (BitVec.ofNat 32 n.val - 576#32))) 128#32) 0#32)
      (IntOp.addi (IntOp.addi (IntOp.minsi 128#32 (IntOp.maxsi 4294967168#32 (BitVec.ofNat 32 n.val - 576#32))) 128#32) 257#32)
      (IntOp.addi (IntOp.minsi 128#32 (IntOp.maxsi 4294967168#32 (BitVec.ofNat 32 n.val - 576#32))) 128#32)
      = BitVec.ofNat 32 (min (n.val - 448) 256) := by decide +kernel

/-- The row each query frame and key read, as the program's word. -/
theorem word_at (u : Fin 64) (j : Fin 576) : val_main_v18 (F := Ideal) (ix3 u j 0) = BitVec.ofNat 32 (entry u.val j.val) := by
  pointwise [val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_call0_v4, val_main_call0_v3, val_main_call0_v2, val_main_call0_v1, val_main_call0_v0, val_main_c, val_main_c_0, val_main_c_1, val_main_c_2,
    val_main_c_3, val_main_c_4]
  have hu : u.val < 64 := u.isLt
  have hj : j.val < 576 := j.isLt
  have e : IntOp.subi (IntOp.addi 512#32 (BitVec.ofNat 32 u.val)) (BitVec.ofNat 32 j.val) = BitVec.ofNat 32 (1088 + u.val - j.val) - 576#32 := by
    apply BitVec.eq_of_toNat_eq
    simp only [IntOp.subi, IntOp.addi, BitVec.toNat_sub, BitVec.toNat_add, BitVec.toNat_ofNat]
    omega
  rw [e]
  refine (clipped ⟨1088 + u.val - j.val, by omega⟩).trans (congrArg _ ?_)
  show min (1088 + u.val - j.val - 448) 256 = min (640 + u.val - j.val) 256
  omega

/-- An update lands at the index its start and window coordinates add up to. -/
theorem lands_of {s si u : Shape} (d : ScatterDims s si u) (j : u.Idx) (idx : IVec si 32) (r : s.Idx)
    (h : ∀ a, d.start j idx a + d.window j a = ((r a).val : ℤ)) : d.resultIdx? j idx = some r := by
  unfold ScatterDims.resultIdx?
  rw [dif_pos fun a => by rw [h a]; exact ⟨Int.natCast_nonneg _, Int.ofNat_lt.2 (r a).isLt⟩, Option.some.injEq]
  funext a
  exact Fin.ext ((congrArg Int.toNat (h a)).trans (Int.toNat_natCast _))

/-- Where the update of a head, a query frame and a key lands. -/
theorem lands (h' h : Fin 16) (u : Fin 64) (j : Fin 576) (k : Fin 257) :
    scatter_S16x257_S64x576x1_S16x64x576_0_1_1_2.resultIdx? (ix3 h' u j) (val_main_v18 (F := Ideal)) = some (ix2 h k)
      ↔ h' = h ∧ entry u.val j.val = k.val := by
  have e0 : scatter_S16x257_S64x576x1_S16x64x576_0_1_1_2.start (ix3 h' u j) (val_main_v18 (F := Ideal)) 0 = 0 := rfl
  have e1 : scatter_S16x257_S64x576x1_S16x64x576_0_1_1_2.start (ix3 h' u j) (val_main_v18 (F := Ideal)) 1 = entry u.val j.val := by
    have q : scatter_S16x257_S64x576x1_S16x64x576_0_1_1_2.siIdx (ix3 h' u j) ⟨0, by decide⟩ = ix3 u j 0 := by
      funext b
      match b with
      | 0 => rfl
      | 1 => rfl
      | 2 => rfl
    have he : entry u.val j.val ≤ 256 := Nat.min_le_right _ _
    have w : (BitVec.ofNat 32 (entry u.val j.val)).toInt = entry u.val j.val := by
      rw [BitVec.toInt_eq_toNat_of_lt (by rw [BitVec.toNat_ofNat]; omega), BitVec.toNat_ofNat, Nat.mod_eq_of_lt (by omega)]
    unfold ScatterDims.start
    rw [dif_pos (by decide)]
    exact (congrArg (fun i => (val_main_v18 (F := Ideal) i).toInt) q).trans ((congrArg BitVec.toInt (word_at u j)).trans w)
  have w0 : scatter_S16x257_S64x576x1_S16x64x576_0_1_1_2.window (ix3 h' u j) 0 = h'.val := rfl
  have w1 : scatter_S16x257_S64x576x1_S16x64x576_0_1_1_2.window (ix3 h' u j) 1 = 0 := rfl
  have he : entry u.val j.val ≤ 256 := Nat.min_le_right _ _
  rw [lands_of _ _ _ (ix2 h' ⟨entry u.val j.val, by omega⟩) (fun
    | 0 => by rw [e0, w0]; exact zero_add _
    | 1 => by rw [e1, w1]; exact add_zero _), Option.some.injEq, ix2_inj, Fin.ext_iff (a := (⟨entry u.val j.val, _⟩ : Fin 257))]

include hD in
theorem out_at (h : Fin 16) (k : Fin 257) : val_main_v37 (F := Ideal) x0 (ix2 h k) = grad (D h.val) k.val := by
  show val_main_v36 (F := Ideal) (ix2 h k) + ∑ i ∈ Finset.univ.filter (fun i =>
    scatter_S16x257_S64x576x1_S16x64x576_0_1_1_2.resultIdx? i (val_main_v18 (F := Ideal)) = some (ix2 h k)), val_main_v35 (F := Ideal) x0 i = _
  have z : val_main_v36 (F := Ideal) (ix2 h k) = 0 := by pointwise [val_main_v36, val_main_cst_5]
  rw [z, zero_add, Finset.sum_filter, Idealize.ShloMosaic.sum_idx3, Finset.sum_eq_single h ?_ (fun q => absurd (Finset.mem_univ h) q)]
  · simp only [lands, sum_at x0 hD, true_and]
    rw [grad, Finset.sum_range]
    exact Finset.sum_congr rfl fun u _ => (Finset.sum_range (fun j => if entry u.val j = k.val then chunks (D h.val) u.val j else 0)).symm
  · intro h' _ q
    refine Finset.sum_eq_zero fun u _ => Finset.sum_eq_zero fun j _ => if_neg fun r => q ((lands h' h u j k).1 r).1

end Cert.BiasGradIdeal.Hand
end
-- ==== Proof.BiasPair.lean ====
/- Hand-written, untrusted: the bias-table kernel and the derivative of the plain gather give the same array. -/
module

public import proofs.«01_k».proof.Defs
public import proofs.«01_k».proof.Proof.BiasFinal
public import proofs.«01_k».proof.Proof.BiasRef

@[expose] public section

set_option maxRecDepth 16384

noncomputable section

open Idealize.ShloMosaic Idealize.ShloMosaic.TcCoe Idealize.SL.Sem

namespace Cert.BiasGradIdeal.Hand

open Cert.BiasGradIdeal Cert.BiasGradIdeal.Read

/-- The derivative's run: its result is the last stage read at the arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37) = val_main_v37 (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v37_eq _), (h c).2⟩) (Cert.BiasGradIdeal.Value.run m ρ)

end Cert.BiasGradIdeal.Hand

namespace Cert.BiasBwdIdeal.Hand

open Cert.BiasBwdIdeal Cert.Bias

/-- An array of derivatives by its coordinates. -/
def ext4 (x : FVec Ideal S16x4x64x576 .f32) (a b u j : ℕ) : EReal := x (ix4 (Fin.ofNat 16 a) (Fin.ofNat 4 b) (Fin.ofNat 64 u) (Fin.ofNat 576 j))

theorem ext4_at (x : FVec Ideal S16x4x64x576 .f32) : x = fun y => ext4 x (y 0).val (y 1).val (y 2).val (y 3).val := by
  funext y
  refine congrArg x ((eq_ix4 y).trans ?_)
  congr 1 <;> exact Fin.ext (Nat.mod_eq_of_lt (Fin.isLt _)).symm

set_option backward.isDefEq.respectTransparency.types false in
/-- The two programs give the same result. -/
theorem algebraic : algebraic_BiasBwdIdeal_BiasGradIdeal := by
  intro m g m' g' hpre hargs
  refine ⟨fun c (i : S16x257.Idx) => grad (ext4 (m ((c.tc : Thread nD τ).loc main_arg0)) (i 0).val) (i 1).val,
    kernel_run m g (fun c => ext4 (m ((c.tc : Thread nD τ).loc main_arg0))) (fun c => ext4_at _), ?_⟩
  refine (θ_run Cert.BiasGradIdeal.defs _ _).mono (fun r h c => ?_) (Cert.BiasGradIdeal.Hand.reference_run m' g')
  obtain ⟨h0, hrest⟩ := h c
  obtain ⟨a0, a1⟩ := hargs c
  exact ⟨h0.trans (funext fun i => (congrArg _ (eq_ix2 i)).trans (Cert.BiasGradIdeal.Hand.out_at _ (a0.trans (ext4_at _)) (i 0) (i 1))), hrest⟩

end Cert.BiasBwdIdeal.Hand

end
-- ==== Proof.CrossFwdValue.lean ====
/- Hand-written, untrusted: what the cross-attention's forward kernel leaves in its result, as a formula of its arguments. -/
module

public import proofs.«01_k».proof.Proof.Gen.CrossFwdIdeal.Value
public import proofs.«01_k».proof.Proof.CrossMath
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.CrossFwdIdeal.Hand

open Cert.CrossFwdIdeal Cert.CrossFwdIdeal.Gen Cert.Cross Cert.Reals

/-- One query of one head: its probabilities' mean of the values' lane `l`. -/
def attended (q : Fin 128 → EReal) (k v : Fin 256 → Fin 128 → EReal) (l : Fin 128) : EReal := ∑ n, prob (score q k) n * v n l

/-- What the body stores, of its blocks. -/
theorem stored (q : Vec Ideal S1x1024x128 .bf16) (k v : Vec Ideal S1x256x128 .bf16) (r : Fin 1024) (l : Fin 128) :
    k0_pay1 q k v (ix3 0 r l)
      = attended (fun l => q (ix3 0 r l)) (fun n l => k (ix3 0 n l)) (fun n l => v (ix3 0 n l)) l := by
  pointwise [k0_pay1, attended, prob, powers, score, dot]
  rw [ofBits_neg_inf]

/-- Lane `l` of head `h`. -/
def lane (h : Fin 4) (l : Fin 128) : Fin 512 := ⟨h.val * 128 + l.val, by omega⟩

/-- One query's result at one lane of one head. -/
def result (x : FVec Ideal S2x2048x512 .bf16) (y : FVec Ideal S2x256x1024 .bf16) (b : Fin 2) (s : Fin 2048) (h : Fin 4) (l : Fin 128) :
    EReal :=
  attended (fun l => x (ix3 b s (lane h l))) (fun n l => y (ix3 b n ⟨h.val * 128 + l.val, by omega⟩))
    (fun n l => y (ix3 b n ⟨512 + (h.val * 128 + l.val), by omega⟩)) l

/-- The attention's result, lane by lane. -/
def mixed (x : FVec Ideal S2x2048x512 .bf16) (y : FVec Ideal S2x256x1024 .bf16) : FVec Ideal S2x2048x512 .bf16 := fun i =>
  result x y (i 0) (i 1) ⟨(i 2).val / 128, by have : (i 2).val < 512 := (i 2).isLt; omega⟩ ⟨(i 2).val % 128, by omega⟩

/-- Where each window stands at grid point `t`. -/
theorem idx_val : ∀ t : Fin cfg0.N, win0_0.index t = ![t.val / 8, t.val % 2, t.val / 2 % 4]
    ∧ win0_1.index t = ![t.val / 8, 0, t.val / 2 % 4]
    ∧ win0_2.index t = ![t.val / 8, 0, 4 + t.val / 2 % 4]
    ∧ win0_3.index t = ![t.val / 8, t.val % 2, t.val / 2 % 4] :=
  (by decide +kernel : ∀ t : Fin grid0.N, _)

variable (m : (ℓ : Loc nD τ sig) → Buf (Elt Ideal) ℓ)

/-- The batch, the head and the row a grid point stands at. -/
def batch (t : Fin cfg0.N) : Fin 2 := ⟨t.val / 8, by have : t.val < 16 := t.isLt; omega⟩
def head (t : Fin cfg0.N) : Fin 4 := ⟨t.val / 2 % 4, by omega⟩
def row (t : Fin cfg0.N) (r : Fin 1024) : Fin 2048 := ⟨t.val % 2 * 1024 + r.val, by omega⟩

/-- What a grid point leaves of the result. -/
theorem point_3 (c : Dev nD) (t : Fin cfg0.N) (r : Fin 1024) (l : Fin 128) :
    out0_3 (iblk m c 0 t) (iblk m c 1 t) (iblk m c 2 t) (ix3 0 r l)
      = result (m ((c : Thread nD τ).loc main_arg0)) (m ((c : Thread nD τ).loc main_arg1)) (batch t) (row t r) (head t) l := by
  have q : ∀ l, View.ld (iblk m c 0 t) r0_0 (ix3 0 r l)
      = m ((c : Thread nD τ).loc main_arg0) (ix3 (batch t) (row t r) (lane (head t) l)) := fun l => by
    blk_point [iblk, V, idx_val t, batch, head, row, lane]
  have k : ∀ n l, View.ld (iblk m c 1 t) r0_1 (ix3 0 n l)
      = m ((c : Thread nD τ).loc main_arg1) (ix3 (batch t) n ⟨(head t).val * 128 + l.val, by omega⟩) := fun n l => by
    blk_point [iblk, V, idx_val t, batch, head]
  have v : ∀ n l, View.ld (iblk m c 2 t) r0_1 (ix3 0 n l)
      = m ((c : Thread nD τ).loc main_arg1) (ix3 (batch t) n ⟨512 + ((head t).val * 128 + l.val), by omega⟩) := fun n l => by
    blk_point [iblk, V, idx_val t, batch, head]
  canon_tiles x h
  have e : x = ix3 0 r l := funext fun a => Fin.ext (by
    fin_cases a
    · exact h0.symm
    · exact h1.symm
    · exact h2.symm)
  rw [e]
  refine (stored _ _ _ r l).trans ?_
  simp only [q, k, v]
  rfl

/-- The result after the whole grid. -/
theorem final_3 (c : Dev nD) : (dats m 0 c).arrAt 3 (cfgs 0).N
    = mixed (m ((c : Thread nD τ).loc main_arg0)) (m ((c : Thread nD τ).loc main_arg1)) := by
  refine (dats m 0 c).arrAt_eq_of_covers 3 _ (by decide +kernel) fun t hf y => ?_
  blk_simp; rw [after0_3]
  obtain ⟨z, r, l, rfl⟩ : ∃ (z : Fin 1) (r : Fin 1024) (l : Fin 128), y = ix3 z r l := ⟨y 0, y 1, y 2, eq_ix3 y⟩
  obtain rfl : z = 0 := Subsingleton.elim _ _
  rw [point_3]
  have e : ((cfg0.win 3).blk t).view.emb (ix3 0 r l) = ix3 (batch t) (row t r) (lane (head t) l) := by
    blk_ext [idx_val t, batch, head, row, lane]
  rw [e]
  have h1 : (lane (head t) l).val / 128 = (head t).val := by simp only [lane]; omega
  have h2 : (lane (head t) l).val % 128 = l.val := by simp only [lane]; omega
  show _ = result _ _ (batch t) (row t r) ⟨(lane (head t) l).val / 128, _⟩ ⟨(lane (head t) l).val % 128, _⟩
  congr 1
  · exact Fin.ext h1.symm
  · exact Fin.ext h2.symm

end Cert.CrossFwdIdeal.Hand

end
-- ==== Proof.CrossFwdPair.lean ====
/- Hand-written, untrusted: the cross-attention's forward kernel and the plain cross-attention give the same array, where the
   queries and the keys and values are finite. -/
module

public import proofs.«01_k».proof.Defs
public import proofs.«01_k».proof.Proof.CrossFwdValue
public import proofs.«01_k».proof.Proof.Gen.CrossPlainIdeal.Run
public import proofs.«01_k».proof.Proof.Gen.CrossPlainIdeal.Read
public import proofs.«01_k».proof.Proof.Gen.Pre_cross_forward_finite

@[expose] public section

set_option maxRecDepth 16384

noncomputable section

open Idealize.ShloMosaic Idealize.ShloMosaic.TcCoe Idealize.SL.Sem
open scoped BigOperators

namespace Cert.CrossPlainIdeal.Hand

open Cert.CrossPlainIdeal Cert.CrossPlainIdeal.Read

/-- The plain cross-attention's result, as its named value of the arguments; the arguments stay. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = val_main_v25 (F := Ideal)
          (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v25_eq _ _), (h c).2⟩) (Cert.CrossPlainIdeal.Value.run m ρ)

end Cert.CrossPlainIdeal.Hand

namespace Cert.CrossFwdIdeal.Hand

open Cert.CrossPlainIdeal.Read Cert.Reals Cert.Cross

variable (x : FVec Ideal S2x2048x512 .bf16) (y : FVec Ideal S2x256x1024 .bf16)

/-- One query's scores. -/
def row_scores (b : Fin 2) (h : Fin 4) (s : Fin 2048) : Fin 256 → EReal :=
  score (fun l => x (ix3 b s (lane h l))) (fun n l => y (ix3 b n ⟨h.val * 128 + l.val, by omega⟩))

/-- The plain queries, head by head. -/
theorem ref_q (b : Fin 2) (s : Fin 2048) (h : Fin 4) (l : Fin 128) :
    val_main_v5 (F := Ideal) x (ix4 b s h l) = x (ix3 b s (lane h l)) := by
  pointwise [val_main_v5, val_main_v0, lane]

/-- The plain keys. -/
theorem ref_k (b : Fin 2) (n : Fin 256) (h : Fin 4) (l : Fin 128) :
    val_main_v6 (F := Ideal) y (ix4 b n h l) = y (ix3 b n ⟨h.val * 128 + l.val, by omega⟩) := by
  pointwise [val_main_v6, val_main_v2, val_main_v1]

/-- The plain values. -/
theorem ref_v (b : Fin 2) (n : Fin 256) (h : Fin 4) (l : Fin 128) :
    val_main_v21 (F := Ideal) y (ix4 b n h l) = y (ix3 b n ⟨512 + (h.val * 128 + l.val), by omega⟩) := by
  pointwise [val_main_v21, val_main_v4, val_main_v3]

/-- The plain scores. -/
theorem ref_score (b : Fin 2) (h : Fin 4) (s : Fin 2048) (n : Fin 256) :
    val_main_v9 (F := Ideal) x y (ix4 b h s n) = row_scores x y b h s n := by
  pointwise [val_main_v9, val_main_v8, val_main_v7, val_main_cst, row_scores, score, dot]
  simp only [ref_q, ref_k]

theorem ref_top (b : Fin 2) (h : Fin 4) (s : Fin 2048) (n : Fin 256) :
    val_main_v14 (F := Ideal) x y (ix4 b h s n) = Finset.univ.fold max ⊥ (row_scores x y b h s) := by
  have e : val_main_v10 (F := Ideal) x y (ix3 b h s) = Finset.univ.fold max ⊥ (row_scores x y b h s) := by
    pointwise [val_main_v10, val_main_cst_0]
    simp only [ref_score, ofBits_neg_inf]
  pointwise [val_main_v14, val_main_v13]
  rw [val_main_v12_apply, e]
  generalize Finset.univ.fold max ⊥ (row_scores x y b h s) = t
  pointwise [val_main_v11, val_main_cst_1]
  rw [ofBits_neg_inf]
  exact max_eq_right bot_le

theorem ref_powers (b : Fin 2) (h : Fin 4) (s : Fin 2048) (n : Fin 256) :
    val_main_v16 (F := Ideal) x y (ix4 b h s n) = powers (row_scores x y b h s) n := by
  rw [val_main_v16_apply, val_main_v15_apply, ref_top, ref_score]
  rfl

/-- The plain probabilities, for a row of reals. -/
theorem ref_prob (b : Fin 2) (h : Fin 4) (s : Fin 2048) {e : Fin 256 → ℝ} (he : row_scores x y b h s = fun n => (e n : EReal))
    (n : Fin 256) : val_main_v20 (F := Ideal) x y (ix4 b h s n) = prob (row_scores x y b h s) n := by
  pointwise [val_main_v20, val_main_v19, val_main_v18, val_main_v17, val_main_cst_2]
  simp only [ref_powers, he]
  exact prob_plain e n

/-- A lane of all heads is a lane of one. -/
theorem lane_of (l : Fin 512) : ∃ h k, l = lane h k :=
  ⟨⟨l.val / 128, by omega⟩, ⟨l.val % 128, by omega⟩, Fin.ext (by simp only [lane]; omega)⟩

theorem mixed_at (b : Fin 2) (s : Fin 2048) (h : Fin 4) (l : Fin 128) : mixed x y (ix3 b s (lane h l)) = result x y b s h l := by
  have h1 : (lane h l).val / 128 = h.val := by simp only [lane]; omega
  have h2 : (lane h l).val % 128 = l.val := by simp only [lane]; omega
  show result _ _ b s ⟨(lane h l).val / 128, _⟩ ⟨(lane h l).val % 128, _⟩ = _
  congr 1
  · exact Fin.ext h1
  · exact Fin.ext h2

theorem row_real (x : S2x2048x512.Idx → ℝ) (y : S2x256x1024.Idx → ℝ) (b : Fin 2) (h : Fin 4) (s : Fin 2048) : ∃ e : Fin 256 → ℝ,
    row_scores (fun i => (x i : EReal)) (fun i => (y i : EReal)) b h s = fun n => (e n : EReal) :=
  score_real (fun l => x (ix3 b s (lane h l))) (fun n l => y (ix3 b n ⟨h.val * 128 + l.val, by omega⟩))

/-- The plain cross-attention of reals. -/
theorem ref_mixed (x : S2x2048x512.Idx → ℝ) (y : S2x256x1024.Idx → ℝ) :
    val_main_v25 (F := Ideal) (fun i => (x i : EReal)) (fun i => (y i : EReal)) = mixed (fun i => (x i : EReal)) (fun i => (y i : EReal)) := by
  funext i
  obtain ⟨b, s, j, rfl⟩ : ∃ b s j, i = ix3 b s j := ⟨i 0, i 1, i 2, eq_ix3 i⟩
  obtain ⟨h, l, rfl⟩ := lane_of j
  obtain ⟨e, he⟩ := row_real x y b h s
  rw [mixed_at]
  have r : val_main_v25 (F := Ideal) (fun i => (x i : EReal)) (fun i => (y i : EReal)) (ix3 b s (lane h l))
      = val_main_v22 (F := Ideal) (fun i => (x i : EReal)) (fun i => (y i : EReal)) (ix4 b h l s) := by
    pointwise [val_main_v25, val_main_v24, val_main_v23, lane]
  rw [r]
  pointwise [val_main_v22]
  simp only [ref_prob _ _ b h s he, ref_v]
  rw [result, attended]
  exact Finset.sum_congr rfl fun n _ => mul_comm _ _

/-- What the precondition says: the queries and the keys and values are arrays of reals. -/
theorem reals (m : (ℓ : Loc nD τ sig) → Buf (Elt Ideal) ℓ) (h : Pre_CrossFwdIdeal_cross_forward_finite m) (c : Dev nD) :
    (∃ x : S2x2048x512.Idx → ℝ, m ((c.tc : Thread nD τ).loc main_arg0) = fun i => (x i : EReal))
    ∧ (∃ y : S2x256x1024.Idx → ℝ, m ((c.tc : Thread nD τ).loc main_arg1) = fun i => (y i : EReal)) :=
  ⟨reals_of_mask _ fun i => congrFun (h c).1 i, reals_of_mask _ fun i => congrFun (h c).2 i⟩

set_option backward.isDefEq.respectTransparency.types false in
/-- The two programs give the same result. -/
theorem algebraic : algebraic_CrossFwdIdeal_CrossPlainIdeal_pre_cross_forward_finite := by
  pair_intro
  · run_from Cert.CrossFwdIdeal.Gen.run_main m g
  · run_from Cert.CrossPlainIdeal.Hand.reference_run m' g'
    · obtain ⟨⟨x, hx⟩, ⟨y, hy⟩⟩ := reals m hpre c
      rw [final_3 m c, hx, hy]
      exact ref_mixed x y

end Cert.CrossFwdIdeal.Hand

end
-- ==== Proof.AttnFwdPoint.lean ====
/- Hand-written, untrusted: one grid point of the attention's forward kernel over the reals. The point takes 256 queries of the
   two heads `2 * g` and `2 * g + 1` against the window of 768 padded key positions that the backward kernel reads too. -/
module

public import proofs.«01_k».proof.Proof.Gen.AttnFwdIdeal.Frame
public import proofs.«01_k».proof.Proof.AttnPoint
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open scoped BigOperators
open Finset (range)

/-- A query's attention: the values weighted by the probabilities. -/
def Cert.Attn.mix (X : Cert.Attn.Arrays) (b h n l : ℕ) : ℝ := ∑ p ∈ range 2560, Cert.Attn.prob X b h n p * Cert.Attn.val X b h p l

namespace Cert.AttnFwdIdeal.Hand

open Cert.AttnFwdIdeal Cert.AttnFwdIdeal.Gen Cert.Attn Cert.Reals
open Cert.AttnBwdIdeal.Hand (qBlk keys vals tile window stackQ row_score row_seen sum_row)

variable (X : Arrays) {b g qb : ℕ} (hqb : qb < 8)

/-- The first head's scores are the first half of the stacked rows'. -/
theorem first_row (u : Vec Ideal S1x256x768 .f32) (r : Fin 256) (x : Fin 768) :
    k0_pay11 (window qb (keys X b g) hqb) (qBlk X b g qb) u (ix2 r x)
      = ∑ l : Fin 128, Cert.AttnBwdIdeal.Gen.k0_pay17 (Cert.AttnBwdIdeal.Gen.k0_pay13 (qBlk X b g qb)) Cert.AttnBwdIdeal.Gen.k0_pay15
          (ix2 ⟨r.val, by omega⟩ l) * window qb (keys X b g) hqb (ix2 x l) + u (ix3 0 r x) := by
  have hr : r.val < 256 := r.isLt
  pointwise [k0_pay11]
  refine congrArg (· + _) (Finset.sum_congr rfl fun l _ => congrArg (· * _) ?_)
  have hl : l.val < 128 := l.isLt
  rw [stackQ]
  pointwise [k0_pay6, k0_pay7, k0_pay9, qBlk]
  simp (disch := omega) only [hlo_ix]
  rw [ofBits_eighth]
  by_cases h : l.val < 64
  · rw [if_pos h, if_pos (by omega), ← EReal.coe_mul]
    rw [Nat.mod_eq_of_lt hr]
  · rw [if_neg h, if_neg (by omega), EReal.coe_zero]

/-- The second head's are the second half's. -/
theorem second_row (r : Fin 256) (x : Fin 768) :
    k0_pay10 (window qb (keys X b g) hqb) (qBlk X b g qb) (ix2 r x)
      = ∑ l : Fin 128, Cert.AttnBwdIdeal.Gen.k0_pay17 (Cert.AttnBwdIdeal.Gen.k0_pay13 (qBlk X b g qb)) Cert.AttnBwdIdeal.Gen.k0_pay15
          (ix2 ⟨256 + r.val, by omega⟩ l) * window qb (keys X b g) hqb (ix2 x l) := by
  have hr : r.val < 256 := r.isLt
  pointwise [k0_pay10]
  refine Finset.sum_congr rfl fun l _ => congrArg (· * _) ?_
  have hl : l.val < 128 := l.isLt
  rw [stackQ]
  pointwise [k0_pay6, k0_pay7, k0_pay9, qBlk]
  simp (disch := omega) only [hlo_ix]
  rw [ofBits_eighth]
  by_cases h : l.val < 64
  · rw [if_pos h, if_neg (by omega), EReal.coe_zero]
  · rw [if_neg h, if_pos (by omega), ← EReal.coe_mul]
    rw [show (256 + r.val) % 256 = r.val by omega]

/-- A row of masked scores, its exponentials over their sum against a lane of the values. -/
theorem row_mix (s : Fin 512) (S : Fin 768 → EReal) (hS : ∀ x, S x = if Sees (256 * qb + s.val % 256) (256 * qb + x.val) then
      ((score X b (2 * g + s.val / 256) (256 * qb + s.val % 256) (256 * qb + x.val) : ℝ) : EReal) else ⊥)
    (l : Fin 128) (hl : l.val / 64 = s.val / 256) :
    ∑ x : Fin 768, Ideal.exp (S x - Finset.univ.fold max ⊥ S) * Ideal.div 1 (∑ y : Fin 768, Ideal.exp (S y - Finset.univ.fold max ⊥ S))
        * window qb (vals X b g) hqb (ix2 x l)
      = ((mix X b (2 * g + l.val / 64) (256 * qb + s.val % 256) (l.val % 64) : ℝ) : EReal) := by
  obtain ⟨μ, hμ, he⟩ := row_exp S (fun x => Sees (256 * qb + s.val % 256) (256 * qb + x.val))
    (fun x => score X b (2 * g + s.val / 256) (256 * qb + s.val % 256) (256 * qb + x.val)) hS (row_seen s)
  have hm : ∑ x : Fin 768, weight X b (2 * g + s.val / 256) (256 * qb + s.val % 256) (256 * qb + x.val)
      = mass X b (2 * g + s.val / 256) (256 * qb + s.val % 256) :=
    sum_row hqb s _ fun p hp => weight_unseen X hp
  have r := row_mul_inv hμ he (by
    show 0 < ∑ x : Fin 768, weight X b (2 * g + s.val / 256) (256 * qb + s.val % 256) (256 * qb + x.val)
    rw [hm]; exact mass_pos X (by omega))
  have e : ∀ x : Fin 768, window qb (vals X b g) hqb (ix2 x l)
      = ((val X b (2 * g + l.val / 64) (256 * qb + x.val) (l.val % 64) : ℝ) : EReal) := by
    intro x
    rw [val, show 64 * (2 * g + l.val / 64) + l.val % 64 = 128 * g + l.val by omega]; rfl
  have p : ∀ x : Fin 768, Ideal.exp (S x - Finset.univ.fold max ⊥ S) * Ideal.div 1 (∑ y : Fin 768, Ideal.exp (S y - Finset.univ.fold max ⊥ S))
      = ((prob X b (2 * g + s.val / 256) (256 * qb + s.val % 256) (256 * qb + x.val) : ℝ) : EReal) := fun x => by
    refine (r x).trans ?_
    show ((weight X b (2 * g + s.val / 256) (256 * qb + s.val % 256) (256 * qb + x.val) /
      ∑ x : Fin 768, weight X b (2 * g + s.val / 256) (256 * qb + s.val % 256) (256 * qb + x.val) : ℝ) : EReal) = _
    rw [hm, prob]
  simp only [p, e, ← EReal.coe_mul, coe_sum]
  rw [sum_row hqb s (fun p => prob X b (2 * g + s.val / 256) (256 * qb + s.val % 256) p
    * val X b (2 * g + l.val / 64) p (l.val % 64)) fun p hp => by rw [prob_unseen X hp, zero_mul], hl]
  rfl

variable {msk : FVec Ideal S1x768 .f32} (hmsk : ∀ x : Fin 768, msk (ix2 0 x) = if 512 ≤ 256 * qb + x.val then 0 else ⊥)

include hmsk in
/-- What a point writes: the attention of its queries, head by head. -/
theorem out_eq {u0 u1 : Vec Ideal S1x256x768 .f32} (h0 : ∀ r x, u0 (ix3 0 r x) = tile X g (ix3 0 r x))
    (h1 : ∀ r x, u1 (ix3 0 r x) = tile X g (ix3 1 r x)) (y : S1x256x128.Idx) :
    k0_pay1 (window qb (vals X b g) hqb) k0_pay7 msk (k0_pay10 (window qb (keys X b g) hqb) (qBlk X b g qb))
        (k0_pay11 (window qb (keys X b g) hqb) (qBlk X b g qb) u0) u1 y
      = ((mix X b (2 * g + (y 2).val / 64) (256 * qb + (y 1).val) ((y 2).val % 64) : ℝ) : EReal) := by
  obtain ⟨z, r, l, rfl⟩ : ∃ (z : Fin 1) (r : Fin 256) (l : Fin 128), y = ix3 z r l := ⟨y 0, y 1, y 2, eq_ix3 y⟩
  show _ = ((mix X b (2 * g + l.val / 64) (256 * qb + r.val) (l.val % 64) : ℝ) : EReal)
  have hr : r.val < 256 := r.isLt
  have hl : l.val < 128 := l.isLt
  have S0 := fun x : Fin 768 => row_score X hqb hmsk (b := b) (g := g) ⟨r.val, by omega⟩ x
  have S1 := fun x : Fin 768 => row_score X hqb hmsk (b := b) (g := g) ⟨256 + r.val, by omega⟩ x
  have e0 : ∀ x : Fin 768, k0_pay11 (window qb (keys X b g) hqb) (qBlk X b g qb) u0 (ix2 r x) + msk (ix2 0 x)
      = if Sees (256 * qb + r.val % 256) (256 * qb + x.val) then
        ((score X b (2 * g + r.val / 256) (256 * qb + r.val % 256) (256 * qb + x.val) : ℝ) : EReal) else ⊥ := fun x => by
    rw [first_row, h0, ← S0 x]
    refine congrArg (fun w => _ + w + _) (congrArg (tile X g) ?_)
    exact funext fun a => Fin.ext (by
      fin_cases a
      · show 0 = r.val / 256; omega
      · show r.val = r.val % 256; omega
      · rfl)
  have e1 : ∀ x : Fin 768, k0_pay10 (window qb (keys X b g) hqb) (qBlk X b g qb) (ix2 r x) + u1 (ix3 0 r x) + msk (ix2 0 x)
      = if Sees (256 * qb + (256 + r.val) % 256) (256 * qb + x.val) then
        ((score X b (2 * g + (256 + r.val) / 256) (256 * qb + (256 + r.val) % 256) (256 * qb + x.val) : ℝ) : EReal) else ⊥ := fun x => by
    rw [second_row, h1, ← S1 x]
    refine congrArg (fun w => _ + w + _) (congrArg (tile X g) ?_)
    exact funext fun a => Fin.ext (by
      fin_cases a
      · show 1 = (256 + r.val) / 256; omega
      · show r.val = (256 + r.val) % 256; omega
      · rfl)
  pointwise [k0_pay1, k0_pay7]
  simp (disch := omega) only [hlo_ix]
  rw [ofBits_neg_inf]
  by_cases h : l.val < 64
  · rw [if_pos h]
    refine (row_mix X hqb ⟨r.val, by omega⟩ (fun x => _) e0 l (by dsimp only; omega)).trans ?_
    dsimp only
    rw [Nat.mod_eq_of_lt hr]
  · rw [if_neg h]
    refine (row_mix X hqb ⟨256 + r.val, by omega⟩ (fun x => _) e1 l (by dsimp only; omega)).trans ?_
    dsimp only
    rw [show (256 + r.val) % 256 = r.val by omega]

end Cert.AttnFwdIdeal.Hand
end
-- ==== Proof.AttnFwdState.lean ====
/- Hand-written, untrusted: what the attention's forward kernel holds, and writes, at each grid point. -/
module

public import proofs.«01_k».proof.Proof.Gen.AttnFwdIdeal.Frame
public import proofs.«01_k».proof.Proof.AttnFwdPoint
public import proofs.«01_k».proof.Proof.AttnFwdTile
public import proofs.«01_k».proof.Proof.AttnState
public import Idealize.ShloMosaic.Lib.Pipeline.ReadBack
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators
open Finset (range)

namespace Cert.AttnFwdIdeal.Hand

open Cert.AttnFwdIdeal Cert.AttnFwdIdeal.Gen Cert.Attn Cert.Reals
open Cert.AttnBwdIdeal.Hand (qBlk keys vals tile window chunk canon_mem canon_out)

/-- Where each window stands at grid point `t`: samples outermost, then head pairs, then blocks of queries. -/
theorem idx_val : ∀ t : Fin cfg0.N, win0_0.index t = ![t.val / 64, t.val % 8, t.val / 8 % 8]
    ∧ win0_1.index t = ![t.val / 64, 0, 8 + t.val / 8 % 8]
    ∧ win0_2.index t = ![t.val / 64, 0, 16 + t.val / 8 % 8]
    ∧ win0_3.index t = ![t.val / 8 % 8, 0, 0]
    ∧ win0_4.index t = ![t.val / 64, t.val % 8, t.val / 8 % 8] :=
  (by decide +kernel : ∀ t : Fin grid0.N, _)

/-- The third grid coordinate: the block of queries. -/
theorem coord_val : ∀ t : Fin cfg0.N, (grid0.coords t 2).val = t.val % 8 :=
  (by decide +kernel : ∀ t : Fin grid0.N, _)

/-- The rows the point reads of the padded keys and values. -/
theorem off_val : ∀ t : Fin cfg0.N, k0_off1 (grid0.coords t) = ![256 * (t.val % 8), 0] :=
  (by decide +kernel : ∀ t : Fin grid0.N, _)

variable {m : (ℓ : Loc nD τ sig) → Buf (Elt Ideal) ℓ} {c : Dev nD} {X : Arrays}

/-- The launch contents are the reals of `X`. -/
structure Real (m : (ℓ : Loc nD τ sig) → Buf (Elt Ideal) ℓ) (c : Dev nD) (X : Arrays) : Prop where
  z : m ((c : Thread nD τ).loc main_arg0) = fun i : S2x2048x4096.Idx => ((X.z (i 0).val (i 1).val (i 2).val : ℝ) : EReal)
  bias : chunk (m ((c : Thread nD τ).loc main_arg1)) = fun y => ((X.bias (y 0).val (y 1).val (y 2).val : ℝ) : EReal)

theorem blk_0 (R : Real m c X) (t : Fin cfg0.N) : iblk m c 0 t = qBlk X (t.val / 64) (t.val / 8 % 8) (t.val % 8) := by
  have hN : t.val < 128 := N_0 ▸ t.isLt
  funext y
  obtain ⟨y0, y1, y2, rfl⟩ : ∃ y0 y1 y2, y = ix3 y0 y1 y2 := ⟨y 0, y 1, y 2, eq_ix3 y⟩
  have h1 : y1.val < 256 := y1.isLt
  have h2 : y2.val < 128 := y2.isLt
  have e : iblk m c 0 t (ix3 y0 y1 y2) = V m c main_arg0 (ix3 ⟨t.val / 64, by omega⟩ ⟨256 * (t.val % 8) + y1.val, by omega⟩ ⟨128 * (t.val / 8 % 8) + y2.val, by omega⟩) := by
    blk_ext [iblk, idx_val t]
  rw [e, V_main_arg0, R.z]
  rfl

theorem blk_1 (R : Real m c X) (t : Fin cfg0.N) (y0 : Fin 1) (y1 : Fin 2048) (y2 : Fin 128) :
    iblk m c 1 t (ix3 y0 y1 y2) = ((X.z (t.val / 64) y1.val (1024 + (128 * (t.val / 8 % 8) + y2.val)) : ℝ) : EReal) := by
  have hN : t.val < 128 := N_0 ▸ t.isLt
  have h2 : y2.val < 128 := y2.isLt
  have e : iblk m c 1 t (ix3 y0 y1 y2) = V m c main_arg0 (ix3 ⟨t.val / 64, by omega⟩ y1 ⟨1024 + (128 * (t.val / 8 % 8) + y2.val), by omega⟩) := by
    blk_ext [iblk, idx_val t]
  rw [e, V_main_arg0, R.z]
  rfl

theorem blk_2 (R : Real m c X) (t : Fin cfg0.N) (y0 : Fin 1) (y1 : Fin 2048) (y2 : Fin 128) :
    iblk m c 2 t (ix3 y0 y1 y2) = ((X.z (t.val / 64) y1.val (2048 + (128 * (t.val / 8 % 8) + y2.val)) : ℝ) : EReal) := by
  have hN : t.val < 128 := N_0 ▸ t.isLt
  have h2 : y2.val < 128 := y2.isLt
  have e : iblk m c 2 t (ix3 y0 y1 y2) = V m c main_arg0 (ix3 ⟨t.val / 64, by omega⟩ y1 ⟨2048 + (128 * (t.val / 8 % 8) + y2.val), by omega⟩) := by
    blk_ext [iblk, idx_val t]
  rw [e, V_main_arg0, R.z]
  rfl

theorem blk_3 (R : Real m c X) (t : Fin cfg0.N) : iblk m c 3 t = tile X (t.val / 8 % 8) := by
  have hN : t.val < 128 := N_0 ▸ t.isLt
  funext y
  obtain ⟨y0, y1, y2, rfl⟩ : ∃ y0 y1 y2, y = ix3 y0 y1 y2 := ⟨y 0, y 1, y 2, eq_ix3 y⟩
  have h0 : y0.val < 2 := y0.isLt
  have e : iblk m c 3 t (ix3 y0 y1 y2) = V m c main_v31 (ix3 ⟨2 * (t.val / 8 % 8) + y0.val, by omega⟩ y1 y2) := by
    blk_ext [iblk, idx_val t]
  rw [e]
  exact tile_read (fun b => m (c, b)) X.bias R.bias _ _ _

/-- The padded keys as stored: zeros over the first 512 rows, the head pair's keys below. -/
theorem keys_canon (R : Real m c X) (t : Fin cfg0.N) (h1 h2) :
    View.canon [(⟨Rect.unit (s := S2560x128) ![512, 0] ![2048, 128] h1, k0_pay3 (iblk m c 1 t)⟩ : View.Piece (Elt Ideal) S2560x128 .bf16),
      ⟨Rect.unit (s := S2560x128) ![0, 0] ![512, 128] h2, k0_pay2 (F := Ideal)⟩] = keys X (t.val / 64) (t.val / 8 % 8) := by
  funext y
  obtain ⟨p, l, rfl⟩ : ∃ p l, y = ix2 p l := ⟨y 0, y 1, eq_ix2 y⟩
  have hp : p.val < 2560 := p.isLt
  by_cases h : 512 ≤ p.val
  · rw [canon_mem _ _ _ _ (ix2 ⟨p.val - 512, by omega⟩ l) rfl (fun a => by
      fin_cases a
      · show p.val = 512 + (p.val - 512); omega
      · show l.val = 0 + l.val; omega)]
    refine Eq.trans (b := iblk m c 1 t (ix3 0 ⟨p.val - 512, by omega⟩ l)) ?_ ?_
    · pointwise [k0_pay3]
    · rw [blk_1 R]
      exact congrArg _ (if_pos h).symm
  · rw [canon_out _ _ _ _ rfl 0 (Or.inl (by show p.val < 512; omega)),
      canon_mem _ _ _ _ (ix2 ⟨p.val, by omega⟩ l) rfl (fun a => by
      fin_cases a
      · show p.val = 0 + p.val; omega
      · show l.val = 0 + l.val; omega)]
    refine Eq.trans (b := (((0 : ℝ) : ℝ) : EReal)) ?_ (congrArg _ (if_neg h).symm)
    pointwise [k0_pay2]
    exact EReal.coe_zero.symm

/-- The rows a point reads. -/
theorem ld_window (K : Vec Ideal S2560x128 .bf16) (t : Fin cfg0.N) (h) :
    View.ld K (Rect.unit (s := S2560x128) (k0_off1 (grid0.coords t)) ![768, 128] h) = window (t.val % 8) K (Nat.mod_lt _ (by decide)) := by
  funext y
  refine congrArg K (funext fun a => Fin.ext ?_)
  have e : k0_off1 (grid0.coords t) a + 1 * (y a).val = ![256 * (t.val % 8), 0] a + 1 * (y a).val :=
    congrArg (· + 1 * (y a).val) (congrFun (off_val t) a)
  refine Eq.trans e ?_
  fin_cases a
  · exact congrArg (256 * (t.val % 8) + ·) (Nat.one_mul _)
  · exact (Nat.zero_add _).trans (Nat.one_mul _)

/-- The values, stored likewise. -/
theorem vals_canon (R : Real m c X) (t : Fin cfg0.N) (h1 h2) :
    View.canon [(⟨Rect.unit (s := S2560x128) ![512, 0] ![2048, 128] h1, k0_pay5 (iblk m c 2 t)⟩ : View.Piece (Elt Ideal) S2560x128 .bf16),
      ⟨Rect.unit (s := S2560x128) ![0, 0] ![512, 128] h2, k0_pay4 (F := Ideal)⟩] = vals X (t.val / 64) (t.val / 8 % 8) := by
  funext y
  obtain ⟨p, l, rfl⟩ : ∃ p l, y = ix2 p l := ⟨y 0, y 1, eq_ix2 y⟩
  have hp : p.val < 2560 := p.isLt
  by_cases h : 512 ≤ p.val
  · rw [canon_mem _ _ _ _ (ix2 ⟨p.val - 512, by omega⟩ l) rfl (fun a => by
      fin_cases a
      · show p.val = 512 + (p.val - 512); omega
      · show l.val = 0 + l.val; omega)]
    refine Eq.trans (b := iblk m c 2 t (ix3 0 ⟨p.val - 512, by omega⟩ l)) ?_ ?_
    · pointwise [k0_pay5]
    · rw [blk_2 R]
      exact congrArg _ (if_pos h).symm
  · rw [canon_out _ _ _ _ rfl 0 (Or.inl (by show p.val < 512; omega)),
      canon_mem _ _ _ _ (ix2 ⟨p.val, by omega⟩ l) rfl (fun a => by
      fin_cases a
      · show p.val = 0 + p.val; omega
      · show l.val = 0 + l.val; omega)]
    refine Eq.trans (b := (((0 : ℝ) : ℝ) : EReal)) ?_ (congrArg _ (if_neg h).symm)
    pointwise [k0_pay4]
    exact EReal.coe_zero.symm

/-- The padded keys and values a point holds are those of its sample and head pair. -/
theorem stored (R : Real m c X) (t : Fin cfg0.N) :
    (outsAt0 m c t.val t.isLt).2.1 = keys X (t.val / 64) (t.val / 8 % 8) ∧ (outsAt0 m c t.val t.isLt).2.2 = vals X (t.val / 64) (t.val / 8 % 8) := by
  obtain ⟨n, hn⟩ := t
  induction n using Nat.strong_induction_on with
  | _ n ih =>
    by_cases h0 : n % 8 = 0
    · rw [outsAt0_A m c ⟨n, hn⟩ h0]
      refine ⟨?_, ?_⟩
      · frame_out
        exact keys_canon R ⟨n, hn⟩ _ _
      · frame_out
        exact vals_canon R ⟨n, hn⟩ _ _
    · have hp := ih (n - 1) (by omega) (Nat.lt_of_le_of_lt (Nat.sub_le _ _) hn)
      have e1 : (n - 1) / 64 = n / 64 := by omega
      have e2 : (n - 1) / 8 % 8 = n / 8 % 8 := by omega
      dsimp only at hp
      rw [e1, e2] at hp
      rw [outsAt0_B m c ⟨n, hn⟩ h0]
      exact hp

/-- The mask is the backward kernel's. -/
theorem msk_val (t : Fin cfg0.N) (x : Fin 768) :
    k0_pay8 (F := Ideal) (grid0.coords t) (ix2 0 x) = if 512 ≤ 256 * (t.val % 8) + x.val then 0 else ⊥ := by
  have h8 : t.val % 8 < Cert.AttnBwdIdeal.cfg0.N := Nat.lt_of_lt_of_eq (by omega : t.val % 8 < 128) Cert.AttnBwdIdeal.Gen.N_0.symm
  have e := Cert.AttnBwdIdeal.Hand.mask_eq (qb := t.val % 8) (Cert.AttnBwdIdeal.grid0.coords ⟨t.val % 8, h8⟩)
    ((Cert.AttnBwdIdeal.Hand.coord_val ⟨t.val % 8, h8⟩).trans (Nat.mod_mod _ _)) (Nat.mod_lt _ (by decide)) x
  rw [← e]
  have h : (grid0.coords t 2).val = (Cert.AttnBwdIdeal.grid0.coords ⟨t.val % 8, h8⟩ 2).val :=
    (coord_val t).trans ((Cert.AttnBwdIdeal.Hand.coord_val ⟨t.val % 8, h8⟩).trans (Nat.mod_mod _ _)).symm
  unfold k0_pay8 Cert.AttnBwdIdeal.Gen.k0_pay16
  rw [h]
  rfl

/-- What a point writes, from padded keys and values of its sample and head pair. -/
theorem out_pay (R : Real m c X) (t : Fin cfg0.N) {K W : Vec Ideal S2560x128 .bf16} (hK : K = keys X (t.val / 64) (t.val / 8 % 8))
    (hW : W = vals X (t.val / 64) (t.val / 8 % 8)) (h1 h2 h3 h4) (y : S1x256x128.Idx) :
    k0_pay1 (View.ld W (Rect.unit (s := S2560x128) (k0_off1 (grid0.coords t)) ![768, 128] h2)) k0_pay7 (k0_pay8 (grid0.coords t))
        (k0_pay10 (View.ld K (Rect.unit (s := S2560x128) (k0_off1 (grid0.coords t)) ![768, 128] h1)) (iblk m c 0 t))
        (k0_pay11 (View.ld K (Rect.unit (s := S2560x128) (k0_off1 (grid0.coords t)) ![768, 128] h1)) (iblk m c 0 t)
          (View.ld (iblk m c 3 t) (Rect.unit (s := S2x256x768) ![0, 0, 0] ![1, 256, 768] h3)))
        (View.ld (iblk m c 3 t) (Rect.unit (s := S2x256x768) ![1, 0, 0] ![1, 256, 768] h4)) y
      = ((mix X (t.val / 64) (2 * (t.val / 8 % 8) + (y 2).val / 64) (256 * (t.val % 8) + (y 1).val) ((y 2).val % 64) : ℝ) : EReal) := by
  rw [hK, hW, blk_0 R, blk_3 R]
  refine (congrArg₂ (fun K' W' => k0_pay1 W' k0_pay7 (k0_pay8 (grid0.coords t)) (k0_pay10 K' (qBlk X _ _ _))
    (k0_pay11 K' (qBlk X _ _ _) _) _ y) (ld_window _ t _) (ld_window _ t _)).trans ?_
  refine out_eq X _ (msk_val t) (fun r x => congrArg (tile X _) ?_) (fun r x => congrArg (tile X _) ?_) y
  · exact funext fun a => Fin.ext (by
      fin_cases a
      · rfl
      · show 0 + 1 * r.val = r.val; omega
      · show 0 + 1 * x.val = x.val; omega)
  · exact funext fun a => Fin.ext (by
      fin_cases a
      · rfl
      · show 0 + 1 * r.val = r.val; omega
      · show 0 + 1 * x.val = x.val; omega)

/-- What a point leaves in its block of the result. -/
theorem out_val (R : Real m c X) (t : Fin cfg0.N) (y : S1x256x128.Idx) : (outsAt0 m c t.val t.isLt).1 y
    = ((mix X (t.val / 64) (2 * (t.val / 8 % 8) + (y 2).val / 64) (256 * (t.val % 8) + (y 1).val) ((y 2).val % 64) : ℝ) : EReal) := by
  by_cases h0 : t.val % 8 = 0
  · rw [outsAt0_A m c t h0]
    frame_out
    exact out_pay R t (keys_canon R t _ _) (vals_canon R t _ _) _ _ _ _ y
  · rw [outsAt0_B m c t h0]
    frame_out
    simp only [read_unread_whole]
    have e1 : (t.val - 1) / 64 = t.val / 64 := by omega
    have e2 : (t.val - 1) / 8 % 8 = t.val / 8 % 8 := by omega
    have hp := stored R ⟨t.val - 1, Nat.lt_of_le_of_lt (Nat.sub_le _ _) t.isLt⟩
    dsimp only at hp
    rw [e1, e2] at hp
    exact out_pay R t hp.1 hp.2 _ _ _ _ y

end Cert.AttnFwdIdeal.Hand
end
-- ==== Proof.AttnFwdFinal.lean ====
/- Hand-written, untrusted: the array the attention's forward kernel ends with. -/
module

public import proofs.«01_k».proof.Proof.Gen.AttnFwdIdeal.Frame
public import proofs.«01_k».proof.Proof.AttnFwdState
public import Idealize.ShloMosaic.Lib.Pipeline.ValueKit.Partial
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnFwdIdeal.Hand

open Cert.AttnFwdIdeal Cert.AttnFwdIdeal.Gen Cert.Attn Cert.Reals

variable {m : (ℓ : Loc nD τ sig) → Buf (Elt Ideal) ℓ} {c : Dev nD} {X : Arrays}

/-- The attention, in the first 1024 columns of the array the kernel writes. -/
theorem final_4 (R : Real m c X) : (dats m 0 c).arrAt 4 (cfgs 0).N = fun i : S2x2048x2048.Idx =>
    if (i 2).val / 128 < 8 then ((mix X (i 0).val ((i 2).val / 64) (i 1).val ((i 2).val % 64) : ℝ) : EReal)
    else V m c main_v32 i := by
  refine (dats m 0 c).arrAt_eq_of_coversWhere 4 _ (fun β => β (2 : Fin _) < 8) (by decide +kernel)
          (fun t hf y => ?_) (fun j => Iff.rfl)
  have hN : t.val < 128 := N_0 ▸ t.isLt
  blk_simp
  rw [after0_4, (idx_val t).2.2.2.2]
  have h1 : (y 1).val < 256 := (y 1).isLt
  have h2 : (y 2).val < 128 := (y 2).isLt
  refine (out_val R t y).trans ?_
  show _ = ((mix X (t.val / 64) ((t.val / 8 % 8 * 128 + (y 2).val) / 64) (t.val % 8 * 256 + (y 1).val)
    ((t.val / 8 % 8 * 128 + (y 2).val) % 64) : ℝ) : EReal)
  congr 2 <;> omega

/-- The result: those columns. -/
theorem tail_33 (R : Real m c X) : Pipeline.afterTail₀ cfgs (dats m) 0 (V0 m) [hostOps1] c main_v33
    = fun i : S2x2048x1024.Idx => ((mix X (i 0).val ((i 2).val / 64) (i 1).val ((i 2).val % 64) : ℝ) : EReal) := by
  unfold Pipeline.afterTail₀
  simp only [List.flatten_cons, List.flatten_nil, List.append_nil]
  after_reads_simp
  refine (congrArg (fun A => extractStridedSlice S2x2048x1024 ![0, 0, 0] A slices_S2x2048x2048_S2x2048x1024_0_0_0)
    ((Pipeline.withArrays_arr_shared _ c _ _ ((dats m 0 c).arrAt_sharedIn sharedIn0 (V0 m c) (A_eq m c) _) 4).trans (final_4 R))).trans ?_
  funext i
  obtain ⟨b, n, l, rfl⟩ : ∃ (b : Fin 2) (n : Fin 2048) (l : Fin 1024), i = ix3 b n l := ⟨i 0, i 1, i 2, eq_ix3 i⟩
  have hl : l.val < 1024 := l.isLt
  pointwise
  rw [if_pos (by omega)]

set_option backward.isDefEq.respectTransparency.types false in
/-- What the kernel's run leaves in its result, on every device. -/
theorem kernel_run (m : (ℓ : Loc nD τ sig) → Buf (Elt Ideal) ℓ) (g : Dev nD → PrngReg) (X : Dev nD → Arrays) (R : ∀ c, Real m c (X c)) :
    θ_run (defs (F := Ideal)) (onTc (τ := τ) (main (F := Ideal))) ⟨m, fun _ => 0, g⟩ (fun r => ∀ c : Dev nD,
      r.2.mem ((c.tc : Thread nD τ).loc main_v33) = (fun i : S2x2048x1024.Idx => ((mix (X c) (i 0).val ((i 2).val / 64) (i 1).val ((i 2).val % 64) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v33 (Pipeline.mem_restRefs_of main_v33 (by decide) (by decide))).trans (tail_33 (R c)), h.2 c⟩)
    (θ_run_and (run_main m g) (unchanged m g))

end Cert.AttnFwdIdeal.Hand
end
-- ==== Proof.AttnFwdRef.lean ====
/- Hand-written, untrusted: the plain attention over the reals. Its probabilities are those its derivative starts from. -/
module

public import proofs.«01_k».proof.Proof.Gen.AttnPlainIdeal.Read
public import proofs.«01_k».proof.Proof.AttnRef
public import proofs.«01_k».proof.Proof.AttnFwdPoint
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators
open Finset (range)

namespace Cert.AttnPlainIdeal.Hand

open Cert.AttnPlainIdeal Cert.AttnPlainIdeal.Read Cert.Attn Cert.Reals

variable (x0 : FVec Ideal S2x2048x4096 .f32) (x1 : FVec Ideal S16x257 .f32)

theorem same_probs : val_main_v78 (F := Ideal) x0 x1 = Cert.AttnGradIdeal.Read.val_main_v94 (F := Ideal) x0 x1 := rfl

theorem same_vals : val_main_v97 (F := Ideal) x0 = Cert.AttnGradIdeal.Read.val_main_v116 (F := Ideal) x0 := rfl

variable (X : Arrays) {x0 : FVec Ideal S2x2048x4096 .f32} {x1 : FVec Ideal S16x257 .f32}
  (hz : x0 = fun i => ((X.z (i 0).val (i 1).val (i 2).val : ℝ) : EReal))
  (hb : Cert.AttnGradIdeal.Read.val_main_v21 (F := Ideal) x1 = fun i => ((X.bias (i 0).val (i 1).val (i 2).val : ℝ) : EReal))

include hz hb in
/-- The plain attention's result. -/
theorem out_mix (b : Fin 2) (r : Fin 2048) (c : Fin 1024) :
    val_main_v101 (F := Ideal) x0 x1 (ix3 b r c) = ((mix X b.val (c.val / 64) r.val (c.val % 64) : ℝ) : EReal) := by
  have hr : r.val < 2048 := r.isLt
  have hcc : c.val < 1024 := c.isLt
  pointwise [val_main_v101, val_main_v100, val_main_v99, val_main_v98]
  rw [same_probs, same_vals]
  simp only [Cert.AttnGradIdeal.Hand.probs X hz hb, Cert.AttnGradIdeal.Hand.band_val, Cert.AttnGradIdeal.Hand.padded_val X hz,
    ← EReal.coe_mul, coe_sum]
  refine congrArg _ ?_
  have e : 64 * (r.val / 64) + r.val % 64 = r.val := by omega
  rw [e]
  unfold mix
  rw [← Cert.AttnGradIdeal.Hand.band_sum (n := r.val / 64) (u := r.val % 64) (by omega) (by omega)
    (fun p => prob X b.val (c.val / 64) r.val p * val X b.val (c.val / 64) p (c.val % 64))
    (fun p hp => by rw [prob_unseen X (by rwa [e] at hp), zero_mul])]
  exact Finset.sum_congr rfl fun j _ => mul_comm _ _

end Cert.AttnPlainIdeal.Hand
end
-- ==== Proof.AttnFwdPair.lean ====
/- Hand-written, untrusted: the attention's forward kernel and the plain attention give the same array, where the arguments are finite. -/
module

public import proofs.«01_k».proof.Defs
public import proofs.«01_k».proof.Proof.AttnPair
public import proofs.«01_k».proof.Proof.AttnFwdFinal
public import proofs.«01_k».proof.Proof.AttnFwdRef
public import proofs.«01_k».proof.Proof.Gen.AttnPlainIdeal.Run
public import proofs.«01_k».proof.Proof.Gen.Pre_attn_forward_finite

@[expose] public section

set_option maxRecDepth 16384

noncomputable section

open Idealize.ShloMosaic Idealize.ShloMosaic.TcCoe Idealize.SL.Sem
open scoped BigOperators

namespace Cert.AttnPlainIdeal.Hand

open Cert.AttnPlainIdeal Cert.AttnPlainIdeal.Read Idealize.ShloMosaic.StableHlo

/-- The plain attention's run: its result is the last stage read at the arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v101) = val_main_v101 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v101_eq m c), (h c).2⟩) (Cert.AttnPlainIdeal.Value.run m ρ)

end Cert.AttnPlainIdeal.Hand

namespace Cert.AttnFwdIdeal.Hand

open Cert.AttnFwdIdeal Cert.AttnPlainIdeal.Read Cert.Attn Cert.Reals
open Cert.AttnBwdIdeal.Hand (chunk ext3 ext3_at chunk_reals)

/-- What the precondition says: the arguments are arrays of reals. -/
theorem arrays (m : (ℓ : Loc nD τ sig) → Buf (Elt Ideal) ℓ) (h : Pre_AttnFwdIdeal_attn_forward_finite m) (c : Dev nD) : ∃ X : Arrays, Real m c X := by
  obtain ⟨z, hz⟩ := reals_of_mask _ fun i => congrFun (h c).1 i
  obtain ⟨w, hw⟩ := reals_of_mask _ fun i => congrFun (h c).2 i
  obtain ⟨r, hr⟩ := chunk_reals w
  exact ⟨⟨ext3 z, fun _ _ _ => 0, ext3 r⟩, ⟨hz.trans (funext fun i => congrArg _ (ext3_at z i)),
    (congrArg chunk hw).trans (hr.trans (funext fun y => congrArg _ (ext3_at r y)))⟩⟩

set_option backward.isDefEq.respectTransparency.types false in
/-- The two programs give the same result. -/
theorem algebraic : algebraic_AttnFwdIdeal_AttnPlainIdeal_pre_attn_forward_finite := by
  intro m g m' g' hpre hargs
  choose X R using arrays m hpre
  refine ⟨fun c (i : S2x2048x1024.Idx) => ((mix (X c) (i 0).val ((i 2).val / 64) (i 1).val ((i 2).val % 64) : ℝ) : EReal),
    kernel_run m g X R, ?_⟩
  refine (θ_run Cert.AttnPlainIdeal.defs _ _).mono (fun r h c => ?_) (Cert.AttnPlainIdeal.Hand.reference_run m' g')
  obtain ⟨h0, hrest⟩ := h c
  obtain ⟨a0, a1⟩ := hargs c
  exact ⟨h0.trans (funext fun i => (congrArg _ (eq_ix3 i)).trans (Cert.AttnPlainIdeal.Hand.out_mix (X c) (a0.trans (R c).z)
    ((congrArg chunk a1).trans (R c).bias) (i 0) (i 1) (i 2))), hrest⟩

end Cert.AttnFwdIdeal.Hand

end
-- ==== Proof.PoolFwdValue.lean ====
/- Hand-written, untrusted: what the pool's forward kernel leaves in its two results, as formulas of its arguments. -/
module

public import proofs.«01_k».proof.Proof.Gen.PoolFwdIdeal.Value
public import proofs.«01_k».proof.Proof.PoolMath
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.PoolFwdIdeal.Hand

open Cert.PoolFwdIdeal Cert.PoolFwdIdeal.Gen Cert.Pool

/-- A column `n` frames earlier, nothing before its start. -/
def delayed (n : ℕ) (x : Fin 2048 → EReal) (s : Fin 2048) : EReal := if n ≤ s.val then x ⟨s.val - n, by omega⟩ else 0

/-- The sum of the `n` frames up to `s` that there are. -/
def trail (n : ℕ) (x : Fin 2048 → EReal) (s : Fin 2048) : EReal :=
  ∑ t : Fin 2048, if t.val ≤ s.val ∧ s.val < t.val + n then x t else 0

theorem trail_one (x : Fin 2048 → EReal) (s : Fin 2048) : trail 1 x s = x s := by
  rw [trail, Finset.sum_eq_single s]
  · exact if_pos ⟨le_refl _, Nat.lt_succ_self _⟩
  · exact fun t _ h => if_neg fun q => h (Fin.ext (by omega))
  · exact fun h => absurd (Finset.mem_univ s) h

/-- A window of twice the length is the window and the one before it. -/
theorem trail_twice (n : ℕ) (x : Fin 2048 → EReal) (s : Fin 2048) :
    trail n x s + delayed n (trail n x) s = trail (2 * n) x s := by
  have h : delayed n (trail n x) s = ∑ t : Fin 2048, if t.val + n ≤ s.val ∧ s.val < t.val + n + n then x t else 0 := by
    unfold delayed
    split
    · exact Finset.sum_congr rfl fun t _ => if_congr (by dsimp only; omega) rfl rfl
    · exact (Finset.sum_eq_zero fun t _ => if_neg fun q => by omega).symm
  rw [h, trail, trail, ← Finset.sum_add_distrib]
  refine Finset.sum_congr rfl fun t _ => ?_
  by_cases a : t.val ≤ s.val ∧ s.val < t.val + n
  · rw [if_pos a, if_neg (by omega), add_zero, if_pos (by omega)]
  · rw [if_neg a, zero_add]
    exact if_congr (by omega) rfl rfl

/-- Rotating a column by `n` and clearing what came around is the column `n` frames earlier. -/
theorem delay_word (n : ℕ) (hn : n < 2048) (z : Fin 2048 → EReal) (r : Fin 2048) (q : (r.val + 2048 - n) % 2048 < 2048) :
    Scalar.select (IntOp.cmpi .sge (BitVec.ofNat 32 r.val) (BitVec.ofNat 32 n)) (z ⟨(r.val + 2048 - n) % 2048, q⟩) (0 : EReal) = delayed n z r := by
  have hr : r.val < 2048 := r.isLt
  rw [WordCmp.cmpi_sge_ofNat (by omega) (by omega), delayed]
  by_cases a : n ≤ r.val
  · rw [if_pos a, decide_eq_true a]
    exact congrArg z (Fin.ext (by show (r.val + 2048 - n) % 2048 = r.val - n; omega))
  · rw [if_neg a, decide_eq_false a]
    rfl

section Payload

/-- One doubling: a vector and itself `n` frames earlier. -/
abbrev doubled (n : BitVec 32) (v : FVec Ideal S2048x256 .f32) : FVec Ideal S2048x256 .f32 :=
  addf v (select (cmpi .sge (iota .tc S2048x256 32 [0] iota_S2048x256_d0_w32) (broadcast S2048x256 n))
    (dynamicRotate 0 n none v rotates_S2048x256_d0) (broadcast S2048x256 (Scalar.ofBits .f32 0x00000000#32)))

variable {v : FVec Ideal S2048x256 .f32} {x : Fin 2048 → EReal} {c : Fin 256}

theorem doubled_1 (h : ∀ r, v (ix2 r c) = trail 1 x r) (r : Fin 2048) : doubled 1#32 v (ix2 r c) = trail 2 x r := by
  pointwise [doubled]
  simp only [h]
  exact (congrArg (trail 1 x r + ·) (delay_word 1 (by decide) (trail 1 x) r _)).trans (trail_twice 1 x r)

theorem doubled_2 (h : ∀ r, v (ix2 r c) = trail 2 x r) (r : Fin 2048) : doubled 2#32 v (ix2 r c) = trail 4 x r := by
  pointwise [doubled]
  simp only [h]
  exact (congrArg (trail 2 x r + ·) (delay_word 2 (by decide) (trail 2 x) r _)).trans (trail_twice 2 x r)

theorem doubled_4 (h : ∀ r, v (ix2 r c) = trail 4 x r) (r : Fin 2048) : doubled 4#32 v (ix2 r c) = trail 8 x r := by
  pointwise [doubled]
  simp only [h]
  exact (congrArg (trail 4 x r + ·) (delay_word 4 (by decide) (trail 4 x) r _)).trans (trail_twice 4 x r)

theorem doubled_8 (h : ∀ r, v (ix2 r c) = trail 8 x r) (r : Fin 2048) : doubled 8#32 v (ix2 r c) = trail 16 x r := by
  pointwise [doubled]
  simp only [h]
  exact (congrArg (trail 8 x r + ·) (delay_word 8 (by decide) (trail 8 x) r _)).trans (trail_twice 8 x r)

/-- The number of doublings the group asks for. -/
theorem pick (g : Fin 4) (a b d e : FVec Ideal S2048x256 .f32) :
    Scalar.select (Scalar.cmpi .sgt (BitVec.ofNat 32 g.val) 2#32) e (Scalar.select (Scalar.cmpi .sgt (BitVec.ofNat 32 g.val) 1#32) d
      (Scalar.select (Scalar.cmpi .sgt (BitVec.ofNat 32 g.val) 0#32) b a)) = ![a, b, d, e] g := by
  fin_cases g <;> rfl

theorem pay5_at (i : grid0.Coords) (g : Fin 4) (hi : (i 1).val = g.val) (v0 : Vec Ideal S1x2048x256 .f32) (r : Fin 2048) (c : Fin 256) :
    k0_pay5 i v0 (ix2 r c) = trail (2 * 2 ^ g.val) (fun r => v0 (ix3 0 r c)) r := by
  have h1 : ∀ r, k0_pay4 v0 (ix2 r c) = trail 1 (fun r => v0 (ix3 0 r c)) r := fun r => by
    rw [trail_one]
    pointwise [k0_pay4]
  have h2 := doubled_1 h1
  have h4 := doubled_2 h2
  have h8 := doubled_4 h4
  have h16 := doubled_8 h8
  have e : k0_pay5 i v0 = ![doubled 1#32 (k0_pay4 v0), doubled 2#32 (doubled 1#32 (k0_pay4 v0)), doubled 4#32 (doubled 2#32 (doubled 1#32 (k0_pay4 v0))),
      doubled 8#32 (doubled 4#32 (doubled 2#32 (doubled 1#32 (k0_pay4 v0))))] g := by
    rw [← pick, ← hi]
    rfl
  rw [e]
  fin_cases g
  · exact h2 r
  · exact h4 r
  · exact h8 r
  · exact h16 r

/-- A frame's mean over its window, less the frame. -/
theorem pay1_at (g : Fin 4) (v1 v35 : FVec Ideal S2048x256 .f32) (r : Fin 2048) (c : Fin 256) :
    k0_pay1 v1 v35 (iota .tc S2048x1 32 [0] iota_S2048x1_d0_w32) (Scalar.shli 2#32 (BitVec.ofNat 32 g.val)) 1#32 (ix2 r c)
      = Ideal.div (v35 (ix2 r c)) (frames g.val r) - v1 (ix2 r c) := by
  pointwise [k0_pay1, frames]

end Payload

/-- A channel of a group among all channels, and among the columns of `z` and of the concatenation. -/
def lane (g : Fin 4) (e : Fin 256) : Fin 1024 := ⟨256 * g.val + e.val, by omega⟩
def column (g : Fin 4) (e : Fin 256) : Fin 4096 := ⟨3072 + (256 * g.val + e.val), by omega⟩

section Formulas

variable (z : FVec Ideal S2x2048x4096 .f32) (w : FVec Ideal S4x256x256 .bf16) (s : FVec Ideal S1x1024 .f32)

/-- The differences: a frame's mean over its window, less the frame. -/
def diff (b : Fin 2) (g : Fin 4) (k : Fin 256) (r : Fin 2048) : EReal :=
  Ideal.div (trail (2 * 2 ^ g.val) (fun r => z (ix3 b r (column g k))) r) (frames g.val r) - z (ix3 b r (column g k))

/-- The differences' products with the group's weight, scaled. -/
def mix (b : Fin 2) (g : Fin 4) (e : Fin 256) (r : Fin 2048) : EReal :=
  (∑ k : Fin 256, diff z b g k r * w (ix3 g k e)) * s (ix2 0 (lane g e))

/-- The group and the channel in it of channel `n`. -/
def groupOf (n : ℕ) : Fin 4 := ⟨n / 256 % 4, Nat.mod_lt _ (by decide)⟩
def innerOf (n : ℕ) : Fin 256 := ⟨n % 256, Nat.mod_lt _ (by decide)⟩

theorem groupOf_lane (g : Fin 4) (k : Fin 256) (n : ℕ) (h : n = 256 * g.val + k.val) : groupOf n = g :=
  Fin.ext (by show n / 256 % 4 = g.val; omega)

theorem innerOf_lane (g : Fin 4) (k : Fin 256) (n : ℕ) (h : n = 256 * g.val + k.val) : innerOf n = k :=
  Fin.ext (by show n % 256 = k.val; omega)

end Formulas

/-- Where each window stands at grid point `t`. -/
theorem idx_val : ∀ t : Fin cfg0.N, win0_0.index t = ![t.val / 4, 0, 12 + t.val % 4]
    ∧ win0_1.index t = ![t.val % 4, 0, 0]
    ∧ win0_2.index t = ![0, t.val % 4]
    ∧ win0_3.index t = ![t.val / 4, 0, t.val % 4]
    ∧ win0_4.index t = ![t.val / 4, 0, 4 + t.val % 4] :=
  (by decide +kernel : ∀ t : Fin grid0.N, _)

theorem group_val : ∀ t : Fin cfg0.N, (grid0.coords t 1).val = t.val % 4 :=
  (by decide +kernel : ∀ t : Fin grid0.N, _)

variable (m : (ℓ : Loc nD τ sig) → Buf (Elt Ideal) ℓ)

/-- The batch and the group of a grid point. -/
def batch (t : Fin cfg0.N) : Fin 2 := ⟨t.val / 4, by have : t.val < 8 := N_0 ▸ t.isLt; omega⟩
def group (t : Fin cfg0.N) : Fin 4 := ⟨t.val % 4, Nat.mod_lt _ (by decide)⟩

theorem blk_0 (c : Dev nD) (t : Fin cfg0.N) (r : Fin 2048) (e : Fin 256) :
    iblk m c 0 t (ix3 0 r e) = (m ((c : Thread nD τ).loc main_arg0) : FVec Ideal S2x2048x4096 .f32) (ix3 (batch t) r (column (group t) e)) := by
  blk_point [iblk, V, idx_val t, batch, group, column]

theorem blk_1 (c : Dev nD) (t : Fin cfg0.N) (k e : Fin 256) :
    iblk m c 1 t (ix3 0 k e) = (m ((c : Thread nD τ).loc main_arg1) : FVec Ideal S4x256x256 .bf16) (ix3 (group t) k e) := by
  blk_point [iblk, V, idx_val t, group]

theorem blk_2 (c : Dev nD) (t : Fin cfg0.N) (e : Fin 256) :
    iblk m c 2 t (ix2 0 e) = (m ((c : Thread nD τ).loc main_arg2) : FVec Ideal S1x1024 .f32) (ix2 0 (lane (group t) e)) := by
  blk_point [iblk, V, idx_val t, group, lane]

theorem emb_3 (t : Fin cfg0.N) (r : Fin 2048) (e : Fin 256) :
    ((cfg0.win 3).blk t).view.emb (ix3 0 r e) = (ix3 (batch t) r (lane (group t) e) : S2x2048x1024.Idx) := by
  blk_ext [idx_val t, batch, group, lane]

theorem emb_4 (t : Fin cfg0.N) (r : Fin 2048) (e : Fin 256) :
    ((cfg0.win 4).blk t).view.emb (ix3 0 r e) = (ix3 (batch t) r ⟨1024 + (256 * (group t).val + e.val), by omega⟩ : S2x2048x2048.Idx) := by
  blk_ext [idx_val t, batch, group]

/-- The differences at a grid point. -/
theorem diff_at (c : Dev nD) (t : Fin cfg0.N) (r : Fin 2048) (k : Fin 256) :
    k0_pay1 (k0_pay4 (iblk m c 0 t)) (k0_pay5 (grid0.coords t) (iblk m c 0 t)) (iota .tc S2048x1 32 [0] iota_S2048x1_d0_w32)
        (Scalar.shli 2#32 (BitVec.ofNat 32 (grid0.coords t 1).val)) 1#32 (ix2 r k)
      = diff (m ((c : Thread nD τ).loc main_arg0)) (batch t) (group t) k r := by
  have u : ∀ r, k0_pay4 (iblk m c 0 t) (ix2 r k) = (m ((c : Thread nD τ).loc main_arg0) : FVec Ideal S2x2048x4096 .f32) (ix3 (batch t) r (column (group t) k)) :=
    fun r => by
      refine Eq.trans ?_ (blk_0 m c t r k)
      pointwise [k0_pay4]
  rw [group_val]
  refine (pay1_at (group t) _ _ r k).trans ?_
  rw [pay5_at (grid0.coords t) (group t) (group_val t), u]
  simp only [blk_0]
  rfl

set_option maxHeartbeats 1600000 in
theorem point_3 (c : Dev nD) (t : Fin cfg0.N) (r : Fin 2048) (k : Fin 256) :
    (outsAt0 m c t).1 (ix3 0 r k) = diff (m ((c : Thread nD τ).loc main_arg0)) (batch t) (group t) k r := by
  unfold outsAt0; frame_out
  refine Eq.trans ?_ (diff_at m c t r k)
  pointwise [k0_pay2]

set_option maxHeartbeats 1600000 in
theorem point_4 (c : Dev nD) (t : Fin cfg0.N) (r : Fin 2048) (e : Fin 256) :
    (outsAt0 m c t).2 (ix3 0 r e) = mix (m ((c : Thread nD τ).loc main_arg0)) (m ((c : Thread nD τ).loc main_arg1))
      (m ((c : Thread nD τ).loc main_arg2)) (batch t) (group t) e r := by
  unfold outsAt0; frame_out
  pointwise [k0_pay3]
  rw [mix, ← blk_2 m c t e]
  refine congrArg (· * _) (Finset.sum_congr rfl fun k _ => ?_)
  rw [← blk_1 m c t k e, ← diff_at m c t r k]

/-- The first result after the whole grid. -/
theorem final_3 (c : Dev nD) : (dats m 0 c).arrAt 3 (cfgs 0).N
    = fun i : S2x2048x1024.Idx => diff (m ((c : Thread nD τ).loc main_arg0)) (i 0) (groupOf (i 2).val) (innerOf (i 2).val) (i 1) := by
  refine (dats m 0 c).arrAt_eq_of_covers 3 _ (by decide +kernel) fun t hf j => ?_
  obtain ⟨y, r, k, rfl⟩ : ∃ y r k, j = ix3 y r k := ⟨j 0, j 1, j 2, eq_ix3 j⟩
  obtain rfl : y = 0 := Subsingleton.elim _ _
  rw [emb_3]
  blk_simp; rw [after0_3, point_3]
  show _ = diff _ (batch t) (groupOf (256 * (group t).val + k.val)) (innerOf (256 * (group t).val + k.val)) r
  rw [groupOf_lane (group t) k _ rfl, innerOf_lane (group t) k _ rfl]

/-- The second result after the whole grid. -/
theorem final_4 (c : Dev nD) : (dats m 0 c).arrAt 4 (cfgs 0).N
    = fun i : S2x2048x2048.Idx => if 4 ≤ (i 2).val / 256 then
        mix (m ((c : Thread nD τ).loc main_arg0)) (m ((c : Thread nD τ).loc main_arg1)) (m ((c : Thread nD τ).loc main_arg2)) (i 0)
          (groupOf ((i 2).val - 1024)) (innerOf ((i 2).val - 1024)) (i 1)
      else V m c main_v0_1 i := by
  refine (dats m 0 c).arrAt_eq_of_coversWhere 4 _ (fun β => 4 ≤ β (2 : Fin _)) (by decide +kernel) (fun t hf j => ?_) (fun j => Iff.rfl)
  obtain ⟨y, r, k, rfl⟩ : ∃ y r k, j = ix3 y r k := ⟨j 0, j 1, j 2, eq_ix3 j⟩
  obtain rfl : y = 0 := Subsingleton.elim _ _
  rw [emb_4]
  blk_simp; rw [after0_4, point_4]
  have h : 1024 + (256 * (group t).val + k.val) - 1024 = 256 * (group t).val + k.val := by omega
  show _ = mix _ _ _ (batch t) (groupOf (1024 + (256 * (group t).val + k.val) - 1024)) (innerOf (1024 + (256 * (group t).val + k.val) - 1024)) r
  rw [groupOf_lane (group t) k _ h, innerOf_lane (group t) k _ h]

end Cert.PoolFwdIdeal.Hand

end
-- ==== Proof.PoolFwdPair.lean ====
/- Hand-written, untrusted: the pool's forward kernel and the plain pool give the same two arrays. -/
module

public import proofs.«01_k».proof.Defs
public import proofs.«01_k».proof.Proof.PoolFwdValue
public import proofs.«01_k».proof.Proof.Gen.PoolPlainIdeal.Run
public import proofs.«01_k».proof.Proof.Gen.PoolPlainIdeal.Read
public import Idealize.ShloMosaic.Lib.StableHlo.RunRead

@[expose] public section

set_option maxRecDepth 16384

noncomputable section

open Idealize.ShloMosaic Idealize.ShloMosaic.TcCoe Idealize.SL.Sem
open scoped BigOperators

namespace Cert.PoolPlainIdeal.Hand

open Cert.PoolPlainIdeal Cert.PoolPlainIdeal.Read

/-- The plain pool's results, each as its named value of the arguments; the arguments stay. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = val_main_v49 (F := Ideal) (m ((c.tc : Thread nD τ).loc main_arg0))
      ∧ r.2.mem ((c.tc : Thread nD τ).loc main_v55) = val_main_v55 (F := Ideal) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v49_eq m c), (h c).2.1.trans (val_main_v55_eq m c), (h c).2.2⟩)
    (Cert.PoolPlainIdeal.Value.run m ρ)

end Cert.PoolPlainIdeal.Hand

namespace Cert.PoolFwdIdeal.Hand

open Cert.PoolPlainIdeal.Read Cert.Pool

open Cert.PoolFwdIdeal
open Cert.PoolFwdIdeal.Gen (V iblk dats)

section Reference

variable (z : FVec Ideal S2x2048x4096 .f32) (w : FVec Ideal S4x256x256 .bf16) (s : FVec Ideal S1x1024 .f32)
  (y : FVec Ideal S2x2048x2048 .bf16)

/-- The windows' lengths. -/
theorem ref_length (g : Fin 4) : val_main_v11 (F := Ideal) (ix1 g) = BitVec.ofNat 32 (2 * 2 ^ g.val) := by
  fin_cases g <;> rfl

/-- A window's first frame. -/
theorem ref_first (t : Fin 2048) (g : Fin 4) : val_main_v17 (F := Ideal) (ix2 t g) = first t g := by
  pointwise [val_main_v17, val_main_v16, val_main_v15, val_main_v14, val_main_v13, val_main_v12, val_main_v10, val_main_v9,
    val_main_v3, val_main_v2, val_main_c_3, val_main_c_4]
  rw [ref_length]
  rfl

/-- How many frames it has. -/
theorem ref_count (b : Fin 2) (t : Fin 2048) (g : Fin 4) (e : Fin 256) : val_main_v41 (F := Ideal) (ix4 b t g e) = frames g.val t := by
  pointwise [val_main_v41, val_main_v40, val_main_v39, val_main_v22, val_main_v21, val_main_v20, val_main_v19, val_main_v18, val_main_v3,
    val_main_v2, val_main_c_5]
  rw [ref_first, count_word]
  rfl

theorem ref_pooled (b : Fin 2) (r : Fin 2048) (g : Fin 4) (k : Fin 256) :
    val_main_v1 (F := Ideal) z (ix4 b r g k) = z (ix3 b r (column g k)) := by
  pointwise [val_main_v1, val_main_v0]
  refine congrArg (fun n => z (ix3 b r n)) (Fin.ext ?_)
  show _ = 3072 + (256 * g.val + k.val)
  dsimp only
  omega

theorem ref_total (b : Fin 2) (r : Fin 2048) (g : Fin 4) (k : Fin 256) :
    val_main_v38 (F := Ideal) z (ix4 b r g k) = trail (2 * 2 ^ g.val) (fun r => z (ix3 b r (column g k))) r := by
  pointwise [val_main_v38, val_main_v37, val_main_call0_v3, val_main_call0_v2, val_main_call0_v1, val_main_call0_v0, val_main_v36,
    val_main_v35, val_main_v34, val_main_v33, val_main_v32, val_main_v31, val_main_v30, val_main_v29, val_main_v28,
    val_main_v27, val_main_v26, val_main_v25, val_main_v24, val_main_v23, val_main_v3, val_main_v2, val_main_cst_6, val_main_cst]
  refine Finset.sum_congr rfl fun t _ => ?_
  rw [ref_first, inside_word, ref_pooled]
  have e : val_main_cst (F := Ideal) ix0 = 0 := by pointwise [val_main_cst]
  exact if_congr Iff.rfl rfl e

theorem ref_diff (b : Fin 2) (r : Fin 2048) (g : Fin 4) (k : Fin 256) :
    val_main_v43 (F := Ideal) z (ix4 b r g k) = diff z b g k r := by
  pointwise [val_main_v43, val_main_v42]
  rw [ref_total, ref_count, ref_pooled]
  rfl

theorem ref_d (b : Fin 2) (r : Fin 2048) (n : Fin 1024) :
    val_main_v49 (F := Ideal) z (ix3 b r n) = diff z b (groupOf n.val) (innerOf n.val) r := by
  have hn : n.val < 1024 := n.isLt
  pointwise [val_main_v49, val_main_v48]
  rw [ref_diff]
  exact congrArg (fun g => diff z b g _ r) (Fin.ext (by show n.val / 256 = n.val / 256 % 4; omega))

theorem ref_mix (b : Fin 2) (r : Fin 2048) (n : Fin 1024) :
    val_main_v54 (F := Ideal) z w s (ix3 b r n) = mix z w s b (groupOf n.val) (innerOf n.val) r := by
  have hn : n.val < 1024 := n.isLt
  pointwise [val_main_v54, val_main_v53, val_main_v52, val_main_v51, val_main_v47, val_main_v46, val_main_v45, val_main_v44]
  have hg : (⟨n.val / 256, by omega⟩ : Fin 4) = groupOf n.val := Fin.ext (by show n.val / 256 = n.val / 256 % 4; omega)
  have hl : lane (groupOf n.val) (innerOf n.val) = n :=
    Fin.ext (by show 256 * (n.val / 256 % 4) + n.val % 256 = n.val; omega)
  rw [mix, hl]
  refine congrArg (· * _) (Finset.sum_congr rfl fun k _ => ?_)
  rw [ref_diff, mul_comm, hg]
  rfl

theorem ref_mixed (b : Fin 2) (r : Fin 2048) (n : Fin 2048) :
    val_main_v55 (F := Ideal) z w s y (ix3 b r n) = if 4 ≤ n.val / 256 then
      mix z w s b (groupOf (n.val - 1024)) (innerOf (n.val - 1024)) r else y (ix3 b r n) := by
  have hn : n.val < 2048 := n.isLt
  pointwise [val_main_v55, val_main_v50]
  by_cases h : n.val < 1024
  · rw [dif_pos h, if_neg (by omega)]
  · refine (dif_neg h).trans (Eq.trans ?_ (if_pos (by omega)).symm)
    exact ref_mix z w s b r ⟨n.val - 1024, by omega⟩

end Reference

theorem entry_mixed (m : (ℓ : Loc nD τ sig) → Buf (Elt Ideal) ℓ) (c : Dev nD) :
    V m c main_v0_1 = m ((c.tc : Thread nD τ).loc main_arg3) := by
  simp only [V, List.flatten_cons, List.flatten_nil, List.append_nil]
  after_reads_simp
  rfl

/-- What the kernel's run leaves in its results, on every device. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = (fun i : S2x2048x1024.Idx =>
          diff (m ((c : Thread nD τ).loc main_arg0)) (i 0) (groupOf (i 2).val) (innerOf (i 2).val) (i 1))
      ∧ r.2.mem ((c.tc : Thread nD τ).loc main_v0_1) = (fun i : S2x2048x2048.Idx => if 4 ≤ (i 2).val / 256 then
          mix (m ((c : Thread nD τ).loc main_arg0)) (m ((c : Thread nD τ).loc main_arg1)) (m ((c : Thread nD τ).loc main_arg2)) (i 0)
            (groupOf ((i 2).val - 1024)) (innerOf ((i 2).val - 1024)) (i 1)
        else m ((c : Thread nD τ).loc main_arg3) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_3 m c), (h c).2.1.trans ((final_4 m c).trans (by rw [entry_mixed])), (h c).2.2⟩)
    (Cert.PoolFwdIdeal.Value.run_blocks m ρ)

set_option backward.isDefEq.respectTransparency.types false in
/-- The two programs give the same results. -/
theorem algebraic : algebraic_PoolFwdIdeal_PoolPlainIdeal := by
  pair_intro
  · run_from kernel_run m g
  · run_from Cert.PoolPlainIdeal.Hand.reference_run m' g'
    · funext i
      obtain ⟨b, r, n, rfl⟩ : ∃ b r n, i = ix3 b r n := ⟨i 0, i 1, i 2, eq_ix3 i⟩
      exact ref_d _ b r n
    · funext i
      obtain ⟨b, r, n, rfl⟩ : ∃ b r n, i = ix3 b r n := ⟨i 0, i 1, i 2, eq_ix3 i⟩
      exact ref_mixed _ _ _ _ b r n

end Cert.PoolFwdIdeal.Hand

end
-- ==== Proof.NormFwdValue.lean ====
/- Hand-written, untrusted: what the normalisation's forward kernel leaves in its result, as a formula of its arguments, and
   the plain normalisation's same array. -/
module

public import proofs.«01_k».proof.Proof.Gen.NormFwdIdeal.Value
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.NormFwdIdeal.Hand

open Cert.NormFwdIdeal Cert.NormFwdIdeal.Gen

/-- One row's reciprocal root mean square. -/
def scale (x : FVec Ideal S4096x2048 .f32) (r : Fin 4096) : EReal :=
  Ideal.rsqrt (Ideal.div (∑ k : Fin 2048, x (ix2 r k) * x (ix2 r k)) (Ideal.ofBits .f32 0x45000000#32) + Ideal.ofBits .f32 0x358637BD#32)

/-- The rows, each by its reciprocal root mean square and by the gain. -/
def normal (x : FVec Ideal S4096x2048 .f32) (g : FVec Ideal S1x2048 .f32) : FVec Ideal S4096x2048 .bf16 := fun i =>
  x i * scale x (i 0) * g (ix2 0 (i 1))

/-- Where each window stands at grid point `t`. -/
theorem idx_val : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

set_option maxHeartbeats 1600000 in
theorem point_2 (c : Dev nD) (t : Fin cfg0.N) (y) :
    out0_2 (iblk m c 0 t) (iblk m c 1 t) y
      = normal (m ((c : Thread nD τ).loc main_arg0)) (m ((c : Thread nD τ).loc main_arg1)) (((cfg0.win 2).blk t).view.emb y) := by
  canon_tiles x h
  all_goals (open_payloads; pointwise [normal, scale]; blk_point [iblk, V, idx_val t])

/-- The result after the whole grid. -/
theorem final_2 (c : Dev nD) : (dats m 0 c).arrAt 2 (cfgs 0).N
    = normal (m ((c : Thread nD τ).loc main_arg0)) (m ((c : Thread nD τ).loc main_arg1)) := by
  refine (dats m 0 c).arrAt_eq_of_covers 2 _ (by decide +kernel) fun t hf y => ?_
  blk_simp; rw [after0_2]
  exact point_2 m c t y

end Cert.NormFwdIdeal.Hand

end
-- ==== Proof.NormFwdPair.lean ====
/- Hand-written, untrusted: the normalisation's forward kernel and the plain normalisation give the same array. -/
module

public import proofs.«01_k».proof.Defs
public import proofs.«01_k».proof.Proof.NormFwdValue
public import proofs.«01_k».proof.Proof.Reals
public import proofs.«01_k».proof.Proof.Gen.NormPlainIdeal.Run
public import proofs.«01_k».proof.Proof.Gen.NormPlainIdeal.Read

@[expose] public section

set_option maxRecDepth 16384

noncomputable section

open Idealize.ShloMosaic Idealize.ShloMosaic.TcCoe Idealize.SL.Sem
open scoped BigOperators

namespace Cert.NormFwdIdeal.Hand

open Cert.NormPlainIdeal.Read Cert.Reals

/-- The plain normalisation. -/
theorem ref_normal (x : FVec Ideal S4096x2048 .f32) (g : FVec Ideal S1x2048 .f32) :
    val_main_v12 (F := Ideal) x g = normal x g := by
  funext i
  pointwise [val_main_v12, val_main_v11, val_main_v10, val_main_v9, val_main_v8, val_main_v7, val_main_v6, val_main_v5, val_main_cst_1,
    val_main_v4, val_main_v3, val_main_cst_0, val_main_v2, val_main_v1, val_main_cst, val_main_v0, normal, scale]

set_option backward.isDefEq.respectTransparency.types false in
/-- The two programs give the same result. -/
theorem algebraic : algebraic_NormFwdIdeal_NormPlainIdeal := by
  pair_intro
  · run_from Cert.NormFwdIdeal.Gen.run_main m g
  · run_from Cert.NormPlainIdeal.Value.run m' g'
    · rw [final_2 m c]
      exact ref_normal _ _

end Cert.NormFwdIdeal.Hand

end
-- ==== Proof.GateFwdValue.lean ====
/- Hand-written, untrusted: what the gate's forward kernel leaves in its two results, as formulas of its three arguments. -/
module

public import proofs.«01_k».proof.Proof.Gen.GateFwdIdeal.Value
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.GateFwdIdeal.Hand

open Cert.GateFwdIdeal Cert.GateFwdIdeal.Gen

/-- The up projection: the rows' products with the weight's rows. -/
def up (a : FVec Ideal S4096x2048 .bf16) (w : FVec Ideal S5632x2048 .bf16) : FVec Ideal S4096x5632 .bf16 := fun i =>
  ∑ k : Fin 2048, a (ix2 (i 0) k) * w (ix2 (i 1) k)

/-- The gated rows. -/
def gated (a : FVec Ideal S4096x2048 .bf16) (w : FVec Ideal S5632x2048 .bf16) (g : FVec Ideal S4096x5632 .bf16) :
    FVec Ideal S4096x5632 .bf16 := fun i => g i * Ideal.logistic (g i) * up a w i

/-- Where each window stands at grid point `t`. -/
theorem idx_val : ∀ t : Fin cfg0.N, win0_0.index t = ![t.val / 4, 0]
    ∧ win0_1.index t = ![t.val % 4, 0]
    ∧ win0_2.index t = ![t.val / 4, t.val % 4]
    ∧ win0_3.index t = ![t.val / 4, t.val % 4]
    ∧ win0_4.index t = ![t.val / 4, t.val % 4] :=
  (by decide +kernel : ∀ t : Fin grid0.N, _)

variable (m : (ℓ : Loc nD τ sig) → Buf (Elt Ideal) ℓ)

set_option maxHeartbeats 1600000 in
theorem point_3 (c : Dev nD) (t : Fin cfg0.N) (y) :
    out0_3 (iblk m c 0 t) (iblk m c 1 t) (iblk m c 2 t) y
      = up (m ((c : Thread nD τ).loc main_arg0)) (m ((c : Thread nD τ).loc main_arg1)) (((cfg0.win 3).blk t).view.emb y) := by
  canon_tiles x h
  all_goals (open_payloads; pointwise [up]; blk_point [iblk, V, idx_val t])

set_option maxHeartbeats 1600000 in
theorem point_4 (c : Dev nD) (t : Fin cfg0.N) (y) :
    out0_4 (iblk m c 0 t) (iblk m c 1 t) (iblk m c 2 t) y
      = gated (m ((c : Thread nD τ).loc main_arg0)) (m ((c : Thread nD τ).loc main_arg1)) (m ((c : Thread nD τ).loc main_arg2))
          (((cfg0.win 4).blk t).view.emb y) := by
  canon_tiles x h
  all_goals (open_payloads; pointwise [gated, up]; blk_point [iblk, V, idx_val t])

/-- The up projection after the whole grid. -/
theorem final_3 (c : Dev nD) : (dats m 0 c).arrAt 3 (cfgs 0).N
    = up (m ((c : Thread nD τ).loc main_arg0)) (m ((c : Thread nD τ).loc main_arg1)) := by
  refine (dats m 0 c).arrAt_eq_of_covers 3 _ (by decide +kernel) fun t hf y => ?_
  blk_simp; rw [after0_3]
  exact point_3 m c t y

/-- The gated rows after the whole grid. -/
theorem final_4 (c : Dev nD) : (dats m 0 c).arrAt 4 (cfgs 0).N
    = gated (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]
  exact point_4 m c t y

end Cert.GateFwdIdeal.Hand

end
-- ==== Proof.GateFwdPair.lean ====
/- Hand-written, untrusted: the gate's forward kernel and the gate's plain formula give the same two arrays. -/
module

public import proofs.«01_k».proof.Defs
public import proofs.«01_k».proof.Proof.GateFwdValue
public import proofs.«01_k».proof.Proof.Gen.GatePlainIdeal.Run
public import proofs.«01_k».proof.Proof.Gen.GatePlainIdeal.Read

@[expose] public section

set_option maxRecDepth 16384

noncomputable section

open Idealize.ShloMosaic Idealize.ShloMosaic.TcCoe Idealize.SL.Sem
open scoped BigOperators

namespace Cert.GateFwdIdeal.Hand

open Cert.GatePlainIdeal.Read

/-- The plain up projection. -/
theorem ref_up (a : FVec Ideal S4096x2048 .bf16) (w : FVec Ideal S5632x2048 .bf16) : val_main_v3 (F := Ideal) a w = up a w := by
  funext i
  pointwise [val_main_v3, val_main_v2, val_main_v1, val_main_v0, up]

/-- The plain gated rows. -/
theorem ref_gated (a : FVec Ideal S4096x2048 .bf16) (w : FVec Ideal S5632x2048 .bf16) (g : FVec Ideal S4096x5632 .bf16) :
    val_main_v7 (F := Ideal) a w g = gated a w g := by
  funext i
  pointwise [val_main_v7, val_main_v6, val_main_v5, val_main_call0_v5, val_main_call0_v4, val_main_call0_cst_0, val_main_call0_v3,
    val_main_call0_v2, val_main_call0_cst, val_main_call0_v1, val_main_call0_v0, val_main_v4, val_main_v2, val_main_v1, val_main_v0, gated, up, Ideal.logistic]

set_option backward.isDefEq.respectTransparency.types false in
/-- The two programs give the same results. -/
theorem algebraic : algebraic_GateFwdIdeal_GatePlainIdeal := by
  pair_intro
  · run_from Cert.GateFwdIdeal.Gen.run_main m g
  · run_from Cert.GatePlainIdeal.Value.run m' g'
    · rw [final_3 m c]
      exact ref_up _ _
    · rw [final_4 m c]
      exact ref_gated _ _ _

end Cert.GateFwdIdeal.Hand

end
-- ==== Proof.QueryFwdPair.lean ====
/- Hand-written, untrusted: the query projection with its normalisation, against the plain product of the plain normalisation. -/
module

public import proofs.«01_k».proof.Defs
public import proofs.«01_k».proof.Proof.Gen.QueryFwdIdeal.Value
public import proofs.«01_k».proof.Proof.Gen.QueryPlainIdeal.Run
public import proofs.«01_k».proof.Proof.Gen.QueryPlainIdeal.Read
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.QueryFwdIdeal.Hand

open Cert.QueryFwdIdeal Cert.QueryFwdIdeal.Gen Cert.QueryPlainIdeal.Read

/-- One row's reciprocal root mean square. -/
def scale (x : FVec Ideal S4096x2048 .f32) (r : Fin 4096) : EReal :=
  Ideal.rsqrt (Ideal.div (∑ k : Fin 2048, x (ix2 r k) * x (ix2 r k)) (Ideal.ofBits .f32 0x45000000#32) + Ideal.ofBits .f32 0x358637BD#32)

/-- The rows, each by its reciprocal root mean square and by the gain. -/
def normal (x : FVec Ideal S4096x2048 .f32) (g : FVec Ideal S1x2048 .f32) : FVec Ideal S4096x2048 .bf16 := fun i =>
  x i * scale x (i 0) * g (ix2 0 (i 1))

/-- The projection of the normalised rows. -/
def query (x : FVec Ideal S4096x2048 .f32) (w : FVec Ideal S2048x512 .bf16) (g : FVec Ideal S1x2048 .f32) : FVec Ideal S4096x512 .bf16 :=
  fun i => ∑ k : Fin 2048, normal x g (ix2 (i 0) k) * w (ix2 k (i 1))

/-- Where each window stands at grid point `t`. -/
theorem idx_val : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

variable (m : (ℓ : Loc nD τ sig) → Buf (Elt Ideal) ℓ)

set_option maxHeartbeats 1600000 in
/-- The normalised rows after the whole grid. -/
theorem final_4 (c : Dev nD) : (dats m 0 c).arrAt 4 (cfgs 0).N
    = normal (m ((c : Thread nD τ).loc main_arg0)) (m ((c : Thread nD τ).loc main_arg2)) := by
  refine (dats m 0 c).arrAt_eq_of_covers 4 _ (by decide +kernel) fun t hf y => ?_
  blk_simp
  rw [after0_4]
  unfold outsAt0 out0_A_4
  dsimp only
  frame_out
  pointwise [normal, scale]
  blk_point [iblk, V, idx_val t]

set_option maxHeartbeats 1600000 in
/-- The projection after the whole grid. -/
theorem final_3 (c : Dev nD) : (dats m 0 c).arrAt 3 (cfgs 0).N
    = query (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0 out0_A_3
  dsimp only
  frame_out
  pointwise [query, normal, scale, k0_pay2, k0_pay1]
  blk_point [iblk, V, idx_val t]

/-- The plain normalisation. -/
theorem ref_normal (x : FVec Ideal S4096x2048 .f32) (g : FVec Ideal S1x2048 .f32) : val_main_v15 (F := Ideal) x g = normal x g := by
  funext i
  pointwise [val_main_v15, val_main_v11, val_main_v10, val_main_v9, val_main_v8, val_main_v7, val_main_v6, val_main_v5, val_main_cst_1,
    val_main_v4, val_main_v3, val_main_cst_0, val_main_v2, val_main_v1, val_main_cst, val_main_v0, normal, scale]

/-- The plain projection. -/
theorem ref_query (x : FVec Ideal S4096x2048 .f32) (w : FVec Ideal S2048x512 .bf16) (g : FVec Ideal S1x2048 .f32) :
    val_main_v14 (F := Ideal) x w g = query x w g := by
  funext i
  pointwise [val_main_v14, val_main_v13, val_main_v12, val_main_v11, val_main_v10, val_main_v9, val_main_v8, val_main_v7, val_main_v6,
    val_main_v5, val_main_cst_1, val_main_v4, val_main_v3, val_main_cst_0, val_main_v2, val_main_v1, val_main_cst, val_main_v0, query, normal, scale]

set_option backward.isDefEq.respectTransparency.types false in
/-- The two programs give the same results. -/
theorem algebraic : algebraic_QueryFwdIdeal_QueryPlainIdeal := by
  pair_intro
  · run_from Cert.QueryFwdIdeal.Gen.run_main m g
  · run_from Cert.QueryPlainIdeal.Value.run m' g'
    · rw [final_3 m c]
      exact ref_query _ _ _
    · rw [final_4 m c]
      exact ref_normal _ _

end Cert.QueryFwdIdeal.Hand

end
-- ==== Proof.TileFwdPair.lean ====
/- Hand-written, untrusted: the bias tile, against the plain gather of its entries. -/
module

public import proofs.«01_k».proof.Defs
public import proofs.«01_k».proof.Proof.Softmax
public import proofs.«01_k».proof.Proof.Gen.TileFwdIdeal.Frame
public import proofs.«01_k».proof.Proof.Gen.TilePlainIdeal.Run
public import proofs.«01_k».proof.Proof.Gen.TilePlainIdeal.Read
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.TileFwdIdeal.Hand

open Cert.TileFwdIdeal Cert.TileFwdIdeal.Gen Cert.TilePlainIdeal.Read

variable (m : (ℓ : Loc nD τ sig) → Buf (Elt Ideal) ℓ)

/-- A query of the tile sees a key of its own chunk and of the eight before it. -/
def Sees (i j : ℕ) : Prop := i / 64 ≤ j / 64 ∧ j / 64 ≤ i / 64 + 8

instance (i j : ℕ) : Decidable (Sees i j) := inferInstanceAs (Decidable (_ ∧ _))

/-- The tile: the table's entry at the clipped distance where the key is seen. -/
def tile (R : FVec Ideal S16x257 .f32) : FVec Ideal S16x256x768 .f32 := fun y =>
  if Sees (y 1).val (y 2).val then R (ix2 (y 0) ⟨min (640 + (y 1).val - (y 2).val) 256, by omega⟩) else ⊥

/-- The table's entry that a lane of a head's row holds. -/
def lane (l : ℕ) : Fin 257 := ⟨if l < 385 then 256 else if l < 641 then 640 - l else 256, by split <;> [skip; split] <;> omega⟩

theorem row_read (c : Dev nD) (h : Fin 16) (l : Fin 1024) :
    (V m c main_v6 : FVec Ideal S16x1x1024 .f32) (ix3 h 0 l)
      = (m ((c : Thread nD τ).loc main_arg0) : FVec Ideal S16x257 .f32) (ix2 h (lane l.val)) := by
  have key : ∀ R : FVec Ideal S16x257 .f32, ∀ A : FVec Ideal S16x385 .f32, (∀ x, A (ix2 h x) = R (ix2 h 256)) →
      ∀ B : FVec Ideal S16x256 .f32, (∀ x : Fin 256, B (ix2 h x) = R (ix2 h ⟨255 - x.val, by omega⟩)) →
      ∀ D : FVec Ideal S16x383 .f32, (∀ x, D (ix2 h x) = R (ix2 h 256)) →
      concatenate S16x1024 1 [⟨S16x385, A⟩, ⟨S16x256, B⟩, ⟨S16x383, D⟩] concatenates_S16x385_S16x256_S16x383_S16x1024_d1 (ix2 h l)
        = R (ix2 h (lane l.val)) := by
    intro R A hA B hB D hD
    have hl : l.val < 1024 := l.isLt
    pointwise [hA, hB, hD, lane]
    split
    · rfl
    split
    · congr 2
      refine Fin.ext ?_
      dsimp only
      rw [if_pos (by omega)]
      omega
    · congr 2
      refine Fin.ext ?_
      dsimp only
      rw [if_neg (by omega)]
      rfl
  after_reads_simp
  have fold : ∀ T : FVec Ideal S16x1024 .f32, shapeCast S16x1x1024 T shapeCasts_S16x1024_S16x1x1024 (ix3 h 0 l) = T (ix2 h l) := fun T => by
    pointwise []
  refine (fold _).trans (key (m ((c : Thread nD τ).loc main_arg0)) _ (fun x => ?_) _ (fun x => ?_) _ (fun x => ?_))
  · show StableHlo.upto hostOps0 (fun b => m (c, b)) 5 (Proc.tc.devRef main_v1) (ix2 h x) = _
    after_reads_simp
    pointwise []
  · show StableHlo.upto hostOps0 (fun b => m (c, b)) 5 (Proc.tc.devRef main_v3) (ix2 h x) = _
    after_reads_simp
    pointwise []
    refine congrArg₂ (fun a b => (m ((c : Thread nD τ).loc main_arg0) : FVec Ideal S16x257 .f32) (ix2 a b)) (if_neg (by decide))
      (Fin.ext ((congrArg Fin.val (if_pos (by decide))).trans ?_))
    show 256 - (x.val + 1) = 255 - x.val
    omega
  · show StableHlo.upto hostOps0 (fun b => m (c, b)) 5 (Proc.tc.devRef main_v4) (ix2 h x) = _
    after_reads_simp
    pointwise []

/-- The kernel's word for a frame's chunk. -/
theorem chunk_word : ∀ n : Fin 768,
    Scalar.select
      (IntOp.andi
        (IntOp.cmpi .ne (IntOp.subi (BitVec.setWidth 32 (IntOp.cmpi .sgt (BitVec.ofNat 32 n.val) 0#32)) (BitVec.setWidth 32 (IntOp.cmpi .slt (BitVec.ofNat 32 n.val) 0#32)))
          (Scalar.subi (Scalar.extui (Scalar.cmpi .sgt 64#32 0#32)) (Scalar.extui (Scalar.cmpi .slt 64#32 0#32))))
        (IntOp.cmpi .ne (IntOp.remsi .vector (BitVec.ofNat 32 n.val) 64#32) 0#32))
      (IntOp.subi (IntOp.divsi .vector (BitVec.ofNat 32 n.val) 64#32) 1#32)
      (IntOp.divsi .vector (BitVec.ofNat 32 n.val) 64#32)
    = BitVec.ofNat 32 (n.val / 64) := by decide +kernel

/-- The kernel's comparison of two chunks. -/
theorem seen_words : ∀ (a : Fin 4) (b : Fin 12),
    IntOp.andi (IntOp.cmpi .sge (BitVec.ofNat 32 b.val) (BitVec.ofNat 32 a.val))
      (IntOp.cmpi .sle (BitVec.ofNat 32 b.val) (IntOp.addi (BitVec.ofNat 32 a.val) 8#32))
    = if a.val ≤ b.val ∧ b.val ≤ a.val + 8 then 1#1 else 0#1 := by decide +kernel

theorem pay_at (x0 : Vec Ideal S1x1x1024 .f32) (i : Fin 256) (j : Fin 768) :
    k0_pay1 (k0_pay2 (F := Ideal) x0) k0_pay3 (iota .tc S256x768 32 [1] iota_S256x768_d1_w32) 64#32 k0_pay4 k0_pay5
      (Scalar.extui (Scalar.cmpi .sgt 64#32 0#32)) (Scalar.cmpi .slt 64#32 0#32) (ix3 0 i j)
      = if Sees i.val j.val then x0 (ix3 0 0 ⟨(j.val + 1024 - i.val) % 1024, Nat.mod_lt _ (by decide)⟩) else ⊥ := by
  have hi : i.val < 256 := i.isLt
  have hj : j.val < 768 := j.isLt
  pointwise [k0_pay1, k0_pay2, k0_pay3, k0_pay4, k0_pay5]
  have e := seen_words ⟨i.val / 64, by omega⟩ ⟨j.val / 64, by omega⟩
  rw [← chunk_word j, ← chunk_word ⟨i.val, by omega⟩] at e
  refine (congrArg (fun q => Scalar.select q _ _) e).trans ?_
  by_cases k : Sees i.val j.val
  · rw [if_pos k]
    refine (congrArg (fun q => Scalar.select q _ _) (if_pos k)).trans (congrArg (fun l => x0 (ix3 0 0 l)) (Fin.ext ?_))
    show (j.val + 1024 - i.val % 1024) % 1024 = (j.val + 1024 - i.val) % 1024
    omega
  · rw [if_neg k]
    refine (congrArg (fun q => Scalar.select q _ _) (if_neg k)).trans ?_
    rfl

/-- The reference's division by 64, rounded down. -/
def quot (x : BitVec 32) : BitVec 32 :=
  Scalar.select
    (IntOp.andi (IntOp.cmpi .ne (if x = 0 then 0 else if x.msb = true then -1 else 1 : BitVec 32)
        (if 64#32 = 0 then 0 else if BitVec.msb 64#32 = true then -1 else 1 : BitVec 32))
      (IntOp.cmpi .ne (IntOp.remsi .host x 64#32) 0#32))
    (IntOp.subi (IntOp.divsi .host x 64#32) 1#32) (IntOp.divsi .host x 64#32)

theorem quot_at : ∀ n : Fin 768, quot (BitVec.ofNat 32 n.val) = BitVec.ofNat 32 (n.val / 64) := by decide +kernel

/-- The reference's comparison of two chunks, the first eight on. -/
theorem behind_words : ∀ (a : Fin 4) (b : Fin 12),
    IntOp.andi (IntOp.cmpi .sge (IntOp.subi (BitVec.ofNat 32 (8 + a.val)) (BitVec.ofNat 32 b.val)) 0#32)
      (IntOp.cmpi .sle (IntOp.subi (BitVec.ofNat 32 (8 + a.val)) (BitVec.ofNat 32 b.val)) 8#32)
    = if a.val ≤ b.val ∧ b.val ≤ a.val + 8 then 1#1 else 0#1 := by decide +kernel

/-- The reference's word for whether a key is seen. -/
theorem seen_word (i : Fin 256) (j : Fin 768) : val_main_v28 (F := Ideal) (ix2 i j) = if Sees i.val j.val then 1#1 else 0#1 := by
  pointwise [val_main_v28, val_main_v27, val_main_v26, val_main_v25, val_main_v24, val_main_v23, val_main_v22, val_main_v21, val_main_v20,
    val_main_v19, val_main_v5, val_main_v4, val_main_v3, val_main_v2, val_main_v1, val_main_v0,
    val_main_call1_v0, val_main_call1_v1, val_main_call1_v2, val_main_call1_v3, val_main_call1_v4, val_main_call1_v5, val_main_call1_v6,
    val_main_call1_v7, val_main_call1_v8, val_main_call1_v9, val_main_call1_v10, val_main_call1_v11, val_main_call1_v12, val_main_call1_v13,
    val_main_call2_v0, val_main_call2_v1, val_main_call2_v2, val_main_call2_v3, val_main_call2_v4, val_main_call2_v5, val_main_call2_v6,
    val_main_call2_v7, val_main_call2_v8, val_main_call2_v9, val_main_call2_v10, val_main_call2_v11, val_main_call2_v12, val_main_call2_v13,
    val_main_call1_c, val_main_call1_c_0, val_main_call2_c, val_main_call2_c_0, val_main_c, val_main_c_5, val_main_c_6, val_main_c_7, val_main_c_8]
  have hi : i.val < 256 := i.isLt
  have hj : j.val < 768 := j.isLt
  have e : IntOp.addi 512#32 (BitVec.ofNat 32 i.val) = BitVec.ofNat 32 (512 + i.val) := (BitVec.ofNat_add 512 i.val).symm
  rw [e]
  change IntOp.andi (IntOp.cmpi .sge (IntOp.subi (quot (BitVec.ofNat 32 (512 + i.val))) (quot (BitVec.ofNat 32 j.val))) 0#32)
    (IntOp.cmpi .sle (IntOp.subi (quot (BitVec.ofNat 32 (512 + i.val))) (quot (BitVec.ofNat 32 j.val))) 8#32) = _
  rw [quot_at ⟨512 + i.val, by omega⟩, quot_at j, show (512 + i.val) / 64 = 8 + i.val / 64 by omega]
  exact behind_words ⟨i.val / 64, by omega⟩ ⟨j.val / 64, by omega⟩

/-- The program's clip of a distance, from a number 768 above it. -/
theorem clipped : ∀ n : Fin 1536,
    Scalar.select
      (IntOp.cmpi .slt (IntOp.addi (IntOp.minsi 128#32 (IntOp.maxsi 4294967168#32 (BitVec.ofNat 32 n.val - 768#32))) 128#32) 0#32)
      (IntOp.addi (IntOp.addi (IntOp.minsi 128#32 (IntOp.maxsi 4294967168#32 (BitVec.ofNat 32 n.val - 768#32))) 128#32) 257#32)
      (IntOp.addi (IntOp.minsi 128#32 (IntOp.maxsi 4294967168#32 (BitVec.ofNat 32 n.val - 768#32))) 128#32)
      = BitVec.ofNat 32 (min (n.val - 640) 256) := by decide +kernel

/-- The entry each query and key read, as the program's word. -/
theorem word_at (i : Fin 256) (j : Fin 768) :
    val_main_v17 (F := Ideal) (ix3 i j 0) = BitVec.ofNat 32 (min (640 + i.val - j.val) 256) := by
  pointwise [val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_call0_v4, val_main_call0_v3, val_main_call0_v2, val_main_call0_v1, val_main_call0_v0, val_main_c, val_main_c_0, val_main_c_1, val_main_c_2,
    val_main_c_3, val_main_c_4]
  have hi : i.val < 256 := i.isLt
  have hj : j.val < 768 := j.isLt
  have e : IntOp.subi (IntOp.addi 512#32 (BitVec.ofNat 32 i.val)) (BitVec.ofNat 32 j.val) = BitVec.ofNat 32 (1280 + i.val - j.val) - 768#32 := by
    apply BitVec.eq_of_toNat_eq
    simp only [IntOp.subi, IntOp.addi, BitVec.toNat_sub, BitVec.toNat_add, BitVec.toNat_ofNat]
    omega
  rw [e]
  refine (clipped ⟨1280 + i.val - j.val, by omega⟩).trans (congrArg _ ?_)
  show min (1280 + i.val - j.val - 640) 256 = min (640 + i.val - j.val) 256
  omega

open Cert.TilePlainIdeal in
/-- The entry that is gathered. -/
theorem gathered (R : FVec Ideal S16x257 .f32) (h : Fin 16) (i : Fin 256) (j : Fin 768) :
    Host.gather gather_S16x257_S256x768x1_S16x256x768_0_1_n_n_1_2_161 R (val_main_v17 (F := Ideal)) (ix3 h i j)
      = R (ix2 h ⟨min (640 + i.val - j.val) 256, by omega⟩) := by
  have e1 : gather_S16x257_S256x768x1_S16x256x768_0_1_n_n_1_2_161.start (ix3 h i j) (val_main_v17 (F := Ideal)) 1 = min (640 + i.val - j.val) 256 := by
    have q : gather_S16x257_S256x768x1_S16x256x768_0_1_n_n_1_2_161.siIdx (ix3 h i j) ⟨0, by decide⟩ = ix3 i j 0 := by
      funext b
      match b with
      | 0 => rfl
      | 1 => rfl
      | 2 => rfl
    have w : (BitVec.ofNat 32 (min (640 + i.val - j.val) 256)).toInt = (min (640 + i.val - j.val) 256 : ℕ) := by
      rw [BitVec.toInt_eq_toNat_of_lt (by rw [BitVec.toNat_ofNat]; omega), BitVec.toNat_ofNat, Nat.mod_eq_of_lt (by omega)]
    unfold GatherDims.start
    rw [dif_pos (by decide)]
    refine (congrArg (fun k => min (val_main_v17 (F := Ideal) k).toInt.toNat 256) q).trans ?_
    rw [word_at, w, Int.toNat_natCast]
    omega
  refine congrArg R (funext fun a => ?_)
  match a with
  | 0 => exact Fin.ext (Nat.zero_add h.val)
  | 1 =>
    have b : gather_S16x257_S256x768x1_S16x256x768_0_1_n_n_1_2_161.batchCoord (ix3 h i j) 1 = 0 := rfl
    have o : gather_S16x257_S256x768x1_S16x256x768_0_1_n_n_1_2_161.offCoord (ix3 h i j) 1 = 0 := rfl
    refine Fin.ext (Eq.trans (b := gather_S16x257_S256x768x1_S16x256x768_0_1_n_n_1_2_161.start (ix3 h i j) (val_main_v17 (F := Ideal)) 1
      + gather_S16x257_S256x768x1_S16x256x768_0_1_n_n_1_2_161.batchCoord (ix3 h i j) 1
      + gather_S16x257_S256x768x1_S16x256x768_0_1_n_n_1_2_161.offCoord (ix3 h i j) 1) rfl ?_)
    rw [e1, b, o]
    rfl

theorem ref (R : FVec Ideal S16x257 .f32) : val_main_v29 (F := Ideal) R = tile R := by
  funext y
  obtain ⟨h, i, j, rfl⟩ : ∃ (h : Fin 16) (i : Fin 256) (j : Fin 768), y = ix3 h i j := ⟨_, _, _, (ix3_eta y).symm⟩
  pointwise [val_main_v29, val_main_call3_v0, val_main_call3_v1, val_main_call3_v2, val_main_cst, tile, seen_word, val_main_v18, word_at]
  by_cases k : Sees i.val j.val
  · rw [if_pos k, if_pos k]
    refine Eq.trans (b := Host.gather Cert.TilePlainIdeal.gather_S16x257_S256x768x1_S16x256x768_0_1_n_n_1_2_161 R (val_main_v17 (F := Ideal)) (ix3 h i j)) rfl ?_
    exact gathered R h i j
  · rw [if_neg k, if_neg k]
    exact Cert.Reals.ofBits_neg_inf

/-- Where each window stands at grid point `t`. -/
theorem idx_val : ∀ t : Fin cfg0.N, win0_0.index t = ![t.val, 0, 0] ∧ win0_1.index t = ![t.val, 0, 0] :=
  (by decide +kernel : ∀ t : Fin grid0.N, _)

/-- The result after the whole grid. -/
theorem final (c : Dev nD) : (dats m 0 c).arrAt 1 (cfgs 0).N = tile (m ((c : Thread nD τ).loc main_arg0)) := by
  refine (dats m 0 c).arrAt_eq_of_covers 1 _ (by decide +kernel) fun t hf y => ?_
  have hN : t.val < 16 := N_0 ▸ t.isLt
  blk_simp
  rw [after0_1]
  unfold out0_1
  frame_out
  obtain ⟨h, i, j, rfl⟩ : ∃ (h : Fin 1) (i : Fin 256) (j : Fin 768), y = ix3 h i j := ⟨_, _, _, (ix3_eta y).symm⟩
  obtain rfl : h = 0 := Subsingleton.elim _ _
  have e : ((cfg0.win 1).blk t).view.emb (ix3 0 i j) = (ix3 ⟨t.val, hN⟩ i j : S16x256x768.Idx) := by
    blk_ext [idx_val t]
  have e0 : ∀ l : Fin 1024, iblk m c 0 t (ix3 0 0 l) = (V m c main_v6 : FVec Ideal S16x1x1024 .f32) (ix3 ⟨t.val, hN⟩ 0 l) := fun l => by
    blk_ext [iblk, idx_val t]
  refine (pay_at _ i j).trans (Eq.trans ?_ (congrArg (tile (m ((c : Thread nD τ).loc main_arg0))) e).symm)
  show _ = if Sees i.val j.val then _ else _
  by_cases k : Sees i.val j.val
  · rw [if_pos k, if_pos k, e0, row_read]
    refine congrArg (fun q => (m ((c : Thread nD τ).loc main_arg0) : FVec Ideal S16x257 .f32) (ix2 ⟨t.val, hN⟩ q)) (Fin.ext ?_)
    show (if (j.val + 1024 - i.val) % 1024 < 385 then 256 else if (j.val + 1024 - i.val) % 1024 < 641 then 640 - (j.val + 1024 - i.val) % 1024 else 256)
      = min (640 + i.val - j.val) 256
    have hi : i.val < 256 := i.isLt
    have hj : j.val < 768 := j.isLt
    unfold Sees at k
    split <;> [skip; split] <;> omega
  · rw [if_neg k, if_neg k]

end Cert.TileFwdIdeal.Hand

namespace Cert.TilePlainIdeal.Hand

open Cert.TilePlainIdeal Cert.TilePlainIdeal.Read

/-- The plain gather's run: its result is the last stage read at the argument. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29) = val_main_v29 (F := Ideal) (m ((c.tc : Thread nD τ).loc main_arg0))
      ∧ r.2.mem ((c.tc : Thread nD τ).loc main_arg0) = m ((c.tc : Thread nD τ).loc main_arg0) :=
  (θ_run defs _ _).mono (fun _ h c => ⟨(h c).1.trans (val_main_v29_eq _ _), (h c).2⟩) (Cert.TilePlainIdeal.Value.run m ρ)

end Cert.TilePlainIdeal.Hand

namespace Cert.TileFwdIdeal.Hand

set_option backward.isDefEq.respectTransparency.types false in
/-- The two programs give the same result. -/
theorem algebraic : algebraic_TileFwdIdeal_TilePlainIdeal := by
  pair_intro
  · run_from Cert.TileFwdIdeal.Gen.run_main m g
  · refine (θ_run Cert.TilePlainIdeal.defs _ _).mono (fun r h c => ?_) (Cert.TilePlainIdeal.Hand.reference_run m' g')
    obtain ⟨h0, hrest⟩ := h c
    rw [hagree c] at h0
    exact ⟨h0.trans ((ref _).trans (final m c).symm), hrest⟩

end Cert.TileFwdIdeal.Hand

end
-- ==== Proof.OutMulPair.lean ====
/- Hand-written, untrusted: a product with a residual, against the plain one. -/
module

public import proofs.«01_k».proof.Defs
public import proofs.«01_k».proof.Proof.Gen.OutMulIdeal.Value
public import proofs.«01_k».proof.Proof.Gen.OutPlainIdeal.Run
public import proofs.«01_k».proof.Proof.Gen.OutPlainIdeal.Read
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.OutMulIdeal.Hand

open Cert.OutMulIdeal Cert.OutMulIdeal.Gen Cert.OutPlainIdeal.Read

/-- The residual plus the product. -/
def out (a : FVec Ideal S4096x2048 .bf16) (w : FVec Ideal S2048x2048 .bf16) (r : FVec Ideal S4096x2048 .f32) :
    FVec Ideal S4096x2048 .f32 := fun i => r i + ∑ k : Fin 2048, a (ix2 (i 0) k) * w (ix2 k (i 1))

/-- Where each window stands at grid point `t`. -/
theorem idx_val : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

variable (m : (ℓ : Loc nD τ sig) → Buf (Elt Ideal) ℓ)

set_option maxHeartbeats 1600000 in
/-- The result after the whole grid. -/
theorem final (c : Dev nD) : (dats m 0 c).arrAt 3 (cfgs 0).N
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  pointwise [out]
  blk_point [iblk, V, idx_val t]

set_option backward.isDefEq.respectTransparency.types false in
/-- The two programs give the same result. -/
theorem algebraic : algebraic_OutMulIdeal_OutPlainIdeal := by
  pair_intro
  · run_from Cert.OutMulIdeal.Gen.run_main m g
  · run_from Cert.OutPlainIdeal.Value.run m' g'
    · rw [final m c]
      funext i
      pointwise [val_main_v3, val_main_v2, val_main_v1, val_main_v0, out]

end Cert.OutMulIdeal.Hand

end
-- ==== Proof.InMulPair.lean ====
/- Hand-written, untrusted: a product by blocks of columns, against the plain one. -/
module

public import proofs.«01_k».proof.Defs
public import proofs.«01_k».proof.Proof.Gen.InMulIdeal.Frame
public import proofs.«01_k».proof.Proof.Gen.InPlainIdeal.Run
public import proofs.«01_k».proof.Proof.Gen.InPlainIdeal.Read
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.InMulIdeal.Hand

open Cert.InMulIdeal Cert.InMulIdeal.Gen Cert.InPlainIdeal.Read

variable (m : (ℓ : Loc nD τ sig) → Buf (Elt Ideal) ℓ)

/-- The rows' products with the weight's columns. -/
def prod (a : FVec Ideal S4096x2048 .bf16) (w : FVec Ideal S2048x4096 .bf16) : FVec Ideal S4096x4096 .f32 := fun i =>
  ∑ k : Fin 2048, a (ix2 (i 0) k) * w (ix2 k (i 1))

/-- Where each window stands at grid point `t`. -/
theorem idx_val : ∀ t : Fin cfg0.N, win0_0.index t = ![t.val / 8, 0] ∧ win0_1.index t = ![t.val % 8, 0, 0]
    ∧ win0_2.index t = ![t.val / 8, t.val % 8] :=
  (by decide +kernel : ∀ t : Fin grid0.N, _)

/-- The result after the whole grid. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  pointwise [prod]
  blk_point [iblk, idx_val t]

set_option backward.isDefEq.respectTransparency.types false in
/-- The two programs give the same result. -/
theorem algebraic : algebraic_InMulIdeal_InPlainIdeal := by
  pair_intro
  · run_from Cert.InMulIdeal.Gen.run_main m g
  · run_from Cert.InPlainIdeal.Value.run m' g'
    · rw [final m c]
      funext i
      pointwise [val_main_v2, val_main_v1, val_main_v0, prod]

end Cert.InMulIdeal.Hand

end
-- ==== Proof.BackMulPair.lean ====
/- Hand-written, untrusted: a product's derivative in its left factor, against the plain derivative. -/
module

public import proofs.«01_k».proof.Defs
public import proofs.«01_k».proof.Proof.Gen.BackMulIdeal.Value
public import proofs.«01_k».proof.Proof.Gen.BackPlainIdeal.Run
public import proofs.«01_k».proof.Proof.Gen.BackPlainIdeal.Read
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.BackMulIdeal.Hand

open Cert.BackMulIdeal Cert.BackMulIdeal.Gen Cert.BackPlainIdeal.Read

variable (m : (ℓ : Loc nD τ sig) → Buf (Elt Ideal) ℓ)

/-- The rows' products with the weight's rows. -/
def back (a : FVec Ideal S4096x2048 .bf16) (w : FVec Ideal S2048x2048 .bf16) : FVec Ideal S4096x2048 .bf16 := fun i =>
  ∑ k : Fin 2048, a (ix2 (i 0) k) * w (ix2 (i 1) k)

/-- Where each window stands at grid point `t`. -/
theorem idx_val : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The result after the whole grid. -/
theorem final (c : Dev nD) : (dats m 0 c).arrAt 2 (cfgs 0).N
    = back (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  pointwise [back]
  blk_point [iblk, V, idx_val t]

set_option backward.isDefEq.respectTransparency.types false in
/-- The two programs give the same result. -/
theorem algebraic : algebraic_BackMulIdeal_BackPlainIdeal := by
  pair_intro
  · run_from Cert.BackMulIdeal.Gen.run_main m g
  · run_from Cert.BackPlainIdeal.Value.run m' g'
    · rw [final m c]
      funext i
      pointwise [val_main_v5, val_main_v4, val_main_v3, val_main_v1, back]

end Cert.BackMulIdeal.Hand

end
-- ==== Proof.ColumnsMulPair.lean ====
/- Hand-written, untrusted: a product's derivative in its left factor by blocks of columns, against the plain derivative. -/
module

public import proofs.«01_k».proof.Defs
public import proofs.«01_k».proof.Proof.Gen.ColumnsMulIdeal.Frame
public import proofs.«01_k».proof.Proof.Gen.ColumnsPlainIdeal.Run
public import proofs.«01_k».proof.Proof.Gen.ColumnsPlainIdeal.Read
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ColumnsMulIdeal.Hand

open Cert.ColumnsMulIdeal Cert.ColumnsMulIdeal.Gen Cert.ColumnsPlainIdeal.Read

variable (m : (ℓ : Loc nD τ sig) → Buf (Elt Ideal) ℓ)

/-- The rows' products with the weight's rows. -/
def back (a : FVec Ideal S4096x4096 .bf16) (w : FVec Ideal S2048x4096 .bf16) : FVec Ideal S4096x2048 .bf16 := fun i =>
  ∑ k : Fin 4096, a (ix2 (i 0) k) * w (ix2 (i 1) k)

/-- The same, block by block of columns. -/
theorem back_blocks (a : FVec Ideal S4096x4096 .bf16) (w : FVec Ideal S2048x4096 .bf16) (i : S4096x2048.Idx) :
    back a w i = ∑ j : Fin 8, ∑ k : Fin 512, a (ix2 (i 0) ⟨j.val * 512 + k.val, by omega⟩) * w (ix2 (i 1) ⟨j.val * 512 + k.val, by omega⟩) :=
  (Fin.sum_mul_add_fin 8 512 fun l : Fin 4096 => a (ix2 (i 0) l) * w (ix2 (i 1) l)).symm

/-- Where each window stands at grid point `t`. -/
theorem idx_val : ∀ t : Fin cfg0.N, win0_0.index t = ![t.val / 4, 0] ∧ win0_1.index t = ![0, t.val % 4, 0]
    ∧ win0_2.index t = ![t.val / 4, t.val % 4] :=
  (by decide +kernel : ∀ t : Fin grid0.N, _)

/-- The result after the whole grid. -/
theorem final (c : Dev nD) : (dats m 0 c).arrAt 2 (cfgs 0).N
    = back (m ((c : Thread nD τ).loc main_arg0)) (m ((c : Thread nD τ).loc main_arg1)) := by
  refine (dats m 0 c).arrAt_eq_of_covers 2 _ (by decide +kernel) fun t hf y => ?_
  blk_simp
  rw [after0_2, back_blocks, Fin.sum_univ_eight]
  unfold out0_2
  frame_out
  pointwise [k0_pay2, k0_pay1]
  blk_point [iblk, idx_val t]

set_option backward.isDefEq.respectTransparency.types false in
/-- The two programs give the same result. -/
theorem algebraic : algebraic_ColumnsMulIdeal_ColumnsPlainIdeal := by
  pair_intro
  · run_from Cert.ColumnsMulIdeal.Gen.run_main m g
  · run_from Cert.ColumnsPlainIdeal.Value.run m' g'
    · rw [final m c]
      funext i
      pointwise [val_main_v5, val_main_v4, val_main_v3, val_main_v1, back]

end Cert.ColumnsMulIdeal.Hand

end
-- ==== Proof.WeightMulPair.lean ====
/- Hand-written, untrusted: a product's derivative in its weight by blocks of columns, against the plain derivative. -/
module

public import proofs.«01_k».proof.Defs
public import proofs.«01_k».proof.Proof.Gen.WeightMulIdeal.Frame
public import proofs.«01_k».proof.Proof.Gen.WeightPlainIdeal.Run
public import proofs.«01_k».proof.Proof.Gen.WeightPlainIdeal.Read
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.WeightMulIdeal.Hand

open Cert.WeightMulIdeal Cert.WeightMulIdeal.Gen Cert.WeightPlainIdeal.Read

variable (m : (ℓ : Loc nD τ sig) → Buf (Elt Ideal) ℓ)

/-- The columns' products. -/
def weight (a : FVec Ideal S4096x2048 .bf16) (d : FVec Ideal S4096x4096 .bf16) : FVec Ideal S2048x4096 .bf16 := fun i =>
  ∑ k : Fin 4096, a (ix2 k (i 0)) * d (ix2 k (i 1))

/-- The same by blocks of the second factor's columns. -/
def stacked (a : FVec Ideal S4096x2048 .bf16) (d : FVec Ideal S4096x4096 .bf16) : FVec Ideal S8x2048x512 .bf16 := fun i =>
  weight a d (ix2 (i 1) ⟨512 * (i 0).val + (i 2).val, by have h0 : (i 0).val < 8 := (i 0).isLt; have h2 : (i 2).val < 512 := (i 2).isLt; omega⟩)

/-- Where each window stands at grid point `t`. -/
theorem idx_val : ∀ t : Fin cfg0.N, win0_0.index t = ![0, t.val / 8] ∧ win0_1.index t = ![0, t.val % 8]
    ∧ win0_2.index t = ![t.val % 8, t.val / 8, 0] :=
  (by decide +kernel : ∀ t : Fin grid0.N, _)

/-- The kernel's array after the whole grid. -/
theorem final (c : Dev nD) : (dats m 0 c).arrAt 2 (cfgs 0).N
    = stacked (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  pointwise [stacked, weight]
  blk_point [iblk, V, idx_val t]

/-- The result: the blocks side by side. -/
theorem tail_2 (c : Dev nD) : Pipeline.afterTail₀ cfgs (dats m) 0 (V0 m) [hostOps1] c main_v2
    = weight (m ((c : Thread nD τ).loc main_arg0)) (m ((c : Thread nD τ).loc main_arg1)) := by
  have key : ∀ A : FVec Ideal S8x2048x512 .bf16, A = stacked (m ((c : Thread nD τ).loc main_arg0)) (m ((c : Thread nD τ).loc main_arg1)) →
      shapeCast S2048x4096 (transpose S2048x8x512 [1, 0, 2] A transposes_S8x2048x512_S2048x8x512_1_0_2) shapeCasts_S2048x8x512_S2048x4096
        = weight (m ((c : Thread nD τ).loc main_arg0)) (m ((c : Thread nD τ).loc main_arg1)) := by
    rintro A rfl
    funext i
    pointwise [stacked]
    refine congrArg (weight _ _) ((congrArg (ix2 (i 0)) (Fin.ext ?_)).trans (eq_ix2 i).symm)
    show 512 * ((i 1).val / 512) + (i 1).val % 512 = (i 1).val
    omega
  unfold Pipeline.afterTail₀
  simp only [List.flatten_cons, List.flatten_nil, List.append_nil]
  after_reads_simp
  exact key _ ((Pipeline.withArrays_arr _ winFacts0.arr_inj c _ _ 2).trans (final m c))

/-- The plain derivative. -/
theorem ref_weight (a : FVec Ideal S4096x2048 .bf16) (d : FVec Ideal S4096x4096 .bf16) : val_main_v6 (F := Ideal) a d = weight a d := by
  funext i
  pointwise [val_main_v6, val_main_v5, val_main_v4, val_main_v3, val_main_v1, weight]
  exact Finset.sum_congr rfl fun k _ => mul_comm _ _

set_option backward.isDefEq.respectTransparency.types false in
/-- The two programs give the same result. -/
theorem algebraic : algebraic_WeightMulIdeal_WeightPlainIdeal := by
  pair_intro
  · run_from Cert.WeightMulIdeal.Gen.run_main m g
  · run_from Cert.WeightPlainIdeal.Value.run m' g'
    · rw [tail_2 m c]
      exact ref_weight _ _

end Cert.WeightMulIdeal.Hand

end
-- ==== Proof.DownMulPair.lean ====
/- Hand-written, untrusted: the down projection with its residual, against the plain one. -/
module

public import proofs.«01_k».proof.Defs
public import proofs.«01_k».proof.Proof.Gen.DownMulIdeal.Value
public import proofs.«01_k».proof.Proof.Gen.DownPlainIdeal.Run
public import proofs.«01_k».proof.Proof.Gen.DownPlainIdeal.Read
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.DownMulIdeal.Hand

open Cert.DownMulIdeal Cert.DownMulIdeal.Gen Cert.DownPlainIdeal.Read

variable (m : (ℓ : Loc nD τ sig) → Buf (Elt Ideal) ℓ)

/-- The residual plus half the product. -/
def down (a : FVec Ideal S4096x5632 .bf16) (w : FVec Ideal S5632x2048 .bf16) (h : FVec Ideal S4096x2048 .f32) :
    FVec Ideal S4096x2048 .f32 := fun i => h i + Ideal.ofBits .f32 0x3F000000#32 * ∑ k : Fin 5632, a (ix2 (i 0) k) * w (ix2 k (i 1))

/-- Where each window stands at grid point `t`. -/
theorem idx_val : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- The result after the whole grid. -/
theorem final (c : Dev nD) : (dats m 0 c).arrAt 3 (cfgs 0).N
    = down (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  pointwise [down]
  blk_point [iblk, V, idx_val t]

set_option backward.isDefEq.respectTransparency.types false in
/-- The two programs give the same result. -/
theorem algebraic : algebraic_DownMulIdeal_DownPlainIdeal := by
  pair_intro
  · run_from Cert.DownMulIdeal.Gen.run_main m g
  · run_from Cert.DownPlainIdeal.Value.run m' g'
    · rw [final m c]
      funext i
      pointwise [val_main_v5, val_main_v4, val_main_v3, val_main_cst, val_main_v2, val_main_v1, val_main_v0, down]

end Cert.DownMulIdeal.Hand

end
-- ==== Proof.HiddenMulPair.lean ====
/- Hand-written, untrusted: the down projection's derivative in its weight, against the plain derivative. -/
module

public import proofs.«01_k».proof.Defs
public import proofs.«01_k».proof.Proof.Reals
public import proofs.«01_k».proof.Proof.Gen.HiddenMulIdeal.Value
public import proofs.«01_k».proof.Proof.Gen.HiddenPlainIdeal.Run
public import proofs.«01_k».proof.Proof.Gen.HiddenPlainIdeal.Read
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.HiddenMulIdeal.Hand

open Cert.HiddenMulIdeal Cert.HiddenMulIdeal.Gen Cert.HiddenPlainIdeal.Read

variable (m : (ℓ : Loc nD τ sig) → Buf (Elt Ideal) ℓ)

open Cert.Reals

/-- The columns' products, halved. -/
def hidden (a : FVec Ideal S4096x5632 .bf16) (d : FVec Ideal S4096x2048 .bf16) : FVec Ideal S5632x2048 .bf16 := fun i =>
  (∑ k : Fin 4096, a (ix2 k (i 0)) * d (ix2 k (i 1))) * Ideal.ofBits .f32 0x3F000000#32

/-- One half goes into a sum. -/
theorem half_sum {n : ℕ} (f : Fin n → EReal) :
    (∑ k, f k) * Ideal.ofBits .f32 0x3F000000#32 = ∑ k, f k * Ideal.ofBits .f32 0x3F000000#32 := by
  rw [ofBits_half]
  induction (Finset.univ : Finset (Fin n)) using Finset.induction_on with
  | empty => simp
  | insert a s ha ih =>
    rw [Finset.sum_insert ha, Finset.sum_insert ha, ← ih, EReal.right_distrib_of_nonneg_of_ne_top (by norm_num) (EReal.coe_ne_top _)]

/-- Where each window stands at grid point `t`. -/
theorem idx_val : ∀ t : Fin cfg0.N, win0_0.index t = ![0, t.val / 4] ∧ win0_1.index t = ![0, t.val % 4]
    ∧ win0_2.index t = ![t.val / 4, t.val % 4] :=
  (by decide +kernel : ∀ t : Fin grid0.N, _)

/-- The result after the whole grid. -/
theorem final (c : Dev nD) : (dats m 0 c).arrAt 2 (cfgs 0).N
    = hidden (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  pointwise [hidden]
  blk_point [iblk, V, idx_val t]

/-- The plain derivative. -/
theorem ref_hidden (a : FVec Ideal S4096x5632 .bf16) (d : FVec Ideal S4096x2048 .bf16) : val_main_v10 (F := Ideal) a d = hidden a d := by
  funext i
  unfold hidden
  rw [half_sum]
  pointwise [val_main_v10, val_main_v9, val_main_v8, val_main_v7, val_main_v6, val_main_cst_1, val_main_v5, val_main_v1]
  refine Finset.sum_congr rfl fun k _ => ?_
  rw [mul_comm, mul_comm (Ideal.ofBits _ _), mul_assoc]

set_option backward.isDefEq.respectTransparency.types false in
/-- The two programs give the same result. -/
theorem algebraic : algebraic_HiddenMulIdeal_HiddenPlainIdeal := by
  pair_intro
  · run_from Cert.HiddenMulIdeal.Gen.run_main m g
  · run_from Cert.HiddenPlainIdeal.Value.run m' g'
    · rw [final m c]
      exact ref_hidden _ _

end Cert.HiddenMulIdeal.Hand

end
-- ==== Proof.IntoMulPair.lean ====
/- Hand-written, untrusted: the gate projection, against the plain one. -/
module

public import proofs.«01_k».proof.Defs
public import proofs.«01_k».proof.Proof.Gen.IntoMulIdeal.Frame
public import proofs.«01_k».proof.Proof.Gen.IntoPlainIdeal.Run
public import proofs.«01_k».proof.Proof.Gen.IntoPlainIdeal.Read
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.IntoMulIdeal.Hand

open Cert.IntoMulIdeal Cert.IntoMulIdeal.Gen Cert.IntoPlainIdeal.Read

variable (m : (ℓ : Loc nD τ sig) → Buf (Elt Ideal) ℓ)

/-- The rows' products with the weight's columns. -/
def into (a : FVec Ideal S4096x2048 .bf16) (w : FVec Ideal S2048x5632 .bf16) : FVec Ideal S4096x5632 .bf16 := fun i =>
  ∑ k : Fin 2048, a (ix2 (i 0) k) * w (ix2 k (i 1))

/-- The weight as the kernel reads it. -/
theorem turned (c : Dev nD) : V m c main_v0 = fun i => m ((c : Thread nD τ).loc main_arg1) (ix2 (i 1) (i 0)) := by
  funext i
  after_reads_simp
  pointwise []

/-- Where each window stands at grid point `t`. -/
theorem idx_val : ∀ t : Fin cfg0.N, win0_0.index t = ![t.val / 4, 0] ∧ win0_1.index t = ![t.val % 4, 0]
    ∧ win0_2.index t = ![t.val / 4, t.val % 4] :=
  (by decide +kernel : ∀ t : Fin grid0.N, _)

/-- The result after the whole grid. -/
theorem final (c : Dev nD) : (dats m 0 c).arrAt 2 (cfgs 0).N
    = into (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  pointwise [into]
  blk_point [iblk, idx_val t]

set_option backward.isDefEq.respectTransparency.types false in
/-- The two programs give the same result. -/
theorem algebraic : algebraic_IntoMulIdeal_IntoPlainIdeal := by
  pair_intro
  · run_from Cert.IntoMulIdeal.Gen.run_main m g
  · run_from Cert.IntoPlainIdeal.Value.run m' g'
    · rw [final m c]
      funext i
      pointwise [val_main_v3, val_main_v2, val_main_v1, val_main_v0, into]

end Cert.IntoMulIdeal.Hand

end
-- ==== Proof.AdamStepPair.lean ====
/- Hand-written, untrusted: the optimiser's step with the sum of the devices' gradients, against the plain one. -/
module

public import proofs.«01_k».proof.Defs
public import proofs.«01_k».proof.Proof.Gen.AdamStepIdeal.Value
public import proofs.«01_k».proof.Proof.Gen.AdamPlainIdeal.Run
public import proofs.«01_k».proof.Proof.Gen.AdamPlainIdeal.Read
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AdamStepIdeal.Hand

open Cert.AdamStepIdeal Cert.AdamStepIdeal.Gen Cert.AdamPlainIdeal.Read

variable (m : (ℓ : Loc nD τ sig) → Buf (Elt Ideal) ℓ)

/-- The sum of the devices' gradients. -/
def total (p : FVec Ideal S8x704x2048 .bf16) : FVec Ideal S704x2048 .f32 := fun i => ∑ d : Fin 8, p (ix3 d (i 0) (i 1))

/-- The mean of the gradient. -/
def first (p : FVec Ideal S8x704x2048 .bf16) (s : FVec Ideal S704x2048 .f32) : FVec Ideal S704x2048 .f32 := fun i =>
  Ideal.ofBits .f32 0x3F666666#32 * s i + Ideal.ofBits .f32 0x3DCCCCCD#32 * total p i

/-- The mean of its square. -/
def second (p : FVec Ideal S8x704x2048 .bf16) (s : FVec Ideal S704x2048 .f32) : FVec Ideal S704x2048 .f32 := fun i =>
  Ideal.ofBits .f32 0x3F7FBE77#32 * s i + Ideal.ofBits .f32 0x3A83126F#32 * (total p i * total p i)

/-- The step. -/
def step (p : FVec Ideal S8x704x2048 .bf16) (w s v : FVec Ideal S704x2048 .f32) : FVec Ideal S704x2048 .f32 := fun i =>
  Ideal.ofBits .f32 0xBA83126F#32 * (Ideal.div (Ideal.div (first p s i) (Ideal.ofBits .f32 0x3F26BD02#32))
    (Ideal.sqrt (Ideal.div (second p v i) (Ideal.ofBits .f32 0x3C231ACC#32)) + Ideal.ofBits .f32 0x322BCC77#32)
      + Ideal.ofBits .f32 0x3C23D70A#32 * w i)

/-- Where each window stands at grid point `t`. -/
theorem idx_val : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The gradient after the whole grid. -/
theorem final_4 (c : Dev nD) : (dats m 0 c).arrAt 4 (cfgs 0).N = total (m ((c : Thread nD τ).loc main_arg0)) := by
  refine (dats m 0 c).arrAt_eq_of_covers 4 _ (by decide +kernel) fun t hf y => ?_
  blk_simp
  rw [after0_4]
  unfold out0_4
  frame_out
  unfold total
  rw [Fin.sum_univ_eight]
  pointwise [k0_pay4, k0_pay5]
  blk_point [iblk, V, idx_val t]

set_option maxHeartbeats 1600000 in
/-- The step after the whole grid. -/
theorem final_5 (c : Dev nD) : (dats m 0 c).arrAt 5 (cfgs 0).N
    = step (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]
  unfold out0_5
  frame_out
  unfold step first second total
  rw [Fin.sum_univ_eight]
  pointwise [k0_pay1, k0_pay2, k0_pay3, k0_pay4, k0_pay5]
  blk_point [iblk, V, idx_val t]

set_option maxHeartbeats 1600000 in
/-- The mean after the whole grid. -/
theorem final_6 (c : Dev nD) : (dats m 0 c).arrAt 6 (cfgs 0).N
    = first (m ((c : Thread nD τ).loc main_arg0)) (m ((c : Thread nD τ).loc main_arg2)) := by
  refine (dats m 0 c).arrAt_eq_of_covers 6 _ (by decide +kernel) fun t hf y => ?_
  blk_simp
  rw [after0_6]
  unfold out0_6
  frame_out
  unfold first total
  rw [Fin.sum_univ_eight]
  pointwise [k0_pay1, k0_pay4, k0_pay5]
  blk_point [iblk, V, idx_val t]

set_option maxHeartbeats 1600000 in
/-- The mean of the square after the whole grid. -/
theorem final_7 (c : Dev nD) : (dats m 0 c).arrAt 7 (cfgs 0).N
    = second (m ((c : Thread nD τ).loc main_arg0)) (m ((c : Thread nD τ).loc main_arg3)) := by
  refine (dats m 0 c).arrAt_eq_of_covers 7 _ (by decide +kernel) fun t hf y => ?_
  blk_simp
  rw [after0_7]
  unfold out0_7
  frame_out
  unfold second total
  rw [Fin.sum_univ_eight]
  pointwise [k0_pay2, k0_pay4, k0_pay5]
  blk_point [iblk, V, idx_val t]

/-- The plain sum. -/
theorem ref_total (p : FVec Ideal S8x704x2048 .bf16) : val_main_v1 (F := Ideal) p = total p := by
  funext i
  pointwise [val_main_v1, val_main_cst, val_main_v0, total]

theorem ref_first (p : FVec Ideal S8x704x2048 .bf16) (s : FVec Ideal S704x2048 .f32) : val_main_v6 (F := Ideal) p s = first p s := by
  funext i
  unfold first
  rw [← ref_total]
  pointwise [val_main_v6, val_main_v5, val_main_v4, val_main_cst_1, val_main_v3, val_main_v2, val_main_cst_0]

theorem ref_second (p : FVec Ideal S8x704x2048 .bf16) (s : FVec Ideal S704x2048 .f32) : val_main_v12 (F := Ideal) p s = second p s := by
  funext i
  unfold second
  rw [← ref_total]
  pointwise [val_main_v12, val_main_v11, val_main_v10, val_main_cst_3, val_main_v9, val_main_v8, val_main_v7, val_main_cst_2]

theorem ref_step (p : FVec Ideal S8x704x2048 .bf16) (w s v : FVec Ideal S704x2048 .f32) :
    val_main_v25 (F := Ideal) p w s v = step p w s v := by
  funext i
  unfold step
  rw [← ref_first, ← ref_second]
  pointwise [val_main_v25, val_main_v24, val_main_cst_8, val_main_v23, val_main_v22, val_main_v21, val_main_cst_7, val_main_v20,
    val_main_v19, val_main_v18, val_main_cst_6, val_main_v17, val_main_v16, val_main_v15, val_main_cst_5, val_main_v14, val_main_v13, val_main_cst_4]

/-- What the kernel's run leaves in its results. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v0_0) = total (m ((c.tc : Thread nD τ).loc main_arg0))
      ∧ r.2.mem ((c.tc : Thread nD τ).loc main_v0_1) = step (m ((c.tc : Thread nD τ).loc main_arg0)) (m ((c.tc : Thread nD τ).loc main_arg1)) (m ((c.tc : Thread nD τ).loc main_arg2))
          (m ((c.tc : Thread nD τ).loc main_arg3))
      ∧ r.2.mem ((c.tc : Thread nD τ).loc main_v0_2) = first (m ((c.tc : Thread nD τ).loc main_arg0)) (m ((c.tc : Thread nD τ).loc main_arg2))
      ∧ r.2.mem ((c.tc : Thread nD τ).loc main_v0_3) = second (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_4 m c), (h c).2.1.trans (final_5 m c), (h c).2.2.1.trans (final_6 m c),
    (h c).2.2.2.1.trans (final_7 m c), (h c).2.2.2.2⟩) (Cert.AdamStepIdeal.Value.run_blocks m g)

end Cert.AdamStepIdeal.Hand

namespace Cert.AdamPlainIdeal.Hand

open Cert.AdamPlainIdeal Cert.AdamPlainIdeal.Read

/-- The plain step's run: its results are the stages read at the arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = val_main_v1 (F := Ideal) (m ((c.tc : Thread nD τ).loc main_arg0))
      ∧ r.2.mem ((c.tc : Thread nD τ).loc main_v25) = val_main_v25 (F := Ideal) (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v6) = val_main_v6 (F := Ideal) (m ((c.tc : Thread nD τ).loc main_arg0)) (m ((c.tc : Thread nD τ).loc main_arg2))
      ∧ r.2.mem ((c.tc : Thread nD τ).loc main_v12) = val_main_v12 (F := Ideal) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v1_eq _), (h c).2.1.trans (val_main_v25_eq _ _ _ _),
    (h c).2.2.1.trans (val_main_v6_eq _ _), (h c).2.2.2.1.trans (val_main_v12_eq _ _), (h c).2.2.2.2⟩) (Cert.AdamPlainIdeal.Value.run m ρ)

end Cert.AdamPlainIdeal.Hand

namespace Cert.AdamStepIdeal.Hand

set_option backward.isDefEq.respectTransparency.types false in
/-- The two programs give the same results. -/
theorem algebraic : algebraic_AdamStepIdeal_AdamPlainIdeal := by
  intro m g m' g' hpre hargs
  refine ⟨_, _, _, _, kernel_run m g, ?_⟩
  refine (θ_run Cert.AdamPlainIdeal.defs _ _).mono (fun r h c => ?_) (Cert.AdamPlainIdeal.Hand.reference_run m' g')
  obtain ⟨h0, h1, h2, h3, hrest⟩ := h c
  obtain ⟨a0, a1, a2, a3⟩ := hargs c
  rw [a0, a1, a2, a3] at h1
  rw [a0] at h0
  rw [a0, a2] at h2
  rw [a0, a3] at h3
  exact ⟨h0.trans (ref_total _), h1.trans (ref_step _ _ _ _), h2.trans (ref_first _ _), h3.trans (ref_second _ _), hrest⟩

end Cert.AdamStepIdeal.Hand

end
-- ==== Proof.UpFwdIdealFrame.lean ====
/- Hand-written, untrusted: the frame of the second gate's forward call (idealized). The normalised rows are stored at the
   first block of columns of a row tile and written back at its last, so every point states that they are still there. -/
module

public import proofs.«01_k».proof.Proof.Gen.UpFwdIdeal.Frame
public import proofs.«01_k».proof.Proof.Gen.UpFwdIdeal.Skeleton
public import Idealize.ShloMosaic.Lib.VecWindow
public import Idealize.ShloMosaic.Lib.Pipeline.ValueKit

@[expose] public section

set_option maxRecDepth 16384

noncomputable section

namespace Cert.UpFwdIdeal.Hand

open Cert.UpFwdIdeal Cert.UpFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

section body

variable (c : Dev nD) (i : grid0.Coords)
  (a2 : Memref sig .tc .vmem S512x2048 .f32) (h2 : a2.IsWhole) (a3 : Memref sig .tc .vmem S1x2048 .f32) (h3 : a3.IsWhole)
  (a4 : Memref sig .tc .vmem S1408x2048 .bf16) (h4 : a4.IsWhole) (a5 : Memref sig .tc .vmem S1408x2048 .bf16) (h5 : a5.IsWhole)
  (a6 : Memref sig .tc .vmem S512x2048 .bf16) (h6 : a6.IsWhole) (a7 : Memref sig .tc .vmem S512x1408 .bf16) (h7 : a7.IsWhole)
  (a8 : Memref sig .tc .vmem S512x1408 .bf16) (h8 : a8.IsWhole) (a9 : Memref sig .tc .vmem S512x1408 .bf16) (h9 : a9.IsWhole)
  (a10 : Memref sig .tc .vmem S512x2048 .bf16) (h10 : a10.IsWhole)
  (x : Vec F S512x2048 .f32) (g : Vec F S1x2048 .f32) (w u : Vec F S1408x2048 .bf16) (n s : Vec F S512x2048 .bf16)

/-- The body where the column block is not the first: three products of the kept rows, the rows and their copy left alone. -/
theorem later (hc : ¬ k0_cond1 i = 1#1) (E : Set ℕ) (K : PUnit → sProp 𝕄) :
    iprop(owns (c : Thread nD τ) a2 fullShare x ∗ owns (c : Thread nD τ) a3 fullShare g ∗ owns (c : Thread nD τ) a4 fullShare w
      ∗ owns (c : Thread nD τ) a5 fullShare u ∗ owns (c : Thread nD τ) a6 fullShare n
      ∗ (∃ d, owns (c : Thread nD τ) a7 fullShare d) ∗ (∃ d, owns (c : Thread nD τ) a8 fullShare d)
      ∗ (∃ d, owns (c : Thread nD τ) a9 fullShare d) ∗ owns (c : Thread nD τ) a10 fullShare s
      ∗ (iprop(owns (c : Thread nD τ) a2 fullShare x ∗ owns (c : Thread nD τ) a3 fullShare g ∗ owns (c : Thread nD τ) a4 fullShare w
        ∗ owns (c : Thread nD τ) a5 fullShare u ∗ owns (c : Thread nD τ) a6 fullShare n
        ∗ owns (c : Thread nD τ) a7 fullShare (k0_pay5 s w) ∗ owns (c : Thread nD τ) a8 fullShare (k0_pay6 s u)
        ∗ owns (c : Thread nD τ) a9 fullShare (k0_pay7 s w u) ∗ owns (c : Thread nD τ) a10 fullShare s) -∗ K ⟨⟩))
      ⊢ wp frame (wpE (defs₀ (F := F)) Variants.none c none) E
        (cc0_ffn2_up i a2 h2 a3 h3 a4 h4 a5 h5 a6 h6 a7 h7 a8 h8 a9 h9 a10 h10) K := by
  simp only [cc0_ffn2_up_eq_skeleton]; unfold cc0_ffn2_up_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%f10, %e10, H10⟩, Hk⟩
  obtain rfl := h2.eq_unread e2; obtain rfl := h3.eq_unread e3; obtain rfl := h4.eq_unread e4
  obtain rfl := h5.eq_unread e5; obtain rfl := h10.eq_unread e10
  sl_exec (disch := first | sl_exact hc)
  sl_step
  iapply Hk
  isplitl [H2]
  · iexists _; isplitr
    · ipureintro; exact h2.read_unread _
    iexact H2
  isplitl [H3]
  · iexists _; isplitr
    · ipureintro; exact h3.read_unread _
    iexact H3
  isplitl [H4]
  · iexists _; isplitr
    · ipureintro; exact h4.read_unread _
    iexact H4
  isplitl [H5]
  · iexists _; isplitr
    · ipureintro; exact h5.read_unread _
    iexact H5
  isplitl [H6]
  · iexists _; isplitr
    · ipureintro; exact e6
    iexact H6
  isplitl [H7]
  · iexists _; isplitr
    swap; · iexact H7
    ipureintro; rw [View.read_writes_full]; repeat rw [View.readAt_full, Memref.IsWhole.read_unread]
  isplitl [H8]
  · iexists _; isplitr
    swap; · iexact H8
    ipureintro; rw [View.read_writes_full]; repeat rw [View.readAt_full, Memref.IsWhole.read_unread]
  isplitl [H9]
  · iexists _; isplitr
    swap; · iexact H9
    ipureintro; rw [View.read_writes_full]; repeat rw [View.readAt_full, Memref.IsWhole.read_unread]
  iexists _; isplitr
  · ipureintro; exact h10.read_unread _
  iexact H10

/-- The body at the first column block: the rows normalised, kept and copied out, and the same three products of them. -/
theorem first (hc : k0_cond1 i = 1#1) (E : Set ℕ) (K : PUnit → sProp 𝕄) :
    iprop(owns (c : Thread nD τ) a2 fullShare x ∗ owns (c : Thread nD τ) a3 fullShare g ∗ owns (c : Thread nD τ) a4 fullShare w
      ∗ owns (c : Thread nD τ) a5 fullShare u ∗ (∃ d, owns (c : Thread nD τ) a6 fullShare d)
      ∗ (∃ d, owns (c : Thread nD τ) a7 fullShare d) ∗ (∃ d, owns (c : Thread nD τ) a8 fullShare d)
      ∗ (∃ d, owns (c : Thread nD τ) a9 fullShare d) ∗ (∃ d, owns (c : Thread nD τ) a10 fullShare d)
      ∗ (iprop(owns (c : Thread nD τ) a2 fullShare x ∗ owns (c : Thread nD τ) a3 fullShare g ∗ owns (c : Thread nD τ) a4 fullShare w
        ∗ owns (c : Thread nD τ) a5 fullShare u ∗ owns (c : Thread nD τ) a6 fullShare (k0_pay1 x g)
        ∗ owns (c : Thread nD τ) a7 fullShare (k0_pay5 (k0_pay2 x g) w) ∗ owns (c : Thread nD τ) a8 fullShare (k0_pay6 (k0_pay2 x g) u)
        ∗ owns (c : Thread nD τ) a9 fullShare (k0_pay7 (k0_pay2 x g) w u) ∗ owns (c : Thread nD τ) a10 fullShare (k0_pay2 x g)) -∗ K ⟨⟩))
      ⊢ wp frame (wpE (defs₀ (F := F)) Variants.none c none) E
        (cc0_ffn2_up i a2 h2 a3 h3 a4 h4 a5 h5 a6 h6 a7 h7 a8 h8 a9 h9 a10 h10) K := by
  simp only [cc0_ffn2_up_eq_skeleton]; unfold cc0_ffn2_up_skel
  unfold owns
  iintro ⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, ⟨%d10, %f10, -, H10⟩, Hk⟩
  obtain rfl := h2.eq_unread e2; obtain rfl := h3.eq_unread e3; obtain rfl := h4.eq_unread e4; obtain rfl := h5.eq_unread e5
  sl_exec (disch := first | sl_exact hc)
  sl_step
  iapply Hk
  isplitl [H2]
  · iexists _; isplitr
    · ipureintro; exact h2.read_unread _
    iexact H2
  isplitl [H3]
  · iexists _; isplitr
    · ipureintro; exact h3.read_unread _
    iexact H3
  isplitl [H4]
  · iexists _; isplitr
    · ipureintro; exact h4.read_unread _
    iexact H4
  isplitl [H5]
  · iexists _; isplitr
    · ipureintro; exact h5.read_unread _
    iexact H5
  isplitl [H6]
  · iexists _; isplitr
    swap; · iexact H6
    ipureintro; (try delta first.sl.v3); (try delta first.sl.H10_1); rw [View.read_writes_full]; (try rw [View.readCov_full]); repeat rw [View.readAt_full, Memref.IsWhole.read_unread]
  isplitl [H7]
  · iexists _; isplitr
    swap; · iexact H7
    ipureintro; (try delta first.sl.v3); (try delta first.sl.H10_1); rw [View.read_writes_full]; (try rw [View.readCov_full]); repeat rw [View.readAt_full, Memref.IsWhole.read_unread]
  isplitl [H8]
  · iexists _; isplitr
    swap; · iexact H8
    ipureintro; (try delta first.sl.v3); (try delta first.sl.H10_1); rw [View.read_writes_full]; (try rw [View.readCov_full]); repeat rw [View.readAt_full, Memref.IsWhole.read_unread]
  isplitl [H9]
  · iexists _; isplitr
    swap; · iexact H9
    ipureintro; (try delta first.sl.v3); (try delta first.sl.H10_1); rw [View.read_writes_full]; (try rw [View.readCov_full]); repeat rw [View.readAt_full, Memref.IsWhole.read_unread]
  iexists _; isplitr
  swap; · iexact H10
  ipureintro; (try delta first.sl.v3); (try delta first.sl.H10_1); rw [View.read_writes_full]; (try rw [View.readCov_full]); repeat rw [View.readAt_full, Memref.IsWhole.read_unread]

end body

variable (m : (ℓ : Loc nD τ sig) → Buf (Elt F) ℓ) (ρ : Dev nD → PrngReg)

/-- The normalised rows of point `t`'s row tile, -/
def rows (c : Dev nD) (t : Fin cfg0.N) : Vec F S512x2048 .bf16 := k0_pay1 (iblk m c 0 t) (iblk m c 1 t)

/-- and as the scratch buffer keeps them. -/
def kept (c : Dev nD) (t : Fin cfg0.N) : Vec F S512x2048 .bf16 := k0_pay2 (iblk m c 0 t) (iblk m c 1 t)

/-- The body stores the rows at the first of a row tile's four points. -/
theorem cond_iff : ∀ t : Fin cfg0.N, k0_cond1 (grid0.coords t) = 1#1 ↔ t.val % 4 = 0 :=
  (by decide +kernel : ∀ t : Fin grid0.N, _)

/-- The point before. -/
abbrev prev (t : Fin cfg0.N) : Fin cfg0.N := ⟨t.val - 1, Nat.lt_of_le_of_lt (Nat.sub_le _ _) t.isLt⟩

/-- Within a row tile neither the rows' block nor the gain's moves. -/
theorem still : ∀ t : Fin cfg0.N, t.val % 4 ≠ 0 → (cfg0.win 0).index t = (cfg0.win 0).index (prev t)
    ∧ (cfg0.win 1).index t = (cfg0.win 1).index (prev t) :=
  (by decide +kernel : ∀ t : Fin grid0.N, t.val % 4 ≠ 0 → win0_0.index t = win0_0.index ⟨t.val - 1, Nat.lt_of_le_of_lt (Nat.sub_le _ _) t.isLt⟩
    ∧ win0_1.index t = win0_1.index ⟨t.val - 1, Nat.lt_of_le_of_lt (Nat.sub_le _ _) t.isLt⟩)

/-- What holds before the `n`-th point: the scratch buffer at the rows the point before left there. -/
def inv (c : Dev nD) : (n : ℕ) → n ≤ cfg0.N → sProp 𝕄
  | 0, _ => Pipeline.ΦA spec0 c
  | n + 1, h => iprop(owns (c : Thread nD τ) (Memref.whole cc0_scratch0) fullShare (kept m c ⟨n, h⟩) ∗ (∃ r, prngReg c r))

/-- What the pipeline's buffers hold after each point: the inputs their blocks, the first output its tile's rows at
    every point of the tile, the others their products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rows m c t
    | ⟨5, _⟩ => k0_pay5 (kept m c t) (iblk m c 2 t)
    | ⟨6, _⟩ => k0_pay6 (kept m c t) (iblk m c 3 t)
    | ⟨7, _⟩ => k0_pay7 (kept m c t) (iblk m c 2 t) (iblk m c 3 t)
  Φ t := inv m c t.val (Nat.le_of_lt_succ t.isLt)
  q _ := fullShare
  owed _ := 0

theorem arrays (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = rows m c t := by dsimp only [dats]
theorem after_5 (c : Dev nD) (t : Fin cfg0.N) : (dats m 0 c).after 5 t = k0_pay5 (kept m c t) (iblk m c 2 t) := by dsimp only [dats]
theorem after_6 (c : Dev nD) (t : Fin cfg0.N) : (dats m 0 c).after 6 t = k0_pay6 (kept m c t) (iblk m c 3 t) := by dsimp only [dats]
theorem after_7 (c : Dev nD) (t : Fin cfg0.N) :
    (dats m 0 c).after 7 t = k0_pay7 (kept m c t) (iblk m c 2 t) (iblk m c 3 t) := by dsimp only [dats]

theorem before_0 (c : Dev nD) (t : Fin cfg0.N) (d) : (dats m 0 c).before 0 t d = iblk m c 0 t :=
  before0_0_of m _ (arrays m c 0) (after_0 m c) t d
theorem before_1 (c : Dev nD) (t : Fin cfg0.N) (d) : (dats m 0 c).before 1 t d = iblk m c 1 t :=
  before0_1_of m _ (arrays m c 1) (after_1 m c) t d
theorem before_2 (c : Dev nD) (t : Fin cfg0.N) (d) : (dats m 0 c).before 2 t d = iblk m c 2 t :=
  before0_2_of m _ (arrays m c 2) (after_2 m c) t d
theorem before_3 (c : Dev nD) (t : Fin cfg0.N) (d) : (dats m 0 c).before 3 t d = iblk m c 3 t :=
  before0_3_of m _ (arrays m c 3) (after_3 m c) t d

/-- The rows' block within a tile, -/
theorem block_0 (c : Dev nD) (t : Fin cfg0.N) (h : t.val % 4 ≠ 0) : iblk m c 0 t = iblk m c 0 (prev t) :=
  (dats m 0 c).fetched_congr 0 (still t h).1 rfl (iblk m c 0 t)

/-- and the gain's. -/
theorem block_1 (c : Dev nD) (t : Fin cfg0.N) (h : t.val % 4 ≠ 0) : iblk m c 1 t = iblk m c 1 (prev t) :=
  (dats m 0 c).fetched_congr 1 (still t h).2 rfl (iblk m c 1 t)

theorem rows_still (c : Dev nD) (t : Fin cfg0.N) (h : t.val % 4 ≠ 0) : rows m c (prev t) = rows m c t := by
  unfold rows; rw [block_0 m c t h, block_1 m c t h]

theorem kept_still (c : Dev nD) (t : Fin cfg0.N) (h : t.val % 4 ≠ 0) : kept m c (prev t) = kept m c t := by
  unfold kept; rw [block_0 m c t h, block_1 m c t h]

theorem live_4 (t : Fin cfg0.N) (h : t.val % 4 = 0) : cfg0.idle 4 (grid0.coords t) = false := by
  show (!(k0_cond1 (grid0.coords t) == 1#1)) = false
  rw [(cond_iff t).2 h]; rfl

theorem idle_4 (t : Fin cfg0.N) (h : t.val % 4 ≠ 0) : cfg0.idle 4 (grid0.coords t) = true := by
  show (!(k0_cond1 (grid0.coords t) == 1#1)) = true
  rw [beq_eq_false_iff_ne.2 fun e => h ((cond_iff t).1 e)]; rfl

theorem flush_4 (t : Fin cfg0.N) (h : t.val % 4 ≠ 3) : (cfg0.win 4).flush t = false :=
  Bool.eq_false_iff.2 fun e => h ((flush0_4 t).1 e)

/-- After a tile's first point the first output's buffer still holds the tile's rows. -/
theorem before_4 (c : Dev nD) (n : ℕ) : ∀ (t : Fin cfg0.N), t.val = n → t.val % 4 ≠ 0 → ∀ d, (dats m 0 c).before 4 t d = rows m c t := by
  induction n with
  | zero => intro t e h; exact absurd (by rw [e]) h
  | succ n ih =>
    intro t e h d
    rw [(dats m 0 c).before_of_pos 4 t (by omega) rfl d, flush_4 (prev t) (by show (t.val - 1) % 4 ≠ 3; omega), if_neg Bool.false_ne_true]
    refine Eq.trans ?_ (rows_still m c t h)
    unfold Dat.left
    by_cases h' : (prev t).val % 4 = 0
    · rw [live_4 (prev t) h']
      exact (show (dats m 0 c).kept 4 (prev t) d = (dats m 0 c).after 4 (prev t) from rfl).trans (after_4 m c _)
    · rw [idle_4 (prev t) h']
      exact ih (prev t) (by show t.val - 1 = n; omega) h' d

/-- The class's invariant, the scratch buffer named. -/
theorem scratch_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- At any point the scratch buffer holds something. -/
theorem inv_any (c : Dev nD) : ∀ (n : ℕ) (h : n ≤ cfg0.N), inv m c n h
    ⊢ iprop((∃ d, owns (c : Thread nD τ) (Memref.whole cc0_scratch0) fullShare d) ∗ (∃ r, prngReg c r))
  | 0, _ => by rw [← scratch_eq]; exact Entails.refl _
  | n + 1, h => by
    unfold inv
    iintro ⟨Hs, Hg⟩
    isplitl [Hs]
    · iexists _; iexact Hs
    iexact Hg

/-- Within a tile it holds the tile's rows. -/
theorem inv_kept (c : Dev nD) : ∀ (n : ℕ) (h : n < cfg0.N), n % 4 ≠ 0 → inv m c n h.le
    = iprop(owns (c : Thread nD τ) (Memref.whole cc0_scratch0) fullShare (kept m c ⟨n, h⟩) ∗ (∃ r, prngReg c r))
  | 0, _, h0 => absurd rfl h0
  | n + 1, h, h0 => by rw [← kept_still m c ⟨n + 1, h⟩ h0]; rfl

/-- What the body is handed at point `t`, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it hands back. -/
def given (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- The first output's buffer at its tile's rows is what every point has to leave there. -/
theorem leaves_4 (c : Dev nD) (t : Fin cfg0.N) :
    owns (c : Thread nD τ) (st0_4 t) fullShare (rows m c t) ⊢ ((dats m 0 c).leavesExact 4 t : sProp 𝕄) := by
  unfold Dat.leavesExact
  by_cases h : t.val % 4 = 0
  · rw [live_4 t h, after_4]
  · rw [idle_4 t h]
    cases hf : (cfg0.win 4).flush t
    · dsimp only
      iintro H
      iexists (rows m c t)
      rw [before_4 m c t.val t rfl h]
      iexact H
    · dsimp only
      rw [after_4]

set_option maxHeartbeats 800000 in
/-- The body at any point. -/
theorem sound (c : Dev nD) (t : Fin cfg0.N) :
    handed m c t ⊢ wp frame (wpE (defs₀ (F := F)) Variants.none c none) Set.univ (bodyAt0 t) (fun _ => given m c t) := by
  unfold handed given bodyAt0
  simp only [before_0, before_1, before_2, before_3]
  rw [show (dats m 0 c).owesAt () t.succ = (dats m 0 c).owesAt () t.castSucc from rfl,
    show (dats m 0 c).Φ t.succ = iprop(owns (c : Thread nD τ) (Memref.whole cc0_scratch0) fullShare (kept m c t) ∗ (∃ r, prngReg c r)) from rfl,
    show (dats m 0 c).Φ t.castSucc = inv m c t.val t.isLt.le from by dsimp only [dats]; exact Pipeline.Dat.Φ_castSucc (inv m c) t,
    show (dats m 0 c).leavesExact 0 t = owns (c : Thread nD τ) (st0_0 t) fullShare (iblk m c 0 t) from by rw [← after_0],
    show (dats m 0 c).leavesExact 1 t = owns (c : Thread nD τ) (st0_1 t) fullShare (iblk m c 1 t) from by rw [← after_1],
    show (dats m 0 c).leavesExact 2 t = owns (c : Thread nD τ) (st0_2 t) fullShare (iblk m c 2 t) from by rw [← after_2],
    show (dats m 0 c).leavesExact 3 t = owns (c : Thread nD τ) (st0_3 t) fullShare (iblk m c 3 t) from by rw [← after_3],
    show (dats m 0 c).leavesExact 5 t = owns (c : Thread nD τ) (st0_5 t) fullShare (k0_pay5 (kept m c t) (iblk m c 2 t)) from by rw [← after_5],
    show (dats m 0 c).leavesExact 6 t = owns (c : Thread nD τ) (st0_6 t) fullShare (k0_pay6 (kept m c t) (iblk m c 3 t)) from by rw [← after_6],
    show (dats m 0 c).leavesExact 7 t = owns (c : Thread nD τ) (st0_7 t) fullShare (k0_pay7 (kept m c t) (iblk m c 2 t) (iblk m c 3 t)) from by rw [← after_7]]
  by_cases h : t.val % 4 = 0
  · refine (sep_mono_left (inv_any m c t.val t.isLt.le)).trans ?_
    iintro ⟨⟨Hs, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (first c (grid0.coords t) _ _ _ _ _ _ _ _ _ _ _ _ _ _ _ _ _ _ (iblk m c 0 t) (iblk m c 1 t) (iblk m c 2 t) (iblk m c 3 t) ((cond_iff t).2 h) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [Hs]; · iexact Hs
    iintro ⟨H0, H1, H2, H3, H4, H5, H6, H7, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iapply (leaves_4 m c t); iexact H4
    isplitl [H5]; · iexact H5
    isplitl [H6]; · iexact H6
    iexact H7
  · rw [inv_kept m c t.val t.isLt h]
    simp only [before_4 m c t.val t rfl h]
    iintro ⟨⟨Hs, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (later c (grid0.coords t) _ _ _ _ _ _ _ _ _ _ _ _ _ _ _ _ _ _ (iblk m c 0 t) (iblk m c 1 t) (iblk m c 2 t) (iblk m c 3 t) (rows m c t) (kept m c t) (fun e => h ((cond_iff t).1 e)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [Hs]; · iexact Hs
    iintro ⟨H0, H1, H2, H3, H4, H5, H6, H7, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iapply (leaves_4 m c t); iexact H4
    isplitl [H5]; · iexact H5
    isplitl [H6]; · iexact H6
    iexact H7

/-- The pipeline's demand of the body, at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound m c t) rfl .rfl fun _ => .rfl

theorem leave (c : Dev nD) : (dats m 0 c).Φ (Fin.last cfg0.N) ⊢ (Pipeline.ΦA spec0 c : sProp 𝕄) :=
  (inv_any m c cfg0.N le_rfl).trans (by rw [scratch_eq])

set_option backward.isDefEq.respectTransparency.types false in
set_option maxHeartbeats 800000 in
/-- Every run ends with the pipeline's arrays as its points leave them and no semaphore raised. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m)
    (hin := fun _ => Entails.refl _) (hout := leave m)

/-- The same without the semaphores. -/
theorem run_main : θ_run defs (onTc (τ := τ) (main (F := F))) (s₀ m ρ) (Pipeline.FramePost cfgs (dats m) 0 (V m)) :=
  (θ_run defs _ _).mono (fun _ h => h.1) (run_quiet m ρ)

/-- The call runs to its end, leaves its arguments alone, and raises no semaphore. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (arrays m) (run_main m ρ)) ((θ_run defs _ _).mono (fun _ h => h.2) (run_quiet m ρ))

end Cert.UpFwdIdeal.Hand

end
-- ==== Proof.UpFwdPair.lean ====
/- Hand-written, untrusted: the second gate with its normalisation, against the plain normalisation, products and gate. -/
module

public import proofs.«01_k».proof.Defs
public import proofs.«01_k».proof.Proof.UpFwdIdealFrame
public import proofs.«01_k».proof.Proof.Gen.UpPlainIdeal.Run
public import proofs.«01_k».proof.Proof.Gen.UpPlainIdeal.Read
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.UpFwdIdeal.Hand

open Cert.UpFwdIdeal Cert.UpFwdIdeal.Gen Cert.UpPlainIdeal.Read

/-- One row's reciprocal root mean square. -/
def scale (x : FVec Ideal S4096x2048 .f32) (r : Fin 4096) : EReal :=
  Ideal.rsqrt (Ideal.div (∑ k : Fin 2048, x (ix2 r k) * x (ix2 r k)) (Ideal.ofBits .f32 0x45000000#32) + Ideal.ofBits .f32 0x358637BD#32)

/-- The rows, each by its reciprocal root mean square and by the gain. -/
def normal (x : FVec Ideal S4096x2048 .f32) (g : FVec Ideal S1x2048 .f32) : FVec Ideal S4096x2048 .bf16 := fun i =>
  x i * scale x (i 0) * g (ix2 0 (i 1))

/-- The normalised rows' products with a weight's rows. -/
def times (x : FVec Ideal S4096x2048 .f32) (g : FVec Ideal S1x2048 .f32) (w : FVec Ideal S5632x2048 .bf16) : FVec Ideal S4096x5632 .bf16 :=
  fun i => ∑ k : Fin 2048, normal x g (ix2 (i 0) k) * w (ix2 (i 1) k)

/-- The gated rows. -/
def act (x : FVec Ideal S4096x2048 .f32) (g : FVec Ideal S1x2048 .f32) (w u : FVec Ideal S5632x2048 .bf16) : FVec Ideal S4096x5632 .bf16 :=
  fun i => times x g w i * Ideal.logistic (times x g w i) * times x g u i

/-- Where each window stands at grid point `t`. -/
theorem idx_val : ∀ t : Fin cfg0.N, win0_0.index t = ![t.val / 4, 0] ∧ win0_1.index t = ![0, 0]
    ∧ win0_2.index t = ![t.val % 4, 0] ∧ win0_3.index t = ![t.val % 4, 0] ∧ win0_4.index t = ![t.val / 4, 0]
    ∧ win0_5.index t = ![t.val / 4, t.val % 4] ∧ win0_6.index t = ![t.val / 4, t.val % 4] ∧ win0_7.index t = ![t.val / 4, t.val % 4] :=
  (by decide +kernel : ∀ t : Fin grid0.N, _)

variable (m : (ℓ : Loc nD τ sig) → Buf (Elt Ideal) ℓ)

set_option maxHeartbeats 1600000 in
/-- The normalised rows after the whole grid. -/
theorem final_4 (c : Dev nD) : (dats m 0 c).arrAt 4 (cfgs 0).N
    = normal (m ((c : Thread nD τ).loc main_arg0)) (m ((c : Thread nD τ).loc main_arg1)) := by
  refine (dats m 0 c).arrAt_eq_of_covers 4 _ (by decide +kernel) fun t hf y => ?_
  blk_simp
  rw [after_4]
  unfold rows
  pointwise [normal, scale, k0_pay1]
  blk_point [iblk, V, idx_val t]

set_option maxHeartbeats 1600000 in
/-- The gate's product after the whole grid. -/
theorem final_5 (c : Dev nD) : (dats m 0 c).arrAt 5 (cfgs 0).N
    = times (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after_5]
  unfold kept
  pointwise [times, normal, scale, k0_pay5, k0_pay3, k0_pay2, k0_pay1]
  blk_point [iblk, V, idx_val t]

set_option maxHeartbeats 1600000 in
/-- The other product after the whole grid. -/
theorem final_6 (c : Dev nD) : (dats m 0 c).arrAt 6 (cfgs 0).N
    = times (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  rw [after_6]
  unfold kept
  pointwise [times, normal, scale, k0_pay6, k0_pay4, k0_pay2, k0_pay1]
  blk_point [iblk, V, idx_val t]

set_option maxHeartbeats 1600000 in
/-- The gated rows after the whole grid. -/
theorem final_7 (c : Dev nD) : (dats m 0 c).arrAt 7 (cfgs 0).N
    = act (m ((c : Thread nD τ).loc main_arg0)) (m ((c : Thread nD τ).loc main_arg1)) (m ((c : Thread nD τ).loc main_arg2))
      (m ((c : Thread nD τ).loc main_arg3)) := by
  refine (dats m 0 c).arrAt_eq_of_covers 7 _ (by decide +kernel) fun t hf y => ?_
  blk_simp
  rw [after_7]
  unfold kept
  pointwise [act, times, normal, scale, k0_pay7, k0_pay4, k0_pay3, k0_pay2, k0_pay1]
  blk_point [iblk, V, idx_val t]

set_option maxHeartbeats 1600000 in
/-- The reference's normalised rows. -/
theorem plain_18 (x : FVec Ideal S4096x2048 .f32) (g : FVec Ideal S1x2048 .f32) :
    normal x g = val_main_v18 (F := Ideal) x g := by
  funext i
  pointwise [normal, scale, val_main_v18, val_main_v11, val_main_v10, val_main_v9, val_main_v8, val_main_v7, val_main_v6, val_main_v5, val_main_cst_1, val_main_v4, val_main_v3, val_main_cst_0, val_main_v2, val_main_v1, val_main_cst, val_main_v0]

set_option maxHeartbeats 1600000 in
/-- The reference's gate product. -/
theorem plain_14 (x : FVec Ideal S4096x2048 .f32) (g : FVec Ideal S1x2048 .f32) (w : FVec Ideal S5632x2048 .bf16) :
    times x g w = val_main_v14 (F := Ideal) x g w := by
  funext i
  pointwise [times, normal, scale, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

set_option maxHeartbeats 1600000 in
/-- The reference's other product. -/
theorem plain_17 (x : FVec Ideal S4096x2048 .f32) (g : FVec Ideal S1x2048 .f32) (w : FVec Ideal S5632x2048 .bf16) :
    times x g w = val_main_v17 (F := Ideal) x g w := by
  funext i
  pointwise [times, normal, scale, val_main_v17, val_main_v16, val_main_v15, val_main_v11, val_main_v10, val_main_v9, val_main_v8, val_main_v7, val_main_v6, val_main_v5, val_main_cst_1, val_main_v4, val_main_v3, val_main_cst_0, val_main_v2, val_main_v1, val_main_cst, val_main_v0]

set_option maxHeartbeats 1600000 in
/-- The reference's gated rows. -/
theorem plain_23 (x : FVec Ideal S4096x2048 .f32) (g : FVec Ideal S1x2048 .f32) (w u : FVec Ideal S5632x2048 .bf16) :
    act x g w u = val_main_v23 (F := Ideal) x g w u := by
  unfold act val_main_v23 val_main_v22 val_main_v21 val_main_call0_v5 val_main_call0_v3 val_main_call0_v1 val_main_call0_v0
  rw [← plain_14 x g w, ← plain_17 x g u]
  funext i
  pointwise [Ideal.logistic, val_main_call0_v4, val_main_call0_v2, val_main_call0_cst, val_main_call0_cst_0]

set_option backward.isDefEq.respectTransparency.types false in
/-- The two programs give the same results. -/
theorem algebraic : algebraic_UpFwdIdeal_UpPlainIdeal := by
  pair_intro
  · run_from Cert.UpFwdIdeal.Hand.run_main m g
  · run_from Cert.UpPlainIdeal.Value.run m' g'
    · rw [final_4 m c]
      exact (plain_18 _ _).symm
    · rw [final_5 m c]
      exact (plain_14 _ _ _).symm
    · rw [final_6 m c]
      exact (plain_17 _ _ _).symm
    · rw [final_7 m c]
      exact (plain_23 _ _ _ _).symm

end Cert.UpFwdIdeal.Hand

end
-- ==== Proof.PackAllPair.lean ====
/- Hand-written, untrusted: the small arrays packed into one and taken out again, against the arrays themselves. -/
module

public import proofs.«01_k».proof.Defs
public import proofs.«01_k».proof.Proof.Gen.PackAllIdeal.Run
public import proofs.«01_k».proof.Proof.Gen.PackAllIdeal.Read
public import proofs.«01_k».proof.Proof.Gen.PackPlainIdeal.Run
public import proofs.«01_k».proof.Proof.Gen.PackPlainIdeal.Read
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.PackAllIdeal.Hand

open Cert.PackAllIdeal Cert.PackAllIdeal.Gen Cert.PackAllIdeal.Read

variable (x0 x1 : FVec Ideal S1x2048 .f32) (x2 : FVec Ideal S16x257 .f32) (x3 : FVec Ideal S1x1024 .f32) (x4 x5 x6 x7 : FVec Ideal S1x2048 .f32)
  (x8 : FVec Ideal S8x128 .f32)

/-- The packed array laid flat again is the padded one. -/
theorem flat (i : S18432.Idx) : val_main_v14 (F := Ideal) x0 x1 x2 x3 x4 x5 x6 x7 x8 i = val_main_v12 (F := Ideal) x0 x1 x2 x3 x4 x5 x6 x7 x8 i := by
  rw [val_main_v14_apply, val_main_v13_apply]
  congr 1
  funext a
  match a with
  | ⟨0, _⟩ =>
    have h0 : (i 0).val < 18432 := (i 0).isLt
    apply Fin.ext
    show _ = (i 0).val
    simp
    omega

/-- Taken out again: the gradient of the first norm's gain. -/
theorem out_16 : val_main_v16 (F := Ideal) x0 x1 x2 x3 x4 x5 x6 x7 x8 = x0 := by
  funext i
  rw [val_main_v16_apply, val_main_v15_apply, flat]
  pointwise [val_main_v12, val_main_v11]
  have h0 : (i 1).val < 2048 := (i 1).isLt
  rw [dif_pos (show (i 1).val < 17425 from by omega)]
  refine (val_main_v3_apply _ _).trans (congrArg x0 (funext fun a => ?_))
  match a with
  | ⟨0, _⟩ => exact Subsingleton.elim (α := Fin 1) _ _
  | ⟨1, _⟩ => exact Fin.ext (by dsimp; omega)

/-- Taken out again: the gradient of the mix norm's gain. -/
theorem out_18 : val_main_v18 (F := Ideal) x0 x1 x2 x3 x4 x5 x6 x7 x8 = x1 := by
  funext i
  rw [val_main_v18_apply, val_main_v17_apply, flat]
  pointwise [val_main_v12, val_main_v11]
  have h0 : (i 1).val < 2048 := (i 1).isLt
  rw [dif_pos (show 2048 + (i 1).val < 17425 from by omega)]
  refine (val_main_v4_apply _ _).trans (congrArg x1 (funext fun a => ?_))
  match a with
  | ⟨0, _⟩ => exact Subsingleton.elim (α := Fin 1) _ _
  | ⟨1, _⟩ => exact Fin.ext (by dsimp; omega)

/-- Taken out again: the gradient of the bias table. -/
theorem out_20 : val_main_v20 (F := Ideal) x0 x1 x2 x3 x4 x5 x6 x7 x8 = Cert.PackPlainIdeal.Read.val_main_v0 (F := Ideal) x2 := by
  funext i
  rw [val_main_v20_apply, val_main_v19_apply, flat]
  pointwise [val_main_v12, val_main_v11]
  have h1 : (i 1).val < 16 := (i 1).isLt
  have h2 : (i 2).val < 257 := (i 2).isLt
  rw [dif_pos (show 4096 + ((i 1).val * 257 + (i 2).val) < 17425 from by omega),
    dif_neg (show ¬ 4096 + ((i 1).val * 257 + (i 2).val) < 2048 from by omega),
    dif_neg (show ¬ 4096 + ((i 1).val * 257 + (i 2).val) - 2048 < 2048 from by omega),
    dif_pos (show 4096 + ((i 1).val * 257 + (i 2).val) - 2048 - 2048 < 4112 from by omega)]
  rw [val_main_v5_apply, val_main_v0_apply, Cert.PackPlainIdeal.Read.val_main_v0_apply]
  refine congrArg x2 (funext fun a => ?_)
  match a with
  | ⟨0, _⟩ => exact Fin.ext (by dsimp; omega)
  | ⟨1, _⟩ => exact Fin.ext (by dsimp; omega)

/-- Taken out again: the gradient of the pool's scale. -/
theorem out_22 : val_main_v22 (F := Ideal) x0 x1 x2 x3 x4 x5 x6 x7 x8 = x3 := by
  funext i
  rw [val_main_v22_apply, val_main_v21_apply, flat]
  pointwise [val_main_v12, val_main_v11]
  have h0 : (i 1).val < 1024 := (i 1).isLt
  rw [dif_pos (show 8208 + (i 1).val < 17425 from by omega),
    dif_neg (show ¬ 8208 + (i 1).val < 2048 from by omega),
    dif_neg (show ¬ 8208 + (i 1).val - 2048 < 2048 from by omega),
    dif_neg (show ¬ 8208 + (i 1).val - 2048 - 2048 < 4112 from by omega),
    dif_pos (show 8208 + (i 1).val - 2048 - 2048 - 4112 < 1024 from by omega)]
  refine (val_main_v6_apply _ _).trans (congrArg x3 (funext fun a => ?_))
  match a with
  | ⟨0, _⟩ => exact Subsingleton.elim (α := Fin 1) _ _
  | ⟨1, _⟩ => exact Fin.ext (by dsimp; omega)

/-- Taken out again: the gradient of the cross norm's gain. -/
theorem out_24 : val_main_v24 (F := Ideal) x0 x1 x2 x3 x4 x5 x6 x7 x8 = x4 := by
  funext i
  rw [val_main_v24_apply, val_main_v23_apply, flat]
  pointwise [val_main_v12, val_main_v11]
  have h0 : (i 1).val < 2048 := (i 1).isLt
  rw [dif_pos (show 9232 + (i 1).val < 17425 from by omega),
    dif_neg (show ¬ 9232 + (i 1).val < 2048 from by omega),
    dif_neg (show ¬ 9232 + (i 1).val - 2048 < 2048 from by omega),
    dif_neg (show ¬ 9232 + (i 1).val - 2048 - 2048 < 4112 from by omega),
    dif_neg (show ¬ 9232 + (i 1).val - 2048 - 2048 - 4112 < 1024 from by omega),
    dif_pos (show 9232 + (i 1).val - 2048 - 2048 - 4112 - 1024 < 2048 from by omega)]
  refine (val_main_v7_apply _ _).trans (congrArg x4 (funext fun a => ?_))
  match a with
  | ⟨0, _⟩ => exact Subsingleton.elim (α := Fin 1) _ _
  | ⟨1, _⟩ => exact Fin.ext (by dsimp; omega)

/-- Taken out again: the gradient of the memory norm's gain. -/
theorem out_26 : val_main_v26 (F := Ideal) x0 x1 x2 x3 x4 x5 x6 x7 x8 = x5 := by
  funext i
  rw [val_main_v26_apply, val_main_v25_apply, flat]
  pointwise [val_main_v12, val_main_v11]
  have h0 : (i 1).val < 2048 := (i 1).isLt
  rw [dif_pos (show 11280 + (i 1).val < 17425 from by omega),
    dif_neg (show ¬ 11280 + (i 1).val < 2048 from by omega),
    dif_neg (show ¬ 11280 + (i 1).val - 2048 < 2048 from by omega),
    dif_neg (show ¬ 11280 + (i 1).val - 2048 - 2048 < 4112 from by omega),
    dif_neg (show ¬ 11280 + (i 1).val - 2048 - 2048 - 4112 < 1024 from by omega),
    dif_neg (show ¬ 11280 + (i 1).val - 2048 - 2048 - 4112 - 1024 < 2048 from by omega),
    dif_pos (show 11280 + (i 1).val - 2048 - 2048 - 4112 - 1024 - 2048 < 2048 from by omega)]
  refine (val_main_v8_apply _ _).trans (congrArg x5 (funext fun a => ?_))
  match a with
  | ⟨0, _⟩ => exact Subsingleton.elim (α := Fin 1) _ _
  | ⟨1, _⟩ => exact Fin.ext (by dsimp; omega)

/-- Taken out again: the gradient of the second gate's norm's gain. -/
theorem out_28 : val_main_v28 (F := Ideal) x0 x1 x2 x3 x4 x5 x6 x7 x8 = x6 := by
  funext i
  rw [val_main_v28_apply, val_main_v27_apply, flat]
  pointwise [val_main_v12, val_main_v11]
  have h0 : (i 1).val < 2048 := (i 1).isLt
  rw [dif_pos (show 13328 + (i 1).val < 17425 from by omega),
    dif_neg (show ¬ 13328 + (i 1).val < 2048 from by omega),
    dif_neg (show ¬ 13328 + (i 1).val - 2048 < 2048 from by omega),
    dif_neg (show ¬ 13328 + (i 1).val - 2048 - 2048 < 4112 from by omega),
    dif_neg (show ¬ 13328 + (i 1).val - 2048 - 2048 - 4112 < 1024 from by omega),
    dif_neg (show ¬ 13328 + (i 1).val - 2048 - 2048 - 4112 - 1024 < 2048 from by omega),
    dif_neg (show ¬ 13328 + (i 1).val - 2048 - 2048 - 4112 - 1024 - 2048 < 2048 from by omega),
    dif_pos (show 13328 + (i 1).val - 2048 - 2048 - 4112 - 1024 - 2048 - 2048 < 2048 from by omega)]
  refine (val_main_v9_apply _ _).trans (congrArg x6 (funext fun a => ?_))
  match a with
  | ⟨0, _⟩ => exact Subsingleton.elim (α := Fin 1) _ _
  | ⟨1, _⟩ => exact Fin.ext (by dsimp; omega)

/-- Taken out again: the gradient of the last norm's gain. -/
theorem out_29 : val_main_v29 (F := Ideal) x0 x1 x2 x3 x4 x5 x6 x7 x8 = Cert.PackPlainIdeal.Read.val_main_v1 (F := Ideal) x7 := by
  funext i
  rw [val_main_v29_apply, flat]
  pointwise [val_main_v12, val_main_v11]
  have h0 : (i 0).val < 2048 := (i 0).isLt
  rw [dif_pos (show 15376 + (i 0).val < 17425 from by omega),
    dif_neg (show ¬ 15376 + (i 0).val < 2048 from by omega),
    dif_neg (show ¬ 15376 + (i 0).val - 2048 < 2048 from by omega),
    dif_neg (show ¬ 15376 + (i 0).val - 2048 - 2048 < 4112 from by omega),
    dif_neg (show ¬ 15376 + (i 0).val - 2048 - 2048 - 4112 < 1024 from by omega),
    dif_neg (show ¬ 15376 + (i 0).val - 2048 - 2048 - 4112 - 1024 < 2048 from by omega),
    dif_neg (show ¬ 15376 + (i 0).val - 2048 - 2048 - 4112 - 1024 - 2048 < 2048 from by omega),
    dif_neg (show ¬ 15376 + (i 0).val - 2048 - 2048 - 4112 - 1024 - 2048 - 2048 < 2048 from by omega),
    dif_pos (show 15376 + (i 0).val - 2048 - 2048 - 4112 - 1024 - 2048 - 2048 - 2048 < 2048 from by omega)]
  rw [val_main_v10_apply, Cert.PackPlainIdeal.Read.val_main_v1_apply]
  refine congrArg x7 (funext fun a => ?_)
  match a with
  | ⟨0, _⟩ => exact Subsingleton.elim (α := Fin 1) _ _
  | ⟨1, _⟩ => exact Fin.ext (by dsimp; omega)

/-- Taken out again: the loss. -/
theorem out_31 : val_main_v31 (F := Ideal) x0 x1 x2 x3 x4 x5 x6 x7 x8 = Cert.PackPlainIdeal.Read.val_main_v3 (F := Ideal) x8 := by
  funext i
  unfold val_main_v31 Cert.PackPlainIdeal.Read.val_main_v3
  pointwise [Cert.PackPlainIdeal.Read.val_main_v2]
  rw [val_main_v30_apply, flat]
  pointwise [val_main_v12, val_main_v11, val_main_v2, val_main_v1]

set_option backward.isDefEq.respectTransparency.types false in
/-- The two programs give the same results. -/
theorem algebraic : algebraic_PackAllIdeal_PackPlainIdeal := by
  pair_intro
  · run_from Cert.PackAllIdeal.Value.run m g
  · run_from Cert.PackPlainIdeal.Value.run m' g'
    · exact (out_16 _ _ _ _ _ _ _ _ _).symm
    · exact (out_18 _ _ _ _ _ _ _ _ _).symm
    · exact (out_20 _ _ _ _ _ _ _ _ _).symm
    · exact (out_22 _ _ _ _ _ _ _ _ _).symm
    · exact (out_24 _ _ _ _ _ _ _ _ _).symm
    · exact (out_26 _ _ _ _ _ _ _ _ _).symm
    · exact (out_28 _ _ _ _ _ _ _ _ _).symm
    · exact (out_29 _ _ _ _ _ _ _ _ _).symm
    · exact (out_31 _ _ _ _ _ _ _ _ _).symm

end Cert.PackAllIdeal.Hand

end
-- ==== Proof.lean ====
/- The assembled proof of `Cert.Claim`: the frames of the programs, then the equality of each kernel and its plain formula. -/
module

public import proofs.«01_k».proof.Defs
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateGradIdeal
public import proofs.«01_k».proof.Proof.Gen.GateBwdIdeal.Value
public import proofs.«01_k».proof.Proof.Gen.GateGradIdeal.Run
public import proofs.«01_k».proof.Proof.Gen.GateGradIdeal.Read
public import proofs.«01_k».proof.Proof.Gen.Pre_gate_finite
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnGradIdeal
public import proofs.«01_k».proof.Proof.Gen.AttnGradIdeal.Run
public import proofs.«01_k».proof.Proof.Gen.AttnGradIdeal.Read
public import proofs.«01_k».proof.Proof.Gen.Pre_attn_finite
public import proofs.«01_k».proof.Proof.Gen.PoolBwd
public import proofs.«01_k».proof.Proof.Gen.PoolBwd.Skeleton
public import proofs.«01_k».proof.Proof.Gen.PoolBwd.Launch
public import proofs.«01_k».proof.Proof.Gen.PoolBwd.Points
public import proofs.«01_k».proof.Proof.Gen.PoolBwd.Frame
public import proofs.«01_k».proof.Proof.Gen.PoolBwdIdeal
public import proofs.«01_k».proof.Proof.Gen.PoolBwdIdeal.Skeleton
public import proofs.«01_k».proof.Proof.Gen.PoolBwdIdeal.Launch
public import proofs.«01_k».proof.Proof.Gen.PoolBwdIdeal.Points
public import proofs.«01_k».proof.Proof.Gen.PoolBwdIdeal.Frame
public import proofs.«01_k».proof.Proof.Gen.PoolGradIdeal
public import proofs.«01_k».proof.Proof.Gen.PoolBwdIdeal.Value
public import proofs.«01_k».proof.Proof.Gen.PoolGradIdeal.Run
public import proofs.«01_k».proof.Proof.Gen.PoolGradIdeal.Read
public import proofs.«01_k».proof.Proof.Gen.CrossBwd
public import proofs.«01_k».proof.Proof.Gen.CrossBwd.Skeleton
public import proofs.«01_k».proof.Proof.Gen.CrossBwd.Launch
public import proofs.«01_k».proof.Proof.Gen.CrossBwd.Points
public import proofs.«01_k».proof.Proof.Gen.CrossBwd.Frame
public import proofs.«01_k».proof.Proof.Gen.CrossBwdIdeal
public import proofs.«01_k».proof.Proof.Gen.CrossBwdIdeal.Skeleton
public import proofs.«01_k».proof.Proof.Gen.CrossBwdIdeal.Launch
public import proofs.«01_k».proof.Proof.Gen.CrossBwdIdeal.Points
public import proofs.«01_k».proof.Proof.Gen.CrossBwdIdeal.Frame
public import proofs.«01_k».proof.Proof.Gen.CrossGradIdeal
public import proofs.«01_k».proof.Proof.Gen.CrossBwdIdeal.Value
public import proofs.«01_k».proof.Proof.Gen.CrossGradIdeal.Run
public import proofs.«01_k».proof.Proof.Gen.CrossGradIdeal.Read
public import proofs.«01_k».proof.Proof.Gen.Pre_cross_finite
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormGradIdeal
public import proofs.«01_k».proof.Proof.Gen.NormBwdIdeal.Value
public import proofs.«01_k».proof.Proof.Gen.NormGradIdeal.Run
public import proofs.«01_k».proof.Proof.Gen.NormGradIdeal.Read
public import proofs.«01_k».proof.Proof.Gen.Pre_norm_finite
public import proofs.«01_k».proof.Proof.Gen.FirstBwd
public import proofs.«01_k».proof.Proof.Gen.FirstBwd.Skeleton
public import proofs.«01_k».proof.Proof.Gen.FirstBwd.Launch
public import proofs.«01_k».proof.Proof.Gen.FirstBwd.Points
public import proofs.«01_k».proof.Proof.Gen.FirstBwd.Frame
public import proofs.«01_k».proof.Proof.Gen.FirstBwdIdeal
public import proofs.«01_k».proof.Proof.Gen.FirstBwdIdeal.Skeleton
public import proofs.«01_k».proof.Proof.Gen.FirstBwdIdeal.Launch
public import proofs.«01_k».proof.Proof.Gen.FirstBwdIdeal.Points
public import proofs.«01_k».proof.Proof.Gen.FirstBwdIdeal.Frame
public import proofs.«01_k».proof.Proof.Gen.FirstGradIdeal
public import proofs.«01_k».proof.Proof.Gen.FirstBwdIdeal.Value
public import proofs.«01_k».proof.Proof.Gen.FirstGradIdeal.Run
public import proofs.«01_k».proof.Proof.Gen.FirstGradIdeal.Read
public import proofs.«01_k».proof.Proof.Gen.MemoryBwd
public import proofs.«01_k».proof.Proof.Gen.MemoryBwd.Skeleton
public import proofs.«01_k».proof.Proof.Gen.MemoryBwd.Launch
public import proofs.«01_k».proof.Proof.Gen.MemoryBwd.Points
public import proofs.«01_k».proof.Proof.Gen.MemoryBwd.Frame
public import proofs.«01_k».proof.Proof.Gen.MemoryBwdIdeal
public import proofs.«01_k».proof.Proof.Gen.MemoryBwdIdeal.Skeleton
public import proofs.«01_k».proof.Proof.Gen.MemoryBwdIdeal.Launch
public import proofs.«01_k».proof.Proof.Gen.MemoryBwdIdeal.Points
public import proofs.«01_k».proof.Proof.Gen.MemoryBwdIdeal.Frame
public import proofs.«01_k».proof.Proof.Gen.MemoryGradIdeal
public import proofs.«01_k».proof.Proof.Gen.MemoryBwdIdeal.Value
public import proofs.«01_k».proof.Proof.Gen.MemoryGradIdeal.Run
public import proofs.«01_k».proof.Proof.Gen.MemoryGradIdeal.Read
public import proofs.«01_k».proof.Proof.Gen.Pre_memory_finite
public import proofs.«01_k».proof.Proof.Gen.LossBwd
public import proofs.«01_k».proof.Proof.Gen.LossBwd.Skeleton
public import proofs.«01_k».proof.Proof.Gen.LossBwd.Launch
public import proofs.«01_k».proof.Proof.Gen.LossBwd.Points
public import proofs.«01_k».proof.Proof.Gen.LossBwd.Frame
public import proofs.«01_k».proof.Proof.Gen.LossBwdIdeal
public import proofs.«01_k».proof.Proof.Gen.LossBwdIdeal.Skeleton
public import proofs.«01_k».proof.Proof.Gen.LossBwdIdeal.Launch
public import proofs.«01_k».proof.Proof.Gen.LossBwdIdeal.Points
public import proofs.«01_k».proof.Proof.Gen.LossBwdIdeal.Frame
public import proofs.«01_k».proof.Proof.Gen.LossGradIdeal
public import proofs.«01_k».proof.Proof.Gen.LossBwdIdeal.Value
public import proofs.«01_k».proof.Proof.Gen.LossGradIdeal.Run
public import proofs.«01_k».proof.Proof.Gen.LossGradIdeal.Read
public import proofs.«01_k».proof.Proof.Gen.Pre_loss_finite
public import proofs.«01_k».proof.Proof.Gen.BiasBwd
public import proofs.«01_k».proof.Proof.Gen.BiasBwd.Skeleton
public import proofs.«01_k».proof.Proof.Gen.BiasBwd.Launch
public import proofs.«01_k».proof.Proof.Gen.BiasBwd.Points
public import proofs.«01_k».proof.Proof.Gen.BiasBwd.Frame
public import proofs.«01_k».proof.Proof.Gen.BiasBwdIdeal
public import proofs.«01_k».proof.Proof.Gen.BiasBwdIdeal.Skeleton
public import proofs.«01_k».proof.Proof.Gen.BiasBwdIdeal.Launch
public import proofs.«01_k».proof.Proof.Gen.BiasBwdIdeal.Points
public import proofs.«01_k».proof.Proof.Gen.BiasBwdIdeal.Frame
public import proofs.«01_k».proof.Proof.Gen.BiasGradIdeal
public import proofs.«01_k».proof.Proof.Gen.BiasGradIdeal.Run
public import proofs.«01_k».proof.Proof.Gen.BiasGradIdeal.Read
public import proofs.«01_k».proof.Proof.Gen.CrossFwd
public import proofs.«01_k».proof.Proof.Gen.CrossFwd.Skeleton
public import proofs.«01_k».proof.Proof.Gen.CrossFwd.Launch
public import proofs.«01_k».proof.Proof.Gen.CrossFwd.Points
public import proofs.«01_k».proof.Proof.Gen.CrossFwd.Frame
public import proofs.«01_k».proof.Proof.Gen.CrossFwdIdeal
public import proofs.«01_k».proof.Proof.Gen.CrossFwdIdeal.Skeleton
public import proofs.«01_k».proof.Proof.Gen.CrossFwdIdeal.Launch
public import proofs.«01_k».proof.Proof.Gen.CrossFwdIdeal.Points
public import proofs.«01_k».proof.Proof.Gen.CrossFwdIdeal.Frame
public import proofs.«01_k».proof.Proof.Gen.CrossPlainIdeal
public import proofs.«01_k».proof.Proof.Gen.CrossFwdIdeal.Value
public import proofs.«01_k».proof.Proof.Gen.CrossPlainIdeal.Run
public import proofs.«01_k».proof.Proof.Gen.CrossPlainIdeal.Read
public import proofs.«01_k».proof.Proof.Gen.Pre_cross_forward_finite
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnPlainIdeal
public import proofs.«01_k».proof.Proof.Gen.AttnPlainIdeal.Run
public import proofs.«01_k».proof.Proof.Gen.AttnPlainIdeal.Read
public import proofs.«01_k».proof.Proof.Gen.Pre_attn_forward_finite
public import proofs.«01_k».proof.Proof.Gen.PoolFwd
public import proofs.«01_k».proof.Proof.Gen.PoolFwd.Skeleton
public import proofs.«01_k».proof.Proof.Gen.PoolFwd.Launch
public import proofs.«01_k».proof.Proof.Gen.PoolFwd.Points
public import proofs.«01_k».proof.Proof.Gen.PoolFwd.Frame
public import proofs.«01_k».proof.Proof.Gen.PoolFwdIdeal
public import proofs.«01_k».proof.Proof.Gen.PoolFwdIdeal.Skeleton
public import proofs.«01_k».proof.Proof.Gen.PoolFwdIdeal.Launch
public import proofs.«01_k».proof.Proof.Gen.PoolFwdIdeal.Points
public import proofs.«01_k».proof.Proof.Gen.PoolFwdIdeal.Frame
public import proofs.«01_k».proof.Proof.Gen.PoolPlainIdeal
public import proofs.«01_k».proof.Proof.Gen.PoolFwdIdeal.Value
public import proofs.«01_k».proof.Proof.Gen.PoolPlainIdeal.Run
public import proofs.«01_k».proof.Proof.Gen.PoolPlainIdeal.Read
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormPlainIdeal
public import proofs.«01_k».proof.Proof.Gen.NormFwdIdeal.Value
public import proofs.«01_k».proof.Proof.Gen.NormPlainIdeal.Run
public import proofs.«01_k».proof.Proof.Gen.NormPlainIdeal.Read
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GatePlainIdeal
public import proofs.«01_k».proof.Proof.Gen.GateFwdIdeal.Value
public import proofs.«01_k».proof.Proof.Gen.GatePlainIdeal.Run
public import proofs.«01_k».proof.Proof.Gen.GatePlainIdeal.Read
public import proofs.«01_k».proof.Proof.Gen.QueryFwd
public import proofs.«01_k».proof.Proof.Gen.QueryFwd.Skeleton
public import proofs.«01_k».proof.Proof.Gen.QueryFwd.Launch
public import proofs.«01_k».proof.Proof.Gen.QueryFwd.Points
public import proofs.«01_k».proof.Proof.Gen.QueryFwd.Frame
public import proofs.«01_k».proof.Proof.Gen.QueryFwdIdeal
public import proofs.«01_k».proof.Proof.Gen.QueryFwdIdeal.Skeleton
public import proofs.«01_k».proof.Proof.Gen.QueryFwdIdeal.Launch
public import proofs.«01_k».proof.Proof.Gen.QueryFwdIdeal.Points
public import proofs.«01_k».proof.Proof.Gen.QueryFwdIdeal.Frame
public import proofs.«01_k».proof.Proof.Gen.QueryPlainIdeal
public import proofs.«01_k».proof.Proof.Gen.QueryFwdIdeal.Value
public import proofs.«01_k».proof.Proof.Gen.QueryPlainIdeal.Run
public import proofs.«01_k».proof.Proof.Gen.QueryPlainIdeal.Read
public import proofs.«01_k».proof.Proof.Gen.TileFwd
public import proofs.«01_k».proof.Proof.Gen.TileFwd.Skeleton
public import proofs.«01_k».proof.Proof.Gen.TileFwd.Launch
public import proofs.«01_k».proof.Proof.Gen.TileFwd.Points
public import proofs.«01_k».proof.Proof.Gen.TileFwd.Frame
public import proofs.«01_k».proof.Proof.Gen.TileFwdIdeal
public import proofs.«01_k».proof.Proof.Gen.TileFwdIdeal.Skeleton
public import proofs.«01_k».proof.Proof.Gen.TileFwdIdeal.Launch
public import proofs.«01_k».proof.Proof.Gen.TileFwdIdeal.Points
public import proofs.«01_k».proof.Proof.Gen.TileFwdIdeal.Frame
public import proofs.«01_k».proof.Proof.Gen.TilePlainIdeal
public import proofs.«01_k».proof.Proof.Gen.TilePlainIdeal.Run
public import proofs.«01_k».proof.Proof.Gen.TilePlainIdeal.Read
public import proofs.«01_k».proof.Proof.Gen.OutMul
public import proofs.«01_k».proof.Proof.Gen.OutMul.Skeleton
public import proofs.«01_k».proof.Proof.Gen.OutMul.Launch
public import proofs.«01_k».proof.Proof.Gen.OutMul.Points
public import proofs.«01_k».proof.Proof.Gen.OutMul.Frame
public import proofs.«01_k».proof.Proof.Gen.OutMulIdeal
public import proofs.«01_k».proof.Proof.Gen.OutMulIdeal.Skeleton
public import proofs.«01_k».proof.Proof.Gen.OutMulIdeal.Launch
public import proofs.«01_k».proof.Proof.Gen.OutMulIdeal.Points
public import proofs.«01_k».proof.Proof.Gen.OutMulIdeal.Frame
public import proofs.«01_k».proof.Proof.Gen.OutPlainIdeal
public import proofs.«01_k».proof.Proof.Gen.OutMulIdeal.Value
public import proofs.«01_k».proof.Proof.Gen.OutPlainIdeal.Run
public import proofs.«01_k».proof.Proof.Gen.OutPlainIdeal.Read
public import proofs.«01_k».proof.Proof.Gen.InMul
public import proofs.«01_k».proof.Proof.Gen.InMul.Skeleton
public import proofs.«01_k».proof.Proof.Gen.InMul.Launch
public import proofs.«01_k».proof.Proof.Gen.InMul.Points
public import proofs.«01_k».proof.Proof.Gen.InMul.Frame
public import proofs.«01_k».proof.Proof.Gen.InMulIdeal
public import proofs.«01_k».proof.Proof.Gen.InMulIdeal.Skeleton
public import proofs.«01_k».proof.Proof.Gen.InMulIdeal.Launch
public import proofs.«01_k».proof.Proof.Gen.InMulIdeal.Points
public import proofs.«01_k».proof.Proof.Gen.InMulIdeal.Frame
public import proofs.«01_k».proof.Proof.Gen.InPlainIdeal
public import proofs.«01_k».proof.Proof.Gen.InPlainIdeal.Run
public import proofs.«01_k».proof.Proof.Gen.InPlainIdeal.Read
public import proofs.«01_k».proof.Proof.Gen.BackMul
public import proofs.«01_k».proof.Proof.Gen.BackMul.Skeleton
public import proofs.«01_k».proof.Proof.Gen.BackMul.Launch
public import proofs.«01_k».proof.Proof.Gen.BackMul.Points
public import proofs.«01_k».proof.Proof.Gen.BackMul.Frame
public import proofs.«01_k».proof.Proof.Gen.BackMulIdeal
public import proofs.«01_k».proof.Proof.Gen.BackMulIdeal.Skeleton
public import proofs.«01_k».proof.Proof.Gen.BackMulIdeal.Launch
public import proofs.«01_k».proof.Proof.Gen.BackMulIdeal.Points
public import proofs.«01_k».proof.Proof.Gen.BackMulIdeal.Frame
public import proofs.«01_k».proof.Proof.Gen.BackPlainIdeal
public import proofs.«01_k».proof.Proof.Gen.BackMulIdeal.Value
public import proofs.«01_k».proof.Proof.Gen.BackPlainIdeal.Run
public import proofs.«01_k».proof.Proof.Gen.BackPlainIdeal.Read
public import proofs.«01_k».proof.Proof.Gen.ColumnsMul
public import proofs.«01_k».proof.Proof.Gen.ColumnsMul.Skeleton
public import proofs.«01_k».proof.Proof.Gen.ColumnsMul.Launch
public import proofs.«01_k».proof.Proof.Gen.ColumnsMul.Points
public import proofs.«01_k».proof.Proof.Gen.ColumnsMul.Frame
public import proofs.«01_k».proof.Proof.Gen.ColumnsMulIdeal
public import proofs.«01_k».proof.Proof.Gen.ColumnsMulIdeal.Skeleton
public import proofs.«01_k».proof.Proof.Gen.ColumnsMulIdeal.Launch
public import proofs.«01_k».proof.Proof.Gen.ColumnsMulIdeal.Points
public import proofs.«01_k».proof.Proof.Gen.ColumnsMulIdeal.Frame
public import proofs.«01_k».proof.Proof.Gen.ColumnsPlainIdeal
public import proofs.«01_k».proof.Proof.Gen.ColumnsPlainIdeal.Run
public import proofs.«01_k».proof.Proof.Gen.ColumnsPlainIdeal.Read
public import proofs.«01_k».proof.Proof.Gen.WeightMul
public import proofs.«01_k».proof.Proof.Gen.WeightMul.Skeleton
public import proofs.«01_k».proof.Proof.Gen.WeightMul.Launch
public import proofs.«01_k».proof.Proof.Gen.WeightMul.Points
public import proofs.«01_k».proof.Proof.Gen.WeightMul.Frame
public import proofs.«01_k».proof.Proof.Gen.WeightMulIdeal
public import proofs.«01_k».proof.Proof.Gen.WeightMulIdeal.Skeleton
public import proofs.«01_k».proof.Proof.Gen.WeightMulIdeal.Launch
public import proofs.«01_k».proof.Proof.Gen.WeightMulIdeal.Points
public import proofs.«01_k».proof.Proof.Gen.WeightMulIdeal.Frame
public import proofs.«01_k».proof.Proof.Gen.WeightPlainIdeal
public import proofs.«01_k».proof.Proof.Gen.WeightPlainIdeal.Run
public import proofs.«01_k».proof.Proof.Gen.WeightPlainIdeal.Read
public import proofs.«01_k».proof.Proof.Gen.DownMul
public import proofs.«01_k».proof.Proof.Gen.DownMul.Skeleton
public import proofs.«01_k».proof.Proof.Gen.DownMul.Launch
public import proofs.«01_k».proof.Proof.Gen.DownMul.Points
public import proofs.«01_k».proof.Proof.Gen.DownMul.Frame
public import proofs.«01_k».proof.Proof.Gen.DownMulIdeal
public import proofs.«01_k».proof.Proof.Gen.DownMulIdeal.Skeleton
public import proofs.«01_k».proof.Proof.Gen.DownMulIdeal.Launch
public import proofs.«01_k».proof.Proof.Gen.DownMulIdeal.Points
public import proofs.«01_k».proof.Proof.Gen.DownMulIdeal.Frame
public import proofs.«01_k».proof.Proof.Gen.DownPlainIdeal
public import proofs.«01_k».proof.Proof.Gen.DownMulIdeal.Value
public import proofs.«01_k».proof.Proof.Gen.DownPlainIdeal.Run
public import proofs.«01_k».proof.Proof.Gen.DownPlainIdeal.Read
public import proofs.«01_k».proof.Proof.Gen.HiddenMul
public import proofs.«01_k».proof.Proof.Gen.HiddenMul.Skeleton
public import proofs.«01_k».proof.Proof.Gen.HiddenMul.Launch
public import proofs.«01_k».proof.Proof.Gen.HiddenMul.Points
public import proofs.«01_k».proof.Proof.Gen.HiddenMul.Frame
public import proofs.«01_k».proof.Proof.Gen.HiddenMulIdeal
public import proofs.«01_k».proof.Proof.Gen.HiddenMulIdeal.Skeleton
public import proofs.«01_k».proof.Proof.Gen.HiddenMulIdeal.Launch
public import proofs.«01_k».proof.Proof.Gen.HiddenMulIdeal.Points
public import proofs.«01_k».proof.Proof.Gen.HiddenMulIdeal.Frame
public import proofs.«01_k».proof.Proof.Gen.HiddenPlainIdeal
public import proofs.«01_k».proof.Proof.Gen.HiddenMulIdeal.Value
public import proofs.«01_k».proof.Proof.Gen.HiddenPlainIdeal.Run
public import proofs.«01_k».proof.Proof.Gen.HiddenPlainIdeal.Read
public import proofs.«01_k».proof.Proof.Gen.IntoMul
public import proofs.«01_k».proof.Proof.Gen.IntoMul.Skeleton
public import proofs.«01_k».proof.Proof.Gen.IntoMul.Launch
public import proofs.«01_k».proof.Proof.Gen.IntoMul.Points
public import proofs.«01_k».proof.Proof.Gen.IntoMul.Frame
public import proofs.«01_k».proof.Proof.Gen.IntoMulIdeal
public import proofs.«01_k».proof.Proof.Gen.IntoMulIdeal.Skeleton
public import proofs.«01_k».proof.Proof.Gen.IntoMulIdeal.Launch
public import proofs.«01_k».proof.Proof.Gen.IntoMulIdeal.Points
public import proofs.«01_k».proof.Proof.Gen.IntoMulIdeal.Frame
public import proofs.«01_k».proof.Proof.Gen.IntoPlainIdeal
public import proofs.«01_k».proof.Proof.Gen.IntoPlainIdeal.Run
public import proofs.«01_k».proof.Proof.Gen.IntoPlainIdeal.Read
public import proofs.«01_k».proof.Proof.Gen.AdamStep
public import proofs.«01_k».proof.Proof.Gen.AdamStep.Skeleton
public import proofs.«01_k».proof.Proof.Gen.AdamStep.Launch
public import proofs.«01_k».proof.Proof.Gen.AdamStep.Points
public import proofs.«01_k».proof.Proof.Gen.AdamStep.Frame
public import proofs.«01_k».proof.Proof.Gen.AdamStepIdeal
public import proofs.«01_k».proof.Proof.Gen.AdamStepIdeal.Skeleton
public import proofs.«01_k».proof.Proof.Gen.AdamStepIdeal.Launch
public import proofs.«01_k».proof.Proof.Gen.AdamStepIdeal.Points
public import proofs.«01_k».proof.Proof.Gen.AdamStepIdeal.Frame
public import proofs.«01_k».proof.Proof.Gen.AdamPlainIdeal
public import proofs.«01_k».proof.Proof.Gen.AdamStepIdeal.Value
public import proofs.«01_k».proof.Proof.Gen.AdamPlainIdeal.Run
public import proofs.«01_k».proof.Proof.Gen.AdamPlainIdeal.Read
public import proofs.«01_k».proof.Proof.Gen.UpFwd
public import proofs.«01_k».proof.Proof.Gen.UpFwd.Skeleton
public import proofs.«01_k».proof.Proof.Gen.UpFwd.Launch
public import proofs.«01_k».proof.Proof.Gen.UpFwd.Points
public import proofs.«01_k».proof.Proof.Gen.UpFwd.Frame
public import proofs.«01_k».proof.Proof.Gen.UpFwdIdeal
public import proofs.«01_k».proof.Proof.Gen.UpFwdIdeal.Skeleton
public import proofs.«01_k».proof.Proof.Gen.UpFwdIdeal.Launch
public import proofs.«01_k».proof.Proof.Gen.UpFwdIdeal.Points
public import proofs.«01_k».proof.Proof.Gen.UpFwdIdeal.Frame
public import proofs.«01_k».proof.Proof.Gen.UpPlainIdeal
public import proofs.«01_k».proof.Proof.Gen.UpPlainIdeal.Run
public import proofs.«01_k».proof.Proof.Gen.UpPlainIdeal.Read
public import proofs.«01_k».proof.Proof.Gen.PackAll
public import proofs.«01_k».proof.Proof.Gen.PackAll.Run
public import proofs.«01_k».proof.Proof.Gen.PackAll.Read
public import proofs.«01_k».proof.Proof.Gen.PackAllIdeal
public import proofs.«01_k».proof.Proof.Gen.PackAllIdeal.Run
public import proofs.«01_k».proof.Proof.Gen.PackAllIdeal.Read
public import proofs.«01_k».proof.Proof.Gen.PackPlainIdeal
public import proofs.«01_k».proof.Proof.Gen.PackPlainIdeal.Run
public import proofs.«01_k».proof.Proof.Gen.PackPlainIdeal.Read
public import proofs.«01_k».proof.Proof.GatePair
public import proofs.«01_k».proof.Proof.AttnPair
public import proofs.«01_k».proof.Proof.PoolPair
public import proofs.«01_k».proof.Proof.CrossPair
public import proofs.«01_k».proof.Proof.NormPair
public import proofs.«01_k».proof.Proof.FirstPair
public import proofs.«01_k».proof.Proof.MemoryPair
public import proofs.«01_k».proof.Proof.LossPair
public import proofs.«01_k».proof.Proof.BiasPair
public import proofs.«01_k».proof.Proof.CrossFwdPair
public import proofs.«01_k».proof.Proof.AttnFwdPair
public import proofs.«01_k».proof.Proof.PoolFwdPair
public import proofs.«01_k».proof.Proof.NormFwdPair
public import proofs.«01_k».proof.Proof.GateFwdPair
public import proofs.«01_k».proof.Proof.QueryFwdPair
public import proofs.«01_k».proof.Proof.TileFwdPair
public import proofs.«01_k».proof.Proof.OutMulPair
public import proofs.«01_k».proof.Proof.InMulPair
public import proofs.«01_k».proof.Proof.BackMulPair
public import proofs.«01_k».proof.Proof.ColumnsMulPair
public import proofs.«01_k».proof.Proof.WeightMulPair
public import proofs.«01_k».proof.Proof.DownMulPair
public import proofs.«01_k».proof.Proof.HiddenMulPair
public import proofs.«01_k».proof.Proof.IntoMulPair
public import proofs.«01_k».proof.Proof.AdamStepPair
public import proofs.«01_k».proof.Proof.UpFwdFrame
public import proofs.«01_k».proof.Proof.UpFwdIdealFrame
public import proofs.«01_k».proof.Proof.UpFwdPair
public import proofs.«01_k».proof.Proof.PackAllPair
public import Idealize.ShloMosaic.Adequacy
public import Idealize.ShloMosaic.Init

@[expose] public section

noncomputable section

namespace Cert.Proof

open Idealize.ShloMosaic Idealize.SL.Sem Cert.GateBwd

/-- The plain gate derivative runs to its end, leaves its arguments alone, and declares no semaphore. -/
theorem gate_grad_frame : quiescent_GateGradIdeal := fun m ρ _ =>
  (θ_run Cert.GateGradIdeal.defs _ _).mono
    (fun r h => ⟨fun c => (h c).2.2, Idealize.ShloMosaic.sem_eq_zero_of_no_sems (by decide) r.2⟩)
    (Cert.GateGradIdeal.Value.run m ρ)

/-- So does the plain attention derivative. -/
theorem attn_grad_frame : quiescent_AttnGradIdeal := fun m ρ _ =>
  (θ_run Cert.AttnGradIdeal.defs _ _).mono
    (fun r h => ⟨fun c => (h c).2.2.2.2, Idealize.ShloMosaic.sem_eq_zero_of_no_sems (by decide) r.2⟩)
    (Cert.AttnGradIdeal.Value.run m ρ)

/-- So does the plain pool derivative. -/
theorem pool_grad_frame : quiescent_PoolGradIdeal := fun m ρ _ =>
  (θ_run Cert.PoolGradIdeal.defs _ _).mono
    (fun r h => ⟨fun c => (h c).2.2.2, Idealize.ShloMosaic.sem_eq_zero_of_no_sems (by decide) r.2⟩)
    (Cert.PoolGradIdeal.Value.run m ρ)

/-- So does the plain cross-attention derivative. -/
theorem cross_grad_frame : quiescent_CrossGradIdeal := fun m ρ _ =>
  (θ_run Cert.CrossGradIdeal.defs _ _).mono
    (fun r h => ⟨fun c => (h c).2.2.2, Idealize.ShloMosaic.sem_eq_zero_of_no_sems (by decide) r.2⟩)
    (Cert.CrossGradIdeal.Value.run m ρ)

/-- So does the plain normalisation derivative. -/
theorem norm_grad_frame : quiescent_NormGradIdeal := fun m ρ _ =>
  (θ_run Cert.NormGradIdeal.defs _ _).mono
    (fun r h => ⟨fun c => (h c).2.2, Idealize.ShloMosaic.sem_eq_zero_of_no_sems (by decide) r.2⟩)
    (Cert.NormGradIdeal.Value.run m ρ)

/-- So does the plain first normalisation derivative. -/
theorem first_grad_frame : quiescent_FirstGradIdeal := fun m ρ _ =>
  (θ_run Cert.FirstGradIdeal.defs _ _).mono
    (fun r h => ⟨fun c => (h c).2.2, Idealize.ShloMosaic.sem_eq_zero_of_no_sems (by decide) r.2⟩)
    (Cert.FirstGradIdeal.Value.run m ρ)

/-- So does the plain memory normalisation derivative. -/
theorem memory_grad_frame : quiescent_MemoryGradIdeal := fun m ρ _ =>
  (θ_run Cert.MemoryGradIdeal.defs _ _).mono
    (fun r h => ⟨fun c => (h c).2.2, Idealize.ShloMosaic.sem_eq_zero_of_no_sems (by decide) r.2⟩)
    (Cert.MemoryGradIdeal.Value.run m ρ)

/-- So does the plain loss derivative. -/
theorem loss_grad_frame : quiescent_LossGradIdeal := fun m ρ _ =>
  (θ_run Cert.LossGradIdeal.defs _ _).mono
    (fun r h => ⟨fun c => (h c).2.2.2, Idealize.ShloMosaic.sem_eq_zero_of_no_sems (by decide) r.2⟩)
    (Cert.LossGradIdeal.Value.run m ρ)

/-- So does the plain bias-table derivative. -/
theorem bias_grad_frame : quiescent_BiasGradIdeal := fun m ρ _ =>
  (θ_run Cert.BiasGradIdeal.defs _ _).mono
    (fun r h => ⟨fun c => (h c).2, Idealize.ShloMosaic.sem_eq_zero_of_no_sems (by decide) r.2⟩)
    (Cert.BiasGradIdeal.Value.run m ρ)

/-- So does the plain cross-attention. -/
theorem cross_plain_frame : quiescent_CrossPlainIdeal := fun m ρ _ =>
  (θ_run Cert.CrossPlainIdeal.defs _ _).mono
    (fun r h => ⟨fun c => (h c).2, Idealize.ShloMosaic.sem_eq_zero_of_no_sems (by decide) r.2⟩)
    (Cert.CrossPlainIdeal.Value.run m ρ)

/-- So does the plain attention. -/
theorem attn_plain_frame : quiescent_AttnPlainIdeal := fun m ρ _ =>
  (θ_run Cert.AttnPlainIdeal.defs _ _).mono
    (fun r h => ⟨fun c => (h c).2, Idealize.ShloMosaic.sem_eq_zero_of_no_sems (by decide) r.2⟩)
    (Cert.AttnPlainIdeal.Value.run m ρ)

/-- So does the plain pool. -/
theorem pool_plain_frame : quiescent_PoolPlainIdeal := fun m ρ _ =>
  (θ_run Cert.PoolPlainIdeal.defs _ _).mono
    (fun r h => ⟨fun c => (h c).2.2, Idealize.ShloMosaic.sem_eq_zero_of_no_sems (by decide) r.2⟩)
    (Cert.PoolPlainIdeal.Value.run m ρ)

/-- So does the plain normalisation. -/
theorem norm_plain_frame : quiescent_NormPlainIdeal := fun m ρ _ =>
  (θ_run Cert.NormPlainIdeal.defs _ _).mono
    (fun r h => ⟨fun c => (h c).2, Idealize.ShloMosaic.sem_eq_zero_of_no_sems (by decide) r.2⟩)
    (Cert.NormPlainIdeal.Value.run m ρ)

/-- So does the plain gate. -/
theorem gate_plain_frame : quiescent_GatePlainIdeal := fun m ρ _ =>
  (θ_run Cert.GatePlainIdeal.defs _ _).mono
    (fun r h => ⟨fun c => (h c).2.2, Idealize.ShloMosaic.sem_eq_zero_of_no_sems (by decide) r.2⟩)
    (Cert.GatePlainIdeal.Value.run m ρ)

/-- So does the plain query projection with its normalisation. -/
theorem query_plain_frame : quiescent_QueryPlainIdeal := fun m ρ _ =>
  (θ_run Cert.QueryPlainIdeal.defs _ _).mono
    (fun r h => ⟨fun c => (h c).2.2, Idealize.ShloMosaic.sem_eq_zero_of_no_sems (by decide) r.2⟩)
    (Cert.QueryPlainIdeal.Value.run m ρ)

/-- So does the plain bias tile. -/
theorem tile_plain_frame : quiescent_TilePlainIdeal := fun m ρ _ =>
  (θ_run Cert.TilePlainIdeal.defs _ _).mono
    (fun r h => ⟨fun c => (h c).2, Idealize.ShloMosaic.sem_eq_zero_of_no_sems (by decide) r.2⟩)
    (Cert.TilePlainIdeal.Value.run m ρ)

/-- So does the plain product with a residual. -/
theorem out_plain_frame : quiescent_OutPlainIdeal := fun m ρ _ =>
  (θ_run Cert.OutPlainIdeal.defs _ _).mono
    (fun r h => ⟨fun c => (h c).2, Idealize.ShloMosaic.sem_eq_zero_of_no_sems (by decide) r.2⟩)
    (Cert.OutPlainIdeal.Value.run m ρ)

/-- So does the plain product by blocks of columns. -/
theorem in_plain_frame : quiescent_InPlainIdeal := fun m ρ _ =>
  (θ_run Cert.InPlainIdeal.defs _ _).mono
    (fun r h => ⟨fun c => (h c).2, Idealize.ShloMosaic.sem_eq_zero_of_no_sems (by decide) r.2⟩)
    (Cert.InPlainIdeal.Value.run m ρ)

/-- So does the plain product's derivative in its rows. -/
theorem back_plain_frame : quiescent_BackPlainIdeal := fun m ρ _ =>
  (θ_run Cert.BackPlainIdeal.defs _ _).mono
    (fun r h => ⟨fun c => (h c).2, Idealize.ShloMosaic.sem_eq_zero_of_no_sems (by decide) r.2⟩)
    (Cert.BackPlainIdeal.Value.run m ρ)

/-- So does the plain derivative in the rows by blocks of columns. -/
theorem columns_plain_frame : quiescent_ColumnsPlainIdeal := fun m ρ _ =>
  (θ_run Cert.ColumnsPlainIdeal.defs _ _).mono
    (fun r h => ⟨fun c => (h c).2, Idealize.ShloMosaic.sem_eq_zero_of_no_sems (by decide) r.2⟩)
    (Cert.ColumnsPlainIdeal.Value.run m ρ)

/-- So does the plain product's derivative in its weight. -/
theorem weight_plain_frame : quiescent_WeightPlainIdeal := fun m ρ _ =>
  (θ_run Cert.WeightPlainIdeal.defs _ _).mono
    (fun r h => ⟨fun c => (h c).2, Idealize.ShloMosaic.sem_eq_zero_of_no_sems (by decide) r.2⟩)
    (Cert.WeightPlainIdeal.Value.run m ρ)

/-- So does the plain down projection. -/
theorem down_plain_frame : quiescent_DownPlainIdeal := fun m ρ _ =>
  (θ_run Cert.DownPlainIdeal.defs _ _).mono
    (fun r h => ⟨fun c => (h c).2, Idealize.ShloMosaic.sem_eq_zero_of_no_sems (by decide) r.2⟩)
    (Cert.DownPlainIdeal.Value.run m ρ)

/-- So does the plain down projection's derivative in its weight. -/
theorem hidden_plain_frame : quiescent_HiddenPlainIdeal := fun m ρ _ =>
  (θ_run Cert.HiddenPlainIdeal.defs _ _).mono
    (fun r h => ⟨fun c => (h c).2, Idealize.ShloMosaic.sem_eq_zero_of_no_sems (by decide) r.2⟩)
    (Cert.HiddenPlainIdeal.Value.run m ρ)

/-- So does the plain gate projection. -/
theorem into_plain_frame : quiescent_IntoPlainIdeal := fun m ρ _ =>
  (θ_run Cert.IntoPlainIdeal.defs _ _).mono
    (fun r h => ⟨fun c => (h c).2, Idealize.ShloMosaic.sem_eq_zero_of_no_sems (by decide) r.2⟩)
    (Cert.IntoPlainIdeal.Value.run m ρ)

/-- So does the plain optimiser step. -/
theorem adam_plain_frame : quiescent_AdamPlainIdeal := fun m ρ _ =>
  (θ_run Cert.AdamPlainIdeal.defs _ _).mono
    (fun r h => ⟨fun c => (h c).2.2.2.2, Idealize.ShloMosaic.sem_eq_zero_of_no_sems (by decide) r.2⟩)
    (Cert.AdamPlainIdeal.Value.run m ρ)

/-- So does the plain second gate with its normalisation. -/
theorem up_plain_frame : quiescent_UpPlainIdeal := fun m ρ _ =>
  (θ_run Cert.UpPlainIdeal.defs _ _).mono
    (fun r h => ⟨fun c => (h c).2.2.2.2, Idealize.ShloMosaic.sem_eq_zero_of_no_sems (by decide) r.2⟩)
    (Cert.UpPlainIdeal.Value.run m ρ)

/-- So does the plain packing of the small arrays. -/
theorem pack_plain_frame : quiescent_PackPlainIdeal := fun m ρ _ =>
  (θ_run Cert.PackPlainIdeal.defs _ _).mono
    (fun r h => ⟨fun c => (h c).2.2.2.2.2.2.2.2.2, Idealize.ShloMosaic.sem_eq_zero_of_no_sems (by decide) r.2⟩)
    (Cert.PackPlainIdeal.Value.run m ρ)

/-- So does the packing of the small arrays, on the host alone. -/
theorem pack_all_frame : quiescent_PackAll := fun m ρ _ =>
  (θ_run Cert.PackAll.defs _ _).mono
    (fun r h => ⟨fun c => (h c).2.2.2.2.2.2.2.2.2, Idealize.ShloMosaic.sem_eq_zero_of_no_sems (by decide) r.2⟩)
    (Cert.PackAll.Value.run m ρ)

/-- So does its idealization. -/
theorem pack_all_ideal_frame : quiescent_PackAllIdeal := fun m ρ _ =>
  (θ_run Cert.PackAllIdeal.defs _ _).mono
    (fun r h => ⟨fun c => (h c).2.2.2.2.2.2.2.2.2, Idealize.ShloMosaic.sem_eq_zero_of_no_sems (by decide) r.2⟩)
    (Cert.PackAllIdeal.Value.run m ρ)

theorem claim : Cert.Claim := ⟨Cert.GateBwd.Gen.facts,
  Cert.GateBwdIdeal.Gen.facts, Cert.GateGradIdeal.Gen.facts, Cert.AttnBwd.Gen.facts,
  Cert.AttnBwdIdeal.Gen.facts, Cert.AttnGradIdeal.Gen.facts, Cert.PoolBwd.Gen.facts,
  Cert.PoolBwdIdeal.Gen.facts, Cert.PoolGradIdeal.Gen.facts, Cert.CrossBwd.Gen.facts,
  Cert.CrossBwdIdeal.Gen.facts, Cert.CrossGradIdeal.Gen.facts, Cert.NormBwd.Gen.facts,
  Cert.NormBwdIdeal.Gen.facts, Cert.NormGradIdeal.Gen.facts, Cert.FirstBwd.Gen.facts,
  Cert.FirstBwdIdeal.Gen.facts, Cert.FirstGradIdeal.Gen.facts, Cert.MemoryBwd.Gen.facts,
  Cert.MemoryBwdIdeal.Gen.facts, Cert.MemoryGradIdeal.Gen.facts, Cert.LossBwd.Gen.facts,
  Cert.LossBwdIdeal.Gen.facts, Cert.LossGradIdeal.Gen.facts, Cert.BiasBwd.Gen.facts,
  Cert.BiasBwdIdeal.Gen.facts, Cert.BiasGradIdeal.Gen.facts, Cert.CrossFwd.Gen.facts,
  Cert.CrossFwdIdeal.Gen.facts, Cert.CrossPlainIdeal.Gen.facts, Cert.AttnFwd.Gen.facts,
  Cert.AttnFwdIdeal.Gen.facts, Cert.AttnPlainIdeal.Gen.facts, Cert.PoolFwd.Gen.facts,
  Cert.PoolFwdIdeal.Gen.facts, Cert.PoolPlainIdeal.Gen.facts, Cert.NormFwd.Gen.facts,
  Cert.NormFwdIdeal.Gen.facts, Cert.NormPlainIdeal.Gen.facts, Cert.GateFwd.Gen.facts,
  Cert.GateFwdIdeal.Gen.facts, Cert.GatePlainIdeal.Gen.facts, Cert.QueryFwd.Gen.facts,
  Cert.QueryFwdIdeal.Gen.facts, Cert.QueryPlainIdeal.Gen.facts, Cert.TileFwd.Gen.facts,
  Cert.TileFwdIdeal.Gen.facts, Cert.TilePlainIdeal.Gen.facts, Cert.OutMul.Gen.facts,
  Cert.OutMulIdeal.Gen.facts, Cert.OutPlainIdeal.Gen.facts, Cert.InMul.Gen.facts,
  Cert.InMulIdeal.Gen.facts, Cert.InPlainIdeal.Gen.facts, Cert.BackMul.Gen.facts,
  Cert.BackMulIdeal.Gen.facts, Cert.BackPlainIdeal.Gen.facts, Cert.ColumnsMul.Gen.facts,
  Cert.ColumnsMulIdeal.Gen.facts, Cert.ColumnsPlainIdeal.Gen.facts, Cert.WeightMul.Gen.facts,
  Cert.WeightMulIdeal.Gen.facts, Cert.WeightPlainIdeal.Gen.facts, Cert.DownMul.Gen.facts,
  Cert.DownMulIdeal.Gen.facts, Cert.DownPlainIdeal.Gen.facts, Cert.HiddenMul.Gen.facts,
  Cert.HiddenMulIdeal.Gen.facts, Cert.HiddenPlainIdeal.Gen.facts, Cert.IntoMul.Gen.facts,
  Cert.IntoMulIdeal.Gen.facts, Cert.IntoPlainIdeal.Gen.facts, Cert.AdamStep.Gen.facts,
  Cert.AdamStepIdeal.Gen.facts, Cert.AdamPlainIdeal.Gen.facts, Cert.UpFwd.Gen.facts,
  Cert.UpFwdIdeal.Gen.facts, Cert.UpPlainIdeal.Gen.facts, Cert.PackAll.Gen.facts,
  Cert.PackAllIdeal.Gen.facts, Cert.PackPlainIdeal.Gen.facts, Cert.Pre_gate_finite.Gen.facts,
  Cert.Pre_attn_finite.Gen.facts, Cert.Pre_cross_finite.Gen.facts, Cert.Pre_norm_finite.Gen.facts,
  Cert.Pre_memory_finite.Gen.facts, Cert.Pre_loss_finite.Gen.facts, Cert.Pre_cross_forward_finite.Gen.facts,
  Cert.Pre_attn_forward_finite.Gen.facts,
  fun m ρ _ => Cert.GateBwd.Gen.frame m ρ,
  fun m ρ _ => Cert.GateBwdIdeal.Gen.frame m ρ,
  fun m ρ _ => Cert.GateBwdIdeal.Gen.frame m ρ,
  gate_grad_frame,
  fun m ρ _ => gate_grad_frame m ρ trivial,
  fun m ρ _ => Cert.AttnBwd.Gen.frame m ρ,
  fun m ρ _ => Cert.AttnBwdIdeal.Gen.frame m ρ,
  fun m ρ _ => Cert.AttnBwdIdeal.Gen.frame m ρ,
  attn_grad_frame,
  fun m ρ _ => attn_grad_frame m ρ trivial,
  fun m ρ _ => Cert.PoolBwd.Gen.frame m ρ,
  fun m ρ _ => Cert.PoolBwdIdeal.Gen.frame m ρ,
  pool_grad_frame,
  fun m ρ _ => Cert.CrossBwd.Gen.frame m ρ,
  fun m ρ _ => Cert.CrossBwdIdeal.Gen.frame m ρ,
  fun m ρ _ => Cert.CrossBwdIdeal.Gen.frame m ρ,
  cross_grad_frame,
  fun m ρ _ => cross_grad_frame m ρ trivial,
  fun m ρ _ => Cert.NormBwd.Gen.frame m ρ,
  fun m ρ _ => Cert.NormBwdIdeal.Gen.frame m ρ,
  fun m ρ _ => Cert.NormBwdIdeal.Gen.frame m ρ,
  norm_grad_frame,
  fun m ρ _ => norm_grad_frame m ρ trivial,
  fun m ρ _ => Cert.FirstBwd.Gen.frame m ρ,
  fun m ρ _ => Cert.FirstBwdIdeal.Gen.frame m ρ,
  fun m ρ _ => Cert.FirstBwdIdeal.Gen.frame m ρ,
  first_grad_frame,
  fun m ρ _ => first_grad_frame m ρ trivial,
  fun m ρ _ => Cert.MemoryBwd.Gen.frame m ρ,
  fun m ρ _ => Cert.MemoryBwdIdeal.Gen.frame m ρ,
  fun m ρ _ => Cert.MemoryBwdIdeal.Gen.frame m ρ,
  memory_grad_frame,
  fun m ρ _ => memory_grad_frame m ρ trivial,
  fun m ρ _ => Cert.LossBwd.Gen.frame m ρ,
  fun m ρ _ => Cert.LossBwdIdeal.Gen.frame m ρ,
  fun m ρ _ => Cert.LossBwdIdeal.Gen.frame m ρ,
  loss_grad_frame,
  fun m ρ _ => loss_grad_frame m ρ trivial,
  fun m ρ _ => Cert.BiasBwd.Gen.frame m ρ,
  fun m ρ _ => Cert.BiasBwdIdeal.Gen.frame m ρ,
  bias_grad_frame,
  fun m ρ _ => Cert.CrossFwd.Gen.frame m ρ,
  fun m ρ _ => Cert.CrossFwdIdeal.Gen.frame m ρ,
  fun m ρ _ => Cert.CrossFwdIdeal.Gen.frame m ρ,
  cross_plain_frame,
  fun m ρ _ => cross_plain_frame m ρ trivial,
  fun m ρ _ => Cert.AttnFwd.Gen.frame m ρ,
  fun m ρ _ => Cert.AttnFwdIdeal.Gen.frame m ρ,
  fun m ρ _ => Cert.AttnFwdIdeal.Gen.frame m ρ,
  attn_plain_frame,
  fun m ρ _ => attn_plain_frame m ρ trivial,
  fun m ρ _ => Cert.PoolFwd.Gen.frame m ρ,
  fun m ρ _ => Cert.PoolFwdIdeal.Gen.frame m ρ,
  pool_plain_frame,
  fun m ρ _ => Cert.NormFwd.Gen.frame m ρ,
  fun m ρ _ => Cert.NormFwdIdeal.Gen.frame m ρ,
  norm_plain_frame,
  fun m ρ _ => Cert.GateFwd.Gen.frame m ρ,
  fun m ρ _ => Cert.GateFwdIdeal.Gen.frame m ρ,
  gate_plain_frame,
  fun m ρ _ => Cert.QueryFwd.Gen.frame m ρ,
  fun m ρ _ => Cert.QueryFwdIdeal.Gen.frame m ρ,
  query_plain_frame,
  fun m ρ _ => Cert.TileFwd.Gen.frame m ρ,
  fun m ρ _ => Cert.TileFwdIdeal.Gen.frame m ρ,
  tile_plain_frame,
  fun m ρ _ => Cert.OutMul.Gen.frame m ρ,
  fun m ρ _ => Cert.OutMulIdeal.Gen.frame m ρ,
  out_plain_frame,
  fun m ρ _ => Cert.InMul.Gen.frame m ρ,
  fun m ρ _ => Cert.InMulIdeal.Gen.frame m ρ,
  in_plain_frame,
  fun m ρ _ => Cert.BackMul.Gen.frame m ρ,
  fun m ρ _ => Cert.BackMulIdeal.Gen.frame m ρ,
  back_plain_frame,
  fun m ρ _ => Cert.ColumnsMul.Gen.frame m ρ,
  fun m ρ _ => Cert.ColumnsMulIdeal.Gen.frame m ρ,
  columns_plain_frame,
  fun m ρ _ => Cert.WeightMul.Gen.frame m ρ,
  fun m ρ _ => Cert.WeightMulIdeal.Gen.frame m ρ,
  weight_plain_frame,
  fun m ρ _ => Cert.DownMul.Gen.frame m ρ,
  fun m ρ _ => Cert.DownMulIdeal.Gen.frame m ρ,
  down_plain_frame,
  fun m ρ _ => Cert.HiddenMul.Gen.frame m ρ,
  fun m ρ _ => Cert.HiddenMulIdeal.Gen.frame m ρ,
  hidden_plain_frame,
  fun m ρ _ => Cert.IntoMul.Gen.frame m ρ,
  fun m ρ _ => Cert.IntoMulIdeal.Gen.frame m ρ,
  into_plain_frame,
  fun m ρ _ => Cert.AdamStep.Gen.frame m ρ,
  fun m ρ _ => Cert.AdamStepIdeal.Gen.frame m ρ,
  adam_plain_frame,
  fun m ρ _ => Cert.UpFwd.Hand.framed m ρ,
  fun m ρ _ => Cert.UpFwdIdeal.Hand.framed m ρ,
  up_plain_frame,
  pack_all_frame,
  pack_all_ideal_frame,
  pack_plain_frame,
  trivial,
  Cert.GateBwdIdeal.Hand.algebraic,
  IdealRules.named_const.statement _ _ _ _ _ rfl,
  Cert.AttnBwdIdeal.Hand.algebraic,
  trivial,
  Cert.PoolBwdIdeal.Hand.algebraic,
  trivial,
  Cert.CrossBwdIdeal.Hand.algebraic,
  trivial,
  Cert.NormBwdIdeal.Hand.algebraic,
  trivial,
  Cert.FirstBwdIdeal.Hand.algebraic,
  trivial,
  Cert.MemoryBwdIdeal.Hand.algebraic,
  trivial,
  Cert.LossBwdIdeal.Hand.algebraic,
  trivial,
  Cert.BiasBwdIdeal.Hand.algebraic,
  trivial,
  Cert.CrossFwdIdeal.Hand.algebraic,
  IdealRules.named_const.statement _ _ _ _ _ rfl,
  Cert.AttnFwdIdeal.Hand.algebraic,
  trivial,
  Cert.PoolFwdIdeal.Hand.algebraic,
  trivial,
  Cert.NormFwdIdeal.Hand.algebraic,
  trivial,
  Cert.GateFwdIdeal.Hand.algebraic,
  trivial,
  Cert.QueryFwdIdeal.Hand.algebraic,
  IdealRules.named_const.statement _ _ _ _ _ rfl,
  Cert.TileFwdIdeal.Hand.algebraic,
  trivial,
  Cert.OutMulIdeal.Hand.algebraic,
  trivial,
  Cert.InMulIdeal.Hand.algebraic,
  trivial,
  Cert.BackMulIdeal.Hand.algebraic,
  trivial,
  Cert.ColumnsMulIdeal.Hand.algebraic,
  trivial,
  Cert.WeightMulIdeal.Hand.algebraic,
  trivial,
  Cert.DownMulIdeal.Hand.algebraic,
  trivial,
  Cert.HiddenMulIdeal.Hand.algebraic,
  trivial,
  Cert.IntoMulIdeal.Hand.algebraic,
  trivial,
  Cert.AdamStepIdeal.Hand.algebraic,
  trivial,
  Cert.UpFwdIdeal.Hand.algebraic,
  trivial,
  Cert.PackAllIdeal.Hand.algebraic⟩

end Cert.Proof

end
